-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v52) = v1 c
          ∧ r.2.mem ((c.tc : Thread Cert.Reference13Ideal.nD Cert.Reference13Ideal.τ).loc Cert.Reference13Ideal.main_v54) = v2 c
          ∧ r.2.mem ((c.tc : Thread Cert.Reference13Ideal.nD Cert.Reference13Ideal.τ).loc Cert.Reference13Ideal.main_v55) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)) (v3 : (c : Dev Cert.Kernel14Ideal.nD) → Buf (Elt Ideal) ((c.tc : Thread Cert.Kernel14Ideal.nD Cert.Kernel14Ideal.τ).loc Cert.Kernel14Ideal.main_v2_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_v2_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)) (v3 : (c : Dev Cert.Kernel17Ideal.nD) → Buf (Elt Ideal) ((c.tc : Thread Cert.Kernel17Ideal.nD Cert.Kernel17Ideal.τ).loc Cert.Kernel17Ideal.main_v5_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_v5_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v30) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v32) = v2 c
          ∧ r.2.mem ((c.tc : Thread Cert.Reference17Ideal.nD Cert.Reference17Ideal.τ).loc Cert.Reference17Ideal.main_v33) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v55) = v1 c
          ∧ r.2.mem ((c.tc : Thread Cert.Reference18Ideal.nD Cert.Reference18Ideal.τ).loc Cert.Reference18Ideal.main_v56) = v2 c
          ∧ r.2.mem ((c.tc : Thread Cert.Reference18Ideal.nD Cert.Reference18Ideal.τ).loc Cert.Reference18Ideal.main_v57) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)) →
    ∃ (v0 : (c : Dev Cert.Kernel19Ideal.nD) → Buf (Elt Ideal) ((c.tc : Thread Cert.Kernel19Ideal.nD Cert.Kernel19Ideal.τ).loc Cert.Kernel19Ideal.main_v15_0)) (v1 : (c : Dev Cert.Kernel19Ideal.nD) → Buf (Elt Ideal) ((c.tc : Thread Cert.Kernel19Ideal.nD Cert.Kernel19Ideal.τ).loc Cert.Kernel19Ideal.main_v15_1)) (v2 : (c : Dev Cert.Kernel19Ideal.nD) → Buf (Elt Ideal) ((c.tc : Thread Cert.Kernel19Ideal.nD Cert.Kernel19Ideal.τ).loc Cert.Kernel19Ideal.main_v15_2)) (v3 : (c : Dev Cert.Kernel19Ideal.nD) → Buf (Elt Ideal) ((c.tc : Thread Cert.Kernel19Ideal.nD Cert.Kernel19Ideal.τ).loc Cert.Kernel19Ideal.main_v15_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v15_0) = v0 c
          ∧ r.2.mem ((c.tc : Thread Cert.Kernel19Ideal.nD Cert.Kernel19Ideal.τ).loc Cert.Kernel19Ideal.main_v15_1) = v1 c
          ∧ r.2.mem ((c.tc : Thread Cert.Kernel19Ideal.nD Cert.Kernel19Ideal.τ).loc Cert.Kernel19Ideal.main_v15_2) = v2 c
          ∧ r.2.mem ((c.tc : Thread Cert.Kernel19Ideal.nD Cert.Kernel19Ideal.τ).loc Cert.Kernel19Ideal.main_v15_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v155) = v0 c
          ∧ r.2.mem ((c.tc : Thread Cert.Reference19Ideal.nD Cert.Reference19Ideal.τ).loc Cert.Reference19Ideal.main_v158) = v1 c
          ∧ r.2.mem ((c.tc : Thread Cert.Reference19Ideal.nD Cert.Reference19Ideal.τ).loc Cert.Reference19Ideal.main_v161) = v2 c
          ∧ r.2.mem ((c.tc : Thread Cert.Reference19Ideal.nD Cert.Reference19Ideal.τ).loc Cert.Reference19Ideal.main_v164) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v11_0)) (v1 : (c : Dev Cert.Kernel20Ideal.nD) → Buf (Elt Ideal) ((c.tc : Thread Cert.Kernel20Ideal.nD Cert.Kernel20Ideal.τ).loc Cert.Kernel20Ideal.main_v11_1)) (v2 : (c : Dev Cert.Kernel20Ideal.nD) → Buf (Elt Ideal) ((c.tc : Thread Cert.Kernel20Ideal.nD Cert.Kernel20Ideal.τ).loc Cert.Kernel20Ideal.main_v11_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v11_0) = v0 c
          ∧ r.2.mem ((c.tc : Thread Cert.Kernel20Ideal.nD Cert.Kernel20Ideal.τ).loc Cert.Kernel20Ideal.main_v11_1) = v1 c
          ∧ r.2.mem ((c.tc : Thread Cert.Kernel20Ideal.nD Cert.Kernel20Ideal.τ).loc Cert.Kernel20Ideal.main_v11_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v31) = v0 c
          ∧ r.2.mem ((c.tc : Thread Cert.Reference20Ideal.nD Cert.Reference20Ideal.τ).loc Cert.Reference20Ideal.main_v34) = v1 c
          ∧ r.2.mem ((c.tc : Thread Cert.Reference20Ideal.nD Cert.Reference20Ideal.τ).loc Cert.Reference20Ideal.main_v37) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S2x2048x1024 .f32) (main_arg1 : FVec F S1024 .f32) (main_arg2 : FVec F S1024x5632 .f32) (main_arg3 : FVec F S3x5632 .f32) (main_arg4 : FVec F S2816x1024 .f32) (main_arg5 : FVec F S2x2048x1024 .f32) : IVec S2x2048x1024 1 × IVec S1024 1 × IVec S1024x5632 1 × IVec S3x5632 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== Pre_finite12.lean ====
abbrev S2x2048x3072 : Shape := ⟨3, ![2, 2048, 3072]⟩
abbrev S2x2048x1024 : Shape := ⟨3, ![2, 2048, 1024]⟩
abbrev S3x512 : Shape := ⟨2, ![3, 512]⟩
abbrev S512 : Shape := ⟨1, ![512]⟩
abbrev S_ : Shape := ⟨0, ![]⟩

class Facts : Prop where
  bcast_S_S2x2048x3072 : S_.BroadcastsInDim S2x2048x3072 (![] : Fin 0 → Fin S2x2048x3072.rank)
  bcast_S_S3x512 : S_.BroadcastsInDim S3x512 (![] : Fin 0 → Fin S3x512.rank)

variable [Facts]

def fn {F : FTy → Type} [FloatOps F] (main_arg0 : FVec F S2x2048x3072 .f32) (main_arg1 : FVec F S2x2048x1024 .f32) (main_arg2 : FVec F S3x512 .f32) (main_arg3 : FVec F S512 .f32) : IVec S2x2048x3072 1 × IVec S3x512 1 :=
  let main_v0 : FVec F S2x2048x3072 .f32 := Host.absf main_arg0
  let main_cst : FVec F S_ .f32 := constant S_ .f32 0x7F800000#32
  let main_v1 : FVec F S2x2048x3072 .f32 := broadcastInDim S2x2048x3072 ![] bcast_S_S2x2048x3072 main_cst
  let main_v2 : IVec S2x2048x3072 1 := cmpf .olt main_v0 main_v1
  let main_v3 : FVec F S3x512 .f32 := Host.absf main_arg2
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  (main_v2, main_v5)
-- ==== Kernel.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S4096x2x4x704 : Shape := ⟨4, ![4096, 2, 4, 704]⟩
abbrev S2x4x4096x704 : Shape := ⟨4, ![2, 4, 4096, 704]⟩
abbrev S4096x1024 : Shape := ⟨2, ![4096, 1024]⟩
abbrev S1x1024 : Shape := ⟨2, ![1, 1024]⟩
abbrev S2x4x256x704 : Shape := ⟨4, ![2, 4, 256, 704]⟩
abbrev S2x4x16x704 : Shape := ⟨4, ![2, 4, 16, 704]⟩
abbrev S256x1024 : Shape := ⟨2, ![256, 1024]⟩
abbrev S16x1024 : Shape := ⟨2, ![16, 1024]⟩
abbrev S288x1024 : Shape := ⟨2, ![288, 1024]⟩
abbrev S272x1 : Shape := ⟨2, ![272, 1]⟩
abbrev S1x1x16x704 : Shape := ⟨4, ![1, 1, 16, 704]⟩
abbrev S16x704 : Shape := ⟨2, ![16, 704]⟩
abbrev S1x1x256x704 : Shape := ⟨4, ![1, 1, 256, 704]⟩
abbrev S256x704 : Shape := ⟨2, ![256, 704]⟩
abbrev S8x704 : Shape := ⟨2, ![8, 704]⟩
abbrev S272x704 : Shape := ⟨2, ![272, 704]⟩
abbrev S1x704x1024 : Shape := ⟨3, ![1, 704, 1024]⟩
abbrev S704x1024 : Shape := ⟨2, ![704, 1024]⟩
abbrev S288x704 : Shape := ⟨2, ![288, 704]⟩
abbrev S1x1x3x704 : Shape := ⟨4, ![1, 1, 3, 704]⟩
abbrev S3x704 : Shape := ⟨2, ![3, 704]⟩
abbrev S1x704 : Shape := ⟨2, ![1, 704]⟩
abbrev S704 : Shape := ⟨1, ![704]⟩
abbrev S256 : Shape := ⟨1, ![256]⟩
abbrev S256x1 : Shape := ⟨2, ![256, 1]⟩
abbrev S1x1x1x704 : Shape := ⟨4, ![1, 1, 1, 704]⟩

abbrev nBuf : Space → Nat
  | .hbm => 43
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2x2048x1024, .f32⟩
  | .hbm, ⟨6, _⟩ => ⟨S5632x1024, .f32⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S3x8x704, .f32⟩
  | .hbm, ⟨12, _⟩ => ⟨S8x3x704, .f32⟩
  | .hbm, ⟨13, _⟩ => ⟨S2x4x3x704, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x5632, .f32⟩
  | .hbm, ⟨31, _⟩ => ⟨S2x2048x5632, .bf16⟩
  | .hbm, ⟨32, _⟩ => ⟨S4096x2x4x704, .bf16⟩
  | .hbm, ⟨33, _⟩ => ⟨S2x4x4096x704, .bf16⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S1x1024, .f32⟩
  | .hbm, ⟨38, _⟩ => ⟨S2x4x4096x704, .bf16⟩
  | .hbm, ⟨39, _⟩ => ⟨S2x4x3x704, .f32⟩
  | .hbm, ⟨40, _⟩ => ⟨S4096x1024, .f32⟩
  | .hbm, ⟨41, _⟩ => ⟨S4096x1024, .bf16⟩
  | .hbm, ⟨42, _⟩ => ⟨S1x1024, .f32⟩
  | .local _ .vmem, ⟨0, _⟩ => ⟨S2x4x256x704, .bf16⟩
  | .local _ .vmem, ⟨1, _⟩ => ⟨S2x4x256x704, .bf16⟩
  | .local _ .vmem, ⟨2, _⟩ => ⟨S2x4x16x704, .bf16⟩
  | .local _ .vmem, ⟨3, _⟩ => ⟨S2x4x16x704, .bf16⟩
  | .local _ .vmem, ⟨4, _⟩ => ⟨S2x4x16x704, .bf16⟩
  | .local _ .vmem, ⟨5, _⟩ => ⟨S2x4x16x704, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S2x4x3x704, .f32⟩
  | .local _ .vmem, ⟨13, _⟩ => ⟨S4x704x1024, .bf16⟩
  | .local _ .vmem, ⟨14, _⟩ => ⟨S8x704x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S2x4x256x704, .bf16⟩
  | .local _ .vmem, ⟨21, _⟩ => ⟨S2x4x256x704, .bf16⟩
  | .local _ .vmem, ⟨22, _⟩ => ⟨S2x4x3x704, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_333 : BitVec 32 := 0#32
  let v695 : BitVec 1 := Scalar.cmpi .eq arg0 c0_i32_333
  let v696 : BitVec 32 := Scalar.extui v695
  let c0_i32_334 : BitVec 32 := 0#32
  let v697 : BitVec 1 := Scalar.cmpi .ne v696 c0_i32_334
  v697

def k0_cond2 (i : grid0.Coords) : BitVec 1 :=
  let arg0 : BitVec 32 := BitVec.ofNat 32 (i 0).val
  let c0_i32_335 : BitVec 32 := 0#32
  let v698 : BitVec 1 := Scalar.cmpi .sgt arg0 c0_i32_335
  let v699 : BitVec 32 := Scalar.extui v698
  let c0_i32_336 : BitVec 32 := 0#32
  let v700 : BitVec 1 := Scalar.cmpi .ne v699 c0_i32_336
  v700

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x4x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x4x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2x2048x1024 : Shape := ⟨3, ![2, 2048, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x2x4x704 : Shape := ⟨4, ![4096, 2, 4, 704]⟩
abbrev S2x4x4096x704 : Shape := ⟨4, ![2, 4, 4096, 704]⟩
abbrev S3x2x4x704 : Shape := ⟨4, ![3, 2, 4, 704]⟩
abbrev S2x4x3x704 : Shape := ⟨4, ![2, 4, 3, 704]⟩
abbrev S4096x1024 : Shape := ⟨2, ![4096, 1024]⟩
abbrev S1x1024 : Shape := ⟨2, ![1, 1024]⟩

abbrev nBuf : Space → Nat
  | .hbm => 162
  | .vmem => 0
  | .smem => 0
  | _ => 0

abbrev hbmTy0_0 (i : Nat) : BufTy := match i % 128 with
  | 0 => ⟨S2x2048x1024, .f32⟩
  | 1 => ⟨S1024, .f32⟩
  | 2 => ⟨S1024x5632, .f32⟩
  | 3 => ⟨S3x5632, .f32⟩
  | 4 => ⟨S2816x1024, .f32⟩
  | 5 => ⟨S2x2048x1024, .f32⟩
  | 6 => ⟨S2x2048x1024, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x5632, .f32⟩
  | 27 => ⟨S_, .f32⟩
  | 28 => ⟨S2x2x5632, .f32⟩
  | 29 => ⟨S2x2050x5632, .f32⟩
  | 30 => ⟨S_, .f32⟩
  | 31 => ⟨S2x2x5632, .f32⟩
  | 32 => ⟨S2x2048x5632, .f32⟩
  | 33 => ⟨S1x5632, .f32⟩
  | 34 => ⟨S5632, .f32⟩
  | 35 => ⟨S1x1x5632, .f32⟩
  | 36 => ⟨S2x2048x5632, .f32⟩
  | 37 => ⟨S2x2048x5632, .f32⟩
  | 38 => ⟨S_, .f32⟩
  | 39 => ⟨S2x2048x5632, .f32⟩
  | 40 => ⟨S2x2048x5632, .f32⟩
  | 41 => ⟨S2x2048x5632, .f32⟩
  | 42 => ⟨S1x5632, .f32⟩
  | 43 => ⟨S5632, .f32⟩
  | 44 => ⟨S1x1x5632, .f32⟩
  | 45 => ⟨S2x2048x5632, .f32⟩
  | 46 => ⟨S2x2048x5632, .f32⟩
  | 47 => ⟨S2x2048x5632, .f32⟩
  | 48 => ⟨S2x2048x5632, .f32⟩
  | 49 => ⟨S1x5632, .f32⟩
  | 50 => ⟨S5632, .f32⟩
  | 51 => ⟨S1x1x5632, .f32⟩
  | 52 => ⟨S2x2048x5632, .f32⟩
  | 53 => ⟨S2x2048x5632, .f32⟩
  | 54 => ⟨S2x2048x5632, .f32⟩
  | 55 => ⟨S2x2048x2816, .f32⟩
  | 56 => ⟨S2x2048x2816, .f32⟩
  | 57 => ⟨S2x2048x2816, .f32⟩
  | 58 => ⟨S2x2048x2816, .f32⟩
  | 59 => ⟨S_, .f32⟩
  | 60 => ⟨S2x2048x2816, .f32⟩
  | 61 => ⟨S2x2048x2816, .f32⟩
  | 62 => ⟨S_, .f32⟩
  | 63 => ⟨S2x2048x2816, .f32⟩
  | 64 => ⟨S2x2048x2816, .f32⟩
  | 65 => ⟨S_, .f32⟩
  | 66 => ⟨S2x2048x2816, .f32⟩
  | 67 => ⟨S2x2048x2816, .f32⟩
  | 68 => ⟨S2x2048x2816, .f32⟩
  | 69 => ⟨S2x2048x2816, .f32⟩
  | 70 => ⟨S2x2048x2816, .f32⟩
  | 71 => ⟨S2x2048x1024, .f32⟩
  | 72 => ⟨S2x2048x2816, .f32⟩
  | 73 => ⟨S2x2048x2816, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x2816, .f32⟩
  | 79 => ⟨S2x2048x5632, .f32⟩
  | 80 => ⟨S2x2048x5632, .f32⟩
  | 81 => ⟨S_, .f32⟩
  | 82 => ⟨S5632, .f32⟩
  | 83 => ⟨S1x1x5632, .f32⟩
  | 84 => ⟨S2x2048x5632, .f32⟩
  | 85 => ⟨S2x2048x5632, .f32⟩
  | 86 => ⟨S_, .f32⟩
  | 87 => ⟨S5632, .f32⟩
  | 88 => ⟨S1x5632, .f32⟩
  | 89 => ⟨S_, .f32⟩
  | 90 => ⟨S3x5632, .f32⟩
  | 91 => ⟨S_, .f32⟩
  | 92 => ⟨S2x2050x5632, .f32⟩
  | 93 => ⟨S2x2048x5632, .f32⟩
  | 94 => ⟨S_, .f32⟩
  | 95 => ⟨S5632, .f32⟩
  | 96 => ⟨S1x1x5632, .f32⟩
  | 97 => ⟨S2x2048x5632, .f32⟩
  | 98 => ⟨S2x2048x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S3x5632, .f32⟩
  | 105 => ⟨S_, .f32⟩
  | 106 => ⟨S2x2050x5632, .f32⟩
  | 107 => ⟨S2x2050x5632, .f32⟩
  | 108 => ⟨S2x2048x5632, .f32⟩
  | 109 => ⟨S_, .f32⟩
  | 110 => ⟨S5632, .f32⟩
  | 111 => ⟨S1x1x5632, .f32⟩
  | 112 => ⟨S2x2048x5632, .f32⟩
  | 113 => ⟨S2x2048x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S2x2050x5632, .f32⟩
  | 122 => ⟨S2x2050x5632, .f32⟩
  | 123 => ⟨S2x2x5632, .f32⟩
  | 124 => ⟨S2x2048x5632, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S1024, .f32⟩
  | 1 => ⟨S1x1x1024, .f32⟩
  | 2 => ⟨S2x2048x1024, .f32⟩
  | 3 => ⟨S2x2048x1024, .f32⟩
  | 4 => ⟨S_, .f32⟩
  | 5 => ⟨S1024, .f32⟩
  | 6 => ⟨S2x2048x1024, .f32⟩
  | 7 => ⟨S_, .f32⟩
  | 8 => ⟨S2x2048, .f32⟩
  | 9 => ⟨S2x2048x1, .f32⟩
  | 10 => ⟨S2x2048x1024, .f32⟩
  | 11 => ⟨S2x2048x1024, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S4096x2x4x704, .f32⟩
  | 24 => ⟨S2x4x4096x704, .f32⟩
  | 25 => ⟨S2x4x4096x704, .bf16⟩
  | 26 => ⟨S3x2x4x704, .f32⟩
  | 27 => ⟨S2x4x3x704, .f32⟩
  | 28 => ⟨S2x2048x1024, .f32⟩
  | 29 => ⟨S4096x1024, .f32⟩
  | 30 => ⟨S2x2048x1024, .f32⟩
  | 31 => ⟨S4096x1024, .f32⟩
  | 32 => ⟨S4096x1024, .bf16⟩
  | 33 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v44_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v44_1 : Ref sig .tc := ⟨.hbm, 68, rfl⟩
abbrev main_v44_0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]
-- ==== Kernel2.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S4096x3072 : Shape := ⟨2, ![4096, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S4096x3072, .f32⟩
  | .hbm, ⟨6, _⟩ => ⟨S4096x3072, .bf16⟩
  | .hbm, ⟨7, _⟩ => ⟨S1024x3072, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x2048x1024 : Shape := ⟨3, ![2, 2048, 1024]⟩
abbrev S1024 : Shape := ⟨1, ![1024]⟩
abbrev S1024x3072 : Shape := ⟨2, ![1024, 3072]⟩
abbrev S2x2048x3072 : Shape := ⟨3, ![2, 2048, 3072]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3072, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3072, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S2x2048x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2048x3072 : Shape := ⟨3, ![2, 2048, 3072]⟩
abbrev S4096x1024 : Shape := ⟨2, ![4096, 1024]⟩
abbrev S4096x3072 : Shape := ⟨2, ![4096, 3072]⟩
abbrev S1024x3072 : Shape := ⟨2, ![1024, 3072]⟩
abbrev S4096x768 : Shape := ⟨2, ![4096, 768]⟩
abbrev S1024x768 : Shape := ⟨2, ![1024, 768]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S4096x1024, .f32⟩
  | .hbm, ⟨3, _⟩ => ⟨S4096x1024, .bf16⟩
  | .hbm, ⟨4, _⟩ => ⟨S4096x3072, .f32⟩
  | .hbm, ⟨5, _⟩ => ⟨S4096x3072, .bf16⟩
  | .hbm, ⟨6, _⟩ => ⟨S1024x3072, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S2x2048x1024 : Shape := ⟨3, ![2, 2048, 1024]⟩
abbrev S2x2048x3072 : Shape := ⟨3, ![2, 2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S_, .f32⟩
  | .hbm, ⟨3, _⟩ => ⟨S1024x3072, .f32⟩
  | .hbm, ⟨4, _⟩ => ⟨S2x2048x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S5632x1024 : Shape := ⟨2, ![5632, 1024]⟩
abbrev S8x704x1024 : Shape := ⟨3, ![8, 704, 1024]⟩
abbrev S4x704x1024 : Shape := ⟨3, ![4, 704, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S4096x1024 : Shape := ⟨2, ![4096, 1024]⟩
abbrev S1x1024 : Shape := ⟨2, ![1, 1024]⟩
abbrev S4x4096x704 : Shape := ⟨3, ![4, 4096, 704]⟩
abbrev S2x4x4096x704 : Shape := ⟨4, ![2, 4, 4096, 704]⟩
abbrev S256x1024 : Shape := ⟨2, ![256, 1024]⟩
abbrev S16x1024 : Shape := ⟨2, ![16, 1024]⟩
abbrev S4x256x704 : Shape := ⟨3, ![4, 256, 704]⟩
abbrev S2x4x256x704 : Shape := ⟨4, ![2, 4, 256, 704]⟩
abbrev S264x1 : Shape := ⟨2, ![264, 1]⟩
abbrev S272x1024 : Shape := ⟨2, ![272, 1024]⟩
abbrev S1x704x1024 : Shape := ⟨3, ![1, 704, 1024]⟩
abbrev S704x1024 : Shape := ⟨2, ![704, 1024]⟩
abbrev S272x704 : Shape := ⟨2, ![272, 704]⟩
abbrev S256x704 : Shape := ⟨2, ![256, 704]⟩
abbrev S1x1x256x704 : Shape := ⟨4, ![1, 1, 256, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2x2048x1024, .f32⟩
  | .hbm, ⟨5, _⟩ => ⟨S1024, .f32⟩
  | .hbm, ⟨6, _⟩ => ⟨S5632x1024, .f32⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S3x8x704, .f32⟩
  | .hbm, ⟨12, _⟩ => ⟨S8x3x704, .f32⟩
  | .hbm, ⟨13, _⟩ => ⟨S2x4x3x704, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S4x4096x704, .bf16⟩
  | .hbm, ⟨21, _⟩ => ⟨S2x4x4096x704, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S8x704x1024, .bf16⟩
  | .local _ .vmem, ⟨5, _⟩ => ⟨S2x4x3x704, .f32⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S4x256x704, .bf16⟩
  | .local _ .vmem, ⟨15, _⟩ => ⟨S4x256x704, .bf16⟩
  | .local _ .vmem, ⟨16, _⟩ => ⟨S2x4x256x704, .bf16⟩
  | .local _ .vmem, ⟨17, _⟩ => ⟨S2x4x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x2048x1024 : Shape := ⟨3, ![2, 2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x1024 : Shape := ⟨2, ![4096, 1024]⟩
abbrev S2x2048 : Shape := ⟨2, ![2, 2048]⟩
abbrev S2x2048x1 : Shape := ⟨3, ![2, 2048, 1]⟩
abbrev S1x1x1024 : Shape := ⟨3, ![1, 1, 1024]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2x2048x1024, .f32⟩
  | .hbm, ⟨5, _⟩ => ⟨S1024, .f32⟩
  | .hbm, ⟨6, _⟩ => ⟨S2x2048x5632, .f32⟩
  | .hbm, ⟨7, _⟩ => ⟨S_, .f32⟩
  | .hbm, ⟨8, _⟩ => ⟨S2x2x5632, .f32⟩
  | .hbm, ⟨9, _⟩ => ⟨S2x2050x5632, .f32⟩
  | .hbm, ⟨10, _⟩ => ⟨S2x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S_, .f32⟩
  | .hbm, ⟨17, _⟩ => ⟨S2x2048x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x5632, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x1024, .f32⟩
  | .hbm, ⟨46, _⟩ => ⟨S2x2048x1024, .f32⟩
  | .hbm, ⟨47, _⟩ => ⟨S4096x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S2x2048x1, .f32⟩
  | .hbm, ⟨59, _⟩ => ⟨S2x2048x1024, .f32⟩
  | .hbm, ⟨60, _⟩ => ⟨S2x2048x1024, .f32⟩
  | .hbm, ⟨61, _⟩ => ⟨S1x1x1024, .f32⟩
  | .hbm, ⟨62, _⟩ => ⟨S2x2048x1024, .f32⟩
  | .hbm, ⟨63, _⟩ => ⟨S2x2048x1024, .f32⟩
  | .hbm, ⟨64, _⟩ => ⟨S4096x1024, .f32⟩
  | .hbm, ⟨65, _⟩ => ⟨S4096x1024, .bf16⟩
  | .hbm, ⟨66, _⟩ => ⟨S4096x4x704, .f32⟩
  | .hbm, ⟨67, _⟩ => ⟨S4x4096x704, .f32⟩
  | .hbm, ⟨68, _⟩ => ⟨S4x4096x704, .bf16⟩
  | .hbm, ⟨69, _⟩ => ⟨S4096x2x4x704, .f32⟩
  | .hbm, ⟨70, _⟩ => ⟨S2x4x4096x704, .f32⟩
  | .hbm, ⟨71, _⟩ => ⟨S2x4x4096x704, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel5.lean ====
abbrev S2x2048x1024 : Shape := ⟨3, ![2, 2048, 1024]⟩
abbrev S2x2048x5632 : Shape := ⟨3, ![2, 2048, 5632]⟩
abbrev S4096x8x704 : Shape := ⟨3, ![4096, 8, 704]⟩
abbrev S8x4096x704 : Shape := ⟨3, ![8, 4096, 704]⟩
abbrev S4096x1024 : Shape := ⟨2, ![4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S1x1024x704 : Shape := ⟨3, ![1, 1024, 704]⟩
abbrev S1024x704 : Shape := ⟨2, ![1024, 704]⟩
abbrev S1024x1024 : Shape := ⟨2, ![1024, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x8x704, .f32⟩
  | .hbm, ⟨3, _⟩ => ⟨S8x4096x704, .f32⟩
  | .hbm, ⟨4, _⟩ => ⟨S8x4096x704, .bf16⟩
  | .hbm, ⟨5, _⟩ => ⟨S4096x1024, .f32⟩
  | .hbm, ⟨6, _⟩ => ⟨S4096x1024, .bf16⟩
  | .hbm, ⟨7, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x2048x2816 : Shape := ⟨3, ![2, 2048, 2816]⟩
abbrev S2x2048x1024 : Shape := ⟨3, ![2, 2048, 1024]⟩
abbrev S4096x4x704 : Shape := ⟨3, ![4096, 4, 704]⟩
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S1x1024x704 : Shape := ⟨3, ![1, 1024, 704]⟩
abbrev S1024x704 : Shape := ⟨2, ![1024, 704]⟩
abbrev S1024x1024 : Shape := ⟨2, ![1024, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S4096x1024, .f32⟩
  | .hbm, ⟨6, _⟩ => ⟨S4096x1024, .bf16⟩
  | .hbm, ⟨7, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2x2048x1024 : Shape := ⟨3, ![2, 2048, 1024]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference7Ideal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S1024x1024 : Shape := ⟨2, ![1024, 1024]⟩
abbrev S2x2048x1024 : Shape := ⟨3, ![2, 2048, 1024]⟩
abbrev S4096x1024 : Shape := ⟨2, ![4096, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference8Ideal.lean ====
abbrev S1024x1024 : Shape := ⟨2, ![1024, 1024]⟩
abbrev S2x2048x1024 : Shape := ⟨3, ![2, 2048, 1024]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x2048x1024, .f32⟩
  | .hbm, ⟨2, _⟩ => ⟨S_, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | .hbm, ⟨24, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024x3072 : Shape := ⟨2, ![1024, 3072]⟩
abbrev S4096x1024 : Shape := ⟨2, ![4096, 1024]⟩
abbrev S4096x3072 : Shape := ⟨2, ![4096, 3072]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S4096x1024, .f32⟩
  | .hbm, ⟨3, _⟩ => ⟨S4096x1024, .bf16⟩
  | .hbm, ⟨4, _⟩ => ⟨S1024x3072, .bf16⟩
  | .hbm, ⟨5, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2x2048x1024 : Shape := ⟨3, ![2, 2048, 1024]⟩
abbrev S1024x3072 : Shape := ⟨2, ![1024, 3072]⟩
abbrev S2x2048x3072 : Shape := ⟨3, ![2, 2048, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S2x2048x3072, .f32⟩
  | .hbm, ⟨3, _⟩ => ⟨S4096x3072, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel12.lean ====
abbrev S2x2048x3072 : Shape := ⟨3, ![2, 2048, 3072]⟩
abbrev S2x2048x1024 : Shape := ⟨3, ![2, 2048, 1024]⟩
abbrev S3x512 : Shape := ⟨2, ![3, 512]⟩
abbrev S512 : Shape := ⟨1, ![512]⟩
abbrev S4096x3072 : Shape := ⟨2, ![4096, 3072]⟩
abbrev S4096x1024 : Shape := ⟨2, ![4096, 1024]⟩
abbrev S1x512 : Shape := ⟨2, ![1, 512]⟩
abbrev S2048x128 : Shape := ⟨2, ![2048, 128]⟩
abbrev S3x128 : Shape := ⟨2, ![3, 128]⟩
abbrev S1x128 : Shape := ⟨2, ![1, 128]⟩
abbrev S128x128 : Shape := ⟨2, ![128, 128]⟩
abbrev S16x128 : Shape := ⟨2, ![16, 128]⟩
abbrev S8x128 : Shape := ⟨2, ![8, 128]⟩
abbrev S512x128 : Shape := ⟨2, ![512, 128]⟩
abbrev S520x128 : Shape := ⟨2, ![520, 128]⟩

abbrev nBuf : Space → Nat
  | .hbm => 9
  | .vmem => 12
  | .smem => 0
  | _ => 0

abbrev bufTy : (tb : Table) → Fin (tcTables nBuf tb) → BufTy
  | .hbm, ⟨0, _⟩ => ⟨S2x2048x3072, .f32⟩
  | .hbm, ⟨1, _⟩ => ⟨S2x2048x1024, .f32⟩
  | .hbm, ⟨2, _⟩ => ⟨S3x512, .f32⟩
  | .hbm, ⟨3, _⟩ => ⟨S512, .f32⟩
  | .hbm, ⟨4, _⟩ => ⟨S4096x3072, .f32⟩
  | .hbm, ⟨5, _⟩ => ⟨S4096x1024, .f32⟩
  | .hbm, ⟨6, _⟩ => ⟨S4096x1024, .bf16⟩
  | .hbm, ⟨7, _⟩ => ⟨S1x512, .f32⟩
  | .hbm, ⟨8, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c512_i32 : BitVec 32 := 512#32
  let v13 : BitVec 32 := Scalar.muli c0_i32 c512_i32
  v13
def k0_mult2 : BitVec 32 :=
  let c0_i32 : BitVec 32 := 0#32
  let c512_i32_4 : BitVec 32 := 512#32
  let v15 : BitVec 32 := Scalar.muli c0_i32 c512_i32_4
  v15
def k0_mult3 : BitVec 32 :=
  let c0_i32 : BitVec 32 := 0#32
  let c512_i32_4 : BitVec 32 := 512#32
  let v15 : BitVec 32 := Scalar.muli c0_i32 c512_i32_4
  let v16 : BitVec 32 := v15
  let c16_i32 : BitVec 32 := 16#32
  let v17 : BitVec 32 := Scalar.subi v16 c16_i32
  let c0_i32_5 : BitVec 32 := 0#32
  let v18 : BitVec 32 := Scalar.maxsi v17 c0_i32_5
  v18
def k0_off1 (c0_i32 : BitVec 32) : Fin 2 → Nat :=
  let c512_i32_4 : BitVec 32 := 512#32
  let v15 : BitVec 32 := Scalar.muli c0_i32 c512_i32_4
  let v16 : BitVec 32 := v15
  let c16_i32 : BitVec 32 := 16#32
  let v17 : BitVec 32 := Scalar.subi v16 c16_i32
  let c0_i32_5 : BitVec 32 := 0#32
  let v18 : BitVec 32 := Scalar.maxsi v17 c0_i32_5
  let v19 : BitVec 32 := v18
  let v20 : Index := Scalar.indexCast v19
  let c0_6 : Index := 0#32
  ![v20.toNat, 0]
def k0_off2 (c0_i32 : BitVec 32) : Fin 2 → Nat :=
  let c512_i32_4 : BitVec 32 := 512#32
  let v15 : BitVec 32 := Scalar.muli c0_i32 c512_i32_4
  let v16 : BitVec 32 := v15
  let v29 : Index := Scalar.indexCast v16
  let c0_8 : Index := 0#32
  ![v29.toNat, 0]
def k0_mult4 : BitVec 32 :=
  let c0_i32 : BitVec 32 := 0#32
  let c512_i32_9 : BitVec 32 := 512#32
  let v33 : BitVec 32 := Scalar.muli c0_i32 c512_i32_9
  v33
def k0_mult5 : BitVec 32 :=
  let c0_i32 : BitVec 32 := 0#32
  let c512_i32_9 : BitVec 32 := 512#32
  let v33 : BitVec 32 := Scalar.muli c0_i32 c512_i32_9
  let v34 : BitVec 32 := v33
  let c16_i32_10 : BitVec 32 := 16#32
  let v35 : BitVec 32 := Scalar.subi v34 c16_i32_10
  let c0_i32_11 : BitVec 32 := 0#32
  let v36 : BitVec 32 := Scalar.maxsi v35 c0_i32_11
  v36
def k0_mult6 : BitVec 32 :=
  let c1_i32_21 : BitVec 32 := 1#32
  let c512_i32_22 : BitVec 32 := 512#32
  let v89 : BitVec 32 := Scalar.muli c1_i32_21 c512_i32_22
  v89
def k0_mult7 : BitVec 32 :=
  let c1_i32_21 : BitVec 32 := 1#32
  let c512_i32_23 : BitVec 32 := 512#32
  let v91 : BitVec 32 := Scalar.muli c1_i32_21 c512_i32_23
  v91
def k0_mult8 : BitVec 32 :=
  let c1_i32_21 : BitVec 32 := 1#32
  let c512_i32_23 : BitVec 32 := 512#32
  let v91 : BitVec 32 := Scalar.muli c1_i32_21 c512_i32_23
  let v92 : BitVec 32 := v91
  let c16_i32_24 : BitVec 32 := 16#32
  let v93 : BitVec 32 := Scalar.subi v92 c16_i32_24
  let c0_i32_25 : BitVec 32 := 0#32
  let v94 : BitVec 32 := Scalar.maxsi v93 c0_i32_25
  v94
def k0_mult9 : BitVec 32 :=
  let c1_i32_21 : BitVec 32 := 1#32
  let c512_i32_29 : BitVec 32 := 512#32
  let v109 : BitVec 32 := Scalar.muli c1_i32_21 c512_i32_29
  v109
def k0_mult10 : BitVec 32 :=
  let c1_i32_21 : BitVec 32 := 1#32
  let c512_i32_29 : BitVec 32 := 512#32
  let v109 : BitVec 32 := Scalar.muli c1_i32_21 c512_i32_29
  let v110 : BitVec 32 := v109
  let c16_i32_30 : BitVec 32 := 16#32
  let v111 : BitVec 32 := Scalar.subi v110 c16_i32_30
  let c0_i32_31 : BitVec 32 := 0#32
  let v112 : BitVec 32 := Scalar.maxsi v111 c0_i32_31
  v112
def k0_mult11 : BitVec 32 :=
  let c2_i32 : BitVec 32 := 2#32
  let c512_i32_43 : BitVec 32 := 512#32
  let v165 : BitVec 32 := Scalar.muli c2_i32 c512_i32_43
  v165
def k0_mult12 : BitVec 32 :=
  let c2_i32 : BitVec 32 := 2#32
  let c512_i32_44 : BitVec 32 := 512#32
  let v167 : BitVec 32 := Scalar.muli c2_i32 c512_i32_44
  v167
def k0_mult13 : BitVec 32 :=
  let c2_i32 : BitVec 32 := 2#32
  let c512_i32_44 : BitVec 32 := 512#32
  let v167 : BitVec 32 := Scalar.muli c2_i32 c512_i32_44
  let v168 : BitVec 32 := v167
  let c16_i32_45 : BitVec 32 := 16#32
  let v169 : BitVec 32 := Scalar.subi v168 c16_i32_45
  let c0_i32_46 : BitVec 32 := 0#32
  let v170 : BitVec 32 := Scalar.maxsi v169 c0_i32_46
  v170
def k0_mult14 : BitVec 32 :=
  let c2_i32 : BitVec 32 := 2#32
  let c512_i32_50 : BitVec 32 := 512#32
  let v185 : BitVec 32 := Scalar.muli c2_i32 c512_i32_50
  v185
def k0_mult15 : BitVec 32 :=
  let c2_i32 : BitVec 32 := 2#32
  let c512_i32_50 : BitVec 32 := 512#32
  let v185 : BitVec 32 := Scalar.muli c2_i32 c512_i32_50
  let v186 : BitVec 32 := v185
  let c16_i32_51 : BitVec 32 := 16#32
  let v187 : BitVec 32 := Scalar.subi v186 c16_i32_51
  let c0_i32_52 : BitVec 32 := 0#32
  let v188 : BitVec 32 := Scalar.maxsi v187 c0_i32_52
  v188
def k0_mult16 : BitVec 32 :=
  let c3_i32 : BitVec 32 := 3#32
  let c512_i32_64 : BitVec 32 := 512#32
  let v241 : BitVec 32 := Scalar.muli c3_i32 c512_i32_64
  v241
def k0_mult17 : BitVec 32 :=
  let c3_i32 : BitVec 32 := 3#32
  let c512_i32_65 : BitVec 32 := 512#32
  let v243 : BitVec 32 := Scalar.muli c3_i32 c512_i32_65
  v243
def k0_mult18 : BitVec 32 :=
  let c3_i32 : BitVec 32 := 3#32
  let c512_i32_65 : BitVec 32 := 512#32
  let v243 : BitVec 32 := Scalar.muli c3_i32 c512_i32_65
  let v244 : BitVec 32 := v243
  let c16_i32_66 : BitVec 32 := 16#32
  let v245 : BitVec 32 := Scalar.subi v244 c16_i32_66
  let c0_i32_67 : BitVec 32 := 0#32
  let v246 : BitVec 32 := Scalar.maxsi v245 c0_i32_67
  v246
def k0_mult19 : BitVec 32 :=
  let c3_i32 : BitVec 32 := 3#32
  let c512_i32_71 : BitVec 32 := 512#32
  let v261 : BitVec 32 := Scalar.muli c3_i32 c512_i32_71
  v261
def k0_mult20 : BitVec 32 :=
  let c3_i32 : BitVec 32 := 3#32
  let c512_i32_71 : BitVec 32 := 512#32
  let v261 : BitVec 32 := Scalar.muli c3_i32 c512_i32_71
  let v262 : BitVec 32 := v261
  let c16_i32_72 : BitVec 32 := 16#32
  let v263 : BitVec 32 := Scalar.subi v262 c16_i32_72
  let c0_i32_73 : BitVec 32 := 0#32
  let v264 : BitVec 32 := Scalar.maxsi v263 c0_i32_73
  v264
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2x2048x3072 : Shape := ⟨3, ![2, 2048, 3072]⟩
abbrev S2x2048x1024 : Shape := ⟨3, ![2, 2048, 1024]⟩
abbrev S3x512 : Shape := ⟨2, ![3, 512]⟩
abbrev S512 : Shape := ⟨1, ![512]⟩
abbrev S2x2048x1536 : Shape := ⟨3, ![2, 2048, 1536]⟩
abbrev S2x2048x512 : Shape := ⟨3, ![2, 2048, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S1x1x512 : Shape := ⟨3, ![1, 1, 512]⟩
abbrev S2x2048x8x64 : Shape := ⟨4, ![2, 2048, 8, 64]⟩
abbrev S8x64 : Shape := ⟨2, ![8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S4096x1024 : Shape := ⟨2, ![4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x1024, .f32⟩
  | .hbm, ⟨2, _⟩ => ⟨S3x512, .f32⟩
  | .hbm, ⟨3, _⟩ => ⟨S512, .f32⟩
  | .hbm, ⟨4, _⟩ => ⟨S2x2048x1536, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S_, .f32⟩
  | .hbm, ⟨10, _⟩ => ⟨S2x2x512, .f32⟩
  | .hbm, ⟨11, _⟩ => ⟨S2x2050x512, .f32⟩
  | .hbm, ⟨12, _⟩ => ⟨S2x2048x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x8x64, .f32⟩
  | .hbm, ⟨37, _⟩ => ⟨S8x64, .f32⟩
  | .hbm, ⟨38, _⟩ => ⟨S2x2048x8x64, .f32⟩
  | .hbm, ⟨39, _⟩ => ⟨S_, .f32⟩
  | .hbm, ⟨40, _⟩ => ⟨S2x2048x8, .f32⟩
  | .hbm, ⟨41, _⟩ => ⟨S2x2048x8x1, .f32⟩
  | .hbm, ⟨42, _⟩ => ⟨S_, .f32⟩
  | .hbm, ⟨43, _⟩ => ⟨S2x2048x8x1, .f32⟩
  | .hbm, ⟨44, _⟩ => ⟨S2x2048x8x1, .f32⟩
  | .hbm, ⟨45, _⟩ => ⟨S_, .f32⟩
  | .hbm, ⟨46, _⟩ => ⟨S2x2048x8x1, .f32⟩
  | .hbm, ⟨47, _⟩ => ⟨S2x2048x8x1, .f32⟩
  | .hbm, ⟨48, _⟩ => ⟨S2x2048x8x1, .f32⟩
  | .hbm, ⟨49, _⟩ => ⟨S2x2048x8x64, .f32⟩
  | .hbm, ⟨50, _⟩ => ⟨S2x2048x8x64, .f32⟩
  | .hbm, ⟨51, _⟩ => ⟨S1x1x8x64, .f32⟩
  | .hbm, ⟨52, _⟩ => ⟨S2x2048x8x64, .f32⟩
  | .hbm, ⟨53, _⟩ => ⟨S2x2048x8x64, .f32⟩
  | .hbm, ⟨54, _⟩ => ⟨S2x2048x512, .f32⟩
  | .hbm, ⟨55, _⟩ => ⟨S2x2048x512, .f32⟩
  | .hbm, ⟨56, _⟩ => ⟨S2x2048x1024, .f32⟩
  | .hbm, ⟨57, _⟩ => ⟨S4096x1024, .f32⟩
  | .hbm, ⟨58, _⟩ => ⟨S4096x1024, .bf16⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel13.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_17 : BitVec 32 := 0#32
  let v49 : BitVec 1 := Scalar.cmpi .ne v48 c0_i32_17
  v49

def k0_cond2 (i : grid0.Coords) : BitVec 1 :=
  let arg0 : BitVec 32 := BitVec.ofNat 32 (i 0).val
  let c0_i32_18 : BitVec 32 := 0#32
  let v50 : BitVec 1 := Scalar.cmpi .sgt arg0 c0_i32_18
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩
abbrev S4096x1024 : Shape := ⟨2, ![4096, 1024]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S1x128, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel14.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S1x128x1024, .f32⟩
  | .hbm, ⟨10, _⟩ => ⟨S1x128x1024, .f32⟩
  | .hbm, ⟨11, _⟩ => ⟨S2x128x1024, .f32⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel15.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .bf16⟩
  | .hbm, ⟨6, _⟩ => ⟨S8x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel16.lean ====
abbrev S8x1024x384 : Shape := ⟨3, ![8, 1024, 384]⟩
abbrev S2x1024x384 : Shape := ⟨3, ![2, 1024, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 11
  | .vmem => 18
  | .smem => 0
  | _ => 0

abbrev bufTy : (tb : Table) → Fin (tcTables nBuf tb) → BufTy
  | .hbm, ⟨0, _⟩ => ⟨S8x1024x384, .f32⟩
  | .hbm, ⟨1, _⟩ => ⟨S8x1024x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S8x1024x384, .bf16⟩
  | .hbm, ⟨6, _⟩ => ⟨S8x1024x384, .bf16⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .local _ .vmem, ⟨0, _⟩ => ⟨S8x256x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S8x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x1024x384 : Shape := ⟨3, ![8, 1024, 384]⟩
abbrev S2x1024x384 : Shape := ⟨3, ![2, 1024, 384]⟩
abbrev S_ : Shape := ⟨0, ![]⟩
abbrev S1024x384 : Shape := ⟨2, ![1024, 384]⟩
abbrev S1x1024x384 : Shape := ⟨3, ![1, 1024, 384]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x384, .f32⟩
  | .hbm, ⟨1, _⟩ => ⟨S8x1024x384, .f32⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1x1024x384, .f32⟩
  | .hbm, ⟨10, _⟩ => ⟨S1x1024x384, .f32⟩
  | .hbm, ⟨11, _⟩ => ⟨S2x1024x384, .f32⟩
  | .hbm, ⟨12, _⟩ => ⟨S_, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S2x1024x384, .f32⟩
  | .hbm, ⟨23, _⟩ => ⟨S_, .f32⟩
  | .hbm, ⟨24, _⟩ => ⟨S2x1024x384, .f32⟩
  | .hbm, ⟨25, _⟩ => ⟨S2x1024x384, .f32⟩
  | .hbm, ⟨26, _⟩ => ⟨S2x1024x384, .f32⟩
  | .hbm, ⟨27, _⟩ => ⟨S_, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2x1024x384, .f32⟩
  | .hbm, ⟨38, _⟩ => ⟨S_, .f32⟩
  | .hbm, ⟨39, _⟩ => ⟨S2x1024x384, .f32⟩
  | .hbm, ⟨40, _⟩ => ⟨S2x1024x384, .f32⟩
  | .hbm, ⟨41, _⟩ => ⟨S2x1024x384, .f32⟩
  | .hbm, ⟨42, _⟩ => ⟨S_, .f32⟩
  | .hbm, ⟨43, _⟩ => ⟨S2x1024x384, .f32⟩
  | .hbm, ⟨44, _⟩ => ⟨S2x1024x384, .f32⟩
  | _, _ => ⟨S8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel17.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S8x704x1024, .bf16⟩
  | .hbm, ⟨9, _⟩ => ⟨S8x704x1024, .bf16⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S2x1024x704, .f32⟩
  | .hbm, ⟨13, _⟩ => ⟨S_, .f32⟩
  | .hbm, ⟨14, _⟩ => ⟨S2x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .hbm, ⟨24, _⟩ => ⟨S_, .f32⟩
  | .hbm, ⟨25, _⟩ => ⟨S2x1024x704, .f32⟩
  | .hbm, ⟨26, _⟩ => ⟨S2x1024x704, .f32⟩
  | .hbm, ⟨27, _⟩ => ⟨S2x1024x704, .f32⟩
  | .hbm, ⟨28, _⟩ => ⟨S_, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | .hbm, ⟨38, _⟩ => ⟨S2x1024x704, .f32⟩
  | .hbm, ⟨39, _⟩ => ⟨S_, .f32⟩
  | .hbm, ⟨40, _⟩ => ⟨S2x1024x704, .f32⟩
  | .hbm, ⟨41, _⟩ => ⟨S2x1024x704, .f32⟩
  | .hbm, ⟨42, _⟩ => ⟨S2x1024x704, .f32⟩
  | .hbm, ⟨43, _⟩ => ⟨S_, .f32⟩
  | .hbm, ⟨44, _⟩ => ⟨S2x1024x704, .f32⟩
  | .hbm, ⟨45, _⟩ => ⟨S2x1024x704, .f32⟩
  | .hbm, ⟨46, _⟩ => ⟨S2x704x1024, .f32⟩
  | .hbm, ⟨47, _⟩ => ⟨S2x704x1024, .f32⟩
  | .hbm, ⟨48, _⟩ => ⟨S2x704x1024, .f32⟩
  | .hbm, ⟨49, _⟩ => ⟨S2x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel18.lean ====
abbrev S8x3x768 : Shape := ⟨3, ![8, 3, 768]⟩
abbrev S2x3x704 : Shape := ⟨3, ![2, 3, 704]⟩
abbrev S2x3x64 : Shape := ⟨3, ![2, 3, 64]⟩
abbrev S2x3x768 : Shape := ⟨3, ![2, 3, 768]⟩
abbrev S1x3x768 : Shape := ⟨3, ![1, 3, 768]⟩
abbrev S3x768 : Shape := ⟨2, ![3, 768]⟩

abbrev nBuf : Space → Nat
  | .hbm => 15
  | .vmem => 18
  | .smem => 0
  | _ => 0

abbrev bufTy : (tb : Table) → Fin (tcTables nBuf tb) → BufTy
  | .hbm, ⟨0, _⟩ => ⟨S8x3x768, .f32⟩
  | .hbm, ⟨1, _⟩ => ⟨S8x3x768, .f32⟩
  | .hbm, ⟨2, _⟩ => ⟨S2x3x704, .f32⟩
  | .hbm, ⟨3, _⟩ => ⟨S2x3x64, .f32⟩
  | .hbm, ⟨4, _⟩ => ⟨S2x3x704, .f32⟩
  | .hbm, ⟨5, _⟩ => ⟨S2x3x64, .f32⟩
  | .hbm, ⟨6, _⟩ => ⟨S2x3x704, .f32⟩
  | .hbm, ⟨7, _⟩ => ⟨S2x3x64, .f32⟩
  | .hbm, ⟨8, _⟩ => ⟨S2x3x768, .f32⟩
  | .hbm, ⟨9, _⟩ => ⟨S2x3x768, .f32⟩
  | .hbm, ⟨10, _⟩ => ⟨S2x3x768, .f32⟩
  | .hbm, ⟨11, _⟩ => ⟨S2x3x768, .f32⟩
  | .hbm, ⟨12, _⟩ => ⟨S2x3x768, .f32⟩
  | .hbm, ⟨13, _⟩ => ⟨S2x3x768, .f32⟩
  | .hbm, ⟨14, _⟩ => ⟨S2x3x768, .f32⟩
  | .local _ .vmem, ⟨0, _⟩ => ⟨S8x3x768, .f32⟩
  | .local _ .vmem, ⟨1, _⟩ => ⟨S8x3x768, .f32⟩
  | .local _ .vmem, ⟨2, _⟩ => ⟨S8x3x768, .f32⟩
  | .local _ .vmem, ⟨3, _⟩ => ⟨S8x3x768, .f32⟩
  | .local _ .vmem, ⟨4, _⟩ => ⟨S1x3x768, .f32⟩
  | .local _ .vmem, ⟨5, _⟩ => ⟨S1x3x768, .f32⟩
  | .local _ .vmem, ⟨6, _⟩ => ⟨S1x3x768, .f32⟩
  | .local _ .vmem, ⟨7, _⟩ => ⟨S1x3x768, .f32⟩
  | .local _ .vmem, ⟨8, _⟩ => ⟨S1x3x768, .f32⟩
  | .local _ .vmem, ⟨9, _⟩ => ⟨S1x3x768, .f32⟩
  | .local _ .vmem, ⟨10, _⟩ => ⟨S1x3x768, .f32⟩
  | .local _ .vmem, ⟨11, _⟩ => ⟨S1x3x768, .f32⟩
  | .local _ .vmem, ⟨12, _⟩ => ⟨S1x3x768, .f32⟩
  | .local _ .vmem, ⟨13, _⟩ => ⟨S1x3x768, .f32⟩
  | .local _ .vmem, ⟨14, _⟩ => ⟨S1x3x768, .f32⟩
  | .local _ .vmem, ⟨15, _⟩ => ⟨S1x3x768, .f32⟩
  | .local _ .vmem, ⟨16, _⟩ => ⟨S1x3x768, .f32⟩
  | .local _ .vmem, ⟨17, _⟩ => ⟨S1x3x768, .f32⟩
  | _, _ => ⟨S8x3x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x3x768 : Shape := ⟨3, ![8, 3, 768]⟩
abbrev S2x3x704 : Shape := ⟨3, ![2, 3, 704]⟩
abbrev S2x3x64 : Shape := ⟨3, ![2, 3, 64]⟩
abbrev S_ : Shape := ⟨0, ![]⟩
abbrev S3x768 : Shape := ⟨2, ![3, 768]⟩
abbrev S1x3x768 : Shape := ⟨3, ![1, 3, 768]⟩
abbrev S2x3x768 : Shape := ⟨3, ![2, 3, 768]⟩

abbrev nBuf : Space → Nat
  | .hbm => 86
  | .vmem => 0
  | .smem => 0
  | _ => 0

abbrev bufTy : (tb : Table) → Fin (tcTables nBuf tb) → BufTy
  | .hbm, ⟨0, _⟩ => ⟨S8x3x768, .f32⟩
  | .hbm, ⟨1, _⟩ => ⟨S8x3x768, .f32⟩
  | .hbm, ⟨2, _⟩ => ⟨S2x3x704, .f32⟩
  | .hbm, ⟨3, _⟩ => ⟨S2x3x64, .f32⟩
  | .hbm, ⟨4, _⟩ => ⟨S2x3x704, .f32⟩
  | .hbm, ⟨5, _⟩ => ⟨S2x3x64, .f32⟩
  | .hbm, ⟨6, _⟩ => ⟨S2x3x704, .f32⟩
  | .hbm, ⟨7, _⟩ => ⟨S2x3x64, .f32⟩
  | .hbm, ⟨8, _⟩ => ⟨S_, .f32⟩
  | .hbm, ⟨9, _⟩ => ⟨S3x768, .f32⟩
  | .hbm, ⟨10, _⟩ => ⟨S_, .f32⟩
  | .hbm, ⟨11, _⟩ => ⟨S3x768, .f32⟩
  | .hbm, ⟨12, _⟩ => ⟨S1x3x768, .f32⟩
  | .hbm, ⟨13, _⟩ => ⟨S1x3x768, .f32⟩
  | .hbm, ⟨14, _⟩ => ⟨S2x3x768, .f32⟩
  | .hbm, ⟨15, _⟩ => ⟨S2x3x704, .f32⟩
  | .hbm, ⟨16, _⟩ => ⟨S_, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S2x3x704, .f32⟩
  | .hbm, ⟨23, _⟩ => ⟨S_, .f32⟩
  | .hbm, ⟨24, _⟩ => ⟨S2x3x704, .f32⟩
  | .hbm, ⟨25, _⟩ => ⟨S2x3x704, .f32⟩
  | .hbm, ⟨26, _⟩ => ⟨S2x3x704, .f32⟩
  | .hbm, ⟨27, _⟩ => ⟨S_, .f32⟩
  | .hbm, ⟨28, _⟩ => ⟨S2x3x704, .f32⟩
  | .hbm, ⟨29, _⟩ => ⟨S2x3x704, .f32⟩
  | .hbm, ⟨30, _⟩ => ⟨S2x3x704, .f32⟩
  | .hbm, ⟨31, _⟩ => ⟨S_, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S2x3x704, .f32⟩
  | .hbm, ⟨38, _⟩ => ⟨S_, .f32⟩
  | .hbm, ⟨39, _⟩ => ⟨S2x3x704, .f32⟩
  | .hbm, ⟨40, _⟩ => ⟨S2x3x704, .f32⟩
  | .hbm, ⟨41, _⟩ => ⟨S2x3x704, .f32⟩
  | .hbm, ⟨42, _⟩ => ⟨S_, .f32⟩
  | .hbm, ⟨43, _⟩ => ⟨S2x3x704, .f32⟩
  | .hbm, ⟨44, _⟩ => ⟨S2x3x704, .f32⟩
  | .hbm, ⟨45, _⟩ => ⟨S2x3x704, .f32⟩
  | .hbm, ⟨46, _⟩ => ⟨S_, .f32⟩
  | .hbm, ⟨47, _⟩ => ⟨S2x3x704, .f32⟩
  | .hbm, ⟨48, _⟩ => ⟨S2x3x704, .f32⟩
  | .hbm, ⟨49, _⟩ => ⟨S2x3x64, .f32⟩
  | .hbm, ⟨50, _⟩ => ⟨S_, .f32⟩
  | .hbm, ⟨51, _⟩ => ⟨S2x3x64, .f32⟩
  | .hbm, ⟨52, _⟩ => ⟨S2x3x64, .f32⟩
  | .hbm, ⟨53, _⟩ => ⟨S_, .f32⟩
  | .hbm, ⟨54, _⟩ => ⟨S2x3x64, .f32⟩
  | .hbm, ⟨55, _⟩ => ⟨S2x3x64, .f32⟩
  | .hbm, ⟨56, _⟩ => ⟨S2x3x64, .f32⟩
  | .hbm, ⟨57, _⟩ => ⟨S_, .f32⟩
  | .hbm, ⟨58, _⟩ => ⟨S2x3x64, .f32⟩
  | .hbm, ⟨59, _⟩ => ⟨S2x3x64, .f32⟩
  | .hbm, ⟨60, _⟩ => ⟨S2x3x64, .f32⟩
  | .hbm, ⟨61, _⟩ => ⟨S_, .f32⟩
  | .hbm, ⟨62, _⟩ => ⟨S2x3x64, .f32⟩
  | .hbm, ⟨63, _⟩ => ⟨S2x3x64, .f32⟩
  | .hbm, ⟨64, _⟩ => ⟨S2x3x64, .f32⟩
  | .hbm, ⟨65, _⟩ => ⟨S_, .f32⟩
  | .hbm, ⟨66, _⟩ => ⟨S2x3x64, .f32⟩
  | .hbm, ⟨67, _⟩ => ⟨S2x3x64, .f32⟩
  | .hbm, ⟨68, _⟩ => ⟨S_, .f32⟩
  | .hbm, ⟨69, _⟩ => ⟨S2x3x64, .f32⟩
  | .hbm, ⟨70, _⟩ => ⟨S2x3x64, .f32⟩
  | .hbm, ⟨71, _⟩ => ⟨S2x3x64, .f32⟩
  | .hbm, ⟨72, _⟩ => ⟨S_, .f32⟩
  | .hbm, ⟨73, _⟩ => ⟨S2x3x64, .f32⟩
  | .hbm, ⟨74, _⟩ => ⟨S2x3x64, .f32⟩
  | .hbm, ⟨75, _⟩ => ⟨S2x3x64, .f32⟩
  | .hbm, ⟨76, _⟩ => ⟨S_, .f32⟩
  | .hbm, ⟨77, _⟩ => ⟨S2x3x64, .f32⟩
  | .hbm, ⟨78, _⟩ => ⟨S2x3x64, .f32⟩
  | .hbm, ⟨79, _⟩ => ⟨S2x3x64, .f32⟩
  | .hbm, ⟨80, _⟩ => ⟨S_, .f32⟩
  | .hbm, ⟨81, _⟩ => ⟨S2x3x64, .f32⟩
  | .hbm, ⟨82, _⟩ => ⟨S2x3x64, .f32⟩
  | .hbm, ⟨83, _⟩ => ⟨S2x3x768, .f32⟩
  | .hbm, ⟨84, _⟩ => ⟨S2x3x768, .f32⟩
  | .hbm, ⟨85, _⟩ => ⟨S2x3x768, .f32⟩
  | _, _ => ⟨S8x3x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_14 : Ref sig .tc := ⟨.hbm, 65, rfl⟩
abbrev main_v42 : Ref sig .tc := ⟨.hbm, 66, rfl⟩
abbrev main_v43 : Ref sig .tc := ⟨.hbm, 67, rfl⟩
abbrev main_cst_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_17 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Kernel19.lean ====
abbrev S8x8x1024 : Shape := ⟨3, ![8, 8, 1024]⟩
abbrev S2x1024 : Shape := ⟨2, ![2, 1024]⟩
abbrev S2x512 : Shape := ⟨2, ![2, 512]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1x8x1024 : Shape := ⟨3, ![1, 8, 1024]⟩

abbrev nBuf : Space → Nat
  | .hbm => 38
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S2x1024, .f32⟩
  | .hbm, ⟨2, _⟩ => ⟨S2x512, .f32⟩
  | .hbm, ⟨3, _⟩ => ⟨S2x512, .f32⟩
  | .hbm, ⟨4, _⟩ => ⟨S2x1024, .f32⟩
  | .hbm, ⟨5, _⟩ => ⟨S1024, .f32⟩
  | .hbm, ⟨6, _⟩ => ⟨S2x1024, .f32⟩
  | .hbm, ⟨7, _⟩ => ⟨S2x512, .f32⟩
  | .hbm, ⟨8, _⟩ => ⟨S2x512, .f32⟩
  | .hbm, ⟨9, _⟩ => ⟨S2x1024, .f32⟩
  | .hbm, ⟨10, _⟩ => ⟨S1024, .f32⟩
  | .hbm, ⟨11, _⟩ => ⟨S2x1024, .f32⟩
  | .hbm, ⟨12, _⟩ => ⟨S2x512, .f32⟩
  | .hbm, ⟨13, _⟩ => ⟨S2x512, .f32⟩
  | .hbm, ⟨14, _⟩ => ⟨S2x1024, .f32⟩
  | .hbm, ⟨15, _⟩ => ⟨S1024, .f32⟩
  | .hbm, ⟨16, _⟩ => ⟨S1x1024, .f32⟩
  | .hbm, ⟨17, _⟩ => ⟨S2x1024, .f32⟩
  | .hbm, ⟨18, _⟩ => ⟨S_, .f32⟩
  | .hbm, ⟨19, _⟩ => ⟨S1x1024, .f32⟩
  | .hbm, ⟨20, _⟩ => ⟨S8x1024, .f32⟩
  | .hbm, ⟨21, _⟩ => ⟨S1x8x1024, .f32⟩
  | .hbm, ⟨22, _⟩ => ⟨S1x1024, .f32⟩
  | .hbm, ⟨23, _⟩ => ⟨S2x1024, .f32⟩
  | .hbm, ⟨24, _⟩ => ⟨S_, .f32⟩
  | .hbm, ⟨25, _⟩ => ⟨S1x1024, .f32⟩
  | .hbm, ⟨26, _⟩ => ⟨S8x1024, .f32⟩
  | .hbm, ⟨27, _⟩ => ⟨S1x8x1024, .f32⟩
  | .hbm, ⟨28, _⟩ => ⟨S1x1024, .f32⟩
  | .hbm, ⟨29, _⟩ => ⟨S2x1024, .f32⟩
  | .hbm, ⟨30, _⟩ => ⟨S_, .f32⟩
  | .hbm, ⟨31, _⟩ => ⟨S1x1024, .f32⟩
  | .hbm, ⟨32, _⟩ => ⟨S8x1024, .f32⟩
  | .hbm, ⟨33, _⟩ => ⟨S1x8x1024, .f32⟩
  | .hbm, ⟨34, _⟩ => ⟨S1x8x1024, .f32⟩
  | .hbm, ⟨35, _⟩ => ⟨S1x8x1024, .f32⟩
  | .hbm, ⟨36, _⟩ => ⟨S1x8x1024, .f32⟩
  | .hbm, ⟨37, _⟩ => ⟨S1x8x1024, .f32⟩
  | .local _ .vmem, ⟨0, _⟩ => ⟨S8x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S8x8x1024 : Shape := ⟨3, ![8, 8, 1024]⟩
abbrev S2x1024 : Shape := ⟨2, ![2, 1024]⟩
abbrev S2x512 : Shape := ⟨2, ![2, 512]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S1x8x1024 : Shape := ⟨3, ![1, 8, 1024]⟩

abbrev nBuf : Space → Nat
  | .hbm => 237
  | .vmem => 0
  | .smem => 0
  | _ => 0

abbrev hbmTy0_0 (i : Nat) : BufTy := match i % 128 with
  | 0 => ⟨S8x8x1024, .f32⟩
  | 1 => ⟨S2x1024, .f32⟩
  | 2 => ⟨S2x512, .f32⟩
  | 3 => ⟨S2x512, .f32⟩
  | 4 => ⟨S2x1024, .f32⟩
  | 5 => ⟨S1024, .f32⟩
  | 6 => ⟨S2x1024, .f32⟩
  | 7 => ⟨S2x512, .f32⟩
  | 8 => ⟨S2x512, .f32⟩
  | 9 => ⟨S2x1024, .f32⟩
  | 10 => ⟨S1024, .f32⟩
  | 11 => ⟨S2x1024, .f32⟩
  | 12 => ⟨S2x512, .f32⟩
  | 13 => ⟨S2x512, .f32⟩
  | 14 => ⟨S2x1024, .f32⟩
  | 15 => ⟨S1024, .f32⟩
  | 16 => ⟨S_, .f32⟩
  | 17 => ⟨S8x1024, .f32⟩
  | 18 => ⟨S_, .f32⟩
  | 19 => ⟨S1x1024, .f32⟩
  | 20 => ⟨S2x1024, .f32⟩
  | 21 => ⟨S_, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S2x1024, .f32⟩
  | 28 => ⟨S_, .f32⟩
  | 29 => ⟨S2x1024, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S2x1024, .f32⟩
  | 36 => ⟨S_, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S2x1024, .f32⟩
  | 77 => ⟨S_, .f32⟩
  | 78 => ⟨S2x1024, .f32⟩
  | 79 => ⟨S2x1024, .f32⟩
  | 80 => ⟨S2x1024, .f32⟩
  | 81 => ⟨S_, .f32⟩
  | 82 => ⟨S2x1024, .f32⟩
  | 83 => ⟨S2x1024, .f32⟩
  | 84 => ⟨S2x1024, .f32⟩
  | 85 => ⟨S_, .f32⟩
  | 86 => ⟨S2x1024, .f32⟩
  | 87 => ⟨S2x1024, .f32⟩
  | 88 => ⟨S1x1024, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S2x512, .f32⟩
  | 126 => ⟨S_, .f32⟩
  | 127 => ⟨S2x512, .f32⟩
  | _ => ⟨S8x8x1024, .f32⟩

abbrev hbmTy0_1 (i : Nat) : BufTy := match i % 128 with
  | 0 => ⟨S2x512, .f32⟩
  | 1 => ⟨S_, .f32⟩
  | 2 => ⟨S2x512, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S2x512, .f32⟩
  | 28 => ⟨S_, .f32⟩
  | 29 => ⟨S2x512, .f32⟩
  | 30 => ⟨S2x512, .f32⟩
  | 31 => ⟨S2x512, .f32⟩
  | 32 => ⟨S_, .f32⟩
  | 33 => ⟨S2x512, .f32⟩
  | 34 => ⟨S2x512, .f32⟩
  | 35 => ⟨S_, .f32⟩
  | 36 => ⟨S2x512, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x8x1024, .f32⟩
  | 100 => ⟨S2x1024, .f32⟩
  | 101 => ⟨S8x1024, .f32⟩
  | 102 => ⟨S1x8x1024, .f32⟩
  | 103 => ⟨S2x1024, .f32⟩
  | 104 => ⟨S8x1024, .f32⟩
  | 105 => ⟨S1x8x1024, .f32⟩
  | 106 => ⟨S2x1024, .f32⟩
  | 107 => ⟨S8x1024, .f32⟩
  | 108 => ⟨S1x8x1024, .f32⟩
  | _ => ⟨S8x8x1024, .f32⟩

abbrev hbmTy (i : Nat) : BufTy := match i / 128 with
  | 0 => hbmTy0_0 i
  | 1 => hbmTy0_1 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_7 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_cst_15 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_19 : Ref sig .tc := ⟨.hbm, 92, rfl⟩
abbrev main_v56 : Ref sig .tc := ⟨.hbm, 93, rfl⟩
abbrev main_v57 : Ref sig .tc := ⟨.hbm, 94, rfl⟩
abbrev main_cst_20 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_21 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_22 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_23 : Ref sig .tc := ⟨.hbm, 107, rfl⟩
abbrev main_v67 : Ref sig .tc := ⟨.hbm, 108, rfl⟩
abbrev main_v68 : Ref sig .tc := ⟨.hbm, 109, rfl⟩
abbrev main_cst_24 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_25 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_26 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_27 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_28 : Ref sig .tc := ⟨.hbm, 126, rfl⟩
abbrev main_v81 : Ref sig .tc := ⟨.hbm, 127, rfl⟩
abbrev main_v82 : Ref sig .tc := ⟨.hbm, 128, rfl⟩
abbrev main_cst_29 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_30 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_31 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_32 : Ref sig .tc := ⟨.hbm, 141, rfl⟩
abbrev main_v92 : Ref sig .tc := ⟨.hbm, 142, rfl⟩
abbrev main_v93 : Ref sig .tc := ⟨.hbm, 143, rfl⟩
abbrev main_cst_33 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_34 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_35 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_36 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_37 : Ref sig .tc := ⟨.hbm, 160, rfl⟩
abbrev main_v106 : Ref sig .tc := ⟨.hbm, 161, rfl⟩
abbrev main_v107 : Ref sig .tc := ⟨.hbm, 162, rfl⟩
abbrev main_cst_38 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_39 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_40 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_41 : Ref sig .tc := ⟨.hbm, 175, rfl⟩
abbrev main_v117 : Ref sig .tc := ⟨.hbm, 176, rfl⟩
abbrev main_v118 : Ref sig .tc := ⟨.hbm, 177, rfl⟩
abbrev main_cst_42 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_43 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_44 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_45 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_46 : Ref sig .tc := ⟨.hbm, 194, rfl⟩
abbrev main_v131 : Ref sig .tc := ⟨.hbm, 195, rfl⟩
abbrev main_v132 : Ref sig .tc := ⟨.hbm, 196, rfl⟩
abbrev main_cst_47 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_48 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_49 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_cst_50 : Ref sig .tc := ⟨.hbm, 209, rfl⟩
abbrev main_v142 : Ref sig .tc := ⟨.hbm, 210, rfl⟩
abbrev main_v143 : Ref sig .tc := ⟨.hbm, 211, rfl⟩
abbrev main_cst_51 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_52 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_53 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_54 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩

abbrev nD : Nat := 1
abbrev τ : Topo := Topo.v7x

variable {F : FTy → Type} [FloatOps F]
-- ==== Kernel20.lean ====
abbrev S2x2048x1024 : Shape := ⟨3, ![2, 2048, 1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S3x8x704 : Shape := ⟨3, ![3, 8, 704]⟩
abbrev S8x3x704 : Shape := ⟨3, ![8, 3, 704]⟩
abbrev S2x4x3x704 : Shape := ⟨4, ![2, 4, 3, 704]⟩
abbrev S4096x1024 : Shape := ⟨2, ![4096, 1024]⟩
abbrev S4x4096x704 : Shape := ⟨3, ![4, 4096, 704]⟩
abbrev S2x4x4096x704 : Shape := ⟨4, ![2, 4, 4096, 704]⟩
abbrev S256x1024 : Shape := ⟨2, ![256, 1024]⟩
abbrev S16x1024 : Shape := ⟨2, ![16, 1024]⟩
abbrev S4x256x704 : Shape := ⟨3, ![4, 256, 704]⟩
abbrev S2x4x256x704 : Shape := ⟨4, ![2, 4, 256, 704]⟩
abbrev S264x1 : Shape := ⟨2, ![264, 1]⟩
abbrev S272x1024 : Shape := ⟨2, ![272, 1024]⟩
abbrev S1x704x1024 : Shape := ⟨3, ![1, 704, 1024]⟩
abbrev S704x1024 : Shape := ⟨2, ![704, 1024]⟩
abbrev S272x704 : Shape := ⟨2, ![272, 704]⟩
abbrev S256x704 : Shape := ⟨2, ![256, 704]⟩
abbrev S1x1x256x704 : Shape := ⟨4, ![1, 1, 256, 704]⟩
abbrev S264x704 : Shape := ⟨2, ![264, 704]⟩
abbrev S1x1x3x704 : Shape := ⟨4, ![1, 1, 3, 704]⟩
abbrev S3x704 : Shape := ⟨2, ![3, 704]⟩
abbrev S1x704 : Shape := ⟨2, ![1, 704]⟩
abbrev S1x256x704 : Shape := ⟨3, ![1, 256, 704]⟩

abbrev nBuf : Space → Nat
  | .hbm => 19
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2x2048x1024, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S2816x1024, .bf16⟩
  | .hbm, ⟨9, _⟩ => ⟨S4x704x1024, .bf16⟩
  | .hbm, ⟨10, _⟩ => ⟨S3x8x704, .f32⟩
  | .hbm, ⟨11, _⟩ => ⟨S8x3x704, .f32⟩
  | .hbm, ⟨12, _⟩ => ⟨S2x4x3x704, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4x4096x704, .bf16⟩
  | .hbm, ⟨18, _⟩ => ⟨S2x4x4096x704, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S8x704x1024, .bf16⟩
  | .local _ .vmem, ⟨5, _⟩ => ⟨S2x4x3x704, .f32⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S4x256x704, .bf16⟩
  | .local _ .vmem, ⟨12, _⟩ => ⟨S4x256x704, .bf16⟩
  | .local _ .vmem, ⟨13, _⟩ => ⟨S2x4x256x704, .bf16⟩
  | .local _ .vmem, ⟨14, _⟩ => ⟨S2x4x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S2x2048x1024 : Shape := ⟨3, ![2, 2048, 1024]⟩
abbrev S1024x5632 : Shape := ⟨2, ![1024, 5632]⟩
abbrev S3x5632 : Shape := ⟨2, ![3, 5632]⟩
abbrev S2816x1024 : Shape := ⟨2, ![2816, 1024]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S2x2048x1024, .f32⟩
  | .hbm, ⟨5, _⟩ => ⟨S2x2048x5632, .f32⟩
  | .hbm, ⟨6, _⟩ => ⟨S_, .f32⟩
  | .hbm, ⟨7, _⟩ => ⟨S2x2x5632, .f32⟩
  | .hbm, ⟨8, _⟩ => ⟨S2x2050x5632, .f32⟩
  | .hbm, ⟨9, _⟩ => ⟨S2x2048x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S2x2048x5632, .f32⟩
  | .hbm, ⟨14, _⟩ => ⟨S2x2048x5632, .f32⟩
  | .hbm, ⟨15, _⟩ => ⟨S_, .f32⟩
  | .hbm, ⟨16, _⟩ => ⟨S2x2048x5632, .f32⟩
  | .hbm, ⟨17, _⟩ => ⟨S2x2048x5632, .f32⟩
  | .hbm, ⟨18, _⟩ => ⟨S2x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S4096x4x704, .f32⟩
  | .hbm, ⟨48, _⟩ => ⟨S4x4096x704, .f32⟩
  | .hbm, ⟨49, _⟩ => ⟨S4x4096x704, .bf16⟩
  | .hbm, ⟨50, _⟩ => ⟨S4096x2x4x704, .f32⟩
  | .hbm, ⟨51, _⟩ => ⟨S2x4x4096x704, .f32⟩
  | .hbm, ⟨52, _⟩ => ⟨S2x4x4096x704, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Spec.lean ====
/-
  The feed-forward block's backward pass on real numbers: the functions both programs' results are equal to. Tokens are numbered
  through both sequences (`0 … 4095`, 2048 to a sequence); a hidden channel is half `g` (0 the gate, 1 the value) and place
  `m` in the half.
-/
module

public import Mathlib.Analysis.Real.Sqrt
public import Mathlib.Analysis.SpecialFunctions.Exp
public import Mathlib.Analysis.SpecialFunctions.Trigonometric.DerivHyp
public import Mathlib.Algebra.BigOperators.Fin

@[expose] public section

noncomputable section

namespace Cert.FfnBwd

/-- The arguments, as real arrays. -/
structure Data where
  x : Fin 4096 → Fin 1024 → ℝ
  gain : Fin 1024 → ℝ
  up : Fin 1024 → Fin 5632 → ℝ
  taps : Fin 3 → Fin 5632 → ℝ
  down : Fin 2816 → Fin 1024 → ℝ
  ct : Fin 4096 → Fin 1024 → ℝ

/-- Token `s` of sequence `b`. -/
def tok (b : Fin 2) (s : Fin 2048) : Fin 4096 := ⟨2048 * b.val + s.val, by omega⟩

/-- A token's sequence. -/
def seqOf (q : Fin 4096) : Fin 2 := ⟨q.val / 2048, by omega⟩

/-- A token's place in its sequence. -/
def posOf (q : Fin 4096) : Fin 2048 := ⟨q.val % 2048, by omega⟩

theorem tok_seqOf_posOf (q : Fin 4096) : tok (seqOf q) (posOf q) = q := by
  apply Fin.ext
  simp only [tok, seqOf, posOf]
  omega

theorem seqOf_tok (b : Fin 2) (s : Fin 2048) : seqOf (tok b s) = b := by
  apply Fin.ext
  simp only [tok, seqOf]
  omega

theorem posOf_tok (b : Fin 2) (s : Fin 2048) : posOf (tok b s) = s := by
  apply Fin.ext
  simp only [tok, posOf]
  omega

/-- Channel `m` of half `g`. -/
def chan (g : Fin 2) (m : Fin 2816) : Fin 5632 := ⟨g.val * 2816 + m.val, by omega⟩

/-- Channel `n` of chunk `p`, within a half. -/
def sub (p : Fin 4) (n : Fin 704) : Fin 2816 := ⟨p.val * 704 + n.val, by omega⟩

/-- A row of tokens' values read at place `s` of sequence `b`, zero outside the sequence. -/
def ext (f : Fin 4096 → ℝ) (b : Fin 2) (s : ℤ) : ℝ :=
  if h : 0 ≤ s ∧ s < 2048 then f (tok b ⟨s.toNat, by omega⟩) else 0

theorem ext_pos (f : Fin 4096 → ℝ) (b : Fin 2) (s : Fin 2048) (k : ℤ) (h : k = s.val) : ext f b k = f (tok b s) := by
  subst h
  rw [ext, dif_pos ⟨by omega, by omega⟩]
  exact congrArg f (congrArg (tok b) (Fin.ext (by simp)))

theorem ext_eq (f : Fin 4096 → ℝ) (b : Fin 2) (s : ℤ) (q : Fin 4096) (h : (q.val : ℤ) = 2048 * b.val + s) (h0 : 0 ≤ s)
    (h1 : s < 2048) : ext f b s = f q := by
  rw [ext, dif_pos ⟨h0, h1⟩]
  exact congrArg f (Fin.ext (by simp only [tok]; omega))

theorem ext_out (f : Fin 4096 → ℝ) (b : Fin 2) (k : ℤ) (h : k < 0 ∨ 2048 ≤ k) : ext f b k = 0 :=
  dif_neg fun h' => by omega

/-- The logistic function. -/
def sg (a : ℝ) : ℝ := (1 + Real.exp (-a))⁻¹

/-- The constant under the root. -/
def eps : ℝ := 8796093 * 2 ^ (-43 : ℤ)

theorem eps_pos : 0 < eps := by unfold eps; positivity

namespace Data

variable (D : Data)

/-- The mean square of a token's row. -/
def ms (q : Fin 4096) : ℝ := (∑ d : Fin 1024, D.x q d * D.x q d) * (1 / 1024)

theorem ms_nonneg (q : Fin 4096) : 0 ≤ D.ms q :=
  mul_nonneg (Finset.sum_nonneg fun d _ => mul_self_nonneg _) (by norm_num)

theorem ms_eps_pos (q : Fin 4096) : 0 < D.ms q + eps := add_pos_of_nonneg_of_pos (D.ms_nonneg q) eps_pos

/-- The reciprocal root mean square of a token's row. -/
def r (q : Fin 4096) : ℝ := (Real.sqrt (D.ms q + eps))⁻¹

/-- The normalised row times the gain. -/
def h (q : Fin 4096) (d : Fin 1024) : ℝ := D.x q d * D.r q * D.gain d

/-- The up projection: the convolution's argument. -/
def pre (j : Fin 5632) (q : Fin 4096) : ℝ := ∑ d : Fin 1024, D.h q d * D.up d j

/-- The causal convolution of width three, channel by channel. -/
def conv (j : Fin 5632) (b : Fin 2) (s : ℤ) : ℝ :=
  D.taps 0 j * ext (D.pre j) b (s - 2) + D.taps 1 j * ext (D.pre j) b (s - 1) + D.taps 2 j * ext (D.pre j) b s

/-- The gradient of the gated activation: the result's gradient times the down projection transposed. -/
def dAct (m : Fin 2816) (q : Fin 4096) : ℝ := ∑ d : Fin 1024, D.ct q d * D.down m d

/-- The gradient of the convolution's result, zero outside the sequence. -/
def dPost (g : Fin 2) (m : Fin 2816) (b : Fin 2) (s : ℤ) : ℝ :=
  if g = 0 then
    ext (D.dAct m) b s * D.conv (chan 1 m) b s
      * (sg (D.conv (chan 0 m) b s) + D.conv (chan 0 m) b s * sg (D.conv (chan 0 m) b s)
        - D.conv (chan 0 m) b s * sg (D.conv (chan 0 m) b s) * sg (D.conv (chan 0 m) b s))
  else ext (D.dAct m) b s * (D.conv (chan 0 m) b s * sg (D.conv (chan 0 m) b s))

theorem dPost_out (g : Fin 2) (m : Fin 2816) (b : Fin 2) (s : ℤ) (h : s < 0 ∨ 2048 ≤ s) : D.dPost g m b s = 0 := by
  unfold dPost
  rw [ext_out _ _ _ h]
  split <;> ring

/-- The gradient of the convolution's argument. -/
def dPre (g : Fin 2) (m : Fin 2816) (b : Fin 2) (s : ℤ) : ℝ :=
  D.taps 2 (chan g m) * D.dPost g m b s + D.taps 1 (chan g m) * D.dPost g m b (s + 1)
    + D.taps 0 (chan g m) * D.dPost g m b (s + 2)

/-- The gradient of the convolution's weights. -/
def dTaps (g : Fin 2) (m : Fin 2816) (k : Fin 3) : ℝ :=
  ∑ q : Fin 4096, D.dPost g m (seqOf q) ((posOf q).val + (2 - k.val)) * D.pre (chan g m) q

/-- The gradient of the normalised row times the gain. -/
def dh (q : Fin 4096) (d : Fin 1024) : ℝ :=
  ∑ g : Fin 2, ∑ p : Fin 4, ∑ n : Fin 704,
    D.dPre g (sub p n) (seqOf q) (posOf q).val * D.up d (chan g (sub p n))

/-- The normalised row. -/
def xh (q : Fin 4096) (d : Fin 1024) : ℝ := D.x q d * D.r q

/-- The gradient of the normalised row. -/
def gd (q : Fin 4096) (d : Fin 1024) : ℝ := D.dh q d * D.gain d

/-- The gradient of the input. -/
def dx (q : Fin 4096) (d : Fin 1024) : ℝ :=
  D.r q * (D.gd q d - D.xh q d * ((∑ k : Fin 1024, D.gd q k * D.xh q k) * (1 / 1024))) + D.ct q d

/-- The gradient of the gain. -/
def dGain (d : Fin 1024) : ℝ := ∑ q : Fin 4096, D.dh q d * D.xh q d

end Data

end Cert.FfnBwd

end
-- ==== Proof.Args.lean ====
/-
  The arguments of both programs as arrays that hold real numbers, and the sums of real numbers met on both sides.
-/
module

public import proofs.«01_k».proof.Proof.Spec
public import Idealize.ShloMosaic.Lib.Pointwise
public import Idealize.ShloMosaic.Lib.IdealHost

@[expose] public section

noncomputable section

namespace Cert.FfnBwd

open Idealize.ShloMosaic

/-- A finite sum of real numbers, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The constants -/

theorem half_f32 : Ideal.ofBits .f32 0x3F000000#32 = ((1 / 2 : ℝ) : EReal) := by
  simp [Ideal.ofBits, Ideal.ieee, -EReal.coe_mul]; norm_num

theorem k1024_f32 : Ideal.ofBits .f32 0x44800000#32 = ((1024 : ℝ) : EReal) := by
  simp [Ideal.ofBits, Ideal.ieee, -EReal.coe_mul]; norm_num

theorem eps_f32 : Ideal.ofBits .f32 0x358637BD#32 = ((eps : ℝ) : EReal) := by
  simp [Ideal.ofBits, Ideal.ieee, eps, -EReal.coe_mul]

/-- The six argument arrays hold the real arrays of `D`. -/
structure Reals (x0 : FVec Ideal ⟨3, ![2, 2048, 1024]⟩ .f32) (x1 : FVec Ideal ⟨1, ![1024]⟩ .f32)
    (x2 : FVec Ideal ⟨2, ![1024, 5632]⟩ .f32) (x3 : FVec Ideal ⟨2, ![3, 5632]⟩ .f32) (x4 : FVec Ideal ⟨2, ![2816, 1024]⟩ .f32)
    (x5 : FVec Ideal ⟨3, ![2, 2048, 1024]⟩ .f32) (D : Data) : Prop where
  x : ∀ b s d, x0 (ix3 b s d) = ((D.x (tok b s) d : ℝ) : EReal)
  gain : ∀ d, x1 (ix1 d) = ((D.gain d : ℝ) : EReal)
  up : ∀ d j, x2 (ix2 d j) = ((D.up d j : ℝ) : EReal)
  taps : ∀ k j, x3 (ix2 k j) = ((D.taps k j : ℝ) : EReal)
  down : ∀ k d, x4 (ix2 k d) = ((D.down k d : ℝ) : EReal)
  ct : ∀ b s d, x5 (ix3 b s d) = ((D.ct (tok b s) d : ℝ) : EReal)

/-- The real array of a token row, read at a token. -/
theorem at_tok {n : ℕ} (f : Fin 4096 → Fin n → ℝ) (X : FVec Ideal ⟨3, ![2, 2048, n]⟩ .f32)
    (h : ∀ b s d, X (ix3 b s d) = ((f (tok b s) d : ℝ) : EReal)) (q : Fin 4096) (b : Fin 2) (s : Fin 2048) (d : Fin n)
    (hb : b.val = q.val / 2048) (hs : s.val = q.val % 2048) : X (ix3 b s d) = ((f q d : ℝ) : EReal) := by
  rw [h]
  exact congrArg (fun q => ((f q d : ℝ) : EReal)) (Fin.ext (by simp only [tok]; omega))

/-- The reciprocal root mean square of a token's row, as both programs compute it. -/
theorem rsqrt_ms (D : Data) (q : Fin 4096) :
    Ideal.rsqrt (Ideal.div ((∑ d : Fin 1024, D.x q d * D.x q d : ℝ) : EReal) (Ideal.ofBits .f32 0x44800000#32)
      + Ideal.ofBits .f32 0x358637BD#32) = ((D.r q : ℝ) : EReal) := by
  have hpos := D.ms_eps_pos q
  rw [k1024_f32, Ideal.div_coe (by norm_num), ← EReal.coe_mul, eps_f32, ← EReal.coe_add]
  show Ideal.rsqrt ((D.ms q + eps : ℝ) : EReal) = _
  rw [Ideal.rsqrt_coe, if_neg hpos.not_gt, if_neg hpos.ne']
  rfl

end Cert.FfnBwd

end
-- ==== Proof.Sums.lean ====
/-
  Sums over tokens cut in pieces, and loads of some of a block's rows: what the products of the other calls share.
-/
module

public import proofs.«01_k».proof.Proof.Spec
public import Idealize.ShloMosaic.Lib.Pointwise
public import Idealize.ShloMosaic.Lib.Pipeline.Value

@[expose] public section

noncomputable section

namespace Cert.FfnBwd

open Idealize.ShloMosaic

/-- A sum over sequences and places is a sum over tokens. -/
theorem sum_tok {M : Type} [AddCommMonoid M] (f : Fin 4096 → M) :
    ∑ k : Fin 2 × Fin 2048, f (tok k.1 k.2) = ∑ q : Fin 4096, f q := by
  refine Fintype.sum_bijective (fun k : Fin 2 × Fin 2048 => tok k.1 k.2) ⟨fun k k' e => ?_, fun q => ?_⟩ _ _ fun _ => rfl
  · have h0 := congrArg seqOf e
    have h1 := congrArg posOf e
    simp only [seqOf_tok, posOf_tok] at h0 h1
    exact Prod.ext h0 h1
  · exact ⟨(seqOf q, posOf q), tok_seqOf_posOf q⟩

/-- The same, as two sums. -/
theorem sum_seqs {M : Type} [AddCommMonoid M] (f : Fin 4096 → M) :
    ∑ b : Fin 2, ∑ s : Fin 2048, f (tok b s) = ∑ q : Fin 4096, f q :=
  (Fintype.sum_prod_type' fun b s => f (tok b s)).symm.trans (sum_tok f)

/-- A sum over a blocks of b is a sum over all. -/
theorem sum_blocks {M : Type} [AddCommMonoid M] (a b : ℕ) {n : ℕ} (h : n = a * b) (f : Fin n → M) :
    ∑ i : Fin a, ∑ j : Fin b, f ⟨b * i.val + j.val, by
      subst h; have := Nat.mul_le_mul_left b (Nat.succ_le_of_lt i.isLt); rw [Nat.mul_succ] at this
      rw [Nat.mul_comm a b]; omega⟩ = ∑ q : Fin n, f q := by
  subst h
  rw [← Fintype.sum_prod_type' fun (i : Fin a) (j : Fin b) => f ⟨b * i.val + j.val, _⟩]
  exact Fintype.sum_equiv finProdFinEquiv _ _ fun x => congrArg f (Fin.ext (Nat.add_comm _ _))

/-- A sum over the tokens as four sums over 1024 each. -/
theorem sum_quarters {M : Type} [AddCommMonoid M] (f : Fin 4096 → M) :
    (∑ k : Fin 1024, f ⟨0 + k.val, by omega⟩) + (∑ k : Fin 1024, f ⟨1024 + k.val, by omega⟩)
      + (∑ k : Fin 1024, f ⟨2048 + k.val, by omega⟩) + (∑ k : Fin 1024, f ⟨3072 + k.val, by omega⟩) = ∑ q : Fin 4096, f q := by
  rw [← sum_blocks 4 1024 (n := 4096) rfl f, Fin.sum_univ_four]
  rfl

/-- A sum over one sequence as two sums over 1024 each. -/
theorem sum_halves {M : Type} [AddCommMonoid M] (f : Fin 2048 → M) :
    (∑ k : Fin 1024, f ⟨0 + k.val, by omega⟩) + (∑ k : Fin 1024, f ⟨1024 + k.val, by omega⟩) = ∑ s : Fin 2048, f s := by
  rw [← sum_blocks 2 1024 (n := 2048) rfl f, Fin.sum_univ_two]
  rfl

section Loads

variable {F : FTy → Type} [FloatOps F]

/-- A load of `k` rows from row `o` on. -/
theorem ld_rows {e : EltTy} {n k w : ℕ} (X : Vec F ⟨2, ![n, w]⟩ e) (o : ℕ)
    (inb : ∀ a, (![o, 0] : Fin 2 → ℕ) a + (![k, w] : Fin 2 → ℕ) a ≤ (![n, w] : Fin 2 → ℕ) a) (r : Fin k) (j : Fin w) :
    View.ld X (Rect.unit (s := ⟨2, ![n, w]⟩) ![o, 0] ![k, w] inb) (ix2 r j)
      = X (ix2 ⟨o + r.val, by have := inb 0; simp at this; omega⟩ j) := by
  refine congrArg X (funext fun a => Fin.ext ?_)
  match a with
  | ⟨0, _⟩ => show o + 1 * r.val = o + r.val; omega
  | ⟨1, _⟩ => show 0 + 1 * j.val = j.val; omega

/-- A load of `k` rows from row `o` on, of a block with one layer. -/
theorem ld_rows_layer {e : EltTy} {n k w : ℕ} (X : Vec F ⟨3, ![1, n, w]⟩ e) (o : ℕ)
    (inb : ∀ a, (![0, o, 0] : Fin 3 → ℕ) a + (![1, k, w] : Fin 3 → ℕ) a ≤ (![1, n, w] : Fin 3 → ℕ) a)
    (z : Fin 1) (r : Fin k) (j : Fin w) :
    View.ld X (Rect.unit (s := ⟨3, ![1, n, w]⟩) ![0, o, 0] ![1, k, w] inb) (ix3 z r j)
      = X (ix3 0 ⟨o + r.val, by have := inb 1; simp at this; omega⟩ j) := by
  refine congrArg X (funext fun a => Fin.ext ?_)
  match a with
  | ⟨0, _⟩ => show 0 + 1 * z.val = 0; omega
  | ⟨1, _⟩ => show o + 1 * r.val = o + r.val; omega
  | ⟨2, _⟩ => show 0 + 1 * j.val = j.val; omega

theorem hz2 : (![0, 0] : Fin 2 → ℕ) = fun _ => 0 := by decide

theorem hz3 : (![0, 0, 0] : Fin 3 → ℕ) = fun _ => 0 := by decide

end Loads

end Cert.FfnBwd

end
-- ==== Proof.RefValue.lean ====
/-
  The reference's stages, on arguments that hold real numbers: each is the real function of the same name.
-/
module

public import proofs.«01_k».proof.Proof.Args
public import proofs.«01_k».proof.Proof.Sums
public import proofs.«01_k».proof.Proof.Gen.ReferenceIdeal.Read
public import Idealize.ShloMosaic.Lib.Pointwise

@[expose] public section

noncomputable section

namespace Cert.FfnBwd

open Idealize.ShloMosaic Cert.ReferenceIdeal Cert.ReferenceIdeal.Gen Cert.ReferenceIdeal.Read Idealize.ShloMosaic.TcCoe

/-! ## Sums -/

/-- A reduction of the first two axes adds over both. -/
theorem reduceAdd_front {n0 n1 n2 : ℕ} (h : (⟨3, ![n0, n1, n2]⟩ : Shape).ReducesTo [0, 1] ⟨1, ![n2]⟩)
    (v : (⟨3, ![n0, n1, n2]⟩ : Shape).Idx → EReal) (a : EReal) (d : Fin n2) :
    Ideal.hostReduceAdd h v a (ix1 d) = a + ∑ k : Fin n0 × Fin n1, v (ix3 k.1 k.2 d) := by
  refine congrArg (a + ·) (Finset.sum_filter_eq_sum_of_fiber _ (fun k : Fin n0 × Fin n1 => ix3 k.1 k.2 d)
    (fun k k' e => Prod.ext (congrFun e 0) (congrFun e 1)) (fun i => ⟨fun e => ⟨(i 0, i 1), ?_⟩, ?_⟩) v)
  · have e0 : i 2 = d := Fin.ext (congrArg Fin.val (congrFun e 0))
    exact (congrArg (ix3 (i 0) (i 1)) e0.symm).trans (ix3_eta i)
  · rintro ⟨k, rfl⟩
    funext z
    match z with
    | ⟨0, _⟩ => rfl

/-- A sum over channels is a sum over halves, chunks and places. -/
theorem sum_chan {M : Type} [AddCommMonoid M] (f : Fin 5632 → M) :
    ∑ j : Fin 5632, f j = ∑ g : Fin 2, ∑ p : Fin 4, ∑ n : Fin 704, f (chan g (sub p n)) := by
  have e : ∀ g : Fin 2, (∑ p : Fin 4, ∑ n : Fin 704, f (chan g (sub p n)))
      = ∑ k : Fin 4 × Fin 704, f (chan g (sub k.1 k.2)) := fun g =>
    (Fintype.sum_prod_type' fun p n => f (chan g (sub p n))).symm
  simp only [e]
  rw [← Fintype.sum_prod_type' fun g (k : Fin 4 × Fin 704) => f (chan g (sub k.1 k.2))]
  refine (Fintype.sum_bijective (fun k : Fin 2 × Fin 4 × Fin 704 => chan k.1 (sub k.2.1 k.2.2)) ⟨fun k k' e => ?_, fun j => ?_⟩ _ _
    fun _ => rfl).symm
  · have h := congrArg Fin.val e
    simp only [chan, sub] at h
    exact Prod.ext (Fin.ext (by omega)) (Prod.ext (Fin.ext (by omega)) (Fin.ext (by omega)))
  · refine ⟨(⟨j.val / 2816, by omega⟩, ⟨j.val % 2816 / 704, by omega⟩, ⟨j.val % 2816 % 704, by omega⟩), Fin.ext ?_⟩
    simp only [chan, sub]
    omega

/-- Moving one factor of a correlation against the other: both vanish outside the sequence. -/
theorem sum_shift (f : Fin 4096 → ℝ) (b : Fin 2) (G : ℤ → ℝ) (hG : ∀ s, 2048 ≤ s → G s = 0) (k : ℕ) :
    ∑ s : Fin 2048, ext f b ((s.val : ℤ) - k) * G s.val = ∑ s : Fin 2048, G ((s.val : ℤ) + k) * f (tok b s) := by
  have hR : ∀ s : Fin 2048, G ((s.val : ℤ) + k) * f (tok b s) = ext f b ((k + s.val : ℕ) - k : ℤ) * G ((k + s.val : ℕ) : ℤ) := by
    intro s
    rw [ext_pos f b s _ (by push_cast; ring), mul_comm]
    push_cast
    rw [add_comm]
  simp only [hR]
  rw [Fin.sum_univ_eq_sum_range (fun s : ℕ => ext f b ((s : ℤ) - k) * G s) 2048,
    Fin.sum_univ_eq_sum_range (fun s : ℕ => ext f b (((k + s : ℕ) : ℤ) - k) * G ((k + s : ℕ) : ℤ)) 2048]
  have h1 := Finset.sum_range_add (fun s : ℕ => ext f b ((s : ℤ) - k) * G s) 2048 k
  have h2 := Finset.sum_range_add (fun s : ℕ => ext f b ((s : ℤ) - k) * G s) k 2048
  have z1 : ∑ x ∈ Finset.range k, ext f b (((2048 + x : ℕ) : ℤ) - k) * G ((2048 + x : ℕ) : ℤ) = 0 :=
    Finset.sum_eq_zero fun x _ => by rw [hG _ (by push_cast; omega), mul_zero]
  have z2 : ∑ x ∈ Finset.range k, ext f b ((x : ℤ) - k) * G (x : ℤ) = 0 :=
    Finset.sum_eq_zero fun x hx => by
      rw [ext_out _ _ _ (Or.inl (by have := Finset.mem_range.mp hx; omega)), zero_mul]
  rw [z1, add_zero] at h1
  rw [z2, zero_add, add_comm k] at h2
  exact h1.symm.trans h2

theorem neg_half_f32 : Ideal.ofBits .f32 0xBF000000#32 = ((-(1 / 2) : ℝ) : EReal) := by
  simp [Ideal.ofBits, Ideal.ieee, -EReal.coe_mul]; norm_num

/-! ## The stages -/

variable {x0 : FVec Ideal S2x2048x1024 .f32} {x1 : FVec Ideal S1024 .f32} {x2 : FVec Ideal S1024x5632 .f32}
  {x3 : FVec Ideal S3x5632 .f32} {x4 : FVec Ideal S2816x1024 .f32} {x5 : FVec Ideal S2x2048x1024 .f32} {D : Data}
  (R : Reals x0 x1 x2 x3 x4 x5 D)
include R

theorem ref_ms (b : Fin 2) (s : Fin 2048) (z : Fin 1) :
    val_main_v6 (F := Ideal) x0 (ix3 b s z) = ((D.ms (tok b s) + eps : ℝ) : EReal) := by
  have e : val_main_v6 (F := Ideal) x0 (ix3 b s z)
      = Ideal.div (∑ d : Fin 1024, x0 (ix3 b s d) * x0 (ix3 b s d)) (Ideal.ofBits .f32 0x44800000#32)
        + Ideal.ofBits .f32 0x358637BD#32 := by
    pointwise [val_main_v6, val_main_v5, val_main_v4, val_main_v3, val_main_v2, val_main_v1, val_main_v0, val_main_cst,
      val_main_cst_0, val_main_cst_1]
  rw [e]
  simp only [R.x, ← EReal.coe_mul, coe_sum]
  rw [k1024_f32, Ideal.div_coe (by norm_num), ← EReal.coe_mul, eps_f32, ← EReal.coe_add]
  rfl

theorem ref_r (b : Fin 2) (s : Fin 2048) (z : Fin 1) :
    val_main_v7 (F := Ideal) x0 (ix3 b s z) = ((D.r (tok b s) : ℝ) : EReal) := by
  have e : val_main_v7 (F := Ideal) x0 (ix3 b s z)
      = Ideal.rsqrt (Ideal.div (∑ d : Fin 1024, x0 (ix3 b s d) * x0 (ix3 b s d)) (Ideal.ofBits .f32 0x44800000#32)
        + Ideal.ofBits .f32 0x358637BD#32) := by
    pointwise [val_main_v7, val_main_v6, val_main_v5, val_main_v4, val_main_v3, val_main_v2, val_main_v1, val_main_v0,
      val_main_cst, val_main_cst_0, val_main_cst_1]
  rw [e]
  simp only [R.x, ← EReal.coe_mul, coe_sum]
  exact rsqrt_ms D _

theorem ref_dr (b : Fin 2) (s : Fin 2048) (z : Fin 1) :
    val_main_v10 (F := Ideal) x0 (ix3 b s z) = ((-(1 / 2) * (D.r (tok b s) * (1 / (D.ms (tok b s) + eps))) : ℝ) : EReal) := by
  have e : val_main_v10 (F := Ideal) x0 (ix3 b s z) = Ideal.ofBits .f32 0xBF000000#32
      * Ideal.div (val_main_v7 (F := Ideal) x0 (ix3 b s z)) (val_main_v6 (F := Ideal) x0 (ix3 b s z)) := by
    pointwise [val_main_v10, val_main_v9, val_main_v8, val_main_cst_2]
  rw [e, ref_r R, ref_ms R, Ideal.div_coe (D.ms_eps_pos _).ne', neg_half_f32, ← EReal.coe_mul, ← EReal.coe_mul]

theorem ref_xh (b : Fin 2) (s : Fin 2048) (d : Fin 1024) :
    val_main_v12 (F := Ideal) x0 (ix3 b s d) = ((D.xh (tok b s) d : ℝ) : EReal) := by
  have e : val_main_v12 (F := Ideal) x0 (ix3 b s d) = x0 (ix3 b s d) * val_main_v7 (F := Ideal) x0 (ix3 b s 0) := by
    pointwise [val_main_v12, val_main_v11]
  rw [e, ref_r R, R.x, ← EReal.coe_mul]
  rfl

theorem ref_pre (b : Fin 2) (s : Fin 2048) (j : Fin 5632) :
    val_main_v16 (F := Ideal) x0 x1 x2 (ix3 b s j) = ((D.pre j (tok b s) : ℝ) : EReal) := by
  have e : val_main_v16 (F := Ideal) x0 x1 x2 (ix3 b s j)
      = ∑ d : Fin 1024, x0 (ix3 b s d) * val_main_v7 (F := Ideal) x0 (ix3 b s 0) * x1 (ix1 d) * x2 (ix2 d j) := by
    pointwise [val_main_v16, val_main_v15, val_main_v14, val_main_v13, val_main_v12, val_main_v11]
  rw [e]
  simp only [ref_r R, R.x, R.gain, R.up, ← EReal.coe_mul, coe_sum]
  rfl

/-- The convolution's argument with two zero rows in front of each sequence. -/
theorem ref_win (b : Fin 2) (s : Fin 2050) (j : Fin 5632) :
    val_main_v18 (F := Ideal) x0 x1 x2 (ix3 b s j) = ((ext (D.pre j) b ((s.val : ℤ) - 2) : ℝ) : EReal) := by
  have e : val_main_v18 (F := Ideal) x0 x1 x2 (ix3 b s j)
      = if h : s.val < 2 then 0 else val_main_v16 (F := Ideal) x0 x1 x2 (ix3 b ⟨s.val - 2, by omega⟩ j) := by
    pointwise [val_main_v18, val_main_v17, val_main_cst_3]
  rw [e]
  by_cases h : s.val < 2
  · rw [dif_pos h, ext_out _ _ _ (Or.inl (by omega))]
    rfl
  · rw [dif_neg h, ref_pre R, ext_pos (D.pre j) b ⟨s.val - 2, by omega⟩ _ (by dsimp only; omega)]

theorem ref_conv (b : Fin 2) (s : Fin 2048) (j : Fin 5632) :
    val_main_v41 (F := Ideal) x0 x1 x2 x3 (ix3 b s j) = ((D.conv j b s.val : ℝ) : EReal) := by
  have e : val_main_v41 (F := Ideal) x0 x1 x2 x3 (ix3 b s j)
      = val_main_v18 (F := Ideal) x0 x1 x2 (ix3 b ⟨s.val, by omega⟩ j) * x3 (ix2 0 j)
        + val_main_v18 (F := Ideal) x0 x1 x2 (ix3 b ⟨1 + s.val, by omega⟩ j) * x3 (ix2 1 j)
        + val_main_v18 (F := Ideal) x0 x1 x2 (ix3 b ⟨2 + s.val, by omega⟩ j) * x3 (ix2 2 j) := by
    pointwise [val_main_v41, val_main_v40, val_main_v39, val_main_v38, val_main_v37, val_main_v36, val_main_v35, val_main_v34,
      val_main_v33, val_main_v32, val_main_v31, val_main_v30, val_main_v29, val_main_v28, val_main_v27, val_main_v26,
      val_main_v25, val_main_v24, val_main_v23, val_main_v22, val_main_v21, val_main_v20, val_main_cst_5]
  rw [e]
  simp only [ref_win R, R.taps, ← EReal.coe_mul, ← EReal.coe_add]
  unfold Data.conv
  refine congrArg _ ?_
  have h1 : (((1 + s.val : ℕ) : ℤ) - 2) = (s.val : ℤ) - 1 := by push_cast; ring
  have h2 : (((2 + s.val : ℕ) : ℤ) - 2) = (s.val : ℤ) := by push_cast; ring
  rw [h1, h2]
  ring

theorem ref_gate (b : Fin 2) (s : Fin 2048) (m : Fin 2816) :
    val_main_v42 (F := Ideal) x0 x1 x2 x3 (ix3 b s m) = ((D.conv (chan 0 m) b s.val : ℝ) : EReal) := by
  have e : val_main_v42 (F := Ideal) x0 x1 x2 x3 (ix3 b s m)
      = val_main_v41 (F := Ideal) x0 x1 x2 x3 (ix3 b s ⟨m.val, by omega⟩) := by
    pointwise [val_main_v42]
  have hc : (⟨m.val, by omega⟩ : Fin 5632) = chan 0 m := Fin.ext (by simp [chan])
  rw [e, hc, ref_conv R]

theorem ref_value (b : Fin 2) (s : Fin 2048) (m : Fin 2816) :
    val_main_v43 (F := Ideal) x0 x1 x2 x3 (ix3 b s m) = ((D.conv (chan 1 m) b s.val : ℝ) : EReal) := by
  have e : val_main_v43 (F := Ideal) x0 x1 x2 x3 (ix3 b s m)
      = val_main_v41 (F := Ideal) x0 x1 x2 x3 (ix3 b s ⟨2816 + m.val, by omega⟩) := by
    pointwise [val_main_v43]
  have hc : (⟨2816 + m.val, by omega⟩ : Fin 5632) = chan 1 m := Fin.ext (by simp [chan])
  rw [e, hc, ref_conv R]

theorem ref_sg (b : Fin 2) (s : Fin 2048) (m : Fin 2816) :
    val_main_v44_2 (F := Ideal) x0 x1 x2 x3 (ix3 b s m) = ((sg (D.conv (chan 0 m) b s.val) : ℝ) : EReal) := by
  have e : val_main_v44_2 (F := Ideal) x0 x1 x2 x3 (ix3 b s m)
      = Ideal.div 1 (1 + Ideal.exp (-val_main_v42 (F := Ideal) x0 x1 x2 x3 (ix3 b s m))) := by
    pointwise [val_main_v44_2, val_main_call0_v4, val_main_call0_v3, val_main_call0_v2, val_main_call0_v1, val_main_call0_v0,
      val_main_call0_cst, val_main_call0_cst_0]
  have hp : (1 + Real.exp (-D.conv (chan 0 m) b s.val)) ≠ 0 := (add_pos one_pos (Real.exp_pos _)).ne'
  rw [e, ref_gate R, ← EReal.coe_neg, Ideal.exp_coe, ← EReal.coe_one, ← EReal.coe_add, Ideal.div_coe hp, ← EReal.coe_mul, sg]
  simp

theorem ref_dAct (b : Fin 2) (s : Fin 2048) (m : Fin 2816) :
    val_main_v47 (F := Ideal) x4 x5 (ix3 b s m) = ((D.dAct m (tok b s) : ℝ) : EReal) := by
  have e : val_main_v47 (F := Ideal) x4 x5 (ix3 b s m) = ∑ d : Fin 1024, x5 (ix3 b s d) * x4 (ix2 m d) := by
    pointwise [val_main_v47]
  rw [e]
  simp only [R.ct, R.down, ← EReal.coe_mul, coe_sum]
  rfl

theorem ref_dGate (b : Fin 2) (s : Fin 2048) (m : Fin 2816) :
    val_main_v50 (F := Ideal) x0 x1 x2 x3 x4 x5 (ix3 b s m) = ((D.dPost 0 m b s.val : ℝ) : EReal) := by
  have e : val_main_v50 (F := Ideal) x0 x1 x2 x3 x4 x5 (ix3 b s m)
      = val_main_v47 (F := Ideal) x4 x5 (ix3 b s m) * val_main_v43 (F := Ideal) x0 x1 x2 x3 (ix3 b s m)
          * val_main_v44_2 (F := Ideal) x0 x1 x2 x3 (ix3 b s m)
        + val_main_v42 (F := Ideal) x0 x1 x2 x3 (ix3 b s m)
          * (val_main_v47 (F := Ideal) x4 x5 (ix3 b s m) * val_main_v43 (F := Ideal) x0 x1 x2 x3 (ix3 b s m))
          * (val_main_v44_2 (F := Ideal) x0 x1 x2 x3 (ix3 b s m) * (1 - val_main_v44_2 (F := Ideal) x0 x1 x2 x3 (ix3 b s m))) := by
    pointwise [val_main_v50, val_main_call1_v2, val_main_call1_v1, val_main_call1_v0, val_main_v49, val_main_v44_1,
      val_main_call0_v7, val_main_call0_v6, val_main_call0_cst_1]
  rw [e, ref_dAct R, ref_value R, ref_gate R, ref_sg R]
  have h1 : (1 : EReal) = ((1 : ℝ) : EReal) := rfl
  rw [h1]
  simp only [← EReal.coe_mul, ← EReal.coe_sub, ← EReal.coe_add]
  refine congrArg _ ?_
  rw [Data.dPost, if_pos rfl, ext_pos (D.dAct m) b s _ rfl]
  ring

theorem ref_dValue (b : Fin 2) (s : Fin 2048) (m : Fin 2816) :
    val_main_v48 (F := Ideal) x0 x1 x2 x3 x4 x5 (ix3 b s m) = ((D.dPost 1 m b s.val : ℝ) : EReal) := by
  have e : val_main_v48 (F := Ideal) x0 x1 x2 x3 x4 x5 (ix3 b s m)
      = val_main_v42 (F := Ideal) x0 x1 x2 x3 (ix3 b s m) * val_main_v44_2 (F := Ideal) x0 x1 x2 x3 (ix3 b s m)
        * val_main_v47 (F := Ideal) x4 x5 (ix3 b s m) := by
    pointwise [val_main_v48, val_main_v44_0]
  rw [e, ref_dAct R, ref_gate R, ref_sg R]
  simp only [← EReal.coe_mul]
  refine congrArg _ ?_
  rw [Data.dPost, if_neg (by decide), ext_pos (D.dAct m) b s _ rfl]
  ring

theorem ref_dPost (b : Fin 2) (s : Fin 2048) (g : Fin 2) (m : Fin 2816) :
    val_main_v51 (F := Ideal) x0 x1 x2 x3 x4 x5 (ix3 b s (chan g m)) = ((D.dPost g m b s.val : ℝ) : EReal) := by
  have e : ∀ j : Fin 5632, val_main_v51 (F := Ideal) x0 x1 x2 x3 x4 x5 (ix3 b s j)
      = if h : j.val < 2816 then val_main_v50 (F := Ideal) x0 x1 x2 x3 x4 x5 (ix3 b s ⟨j.val, h⟩)
        else val_main_v48 (F := Ideal) x0 x1 x2 x3 x4 x5 (ix3 b s ⟨j.val - 2816, by omega⟩) := by
    intro j
    pointwise [val_main_v51]
  rw [e]
  match g with
  | 0 =>
    have h : (chan 0 m).val < 2816 := by simp [chan]
    rw [dif_pos h, ref_dGate R]
    exact congrArg (fun k => ((D.dPost 0 k b s.val : ℝ) : EReal)) (Fin.ext (by simp [chan]))
  | 1 =>
    have h : ¬ (chan 1 m).val < 2816 := by simp [chan]
    rw [dif_neg h, ref_dValue R]
    exact congrArg (fun k => ((D.dPost 1 k b s.val : ℝ) : EReal)) (Fin.ext (by simp [chan]))

theorem ref_dPre (b : Fin 2) (s : Fin 2048) (g : Fin 2) (m : Fin 2816) :
    val_main_v84 (F := Ideal) x0 x1 x2 x3 x4 x5 (ix3 b s (chan g m)) = ((D.dPre g m b s.val : ℝ) : EReal) := by
  have e : ∀ j : Fin 5632, val_main_v84 (F := Ideal) x0 x1 x2 x3 x4 x5 (ix3 b s j)
      = (val_main_v51 (F := Ideal) x0 x1 x2 x3 x4 x5 (ix3 b s j) * x3 (ix2 2 j)
        + if h : 1 ≤ 2 + s.val ∧ 2 + s.val - 1 < 2048 then
            val_main_v51 (F := Ideal) x0 x1 x2 x3 x4 x5 (ix3 b ⟨2 + s.val - 1, h.2⟩ j) * x3 (ix2 1 j) else 0)
        + if h : 2 + s.val < 2048 then
            val_main_v51 (F := Ideal) x0 x1 x2 x3 x4 x5 (ix3 b ⟨2 + s.val, h⟩ j) * x3 (ix2 0 j) else 0 := by
    intro j
    pointwise [val_main_v84, val_main_v82, val_main_v81, val_main_v76, val_main_v75, val_main_v71, val_main_v70, val_main_v65,
      val_main_v64, val_main_v60, val_main_v56, val_main_v55, val_main_v38, val_main_v37, val_main_v36, val_main_v31,
      val_main_v30, val_main_v29, val_main_v23, val_main_v22, val_main_v21, val_main_cst_9, val_main_cst_13, val_main_cst_17]
  have h1 : (if h : 1 ≤ 2 + s.val ∧ 2 + s.val - 1 < 2048 then
      val_main_v51 (F := Ideal) x0 x1 x2 x3 x4 x5 (ix3 b ⟨2 + s.val - 1, h.2⟩ (chan g m)) * x3 (ix2 1 (chan g m)) else 0)
      = ((D.dPost g m b ((s.val : ℤ) + 1) * D.taps 1 (chan g m) : ℝ) : EReal) := by
    by_cases h : 2 + s.val - 1 < 2048
    · have hc : (((2 + s.val - 1 : ℕ)) : ℤ) = (s.val : ℤ) + 1 := by omega
      rw [dif_pos ⟨by omega, h⟩, ref_dPost R, R.taps, ← EReal.coe_mul]
      dsimp only
      rw [hc]
    · rw [dif_neg (fun h' => h h'.2), D.dPost_out _ _ _ _ (Or.inr (by omega)), zero_mul]
      rfl
  have h2 : (if h : 2 + s.val < 2048 then
      val_main_v51 (F := Ideal) x0 x1 x2 x3 x4 x5 (ix3 b ⟨2 + s.val, h⟩ (chan g m)) * x3 (ix2 0 (chan g m)) else 0)
      = ((D.dPost g m b ((s.val : ℤ) + 2) * D.taps 0 (chan g m) : ℝ) : EReal) := by
    by_cases h : 2 + s.val < 2048
    · have hc : (((2 + s.val : ℕ)) : ℤ) = (s.val : ℤ) + 2 := by omega
      rw [dif_pos h, ref_dPost R, R.taps, ← EReal.coe_mul]
      dsimp only
      rw [hc]
    · rw [dif_neg h, D.dPost_out _ _ _ _ (Or.inr (by omega)), zero_mul]
      rfl
  rw [e, h1, h2, ref_dPost R, R.taps, ← EReal.coe_mul, ← EReal.coe_add, ← EReal.coe_add]
  refine congrArg _ ?_
  unfold Data.dPre
  ring

/-! ## The convolution's weights -/

omit R in
/-- One tap's gradient: what the reference adds for it. -/
theorem tap_sum (A B : FVec Ideal S2x2048x5632 .f32) (j : Fin 5632) :
    Host.reduceAdd (shapeCast S1x1x5632 (Host.reduceAdd (mulf A B) (constant (F := Ideal) S_ .f32 0x00000000#32)
      reducesTo_S2x2048x5632_S5632_d0_1 h_S_) shapeCasts_S5632_S1x1x5632) (constant (F := Ideal) S_ .f32 0x00000000#32)
      reducesTo_S1x1x5632_S5632_d0_1 h_S_ (ix1 j)
      = ∑ k : Fin 2 × Fin 2048, A (ix3 k.1 k.2 j) * B (ix3 k.1 k.2 j) := by
  pointwise []
  rw [reduceAdd_front, zero_add]
  rw [Fintype.sum_eq_single ((0 : Fin 1), (0 : Fin 1)) (fun x hx => absurd (Subsingleton.elim x _) hx)]
  pointwise []
  rw [reduceAdd_front, zero_add]
  rfl

/-- The correlation of the shifted rows with the convolution's gradient, over all tokens. -/
theorem tap_val (g : Fin 2) (m : Fin 2816) (k : Fin 3) (A : FVec Ideal S2x2048x5632 .f32)
    (hA : ∀ b s, A (ix3 b s (chan g m)) = ((ext (D.pre (chan g m)) b ((s.val : ℤ) - (2 - k.val : ℕ)) : ℝ) : EReal)) :
    ∑ q : Fin 2 × Fin 2048, A (ix3 q.1 q.2 (chan g m)) * val_main_v51 (F := Ideal) x0 x1 x2 x3 x4 x5 (ix3 q.1 q.2 (chan g m))
      = ((D.dTaps g m k : ℝ) : EReal) := by
  simp only [hA, ref_dPost R, ← EReal.coe_mul, coe_sum]
  refine congrArg _ ?_
  unfold Data.dTaps
  rw [← sum_tok, Fintype.sum_prod_type, Fintype.sum_prod_type]
  refine Finset.sum_congr rfl fun b _ => ?_
  simp only [seqOf_tok, posOf_tok]
  rw [sum_shift (D.pre (chan g m)) b (D.dPost g m b) (fun s hs => D.dPost_out _ _ _ _ (Or.inr hs)) (2 - k.val)]
  have hk : ((2 - k.val : ℕ) : ℤ) = 2 - (k.val : ℤ) := by omega
  rw [hk]

theorem ref_dTaps (k : Fin 3) (g : Fin 2) (m : Fin 2816) :
    val_main_v80 (F := Ideal) x0 x1 x2 x3 x4 x5 (ix2 k (chan g m)) = ((D.dTaps g m k : ℝ) : EReal) := by
  have t2 : val_main_v57 (F := Ideal) x0 x1 x2 x3 x4 x5 (ix1 (chan g m)) = ((D.dTaps g m 2 : ℝ) : EReal) :=
    (tap_sum _ _ _).trans (tap_val R g m 2 _ fun b s => by
      have e : val_main_v35 (F := Ideal) x0 x1 x2 (ix3 b s (chan g m))
          = val_main_v18 (F := Ideal) x0 x1 x2 (ix3 b ⟨2 + s.val, by omega⟩ (chan g m)) := by pointwise [val_main_v35]
      rw [e, ref_win R]
      exact congrArg (fun s => ((ext (D.pre (chan g m)) b s : ℝ) : EReal)) (by show _ = (s.val : ℤ) - ((0 : ℕ) : ℤ); push_cast; ring))
  have t1 : val_main_v66 (F := Ideal) x0 x1 x2 x3 x4 x5 (ix1 (chan g m)) = ((D.dTaps g m 1 : ℝ) : EReal) :=
    (tap_sum _ _ _).trans (tap_val R g m 1 _ fun b s => by
      have e : val_main_v28 (F := Ideal) x0 x1 x2 (ix3 b s (chan g m))
          = val_main_v18 (F := Ideal) x0 x1 x2 (ix3 b ⟨1 + s.val, by omega⟩ (chan g m)) := by pointwise [val_main_v28]
      rw [e, ref_win R]
      exact congrArg (fun s => ((ext (D.pre (chan g m)) b s : ℝ) : EReal)) (by show _ = (s.val : ℤ) - ((1 : ℕ) : ℤ); push_cast; ring))
  have t0 : val_main_v77 (F := Ideal) x0 x1 x2 x3 x4 x5 (ix1 (chan g m)) = ((D.dTaps g m 0 : ℝ) : EReal) :=
    (tap_sum _ _ _).trans (tap_val R g m 0 _ fun b s => by
      have e : val_main_v20 (F := Ideal) x0 x1 x2 (ix3 b s (chan g m))
          = val_main_v18 (F := Ideal) x0 x1 x2 (ix3 b ⟨s.val, by omega⟩ (chan g m)) := by pointwise [val_main_v20]
      rw [e, ref_win R]
      exact congrArg (fun s => ((ext (D.pre (chan g m)) b s : ℝ) : EReal)) (by show _ = (s.val : ℤ) - ((2 : ℕ) : ℤ); push_cast; ring))
  match k with
  | 0 =>
    have e : ∀ j, val_main_v80 (F := Ideal) x0 x1 x2 x3 x4 x5 (ix2 0 j) = val_main_v77 (F := Ideal) x0 x1 x2 x3 x4 x5 (ix1 j) := by
      intro j
      pointwise [val_main_v80, val_main_v79, val_main_v78, val_main_v69, val_main_v68, val_main_v67, val_main_v59, val_main_v58,
        val_main_cst_8, val_main_cst_12, val_main_cst_16]
    rw [e, t0]
  | 1 =>
    have e : ∀ j, val_main_v80 (F := Ideal) x0 x1 x2 x3 x4 x5 (ix2 1 j) = val_main_v66 (F := Ideal) x0 x1 x2 x3 x4 x5 (ix1 j) := by
      intro j
      pointwise [val_main_v80, val_main_v79, val_main_v78, val_main_v69, val_main_v68, val_main_v67, val_main_v59, val_main_v58,
        val_main_cst_8, val_main_cst_12, val_main_cst_16]
    rw [e, t1]
  | 2 =>
    have e : ∀ j, val_main_v80 (F := Ideal) x0 x1 x2 x3 x4 x5 (ix2 2 j) = val_main_v57 (F := Ideal) x0 x1 x2 x3 x4 x5 (ix1 j) := by
      intro j
      pointwise [val_main_v80, val_main_v79, val_main_v78, val_main_v69, val_main_v68, val_main_v67, val_main_v59, val_main_v58,
        val_main_cst_8, val_main_cst_12, val_main_cst_16]
    rw [e, t2]

/-! ## The norm -/

theorem ref_dh (b : Fin 2) (s : Fin 2048) (d : Fin 1024) :
    val_main_v85 (F := Ideal) x0 x1 x2 x3 x4 x5 (ix3 b s d) = ((D.dh (tok b s) d : ℝ) : EReal) := by
  have e : val_main_v85 (F := Ideal) x0 x1 x2 x3 x4 x5 (ix3 b s d)
      = ∑ j : Fin 5632, val_main_v84 (F := Ideal) x0 x1 x2 x3 x4 x5 (ix3 b s j) * x2 (ix2 d j) := by
    pointwise [val_main_v85]
  rw [e, sum_chan]
  simp only [ref_dPre R, R.up, ← EReal.coe_mul, coe_sum]
  unfold Data.dh
  rw [seqOf_tok, posOf_tok]

theorem ref_dGain (d : Fin 1024) :
    val_main_v116 (F := Ideal) x0 x1 x2 x3 x4 x5 (ix2 0 d) = ((D.dGain d : ℝ) : EReal) := by
  have e : val_main_v116 (F := Ideal) x0 x1 x2 x3 x4 x5 (ix2 0 d) = ∑ k : Fin 2 × Fin 2048,
      val_main_v12 (F := Ideal) x0 (ix3 k.1 k.2 d) * val_main_v85 (F := Ideal) x0 x1 x2 x3 x4 x5 (ix3 k.1 k.2 d) := by
    pointwise [val_main_v116, val_main_v91, val_main_v88, val_main_v87, val_main_v86, val_main_cst_18, val_main_cst_19]
    rw [reduceAdd_front, zero_add]
    rw [Fintype.sum_eq_single ((0 : Fin 1), (0 : Fin 1)) (fun x hx => absurd (Subsingleton.elim x _) hx)]
    pointwise []
    rw [reduceAdd_front, zero_add]
    rfl
  rw [e]
  simp only [ref_xh R, ref_dh R, ← EReal.coe_mul, coe_sum]
  rw [sum_tok (fun q => D.xh q d * D.dh q d)]
  refine congrArg _ (Finset.sum_congr rfl fun q _ => mul_comm _ _)

theorem ref_dx (b : Fin 2) (s : Fin 2048) (d : Fin 1024) :
    x5 (ix3 b s d) + val_main_v105 (F := Ideal) x0 x1 x2 x3 x4 x5 (ix3 b s d) = ((D.dx (tok b s) d : ℝ) : EReal) := by
  have e : val_main_v105 (F := Ideal) x0 x1 x2 x3 x4 x5 (ix3 b s d)
      = val_main_v85 (F := Ideal) x0 x1 x2 x3 x4 x5 (ix3 b s d) * x1 (ix1 d) * val_main_v7 (F := Ideal) x0 (ix3 b s 0)
        + x0 (ix3 b s d) * (∑ z : Fin 1, Ideal.div ((∑ k : Fin 1024, x0 (ix3 b s k)
            * (val_main_v85 (F := Ideal) x0 x1 x2 x3 x4 x5 (ix3 b s k) * x1 (ix1 k))) * val_main_v10 (F := Ideal) x0 (ix3 b s z))
            (Ideal.ofBits .f32 0x44800000#32))
        + (∑ z : Fin 1, Ideal.div ((∑ k : Fin 1024, x0 (ix3 b s k)
            * (val_main_v85 (F := Ideal) x0 x1 x2 x3 x4 x5 (ix3 b s k) * x1 (ix1 k))) * val_main_v10 (F := Ideal) x0 (ix3 b s z))
            (Ideal.ofBits .f32 0x44800000#32)) * x0 (ix3 b s d) := by
    pointwise [val_main_v105, val_main_v104, val_main_v103, val_main_v102, val_main_v101, val_main_v100, val_main_v99,
      val_main_v98, val_main_v97, val_main_v96, val_main_v95, val_main_v94, val_main_v93, val_main_v92, val_main_v90,
      val_main_v89, val_main_v13, val_main_cst_20, val_main_cst_21, val_main_cst_22]
  rw [e, Fintype.sum_eq_single (0 : Fin 1) (fun x hx => absurd (Subsingleton.elim x _) hx)]
  simp only [ref_dh R, ref_r R, ref_dr R, R.x, R.gain, R.ct, ← EReal.coe_mul, coe_sum]
  rw [k1024_f32, Ideal.div_coe (by norm_num)]
  simp only [← EReal.coe_mul, ← EReal.coe_add]
  refine congrArg _ ?_
  generalize tok b s = q
  unfold Data.dx
  have hs : ∑ k : Fin 1024, D.gd q k * D.xh q k = D.r q * ∑ k : Fin 1024, D.x q k * (D.dh q k * D.gain k) := by
    rw [Finset.mul_sum]
    refine Finset.sum_congr rfl fun k _ => ?_
    unfold Data.gd Data.xh
    ring
  have hr : D.r q * D.r q = 1 / (D.ms q + eps) := by
    unfold Data.r
    rw [← mul_inv, Real.mul_self_sqrt (D.ms_eps_pos q).le, one_div]
  rw [hs, ← hr]
  unfold Data.gd Data.xh
  ring

/-! ## The results -/

theorem ref_res_dPre (g : Fin 2) (p : Fin 4) (q : Fin 4096) (n : Fin 704) :
    val_main_v108 (F := Ideal) x0 x1 x2 x3 x4 x5 (ix4 g p q n) = ((D.dPre g (sub p n) (seqOf q) (posOf q).val : ℝ) : EReal) := by
  have e : val_main_v108 (F := Ideal) x0 x1 x2 x3 x4 x5 (ix4 g p q n) = val_main_v84 (F := Ideal) x0 x1 x2 x3 x4 x5
      (ix3 ⟨q.val / 2048, by omega⟩ ⟨q.val % 2048, by omega⟩ ⟨g.val * 2816 + p.val * 704 + n.val, by omega⟩) := by
    pointwise [val_main_v108, val_main_v107, val_main_v106]
  have hc : (⟨g.val * 2816 + p.val * 704 + n.val, by omega⟩ : Fin 5632) = chan g (sub p n) :=
    Fin.ext (by simp only [chan, sub]; omega)
  rw [e, hc, ref_dPre R]
  rfl

theorem ref_res_dTaps (g : Fin 2) (p : Fin 4) (k : Fin 3) (n : Fin 704) :
    val_main_v110 (F := Ideal) x0 x1 x2 x3 x4 x5 (ix4 g p k n) = ((D.dTaps g (sub p n) k : ℝ) : EReal) := by
  have e : val_main_v110 (F := Ideal) x0 x1 x2 x3 x4 x5 (ix4 g p k n) = val_main_v80 (F := Ideal) x0 x1 x2 x3 x4 x5
      (ix2 k ⟨g.val * 2816 + p.val * 704 + n.val, by omega⟩) := by
    pointwise [val_main_v110, val_main_v109]
  have hc : (⟨g.val * 2816 + p.val * 704 + n.val, by omega⟩ : Fin 5632) = chan g (sub p n) :=
    Fin.ext (by simp only [chan, sub]; omega)
  rw [e, hc, ref_dTaps R]

theorem ref_res_dx (q : Fin 4096) (d : Fin 1024) :
    val_main_v112 (F := Ideal) x0 x1 x2 x3 x4 x5 (ix2 q d) = ((D.dx q d : ℝ) : EReal) := by
  have e : val_main_v112 (F := Ideal) x0 x1 x2 x3 x4 x5 (ix2 q d) = x5 (ix3 (seqOf q) (posOf q) d)
      + val_main_v105 (F := Ideal) x0 x1 x2 x3 x4 x5 (ix3 (seqOf q) (posOf q) d) := by
    pointwise [val_main_v112, val_main_v111]
    rfl
  rw [e, ref_dx R, tok_seqOf_posOf]

theorem ref_res_dxb (q : Fin 4096) (d : Fin 1024) :
    val_main_v115 (F := Ideal) x0 x1 x2 x3 x4 x5 (ix2 q d) = ((D.dx q d : ℝ) : EReal) := by
  have e : val_main_v115 (F := Ideal) x0 x1 x2 x3 x4 x5 (ix2 q d) = x5 (ix3 (seqOf q) (posOf q) d)
      + val_main_v105 (F := Ideal) x0 x1 x2 x3 x4 x5 (ix3 (seqOf q) (posOf q) d) := by
    pointwise [val_main_v115, val_main_v114, val_main_v113]
    rfl
  rw [e, ref_dx R, tok_seqOf_posOf]

end Cert.FfnBwd

end
-- ==== Proof.InBwd.lean ====
/-
  The gradient behind the mixer's input projection: the projection's gradient at the normalised row, then the norm's gradient with the
  residual's added. The functions on extended reals both programs' results are equal to, and the reference read.
-/
module

public import proofs.«01_k».proof.Proof.RefValue
public import proofs.«01_k».proof.Proof.Sums
public import proofs.«01_k».proof.Proof.Gen.Reference2Ideal.Read

@[expose] public section

noncomputable section

namespace Cert.InBwd

open Idealize.ShloMosaic
open Cert.FfnBwd (k1024_f32 tok seqOf posOf seqOf_tok posOf_tok tok_seqOf_posOf eps eps_f32 neg_half_f32 reduceAdd_front)

/-! ## The norm of a row, backwards -/

/-- The mean square of a row, with the constant added. -/
def meanSq (x : Fin 1024 → EReal) : EReal :=
  Ideal.div (∑ k : Fin 1024, x k * x k) (Ideal.ofBits .f32 0x44800000#32) + Ideal.ofBits .f32 0x358637BD#32

/-- The factor a row is normalised with. -/
def root (x : Fin 1024 → EReal) : EReal := Ideal.rsqrt (meanSq x)

/-- The gradient at the row `x`, of the gradient `t` at the normalised row; `c` is added. -/
def back (x t : Fin 1024 → EReal) (c : EReal) (d : Fin 1024) : EReal :=
  root x * (t d - x d * root x * Ideal.div (∑ k : Fin 1024, t k * (x k * root x)) (Ideal.ofBits .f32 0x44800000#32)) + c

/-- What the derivative of the root of the mean square contributes at every entry. -/
def pull (x t : Fin 1024 → EReal) : EReal :=
  Ideal.div ((∑ k : Fin 1024, x k * t k) * (Ideal.ofBits .f32 0xBF000000#32 * Ideal.div (root x) (meanSq x)))
    (Ideal.ofBits .f32 0x44800000#32)

theorem square_nonneg (x : EReal) : 0 ≤ x * x := by
  induction x with
  | bot => simp
  | top => simp
  | coe x => rw [← EReal.coe_mul]; exact EReal.coe_nonneg.mpr (mul_self_nonneg x)

/-- A mean square is infinite or a positive real number. -/
theorem meanSq_cases (x : Fin 1024 → EReal) : meanSq x = ⊤ ∨ ∃ v : ℝ, 0 < v ∧ meanSq x = (v : EReal) := by
  have hs : 0 ≤ ∑ k : Fin 1024, x k * x k := Finset.sum_nonneg fun k _ => square_nonneg _
  have heps : (0 : ℝ) < eps := Cert.FfnBwd.eps_pos
  unfold meanSq
  rw [k1024_f32, Ideal.div_coe (by norm_num), eps_f32]
  generalize ∑ k : Fin 1024, x k * x k = y at hs
  induction y with
  | bot => exact absurd hs (by simp)
  | top =>
    left
    rw [EReal.top_mul_coe_of_pos (by norm_num)]
    rfl
  | coe y =>
    right
    refine ⟨y * (1 / 1024) + eps, ?_, ?_⟩
    · have := EReal.coe_nonneg.mp hs
      positivity
    · rw [← EReal.coe_mul, ← EReal.coe_add]

theorem sum_mul_coe (f : Fin 1024 → EReal) (r : ℝ) (hr : 0 ≤ r) : ∑ k : Fin 1024, f k * (r : EReal) = (∑ k : Fin 1024, f k) * (r : EReal) := by
  induction (Finset.univ : Finset (Fin 1024)) using Finset.cons_induction with
  | empty => simp
  | cons a s ha ih =>
    rw [Finset.sum_cons, Finset.sum_cons, ih,
      EReal.right_distrib_of_nonneg_of_ne_top (EReal.coe_nonneg.mpr hr) (EReal.coe_ne_top r)]

/-- The two ways of writing the gradient of a normalised row are equal on all extended reals. -/
theorem back_eq (x t : Fin 1024 → EReal) (c : EReal) (d : Fin 1024) :
    c + (t d * root x + x d * pull x t + pull x t * x d) = back x t c d := by
  unfold back pull root
  rw [add_comm c]
  refine congrArg (· + c) ?_
  rcases meanSq_cases x with h | ⟨v, hv, h⟩
  · rw [h, Ideal.rsqrt_top, k1024_f32, Ideal.div_coe (by norm_num)]
    have h0 : Ideal.div 0 ⊤ = 0 := by
      unfold Ideal.div
      rw [if_neg (by simp)]
      simp
    rw [h0]
    simp
  · have hr0 : 0 ≤ (Real.sqrt v)⁻¹ := by positivity
    have hrr : (Real.sqrt v)⁻¹ * (Real.sqrt v)⁻¹ = 1 / v := by rw [← mul_inv, Real.mul_self_sqrt hv.le, one_div]
    rw [h, Ideal.rsqrt_coe, if_neg hv.not_gt, if_neg hv.ne', Ideal.div_coe hv.ne', k1024_f32, Ideal.div_coe (by norm_num), Ideal.div_coe (by norm_num),
      neg_half_f32]
    generalize (Real.sqrt v)⁻¹ = r at hr0 hrr
    have hs : ∑ k : Fin 1024, t k * (x k * (r : EReal)) = (∑ k : Fin 1024, x k * t k) * (r : EReal) := by
      rw [← sum_mul_coe _ r hr0]
      refine Finset.sum_congr rfl fun k _ => ?_
      rw [← mul_assoc, mul_comm (t k)]
    rw [hs]
    generalize ∑ k : Fin 1024, x k * t k = S
    generalize x d = a
    generalize t d = b
    rw [sub_eq_add_neg, EReal.left_distrib_of_nonneg_of_ne_top (EReal.coe_nonneg.mpr hr0) (EReal.coe_ne_top r), add_assoc, mul_comm b]
    refine congrArg ((r : EReal) * b + ·) ?_
    have h2 : ∀ y : EReal, a * y + y * a = ((2 : ℝ) : EReal) * (a * y) := by
      intro y
      rw [mul_comm y a]
      generalize a * y = z
      have : ((2 : ℝ) : EReal) = 1 + 1 := by norm_cast
      rw [this, EReal.right_distrib_of_nonneg (by norm_num) (by norm_num), one_mul]
    rw [h2, mul_neg]
    have e1 : ((2 : ℝ) : EReal) * (a * (S * (((-(1 / 2) : ℝ) : EReal) * ((r : EReal) * ((1 / v : ℝ) : EReal))) * ((1 / 1024 : ℝ) : EReal)))
        = a * S * (((2 : ℝ) : EReal) * (((-(1 / 2) : ℝ) : EReal) * ((r : EReal) * ((1 / v : ℝ) : EReal))) * ((1 / 1024 : ℝ) : EReal)) := by
      ac_rfl
    have e2 : (r : EReal) * (a * (r : EReal) * (S * (r : EReal) * ((1 / 1024 : ℝ) : EReal)))
        = a * S * ((r : EReal) * (r : EReal) * (r : EReal) * ((1 / 1024 : ℝ) : EReal)) := by
      ac_rfl
    rw [e1, e2, ← mul_neg]
    refine congrArg (a * S * ·) ?_
    simp only [← EReal.coe_mul, ← EReal.coe_neg]
    rw [← hrr]
    congr 1
    ring

/-! ## The results as functions of the arguments -/

section Results

variable (x0 : FVec Ideal ⟨3, ![2, 2048, 1024]⟩ .f32) (x1 : FVec Ideal ⟨1, ![1024]⟩ .f32)
  (x2 : FVec Ideal ⟨2, ![1024, 3072]⟩ .f32) (x3 : FVec Ideal ⟨3, ![2, 2048, 3072]⟩ .f32)
  (x4 : FVec Ideal ⟨3, ![2, 2048, 1024]⟩ .f32)

/-- A token's row. -/
def xRow (q : Fin 4096) (d : Fin 1024) : EReal := x0 (ix3 (seqOf q) (posOf q) d)

/-- The gradient of the normalised row times the gain. -/
def dh (q : Fin 4096) (d : Fin 1024) : EReal := ∑ j : Fin 3072, x3 (ix3 (seqOf q) (posOf q) j) * x2 (ix2 d j)

/-- The gradient of the normalised row. -/
def gd (q : Fin 4096) (d : Fin 1024) : EReal := dh x2 x3 q d * x1 (ix1 d)

/-- The gradient of the rows, with the residual's. -/
def dx (q : Fin 4096) (d : Fin 1024) : EReal := back (xRow x0 q) (gd x1 x2 x3 q) (x4 (ix3 (seqOf q) (posOf q) d)) d

/-- The gradient of the gain. -/
def dGain (d : Fin 1024) : EReal := ∑ q : Fin 4096, dh x2 x3 q d * (xRow x0 q d * root (xRow x0 q))

end Results

/-! ## The reference -/

section Reference

open Cert.Reference2Ideal Cert.Reference2Ideal.Gen Cert.Reference2Ideal.Read Idealize.ShloMosaic.TcCoe

variable (x0 : FVec Ideal S2x2048x1024 .f32) (x1 : FVec Ideal S1024 .f32) (x2 : FVec Ideal S1024x3072 .f32)
  (x3 : FVec Ideal S2x2048x3072 .f32) (x4 : FVec Ideal S2x2048x1024 .f32)

theorem ref_ms (b : Fin 2) (s : Fin 2048) (z : Fin 1) : val_main_v6 (F := Ideal) x0 (ix3 b s z) = meanSq fun k => x0 (ix3 b s k) := by
  unfold meanSq
  pointwise [val_main_v6, val_main_v5, val_main_v4, val_main_v3, val_main_v2, val_main_v1, val_main_v0, val_main_cst,
    val_main_cst_0, val_main_cst_1]

theorem ref_r (b : Fin 2) (s : Fin 2048) (z : Fin 1) : val_main_v7 (F := Ideal) x0 (ix3 b s z) = root fun k => x0 (ix3 b s k) := by
  unfold root
  rw [← ref_ms x0 b s z]
  unfold val_main_v7
  generalize val_main_v6 (F := Ideal) x0 = y
  pointwise []

theorem ref_dr (b : Fin 2) (s : Fin 2048) (z : Fin 1) : val_main_v10 (F := Ideal) x0 (ix3 b s z)
    = Ideal.ofBits .f32 0xBF000000#32 * Ideal.div (root fun k => x0 (ix3 b s k)) (meanSq fun k => x0 (ix3 b s k)) := by
  have e : val_main_v10 (F := Ideal) x0 (ix3 b s z) = Ideal.ofBits .f32 0xBF000000#32
      * Ideal.div (val_main_v7 (F := Ideal) x0 (ix3 b s z)) (val_main_v6 (F := Ideal) x0 (ix3 b s z)) := by
    pointwise [val_main_v10, val_main_v9, val_main_v8, val_main_cst_2]
  rw [e, ref_r, ref_ms]

theorem ref_xh (q : Fin 4096) (d : Fin 1024) :
    val_main_v12 (F := Ideal) x0 (ix3 (seqOf q) (posOf q) d) = xRow x0 q d * root (xRow x0 q) := by
  have e : val_main_v12 (F := Ideal) x0 (ix3 (seqOf q) (posOf q) d)
      = x0 (ix3 (seqOf q) (posOf q) d) * val_main_v7 (F := Ideal) x0 (ix3 (seqOf q) (posOf q) 0) := by
    pointwise [val_main_v12, val_main_v11]
  rw [e, ref_r]
  rfl

theorem ref_dh (q : Fin 4096) (d : Fin 1024) :
    val_main_v17 (F := Ideal) x2 x3 (ix3 (seqOf q) (posOf q) d) = dh x2 x3 q d := by
  unfold dh
  pointwise [val_main_v17]

theorem ref_dGain (d : Fin 1024) : val_main_v43 (F := Ideal) x0 x2 x3 (ix2 0 d) = dGain x0 x2 x3 d := by
  have e : val_main_v43 (F := Ideal) x0 x2 x3 (ix2 0 d) = ∑ k : Fin 2 × Fin 2048,
      val_main_v12 (F := Ideal) x0 (ix3 k.1 k.2 d) * val_main_v17 (F := Ideal) x2 x3 (ix3 k.1 k.2 d) := by
    pointwise [val_main_v43, val_main_v23, val_main_v20, val_main_v19, val_main_v18, val_main_cst_3, val_main_cst_4]
    rw [reduceAdd_front, zero_add]
    rw [Fintype.sum_eq_single ((0 : Fin 1), (0 : Fin 1)) (fun x hx => absurd (Subsingleton.elim x _) hx)]
    pointwise []
    rw [reduceAdd_front, zero_add]
    rfl
  rw [e]
  unfold dGain
  rw [← Cert.FfnBwd.sum_tok]
  refine Finset.sum_congr rfl fun k _ => ?_
  have h := ref_xh x0 (tok k.1 k.2) d
  have h' := ref_dh x2 x3 (tok k.1 k.2) d
  rw [seqOf_tok, posOf_tok] at h h'
  rw [h, h', mul_comm]

theorem ref_dx (q : Fin 4096) (d : Fin 1024) :
    x4 (ix3 (seqOf q) (posOf q) d) + val_main_v37 (F := Ideal) x0 x1 x2 x3 (ix3 (seqOf q) (posOf q) d) = dx x0 x1 x2 x3 x4 q d := by
  have e : ∀ (b : Fin 2) (s : Fin 2048), val_main_v37 (F := Ideal) x0 x1 x2 x3 (ix3 b s d)
      = val_main_v17 (F := Ideal) x2 x3 (ix3 b s d) * x1 (ix1 d) * val_main_v7 (F := Ideal) x0 (ix3 b s 0)
        + x0 (ix3 b s d) * (∑ z : Fin 1, Ideal.div ((∑ k : Fin 1024, x0 (ix3 b s k)
            * (val_main_v17 (F := Ideal) x2 x3 (ix3 b s k) * x1 (ix1 k))) * val_main_v10 (F := Ideal) x0 (ix3 b s z))
            (Ideal.ofBits .f32 0x44800000#32))
        + (∑ z : Fin 1, Ideal.div ((∑ k : Fin 1024, x0 (ix3 b s k)
            * (val_main_v17 (F := Ideal) x2 x3 (ix3 b s k) * x1 (ix1 k))) * val_main_v10 (F := Ideal) x0 (ix3 b s z))
            (Ideal.ofBits .f32 0x44800000#32)) * x0 (ix3 b s d) := by
    intro b s
    pointwise [val_main_v37, val_main_v36, val_main_v35, val_main_v34, val_main_v33, val_main_v32, val_main_v31, val_main_v30,
      val_main_v29, val_main_v28, val_main_v27, val_main_v26, val_main_v25, val_main_v24, val_main_v22, val_main_v21,
      val_main_v13, val_main_cst_5, val_main_cst_6, val_main_cst_7]
  unfold dx
  rw [← back_eq, e, Fintype.sum_eq_single (0 : Fin 1) (fun x hx => absurd (Subsingleton.elim x _) hx), ref_r, ref_dr]
  simp only [ref_dh]
  rfl

theorem ref_res_dx (q : Fin 4096) (d : Fin 1024) :
    val_main_v39 (F := Ideal) x0 x1 x2 x3 x4 (ix2 q d) = dx x0 x1 x2 x3 x4 q d := by
  rw [← ref_dx]
  pointwise [val_main_v39, val_main_v38]
  rfl

theorem ref_res_dxb (q : Fin 4096) (d : Fin 1024) :
    val_main_v42 (F := Ideal) x0 x1 x2 x3 x4 (ix2 q d) = dx x0 x1 x2 x3 x4 q d := by
  rw [← ref_dx]
  pointwise [val_main_v42, val_main_v41, val_main_v40]
  rfl

end Reference

end Cert.InBwd

end
-- ==== Proof.InBwdKernel.lean ====
/-
  The call that takes the gradient behind the mixer's input projection, read point by point: 512 tokens to a point, the gain's
  gradient added up over the points.
-/
module

public import proofs.«01_k».proof.Proof.InBwd
public import proofs.«01_k».proof.Proof.Sums
public import proofs.«01_k».proof.Proof.Gen.Kernel2Ideal.Value
public import Idealize.ShloMosaic.Lib.Claim
public import Idealize.ShloMosaic.Lib.Pointwise

@[expose] public section

noncomputable section

namespace Cert.InBwd

open Idealize.ShloMosaic Idealize.ShloMosaic.TcCoe
open Cert.FfnBwd (tok seqOf posOf seqOf_tok posOf_tok tok_seqOf_posOf)
open Cert.Kernel2Ideal Cert.Kernel2Ideal.Gen
open Idealize.ShloMosaic.Pipeline (Dat)

/-! ## What the body writes -/

section Body

open Idealize.ShloMosaic.Tactic

variable {F : FTy → Type} [FloatOps F]

/-- A point's part of the gain's gradient. -/
def gainPart (x0 : Vec F S512x3072 .bf16) (x1 : Vec F S1024x3072 .bf16) (x2 : Vec F S512x1024 .f32) : FVec F S1x1024 .f32 :=
  k0_pay1 (k0_pay3 x0 x1) (k0_pay6 x2)

theorem out_A_5 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) :
    out0_A_5 (F := F) c i arg1 h1 arg2 h2 arg3 h3 arg4 h4 arg5 h5 arg6 h6 arg7 h7 arg8 h8 hc0 hc1 x0 x1 x2 x3 x4 = k0_pay7 x0 x1 x2 x3 x4 := by
  unfold out0_A_5
  rw [View.read_writes_eq_canon _ _ _ (cover0_A_5 c i arg1 h1 arg2 h2 arg3 h3 arg4 h4 arg5 h5 arg6 h6 arg7 h7 arg8 h8 hc0 hc1 x0 x1 x2 x3 x4)]
  unfold kernelRun0_A
  dsimp only
  sl_unfold_words
  rw [View.canon_unit_zero Cert.FfnBwd.hz2]
  simp only [View.readAt_eq_ld, h1.read_unread, h2.read_unread, h3.read_unread, h4.read_unread, h5.read_unread, h8.read_unread]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]

theorem out_A_6 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) :
    out0_A_6 (F := F) c i arg1 h1 arg2 h2 arg3 h3 arg4 h4 arg5 h5 arg6 h6 arg7 h7 arg8 h8 hc0 hc1 x0 x1 x2 x3 x4 = truncf .bf16 (k0_pay7 x0 x1 x2 x3 x4) bitsLt_bf16_f32 := by
  unfold out0_A_6
  rw [View.read_writes_eq_canon _ _ _ (cover0_A_6 c i arg1 h1 arg2 h2 arg3 h3 arg4 h4 arg5 h5 arg6 h6 arg7 h7 arg8 h8 hc0 hc1 x0 x1 x2 x3 x4)]
  unfold kernelRun0_A
  dsimp only
  sl_unfold_words
  rw [View.canon_unit_zero Cert.FfnBwd.hz2]
  simp only [View.readAt_eq_ld, h1.read_unread, h2.read_unread, h3.read_unread, h4.read_unread, h5.read_unread, h8.read_unread]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]
  rfl

theorem out_A_7 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) :
    out0_A_7 (F := F) c i arg1 h1 arg2 h2 arg3 h3 arg4 h4 arg5 h5 arg6 h6 arg7 h7 arg8 h8 hc0 hc1 x0 x1 x2 x3 x4 = gainPart x0 x1 x2 := by
  unfold out0_A_7
  rw [View.read_writes_eq_canon _ _ _ (cover0_A_7 c i arg1 h1 arg2 h2 arg3 h3 arg4 h4 arg5 h5 arg6 h6 arg7 h7 arg8 h8 hc0 hc1 x0 x1 x2 x3 x4)]
  unfold kernelRun0_A
  dsimp only
  sl_unfold_words
  rw [View.canon_unit_zero Cert.FfnBwd.hz2]
  simp only [View.readAt_eq_ld, h1.read_unread, h2.read_unread, h3.read_unread, h4.read_unread, h5.read_unread, h8.read_unread]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]
  rfl

theorem out_B_5 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) (xo7 : Vec F S1x1024 .f32) :
    out0_B_5 (F := F) c i arg1 h1 arg2 h2 arg3 h3 arg4 h4 arg5 h5 arg6 h6 arg7 h7 arg8 h8 hc0 hc1 x0 x1 x2 x3 x4 xo7 = k0_pay7 x0 x1 x2 x3 x4 := by
  unfold out0_B_5
  rw [View.read_writes_eq_canon _ _ _ (cover0_B_5 c i arg1 h1 arg2 h2 arg3 h3 arg4 h4 arg5 h5 arg6 h6 arg7 h7 arg8 h8 hc0 hc1 x0 x1 x2 x3 x4 xo7)]
  unfold kernelRun0_B
  dsimp only
  sl_unfold_words
  rw [View.canon_unit_zero Cert.FfnBwd.hz2]
  simp only [View.readAt_eq_ld, h1.read_unread, h2.read_unread, h3.read_unread, h4.read_unread, h5.read_unread, h8.read_unread]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]

theorem out_B_6 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) (xo7 : Vec F S1x1024 .f32) :
    out0_B_6 (F := F) c i arg1 h1 arg2 h2 arg3 h3 arg4 h4 arg5 h5 arg6 h6 arg7 h7 arg8 h8 hc0 hc1 x0 x1 x2 x3 x4 xo7 = truncf .bf16 (k0_pay7 x0 x1 x2 x3 x4) bitsLt_bf16_f32 := by
  unfold out0_B_6
  rw [View.read_writes_eq_canon _ _ _ (cover0_B_6 c i arg1 h1 arg2 h2 arg3 h3 arg4 h4 arg5 h5 arg6 h6 arg7 h7 arg8 h8 hc0 hc1 x0 x1 x2 x3 x4 xo7)]
  unfold kernelRun0_B
  dsimp only
  sl_unfold_words
  rw [View.canon_unit_zero Cert.FfnBwd.hz2]
  simp only [View.readAt_eq_ld, h1.read_unread, h2.read_unread, h3.read_unread, h4.read_unread, h5.read_unread, h8.read_unread]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]
  rfl

theorem out_B_7 (c : Dev nD) (i : grid0.Coords) (arg1 arg2 arg3 arg4 arg5 arg6 arg7 arg8) (h1 h2 h3 h4 h5 h6 h7 h8) (hc0 hc1)
    (x0 : Vec F S512x3072 .bf16) (x1 : Vec F S1024x3072 .bf16) (x2 : Vec F S512x1024 .f32) (x3 : Vec F S1x1024 .f32) (x4 : Vec F S512x1024 .f32) (xo7 : Vec F S1x1024 .f32) :
    out0_B_7 (F := F) c i arg1 h1 arg2 h2 arg3 h3 arg4 h4 arg5 h5 arg6 h6 arg7 h7 arg8 h8 hc0 hc1 x0 x1 x2 x3 x4 xo7 = addf xo7 (gainPart x0 x1 x2) := by
  unfold out0_B_7
  rw [View.read_writes_eq_canon _ _ _ (cover0_B_7 c i arg1 h1 arg2 h2 arg3 h3 arg4 h4 arg5 h5 arg6 h6 arg7 h7 arg8 h8 hc0 hc1 x0 x1 x2 x3 x4 xo7)]
  unfold kernelRun0_B
  dsimp only
  sl_unfold_words
  rw [View.canon_unit_zero Cert.FfnBwd.hz2]
  simp only [View.readAt_eq_ld, h1.read_unread, h2.read_unread, h3.read_unread, h4.read_unread, h5.read_unread, h8.read_unread]
  unfold k0_pay2
  dsimp only
  rw [shapeCast_self]
  simp only [View.ld_unit_zero (S := S512x3072) Cert.FfnBwd.hz2, View.ld_unit_zero (S := S1024x3072) Cert.FfnBwd.hz2, View.ld_unit_zero (S := S512x1024) Cert.FfnBwd.hz2,
    View.ld_unit_zero (S := S1x1024) Cert.FfnBwd.hz2]
  rfl

end Body

/-! ## What a point leaves -/

section Outs

variable {F : FTy → Type} [FloatOps F] (m : (ℓ : Loc nD τ sig) → Buf (Elt F) ℓ) (c : Dev nD)

theorem N_eq : cfg0.N = 8 := N_0

/-- The rows' gradient at a point. -/
def dxBlock (t : Fin cfg0.N) : FVec F S512x1024 .f32 :=
  k0_pay7 (iblk m c 0 t) (iblk m c 1 t) (iblk m c 2 t) (iblk m c 3 t) (iblk m c 4 t)

/-- The gain's gradient over a point's rows. -/
def gainBlock (t : Fin cfg0.N) : FVec F S1x1024 .f32 := gainPart (iblk m c 0 t) (iblk m c 1 t) (iblk m c 2 t)

theorem outs_first (t : Fin cfg0.N) (h : t.val = 0) :
    outsAt0 m c t.val t.isLt = (dxBlock m c t, truncf .bf16 (dxBlock m c t) bitsLt_bf16_f32, gainBlock m c t) := by
  rw [outsAt0_A m c t (by omega) (by omega), out_A_5, out_A_6, out_A_7]
  rfl

theorem outs_later (t : Fin cfg0.N) (h : 1 ≤ t.val) :
    outsAt0 m c t.val t.isLt = (dxBlock m c t, truncf .bf16 (dxBlock m c t) bitsLt_bf16_f32,
      addf (outsAt0 m c (t.val - 1) (Nat.lt_of_le_of_lt (Nat.sub_le _ _) t.isLt)).2.2 (gainBlock m c t)) := by
  have hN := N_eq
  have ht := t.isLt
  rw [outsAt0_B m c t (by omega) h, out_B_5, out_B_6, out_B_7]
  rfl

theorem outs_5 (t : Fin cfg0.N) : (outsAt0 m c t.val t.isLt).1 = dxBlock m c t := by
  rcases Nat.eq_zero_or_pos t.val with h | h
  · rw [outs_first m c t h]
  · rw [outs_later m c t h]

theorem outs_6 (t : Fin cfg0.N) : (outsAt0 m c t.val t.isLt).2.1 = truncf .bf16 (dxBlock m c t) bitsLt_bf16_f32 := by
  rcases Nat.eq_zero_or_pos t.val with h | h
  · rw [outs_first m c t h]
  · rw [outs_later m c t h]

end Outs

/-- The accumulated gradient of the gain after point `k`. -/
theorem outs_7 (m : (ℓ : Loc nD τ sig) → Buf (Elt Ideal) ℓ) (c : Dev nD) (j : S1x1024.Idx) : ∀ (k : ℕ) (hk : k < cfg0.N),
    ((outsAt0 m c k hk).2.2 : FVec Ideal S1x1024 .f32) j = ∑ t : Fin (k + 1), gainBlock m c ⟨t.val, by omega⟩ j
  | 0, hk => by
    have := outs_first m c ⟨0, hk⟩ rfl
    rw [Fin.sum_univ_one]
    exact congrFun (congrArg (fun o => o.2.2) this) j
  | k + 1, hk => by
    have := outs_later m c ⟨k + 1, hk⟩ (by show 1 ≤ k + 1; omega)
    rw [Fin.sum_univ_castSucc]
    refine (congrFun (congrArg (fun o => o.2.2) this) j).trans ?_
    exact congrArg (· + _) (outs_7 m c j k (by omega))

/-! ## The payloads on extended reals -/

theorem pay3_val (x0 : Vec Ideal S512x3072 .bf16) (x1 : Vec Ideal S1024x3072 .bf16) (r : Fin 512) (d : Fin 1024) :
    k0_pay3 (F := Ideal) x0 x1 (ix2 r d) = ∑ j : Fin 3072, x0 (ix2 r j) * x1 (ix2 d j) := by
  pointwise [k0_pay3]

theorem pay5_val (x2 : Vec Ideal S512x1024 .f32) (r : Fin 512) :
    k0_pay5 (F := Ideal) x2 (ix2 r 0) = Ideal.rsqrt (Ideal.div (∑ d : Fin 1024, x2 (ix2 r d) * x2 (ix2 r d)) (Ideal.ofBits .f32 0x44800000#32)
      + Ideal.ofBits .f32 0x358637BD#32) := by
  pointwise [k0_pay5, k0_pay4]

theorem pay6_val (x2 : Vec Ideal S512x1024 .f32) (r : Fin 512) (d : Fin 1024) :
    k0_pay6 (F := Ideal) x2 (ix2 r d) = x2 (ix2 r d) * k0_pay5 (F := Ideal) x2 (ix2 r 0) := by
  unfold k0_pay6 k0_pay4
  generalize k0_pay5 (F := Ideal) x2 = y
  pointwise []

theorem pay7_val (x0 : Vec Ideal S512x3072 .bf16) (x1 : Vec Ideal S1024x3072 .bf16) (x2 : Vec Ideal S512x1024 .f32) (x3 : Vec Ideal S1x1024 .f32)
    (x4 : Vec Ideal S512x1024 .f32) (r : Fin 512) (d : Fin 1024) :
    k0_pay7 (F := Ideal) x0 x1 x2 x3 x4 (ix2 r d) = k0_pay5 (F := Ideal) x2 (ix2 r 0)
      * (k0_pay3 (F := Ideal) x0 x1 (ix2 r d) * x3 (ix2 0 d) - k0_pay6 (F := Ideal) x2 (ix2 r d)
        * Ideal.div (∑ k : Fin 1024, k0_pay3 (F := Ideal) x0 x1 (ix2 r k) * x3 (ix2 0 k) * k0_pay6 (F := Ideal) x2 (ix2 r k))
          (Ideal.ofBits .f32 0x44800000#32)) + x4 (ix2 r d) := by
  unfold k0_pay7
  generalize k0_pay3 (F := Ideal) x0 x1 = y3
  generalize k0_pay6 (F := Ideal) x2 = y6
  generalize k0_pay5 (F := Ideal) x2 = y5
  pointwise []

theorem gainPart_val (x0 : Vec Ideal S512x3072 .bf16) (x1 : Vec Ideal S1024x3072 .bf16) (x2 : Vec Ideal S512x1024 .f32) (d : Fin 1024) :
    gainPart (F := Ideal) x0 x1 x2 (ix2 0 d) = ∑ r : Fin 512, k0_pay3 (F := Ideal) x0 x1 (ix2 r d) * k0_pay6 (F := Ideal) x2 (ix2 r d) := by
  unfold gainPart k0_pay1
  generalize k0_pay3 (F := Ideal) x0 x1 = y3
  generalize k0_pay6 (F := Ideal) x2 = y6
  pointwise []

/-! ## The blocks a point loads -/

section Loads

variable (m : (ℓ : Loc nD τ sig) → Buf (Elt Ideal) ℓ) (c : Dev nD)

theorem win_facts : ∀ t : Fin grid0.N, (win0_0.index t 0 = t.val ∧ win0_0.index t 1 = 0) ∧ (∀ a, win0_1.index t a = 0) ∧
    (win0_2.index t 0 = t.val ∧ win0_2.index t 1 = 0) ∧ (∀ a, win0_3.index t a = 0) ∧
    (win0_4.index t 0 = t.val ∧ win0_4.index t 1 = 0) ∧ (win0_5.index t 0 = t.val ∧ win0_5.index t 1 = 0) ∧
    (win0_6.index t 0 = t.val ∧ win0_6.index t 1 = 0) ∧ (∀ a, win0_7.index t a = 0) := by
  decide +kernel

/-- Token `r` of the block of point `t`. -/
def row (t : Fin cfg0.N) (r : Fin 512) : Fin 4096 := ⟨512 * t.val + r.val, by have := t.isLt; have := N_eq; omega⟩

theorem load_0 (t : Fin cfg0.N) (r : Fin 512) (k : Fin 3072) :
    (iblk m c 0 t : Vec Ideal S512x3072 .bf16) (ix2 r k) = m (c, Proc.tc.devRef main_arg3) (ix3 (seqOf (row t r)) (posOf (row t r)) k) := by
  have e : (iblk m c 0 t : Vec Ideal S512x3072 .bf16) (ix2 r k) = (V m c main_v1 : FVec Ideal S4096x3072 .bf16) (ix2 (row t r) k) := by
    obtain ⟨h0, h1⟩ := (win_facts t).1
    refine congrArg (V m c main_v1 : FVec Ideal S4096x3072 .bf16) (a₁ := (win0_0.rect t).emb (ix2 r k)) (funext fun a => Fin.ext ?_)
    rw [win0_0.rect_emb_val]
    fin_cases a
    · show win0_0.index t 0 * 512 + r.val = 512 * t.val + r.val; omega
    · show win0_0.index t 1 * 3072 + k.val = k.val; omega
  rw [e]
  entry_read
  pointwise []
  rfl

theorem load_2 (t : Fin cfg0.N) (r : Fin 512) (k : Fin 1024) :
    (iblk m c 2 t : Vec Ideal S512x1024 .f32) (ix2 r k) = m (c, Proc.tc.devRef main_arg0) (ix3 (seqOf (row t r)) (posOf (row t r)) k) := by
  have e : (iblk m c 2 t : Vec Ideal S512x1024 .f32) (ix2 r k) = (V m c main_v3 : FVec Ideal S4096x1024 .f32) (ix2 (row t r) k) := by
    obtain ⟨h0, h1⟩ := (win_facts t).2.2.1
    refine congrArg (V m c main_v3 : FVec Ideal S4096x1024 .f32) (a₁ := (win0_2.rect t).emb (ix2 r k)) (funext fun a => Fin.ext ?_)
    rw [win0_2.rect_emb_val]
    fin_cases a
    · show win0_2.index t 0 * 512 + r.val = 512 * t.val + r.val; omega
    · show win0_2.index t 1 * 1024 + k.val = k.val; omega
  rw [e]
  entry_read
  pointwise []
  rfl

theorem load_4 (t : Fin cfg0.N) (r : Fin 512) (k : Fin 1024) :
    (iblk m c 4 t : Vec Ideal S512x1024 .f32) (ix2 r k) = m (c, Proc.tc.devRef main_arg4) (ix3 (seqOf (row t r)) (posOf (row t r)) k) := by
  have e : (iblk m c 4 t : Vec Ideal S512x1024 .f32) (ix2 r k) = (V m c main_v5 : FVec Ideal S4096x1024 .f32) (ix2 (row t r) k) := by
    obtain ⟨h0, h1⟩ := (win_facts t).2.2.2.2.1
    refine congrArg (V m c main_v5 : FVec Ideal S4096x1024 .f32) (a₁ := (win0_4.rect t).emb (ix2 r k)) (funext fun a => Fin.ext ?_)
    rw [win0_4.rect_emb_val]
    fin_cases a
    · show win0_4.index t 0 * 512 + r.val = 512 * t.val + r.val; omega
    · show win0_4.index t 1 * 1024 + k.val = k.val; omega
  rw [e]
  entry_read
  pointwise []
  rfl

theorem load_1 (t : Fin cfg0.N) (d : Fin 1024) (j : Fin 3072) :
    (iblk m c 1 t : Vec Ideal S1024x3072 .bf16) (ix2 d j) = m (c, Proc.tc.devRef main_arg2) (ix2 d j) := by
  have e : (iblk m c 1 t : Vec Ideal S1024x3072 .bf16) (ix2 d j) = (V m c main_v2 : FVec Ideal S1024x3072 .bf16) (ix2 d j) := by
    have hz := (win_facts t).2.1
    exact congrArg (V m c main_v2 : FVec Ideal S1024x3072 .bf16) (a₁ := (win0_1.rect t).emb (ix2 d j))
      (funext fun a => Fin.ext (win0_1.rect_emb_val_of_index_zero t a (hz a) (ix2 d j)))
  rw [e]
  entry_read
  pointwise []

theorem load_3 (t : Fin cfg0.N) (d : Fin 1024) :
    (iblk m c 3 t : Vec Ideal S1x1024 .f32) (ix2 0 d) = m (c, Proc.tc.devRef main_arg1) (ix1 d) := by
  have e : (iblk m c 3 t : Vec Ideal S1x1024 .f32) (ix2 0 d) = (V m c main_v4 : FVec Ideal S1x1024 .f32) (ix2 0 d) := by
    have hz := (win_facts t).2.2.2.1
    exact congrArg (V m c main_v4 : FVec Ideal S1x1024 .f32) (a₁ := (win0_3.rect t).emb (ix2 0 d))
      (funext fun a => Fin.ext (win0_3.rect_emb_val_of_index_zero t a (hz a) (ix2 0 d)))
  rw [e]
  entry_read
  pointwise []

/-- The gradient of the rows, of the arguments in memory. -/
def dxOf (q : Fin 4096) (d : Fin 1024) : EReal :=
  dx (m (c, Proc.tc.devRef main_arg0)) (m (c, Proc.tc.devRef main_arg1)) (m (c, Proc.tc.devRef main_arg2)) (m (c, Proc.tc.devRef main_arg3))
    (m (c, Proc.tc.devRef main_arg4)) q d

/-- The gradient of the normalised row times the gain, of the arguments in memory. -/
def dhOf (q : Fin 4096) (d : Fin 1024) : EReal := dh (m (c, Proc.tc.devRef main_arg2)) (m (c, Proc.tc.devRef main_arg3)) q d

/-- A token's row, of the arguments in memory. -/
def xOf (q : Fin 4096) (d : Fin 1024) : EReal := xRow (m (c, Proc.tc.devRef main_arg0)) q d

theorem point_dh (t : Fin cfg0.N) (r : Fin 512) (d : Fin 1024) :
    k0_pay3 (F := Ideal) (iblk m c 0 t) (iblk m c 1 t) (ix2 r d) = dhOf m c (row t r) d := by
  rw [pay3_val]
  exact Finset.sum_congr rfl fun j _ => congrArg₂ (fun a b : EReal => a * b) (load_0 m c t r j) (load_1 m c t d j)

theorem point_x (t : Fin cfg0.N) (r : Fin 512) (d : Fin 1024) :
    (iblk m c 2 t : Vec Ideal S512x1024 .f32) (ix2 r d) = xOf m c (row t r) d := load_2 m c t r d

theorem point_r (t : Fin cfg0.N) (r : Fin 512) : k0_pay5 (F := Ideal) (iblk m c 2 t) (ix2 r 0) = root (xOf m c (row t r)) := by
  rw [pay5_val]
  simp only [point_x m c t]
  rfl

theorem point_xh (t : Fin cfg0.N) (r : Fin 512) (d : Fin 1024) :
    k0_pay6 (F := Ideal) (iblk m c 2 t) (ix2 r d) = xOf m c (row t r) d * root (xOf m c (row t r)) := by
  rw [pay6_val, point_x m c t, point_r m c t]

theorem point_dx (t : Fin cfg0.N) (r : Fin 512) (d : Fin 1024) : dxBlock m c t (ix2 r d) = dxOf m c (row t r) d := by
  unfold dxBlock
  rw [pay7_val]
  simp only [point_dh m c t, point_r m c t, point_xh m c t, load_3 m c t, load_4 m c t]
  rfl

theorem point_gain (t : Fin cfg0.N) (d : Fin 1024) :
    gainBlock m c t (ix2 0 d) = ∑ r : Fin 512, dhOf m c (row t r) d * (xOf m c (row t r) d * root (xOf m c (row t r))) := by
  unfold gainBlock
  rw [gainPart_val]
  simp only [point_dh m c t, point_xh m c t]

/-! ## The result arrays -/

/-- The point that owns a token. -/
def ptOf (q : Fin 4096) : Fin cfg0.N := ⟨q.val / 512, by rw [N_eq]; omega⟩

/-- A token's row in its point's block. -/
def rowOf (q : Fin 4096) : Fin 512 := ⟨q.val % 512, by omega⟩

theorem row_ptOf (q : Fin 4096) : row (ptOf q) (rowOf q) = q := by
  apply Fin.ext
  simp only [row, ptOf, rowOf]
  omega

theorem emb5 (t : Fin cfg0.N) (r : Fin 512) (d : Fin 1024) : ((cfg0.win 5).blk t).view.emb (ix2 r d) = ix2 (row t r) d := by
  obtain ⟨h0, h1⟩ := (win_facts t).2.2.2.2.2.1
  refine funext fun a => Fin.ext ?_
  refine (win0_5.rect_emb_val t (ix2 r d) a).trans ?_
  fin_cases a
  · show win0_5.index t 0 * 512 + r.val = 512 * t.val + r.val; omega
  · show win0_5.index t 1 * 1024 + d.val = d.val; omega

theorem emb6 (t : Fin cfg0.N) (r : Fin 512) (d : Fin 1024) : ((cfg0.win 6).blk t).view.emb (ix2 r d) = ix2 (row t r) d := by
  obtain ⟨h0, h1⟩ := (win_facts t).2.2.2.2.2.2.1
  refine funext fun a => Fin.ext ?_
  refine (win0_6.rect_emb_val t (ix2 r d) a).trans ?_
  fin_cases a
  · show win0_6.index t 0 * 512 + r.val = 512 * t.val + r.val; omega
  · show win0_6.index t 1 * 1024 + d.val = d.val; omega

theorem cut5_val (t : Fin cfg0.N) (X : Vec Ideal S512x1024 .f32) (r : Fin 512) (d : Fin 1024) :
    (cfg0.win 5).cut (grid0.coords t) X (ix2 r d) = X (ix2 r d) :=
  congrArg X (funext fun a => Fin.ext rfl)

theorem cut6_val (t : Fin cfg0.N) (X : Vec Ideal S512x1024 .bf16) (r : Fin 512) (d : Fin 1024) :
    (cfg0.win 6).cut (grid0.coords t) X (ix2 r d) = X (ix2 r d) :=
  congrArg X (funext fun a => Fin.ext rfl)

theorem cut7_val (t : Fin cfg0.N) (X : Vec Ideal S1x1024 .f32) (d : Fin 1024) :
    (cfg0.win 7).cut (grid0.coords t) X (ix2 0 d) = X (ix2 0 d) :=
  congrArg X (funext fun a => Fin.ext rfl)

theorem flushed5_val (t : Fin cfg0.N) (r : Fin 512) (d : Fin 1024) :
    ((dats m 0 c).flushed 5 t : Vec Ideal S512x1024 .f32) (ix2 r d) = dxOf m c (row t r) d := by
  rw [Value.flushed5, outs_5]
  exact (cut5_val t (dxBlock m c t) r d).trans (point_dx m c t r d)

theorem flushed6_val (t : Fin cfg0.N) (r : Fin 512) (d : Fin 1024) :
    ((dats m 0 c).flushed 6 t : Vec Ideal S512x1024 .bf16) (ix2 r d) = dxOf m c (row t r) d := by
  rw [Value.flushed6, outs_6]
  exact (cut6_val t (truncf .bf16 (dxBlock m c t) bitsLt_bf16_f32) r d).trans (point_dx m c t r d)

theorem kernel_5 (q : Fin 4096) (d : Fin 1024) :
    ((dats m 0 c).arrAt 5 cfg0.N : FVec Ideal S4096x1024 .f32) (ix2 q d) = dxOf m c q d := by
  have h := (dats m 0 c).arrAt_emb_eq_flushed 5 Value.disjoint5 (ptOf q) (flush0_5 _) (ix2 (rowOf q) d)
  rw [emb5, row_ptOf] at h
  refine h.trans ((flushed5_val m c (ptOf q) (rowOf q) d).trans ?_)
  rw [row_ptOf]

theorem kernel_6 (q : Fin 4096) (d : Fin 1024) :
    ((dats m 0 c).arrAt 6 cfg0.N : FVec Ideal S4096x1024 .bf16) (ix2 q d) = dxOf m c q d := by
  have h := (dats m 0 c).arrAt_emb_eq_flushed 6 Value.disjoint6 (ptOf q) (flush0_6 _) (ix2 (rowOf q) d)
  rw [emb6, row_ptOf] at h
  refine h.trans ((flushed6_val m c (ptOf q) (rowOf q) d).trans ?_)
  rw [row_ptOf]

/-- The last point. -/
def last : Fin cfg0.N := ⟨7, by rw [N_eq]; omega⟩

/-- A sum over the points of sums over a point's rows is the sum over all tokens. -/
theorem sum_rows (f : Fin 4096 → EReal) : ∑ t : Fin 8, ∑ r : Fin 512, f ⟨512 * t.val + r.val, by omega⟩ = ∑ q : Fin 4096, f q := by
  rw [← Fintype.sum_prod_type' (fun (t : Fin 8) (r : Fin 512) => f ⟨512 * t.val + r.val, by omega⟩)]
  refine Fintype.sum_bijective (fun x : Fin 8 × Fin 512 => (⟨512 * x.1.val + x.2.val, by omega⟩ : Fin 4096)) ?_ _ _ (fun _ => rfl)
  refine ⟨fun x y h => ?_, fun q => ⟨(⟨q.val / 512, by omega⟩, ⟨q.val % 512, by omega⟩), Fin.ext ?_⟩⟩
  · have h' := congrArg Fin.val h
    dsimp only at h'
    exact Prod.ext (Fin.ext (by omega)) (Fin.ext (by omega))
  · dsimp only
    omega

theorem disjoint7 : ∀ t t' : Fin cfg0.N, (cfg0.win 7).flush t = true → (cfg0.win 7).flush t' = true → t ≠ t' →
    Disjoint ((cfg0.win 7).blk t).view.set ((cfg0.win 7).blk t').view.set := fun t t' h h' hne =>
  absurd (Fin.ext (by
    have := (flush0_7 t).mp h; have := (flush0_7 t').mp h'; have := t.isLt; have := t'.isLt; have := N_eq; omega)) hne

theorem kernel_7 (d : Fin 1024) :
    ((dats m 0 c).arrAt 7 cfg0.N : FVec Ideal S1x1024 .f32) (ix2 0 d) = dGain (m (c, Proc.tc.devRef main_arg0)) (m (c, Proc.tc.devRef main_arg2)) (m (c, Proc.tc.devRef main_arg3)) d := by
  have h := (dats m 0 c).arrAt_emb_eq_flushed 7 disjoint7 last ((flush0_7 last).mpr rfl) (ix2 0 d)
  have hi : ((cfg0.win 7).blk last).view.emb (ix2 0 d) = ix2 0 d := by
    have hz := (win_facts last).2.2.2.2.2.2.2
    exact funext fun a => Fin.ext (win0_7.rect_emb_val_of_index_zero last a (hz a) (ix2 0 d))
  rw [hi, Value.flushed7] at h
  refine h.trans ?_
  refine (outs_7 m c (ix2 0 d) 7 last.isLt).trans ?_
  unfold dGain
  rw [← sum_rows]
  exact Finset.sum_congr rfl fun t _ => point_gain m c _ d

end Loads

end Cert.InBwd

end
-- ==== Proof.GIn.lean ====
/-
  The gradient of the input projection's weights: at row `d` and column `j`, the sum over all tokens of the token's
  incoming gradient at `j` times its row's entry at `d`. The call adds the tokens in four runs of 1024.
-/
module

public import proofs.«01_k».proof.Proof.Sums
public import proofs.«01_k».proof.Proof.Gen.Kernel3Ideal.Value
public import proofs.«01_k».proof.Proof.Gen.Reference3Ideal.Read
public import Idealize.ShloMosaic.Lib.Claim
public import Idealize.ShloMosaic.Lib.Pointwise

@[expose] public section

noncomputable section

namespace Cert.GIn

open Idealize.ShloMosaic Idealize.ShloMosaic.TcCoe
open Cert.FfnBwd (tok seqOf posOf)

/-- The gradient at row `d`, column `j`. -/
def grad (h : FVec Ideal ⟨3, ![2, 2048, 1024]⟩ .f32) (ct : FVec Ideal ⟨3, ![2, 2048, 3072]⟩ .f32) (d : Fin 1024) (j : Fin 3072) : EReal :=
  ∑ q : Fin 4096, ct (ix3 (seqOf q) (posOf q) j) * h (ix3 (seqOf q) (posOf q) d)

section Reference

open Cert.Reference3Ideal Cert.Reference3Ideal.Gen Cert.Reference3Ideal.Read

theorem reference_val (h : FVec Ideal S2x2048x1024 .f32) (ct : FVec Ideal S2x2048x3072 .f32) (d : Fin 1024) (j : Fin 3072) :
    val_main_v4 (F := Ideal) h ct (ix2 d j) = grad h ct d j := by
  unfold grad
  rw [← Cert.FfnBwd.sum_seqs]
  simp only [Cert.FfnBwd.seqOf_tok, Cert.FfnBwd.posOf_tok]
  pointwise [val_main_v4, val_main_v3, val_main_v2]

end Reference

section Kernel

open Cert.Kernel3Ideal Cert.Kernel3Ideal.Gen
open Idealize.ShloMosaic.Pipeline (Dat)

variable (m : (ℓ : Loc nD τ sig) → Buf (Elt Ideal) ℓ) (c : Dev nD)

theorem pay_val (a0 a1 a2 a3 : Vec Ideal S1024x1024 .bf16) (b0 b1 b2 b3 : Vec Ideal S1024x768 .bf16) (d : Fin 1024) (j : Fin 768) :
    k0_pay1 (F := Ideal) a0 b0 a1 b1 a2 b2 a3 b3 (ix2 d j) = (∑ k : Fin 1024, a0 (ix2 k d) * b0 (ix2 k j))
      + (∑ k : Fin 1024, a1 (ix2 k d) * b1 (ix2 k j)) + (∑ k : Fin 1024, a2 (ix2 k d) * b2 (ix2 k j))
      + (∑ k : Fin 1024, a3 (ix2 k d) * b3 (ix2 k j)) := by
  pointwise [k0_pay1]

theorem body_val (x0 : Vec Ideal S4096x1024 .bf16) (x1 : Vec Ideal S4096x768 .bf16) (d : Fin 1024) (j : Fin 768) :
    out0_2 (F := Ideal) x0 x1 (ix2 d j) = ∑ q : Fin 4096, x0 (ix2 q d) * x1 (ix2 q j) := by
  unfold out0_2
  rw [View.canon_unit_zero Cert.FfnBwd.hz2, pay_val]
  refine Eq.trans ?_ (Cert.FfnBwd.sum_quarters fun q => x0 (ix2 q d) * x1 (ix2 q j))
  refine congrArg₂ (· + ·) (congrArg₂ (· + ·) (congrArg₂ (· + ·)
    (Finset.sum_congr rfl fun k _ => congrArg₂ (· * ·) (Cert.FfnBwd.ld_rows x0 0 _ k d) (Cert.FfnBwd.ld_rows x1 0 _ k j))
    (Finset.sum_congr rfl fun k _ => congrArg₂ (· * ·) (Cert.FfnBwd.ld_rows x0 1024 _ k d) (Cert.FfnBwd.ld_rows x1 1024 _ k j)))
    (Finset.sum_congr rfl fun k _ => congrArg₂ (· * ·) (Cert.FfnBwd.ld_rows x0 2048 _ k d) (Cert.FfnBwd.ld_rows x1 2048 _ k j)))
    (Finset.sum_congr rfl fun k _ => congrArg₂ (· * ·) (Cert.FfnBwd.ld_rows x0 3072 _ k d) (Cert.FfnBwd.ld_rows x1 3072 _ k j))

theorem win_facts : ∀ t : Fin grid0.N, (∀ a, win0_0.index t a = 0) ∧ (win0_1.index t 0 = 0 ∧ win0_1.index t 1 = t.val) ∧
    (win0_2.index t 0 = 0 ∧ win0_2.index t 1 = t.val) := by
  decide +kernel

theorem load_0 (t : Fin cfg0.N) (q : Fin 4096) (d : Fin 1024) :
    (iblk m c 0 t : Vec Ideal S4096x1024 .bf16) (ix2 q d) = m (c, Proc.tc.devRef main_arg0) (ix3 (seqOf q) (posOf q) d) := by
  have e : (iblk m c 0 t : Vec Ideal S4096x1024 .bf16) (ix2 q d) = (V m c main_v1 : FVec Ideal S4096x1024 .bf16) (ix2 q d) := by
    have hz := (win_facts t).1
    refine congrArg (V m c main_v1 : FVec Ideal S4096x1024 .bf16) (a₁ := (win0_0.rect t).emb (ix2 q d)) (funext fun a => Fin.ext ?_)
    rw [win0_0.rect_emb_val]
    fin_cases a
    · have := hz 0; show win0_0.index t 0 * 4096 + q.val = q.val; omega
    · have := hz 1; show win0_0.index t 1 * 1024 + d.val = d.val; omega
  rw [e]
  entry_read
  pointwise []
  rfl

theorem load_1 (t : Fin cfg0.N) (q : Fin 4096) (n : Fin 768) (j : Fin 3072) (hj : j.val = 768 * t.val + n.val) :
    (iblk m c 1 t : Vec Ideal S4096x768 .bf16) (ix2 q n) = m (c, Proc.tc.devRef main_arg1) (ix3 (seqOf q) (posOf q) j) := by
  have e : (iblk m c 1 t : Vec Ideal S4096x768 .bf16) (ix2 q n) = (V m c main_v3 : FVec Ideal S4096x3072 .bf16) (ix2 q j) := by
    obtain ⟨h0, h1⟩ := (win_facts t).2.1
    refine congrArg (V m c main_v3 : FVec Ideal S4096x3072 .bf16) (a₁ := (win0_1.rect t).emb (ix2 q n)) (funext fun a => Fin.ext ?_)
    rw [win0_1.rect_emb_val]
    fin_cases a
    · show win0_1.index t 0 * 4096 + q.val = q.val; omega
    · show win0_1.index t 1 * 768 + n.val = j.val; omega
  rw [e]
  entry_read
  pointwise []
  rfl

theorem N_eq : cfg0.N = 4 := N_0

/-- The point that owns a column. -/
def ptOf (j : Fin 3072) : Fin cfg0.N := ⟨j.val / 768, by rw [N_eq]; omega⟩

theorem kernel_val (d : Fin 1024) (j : Fin 3072) :
    ((dats m 0 c).arrAt 2 cfg0.N : FVec Ideal S1024x3072 .bf16) (ix2 d j)
      = grad (m (c, Proc.tc.devRef main_arg0)) (m (c, Proc.tc.devRef main_arg1)) d j := by
  have h := (dats m 0 c).arrAt_emb_eq_flushed 2 Value.disjoint2 (ptOf j) (flush0_2 _) (ix2 d (⟨j.val % 768, by omega⟩ : Fin 768))
  have hi : ((cfg0.win 2).blk (ptOf j)).view.emb (ix2 d (⟨j.val % 768, by omega⟩ : Fin 768)) = ix2 d j := by
    obtain ⟨h0, h1⟩ := (win_facts (ptOf j)).2.2
    refine funext fun a => Fin.ext ?_
    refine (win0_2.rect_emb_val (ptOf j) (ix2 d (⟨j.val % 768, by omega⟩ : Fin 768)) a).trans ?_
    fin_cases a
    · show win0_2.index (ptOf j) 0 * 1024 + d.val = d.val; omega
    · show win0_2.index (ptOf j) 1 * 768 + j.val % 768 = j.val; rw [h1]; show j.val / 768 * 768 + j.val % 768 = j.val; omega
  rw [hi, Value.flushed2] at h
  refine h.trans ((body_val (iblk m c 0 (ptOf j)) (iblk m c 1 (ptOf j)) d ⟨j.val % 768, by omega⟩).trans ?_)
  refine Finset.sum_congr rfl fun q _ => ?_
  rw [load_0 m c, load_1 m c _ q _ j (show j.val = 768 * (j.val / 768) + j.val % 768 by omega), mul_comm]

end Kernel

end Cert.GIn

end
-- ==== Proof.RmsFwd.lean ====
/-
  The norm of a token's row: the row times the reciprocal root of its mean square, times the gain.
-/
module

public import proofs.«01_k».proof.Proof.Sums
public import proofs.«01_k».proof.Proof.Gen.Kernel11Ideal.Value
public import proofs.«01_k».proof.Proof.Gen.Reference11Ideal.Read
public import Idealize.ShloMosaic.Lib.Claim
public import Idealize.ShloMosaic.Lib.Pointwise

@[expose] public section

noncomputable section

namespace Cert.RmsFwd

open Idealize.ShloMosaic Idealize.ShloMosaic.TcCoe
open Cert.FfnBwd (tok seqOf posOf)

/-- A row's entry `d`, normalised and scaled. -/
def rowNorm (x : Fin 1024 → EReal) (g : FVec Ideal ⟨1, ![1024]⟩ .f32) (d : Fin 1024) : EReal :=
  x d * Ideal.rsqrt (Ideal.div (∑ k : Fin 1024, x k * x k) (Ideal.ofBits .f32 0x44800000#32) + Ideal.ofBits .f32 0x358637BD#32) * g (ix1 d)

section Reference

open Cert.Reference11Ideal Cert.Reference11Ideal.Gen Cert.Reference11Ideal.Read

theorem reference_val (x : FVec Ideal S2x2048x1024 .f32) (g : FVec Ideal S1024 .f32) (q : Fin 4096) (d : Fin 1024) :
    val_main_v14 (F := Ideal) x g (ix2 q d) = rowNorm (fun k => x (ix3 (seqOf q) (posOf q) k)) g d := by
  pointwise [val_main_v14, val_main_v13, val_main_v12, val_main_v11, val_main_v10, val_main_v9, val_main_v8, val_main_v7, val_main_v6,
    val_main_v5, val_main_cst_1, val_main_v4, val_main_v3, val_main_cst_0, val_main_v2, val_main_v1, val_main_cst, val_main_v0]
  rfl

end Reference

section Kernel

open Cert.Kernel11Ideal Cert.Kernel11Ideal.Gen
open Idealize.ShloMosaic.Pipeline (Dat)

variable (m : (ℓ : Loc nD τ sig) → Buf (Elt Ideal) ℓ) (c : Dev nD)

theorem body_val (x0 : Vec Ideal S512x1024 .f32) (x1 : Vec Ideal S1x1024 .f32) (g : FVec Ideal S1024 .f32)
    (hg : ∀ d : Fin 1024, x1 (ix2 0 d) = g (ix1 d)) (r : Fin 512) (d : Fin 1024) :
    out0_2 (F := Ideal) x0 x1 (ix2 r d) = rowNorm (fun k => x0 (ix2 r k)) g d := by
  unfold out0_2
  rw [View.canon_unit_zero Cert.FfnBwd.hz2, View.ld_unit_zero Cert.FfnBwd.hz2, View.ld_unit_zero Cert.FfnBwd.hz2]
  unfold rowNorm
  rw [← hg]
  pointwise [k0_pay1]

theorem win_facts : ∀ t : Fin grid0.N, (win0_0.index t 0 = t.val ∧ win0_0.index t 1 = 0) ∧ (∀ a, win0_1.index t a = 0) ∧
    (win0_2.index t 0 = t.val ∧ win0_2.index t 1 = 0) := by
  decide +kernel

theorem load_0 (t : Fin cfg0.N) (r : Fin 512) (k : Fin 1024) (q : Fin 4096) (hq : q.val = 512 * t.val + r.val) :
    (iblk m c 0 t : Vec Ideal S512x1024 .f32) (ix2 r k) = m (c, Proc.tc.devRef main_arg0) (ix3 (seqOf q) (posOf q) k) := by
  have e : (iblk m c 0 t : Vec Ideal S512x1024 .f32) (ix2 r k) = (V m c main_v0 : FVec Ideal S4096x1024 .f32) (ix2 q k) := by
    obtain ⟨h0, h1⟩ := (win_facts t).1
    refine congrArg (V m c main_v0 : FVec Ideal S4096x1024 .f32) (a₁ := (win0_0.rect t).emb (ix2 r k)) (funext fun a => Fin.ext ?_)
    rw [win0_0.rect_emb_val]
    fin_cases a
    · show win0_0.index t 0 * 512 + r.val = q.val; omega
    · show win0_0.index t 1 * 1024 + k.val = k.val; omega
  rw [e]
  entry_read
  pointwise []
  rfl

theorem load_1 (t : Fin cfg0.N) (d : Fin 1024) :
    (iblk m c 1 t : Vec Ideal S1x1024 .f32) (ix2 0 d) = m (c, Proc.tc.devRef main_arg1) (ix1 d) := by
  have e : (iblk m c 1 t : Vec Ideal S1x1024 .f32) (ix2 0 d) = (V m c main_v1 : FVec Ideal S1x1024 .f32) (ix2 0 d) := by
    have hz := (win_facts t).2.1
    refine congrArg (V m c main_v1 : FVec Ideal S1x1024 .f32) (a₁ := (win0_1.rect t).emb (ix2 0 d)) (funext fun a => Fin.ext ?_)
    rw [win0_1.rect_emb_val]
    fin_cases a
    · have := hz 0; show win0_1.index t 0 * 1 + 0 = 0; omega
    · have := hz 1; show win0_1.index t 1 * 1024 + d.val = d.val; omega
  rw [e]
  entry_read
  pointwise []

theorem N_eq : cfg0.N = 8 := N_0

/-- The point that owns a token. -/
def ptOf (q : Fin 4096) : Fin cfg0.N := ⟨q.val / 512, by rw [N_eq]; omega⟩

theorem kernel_val (q : Fin 4096) (d : Fin 1024) :
    ((dats m 0 c).arrAt 2 cfg0.N : FVec Ideal S4096x1024 .bf16) (ix2 q d)
      = rowNorm (fun k => m (c, Proc.tc.devRef main_arg0) (ix3 (seqOf q) (posOf q) k)) (m (c, Proc.tc.devRef main_arg1)) d := by
  have h := (dats m 0 c).arrAt_emb_eq_flushed 2 Value.disjoint2 (ptOf q) (flush0_2 _) (ix2 (⟨q.val % 512, by omega⟩ : Fin 512) d)
  have hi : ((cfg0.win 2).blk (ptOf q)).view.emb (ix2 (⟨q.val % 512, by omega⟩ : Fin 512) d) = ix2 q d := by
    obtain ⟨h0, h1⟩ := (win_facts (ptOf q)).2.2
    refine funext fun a => Fin.ext ?_
    refine (win0_2.rect_emb_val (ptOf q) (ix2 (⟨q.val % 512, by omega⟩ : Fin 512) d) a).trans ?_
    fin_cases a
    · show win0_2.index (ptOf q) 0 * 512 + q.val % 512 = q.val; rw [h0]; show q.val / 512 * 512 + q.val % 512 = q.val; omega
    · show win0_2.index (ptOf q) 1 * 1024 + d.val = d.val; omega
  rw [hi, Value.flushed2] at h
  refine h.trans ((body_val (iblk m c 0 (ptOf q)) (iblk m c 1 (ptOf q)) (m (c, Proc.tc.devRef main_arg1)) (load_1 m c (ptOf q))
    ⟨q.val % 512, by omega⟩ d).trans ?_)
  refine congrArg (fun x => rowNorm x (m (c, Proc.tc.devRef main_arg1)) d) (funext fun k => ?_)
  exact load_0 m c (ptOf q) ⟨q.val % 512, by omega⟩ k q (show q.val = 512 * (q.val / 512) + q.val % 512 by omega)

end Kernel

end Cert.RmsFwd

end
-- ==== Proof.FfnFwd.lean ====
/-
  The feed-forward block's forward pass as functions of its arguments on the extended reals, and that the reference computes them.
  A token's row is multiplied by the up projection; each of the 5632 channels goes through a causal convolution of width three along
  the sequence; the first half of the channels, through `a·σ(a)`, gates the second; the gated channels are multiplied by the down
  projection and added to the residual stream, and the norm of the sum is taken. No argument needs to be finite.
-/
module

public import proofs.«01_k».proof.Proof.Spec
public import proofs.«01_k».proof.Proof.RmsFwd
public import proofs.«01_k».proof.Proof.Gen.Reference4Ideal.Read
public import Idealize.ShloMosaic.Lib.Pointwise

@[expose] public section

noncomputable section

namespace Cert.FfnFwd

open Idealize.ShloMosaic Idealize.ShloMosaic.TcCoe
open Cert.FfnBwd (tok seqOf posOf chan sub)
open Cert.RmsFwd (rowNorm)

/-- The arguments: the block's normalised rows, the up projection, the convolution's taps, the down projection, the residual stream
    and the next norm's gain. -/
structure Args where
  h : FVec Ideal ⟨3, ![2, 2048, 1024]⟩ .f32
  up : FVec Ideal ⟨2, ![1024, 5632]⟩ .f32
  taps : FVec Ideal ⟨2, ![3, 5632]⟩ .f32
  down : FVec Ideal ⟨2, ![2816, 1024]⟩ .f32
  x : FVec Ideal ⟨3, ![2, 2048, 1024]⟩ .f32
  gain : FVec Ideal ⟨1, ![1024]⟩ .f32

/-- The logistic function, `1 / (1 + exp (-a))`. -/
def sigma (a : EReal) : EReal := Ideal.div (Ideal.ofBits .f32 0x3F800000#32) (Ideal.ofBits .f32 0x3F800000#32 + Ideal.exp (-a))

namespace Args

variable (A : Args)

/-- Channel `j` of token `q` before the convolution. -/
def pre (j : Fin 5632) (q : Fin 4096) : EReal := ∑ d : Fin 1024, A.h (ix3 (seqOf q) (posOf q) d) * A.up (ix2 d j)

/-- That channel `k` tokens earlier in the same sequence, zero before the sequence begins. -/
def back (k : ℕ) (j : Fin 5632) (q : Fin 4096) : EReal := if k ≤ (posOf q).val then A.pre j ⟨q.val - k, by omega⟩ else 0

/-- The causal convolution. -/
def conv (j : Fin 5632) (q : Fin 4096) : EReal :=
  A.taps (ix2 0 j) * A.back 2 j q + A.taps (ix2 1 j) * A.back 1 j q + A.taps (ix2 2 j) * A.back 0 j q

/-- The gated activation. -/
def act (m : Fin 2816) (q : Fin 4096) : EReal := A.conv (chan 0 m) q * sigma (A.conv (chan 0 m) q) * A.conv (chan 1 m) q

/-- The residual stream behind the block. -/
def out (q : Fin 4096) (d : Fin 1024) : EReal := A.x (ix3 (seqOf q) (posOf q) d) + ∑ m : Fin 2816, A.act m q * A.down (ix2 m d)

end Args

theorem zero_f32 : Ideal.ofBits .f32 0x00000000#32 = 0 := by simp [Ideal.ofBits, Ideal.ieee]

section Reference

open Cert.Reference4Ideal Cert.Reference4Ideal.Gen Cert.Reference4Ideal.Read

variable (A : Args)

theorem ref_pre (b : Fin 2) (s : Fin 2048) (j : Fin 5632) (q : Fin 4096) (hb : b = seqOf q) (hs : s = posOf q) :
    val_main_v0 (F := Ideal) A.h A.up (ix3 b s j) = A.pre j q := by
  subst hb; subst hs
  pointwise [val_main_v0]
  rfl

/-- The rows with two zero rows in front of each sequence, read `2 - k` rows later: the channel `k` tokens earlier. -/
theorem ref_back (q : Fin 4096) (j : Fin 5632) (k : ℕ) (hk : k ≤ 2) (s' : Fin 2050) (hs : s'.val = (2 - k) + (posOf q).val) :
    val_main_v2 (F := Ideal) A.h A.up (ix3 (seqOf q) s' j) = A.back k j q := by
  unfold Args.back val_main_v2
  have hp : (posOf q).val = q.val % 2048 := rfl
  by_cases h : s'.val < 2
  · rw [if_neg (by omega)]
    generalize val_main_v0 (F := Ideal) A.h A.up = y
    pointwise [val_main_v1, val_main_cst]
    rw [dif_pos h]
  · rw [if_pos (by omega)]
    refine Eq.trans ?_ (ref_pre A (seqOf q) ⟨s'.val - 2, by omega⟩ j _ (Fin.ext ?_) (Fin.ext ?_))
    · generalize val_main_v0 (F := Ideal) A.h A.up = y
      pointwise [val_main_v1, val_main_cst]
      rw [dif_neg h]
    · show q.val / 2048 = (q.val - k) / 2048; omega
    · show s'.val - 2 = (q.val - k) % 2048; omega

theorem ref_conv (q : Fin 4096) (j : Fin 5632) :
    val_main_v24 (F := Ideal) A.h A.up A.taps (ix3 (seqOf q) (posOf q) j) = A.conv j q := by
  unfold Args.conv
  rw [← ref_back A q j 2 le_rfl ⟨(posOf q).val, by omega⟩ (by simp),
    ← ref_back A q j 1 (by omega) ⟨1 + (posOf q).val, by omega⟩ rfl,
    ← ref_back A q j 0 (by omega) ⟨2 + (posOf q).val, by omega⟩ rfl, mul_comm (A.taps _), mul_comm (A.taps _), mul_comm (A.taps _)]
  simp only [val_main_v24, val_main_v23, val_main_v22, val_main_v21, val_main_v20, val_main_v19, val_main_v18, val_main_v17, val_main_v16,
    val_main_v15, val_main_v14, val_main_v13, val_main_v12, val_main_v11, val_main_v10, val_main_v9, val_main_cst_0, val_main_v8, val_main_v7,
    val_main_v6, val_main_v5, val_main_v4, val_main_v3]
  generalize val_main_v2 (F := Ideal) A.h A.up = y
  pointwise []

theorem ref_act (q : Fin 4096) (m : Fin 2816) :
    val_main_v28 (F := Ideal) A.h A.up A.taps (ix3 (seqOf q) (posOf q) m) = A.act m q := by
  unfold Args.act sigma
  rw [← ref_conv, ← ref_conv]
  simp only [val_main_v28, val_main_v27, val_main_call0_v5, val_main_call0_v4, val_main_call0_cst_0, val_main_call0_v3, val_main_call0_v2,
    val_main_call0_cst, val_main_call0_v1, val_main_call0_v0, val_main_v26, val_main_v25]
  generalize val_main_v24 (F := Ideal) A.h A.up A.taps = y
  have e0 : ∀ h, (⟨m.val, h⟩ : Fin 5632) = chan 0 m := fun _ => Fin.ext (by simp [chan])
  have e1 : ∀ h, (⟨2816 + m.val, h⟩ : Fin 5632) = chan 1 m := fun _ => Fin.ext (by simp [chan])
  pointwise []
  simp only [e0, e1]

theorem ref_sum (q : Fin 4096) (d : Fin 1024) :
    val_main_v30 (F := Ideal) A.h A.up A.taps A.down A.x (ix3 (seqOf q) (posOf q) d) = A.out q d := by
  unfold Args.out
  simp only [← ref_act]
  simp only [val_main_v30, val_main_v29]
  generalize val_main_v28 (F := Ideal) A.h A.up A.taps = y
  pointwise []

theorem ref_out (q : Fin 4096) (d : Fin 1024) :
    val_main_v31 (F := Ideal) A.h A.up A.taps A.down A.x (ix2 q d) = A.out q d := by
  rw [← ref_sum]
  unfold val_main_v31
  generalize val_main_v30 (F := Ideal) A.h A.up A.taps A.down A.x = y
  pointwise []
  rfl

theorem ref_norm (q : Fin 4096) (d : Fin 1024) :
    val_main_v46 (F := Ideal) A.h A.up A.taps A.down A.x A.gain (ix2 q d) = rowNorm (A.out q) A.gain d := by
  rw [show A.out q = fun k => val_main_v30 (F := Ideal) A.h A.up A.taps A.down A.x (ix3 (seqOf q) (posOf q) k) from
    funext fun k => (ref_sum A q k).symm]
  simp only [val_main_v46, val_main_v45, val_main_v44, val_main_v43, val_main_v42, val_main_v41, val_main_v40, val_main_v39, val_main_v38,
    val_main_v37, val_main_cst_3, val_main_v36, val_main_v35, val_main_cst_2, val_main_v34, val_main_v33, val_main_cst_1, val_main_v32]
  generalize val_main_v30 (F := Ideal) A.h A.up A.taps A.down A.x = y
  pointwise []
  rfl

theorem ref_act_block (p : Fin 4) (q : Fin 4096) (n : Fin 704) :
    val_main_v49 (F := Ideal) A.h A.up A.taps (ix3 p q n) = A.act (sub p n) q := by
  rw [← ref_act]
  simp only [val_main_v49, val_main_v48, val_main_v47]
  generalize val_main_v28 (F := Ideal) A.h A.up A.taps = y
  pointwise []
  rfl

theorem ref_pre_block (g : Fin 2) (p : Fin 4) (q : Fin 4096) (n : Fin 704) :
    val_main_v52 (F := Ideal) A.h A.up (ix4 g p q n) = A.pre (chan g (sub p n)) q := by
  rw [← ref_pre A (seqOf q) (posOf q) _ q rfl rfl]
  simp only [val_main_v52, val_main_v51, val_main_v50]
  generalize val_main_v0 (F := Ideal) A.h A.up = y
  pointwise []
  exact congrArg (fun j => y (ix3 (seqOf q) (posOf q) j)) (Fin.ext (by simp only [chan, sub]; omega))

end Reference

end Cert.FfnFwd

end
-- ==== Proof.Tile.lean ====
/-
  What one grid point of the feed-forward backward call computes, written as functions of the blocks it loads. A grid point owns
  256 rows; it works on a WINDOW of 272 rows (eight before, eight after) so that the causal convolution of width three and its
  transpose can be read off by rotating rows. Every channel chunk is treated by the same functions; `Blocks.lean` shows that the
  stored blocks are these functions' values.
-/
module

public import proofs.«01_k».proof.Proof.Gen.KernelIdeal.Skeleton
public import proofs.«01_k».proof.Proof.Gen.KernelIdeal
public import Idealize.ShloMosaic.Lib.Pointwise

@[expose] public section

noncomputable section

namespace Cert.FfnBwd

open Idealize.ShloMosaic Cert.KernelIdeal Cert.KernelIdeal.Gen Idealize.ShloMosaic.TcCoe

variable {F : FTy → Type} [FloatOps F]

/-! ## Cutting a chunk out of a block -/

/-- The rows of channel chunk `(g, p)` of a block with `n` rows, as the one-chunk block a load returns. -/
def slab {e : EltTy} {n : ℕ} (X : Vec F ⟨4, ![2, 4, n, 704]⟩ e) (g : Fin 2) (p : Fin 4) : Vec F ⟨4, ![1, 1, n, 704]⟩ e :=
  fun j => X (ix4 g p (j 2) (j 3))

/-- Matrix `p` of a stack of `n` matrices, as the one-matrix block a load returns. -/
def layer {e : EltTy} {n : ℕ} (X : Vec F ⟨3, ![n, 704, 1024]⟩ e) (p : Fin n) : Vec F S1x704x1024 e :=
  fun j => X (ix3 p (j 1) (j 2))

/-! ## The window -/

/-- The scale of the rows before the tile: zero at the first tile of a sequence. -/
def hasPrev (i : grid0.Coords) : F .f32 := k0_pay54 i

/-- The scale of the rows after the tile: zero at the last tile of a sequence. -/
def hasNext (i : grid0.Coords) : F .f32 := k0_pay55 i

/-- The window of one chunk: the last eight rows before the tile, the tile, the first eight rows after it. -/
def window (hp hn : F .f32) (b : Vec F S1x1x16x704 .bf16) (m : Vec F S1x1x256x704 .bf16) (a : Vec F S1x1x16x704 .bf16) :
    FVec F S272x704 .f32 :=
  concatenate S272x704 0
    [⟨S8x704, mulf (extractStridedSlice S8x704 ![8, 0] (extf .f32 (shapeCast S16x704 b shapeCasts_S1x1x16x704_S16x704) bitsLt_bf16_f32)
        slices_S16x704_o8_0_S8x704) (broadcast S8x704 hp)⟩,
     ⟨S256x704, extf .f32 (shapeCast S256x704 m shapeCasts_S1x1x256x704_S256x704) bitsLt_bf16_f32⟩,
     ⟨S8x704, mulf (extractStridedSlice S8x704 ![0, 0] (extf .f32 (shapeCast S16x704 a shapeCasts_S1x1x16x704_S16x704) bitsLt_bf16_f32)
        slices_S16x704_o0_0_S8x704) (broadcast S8x704 hn)⟩]
    concatenates_S8x704_S256x704_S8x704_S272x704_d0

/-- The rows of the result's gradient around the tile, sixteen on each side. -/
def dyRows (b : Vec F S16x1024 .bf16) (m : Vec F S256x1024 .bf16) (a : Vec F S16x1024 .bf16) : FVec F S288x1024 .bf16 :=
  concatenate S288x1024 0
    [⟨S16x1024, shapeCast S16x1024 b shapeCasts_S16x1024_S16x1024⟩, ⟨S256x1024, shapeCast S256x1024 m shapeCasts_S256x1024_S256x1024⟩,
     ⟨S16x1024, shapeCast S16x1024 a shapeCasts_S16x1024_S16x1024⟩]
    concatenates_S16x1024_S256x1024_S16x1024_S288x1024_d0

/-- The column that scales the window's rows: the rows before and after the tile by their scales, the tile's by one. -/
def edge (hp hn : F .f32) : FVec F S272x1 .f32 :=
  select (cmpi .slt (iota .tc S272x1 32 [0] iota_S272x1_d0_w32) (broadcast S272x1 8#32)) (broadcast S272x1 hp)
    (select (cmpi .sge (iota .tc S272x1 32 [0] iota_S272x1_d0_w32) (broadcast S272x1 264#32)) (broadcast S272x1 hn)
      (broadcast S272x1 (Scalar.ofBits .f32 0x3F800000#32)))

/-- The gradient of the gated activation on the window: the result's gradient times the down projection transposed. -/
def dAct (dy : FVec F S288x1024 .bf16) (ed : FVec F S272x1 .f32) (wd : Vec F S1x704x1024 .bf16) : FVec F S272x704 .f32 :=
  mulf (extractStridedSlice S272x704 ![8, 0]
      (matmul dot_S288x1024_S704x1024_S288x704_1_1_0_0_n_n none dy (shapeCast S704x1024 wd shapeCasts_S1x704x1024_S704x1024)
        (constant S288x704 .f32 0x00000000#32)) slices_S288x704_o8_0_S272x704)
    (broadcastTo S272x704 ed broadcasts_S272x1_S272x704)

/-! ## The convolution and its transpose, by rotating rows -/

/-- Rows moved down by one (the last row comes first). -/
def down (z : FVec F S272x704 .f32) : FVec F S272x704 .f32 := dynamicRotate 0 1#32 none z rotates_S272x704_d0

/-- Rows moved up by one (the first row comes last). -/
def up (z : FVec F S272x704 .f32) : FVec F S272x704 .f32 := dynamicRotate 0 271#32 none z rotates_S272x704_d0

/-- Tap `0` of the chunk's convolution weights on every row. -/
def tap0 (w : Vec F S1x1x3x704 .f32) : FVec F S272x704 .f32 :=
  broadcastTo S272x704 (extractStridedSlice S1x704 ![0, 0] (shapeCast S3x704 w shapeCasts_S1x1x3x704_S3x704)
    slices_S3x704_o0_0_S1x704) broadcasts_S1x704_S272x704

/-- Tap `1` of the chunk's convolution weights on every row. -/
def tap1 (w : Vec F S1x1x3x704 .f32) : FVec F S272x704 .f32 :=
  broadcastTo S272x704 (extractStridedSlice S1x704 ![1, 0] (shapeCast S3x704 w shapeCasts_S1x1x3x704_S3x704)
    slices_S3x704_o1_0_S1x704) broadcasts_S1x704_S272x704

/-- Tap `2` of the chunk's convolution weights on every row. -/
def tap2 (w : Vec F S1x1x3x704 .f32) : FVec F S272x704 .f32 :=
  broadcastTo S272x704 (extractStridedSlice S1x704 ![2, 0] (shapeCast S3x704 w shapeCasts_S1x1x3x704_S3x704)
    slices_S3x704_o2_0_S1x704) broadcasts_S1x704_S272x704

/-- The causal convolution of the window's rows. -/
def conv (z : FVec F S272x704 .f32) (w : Vec F S1x1x3x704 .f32) : FVec F S272x704 .f32 :=
  addf (addf (mulf (tap0 w) (down (down z))) (mulf (tap1 w) (down z))) (mulf (tap2 w) z)

/-- The transposed convolution of the window's rows. -/
def convT (d : FVec F S272x704 .f32) (w : Vec F S1x1x3x704 .f32) : FVec F S272x704 .f32 :=
  addf (addf (mulf (tap2 w) d) (mulf (tap1 w) (up d))) (mulf (tap0 w) (up (up d)))

/-- The sum over the tile's rows of the products of two windows. -/
def rowSum (d z : FVec F S272x704 .f32) : FVec F S1x704 .f32 :=
  shapeCast S1x704 (multiReduction .add [0] S704 (extractStridedSlice S256x704 ![8, 0] (mulf d z) slices_S272x704_o8_0_S256x704)
    0x00000000#32 reduces_S256x704_S704 (.inl rfl) rfl) shapeCasts_S704_S1x704

/-- The tile's rows of a window, rounded. -/
def mid (z : FVec F S272x704 .f32) : FVec F S256x704 .bf16 :=
  truncf .bf16 (extractStridedSlice S256x704 ![8, 0] z slices_S272x704_o8_0_S256x704) bitsLt_bf16_f32

/-! ## The gate -/

/-- The logistic function, through the hyperbolic tangent of half the argument. -/
def sigm (a : FVec F S272x704 .f32) : FVec F S272x704 .f32 :=
  addf (mulf (broadcast S272x704 (Scalar.ofBits .f32 0x3F000000#32))
      (tanh (mulf (broadcast S272x704 (Scalar.ofBits .f32 0x3F000000#32)) a)))
    (broadcast S272x704 (Scalar.ofBits .f32 0x3F000000#32))

/-- The gradient of the gate's argument. -/
def dGate (da a v : FVec F S272x704 .f32) : FVec F S272x704 .f32 :=
  mulf (mulf da v) (subf (addf (sigm a) (mulf a (sigm a))) (mulf (mulf a (sigm a)) (sigm a)))

/-- The gradient of the gated value. -/
def dVal (da a : FVec F S272x704 .f32) : FVec F S272x704 .f32 := mulf da (mulf a (sigm a))

/-! ## One tile -/

/-- The twelve blocks a grid point loads, and its number. -/
structure Tile (F : FTy → Type) where
  i : grid0.Coords
  pm : Vec F S2x4x256x704 .bf16
  pp : Vec F S2x4x16x704 .bf16
  pn : Vec F S2x4x16x704 .bf16
  dm : Vec F S256x1024 .bf16
  dp : Vec F S16x1024 .bf16
  dn : Vec F S16x1024 .bf16
  w : Vec F S2x4x3x704 .f32
  wd : Vec F S4x704x1024 .bf16
  wu : Vec F S8x704x1024 .bf16
  x : Vec F S256x1024 .f32
  g : Vec F S1x1024 .f32
  res : Vec F S256x1024 .f32

namespace Tile

variable (T : Tile F)

/-- The window of the convolution's argument, chunk `p` of half `g` (half 0 the gate, half 1 the value). -/
def pre (g : Fin 2) (p : Fin 4) : FVec F S272x704 .f32 :=
  window (hasPrev T.i) (hasNext T.i) (slab (n := 16) T.pp g p) (slab (n := 256) T.pm g p) (slab (n := 16) T.pn g p)

/-- The convolved window. -/
def post (g : Fin 2) (p : Fin 4) : FVec F S272x704 .f32 := conv (T.pre g p) (slab (n := 3) T.w g p)

/-- The window of the activation's gradient. -/
def da (p : Fin 4) : FVec F S272x704 .f32 :=
  dAct (dyRows T.dp T.dm T.dn) (edge (hasPrev T.i) (hasNext T.i)) (layer (n := 4) T.wd p)

/-- The window of the gradient of the convolution's result. -/
def dPost (g : Fin 2) (p : Fin 4) : FVec F S272x704 .f32 :=
  if g = 0 then dGate (T.da p) (T.post 0 p) (T.post 1 p) else dVal (T.da p) (T.post 0 p)

/-- The tile's rows of the gradient of the convolution's argument. -/
def dPre (g : Fin 2) (p : Fin 4) : FVec F S256x704 .bf16 := mid (convT (T.dPost g p) (slab (n := 3) T.w g p))

/-- The tile's part of the gradient of the convolution's weights, tap `k`. -/
def dW (g : Fin 2) (k : Fin 3) (p : Fin 4) : FVec F S1x704 .f32 :=
  rowSum (match k with | 0 => up (up (T.dPost g p)) | 1 => up (T.dPost g p) | 2 => T.dPost g p) (T.pre g p)

/-- The gradient of the convolution's argument, as the block a grid point stores. -/
def dPreBlock : Vec F S2x4x256x704 .bf16 := fun j => T.dPre (j 0) (j 1) (ix2 (j 2) (j 3))

/-- The tile's part of the gradient of the convolution's weights, as the block a grid point stores or adds. -/
def dWBlock : FVec F S2x4x3x704 .f32 := fun j => T.dW (j 0) (j 2) (j 1) (ix2 0 (j 3))

/-- The product of one chunk's gradient with the up projection's matrix `q`. -/
def upMul (d : FVec F S256x704 .bf16) (q : Fin 8) : FVec F S256x1024 .f32 :=
  matmul dot_S256x704_S704x1024_S256x1024_1_0_0_1_n_n none d
    (shapeCast S704x1024 (layer (n := 8) T.wu q) shapeCasts_S1x704x1024_S704x1024) (constant S256x1024 .f32 0x00000000#32)

/-- The gradient of the normalised rows: the eight chunks' products, added up. -/
def dh : FVec F S256x1024 .f32 :=
  addf (addf (addf (addf (addf (addf (addf (addf (broadcast S256x1024 (Scalar.ofBits .f32 0x00000000#32))
    (T.upMul (T.dPre 0 0) 0)) (T.upMul (T.dPre 1 0) 4))
    (T.upMul (T.dPre 0 1) 1)) (T.upMul (T.dPre 1 1) 5))
    (T.upMul (T.dPre 0 2) 2)) (T.upMul (T.dPre 1 2) 6))
    (T.upMul (T.dPre 0 3) 3)) (T.upMul (T.dPre 1 3) 7)

/-- The mean over a row, as a column. -/
def rowMean (z : FVec F S256x1024 .f32) : FVec F S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

/-- The rows of the input. -/
def xv : FVec F S256x1024 .f32 := shapeCast S256x1024 T.x shapeCasts_S256x1024_S256x1024

/-- The reciprocal root mean square of the input's rows. -/
def rinv : FVec F S256x1 .f32 :=
  rsqrt (addf (rowMean (mulf T.xv T.xv)) (broadcast S256x1 (Scalar.ofBits .f32 0x358637BD#32)))

/-- The normalised rows. -/
def xh : FVec F S256x1024 .f32 := mulf T.xv (broadcastTo S256x1024 T.rinv broadcasts_S256x1_S256x1024)

/-- The gradient of the normalised rows times the gain. -/
def gd : FVec F S256x1024 .f32 :=
  mulf T.dh (broadcastTo S256x1024 (shapeCast S1x1024 T.g shapeCasts_S1x1024_S1x1024) broadcasts_S1x1024_S256x1024)

/-- The gradient of the input, the residual's gradient added. -/
def dx : FVec F S256x1024 .f32 :=
  addf (mulf (broadcastTo S256x1024 T.rinv broadcasts_S256x1_S256x1024)
      (subf T.gd (mulf T.xh (broadcastTo S256x1024 (rowMean (mulf T.gd T.xh)) broadcasts_S256x1_S256x1024))))
    (shapeCast S256x1024 T.res shapeCasts_S256x1024_S256x1024)

/-- The tile's part of the gradient of the gain. -/
def dg : FVec F S1x1024 .f32 :=
  shapeCast S1x1024 (multiReduction .add [0] S1024 (mulf T.dh T.xh) 0x00000000#32 reduces_S256x1024_S1024 (.inl rfl) rfl)
    shapeCasts_S1024_S1x1024

end Tile

end Cert.FfnBwd

end
-- ==== Proof.Blocks.lean ====
/-
  The blocks a grid point stores, as the functions of `Tile.lean`: for every result of the launch, what the body leaves in its
  staging buffer is that function of the blocks it loaded (and, for the two accumulated results, of what was there before).
-/
module

public import proofs.«01_k».proof.Proof.Sums
public import proofs.«01_k».proof.Proof.Gen.KernelIdeal.Frame
public import proofs.«01_k».proof.Proof.Tile

@[expose] public section

noncomputable section

namespace Cert.FfnBwd

open Idealize.ShloMosaic Idealize.SL.Sem Cert.KernelIdeal Cert.KernelIdeal.Gen Idealize.ShloMosaic.TcCoe

variable {F : FTy → Type} [FloatOps F]

/-! ## Loads of one chunk -/

/-- A load of chunk `(g, p)` is the chunk. -/
theorem ld_slab {e : EltTy} {n : ℕ} (X : Vec F ⟨4, ![2, 4, n, 704]⟩ e) (g p : ℕ)
    (inb : ∀ a, (![g, p, 0, 0] : Fin 4 → ℕ) a + (![1, 1, n, 704] : Fin 4 → ℕ) a ≤ (![2, 4, n, 704] : Fin 4 → ℕ) a) :
    View.ld X (Rect.unit (s := ⟨4, ![2, 4, n, 704]⟩) ![g, p, 0, 0] ![1, 1, n, 704] inb)
      = slab X ⟨g, by have := inb 0; simpa using this⟩ ⟨p, by have := inb 1; simpa using this⟩ := by
  funext j
  refine congrArg X (funext fun a => Fin.ext ?_)
  have h0 : (j 0).val = 0 := by have := (j 0).isLt; simp at this; omega
  have h1 : (j 1).val = 0 := by have := (j 1).isLt; simp at this; omega
  match a with
  | ⟨0, _⟩ => show g + 1 * (j 0).val = g; omega
  | ⟨1, _⟩ => show p + 1 * (j 1).val = p; omega
  | ⟨2, _⟩ => show 0 + 1 * (j 2).val = (j 2).val; omega
  | ⟨3, _⟩ => show 0 + 1 * (j 3).val = (j 3).val; omega

/-- A load of matrix `p` is the matrix. -/
theorem ld_layer {e : EltTy} {n : ℕ} (X : Vec F ⟨3, ![n, 704, 1024]⟩ e) (p : ℕ)
    (inb : ∀ a, (![p, 0, 0] : Fin 3 → ℕ) a + (![1, 704, 1024] : Fin 3 → ℕ) a ≤ (![n, 704, 1024] : Fin 3 → ℕ) a) :
    View.ld X (Rect.unit (s := ⟨3, ![n, 704, 1024]⟩) ![p, 0, 0] ![1, 704, 1024] inb)
      = layer X ⟨p, by have := inb 0; simp at this; omega⟩ := by
  funext j
  refine congrArg X (funext fun a => Fin.ext ?_)
  have h0 : (j 0).val = 0 := by have := (j 0).isLt; simp at this; omega
  match a with
  | ⟨0, _⟩ => show p + 1 * (j 0).val = p; omega
  | ⟨1, _⟩ => show 0 + 1 * (j 1).val = (j 1).val; omega
  | ⟨2, _⟩ => show 0 + 1 * (j 2).val = (j 2).val; omega

/-! ## Stores of one chunk or one row -/

theorem addUnits {α : Type} (V : S256x704.Idx → α) (h) (x : S1x1x256x704.Idx) :
    shapeCast S1x1x256x704 V h x = V (ix2 (x 2) (x 3)) := by
  rw [eq_ix4 x]; pointwise []

theorem addUnitsRow {α : Type} (V : S1x704.Idx → α) (h) (x : S1x1x1x704.Idx) :
    shapeCast S1x1x1x704 V h x = V (ix2 0 (x 3)) := by
  rw [eq_ix4 x]; pointwise []

theorem dropUnitsRow {α : Type} (V : S1x1x1x704.Idx → α) (h) (x : S1x704.Idx) :
    shapeCast S1x704 V h x = V (ix4 0 0 0 (x 1)) := by
  rw [eq_ix2 x]; pointwise []

/-- A store of chunk `(g, p)` of the gradient of the convolution's argument writes the block's own values. -/
theorem piece_dPre (T : Tile F) (g p : ℕ) (inb) (hg : g < 2) (hp : p < 4) (P : S1x1x256x704.Idx → F .bf16) (h)
    (hP : P = shapeCast S1x1x256x704 (T.dPre ⟨g, hg⟩ ⟨p, hp⟩) h) (x : S1x1x256x704.Idx) :
    P x = T.dPreBlock ((Rect.unit (s := S2x4x256x704) ![g, p, 0, 0] ![1, 1, 256, 704] inb).emb x) := by
  subst hP
  rw [addUnits]
  have h0 : (x 0).val = 0 := by have := (x 0).isLt; simp at this; omega
  have h1 : (x 1).val = 0 := by have := (x 1).isLt; simp at this; omega
  have e : (Rect.unit (s := S2x4x256x704) ![g, p, 0, 0] ![1, 1, 256, 704] inb).emb x = ix4 ⟨g, hg⟩ ⟨p, hp⟩ (x 2) (x 3) := by
    funext a
    match a with
    | ⟨0, _⟩ => exact Fin.ext (by show g + 1 * (x 0).val = g; omega)
    | ⟨1, _⟩ => exact Fin.ext (by show p + 1 * (x 1).val = p; omega)
    | ⟨2, _⟩ => exact Fin.ext (by show 0 + 1 * (x 2).val = (x 2).val; omega)
    | ⟨3, _⟩ => exact Fin.ext (by show 0 + 1 * (x 3).val = (x 3).val; omega)
  rw [e]
  rfl

/-- A store of row `k` of chunk `(g, p)` of the weights' gradient writes the block's own values. -/
theorem piece_dW (T : Tile F) (g p k : ℕ) (inb) (hg : g < 2) (hp : p < 4) (hk : k < 3) (P : S1x1x1x704.Idx → F .f32) (h)
    (hP : P = shapeCast S1x1x1x704 (T.dW ⟨g, hg⟩ ⟨k, hk⟩ ⟨p, hp⟩) h) (x : S1x1x1x704.Idx) :
    P x = T.dWBlock ((Rect.unit (s := S2x4x3x704) ![g, p, k, 0] ![1, 1, 1, 704] inb).emb x) := by
  subst hP
  rw [addUnitsRow]
  have h0 : (x 0).val = 0 := by have := (x 0).isLt; simp at this; omega
  have h1 : (x 1).val = 0 := by have := (x 1).isLt; simp at this; omega
  have h2 : (x 2).val = 0 := by have := (x 2).isLt; simp at this; omega
  have e : (Rect.unit (s := S2x4x3x704) ![g, p, k, 0] ![1, 1, 1, 704] inb).emb x = ix4 ⟨g, hg⟩ ⟨p, hp⟩ ⟨k, hk⟩ (x 3) := by
    funext a
    match a with
    | ⟨0, _⟩ => exact Fin.ext (by show g + 1 * (x 0).val = g; omega)
    | ⟨1, _⟩ => exact Fin.ext (by show p + 1 * (x 1).val = p; omega)
    | ⟨2, _⟩ => exact Fin.ext (by show k + 1 * (x 2).val = k; omega)
    | ⟨3, _⟩ => exact Fin.ext (by show 0 + 1 * (x 3).val = (x 3).val; omega)
  rw [e]
  rfl

/-- A store of that row after adding it to what the row held before. -/
theorem piece_dW_add (T : Tile F) (o : Vec F S2x4x3x704 .f32) (g p k : ℕ) (inb inb') (hg : g < 2) (hp : p < 4) (hk : k < 3)
    (P : S1x1x1x704.Idx → F .f32) (h h')
    (hP : P = shapeCast S1x1x1x704 (addf (shapeCast S1x704 (View.ld o (Rect.unit (s := S2x4x3x704) ![g, p, k, 0] ![1, 1, 1, 704] inb')) h')
      (T.dW ⟨g, hg⟩ ⟨k, hk⟩ ⟨p, hp⟩)) h) (x : S1x1x1x704.Idx) :
    P x = addf o T.dWBlock ((Rect.unit (s := S2x4x3x704) ![g, p, k, 0] ![1, 1, 1, 704] inb).emb x) := by
  subst hP
  have h0 : (x 0).val = 0 := by have := (x 0).isLt; simp at this; omega
  have h1 : (x 1).val = 0 := by have := (x 1).isLt; simp at this; omega
  have h2 : (x 2).val = 0 := by have := (x 2).isLt; simp at this; omega
  have hx : x = ix4 0 0 0 (x 3) := by
    funext a
    match a with
    | ⟨0, _⟩ => exact Fin.ext h0
    | ⟨1, _⟩ => exact Fin.ext h1
    | ⟨2, _⟩ => exact Fin.ext h2
    | ⟨3, _⟩ => rfl
  have e := piece_dW T g p k inb hg hp hk _ h rfl x
  rw [addUnitsRow] at e
  rw [addUnitsRow]
  show FloatOps.addf (shapeCast S1x704 _ h' _) _ = FloatOps.addf _ _
  rw [e, dropUnitsRow]
  refine congrArg (FloatOps.addf · _) ?_
  exact congrArg (fun z => o ((Rect.unit (s := S2x4x3x704) ![g, p, k, 0] ![1, 1, 1, 704] inb).emb z)) hx.symm

theorem out_A_12 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11) :
    out0_A_12 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 = (Tile.mk i x0 x1 x2 x3 x4 x5 x6 x7 x8 x9 x10 x11 : Tile F).dPreBlock := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11)]
  funext y
  refine View.canon_apply_of_pieces ((Tile.mk i x0 x1 x2 x3 x4 x5 x6 x7 x8 x9 x10 x11 : Tile F).dPreBlock) _ ?_ y (cover0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 y)
  clear y
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2, List.forall_mem_cons]
  exact ⟨piece_dPre _ 1 3 _ (by decide) (by decide) _ shapeCasts_S256x704_S1x1x256x704 rfl, piece_dPre _ 0 3 _ (by decide) (by decide) _ shapeCasts_S256x704_S1x1x256x704 rfl, piece_dPre _ 1 2 _ (by decide) (by decide) _ shapeCasts_S256x704_S1x1x256x704 rfl, piece_dPre _ 0 2 _ (by decide) (by decide) _ shapeCasts_S256x704_S1x1x256x704 rfl, piece_dPre _ 1 1 _ (by decide) (by decide) _ shapeCasts_S256x704_S1x1x256x704 rfl, piece_dPre _ 0 1 _ (by decide) (by decide) _ shapeCasts_S256x704_S1x1x256x704 rfl, piece_dPre _ 1 0 _ (by decide) (by decide) _ shapeCasts_S256x704_S1x1x256x704 rfl, piece_dPre _ 0 0 _ (by decide) (by decide) _ shapeCasts_S256x704_S1x1x256x704 rfl, fun _ h => absurd h List.not_mem_nil⟩

theorem out_A_13 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11) :
    out0_A_13 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 = (Tile.mk i x0 x1 x2 x3 x4 x5 x6 x7 x8 x9 x10 x11 : Tile F).dWBlock := by
  unfold out0_A_13
  rw [View.read_writes_eq_canon _ _ _ (cover0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11)]
  funext y
  refine View.canon_apply_of_pieces ((Tile.mk i x0 x1 x2 x3 x4 x5 x6 x7 x8 x9 x10 x11 : Tile F).dWBlock) _ ?_ y (cover0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 y)
  clear y
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2, List.forall_mem_cons]
  exact ⟨piece_dW _ 1 3 2 _ (by decide) (by decide) (by decide) _ shapeCasts_S1x704_S1x1x1x704 rfl,
    piece_dW _ 1 3 1 _ (by decide) (by decide) (by decide) _ shapeCasts_S1x704_S1x1x1x704 rfl,
    piece_dW _ 1 3 0 _ (by decide) (by decide) (by decide) _ shapeCasts_S1x704_S1x1x1x704 rfl,
    piece_dW _ 0 3 2 _ (by decide) (by decide) (by decide) _ shapeCasts_S1x704_S1x1x1x704 rfl,
    piece_dW _ 0 3 1 _ (by decide) (by decide) (by decide) _ shapeCasts_S1x704_S1x1x1x704 rfl,
    piece_dW _ 0 3 0 _ (by decide) (by decide) (by decide) _ shapeCasts_S1x704_S1x1x1x704 rfl,
    piece_dW _ 1 2 2 _ (by decide) (by decide) (by decide) _ shapeCasts_S1x704_S1x1x1x704 rfl,
    piece_dW _ 1 2 1 _ (by decide) (by decide) (by decide) _ shapeCasts_S1x704_S1x1x1x704 rfl,
    piece_dW _ 1 2 0 _ (by decide) (by decide) (by decide) _ shapeCasts_S1x704_S1x1x1x704 rfl,
    piece_dW _ 0 2 2 _ (by decide) (by decide) (by decide) _ shapeCasts_S1x704_S1x1x1x704 rfl,
    piece_dW _ 0 2 1 _ (by decide) (by decide) (by decide) _ shapeCasts_S1x704_S1x1x1x704 rfl,
    piece_dW _ 0 2 0 _ (by decide) (by decide) (by decide) _ shapeCasts_S1x704_S1x1x1x704 rfl,
    piece_dW _ 1 1 2 _ (by decide) (by decide) (by decide) _ shapeCasts_S1x704_S1x1x1x704 rfl,
    piece_dW _ 1 1 1 _ (by decide) (by decide) (by decide) _ shapeCasts_S1x704_S1x1x1x704 rfl,
    piece_dW _ 1 1 0 _ (by decide) (by decide) (by decide) _ shapeCasts_S1x704_S1x1x1x704 rfl,
    piece_dW _ 0 1 2 _ (by decide) (by decide) (by decide) _ shapeCasts_S1x704_S1x1x1x704 rfl,
    piece_dW _ 0 1 1 _ (by decide) (by decide) (by decide) _ shapeCasts_S1x704_S1x1x1x704 rfl,
    piece_dW _ 0 1 0 _ (by decide) (by decide) (by decide) _ shapeCasts_S1x704_S1x1x1x704 rfl,
    piece_dW _ 1 0 2 _ (by decide) (by decide) (by decide) _ shapeCasts_S1x704_S1x1x1x704 rfl,
    piece_dW _ 1 0 1 _ (by decide) (by decide) (by decide) _ shapeCasts_S1x704_S1x1x1x704 rfl,
    piece_dW _ 1 0 0 _ (by decide) (by decide) (by decide) _ shapeCasts_S1x704_S1x1x1x704 rfl,
    piece_dW _ 0 0 2 _ (by decide) (by decide) (by decide) _ shapeCasts_S1x704_S1x1x1x704 rfl,
    piece_dW _ 0 0 1 _ (by decide) (by decide) (by decide) _ shapeCasts_S1x704_S1x1x1x704 rfl,
    piece_dW _ 0 0 0 _ (by decide) (by decide) (by decide) _ shapeCasts_S1x704_S1x1x1x704 rfl, fun _ h => absurd h List.not_mem_nil⟩

theorem out_A_14 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11) :
    out0_A_14 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 = (Tile.mk i x0 x1 x2 x3 x4 x5 x6 x7 x8 x9 x10 x11 : Tile F).dx := by
  unfold out0_A_14
  rw [View.read_writes_eq_canon _ _ _ (cover0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  rfl

theorem out_A_15 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11) :
    out0_A_15 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 = truncf .bf16 (Tile.mk i x0 x1 x2 x3 x4 x5 x6 x7 x8 x9 x10 x11 : Tile F).dx bitsLt_bf16_f32 := by
  unfold out0_A_15
  rw [View.read_writes_eq_canon _ _ _ (cover0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  rfl

theorem out_A_16 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11) :
    out0_A_16 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 = (Tile.mk i x0 x1 x2 x3 x4 x5 x6 x7 x8 x9 x10 x11 : Tile F).dg := by
  unfold out0_A_16
  rw [View.read_writes_eq_canon _ _ _ (cover0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  rfl

theorem out_B_12 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11 xo13 xo16) :
    out0_B_12 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 = (Tile.mk i x0 x1 x2 x3 x4 x5 x6 x7 x8 x9 x10 x11 : Tile F).dPreBlock := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16)]
  funext y
  refine View.canon_apply_of_pieces ((Tile.mk i x0 x1 x2 x3 x4 x5 x6 x7 x8 x9 x10 x11 : Tile F).dPreBlock) _ ?_ y (cover0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 y)
  clear y
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2, List.forall_mem_cons]
  exact ⟨piece_dPre _ 1 3 _ (by decide) (by decide) _ shapeCasts_S256x704_S1x1x256x704 rfl, piece_dPre _ 0 3 _ (by decide) (by decide) _ shapeCasts_S256x704_S1x1x256x704 rfl, piece_dPre _ 1 2 _ (by decide) (by decide) _ shapeCasts_S256x704_S1x1x256x704 rfl, piece_dPre _ 0 2 _ (by decide) (by decide) _ shapeCasts_S256x704_S1x1x256x704 rfl, piece_dPre _ 1 1 _ (by decide) (by decide) _ shapeCasts_S256x704_S1x1x256x704 rfl, piece_dPre _ 0 1 _ (by decide) (by decide) _ shapeCasts_S256x704_S1x1x256x704 rfl, piece_dPre _ 1 0 _ (by decide) (by decide) _ shapeCasts_S256x704_S1x1x256x704 rfl, piece_dPre _ 0 0 _ (by decide) (by decide) _ shapeCasts_S256x704_S1x1x256x704 rfl, fun _ h => absurd h List.not_mem_nil⟩

theorem out_B_13 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11 xo13 xo16) :
    out0_B_13 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 = addf xo13 (Tile.mk i x0 x1 x2 x3 x4 x5 x6 x7 x8 x9 x10 x11 : Tile F).dWBlock := by
  unfold out0_B_13
  rw [View.read_writes_eq_canon _ _ _ (cover0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16)]
  funext y
  refine View.canon_apply_of_pieces (addf xo13 (Tile.mk i x0 x1 x2 x3 x4 x5 x6 x7 x8 x9 x10 x11 : Tile F).dWBlock) _ ?_ y (cover0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 y)
  clear y
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2, List.forall_mem_cons]
  exact ⟨piece_dW_add _ _ 1 3 2 _ _ (by decide) (by decide) (by decide) _ shapeCasts_S1x704_S1x1x1x704 shapeCasts_S1x1x1x704_S1x704 rfl,
    piece_dW_add _ _ 1 3 1 _ _ (by decide) (by decide) (by decide) _ shapeCasts_S1x704_S1x1x1x704 shapeCasts_S1x1x1x704_S1x704 rfl,
    piece_dW_add _ _ 1 3 0 _ _ (by decide) (by decide) (by decide) _ shapeCasts_S1x704_S1x1x1x704 shapeCasts_S1x1x1x704_S1x704 rfl,
    piece_dW_add _ _ 0 3 2 _ _ (by decide) (by decide) (by decide) _ shapeCasts_S1x704_S1x1x1x704 shapeCasts_S1x1x1x704_S1x704 rfl,
    piece_dW_add _ _ 0 3 1 _ _ (by decide) (by decide) (by decide) _ shapeCasts_S1x704_S1x1x1x704 shapeCasts_S1x1x1x704_S1x704 rfl,
    piece_dW_add _ _ 0 3 0 _ _ (by decide) (by decide) (by decide) _ shapeCasts_S1x704_S1x1x1x704 shapeCasts_S1x1x1x704_S1x704 rfl,
    piece_dW_add _ _ 1 2 2 _ _ (by decide) (by decide) (by decide) _ shapeCasts_S1x704_S1x1x1x704 shapeCasts_S1x1x1x704_S1x704 rfl,
    piece_dW_add _ _ 1 2 1 _ _ (by decide) (by decide) (by decide) _ shapeCasts_S1x704_S1x1x1x704 shapeCasts_S1x1x1x704_S1x704 rfl,
    piece_dW_add _ _ 1 2 0 _ _ (by decide) (by decide) (by decide) _ shapeCasts_S1x704_S1x1x1x704 shapeCasts_S1x1x1x704_S1x704 rfl,
    piece_dW_add _ _ 0 2 2 _ _ (by decide) (by decide) (by decide) _ shapeCasts_S1x704_S1x1x1x704 shapeCasts_S1x1x1x704_S1x704 rfl,
    piece_dW_add _ _ 0 2 1 _ _ (by decide) (by decide) (by decide) _ shapeCasts_S1x704_S1x1x1x704 shapeCasts_S1x1x1x704_S1x704 rfl,
    piece_dW_add _ _ 0 2 0 _ _ (by decide) (by decide) (by decide) _ shapeCasts_S1x704_S1x1x1x704 shapeCasts_S1x1x1x704_S1x704 rfl,
    piece_dW_add _ _ 1 1 2 _ _ (by decide) (by decide) (by decide) _ shapeCasts_S1x704_S1x1x1x704 shapeCasts_S1x1x1x704_S1x704 rfl,
    piece_dW_add _ _ 1 1 1 _ _ (by decide) (by decide) (by decide) _ shapeCasts_S1x704_S1x1x1x704 shapeCasts_S1x1x1x704_S1x704 rfl,
    piece_dW_add _ _ 1 1 0 _ _ (by decide) (by decide) (by decide) _ shapeCasts_S1x704_S1x1x1x704 shapeCasts_S1x1x1x704_S1x704 rfl,
    piece_dW_add _ _ 0 1 2 _ _ (by decide) (by decide) (by decide) _ shapeCasts_S1x704_S1x1x1x704 shapeCasts_S1x1x1x704_S1x704 rfl,
    piece_dW_add _ _ 0 1 1 _ _ (by decide) (by decide) (by decide) _ shapeCasts_S1x704_S1x1x1x704 shapeCasts_S1x1x1x704_S1x704 rfl,
    piece_dW_add _ _ 0 1 0 _ _ (by decide) (by decide) (by decide) _ shapeCasts_S1x704_S1x1x1x704 shapeCasts_S1x1x1x704_S1x704 rfl,
    piece_dW_add _ _ 1 0 2 _ _ (by decide) (by decide) (by decide) _ shapeCasts_S1x704_S1x1x1x704 shapeCasts_S1x1x1x704_S1x704 rfl,
    piece_dW_add _ _ 1 0 1 _ _ (by decide) (by decide) (by decide) _ shapeCasts_S1x704_S1x1x1x704 shapeCasts_S1x1x1x704_S1x704 rfl,
    piece_dW_add _ _ 1 0 0 _ _ (by decide) (by decide) (by decide) _ shapeCasts_S1x704_S1x1x1x704 shapeCasts_S1x1x1x704_S1x704 rfl,
    piece_dW_add _ _ 0 0 2 _ _ (by decide) (by decide) (by decide) _ shapeCasts_S1x704_S1x1x1x704 shapeCasts_S1x1x1x704_S1x704 rfl,
    piece_dW_add _ _ 0 0 1 _ _ (by decide) (by decide) (by decide) _ shapeCasts_S1x704_S1x1x1x704 shapeCasts_S1x1x1x704_S1x704 rfl,
    piece_dW_add _ _ 0 0 0 _ _ (by decide) (by decide) (by decide) _ shapeCasts_S1x704_S1x1x1x704 shapeCasts_S1x1x1x704_S1x704 rfl, fun _ h => absurd h List.not_mem_nil⟩

theorem out_B_14 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11 xo13 xo16) :
    out0_B_14 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 = (Tile.mk i x0 x1 x2 x3 x4 x5 x6 x7 x8 x9 x10 x11 : Tile F).dx := by
  unfold out0_B_14
  rw [View.read_writes_eq_canon _ _ _ (cover0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  rfl

theorem out_B_15 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11 xo13 xo16) :
    out0_B_15 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 = truncf .bf16 (Tile.mk i x0 x1 x2 x3 x4 x5 x6 x7 x8 x9 x10 x11 : Tile F).dx bitsLt_bf16_f32 := by
  unfold out0_B_15
  rw [View.read_writes_eq_canon _ _ _ (cover0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  rfl

theorem out_B_16 (c : Dev nD) (i : grid0.Coords) (arg1 arg2 arg3 arg4 arg5 arg6 arg7 arg8 arg9 arg10 arg11 arg12 arg13 arg14 arg15 arg16 arg17) (h1 h2 h3 h4 h5 h6 h7 h8 h9 h10 h11 h12 h13 h14 h15 h16 h17) (hc0 hc1) (x0 x1 x2 x3 x4 x5 x6 x7 x8 x9 x10 x11 xo13 xo16) :
    out0_B_16 (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16 = addf xo16 (Tile.mk i x0 x1 x2 x3 x4 x5 x6 x7 x8 x9 x10 x11 : Tile F).dg := by
  unfold out0_B_16
  rw [View.read_writes_eq_canon _ _ _ (cover0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 hc0 hc1 x0 x1 x2 x3 x4 x5 x6 x7 x8 x9 x10 x11 xo13 xo16)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h14.read_unread, h17.read_unread, ld_slab, ld_layer, View.ld_unit_zero (S := S16x1024) hz2, View.ld_unit_zero (S := S256x1024) hz2, View.ld_unit_zero (S := S1x1024) hz2]
  exact Eq.trans (b := addf (shapeCast S1x1024 xo16 shapeCasts_S1x1024_S1x1024) (Tile.mk i x0 x1 x2 x3 x4 x5 x6 x7 x8 x9 x10 x11 : Tile F).dg) rfl (by rw [shapeCast_self])

end Cert.FfnBwd

end
-- ==== Proof.FfnFwdTile.lean ====
/-
  What one grid point of the feed-forward forward call computes, written as functions of the blocks it loads. A grid point owns 256
  rows and also loads the sixteen rows before them, so that the causal convolution can be read off by rotating rows. Every channel
  chunk is treated by the same functions; the stored blocks are these functions' values.
-/
module

public import proofs.«01_k».proof.Proof.Blocks
public import proofs.«01_k».proof.Proof.Gen.Kernel4Ideal.Frame

@[expose] public section

noncomputable section

namespace Cert.FfnFwd

open Idealize.ShloMosaic Cert.Kernel4Ideal Cert.Kernel4Ideal.Gen Idealize.ShloMosaic.TcCoe
open Cert.FfnBwd (slab layer ld_slab ld_layer)

variable {F : FTy → Type} [FloatOps F]

/-- The products of the rows with one chunk of the up projection, rounded. -/
def full (rows : FVec F S272x1024 .bf16) (w : Vec F S1x704x1024 .bf16) : FVec F S272x704 .bf16 :=
  truncf .bf16 (matmul dot_S272x1024_S704x1024_S272x704_1_1_0_0_n_n none rows (shapeCast S704x1024 w shapeCasts_S1x704x1024_S704x1024)
    (constant S272x704 .f32 0x00000000#32)) bitsLt_bf16_f32

/-- The tile's rows of those products. -/
def own (z : FVec F S272x704 .bf16) : FVec F S256x704 .bf16 := extractStridedSlice S256x704 ![16, 0] z slices_S272x704_o16_0_S256x704

/-- The tile's rows and the eight before them, the latter scaled by the edge column. -/
def window (ed : FVec F S264x1 .f32) (z : FVec F S272x704 .bf16) : FVec F S264x704 .f32 :=
  mulf (extractStridedSlice S264x704 ![8, 0] (extf .f32 z bitsLt_bf16_f32) slices_S272x704_o8_0_S264x704)
    (broadcastTo S264x704 ed broadcasts_S264x1_S264x704)

/-- Rows moved down by one (the last row comes first). -/
def down (u : FVec F S264x704 .f32) : FVec F S264x704 .f32 := dynamicRotate 0 1#32 none u rotates_S264x704_d0

/-- Tap `0` of a chunk on every row. -/
def tap0 (w : Vec F S1x1x3x704 .f32) : FVec F S264x704 .f32 :=
  broadcastTo S264x704 (extractStridedSlice S1x704 ![0, 0] (shapeCast S3x704 w shapeCasts_S1x1x3x704_S3x704)
    slices_S3x704_o0_0_S1x704) broadcasts_S1x704_S264x704

/-- Tap `1` of a chunk on every row. -/
def tap1 (w : Vec F S1x1x3x704 .f32) : FVec F S264x704 .f32 :=
  broadcastTo S264x704 (extractStridedSlice S1x704 ![1, 0] (shapeCast S3x704 w shapeCasts_S1x1x3x704_S3x704)
    slices_S3x704_o1_0_S1x704) broadcasts_S1x704_S264x704

/-- Tap `2` of a chunk on every row. -/
def tap2 (w : Vec F S1x1x3x704 .f32) : FVec F S264x704 .f32 :=
  broadcastTo S264x704 (extractStridedSlice S1x704 ![2, 0] (shapeCast S3x704 w shapeCasts_S1x1x3x704_S3x704)
    slices_S3x704_o2_0_S1x704) broadcasts_S1x704_S264x704

/-- The causal convolution of the tile's rows. -/
def post (u : FVec F S264x704 .f32) (w : Vec F S1x1x3x704 .f32) : FVec F S256x704 .f32 :=
  extractStridedSlice S256x704 ![8, 0] (addf (addf (mulf (tap0 w) (down (down u))) (mulf (tap1 w) (down u))) (mulf (tap2 w) u))
    slices_S264x704_o8_0_S256x704

/-- The logistic function, through the hyperbolic tangent of half the argument. -/
def sigm (a : FVec F S256x704 .f32) : FVec F S256x704 .f32 :=
  addf (mulf (broadcast S256x704 (Scalar.ofBits .f32 0x3F000000#32))
      (tanh (mulf (broadcast S256x704 (Scalar.ofBits .f32 0x3F000000#32)) a)))
    (broadcast S256x704 (Scalar.ofBits .f32 0x3F000000#32))

/-- The gated activation, rounded. -/
def gated (a v : FVec F S256x704 .f32) : FVec F S256x704 .bf16 := truncf .bf16 (mulf (mulf a (sigm a)) v) bitsLt_bf16_f32

/-- The product with one chunk of the down projection. -/
def proj (z : FVec F S256x704 .bf16) (w : Vec F S1x704x1024 .bf16) : FVec F S256x1024 .f32 :=
  matmul dot_S256x704_S704x1024_S256x1024_1_0_0_1_n_n none z (shapeCast S704x1024 w shapeCasts_S1x704x1024_S704x1024)
    (constant S256x1024 .f32 0x00000000#32)

/-- The norm of every row, rounded. -/
def norms (y : FVec F S256x1024 .f32) (g : Vec F S1x1024 .f32) : FVec F S256x1024 .bf16 :=
  truncf .bf16 (mulf (mulf y (broadcastTo S256x1024 (rsqrt (addf (divf (shapeCast S256x1 (multiReduction .add [1] S256 (mulf y y) 0x00000000#32
      reduces_S256x1024_S256 (.inl rfl) rfl) shapeCasts_S256_S256x1) (broadcast S256x1 (Scalar.ofBits .f32 0x44800000#32)))
      (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- The seven blocks a grid point loads, and its number. -/
structure Tile (F : FTy → Type) where
  i : grid0.Coords
  h : Vec F S256x1024 .bf16
  hp : Vec F S16x1024 .bf16
  wu : Vec F S8x704x1024 .bf16
  w : Vec F S2x4x3x704 .f32
  wd : Vec F S4x704x1024 .bf16
  x : Vec F S256x1024 .f32
  g : Vec F S1x1024 .f32

namespace Tile

variable (T : Tile F)

/-- The sixteen rows before the tile, and the tile's. -/
def rows : FVec F S272x1024 .bf16 := k0_pay6 T.hp T.h

/-- The products with chunk `(g, p)` of the up projection. -/
def up (g : Fin 2) (p : Fin 4) : FVec F S272x704 .bf16 := full T.rows (layer T.wu ⟨4 * g.val + p.val, by omega⟩)

/-- Chunk `(g, p)` after the convolution. -/
def conv (g : Fin 2) (p : Fin 4) : FVec F S256x704 .f32 := post (window (k0_pay5 T.i) (T.up g p)) (slab T.w g p)

/-- Chunk `p` of the gated activation. -/
def act (p : Fin 4) : FVec F S256x704 .bf16 := gated (T.conv 0 p) (T.conv 1 p)

/-- The residual stream behind the block. -/
def out : FVec F S256x1024 .f32 :=
  addf (addf (addf (addf (k0_pay7 T.x) (proj (T.act 0) (layer T.wd 0))) (proj (T.act 1) (layer T.wd 1))) (proj (T.act 2) (layer T.wd 2)))
    (proj (T.act 3) (layer T.wd 3))

/-- The activation's block. -/
def actBlock : Vec F S4x256x704 .bf16 := fun y => T.act (y 0) (ix2 (y 1) (y 2))

/-- The block of the convolution's argument. -/
def preBlock : Vec F S2x4x256x704 .bf16 := fun y => own (T.up (y 0) (y 1)) (ix2 (y 2) (y 3))

end Tile

/-! ## The loads of one chunk -/

theorem ld_up0 (X : Vec F S8x704x1024 .bf16) : View.ld X r0_2 = layer X 0 := ld_layer X 0 _

theorem ld_up1 (X : Vec F S8x704x1024 .bf16) : View.ld X r0_10 = layer X 1 := ld_layer X 1 _

theorem ld_up2 (X : Vec F S8x704x1024 .bf16) : View.ld X r0_18 = layer X 2 := ld_layer X 2 _

theorem ld_up3 (X : Vec F S8x704x1024 .bf16) : View.ld X r0_26 = layer X 3 := ld_layer X 3 _

theorem ld_up4 (X : Vec F S8x704x1024 .bf16) : View.ld X r0_5 = layer X 4 := ld_layer X 4 _

theorem ld_up5 (X : Vec F S8x704x1024 .bf16) : View.ld X r0_13 = layer X 5 := ld_layer X 5 _

theorem ld_up6 (X : Vec F S8x704x1024 .bf16) : View.ld X r0_21 = layer X 6 := ld_layer X 6 _

theorem ld_up7 (X : Vec F S8x704x1024 .bf16) : View.ld X r0_29 = layer X 7 := ld_layer X 7 _

theorem ld_taps0 (X : Vec F S2x4x3x704 .f32) : View.ld X r0_4 = slab X 0 0 := ld_slab X 0 0 _

theorem ld_taps1 (X : Vec F S2x4x3x704 .f32) : View.ld X r0_12 = slab X 0 1 := ld_slab X 0 1 _

theorem ld_taps2 (X : Vec F S2x4x3x704 .f32) : View.ld X r0_20 = slab X 0 2 := ld_slab X 0 2 _

theorem ld_taps3 (X : Vec F S2x4x3x704 .f32) : View.ld X r0_28 = slab X 0 3 := ld_slab X 0 3 _

theorem ld_taps4 (X : Vec F S2x4x3x704 .f32) : View.ld X r0_7 = slab X 1 0 := ld_slab X 1 0 _

theorem ld_taps5 (X : Vec F S2x4x3x704 .f32) : View.ld X r0_15 = slab X 1 1 := ld_slab X 1 1 _

theorem ld_taps6 (X : Vec F S2x4x3x704 .f32) : View.ld X r0_23 = slab X 1 2 := ld_slab X 1 2 _

theorem ld_taps7 (X : Vec F S2x4x3x704 .f32) : View.ld X r0_31 = slab X 1 3 := ld_slab X 1 3 _

theorem ld_down0 (X : Vec F S4x704x1024 .bf16) : View.ld X r0_9 = layer X 0 := ld_layer X 0 _

theorem ld_down1 (X : Vec F S4x704x1024 .bf16) : View.ld X r0_17 = layer X 1 := ld_layer X 1 _

theorem ld_down2 (X : Vec F S4x704x1024 .bf16) : View.ld X r0_25 = layer X 2 := ld_layer X 2 _

theorem ld_down3 (X : Vec F S4x704x1024 .bf16) : View.ld X r0_33 = layer X 3 := ld_layer X 3 _

/-! ## The stored blocks -/

section Stores

variable (i : grid0.Coords) (x0 : Vec F S256x1024 .bf16) (x1 : Vec F S16x1024 .bf16) (x2 : Vec F S8x704x1024 .bf16)
  (x3 : Vec F S2x4x3x704 .f32) (x4 : Vec F S4x704x1024 .bf16) (x5 : Vec F S256x1024 .f32) (x6 : Vec F S1x1024 .f32)

theorem out_7 : out0_7 i x0 x1 x2 x3 x4 x5 x6 = (Tile.mk i x0 x1 x2 x3 x4 x5 x6).out := by
  unfold_out out0_7
  rw [View.canon_unit_zero Cert.FfnBwd.hz2]
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2,
    View.ld_unit_zero (S := S1x1024) Cert.FfnBwd.hz2]
  rfl

theorem out_8 : out0_8 i x0 x1 x2 x3 x4 x5 x6 = norms (Tile.mk i x0 x1 x2 x3 x4 x5 x6).out x6 := by
  unfold_out out0_8
  rw [View.canon_unit_zero Cert.FfnBwd.hz2]
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2,
    View.ld_unit_zero (S := S1x1024) Cert.FfnBwd.hz2]
  rfl

theorem addUnit {α : Type} (V : S256x704.Idx → α) (h) (x : S1x256x704.Idx) : shapeCast S1x256x704 V h x = V (ix2 (x 1) (x 2)) := by
  rw [eq_ix3 x]; pointwise []

/-- A store of chunk `p` of the activation writes the block's own values. -/
theorem piece_act (T : Tile F) (p : ℕ) (inb) (hp : p < 4) (P : S1x256x704.Idx → F .bf16) (h)
    (hP : P = shapeCast S1x256x704 (T.act ⟨p, hp⟩) h) (x : S1x256x704.Idx) :
    P x = T.actBlock ((Rect.unit (s := S4x256x704) ![p, 0, 0] ![1, 256, 704] inb).emb x) := by
  subst hP
  rw [addUnit]
  have h0 : (x 0).val = 0 := by have := (x 0).isLt; simp at this; omega
  have e : (Rect.unit (s := S4x256x704) ![p, 0, 0] ![1, 256, 704] inb).emb x = ix3 ⟨p, hp⟩ (x 1) (x 2) := by
    funext a
    match a with
    | ⟨0, _⟩ => exact Fin.ext (by show p + 1 * (x 0).val = p; omega)
    | ⟨1, _⟩ => exact Fin.ext (by show 0 + 1 * (x 1).val = (x 1).val; omega)
    | ⟨2, _⟩ => exact Fin.ext (by show 0 + 1 * (x 2).val = (x 2).val; omega)
  rw [e]
  rfl

/-- A store of chunk `(g, p)` of the convolution's argument writes the block's own values. -/
theorem piece_pre (T : Tile F) (g p : ℕ) (inb) (hg : g < 2) (hp : p < 4) (P : S1x1x256x704.Idx → F .bf16) (h)
    (hP : P = shapeCast S1x1x256x704 (own (T.up ⟨g, hg⟩ ⟨p, hp⟩)) h) (x : S1x1x256x704.Idx) :
    P x = T.preBlock ((Rect.unit (s := S2x4x256x704) ![g, p, 0, 0] ![1, 1, 256, 704] inb).emb x) := by
  subst hP
  rw [Cert.FfnBwd.addUnits]
  have h0 : (x 0).val = 0 := by have := (x 0).isLt; simp at this; omega
  have h1 : (x 1).val = 0 := by have := (x 1).isLt; simp at this; omega
  have e : (Rect.unit (s := S2x4x256x704) ![g, p, 0, 0] ![1, 1, 256, 704] inb).emb x = ix4 ⟨g, hg⟩ ⟨p, hp⟩ (x 2) (x 3) := by
    funext a
    match a with
    | ⟨0, _⟩ => exact Fin.ext (by show g + 1 * (x 0).val = g; omega)
    | ⟨1, _⟩ => exact Fin.ext (by show p + 1 * (x 1).val = p; omega)
    | ⟨2, _⟩ => exact Fin.ext (by show 0 + 1 * (x 2).val = (x 2).val; omega)
    | ⟨3, _⟩ => exact Fin.ext (by show 0 + 1 * (x 3).val = (x 3).val; omega)
  rw [e]
  rfl

theorem out_9 : out0_9 i x0 x1 x2 x3 x4 x5 x6 = (Tile.mk i x0 x1 x2 x3 x4 x5 x6).actBlock := by
  unfold_out out0_9
  funext y
  refine View.canon_apply_of_pieces ((Tile.mk i x0 x1 x2 x3 x4 x5 x6).actBlock) _ ?_ y (cover0_9 _ _ _ _ y)
  clear y
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2,
    View.ld_unit_zero (S := S1x1024) Cert.FfnBwd.hz2, List.forall_mem_cons]
  exact ⟨piece_act _ 3 _ (by omega) _ shapeCasts_S256x704_S1x256x704 rfl, piece_act _ 2 _ (by omega) _ shapeCasts_S256x704_S1x256x704 rfl,
    piece_act _ 1 _ (by omega) _ shapeCasts_S256x704_S1x256x704 rfl, piece_act _ 0 _ (by omega) _ shapeCasts_S256x704_S1x256x704 rfl,
    fun _ h => absurd h List.not_mem_nil⟩

theorem out_10 : out0_10 i x0 x1 x2 x3 x4 x5 x6 = (Tile.mk i x0 x1 x2 x3 x4 x5 x6).preBlock := by
  unfold_out out0_10
  funext y
  refine View.canon_apply_of_pieces ((Tile.mk i x0 x1 x2 x3 x4 x5 x6).preBlock) _ ?_ y (cover0_10 _ _ _ _ _ _ _ _ y)
  clear y
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2,
    View.ld_unit_zero (S := S1x1024) Cert.FfnBwd.hz2, List.forall_mem_cons]
  exact ⟨piece_pre _ 1 3 _ (by omega) (by omega) _ shapeCasts_S256x704_S1x1x256x704 rfl,
    piece_pre _ 0 3 _ (by omega) (by omega) _ shapeCasts_S256x704_S1x1x256x704 rfl,
    piece_pre _ 1 2 _ (by omega) (by omega) _ shapeCasts_S256x704_S1x1x256x704 rfl,
    piece_pre _ 0 2 _ (by omega) (by omega) _ shapeCasts_S256x704_S1x1x256x704 rfl,
    piece_pre _ 1 1 _ (by omega) (by omega) _ shapeCasts_S256x704_S1x1x256x704 rfl,
    piece_pre _ 0 1 _ (by omega) (by omega) _ shapeCasts_S256x704_S1x1x256x704 rfl,
    piece_pre _ 1 0 _ (by omega) (by omega) _ shapeCasts_S256x704_S1x1x256x704 rfl,
    piece_pre _ 0 0 _ (by omega) (by omega) _ shapeCasts_S256x704_S1x1x256x704 rfl,
    fun _ h => absurd h List.not_mem_nil⟩

end Stores

end Cert.FfnFwd

end
-- ==== Proof.TileValue.lean ====
/-
  One grid point's functions at the ideal model, on blocks that hold real numbers: every one holds the real function of `Spec.lean`.
-/
module

public import proofs.«01_k».proof.Proof.Tile
public import proofs.«01_k».proof.Proof.Args

@[expose] public section

noncomputable section

namespace Cert.FfnBwd

open Idealize.ShloMosaic Cert.KernelIdeal Cert.KernelIdeal.Gen Idealize.ShloMosaic.TcCoe

/-! ## The rows of a tile -/

/-- Row `r` of tile `t`. -/
def row (t : Fin 16) (r : Fin 256) : Fin 4096 := ⟨256 * t.val + r.val, by omega⟩

/-- The sequence of tile `t`. -/
def seqT (t : Fin 16) : Fin 2 := ⟨t.val / 8, by omega⟩

/-- The place in the sequence of the window's row `r`. -/
def place (t : Fin 16) (r : Fin 272) : ℤ := 256 * (t.val % 8 : ℕ) + r.val - 8

/-- Row `r` of the sixteen rows before tile `t` (any sixteen rows at the first tile). -/
def rowB (t : Fin 16) (r : Fin 16) : Fin 4096 := ⟨16 * (16 * t.val - 1) + r.val, by omega⟩

/-- Row `r` of the sixteen rows after tile `t` (any sixteen rows at the last tile). -/
def rowA (t : Fin 16) (r : Fin 16) : Fin 4096 := ⟨16 * min (16 * t.val + 16) 255 + r.val, by omega⟩

/-- A tile's blocks hold the arguments' rows around tile `t`. -/
structure Holds (T : Tile Ideal) (D : Data) (t : Fin 16) : Prop where
  prev : hasPrev (F := Ideal) T.i = ((if t.val % 8 = 0 then 0 else 1 : ℝ) : EReal)
  next : hasNext (F := Ideal) T.i = ((if t.val % 8 = 7 then 0 else 1 : ℝ) : EReal)
  pm : ∀ g p r n, T.pm (ix4 g p r n) = ((D.pre (chan g (sub p n)) (row t r) : ℝ) : EReal)
  pp : ∀ g p r n, T.pp (ix4 g p r n) = ((D.pre (chan g (sub p n)) (rowB t r) : ℝ) : EReal)
  pn : ∀ g p r n, T.pn (ix4 g p r n) = ((D.pre (chan g (sub p n)) (rowA t r) : ℝ) : EReal)
  dm : ∀ r d, T.dm (ix2 r d) = ((D.ct (row t r) d : ℝ) : EReal)
  dp : ∀ r d, T.dp (ix2 r d) = ((D.ct (rowB t r) d : ℝ) : EReal)
  dn : ∀ r d, T.dn (ix2 r d) = ((D.ct (rowA t r) d : ℝ) : EReal)
  w : ∀ g p k n, T.w (ix4 g p k n) = ((D.taps k (chan g (sub p n)) : ℝ) : EReal)
  wd : ∀ p n d, T.wd (ix3 p n d) = ((D.down (sub p n) d : ℝ) : EReal)
  wu : ∀ (g : Fin 2) (p : Fin 4) n d, T.wu (ix3 ⟨4 * g.val + p.val, by omega⟩ n d) = ((D.up d (chan g (sub p n)) : ℝ) : EReal)
  x : ∀ r d, T.x (ix2 r d) = ((D.x (row t r) d : ℝ) : EReal)
  g : ∀ d, T.g (ix2 0 d) = ((D.gain d : ℝ) : EReal)
  res : ∀ r d, T.res (ix2 r d) = ((D.ct (row t r) d : ℝ) : EReal)

/-- The logistic function through the hyperbolic tangent of half the argument. -/
theorem sg_tanh (a : ℝ) : 1 / 2 * Real.tanh (1 / 2 * a) + 1 / 2 = sg a := by
  have h1 : Real.exp (-a) = Real.exp (-(1 / 2 * a)) * Real.exp (-(1 / 2 * a)) := by rw [← Real.exp_add]; ring_nf
  have h2 : Real.exp (1 / 2 * a) * Real.exp (-(1 / 2 * a)) = 1 := by rw [← Real.exp_add]; simp
  have h3 := Real.exp_pos (1 / 2 * a)
  have h4 := Real.exp_pos (-(1 / 2 * a))
  rw [sg, Real.tanh_eq_sinh_div_cosh, Real.sinh_eq, Real.cosh_eq, h1]
  generalize Real.exp (1 / 2 * a) = u at *
  generalize Real.exp (-(1 / 2 * a)) = v at *
  have hv : v ≠ 0 := h4.ne'
  have hu : u = 1 / v := by field_simp; linarith
  subst hu
  have : (1 / v + v) ≠ 0 := by positivity
  have : (1 + v * v) ≠ 0 := by positivity
  field_simp
  ring

namespace Holds

variable {T : Tile Ideal} {D : Data} {t : Fin 16} (H : Holds T D t)
include H

/-! ## The window -/

theorem pre_val (g : Fin 2) (p : Fin 4) (r : Fin 272) (n : Fin 704) :
    T.pre g p (ix2 r n) = ((ext (D.pre (chan g (sub p n))) (seqT t) (place t r) : ℝ) : EReal) := by
  have e : T.pre g p (ix2 r n) = if h : r.val < 8 then T.pp (ix4 g p ⟨8 + r.val, by omega⟩ n) * (hasPrev T.i : Ideal .f32)
      else if h' : r.val - 8 < 256 then T.pm (ix4 g p ⟨r.val - 8, h'⟩ n)
      else T.pn (ix4 g p ⟨r.val - 8 - 256, by omega⟩ n) * (hasNext T.i : Ideal .f32) := by
    pointwise [Tile.pre, window, slab]
  rw [e]
  have ht := t.isLt
  have hr := r.isLt
  split
  · rw [H.pp, H.prev, ← EReal.coe_mul]
    refine congrArg _ ?_
    split
    · rw [ext_out _ _ _ (by unfold place; omega), mul_zero]
    · rw [mul_one]
      exact (ext_eq _ _ _ _ (by simp only [seqT, place, rowB]; omega) (by unfold place; omega) (by unfold place; omega)).symm
  · split
    · rw [H.pm]
      exact congrArg _ (ext_eq _ _ _ _ (by simp only [seqT, place, row]; omega) (by unfold place; omega) (by unfold place; omega)).symm
    · rw [H.pn, H.next, ← EReal.coe_mul]
      refine congrArg _ ?_
      split
      · rw [ext_out _ _ _ (by unfold place; omega), mul_zero]
      · rw [mul_one]
        exact (ext_eq _ _ _ _ (by simp only [seqT, place, rowA]; omega) (by unfold place; omega) (by unfold place; omega)).symm

omit H in
theorem edge_val (hp hn : Ideal .f32) (r : Fin 272) :
    edge hp hn (ix2 r 0) = if r.val < 8 then hp else if r.val < 264 then 1 else hn := by
  have e : edge hp hn (ix2 r 0) = Scalar.select (IntOp.cmpi CmpIPredicate.slt (BitVec.ofNat 32 r.val) 8#32) hp
      (Scalar.select (IntOp.cmpi CmpIPredicate.sge (BitVec.ofNat 32 r.val) 264#32) hn 1) := by
    pointwise [edge]
  rw [e]
  have h1 : ∀ r : Fin 272, IntOp.cmpi CmpIPredicate.slt (BitVec.ofNat 32 r.val) 8#32 = if r.val < 8 then 1#1 else 0#1 := by
    decide +kernel
  have h2 : ∀ r : Fin 272, IntOp.cmpi CmpIPredicate.sge (BitVec.ofNat 32 r.val) 264#32 = if r.val < 264 then 0#1 else 1#1 := by
    decide +kernel
  rw [h1, h2]
  split
  · rfl
  · split <;> rfl

theorem da_val (p : Fin 4) (r : Fin 272) (n : Fin 704) :
    T.da p (ix2 r n) = ((ext (D.dAct (sub p n)) (seqT t) (place t r) : ℝ) : EReal) := by
  have e : T.da p (ix2 r n) = (∑ x : Fin 1024, dyRows T.dp T.dm T.dn (ix2 ⟨8 + r.val, by omega⟩ x) * T.wd (ix3 p n x))
      * edge (hasPrev T.i) (hasNext T.i) (ix2 r 0) := by
    pointwise [Tile.da, dAct, layer]
  have e' : ∀ (s : Fin 288) (x : Fin 1024), dyRows T.dp T.dm T.dn (ix2 s x) = if h : s.val < 16 then T.dp (ix2 ⟨s.val, h⟩ x)
      else if h' : s.val - 16 < 256 then T.dm (ix2 ⟨s.val - 16, h'⟩ x) else T.dn (ix2 ⟨s.val - 16 - 256, by omega⟩ x) := by
    intro s x
    pointwise [dyRows]
  have ht := t.isLt
  have hr := r.isLt
  rw [e, edge_val]
  simp only [e', H.wd]
  by_cases h1 : r.val < 8
  · have c1 : 8 + r.val < 16 := by omega
    simp only [c1, h1, dif_pos, if_pos, H.dp, ← EReal.coe_mul, coe_sum]
    rw [H.prev, ← EReal.coe_mul]
    refine congrArg _ ?_
    split
    · rw [ext_out _ _ _ (by unfold place; omega), mul_zero]
    · rw [mul_one]
      exact (ext_eq (D.dAct (sub p n)) (seqT t) (place t r) _ (by simp only [seqT, place, rowB]; omega) (by unfold place; omega) (by unfold place; omega)).symm
  · have c1 : ¬ 8 + r.val < 16 := by omega
    by_cases h2 : r.val < 264
    · have c2 : 8 + r.val - 16 < 256 := by omega
      simp only [c1, c2, h1, h2, dif_pos, dif_neg, if_pos, if_neg, not_false_eq_true, H.dm, ← EReal.coe_mul, coe_sum, mul_one]
      exact congrArg _ (ext_eq (D.dAct (sub p n)) _ _ _ (by simp only [seqT, place, row]; omega) (by unfold place; omega)
        (by unfold place; omega)).symm
    · have c2 : ¬ 8 + r.val - 16 < 256 := by omega
      simp only [c1, c2, h1, h2, dif_neg, if_neg, not_false_eq_true, H.dn, ← EReal.coe_mul, coe_sum]
      rw [H.next, ← EReal.coe_mul]
      refine congrArg _ ?_
      split
      · rw [ext_out _ _ _ (by unfold place; omega), mul_zero]
      · rw [mul_one]
        exact (ext_eq (D.dAct (sub p n)) (seqT t) (place t r) _ (by simp only [seqT, place, rowA]; omega) (by unfold place; omega) (by unfold place; omega)).symm

/-! ## The convolution and the gate -/

theorem post_val (g : Fin 2) (p : Fin 4) (r : Fin 272) (hr : 2 ≤ r.val) (n : Fin 704) :
    T.post g p (ix2 r n) = ((D.conv (chan g (sub p n)) (seqT t) (place t r) : ℝ) : EReal) := by
  have e : T.post g p (ix2 r n) = T.w (ix4 g p 0 n) * T.pre g p (ix2 ⟨((r.val + 272 - 1) % 272 + 272 - 1) % 272, by omega⟩ n)
      + T.w (ix4 g p 1 n) * T.pre g p (ix2 ⟨(r.val + 272 - 1) % 272, by omega⟩ n) + T.w (ix4 g p 2 n) * T.pre g p (ix2 r n) := by
    pointwise [Tile.post, conv, tap0, tap1, tap2, down, slab]
  rw [e, H.pre_val, H.pre_val, H.pre_val, H.w, H.w, H.w]
  have h2 : place t ⟨((r.val + 272 - 1) % 272 + 272 - 1) % 272, by omega⟩ = place t r - 2 := by simp only [place]; omega
  have h1 : place t ⟨(r.val + 272 - 1) % 272, by omega⟩ = place t r - 1 := by simp only [place]; omega
  rw [h1, h2]
  simp only [← EReal.coe_mul, ← EReal.coe_add]
  rfl

omit H in
theorem sigm_val (z : FVec Ideal S272x704 .f32) (r : Fin 272) (n : Fin 704) (a : ℝ) (h : z (ix2 r n) = (a : EReal)) :
    sigm z (ix2 r n) = ((sg a : ℝ) : EReal) := by
  have e : sigm z (ix2 r n) = Ideal.ofBits FTy.f32 0x3F000000#32 * Ideal.tanh (Ideal.ofBits FTy.f32 0x3F000000#32 * z (ix2 r n))
      + Ideal.ofBits FTy.f32 0x3F000000#32 := by
    pointwise [sigm]
  rw [e, h, half_f32, ← EReal.coe_mul, Ideal.tanh_coe, ← EReal.coe_mul, ← EReal.coe_add, sg_tanh]

theorem dPost_val (g : Fin 2) (p : Fin 4) (r : Fin 272) (hr : 2 ≤ r.val) (n : Fin 704) :
    T.dPost g p (ix2 r n) = ((D.dPost g (sub p n) (seqT t) (place t r) : ℝ) : EReal) := by
  have h0 := H.post_val 0 p r hr n
  have h1 := H.post_val 1 p r hr n
  have hs := sigm_val _ r n _ h0
  unfold Tile.dPost Data.dPost
  split
  · have e : dGate (T.da p) (T.post 0 p) (T.post 1 p) (ix2 r n)
        = T.da p (ix2 r n) * T.post 1 p (ix2 r n) * (sigm (T.post 0 p) (ix2 r n) + T.post 0 p (ix2 r n) * sigm (T.post 0 p) (ix2 r n)
          - T.post 0 p (ix2 r n) * sigm (T.post 0 p) (ix2 r n) * sigm (T.post 0 p) (ix2 r n)) := by
      pointwise [dGate]
    rw [e, hs, h0, h1, H.da_val]
    simp only [← EReal.coe_mul, ← EReal.coe_add, ← EReal.coe_sub]
  · have e : dVal (T.da p) (T.post 0 p) (ix2 r n)
        = T.da p (ix2 r n) * (T.post 0 p (ix2 r n) * sigm (T.post 0 p) (ix2 r n)) := by
      pointwise [dVal]
    rw [e, hs, h0, H.da_val]
    simp only [← EReal.coe_mul]

/-! ## The gradients -/

omit H in
theorem place_mid (r : Fin 256) (k : ℕ) (hk : k ≤ 2) (h : 8 + r.val + k < 272) :
    place t ⟨8 + r.val + k, h⟩ = ((posOf (row t r)).val : ℤ) + k := by
  have ht := t.isLt
  have hr := r.isLt
  simp only [place, posOf, row]
  omega

omit H in
theorem seq_mid (r : Fin 256) : seqT t = seqOf (row t r) := by
  have ht := t.isLt
  have hr := r.isLt
  apply Fin.ext
  simp only [seqT, seqOf, row]
  omega

/-- The gradient of the convolution's result on a row at or up to two rows below a tile's row. -/
theorem dPost_mid (g : Fin 2) (p : Fin 4) (r : Fin 256) (k : ℕ) (hk : k ≤ 2) (s : Fin 272) (hs : s.val = 8 + r.val + k) (n : Fin 704) :
    T.dPost g p (ix2 s n) = ((D.dPost g (sub p n) (seqOf (row t r)) ((posOf (row t r)).val + k) : ℝ) : EReal) := by
  obtain ⟨s, hs'⟩ := s
  dsimp only at hs
  subst hs
  rw [H.dPost_val _ _ _ (by dsimp only; omega), place_mid r k hk, ← seq_mid]

theorem dPre_val (g : Fin 2) (p : Fin 4) (r : Fin 256) (n : Fin 704) :
    T.dPre g p (ix2 r n) = ((D.dPre g (sub p n) (seqOf (row t r)) (posOf (row t r)).val : ℝ) : EReal) := by
  have e : T.dPre g p (ix2 r n) = T.w (ix4 g p 2 n) * T.dPost g p (ix2 ⟨8 + r.val, by omega⟩ n)
      + T.w (ix4 g p 1 n) * T.dPost g p (ix2 ⟨(8 + r.val + 272 - 271) % 272, by omega⟩ n)
      + T.w (ix4 g p 0 n) * T.dPost g p (ix2 ⟨((8 + r.val + 272 - 271) % 272 + 272 - 271) % 272, by omega⟩ n) := by
    pointwise [Tile.dPre, mid, convT, tap0, tap1, tap2, up, slab]
  have hr := r.isLt
  rw [e, H.dPost_mid g p r 0 (by omega) _ (by dsimp only; omega), H.dPost_mid g p r 1 (by omega) _ (by dsimp only; omega),
    H.dPost_mid g p r 2 (by omega) _ (by dsimp only; omega), H.w, H.w, H.w]
  simp only [← EReal.coe_mul, ← EReal.coe_add, Nat.cast_zero, add_zero]
  rfl

theorem pre_mid (g : Fin 2) (p : Fin 4) (r : Fin 256) (s : Fin 272) (hs : s.val = 8 + r.val) (n : Fin 704) :
    T.pre g p (ix2 s n) = ((D.pre (chan g (sub p n)) (row t r) : ℝ) : EReal) := by
  obtain ⟨s, hs'⟩ := s
  dsimp only at hs
  subst hs
  have ht := t.isLt
  have hr := r.isLt
  rw [H.pre_val]
  exact congrArg _ (ext_eq _ _ _ _ (by simp only [seqT, place, row]; omega) (by simp only [place]; omega) (by simp only [place]; omega))

theorem dW_val (g : Fin 2) (k : Fin 3) (p : Fin 4) (n : Fin 704) :
    T.dW g k p (ix2 0 n) = ((∑ r : Fin 256, D.dPost g (sub p n) (seqOf (row t r)) ((posOf (row t r)).val + (2 - k.val))
      * D.pre (chan g (sub p n)) (row t r) : ℝ) : EReal) := by
  have key : ∀ (j : ℕ) (hj : j ≤ 2) (z : FVec Ideal S272x704 .f32),
      (∀ r : Fin 256, z (ix2 ⟨8 + r.val, by omega⟩ n) = T.dPost g p (ix2 ⟨8 + r.val + j, by omega⟩ n)) →
      rowSum z (T.pre g p) (ix2 0 n) = ((∑ r : Fin 256, D.dPost g (sub p n) (seqOf (row t r)) ((posOf (row t r)).val + j)
      * D.pre (chan g (sub p n)) (row t r) : ℝ) : EReal) := by
    intro j hj z hz
    have e : rowSum z (T.pre g p) (ix2 0 n)
        = ∑ r : Fin 256, z (ix2 ⟨8 + r.val, by omega⟩ n) * T.pre g p (ix2 ⟨8 + r.val, by omega⟩ n) := by
      pointwise [rowSum]
    rw [e, ← coe_sum]
    refine Finset.sum_congr rfl fun r _ => ?_
    rw [hz, H.dPost_mid g p r j hj _ rfl, H.pre_mid g p r _ rfl, EReal.coe_mul]
  have hup : ∀ (z : FVec Ideal S272x704 .f32) (s : Fin 272), up z (ix2 s n) = z (ix2 ⟨(s.val + 272 - 271) % 272, by omega⟩ n) := by
    intro z s
    pointwise [up]
  fin_cases k
  · refine (key 2 (by omega) (up (up (T.dPost g p))) fun r => ?_).trans ?_
    · rw [hup, hup]
      exact congrArg (fun s => T.dPost g p (ix2 s n)) (Fin.ext (by dsimp only; omega))
    · rfl
  · refine (key 1 (by omega) (up (T.dPost g p)) fun r => ?_).trans ?_
    · rw [hup]
      exact congrArg (fun s => T.dPost g p (ix2 s n)) (Fin.ext (by dsimp only; omega))
    · rfl
  · refine (key 0 (by omega) (T.dPost g p) fun r => rfl).trans ?_
    rfl

theorem upMul_val (g : Fin 2) (p : Fin 4) (q : Fin 8) (hq : q.val = 4 * g.val + p.val) (r : Fin 256) (d : Fin 1024) :
    T.upMul (T.dPre g p) q (ix2 r d) = ((∑ n : Fin 704, D.dPre g (sub p n) (seqOf (row t r)) (posOf (row t r)).val
      * D.up d (chan g (sub p n)) : ℝ) : EReal) := by
  have e : T.upMul (T.dPre g p) q (ix2 r d) = ∑ n : Fin 704, T.dPre g p (ix2 r n) * T.wu (ix3 q n d) := by
    pointwise [Tile.upMul, layer]
  have hu : ∀ n, T.wu (ix3 q n d) = ((D.up d (chan g (sub p n)) : ℝ) : EReal) := fun n => by
    rw [← H.wu]
    exact congrArg (fun s => T.wu (ix3 s n d)) (Fin.ext hq)
  rw [e, ← coe_sum]
  refine Finset.sum_congr rfl fun n _ => ?_
  rw [H.dPre_val, hu, EReal.coe_mul]

theorem dh_val (r : Fin 256) (d : Fin 1024) : T.dh (ix2 r d) = ((D.dh (row t r) d : ℝ) : EReal) := by
  have e : T.dh (ix2 r d) = T.upMul (T.dPre 0 0) 0 (ix2 r d) + T.upMul (T.dPre 1 0) 4 (ix2 r d)
      + T.upMul (T.dPre 0 1) 1 (ix2 r d) + T.upMul (T.dPre 1 1) 5 (ix2 r d) + T.upMul (T.dPre 0 2) 2 (ix2 r d)
      + T.upMul (T.dPre 1 2) 6 (ix2 r d) + T.upMul (T.dPre 0 3) 3 (ix2 r d) + T.upMul (T.dPre 1 3) 7 (ix2 r d) := by
    pointwise [Tile.dh]
  rw [e, H.upMul_val 0 0 0 rfl, H.upMul_val 1 0 4 rfl, H.upMul_val 0 1 1 rfl, H.upMul_val 1 1 5 rfl, H.upMul_val 0 2 2 rfl,
    H.upMul_val 1 2 6 rfl, H.upMul_val 0 3 3 rfl, H.upMul_val 1 3 7 rfl]
  simp only [← EReal.coe_add]
  refine congrArg _ ?_
  unfold Data.dh
  simp only [Fin.sum_univ_two, Fin.sum_univ_four]
  ring

omit H in
theorem rowMean_val (z : FVec Ideal S256x1024 .f32) (r : Fin 256) (f : Fin 1024 → ℝ) (h : ∀ d, z (ix2 r d) = (f d : EReal)) :
    Tile.rowMean z (ix2 r 0) = (((∑ d : Fin 1024, f d) * (1 / 1024) : ℝ) : EReal) := by
  have e : Tile.rowMean z (ix2 r 0) = Ideal.div (∑ d : Fin 1024, z (ix2 r d)) (Ideal.ofBits FTy.f32 0x44800000#32) := by
    pointwise [Tile.rowMean]
  rw [e, k1024_f32, Ideal.div_coe (by norm_num)]
  simp only [h, coe_sum, ← EReal.coe_mul]

theorem rinv_val (r : Fin 256) : T.rinv (ix2 r 0) = ((D.r (row t r) : ℝ) : EReal) := by
  have e : T.rinv (ix2 r 0) = Ideal.rsqrt (Tile.rowMean (mulf T.xv T.xv) (ix2 r 0) + Ideal.ofBits FTy.f32 0x358637BD#32) := by
    pointwise [Tile.rinv]
  have e' : ∀ d, mulf T.xv T.xv (ix2 r d) = ((D.x (row t r) d * D.x (row t r) d : ℝ) : EReal) := by
    intro d
    have : mulf T.xv T.xv (ix2 r d) = T.x (ix2 r d) * T.x (ix2 r d) := by pointwise [Tile.xv]
    rw [this, H.x, EReal.coe_mul]
  rw [e, rowMean_val _ r _ e', eps_f32, ← EReal.coe_add]
  have hpos := D.ms_eps_pos (row t r)
  show Ideal.rsqrt ((D.ms (row t r) + eps : ℝ) : EReal) = _
  rw [Ideal.rsqrt_coe, if_neg hpos.not_gt, if_neg hpos.ne']
  rfl

theorem xh_val (r : Fin 256) (d : Fin 1024) : T.xh (ix2 r d) = ((D.xh (row t r) d : ℝ) : EReal) := by
  have e : T.xh (ix2 r d) = T.x (ix2 r d) * T.rinv (ix2 r 0) := by pointwise [Tile.xh, Tile.xv]
  rw [e, H.x, H.rinv_val, ← EReal.coe_mul]
  rfl

theorem gd_val (r : Fin 256) (d : Fin 1024) : T.gd (ix2 r d) = ((D.gd (row t r) d : ℝ) : EReal) := by
  have e : T.gd (ix2 r d) = T.dh (ix2 r d) * T.g (ix2 0 d) := by pointwise [Tile.gd]
  rw [e, H.dh_val, H.g, ← EReal.coe_mul]
  rfl

theorem dx_val (r : Fin 256) (d : Fin 1024) : T.dx (ix2 r d) = ((D.dx (row t r) d : ℝ) : EReal) := by
  have e : T.dx (ix2 r d) = T.rinv (ix2 r 0) * (T.gd (ix2 r d) - T.xh (ix2 r d) * Tile.rowMean (mulf T.gd T.xh) (ix2 r 0))
      + T.res (ix2 r d) := by
    pointwise [Tile.dx]
  have e' : ∀ d, mulf T.gd T.xh (ix2 r d) = ((D.gd (row t r) d * D.xh (row t r) d : ℝ) : EReal) := by
    intro d
    have : mulf T.gd T.xh (ix2 r d) = T.gd (ix2 r d) * T.xh (ix2 r d) := by pointwise []
    rw [this, H.gd_val, H.xh_val, EReal.coe_mul]
  rw [e, rowMean_val _ r _ e', H.rinv_val, H.gd_val, H.xh_val, H.res]
  simp only [← EReal.coe_mul, ← EReal.coe_sub, ← EReal.coe_add]
  rfl

theorem dg_val (d : Fin 1024) :
    T.dg (ix2 0 d) = ((∑ r : Fin 256, D.dh (row t r) d * D.xh (row t r) d : ℝ) : EReal) := by
  have e : T.dg (ix2 0 d) = ∑ r : Fin 256, T.dh (ix2 r d) * T.xh (ix2 r d) := by pointwise [Tile.dg]
  rw [e, ← coe_sum]
  refine Finset.sum_congr rfl fun r _ => ?_
  rw [H.dh_val, H.xh_val, EReal.coe_mul]

end Holds

end Cert.FfnBwd

end
-- ==== Proof.Entry.lean ====
/-
  The arrays the host prepares for the call, on arguments that hold real numbers: what each one holds at an index.
-/
module

public import proofs.«01_k».proof.Proof.Args
public import proofs.«01_k».proof.Proof.Gen.KernelIdeal.Value
public import Idealize.ShloMosaic.Lib.Claim

@[expose] public section

noncomputable section

namespace Cert.FfnBwd

open Idealize.ShloMosaic Cert.KernelIdeal Cert.KernelIdeal.Gen Idealize.ShloMosaic.TcCoe

variable {m : (ℓ : Loc nD τ sig) → Buf (Elt Ideal) ℓ} {c : Dev nD} {D : Data}
  (R : Reals (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) D)
include R

theorem entry_up (g : Fin 2) (p : Fin 4) (n : Fin 704) (d : Fin 1024) :
    (V m c main_v2 : FVec Ideal S8x704x1024 .bf16) (ix3 ⟨4 * g.val + p.val, by omega⟩ n d)
      = ((D.up d (chan g (sub p n)) : ℝ) : EReal) := by
  rw [← R.up]
  entry_read
  pointwise []
  exact congrArg (fun j => m (c, Proc.tc.devRef main_arg2) (ix2 d j)) (Fin.ext (by simp only [chan, sub]; omega))

theorem entry_down (p : Fin 4) (n : Fin 704) (d : Fin 1024) :
    (V m c main_v4 : FVec Ideal S4x704x1024 .bf16) (ix3 p n d) = ((D.down (sub p n) d : ℝ) : EReal) := by
  rw [← R.down]
  entry_read
  pointwise []
  rfl

theorem entry_taps (g : Fin 2) (p : Fin 4) (k : Fin 3) (n : Fin 704) :
    (V m c main_v7 : FVec Ideal S2x4x3x704 .f32) (ix4 g p k n) = ((D.taps k (chan g (sub p n)) : ℝ) : EReal) := by
  rw [← R.taps]
  entry_read
  pointwise []
  exact congrArg (fun j => m (c, Proc.tc.devRef main_arg3) (ix2 k j)) (Fin.ext (by simp only [chan, sub]; omega))

theorem entry_dy (q : Fin 4096) (d : Fin 1024) :
    (V m c main_v26 : FVec Ideal S4096x1024 .bf16) (ix2 q d) = ((D.ct q d : ℝ) : EReal) := by
  entry_read
  pointwise []
  exact at_tok D.ct _ R.ct q _ _ d rfl rfl

theorem entry_ct (q : Fin 4096) (d : Fin 1024) :
    (V m c main_v25 : FVec Ideal S4096x1024 .f32) (ix2 q d) = ((D.ct q d : ℝ) : EReal) := by
  entry_read
  pointwise []
  exact at_tok D.ct _ R.ct q _ _ d rfl rfl

theorem entry_x (q : Fin 4096) (d : Fin 1024) :
    (V m c main_v27 : FVec Ideal S4096x1024 .f32) (ix2 q d) = ((D.x q d : ℝ) : EReal) := by
  entry_read
  pointwise []
  exact at_tok D.x _ R.x q _ _ d rfl rfl

theorem entry_gain (d : Fin 1024) :
    (V m c main_v28 : FVec Ideal S1x1024 .f32) (ix2 0 d) = ((D.gain d : ℝ) : EReal) := by
  rw [← R.gain]
  entry_read
  pointwise []

theorem entry_pre (g : Fin 2) (p : Fin 4) (q : Fin 4096) (n : Fin 704) :
    (V m c main_v24 : FVec Ideal S2x4x4096x704 .bf16) (ix4 g p q n) = ((D.pre (chan g (sub p n)) q : ℝ) : EReal) := by
  entry_read
  pointwise []
  have hx : ∀ (h1 : q.val / 2048 < 2) (h2 : q.val % 2048 < 2048) (d : Fin 1024),
      m (c, Proc.tc.devRef main_arg0) (ix3 ⟨q.val / 2048, h1⟩ ⟨q.val % 2048, h2⟩ d) = ((D.x q d : ℝ) : EReal) :=
    fun h1 h2 d => at_tok D.x _ R.x q _ _ d rfl rfl
  have hj : ∀ (h : g.val * 2816 + p.val * 704 + n.val < 5632), (⟨g.val * 2816 + p.val * 704 + n.val, h⟩ : Fin 5632) = chan g (sub p n) :=
    fun h => Fin.ext (by simp only [chan, sub]; omega)
  simp only [hx, hj, rsqrt_ms, R.gain, R.up, ← EReal.coe_mul, coe_sum]
  rfl

end Cert.FfnBwd

end
-- ==== Proof.Points.lean ====
/-
  What the call's output buffers hold after each grid point, and the result arrays: three of the results are each point's blocks set
  beside one another, two are the sum over the points of each one's part.
-/
module

public import proofs.«01_k».proof.Proof.Blocks
public import proofs.«01_k».proof.Proof.TileValue
public import proofs.«01_k».proof.Proof.Entry

@[expose] public section

noncomputable section

namespace Cert.FfnBwd

open Idealize.ShloMosaic Cert.KernelIdeal Cert.KernelIdeal.Gen Idealize.ShloMosaic.TcCoe
open Idealize.ShloMosaic.Pipeline (Dat)

section Outs

variable {F : FTy → Type} [FloatOps F] (m : (ℓ : Loc nD τ sig) → Buf (Elt F) ℓ) (c : Dev nD)

/-- The blocks grid point `t` loads. -/
def tile (t : Fin cfg0.N) : Tile F :=
  ⟨grid0.coords t, iblk m c 0 t, iblk m c 1 t, iblk m c 2 t, iblk m c 3 t, iblk m c 4 t, iblk m c 5 t, iblk m c 6 t, iblk m c 7 t,
    iblk m c 8 t, iblk m c 9 t, iblk m c 10 t, iblk m c 11 t⟩

theorem N_eq : cfg0.N = 16 := N_0

theorem outs_first (t : Fin cfg0.N) (h : t.val = 0) :
    outsAt0 m c t.val t.isLt = ((tile m c t).dPreBlock, (tile m c t).dWBlock, (tile m c t).dx,
      truncf .bf16 (tile m c t).dx bitsLt_bf16_f32, (tile m c t).dg) := by
  rw [outsAt0_A m c t (by omega) (by omega), out_A_12, out_A_13, out_A_14, out_A_15, out_A_16]
  rfl

theorem outs_later (t : Fin cfg0.N) (h : 1 ≤ t.val) :
    outsAt0 m c t.val t.isLt = ((tile m c t).dPreBlock,
      addf (outsAt0 m c (t.val - 1) (Nat.lt_of_le_of_lt (Nat.sub_le _ _) t.isLt)).2.1 (tile m c t).dWBlock, (tile m c t).dx,
      truncf .bf16 (tile m c t).dx bitsLt_bf16_f32,
      addf (outsAt0 m c (t.val - 1) (Nat.lt_of_le_of_lt (Nat.sub_le _ _) t.isLt)).2.2.2.2 (tile m c t).dg) := by
  have hN := N_eq
  have ht := t.isLt
  rw [outsAt0_B m c t (by omega) h, out_B_12, out_B_13, out_B_14, out_B_15, out_B_16]
  rfl

theorem outs_0 (t : Fin cfg0.N) : (outsAt0 m c t.val t.isLt).1 = (tile m c t).dPreBlock := by
  rcases Nat.eq_zero_or_pos t.val with h | h
  · rw [outs_first m c t h]
  · rw [outs_later m c t h]

theorem outs_2 (t : Fin cfg0.N) : (outsAt0 m c t.val t.isLt).2.2.1 = (tile m c t).dx := by
  rcases Nat.eq_zero_or_pos t.val with h | h
  · rw [outs_first m c t h]
  · rw [outs_later m c t h]

theorem outs_3 (t : Fin cfg0.N) : (outsAt0 m c t.val t.isLt).2.2.2.1 = truncf .bf16 (tile m c t).dx bitsLt_bf16_f32 := by
  rcases Nat.eq_zero_or_pos t.val with h | h
  · rw [outs_first m c t h]
  · rw [outs_later m c t h]

end Outs

section Sums

variable (m : (ℓ : Loc nD τ sig) → Buf (Elt Ideal) ℓ) (c : Dev nD)

/-- The accumulated gradient of the weights after point `k`. -/
theorem outs_1 (j : S2x4x3x704.Idx) : ∀ (k : ℕ) (hk : k < cfg0.N),
    ((outsAt0 m c k hk).2.1 : FVec Ideal S2x4x3x704 .f32) j
      = ∑ t : Fin (k + 1), (tile m c ⟨t.val, by omega⟩).dWBlock j
  | 0, hk => by
    have := outs_first m c ⟨0, hk⟩ rfl
    rw [Fin.sum_univ_one]
    exact congrFun (congrArg (fun o => o.2.1) this) j
  | k + 1, hk => by
    have := outs_later m c ⟨k + 1, hk⟩ (by show 1 ≤ k + 1; omega)
    rw [Fin.sum_univ_castSucc]
    refine (congrFun (congrArg (fun o => o.2.1) this) j).trans ?_
    exact congrArg (· + _) (outs_1 j k (by omega))

/-- The accumulated gradient of the gain after point `k`. -/
theorem outs_4 (j : S1x1024.Idx) : ∀ (k : ℕ) (hk : k < cfg0.N),
    ((outsAt0 m c k hk).2.2.2.2 : FVec Ideal S1x1024 .f32) j = ∑ t : Fin (k + 1), (tile m c ⟨t.val, by omega⟩).dg j
  | 0, hk => by
    have := outs_first m c ⟨0, hk⟩ rfl
    rw [Fin.sum_univ_one]
    exact congrFun (congrArg (fun o => o.2.2.2.2) this) j
  | k + 1, hk => by
    have := outs_later m c ⟨k + 1, hk⟩ (by show 1 ≤ k + 1; omega)
    rw [Fin.sum_univ_castSucc]
    refine (congrFun (congrArg (fun o => o.2.2.2.2) this) j).trans ?_
    exact congrArg (· + _) (outs_4 j k (by omega))

end Sums

/-! ## The blocks a point loads, read off the host's arrays -/

section Loads

variable {m : (ℓ : Loc nD τ sig) → Buf (Elt Ideal) ℓ} {c : Dev nD} {D : Data}

theorem win_facts : ∀ t : Fin grid0.N,
    (win0_0.index t 0 = 0 ∧ win0_0.index t 1 = 0 ∧ win0_0.index t 2 = t.val ∧ win0_0.index t 3 = 0) ∧
    (win0_1.index t 0 = 0 ∧ win0_1.index t 1 = 0 ∧ win0_1.index t 2 = 16 * t.val - 1 ∧ win0_1.index t 3 = 0) ∧
    (win0_2.index t 0 = 0 ∧ win0_2.index t 1 = 0 ∧ win0_2.index t 2 = min (16 * t.val + 16) 255 ∧ win0_2.index t 3 = 0) ∧
    (win0_3.index t 0 = t.val ∧ win0_3.index t 1 = 0) ∧
    (win0_4.index t 0 = 16 * t.val - 1 ∧ win0_4.index t 1 = 0) ∧
    (win0_5.index t 0 = min (16 * t.val + 16) 255 ∧ win0_5.index t 1 = 0) ∧
    (∀ a, win0_6.index t a = 0) ∧ (∀ a, win0_7.index t a = 0) ∧ (∀ a, win0_8.index t a = 0) ∧
    (win0_9.index t 0 = t.val ∧ win0_9.index t 1 = 0) ∧ (∀ a, win0_10.index t a = 0) ∧
    (win0_11.index t 0 = t.val ∧ win0_11.index t 1 = 0) := by
  decide +kernel

theorem iblk_0 (t : Fin cfg0.N) (g : Fin 2) (p : Fin 4) (r : Fin 256) (n : Fin 704) (q : Fin 4096)
    (hq : q.val = 256 * t.val + r.val) :
    (iblk m c 0 t : Vec Ideal S2x4x256x704 .bf16) (ix4 g p r n) = (V m c main_v24 : FVec Ideal S2x4x4096x704 .bf16) (ix4 g p q n) := by
  obtain ⟨h0, h1, h2, h3⟩ := (win_facts t).1
  refine congrArg (V m c main_v24 : FVec Ideal S2x4x4096x704 .bf16) (a₁ := (win0_0.rect t).emb (ix4 g p r n)) (funext fun a => Fin.ext ?_)
  rw [win0_0.rect_emb_val]
  fin_cases a
  · show win0_0.index t 0 * 2 + g.val = g.val; omega
  · show win0_0.index t 1 * 4 + p.val = p.val; omega
  · show win0_0.index t 2 * 256 + r.val = q.val; omega
  · show win0_0.index t 3 * 704 + n.val = n.val; omega

theorem iblk_1 (t : Fin cfg0.N) (g : Fin 2) (p : Fin 4) (r : Fin 16) (n : Fin 704) (q : Fin 4096)
    (hq : q.val = 16 * (16 * t.val - 1) + r.val) :
    (iblk m c 1 t : Vec Ideal S2x4x16x704 .bf16) (ix4 g p r n) = (V m c main_v24 : FVec Ideal S2x4x4096x704 .bf16) (ix4 g p q n) := by
  obtain ⟨h0, h1, h2, h3⟩ := (win_facts t).2.1
  refine congrArg (V m c main_v24 : FVec Ideal S2x4x4096x704 .bf16) (a₁ := (win0_1.rect t).emb (ix4 g p r n)) (funext fun a => Fin.ext ?_)
  rw [win0_1.rect_emb_val]
  fin_cases a
  · show win0_1.index t 0 * 2 + g.val = g.val; omega
  · show win0_1.index t 1 * 4 + p.val = p.val; omega
  · show win0_1.index t 2 * 16 + r.val = q.val; omega
  · show win0_1.index t 3 * 704 + n.val = n.val; omega

theorem iblk_2 (t : Fin cfg0.N) (g : Fin 2) (p : Fin 4) (r : Fin 16) (n : Fin 704) (q : Fin 4096)
    (hq : q.val = 16 * min (16 * t.val + 16) 255 + r.val) :
    (iblk m c 2 t : Vec Ideal S2x4x16x704 .bf16) (ix4 g p r n) = (V m c main_v24 : FVec Ideal S2x4x4096x704 .bf16) (ix4 g p q n) := by
  obtain ⟨h0, h1, h2, h3⟩ := (win_facts t).2.2.1
  refine congrArg (V m c main_v24 : FVec Ideal S2x4x4096x704 .bf16) (a₁ := (win0_2.rect t).emb (ix4 g p r n)) (funext fun a => Fin.ext ?_)
  rw [win0_2.rect_emb_val]
  fin_cases a
  · show win0_2.index t 0 * 2 + g.val = g.val; omega
  · show win0_2.index t 1 * 4 + p.val = p.val; omega
  · show win0_2.index t 2 * 16 + r.val = q.val; omega
  · show win0_2.index t 3 * 704 + n.val = n.val; omega

theorem iblk_3 (t : Fin cfg0.N) (r : Fin 256) (d : Fin 1024) (q : Fin 4096)
    (hq : q.val = 256 * t.val + r.val) :
    (iblk m c 3 t : Vec Ideal S256x1024 .bf16) (ix2 r d) = (V m c main_v26 : FVec Ideal S4096x1024 .bf16) (ix2 q d) := by
  obtain ⟨h0, h1⟩ := (win_facts t).2.2.2.1
  refine congrArg (V m c main_v26 : FVec Ideal S4096x1024 .bf16) (a₁ := (win0_3.rect t).emb (ix2 r d)) (funext fun a => Fin.ext ?_)
  rw [win0_3.rect_emb_val]
  fin_cases a
  · show win0_3.index t 0 * 256 + r.val = q.val; omega
  · show win0_3.index t 1 * 1024 + d.val = d.val; omega

theorem iblk_4 (t : Fin cfg0.N) (r : Fin 16) (d : Fin 1024) (q : Fin 4096)
    (hq : q.val = 16 * (16 * t.val - 1) + r.val) :
    (iblk m c 4 t : Vec Ideal S16x1024 .bf16) (ix2 r d) = (V m c main_v26 : FVec Ideal S4096x1024 .bf16) (ix2 q d) := by
  obtain ⟨h0, h1⟩ := (win_facts t).2.2.2.2.1
  refine congrArg (V m c main_v26 : FVec Ideal S4096x1024 .bf16) (a₁ := (win0_4.rect t).emb (ix2 r d)) (funext fun a => Fin.ext ?_)
  rw [win0_4.rect_emb_val]
  fin_cases a
  · show win0_4.index t 0 * 16 + r.val = q.val; omega
  · show win0_4.index t 1 * 1024 + d.val = d.val; omega

theorem iblk_5 (t : Fin cfg0.N) (r : Fin 16) (d : Fin 1024) (q : Fin 4096)
    (hq : q.val = 16 * min (16 * t.val + 16) 255 + r.val) :
    (iblk m c 5 t : Vec Ideal S16x1024 .bf16) (ix2 r d) = (V m c main_v26 : FVec Ideal S4096x1024 .bf16) (ix2 q d) := by
  obtain ⟨h0, h1⟩ := (win_facts t).2.2.2.2.2.1
  refine congrArg (V m c main_v26 : FVec Ideal S4096x1024 .bf16) (a₁ := (win0_5.rect t).emb (ix2 r d)) (funext fun a => Fin.ext ?_)
  rw [win0_5.rect_emb_val]
  fin_cases a
  · show win0_5.index t 0 * 16 + r.val = q.val; omega
  · show win0_5.index t 1 * 1024 + d.val = d.val; omega

theorem iblk_6 (t : Fin cfg0.N) (g : Fin 2) (p : Fin 4) (k : Fin 3) (n : Fin 704) :
    (iblk m c 6 t : Vec Ideal S2x4x3x704 .f32) (ix4 g p k n) = (V m c main_v7 : FVec Ideal S2x4x3x704 .f32) (ix4 g p k n) := by
  have hz := (win_facts t).2.2.2.2.2.2.1
  refine congrArg (V m c main_v7 : FVec Ideal S2x4x3x704 .f32) (a₁ := (win0_6.rect t).emb (ix4 g p k n)) (funext fun a => Fin.ext ?_)
  rw [win0_6.rect_emb_val]
  fin_cases a
  · have := hz 0; show win0_6.index t 0 * 2 + g.val = g.val; omega
  · have := hz 1; show win0_6.index t 1 * 4 + p.val = p.val; omega
  · have := hz 2; show win0_6.index t 2 * 3 + k.val = k.val; omega
  · have := hz 3; show win0_6.index t 3 * 704 + n.val = n.val; omega

theorem iblk_7 (t : Fin cfg0.N) (p : Fin 4) (n : Fin 704) (d : Fin 1024) :
    (iblk m c 7 t : Vec Ideal S4x704x1024 .bf16) (ix3 p n d) = (V m c main_v4 : FVec Ideal S4x704x1024 .bf16) (ix3 p n d) := by
  have hz := (win_facts t).2.2.2.2.2.2.2.1
  refine congrArg (V m c main_v4 : FVec Ideal S4x704x1024 .bf16) (a₁ := (win0_7.rect t).emb (ix3 p n d)) (funext fun a => Fin.ext ?_)
  rw [win0_7.rect_emb_val]
  fin_cases a
  · have := hz 0; show win0_7.index t 0 * 4 + p.val = p.val; omega
  · have := hz 1; show win0_7.index t 1 * 704 + n.val = n.val; omega
  · have := hz 2; show win0_7.index t 2 * 1024 + d.val = d.val; omega

theorem iblk_8 (t : Fin cfg0.N) (p : Fin 8) (n : Fin 704) (d : Fin 1024) :
    (iblk m c 8 t : Vec Ideal S8x704x1024 .bf16) (ix3 p n d) = (V m c main_v2 : FVec Ideal S8x704x1024 .bf16) (ix3 p n d) := by
  have hz := (win_facts t).2.2.2.2.2.2.2.2.1
  refine congrArg (V m c main_v2 : FVec Ideal S8x704x1024 .bf16) (a₁ := (win0_8.rect t).emb (ix3 p n d)) (funext fun a => Fin.ext ?_)
  rw [win0_8.rect_emb_val]
  fin_cases a
  · have := hz 0; show win0_8.index t 0 * 8 + p.val = p.val; omega
  · have := hz 1; show win0_8.index t 1 * 704 + n.val = n.val; omega
  · have := hz 2; show win0_8.index t 2 * 1024 + d.val = d.val; omega

theorem iblk_9 (t : Fin cfg0.N) (r : Fin 256) (d : Fin 1024) (q : Fin 4096)
    (hq : q.val = 256 * t.val + r.val) :
    (iblk m c 9 t : Vec Ideal S256x1024 .f32) (ix2 r d) = (V m c main_v27 : FVec Ideal S4096x1024 .f32) (ix2 q d) := by
  obtain ⟨h0, h1⟩ := (win_facts t).2.2.2.2.2.2.2.2.2.1
  refine congrArg (V m c main_v27 : FVec Ideal S4096x1024 .f32) (a₁ := (win0_9.rect t).emb (ix2 r d)) (funext fun a => Fin.ext ?_)
  rw [win0_9.rect_emb_val]
  fin_cases a
  · show win0_9.index t 0 * 256 + r.val = q.val; omega
  · show win0_9.index t 1 * 1024 + d.val = d.val; omega

theorem iblk_10 (t : Fin cfg0.N) (z : Fin 1) (d : Fin 1024) :
    (iblk m c 10 t : Vec Ideal S1x1024 .f32) (ix2 z d) = (V m c main_v28 : FVec Ideal S1x1024 .f32) (ix2 z d) := by
  have hz := (win_facts t).2.2.2.2.2.2.2.2.2.2.1
  refine congrArg (V m c main_v28 : FVec Ideal S1x1024 .f32) (a₁ := (win0_10.rect t).emb (ix2 z d)) (funext fun a => Fin.ext ?_)
  rw [win0_10.rect_emb_val]
  fin_cases a
  · have := hz 0; show win0_10.index t 0 * 1 + z.val = z.val; omega
  · have := hz 1; show win0_10.index t 1 * 1024 + d.val = d.val; omega

theorem iblk_11 (t : Fin cfg0.N) (r : Fin 256) (d : Fin 1024) (q : Fin 4096)
    (hq : q.val = 256 * t.val + r.val) :
    (iblk m c 11 t : Vec Ideal S256x1024 .f32) (ix2 r d) = (V m c main_v25 : FVec Ideal S4096x1024 .f32) (ix2 q d) := by
  obtain ⟨h0, h1⟩ := (win_facts t).2.2.2.2.2.2.2.2.2.2.2
  refine congrArg (V m c main_v25 : FVec Ideal S4096x1024 .f32) (a₁ := (win0_11.rect t).emb (ix2 r d)) (funext fun a => Fin.ext ?_)
  rw [win0_11.rect_emb_val]
  fin_cases a
  · show win0_11.index t 0 * 256 + r.val = q.val; omega
  · show win0_11.index t 1 * 1024 + d.val = d.val; omega

/-- The number of the first part of a `0/1` scale: whether rows come before the tile. -/
def prevWord (k : BitVec 32) : BitVec 32 :=
  let v1 : BitVec 32 := Scalar.select (Scalar.cmpi .eq 8#32 0#32) 1#32 8#32
  let v2 : BitVec 32 := Scalar.remsi k v1
  Scalar.extui (Scalar.cmpi .sgt (Scalar.select (Scalar.andi (Scalar.xori (Scalar.cmpi .slt v2 0#32) (Scalar.cmpi .slt v1 0#32))
    (Scalar.cmpi .ne v2 0#32)) (Scalar.addi v2 v1) v2) 0#32)

/-- The number of the second scale: whether rows come after the tile. -/
def nextWord (k : BitVec 32) : BitVec 32 :=
  let v1 : BitVec 32 := Scalar.select (Scalar.cmpi .eq 8#32 0#32) 1#32 8#32
  let v2 : BitVec 32 := Scalar.remsi k v1
  Scalar.extui (Scalar.cmpi .slt (Scalar.select (Scalar.andi (Scalar.xori (Scalar.cmpi .slt v2 0#32) (Scalar.cmpi .slt v1 0#32))
    (Scalar.cmpi .ne v2 0#32)) (Scalar.addi v2 v1) v2) 7#32)

theorem coords_val : ∀ t : Fin grid0.N, ((grid0.coords t) 0).val = t.val := by decide +kernel

theorem prevWord_val : ∀ t : Fin 16, (prevWord (BitVec.ofNat 32 t.val)).toInt = if t.val % 8 = 0 then 0 else 1 := by decide +kernel

theorem nextWord_val : ∀ t : Fin 16, (nextWord (BitVec.ofNat 32 t.val)).toInt = if t.val % 8 = 7 then 0 else 1 := by decide +kernel

theorem hasPrev_val (t : Fin cfg0.N) :
    hasPrev (F := Ideal) (grid0.coords t) = ((if t.val % 8 = 0 then 0 else 1 : ℝ) : EReal) := by
  have e : hasPrev (F := Ideal) (grid0.coords t) = (((prevWord (BitVec.ofNat 32 ((grid0.coords t) 0).val)).toInt : ℝ) : EReal) := rfl
  have h := prevWord_val ⟨t.val, lt_of_lt_of_eq t.isLt N_eq⟩
  dsimp only at h
  rw [e, coords_val t, h]
  split <;> simp

theorem hasNext_val (t : Fin cfg0.N) :
    hasNext (F := Ideal) (grid0.coords t) = ((if t.val % 8 = 7 then 0 else 1 : ℝ) : EReal) := by
  have e : hasNext (F := Ideal) (grid0.coords t) = (((nextWord (BitVec.ofNat 32 ((grid0.coords t) 0).val)).toInt : ℝ) : EReal) := rfl
  have h := nextWord_val ⟨t.val, lt_of_lt_of_eq t.isLt N_eq⟩
  dsimp only at h
  rw [e, coords_val t, h]
  split <;> simp

variable (R : Reals (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) D)
include R

/-- The number of a grid point. -/
def num (t : Fin cfg0.N) : Fin 16 := ⟨t.val, lt_of_lt_of_eq t.isLt N_eq⟩

/-! ### The blocks a point loads hold the arguments' rows -/

theorem tile_pm (t : Fin cfg0.N) (g p r n) : (tile m c t).pm (ix4 g p r n) = ((D.pre (chan g (sub p n)) (row (num t) r) : ℝ) : EReal) :=
  (iblk_0 t g p r n _ rfl).trans (entry_pre R g p _ n)

theorem tile_pp (t : Fin cfg0.N) (g p r n) : (tile m c t).pp (ix4 g p r n) = ((D.pre (chan g (sub p n)) (rowB (num t) r) : ℝ) : EReal) :=
  (iblk_1 t g p r n (rowB (num t) r) rfl).trans (entry_pre R g p _ n)

theorem tile_pn (t : Fin cfg0.N) (g p r n) : (tile m c t).pn (ix4 g p r n) = ((D.pre (chan g (sub p n)) (rowA (num t) r) : ℝ) : EReal) :=
  (iblk_2 t g p r n (rowA (num t) r) rfl).trans (entry_pre R g p _ n)

theorem tile_dm (t : Fin cfg0.N) (r d) : (tile m c t).dm (ix2 r d) = ((D.ct (row (num t) r) d : ℝ) : EReal) :=
  (iblk_3 t r d _ rfl).trans (entry_dy R _ d)

theorem tile_dp (t : Fin cfg0.N) (r d) : (tile m c t).dp (ix2 r d) = ((D.ct (rowB (num t) r) d : ℝ) : EReal) :=
  (iblk_4 t r d (rowB (num t) r) rfl).trans (entry_dy R _ d)

theorem tile_dn (t : Fin cfg0.N) (r d) : (tile m c t).dn (ix2 r d) = ((D.ct (rowA (num t) r) d : ℝ) : EReal) :=
  (iblk_5 t r d (rowA (num t) r) rfl).trans (entry_dy R _ d)

theorem tile_w (t : Fin cfg0.N) (g p k n) : (tile m c t).w (ix4 g p k n) = ((D.taps k (chan g (sub p n)) : ℝ) : EReal) :=
  (iblk_6 t g p k n).trans (entry_taps R g p k n)

theorem tile_wd (t : Fin cfg0.N) (p n d) : (tile m c t).wd (ix3 p n d) = ((D.down (sub p n) d : ℝ) : EReal) :=
  (iblk_7 t p n d).trans (entry_down R p n d)

theorem tile_wu (t : Fin cfg0.N) (g : Fin 2) (p : Fin 4) (n d) : (tile m c t).wu (ix3 ⟨4 * g.val + p.val, by omega⟩ n d) = ((D.up d (chan g (sub p n)) : ℝ) : EReal) :=
  (iblk_8 t _ n d).trans (entry_up R g p n d)

theorem tile_x (t : Fin cfg0.N) (r d) : (tile m c t).x (ix2 r d) = ((D.x (row (num t) r) d : ℝ) : EReal) :=
  (iblk_9 t r d _ rfl).trans (entry_x R _ d)

theorem tile_g (t : Fin cfg0.N) (d) : (tile m c t).g (ix2 0 d) = ((D.gain d : ℝ) : EReal) :=
  (iblk_10 t 0 d).trans (entry_gain R d)

theorem tile_res (t : Fin cfg0.N) (r d) : (tile m c t).res (ix2 r d) = ((D.ct (row (num t) r) d : ℝ) : EReal) :=
  (iblk_11 t r d _ rfl).trans (entry_ct R _ d)

theorem holds (t : Fin cfg0.N) : Holds (tile m c t) D (num t) :=
  ⟨hasPrev_val t, hasNext_val t, tile_pm R t, tile_pp R t, tile_pn R t, tile_dm R t, tile_dp R t, tile_dn R t, tile_w R t, tile_wd R t, tile_wu R t, tile_x R t, tile_g R t, tile_res R t⟩

/-! ## The result arrays -/

omit R in
theorem out_facts : ∀ t : Fin grid0.N,
    (win0_12.index t 0 = 0 ∧ win0_12.index t 1 = 0 ∧ win0_12.index t 2 = t.val ∧ win0_12.index t 3 = 0) ∧
    (∀ a, win0_13.index t a = 0) ∧ (win0_14.index t 0 = t.val ∧ win0_14.index t 1 = 0) ∧
    (win0_15.index t 0 = t.val ∧ win0_15.index t 1 = 0) ∧ (∀ a, win0_16.index t a = 0) := by
  decide +kernel

/-- The point that owns a row, and the row's place in its tile. -/
def ptOf (q : Fin 4096) : Fin cfg0.N := ⟨q.val / 256, by rw [N_eq]; omega⟩

def rowOf (q : Fin 4096) : Fin 256 := ⟨q.val % 256, by omega⟩

omit R in
theorem row_ptOf (q : Fin 4096) : row (num (ptOf q)) (rowOf q) = q := by
  apply Fin.ext
  simp only [row, num, ptOf, rowOf]
  omega

theorem arr_dPre (g : Fin 2) (p : Fin 4) (q : Fin 4096) (n : Fin 704) :
    ((dats m 0 c).arrAt 12 cfg0.N : FVec Ideal S2x4x4096x704 .bf16) (ix4 g p q n)
      = ((D.dPre g (sub p n) (seqOf q) (posOf q).val : ℝ) : EReal) := by
  have h := (dats m 0 c).arrAt_emb_eq_flushed 12 Value.disjoint12 (ptOf q) (flush0_12 _) (ix4 g p (rowOf q) n)
  have hi : ((cfg0.win 12).blk (ptOf q)).view.emb (ix4 g p (rowOf q) n) = ix4 g p q n := by
    obtain ⟨h0, h1, h2, h3⟩ := (out_facts (ptOf q)).1
    refine funext fun a => Fin.ext ?_
    refine (win0_12.rect_emb_val (ptOf q) (ix4 g p (rowOf q) n) a).trans ?_
    fin_cases a
    · show win0_12.index (ptOf q) 0 * 2 + g.val = g.val; omega
    · show win0_12.index (ptOf q) 1 * 4 + p.val = p.val; omega
    · show win0_12.index (ptOf q) 2 * 256 + (rowOf q).val = q.val; rw [h2]; simp only [ptOf, rowOf]; omega
    · show win0_12.index (ptOf q) 3 * 704 + n.val = n.val; omega
  rw [hi, Value.flushed12, outs_0] at h
  refine h.trans ?_
  refine ((holds R (ptOf q)).dPre_val g p (rowOf q) n).trans ?_
  rw [row_ptOf]

theorem arr_dx (q : Fin 4096) (d : Fin 1024) :
    ((dats m 0 c).arrAt 14 cfg0.N : FVec Ideal S4096x1024 .f32) (ix2 q d) = ((D.dx q d : ℝ) : EReal) := by
  have h := (dats m 0 c).arrAt_emb_eq_flushed 14 Value.disjoint14 (ptOf q) (flush0_14 _) (ix2 (rowOf q) d)
  have hi : ((cfg0.win 14).blk (ptOf q)).view.emb (ix2 (rowOf q) d) = ix2 q d := by
    obtain ⟨h0, h1⟩ := (out_facts (ptOf q)).2.2.1
    refine funext fun a => Fin.ext ?_
    refine (win0_14.rect_emb_val (ptOf q) (ix2 (rowOf q) d) a).trans ?_
    fin_cases a
    · show win0_14.index (ptOf q) 0 * 256 + (rowOf q).val = q.val; rw [h0]; simp only [ptOf, rowOf]; omega
    · show win0_14.index (ptOf q) 1 * 1024 + d.val = d.val; omega
  rw [hi, Value.flushed14, outs_2] at h
  refine h.trans ?_
  refine ((holds R (ptOf q)).dx_val (rowOf q) d).trans ?_
  rw [row_ptOf]

theorem arr_dxb (q : Fin 4096) (d : Fin 1024) :
    ((dats m 0 c).arrAt 15 cfg0.N : FVec Ideal S4096x1024 .bf16) (ix2 q d) = ((D.dx q d : ℝ) : EReal) := by
  have h := (dats m 0 c).arrAt_emb_eq_flushed 15 Value.disjoint15 (ptOf q) (flush0_15 _) (ix2 (rowOf q) d)
  have hi : ((cfg0.win 15).blk (ptOf q)).view.emb (ix2 (rowOf q) d) = ix2 q d := by
    obtain ⟨h0, h1⟩ := (out_facts (ptOf q)).2.2.2.1
    refine funext fun a => Fin.ext ?_
    refine (win0_15.rect_emb_val (ptOf q) (ix2 (rowOf q) d) a).trans ?_
    fin_cases a
    · show win0_15.index (ptOf q) 0 * 256 + (rowOf q).val = q.val; rw [h0]; simp only [ptOf, rowOf]; omega
    · show win0_15.index (ptOf q) 1 * 1024 + d.val = d.val; omega
  rw [hi, Value.flushed15, outs_3] at h
  refine h.trans ?_
  refine ((holds R (ptOf q)).dx_val (rowOf q) d).trans ?_
  rw [row_ptOf]

/-- The last grid point. -/
def last : Fin cfg0.N := ⟨15, by rw [N_eq]; omega⟩

omit R in
/-- A sum over the tiles of sums over a tile's rows is the sum over all rows. -/
theorem sum_rows (f : Fin 4096 → ℝ) : ∑ t : Fin 16, ∑ r : Fin 256, f (row t r) = ∑ q : Fin 4096, f q := by
  rw [← Fintype.sum_prod_type' (fun t r => f (row t r))]
  refine Fintype.sum_bijective (fun x : Fin 16 × Fin 256 => row x.1 x.2) ?_ _ _ (fun _ => rfl)
  refine ⟨fun x y h => ?_, fun q => ⟨(⟨q.val / 256, by omega⟩, ⟨q.val % 256, by omega⟩), Fin.ext ?_⟩⟩
  · have h' := congrArg Fin.val h
    simp only [row] at h'
    exact Prod.ext (Fin.ext (by omega)) (Fin.ext (by omega))
  · simp only [row]
    omega

omit R in
theorem disjoint_last (w : Fin cfg0.W) (hw : ∀ t : Fin cfg0.N, (cfg0.win w).flush t = true → t.val % 16 = 15) :
    ∀ t t' : Fin cfg0.N, (cfg0.win w).flush t = true → (cfg0.win w).flush t' = true → t ≠ t' →
    Disjoint ((cfg0.win w).blk t).view.set ((cfg0.win w).blk t').view.set := fun t t' h h' hne =>
  absurd (Fin.ext (by have := hw t h; have := hw t' h'; have := t.isLt; have := t'.isLt; have := N_eq; omega)) hne

theorem arr_dTaps (g : Fin 2) (p : Fin 4) (k : Fin 3) (n : Fin 704) :
    ((dats m 0 c).arrAt 13 cfg0.N : FVec Ideal S2x4x3x704 .f32) (ix4 g p k n) = ((D.dTaps g (sub p n) k : ℝ) : EReal) := by
  have h := (dats m 0 c).arrAt_emb_eq_flushed 13 (disjoint_last 13 fun t => (flush0_13 t).mp) last ((flush0_13 last).mpr rfl)
    (ix4 g p k n)
  have hi : ((cfg0.win 13).blk last).view.emb (ix4 g p k n) = ix4 g p k n := by
    have hz := (out_facts last).2.1
    exact funext fun a => Fin.ext (win0_13.rect_emb_val_of_index_zero last a (hz a) (ix4 g p k n))
  rw [hi, Value.flushed13] at h
  refine h.trans ?_
  refine (outs_1 m c (ix4 g p k n) 15 last.isLt).trans ?_
  unfold Data.dTaps
  rw [← sum_rows, ← coe_sum]
  exact Finset.sum_congr rfl fun t _ => (holds R _).dW_val g k p n

theorem arr_dGain (d : Fin 1024) :
    ((dats m 0 c).arrAt 16 cfg0.N : FVec Ideal S1x1024 .f32) (ix2 0 d) = ((D.dGain d : ℝ) : EReal) := by
  have h := (dats m 0 c).arrAt_emb_eq_flushed 16 (disjoint_last 16 fun t => (flush0_16 t).mp) last ((flush0_16 last).mpr rfl)
    (ix2 0 d)
  have hi : ((cfg0.win 16).blk last).view.emb (ix2 0 d) = ix2 0 d := by
    have hz := (out_facts last).2.2.2.2
    exact funext fun a => Fin.ext (win0_16.rect_emb_val_of_index_zero last a (hz a) (ix2 0 d))
  rw [hi, Value.flushed16] at h
  refine h.trans ?_
  refine (outs_4 m c (ix2 0 d) 15 last.isLt).trans ?_
  unfold Data.dGain
  rw [← sum_rows, ← coe_sum]
  exact Finset.sum_congr rfl fun t _ => (holds R _).dg_val d

end Loads

end Cert.FfnBwd

end
-- ==== Proof.FfnFwdKernel.lean ====
/-
  The feed-forward forward call on the extended reals: what a tile's functions hold at a row, and what the launch leaves in its four
  results at a token.
-/
module

public import proofs.«01_k».proof.Proof.FfnFwd
public import proofs.«01_k».proof.Proof.FfnFwdTile
public import proofs.«01_k».proof.Proof.Points
public import proofs.«01_k».proof.Proof.Gen.Kernel4Ideal.Value
public import Idealize.ShloMosaic.Lib.Claim

@[expose] public section

noncomputable section

namespace Cert.FfnFwd

open Idealize.ShloMosaic Cert.Kernel4Ideal Cert.Kernel4Ideal.Gen Idealize.ShloMosaic.TcCoe
open Cert.FfnBwd (tok seqOf posOf chan sub slab layer row rowB prevWord prevWord_val)
open Cert.RmsFwd (rowNorm)

/-! ## The gate -/

/-- The logistic function through the hyperbolic tangent of half the argument, infinities included. -/
theorem sigma_tanh (a : EReal) : Ideal.ofBits .f32 0x3F000000#32 * Ideal.tanh (Ideal.ofBits .f32 0x3F000000#32 * a)
    + Ideal.ofBits .f32 0x3F000000#32 = sigma a := by
  have one : Ideal.ofBits .f32 0x3F800000#32 = ((1 : ℝ) : EReal) := by simp [Ideal.ofBits, Ideal.ieee, -EReal.coe_mul]; norm_num
  have hp : (0 : EReal) < ((1 / 2 : ℝ) : EReal) := by exact_mod_cast (by norm_num : (0 : ℝ) < 1 / 2)
  rw [sigma, Cert.FfnBwd.half_f32, one]
  induction a using EReal.rec with
  | bot =>
    rw [EReal.mul_bot_of_pos hp, Ideal.tanh_bot, EReal.neg_bot, Ideal.exp_top, EReal.coe_add_top]
    have : Ideal.div ((1 : ℝ) : EReal) ⊤ = 0 := by simp [Ideal.div]
    rw [this, show (-1 : EReal) = ((-1 : ℝ) : EReal) by simp, ← EReal.coe_mul, ← EReal.coe_add]
    norm_num
  | top =>
    rw [EReal.mul_top_of_pos hp, Ideal.tanh_top, EReal.neg_top, Ideal.exp_bot, add_zero, Ideal.div_coe one_ne_zero,
      show (1 : EReal) = ((1 : ℝ) : EReal) by simp, ← EReal.coe_mul, ← EReal.coe_add, ← EReal.coe_mul]
    norm_num
  | coe r =>
    have h : (1 : ℝ) + Real.exp (-r) ≠ 0 := by positivity
    rw [← EReal.coe_mul, Ideal.tanh_coe, ← EReal.coe_mul, ← EReal.coe_add, Cert.FfnBwd.sg_tanh, ← EReal.coe_neg, Ideal.exp_coe,
      ← EReal.coe_add, Ideal.div_coe h, ← EReal.coe_mul, Cert.FfnBwd.sg]
    norm_num

/-- A sum over a half's channels is a sum over chunks and places. -/
theorem sum_sub (f : Fin 2816 → EReal) : ∑ m : Fin 2816, f m = ∑ p : Fin 4, ∑ n : Fin 704, f (sub p n) :=
  (Cert.FfnBwd.sum_blocks 4 704 rfl f).symm.trans (Finset.sum_congr rfl fun p _ => Finset.sum_congr rfl fun n _ =>
    congrArg f (Fin.ext (congrArg (· + n.val) (Nat.mul_comm 704 p.val))))

/-! ## A tile's functions at a row -/

/-- A tile's blocks hold the arguments' rows around tile `t`. -/
structure Holds (T : Tile Ideal) (A : Args) (t : Fin 16) : Prop where
  edge : ∀ r : Fin 264, k0_pay5 (F := Ideal) T.i (ix2 r 0) = if r.val < 8 ∧ t.val % 8 = 0 then 0 else 1
  h : ∀ r d, T.h (ix2 r d) = A.h (ix3 (seqOf (row t r)) (posOf (row t r)) d)
  hp : ∀ r d, T.hp (ix2 r d) = A.h (ix3 (seqOf (rowB t r)) (posOf (rowB t r)) d)
  wu : ∀ (g : Fin 2) (p : Fin 4) n d, T.wu (ix3 ⟨4 * g.val + p.val, by omega⟩ n d) = A.up (ix2 d (chan g (sub p n)))
  w : ∀ g p k n, T.w (ix4 g p k n) = A.taps (ix2 k (chan g (sub p n)))
  wd : ∀ p n d, T.wd (ix3 p n d) = A.down (ix2 (sub p n) d)
  x : ∀ r d, T.x (ix2 r d) = A.x (ix3 (seqOf (row t r)) (posOf (row t r)) d)
  g : ∀ d : Fin 1024, T.g (ix2 0 d) = A.gain (ix1 d)

section Values

variable {T : Tile Ideal} {A : Args} {t : Fin 16} (H : Holds T A t)
include H

theorem up_val (g : Fin 2) (p : Fin 4) (r : Fin 272) (n : Fin 704) :
    T.up g p (ix2 r n) = if h : r.val < 16 then A.pre (chan g (sub p n)) (rowB t ⟨r.val, h⟩)
      else A.pre (chan g (sub p n)) (row t ⟨r.val - 16, by omega⟩) := by
  have e : T.up g p (ix2 r n) = ∑ d : Fin 1024, T.rows (ix2 r d) * T.wu (ix3 ⟨4 * g.val + p.val, by omega⟩ n d) := by
    pointwise [Tile.up, full, layer]
  have e' : ∀ d, T.rows (ix2 r d) = if h : r.val < 16 then T.hp (ix2 ⟨r.val, h⟩ d) else T.h (ix2 ⟨r.val - 16, by omega⟩ d) := by
    intro d
    pointwise [Tile.rows, k0_pay6]
  rw [e]
  unfold Args.pre
  by_cases h : r.val < 16
  · rw [dif_pos h]
    exact Finset.sum_congr rfl fun d _ => by rw [e', dif_pos h, H.hp, H.wu]
  · rw [dif_neg h]
    exact Finset.sum_congr rfl fun d _ => by rw [e', dif_neg h, H.h, H.wu]

theorem own_val (g : Fin 2) (p : Fin 4) (r : Fin 256) (n : Fin 704) :
    own (T.up g p) (ix2 r n) = A.pre (chan g (sub p n)) (row t r) := by
  have e : own (T.up g p) (ix2 r n) = T.up g p (ix2 ⟨16 + r.val, by omega⟩ n) := by
    generalize T.up g p = y
    pointwise [own]
  rw [e, up_val H, dif_neg (by simp)]
  exact congrArg (fun z => A.pre (chan g (sub p n)) (row t z)) (Fin.ext (by simp))

/-- The window's row `8 + r - k` holds the channel `k` tokens before the tile's row `r`. -/
theorem window_val (g : Fin 2) (p : Fin 4) (r : Fin 256) (n : Fin 704) (k : ℕ) (hk : k ≤ 2) (s : Fin 264) (hs : s.val = 8 + r.val - k) :
    window (k0_pay5 T.i) (T.up g p) (ix2 s n) = A.back k (chan g (sub p n)) (row t r) := by
  have e : window (k0_pay5 T.i) (T.up g p) (ix2 s n) = T.up g p (ix2 ⟨8 + s.val, by omega⟩ n) * k0_pay5 (F := Ideal) T.i (ix2 s 0) := by
    generalize T.up g p = y
    generalize k0_pay5 (F := Ideal) T.i = z
    pointwise [window]
  have hpos : (posOf (row t r)).val = (256 * t.val + r.val) % 2048 := rfl
  rw [e, H.edge, up_val H]
  unfold Args.back
  by_cases h : s.val < 8
  · by_cases ht : t.val % 8 = 0
    · rw [if_pos ⟨h, ht⟩, mul_zero, if_neg (by omega)]
    · rw [if_neg (fun z => ht z.2), mul_one, if_pos (by omega), dif_pos (by simp; omega)]
      refine congrArg (A.pre (chan g (sub p n))) (Fin.ext ?_)
      show 16 * (16 * t.val - 1) + (8 + s.val) = 256 * t.val + r.val - k
      omega
  · rw [if_neg (fun z => h z.1), mul_one, if_pos (by omega), dif_neg (by simp; omega)]
    refine congrArg (A.pre (chan g (sub p n))) (Fin.ext ?_)
    show 256 * t.val + (8 + s.val - 16) = 256 * t.val + r.val - k
    omega

theorem conv_val (g : Fin 2) (p : Fin 4) (r : Fin 256) (n : Fin 704) : T.conv g p (ix2 r n) = A.conv (chan g (sub p n)) (row t r) := by
  unfold Args.conv
  rw [← window_val H g p r n 2 le_rfl ⟨6 + r.val, by omega⟩ (by show 6 + r.val = 8 + r.val - 2; omega), ← window_val H g p r n 1 (by omega) ⟨7 + r.val, by omega⟩ (by show 7 + r.val = 8 + r.val - 1; omega),
    ← window_val H g p r n 0 (by omega) ⟨8 + r.val, by omega⟩ rfl, ← H.w, ← H.w, ← H.w]
  have h1 : ∀ h, (⟨(8 + r.val + 264 - 1) % 264, h⟩ : Fin 264) = ⟨7 + r.val, by omega⟩ := fun _ => Fin.ext (by simp only []; omega)
  have h2 : ∀ h, (⟨((8 + r.val + 264 - 1) % 264 + 264 - 1) % 264, h⟩ : Fin 264) = ⟨6 + r.val, by omega⟩ := fun _ =>
    Fin.ext (by simp only []; omega)
  unfold Tile.conv
  generalize window (k0_pay5 T.i) (T.up g p) = y
  pointwise [post, down, tap0, tap1, tap2, slab]
  simp only [h1, h2]

theorem act_val (p : Fin 4) (r : Fin 256) (n : Fin 704) : T.act p (ix2 r n) = A.act (sub p n) (row t r) := by
  unfold Args.act
  rw [← conv_val H, ← conv_val H, ← sigma_tanh]
  unfold Tile.act
  generalize T.conv 0 p = a
  generalize T.conv 1 p = v
  pointwise [gated, sigm]

theorem out_val (r : Fin 256) (d : Fin 1024) : T.out (ix2 r d) = A.out (row t r) d := by
  have e : ∀ p : Fin 4, proj (T.act p) (layer T.wd p) (ix2 r d) = ∑ n : Fin 704, A.act (sub p n) (row t r) * A.down (ix2 (sub p n) d) := by
    intro p
    simp only [← act_val H, ← H.wd]
    generalize T.act p = y
    pointwise [proj, layer]
  have ex : k0_pay7 T.x (ix2 r d) = T.x (ix2 r d) := by pointwise [k0_pay7]
  have e4 : T.out (ix2 r d) = k0_pay7 T.x (ix2 r d) + proj (T.act 0) (layer T.wd 0) (ix2 r d) + proj (T.act 1) (layer T.wd 1) (ix2 r d)
      + proj (T.act 2) (layer T.wd 2) (ix2 r d) + proj (T.act 3) (layer T.wd 3) (ix2 r d) := rfl
  rw [e4, e, e, e, e, ex, H.x, Args.out, sum_sub, Fin.sum_univ_four]
  simp only [add_assoc]

theorem norm_val (r : Fin 256) (d : Fin 1024) : norms T.out T.g (ix2 r d) = rowNorm (A.out (row t r)) A.gain d := by
  rw [show A.out (row t r) = fun k => T.out (ix2 r k) from funext fun k => (out_val H r k).symm]
  unfold rowNorm
  rw [← H.g]
  generalize T.out = y
  pointwise [norms]

end Values

/-! ## The launch -/

section Launch

open Idealize.ShloMosaic.Pipeline (Dat)

variable (m : (ℓ : Loc nD τ sig) → Buf (Elt Ideal) ℓ) (c : Dev nD)

/-- The launched arguments. -/
abbrev argsOf : Args :=
  ⟨m (c, Proc.tc.devRef main_arg0), m (c, Proc.tc.devRef main_arg1), m (c, Proc.tc.devRef main_arg2), m (c, Proc.tc.devRef main_arg3),
    m (c, Proc.tc.devRef main_arg4), m (c, Proc.tc.devRef main_arg5)⟩

theorem N_eq : cfg0.N = 16 := N_0

/-- A grid point's tile. -/
def num (t : Fin cfg0.N) : Fin 16 := ⟨t.val, lt_of_lt_of_eq t.isLt N_eq⟩

theorem win_rows : ∀ t : Fin grid0.N, (win0_0.index t 0 = t.val ∧ win0_0.index t 1 = 0) ∧
    (win0_1.index t 0 = 16 * t.val - 1 ∧ win0_1.index t 1 = 0) ∧ (win0_5.index t 0 = t.val ∧ win0_5.index t 1 = 0) := by
  decide +kernel

theorem win_whole : ∀ t : Fin grid0.N, (∀ a, win0_2.index t a = 0) ∧ (∀ a, win0_3.index t a = 0) ∧ (∀ a, win0_4.index t a = 0) ∧
    (∀ a, win0_6.index t a = 0) := by
  decide +kernel

theorem win_out : ∀ t : Fin grid0.N, (win0_7.index t 0 = t.val ∧ win0_7.index t 1 = 0) ∧ (win0_8.index t 0 = t.val ∧ win0_8.index t 1 = 0) ∧
    (win0_9.index t 0 = 0 ∧ win0_9.index t 1 = t.val ∧ win0_9.index t 2 = 0) ∧
    (win0_10.index t 0 = 0 ∧ win0_10.index t 1 = 0 ∧ win0_10.index t 2 = t.val ∧ win0_10.index t 3 = 0) := by
  decide +kernel

theorem load_0 (t : Fin cfg0.N) (r : Fin 256) (d : Fin 1024) : (iblk m c 0 t : Vec Ideal S256x1024 .bf16) (ix2 r d)
    = m (c, Proc.tc.devRef main_arg0) (ix3 (seqOf (row (num t) r)) (posOf (row (num t) r)) d) := by
  have e : (iblk m c 0 t : Vec Ideal S256x1024 .bf16) (ix2 r d) = (V m c main_v9 : FVec Ideal S4096x1024 .bf16) (ix2 (row (num t) r) d) := by
    obtain ⟨h0, h1⟩ := (win_rows t).1
    refine congrArg (V m c main_v9 : FVec Ideal S4096x1024 .bf16) (a₁ := (win0_0.rect t).emb (ix2 r d)) (funext fun a => Fin.ext ?_)
    rw [win0_0.rect_emb_val]
    fin_cases a
    · show win0_0.index t 0 * 256 + r.val = 256 * t.val + r.val; omega
    · show win0_0.index t 1 * 1024 + d.val = d.val; omega
  rw [e]
  generalize row (num t) r = q
  entry_read
  pointwise []
  rfl

theorem load_1 (t : Fin cfg0.N) (r : Fin 16) (d : Fin 1024) : (iblk m c 1 t : Vec Ideal S16x1024 .bf16) (ix2 r d)
    = m (c, Proc.tc.devRef main_arg0) (ix3 (seqOf (rowB (num t) r)) (posOf (rowB (num t) r)) d) := by
  have e : (iblk m c 1 t : Vec Ideal S16x1024 .bf16) (ix2 r d) = (V m c main_v9 : FVec Ideal S4096x1024 .bf16) (ix2 (rowB (num t) r) d) := by
    obtain ⟨h0, h1⟩ := (win_rows t).2.1
    refine congrArg (V m c main_v9 : FVec Ideal S4096x1024 .bf16) (a₁ := (win0_1.rect t).emb (ix2 r d)) (funext fun a => Fin.ext ?_)
    rw [win0_1.rect_emb_val]
    fin_cases a
    · show win0_1.index t 0 * 16 + r.val = 16 * (16 * t.val - 1) + r.val; omega
    · show win0_1.index t 1 * 1024 + d.val = d.val; omega
  rw [e]
  generalize rowB (num t) r = q
  entry_read
  pointwise []
  rfl

theorem load_2 (t : Fin cfg0.N) (g : Fin 2) (p : Fin 4) (n : Fin 704) (d : Fin 1024) :
    (iblk m c 2 t : Vec Ideal S8x704x1024 .bf16) (ix3 ⟨4 * g.val + p.val, by omega⟩ n d) = m (c, Proc.tc.devRef main_arg1) (ix2 d (chan g (sub p n))) := by
  have e : (iblk m c 2 t : Vec Ideal S8x704x1024 .bf16) (ix3 ⟨4 * g.val + p.val, by omega⟩ n d)
      = (V m c main_v2 : FVec Ideal S8x704x1024 .bf16) (ix3 ⟨4 * g.val + p.val, by omega⟩ n d) := by
    have hz := (win_whole t).1
    refine congrArg (V m c main_v2 : FVec Ideal S8x704x1024 .bf16) (a₁ := (win0_2.rect t).emb (ix3 ⟨4 * g.val + p.val, by omega⟩ n d))
      (funext fun a => Fin.ext ?_)
    rw [win0_2.rect_emb_val]
    fin_cases a
    · have := hz 0; show win0_2.index t 0 * 8 + (4 * g.val + p.val) = 4 * g.val + p.val; omega
    · have := hz 1; show win0_2.index t 1 * 704 + n.val = n.val; omega
    · have := hz 2; show win0_2.index t 2 * 1024 + d.val = d.val; omega
  rw [e]
  entry_read
  pointwise []
  exact congrArg (fun j => m (c, Proc.tc.devRef main_arg1) (ix2 d j)) (Fin.ext (by simp only [chan, sub]; omega))

theorem load_3 (t : Fin cfg0.N) (g : Fin 2) (p : Fin 4) (k : Fin 3) (n : Fin 704) :
    (iblk m c 3 t : Vec Ideal S2x4x3x704 .f32) (ix4 g p k n) = m (c, Proc.tc.devRef main_arg2) (ix2 k (chan g (sub p n))) := by
  have e : (iblk m c 3 t : Vec Ideal S2x4x3x704 .f32) (ix4 g p k n) = (V m c main_v7 : FVec Ideal S2x4x3x704 .f32) (ix4 g p k n) := by
    have hz := (win_whole t).2.1
    refine congrArg (V m c main_v7 : FVec Ideal S2x4x3x704 .f32) (a₁ := (win0_3.rect t).emb (ix4 g p k n)) (funext fun a => Fin.ext ?_)
    rw [win0_3.rect_emb_val]
    fin_cases a
    · have := hz 0; show win0_3.index t 0 * 2 + g.val = g.val; omega
    · have := hz 1; show win0_3.index t 1 * 4 + p.val = p.val; omega
    · have := hz 2; show win0_3.index t 2 * 3 + k.val = k.val; omega
    · have := hz 3; show win0_3.index t 3 * 704 + n.val = n.val; omega
  rw [e]
  entry_read
  pointwise []
  exact congrArg (fun j => m (c, Proc.tc.devRef main_arg2) (ix2 k j)) (Fin.ext (by simp only [chan, sub]; omega))

theorem load_4 (t : Fin cfg0.N) (p : Fin 4) (n : Fin 704) (d : Fin 1024) :
    (iblk m c 4 t : Vec Ideal S4x704x1024 .bf16) (ix3 p n d) = m (c, Proc.tc.devRef main_arg3) (ix2 (sub p n) d) := by
  have e : (iblk m c 4 t : Vec Ideal S4x704x1024 .bf16) (ix3 p n d) = (V m c main_v4 : FVec Ideal S4x704x1024 .bf16) (ix3 p n d) := by
    have hz := (win_whole t).2.2.1
    refine congrArg (V m c main_v4 : FVec Ideal S4x704x1024 .bf16) (a₁ := (win0_4.rect t).emb (ix3 p n d)) (funext fun a => Fin.ext ?_)
    rw [win0_4.rect_emb_val]
    fin_cases a
    · have := hz 0; show win0_4.index t 0 * 4 + p.val = p.val; omega
    · have := hz 1; show win0_4.index t 1 * 704 + n.val = n.val; omega
    · have := hz 2; show win0_4.index t 2 * 1024 + d.val = d.val; omega
  rw [e]
  entry_read
  pointwise []
  rfl

theorem load_5 (t : Fin cfg0.N) (r : Fin 256) (d : Fin 1024) : (iblk m c 5 t : Vec Ideal S256x1024 .f32) (ix2 r d)
    = m (c, Proc.tc.devRef main_arg4) (ix3 (seqOf (row (num t) r)) (posOf (row (num t) r)) d) := by
  have e : (iblk m c 5 t : Vec Ideal S256x1024 .f32) (ix2 r d) = (V m c main_v10 : FVec Ideal S4096x1024 .f32) (ix2 (row (num t) r) d) := by
    obtain ⟨h0, h1⟩ := (win_rows t).2.2
    refine congrArg (V m c main_v10 : FVec Ideal S4096x1024 .f32) (a₁ := (win0_5.rect t).emb (ix2 r d)) (funext fun a => Fin.ext ?_)
    rw [win0_5.rect_emb_val]
    fin_cases a
    · show win0_5.index t 0 * 256 + r.val = 256 * t.val + r.val; omega
    · show win0_5.index t 1 * 1024 + d.val = d.val; omega
  rw [e]
  generalize row (num t) r = q
  entry_read
  pointwise []
  rfl

theorem load_6 (t : Fin cfg0.N) (d : Fin 1024) :
    (iblk m c 6 t : Vec Ideal S1x1024 .f32) (ix2 0 d) = m (c, Proc.tc.devRef main_arg5) (ix1 d) := by
  have e : (iblk m c 6 t : Vec Ideal S1x1024 .f32) (ix2 0 d) = (V m c main_v11 : FVec Ideal S1x1024 .f32) (ix2 0 d) := by
    have hz := (win_whole t).2.2.2
    refine congrArg (V m c main_v11 : FVec Ideal S1x1024 .f32) (a₁ := (win0_6.rect t).emb (ix2 0 d)) (funext fun a => Fin.ext ?_)
    rw [win0_6.rect_emb_val]
    fin_cases a
    · have := hz 0; show win0_6.index t 0 * 1 + 0 = 0; omega
    · have := hz 1; show win0_6.index t 1 * 1024 + d.val = d.val; omega
  rw [e]
  entry_read
  pointwise []

theorem coords_val : ∀ t : Fin grid0.N, ((grid0.coords t) 0).val = t.val := by decide +kernel

theorem edge_val (t : Fin cfg0.N) (r : Fin 264) :
    k0_pay5 (F := Ideal) (grid0.coords t) (ix2 r 0) = if r.val < 8 ∧ (num t).val % 8 = 0 then 0 else 1 := by
  have e : k0_pay5 (F := Ideal) (grid0.coords t) (ix2 r 0) = Scalar.select (IntOp.cmpi CmpIPredicate.slt (BitVec.ofNat 32 r.val) 8#32)
      (((prevWord (BitVec.ofNat 32 ((grid0.coords t) 0).val)).toInt : ℝ) : EReal) 1 := by
    rw [show k0_pay5 (F := Ideal) (grid0.coords t) = select (cmpi .slt (iota .tc S264x1 32 [0] iota_S264x1_d0_w32) (broadcast S264x1 8#32))
        (broadcast S264x1 (((prevWord (BitVec.ofNat 32 ((grid0.coords t) 0).val)).toInt : ℝ) : EReal))
        (broadcast S264x1 (Scalar.ofBits (F := Ideal) .f32 0x3F800000#32)) from rfl]
    generalize (((prevWord (BitVec.ofNat 32 ((grid0.coords t) 0).val)).toInt : ℝ) : EReal) = z
    pointwise []
  have h := prevWord_val (num t)
  have h1 : ∀ r : Fin 264, IntOp.cmpi CmpIPredicate.slt (BitVec.ofNat 32 r.val) 8#32 = if r.val < 8 then 1#1 else 0#1 := by
    decide +kernel
  rw [e, coords_val t, h1]
  rw [show BitVec.ofNat 32 t.val = BitVec.ofNat 32 (num t).val from rfl, h]
  by_cases hr : r.val < 8 <;> by_cases ht : (num t).val % 8 = 0 <;> simp [hr, ht, Scalar.select]

/-- A grid point's tile of the launch. -/
abbrev tile (t : Fin cfg0.N) : Tile Ideal :=
  ⟨grid0.coords t, iblk m c 0 t, iblk m c 1 t, iblk m c 2 t, iblk m c 3 t, iblk m c 4 t, iblk m c 5 t, iblk m c 6 t⟩

theorem holds (t : Fin cfg0.N) : Holds (tile m c t) (argsOf m c) (num t) :=
  ⟨edge_val t, load_0 m c t, load_1 m c t, load_2 m c t, load_3 m c t, load_4 m c t, load_5 m c t, load_6 m c t⟩

/-- The point that owns a token. -/
def ptOf (q : Fin 4096) : Fin cfg0.N := ⟨q.val / 256, by rw [N_eq]; omega⟩

/-- A token's row in its point's block. -/
def rowOf (q : Fin 4096) : Fin 256 := ⟨q.val % 256, by omega⟩

theorem row_at (q : Fin 4096) : row (num (ptOf q)) (rowOf q) = q :=
  Fin.ext (by show 256 * (q.val / 256) + q.val % 256 = q.val; omega)

theorem at_row (q : Fin 4096) : 256 * (ptOf q).val + (rowOf q).val = q.val := by
  show 256 * (q.val / 256) + q.val % 256 = q.val; omega

theorem emb7 (q : Fin 4096) (d : Fin 1024) : ((cfg0.win 7).blk (ptOf q)).view.emb (ix2 (rowOf q) d) = ix2 q d := by
  obtain ⟨h0, h1⟩ := (win_out (ptOf q)).1
  have hq := at_row q
  refine funext fun a => Fin.ext ?_
  refine (win0_7.rect_emb_val (ptOf q) (ix2 (rowOf q) d) a).trans ?_
  fin_cases a
  · show win0_7.index (ptOf q) 0 * 256 + (rowOf q).val = q.val; omega
  · show win0_7.index (ptOf q) 1 * 1024 + d.val = d.val; omega

theorem cut7 (t : Fin cfg0.N) (X : Vec Ideal S256x1024 .f32) (r : Fin 256) (d : Fin 1024) :
    (cfg0.win 7).cut (grid0.coords t) X (ix2 r d) = X (ix2 r d) :=
  congrArg X (funext fun a => Fin.ext rfl)

theorem flushed7_val (t : Fin cfg0.N) (r : Fin 256) (d : Fin 1024) :
    ((dats m 0 c).flushed 7 t : Vec Ideal S256x1024 .f32) (ix2 r d) = (argsOf m c).out (row (num t) r) d := by
  rw [Value.flushed7, out_7]
  exact (cut7 t (tile m c t).out r d).trans (out_val (holds m c t) r d)

theorem kernel_7 (q : Fin 4096) (d : Fin 1024) :
    ((dats m 0 c).arrAt 7 cfg0.N : FVec Ideal S4096x1024 .f32) (ix2 q d) = (argsOf m c).out q d := by
  have h := (dats m 0 c).arrAt_emb_eq_flushed 7 Value.disjoint7 (ptOf q) (flush0_7 _) (ix2 (rowOf q) d)
  rw [emb7] at h
  refine h.trans ((flushed7_val m c (ptOf q) (rowOf q) d).trans ?_)
  rw [row_at]

theorem emb8 (q : Fin 4096) (d : Fin 1024) : ((cfg0.win 8).blk (ptOf q)).view.emb (ix2 (rowOf q) d) = ix2 q d := by
  obtain ⟨h0, h1⟩ := (win_out (ptOf q)).2.1
  have hq := at_row q
  refine funext fun a => Fin.ext ?_
  refine (win0_8.rect_emb_val (ptOf q) (ix2 (rowOf q) d) a).trans ?_
  fin_cases a
  · show win0_8.index (ptOf q) 0 * 256 + (rowOf q).val = q.val; omega
  · show win0_8.index (ptOf q) 1 * 1024 + d.val = d.val; omega

theorem cut8 (t : Fin cfg0.N) (X : Vec Ideal S256x1024 .bf16) (r : Fin 256) (d : Fin 1024) :
    (cfg0.win 8).cut (grid0.coords t) X (ix2 r d) = X (ix2 r d) :=
  congrArg X (funext fun a => Fin.ext rfl)

theorem flushed8_val (t : Fin cfg0.N) (r : Fin 256) (d : Fin 1024) :
    ((dats m 0 c).flushed 8 t : Vec Ideal S256x1024 .bf16) (ix2 r d)
      = rowNorm ((argsOf m c).out (row (num t) r)) (argsOf m c).gain d := by
  rw [Value.flushed8, out_8]
  exact (cut8 t (norms (tile m c t).out (tile m c t).g) r d).trans (norm_val (holds m c t) r d)

theorem kernel_8 (q : Fin 4096) (d : Fin 1024) :
    ((dats m 0 c).arrAt 8 cfg0.N : FVec Ideal S4096x1024 .bf16) (ix2 q d) = rowNorm ((argsOf m c).out q) (argsOf m c).gain d := by
  have h := (dats m 0 c).arrAt_emb_eq_flushed 8 Value.disjoint8 (ptOf q) (flush0_8 _) (ix2 (rowOf q) d)
  rw [emb8] at h
  refine h.trans ((flushed8_val m c (ptOf q) (rowOf q) d).trans ?_)
  rw [row_at]

theorem emb9 (p : Fin 4) (q : Fin 4096) (n : Fin 704) : ((cfg0.win 9).blk (ptOf q)).view.emb (ix3 p (rowOf q) n) = ix3 p q n := by
  obtain ⟨h0, h1, h2⟩ := (win_out (ptOf q)).2.2.1
  have hq := at_row q
  refine funext fun a => Fin.ext ?_
  refine (win0_9.rect_emb_val (ptOf q) (ix3 p (rowOf q) n) a).trans ?_
  fin_cases a
  · show win0_9.index (ptOf q) 0 * 4 + p.val = p.val; omega
  · show win0_9.index (ptOf q) 1 * 256 + (rowOf q).val = q.val; omega
  · show win0_9.index (ptOf q) 2 * 704 + n.val = n.val; omega

theorem cut9 (t : Fin cfg0.N) (X : Vec Ideal S4x256x704 .bf16) (p : Fin 4) (r : Fin 256) (n : Fin 704) :
    (cfg0.win 9).cut (grid0.coords t) X (ix3 p r n) = X (ix3 p r n) :=
  congrArg X (funext fun a => Fin.ext rfl)

theorem flushed9_val (t : Fin cfg0.N) (p : Fin 4) (r : Fin 256) (n : Fin 704) :
    ((dats m 0 c).flushed 9 t : Vec Ideal S4x256x704 .bf16) (ix3 p r n) = (argsOf m c).act (sub p n) (row (num t) r) := by
  rw [Value.flushed9, out_9]
  exact (cut9 t (tile m c t).actBlock p r n).trans (act_val (holds m c t) p r n)

theorem kernel_9 (p : Fin 4) (q : Fin 4096) (n : Fin 704) :
    ((dats m 0 c).arrAt 9 cfg0.N : FVec Ideal S4x4096x704 .bf16) (ix3 p q n) = (argsOf m c).act (sub p n) q := by
  have h := (dats m 0 c).arrAt_emb_eq_flushed 9 Value.disjoint9 (ptOf q) (flush0_9 _) (ix3 p (rowOf q) n)
  rw [emb9] at h
  refine h.trans ((flushed9_val m c (ptOf q) p (rowOf q) n).trans ?_)
  rw [row_at]

theorem emb10 (g : Fin 2) (p : Fin 4) (q : Fin 4096) (n : Fin 704) :
    ((cfg0.win 10).blk (ptOf q)).view.emb (ix4 g p (rowOf q) n) = ix4 g p q n := by
  obtain ⟨h0, h1, h2, h3⟩ := (win_out (ptOf q)).2.2.2
  have hq := at_row q
  refine funext fun a => Fin.ext ?_
  refine (win0_10.rect_emb_val (ptOf q) (ix4 g p (rowOf q) n) a).trans ?_
  fin_cases a
  · show win0_10.index (ptOf q) 0 * 2 + g.val = g.val; omega
  · show win0_10.index (ptOf q) 1 * 4 + p.val = p.val; omega
  · show win0_10.index (ptOf q) 2 * 256 + (rowOf q).val = q.val; omega
  · show win0_10.index (ptOf q) 3 * 704 + n.val = n.val; omega

theorem cut10 (t : Fin cfg0.N) (X : Vec Ideal S2x4x256x704 .bf16) (g : Fin 2) (p : Fin 4) (r : Fin 256) (n : Fin 704) :
    (cfg0.win 10).cut (grid0.coords t) X (ix4 g p r n) = X (ix4 g p r n) :=
  congrArg X (funext fun a => Fin.ext rfl)

theorem flushed10_val (t : Fin cfg0.N) (g : Fin 2) (p : Fin 4) (r : Fin 256) (n : Fin 704) :
    ((dats m 0 c).flushed 10 t : Vec Ideal S2x4x256x704 .bf16) (ix4 g p r n) = (argsOf m c).pre (chan g (sub p n)) (row (num t) r) := by
  rw [Value.flushed10, out_10]
  exact (cut10 t (tile m c t).preBlock g p r n).trans (own_val (holds m c t) g p r n)

theorem kernel_10 (g : Fin 2) (p : Fin 4) (q : Fin 4096) (n : Fin 704) :
    ((dats m 0 c).arrAt 10 cfg0.N : FVec Ideal S2x4x4096x704 .bf16) (ix4 g p q n) = (argsOf m c).pre (chan g (sub p n)) q := by
  have h := (dats m 0 c).arrAt_emb_eq_flushed 10 Value.disjoint10 (ptOf q) (flush0_10 _) (ix4 g p (rowOf q) n)
  rw [emb10] at h
  refine h.trans ((flushed10_val m c (ptOf q) g p (rowOf q) n).trans ?_)
  rw [row_at]

end Launch

end Cert.FfnFwd

end
-- ==== Proof.GUp.lean ====
/-
  The gradient of the up projection's weights, chunk by chunk: at place `n` of chunk `p` and place `d` of the row, the sum
  over all tokens of the incoming gradient times the row's entry. The call adds the tokens in four runs of 1024.
-/
module

public import proofs.«01_k».proof.Proof.Sums
public import proofs.«01_k».proof.Proof.Gen.Kernel5Ideal.Value
public import proofs.«01_k».proof.Proof.Gen.Reference5Ideal.Read
public import Idealize.ShloMosaic.Lib.Claim
public import Idealize.ShloMosaic.Lib.Pointwise

@[expose] public section

noncomputable section

namespace Cert.GUp

open Idealize.ShloMosaic Idealize.ShloMosaic.TcCoe
open Cert.FfnBwd (tok seqOf posOf)

/-- The column of place `n` of chunk `p`. -/
def col (p : Fin 8) (n : Fin 704) : Fin 5632 := ⟨p.val * 704 + n.val, by omega⟩

/-- The gradient at place `n` of chunk `p`, and place `d` of the row. -/
def grad (h : FVec Ideal ⟨3, ![2, 2048, 1024]⟩ .f32) (a : FVec Ideal ⟨3, ![2, 2048, 5632]⟩ .f32)
    (p : Fin 8) (n : Fin 704) (d : Fin 1024) : EReal :=
  ∑ q : Fin 4096, a (ix3 (seqOf q) (posOf q) (col p n)) * h (ix3 (seqOf q) (posOf q) d)

section Reference

open Cert.Reference5Ideal Cert.Reference5Ideal.Gen Cert.Reference5Ideal.Read

theorem reference_val (h : FVec Ideal ⟨3, ![2, 2048, 1024]⟩ .f32) (a : FVec Ideal ⟨3, ![2, 2048, 5632]⟩ .f32)
    (p : Fin 8) (n : Fin 704) (d : Fin 1024) :
    val_main_v6 (F := Ideal) h a (ix3 p n d) = grad h a p n d := by
  unfold grad
  rw [← Cert.FfnBwd.sum_seqs]
  simp only [Cert.FfnBwd.seqOf_tok, Cert.FfnBwd.posOf_tok]
  pointwise [val_main_v6, val_main_v5, val_main_v4, val_main_v3, val_main_v2]
  rfl

end Reference

section Kernel

open Cert.Kernel5Ideal Cert.Kernel5Ideal.Gen
open Idealize.ShloMosaic.Pipeline (Dat)

variable (m : (ℓ : Loc nD τ sig) → Buf (Elt Ideal) ℓ) (c : Dev nD)

theorem pay_val (a0 a1 a2 a3 : Vec Ideal S1x1024x704 .bf16) (b0 b1 b2 b3 : Vec Ideal S1024x1024 .bf16) (z : Fin 1) (n : Fin 704) (d : Fin 1024) :
    k0_pay1 (F := Ideal) a0 b0 a1 b1 a2 b2 a3 b3 (ix3 z n d) = (∑ k : Fin 1024, a0 (ix3 0 k n) * b0 (ix2 k d))
      + (∑ k : Fin 1024, a1 (ix3 0 k n) * b1 (ix2 k d)) + (∑ k : Fin 1024, a2 (ix3 0 k n) * b2 (ix2 k d))
      + (∑ k : Fin 1024, a3 (ix3 0 k n) * b3 (ix2 k d)) := by
  pointwise [k0_pay1]

theorem body_val (x0 : Vec Ideal S1x4096x704 .bf16) (x1 : Vec Ideal S4096x1024 .bf16) (z : Fin 1) (n : Fin 704) (d : Fin 1024) :
    out0_2 (F := Ideal) x0 x1 (ix3 z n d) = ∑ q : Fin 4096, x0 (ix3 0 q n) * x1 (ix2 q d) := by
  unfold out0_2
  rw [View.canon_unit_zero Cert.FfnBwd.hz3, pay_val]
  refine Eq.trans ?_ (Cert.FfnBwd.sum_quarters fun q => x0 (ix3 0 q n) * x1 (ix2 q d))
  refine congrArg₂ (· + ·) (congrArg₂ (· + ·) (congrArg₂ (· + ·)
    (Finset.sum_congr rfl fun k _ => congrArg₂ (· * ·) (Cert.FfnBwd.ld_rows_layer x0 0 _ 0 k n) (Cert.FfnBwd.ld_rows x1 0 _ k d))
    (Finset.sum_congr rfl fun k _ => congrArg₂ (· * ·) (Cert.FfnBwd.ld_rows_layer x0 1024 _ 0 k n) (Cert.FfnBwd.ld_rows x1 1024 _ k d)))
    (Finset.sum_congr rfl fun k _ => congrArg₂ (· * ·) (Cert.FfnBwd.ld_rows_layer x0 2048 _ 0 k n) (Cert.FfnBwd.ld_rows x1 2048 _ k d)))
    (Finset.sum_congr rfl fun k _ => congrArg₂ (· * ·) (Cert.FfnBwd.ld_rows_layer x0 3072 _ 0 k n) (Cert.FfnBwd.ld_rows x1 3072 _ k d))

theorem win_facts : ∀ t : Fin grid0.N, (win0_0.index t 0 = t.val ∧ win0_0.index t 1 = 0 ∧ win0_0.index t 2 = 0) ∧
    (∀ a, win0_1.index t a = 0) ∧ (win0_2.index t 0 = t.val ∧ win0_2.index t 1 = 0 ∧ win0_2.index t 2 = 0) := by
  decide +kernel

theorem load_0 (t : Fin cfg0.N) (q : Fin 4096) (n : Fin 704) (p : Fin 8) (hp : p.val = t.val) :
    (iblk m c 0 t : Vec Ideal S1x4096x704 .bf16) (ix3 0 q n) = m (c, Proc.tc.devRef main_arg1) (ix3 (seqOf q) (posOf q) (col p n)) := by
  have e : (iblk m c 0 t : Vec Ideal S1x4096x704 .bf16) (ix3 0 q n) = (V m c main_v2 : FVec Ideal S8x4096x704 .bf16) (ix3 p q n) := by
    obtain ⟨h0, h1, h2⟩ := (win_facts t).1
    refine congrArg (V m c main_v2 : FVec Ideal S8x4096x704 .bf16) (a₁ := (win0_0.rect t).emb (ix3 0 q n)) (funext fun a => Fin.ext ?_)
    rw [win0_0.rect_emb_val]
    fin_cases a
    · show win0_0.index t 0 * 1 + 0 = p.val; omega
    · show win0_0.index t 1 * 4096 + q.val = q.val; omega
    · show win0_0.index t 2 * 704 + n.val = n.val; omega
  rw [e]
  entry_read
  pointwise []
  rfl

theorem load_1 (t : Fin cfg0.N) (q : Fin 4096) (d : Fin 1024) :
    (iblk m c 1 t : Vec Ideal S4096x1024 .bf16) (ix2 q d) = m (c, Proc.tc.devRef main_arg0) (ix3 (seqOf q) (posOf q) d) := by
  have e : (iblk m c 1 t : Vec Ideal S4096x1024 .bf16) (ix2 q d) = (V m c main_v4 : FVec Ideal S4096x1024 .bf16) (ix2 q d) := by
    have hz := (win_facts t).2.1
    refine congrArg (V m c main_v4 : FVec Ideal S4096x1024 .bf16) (a₁ := (win0_1.rect t).emb (ix2 q d)) (funext fun a => Fin.ext ?_)
    rw [win0_1.rect_emb_val]
    fin_cases a
    · have := hz 0; show win0_1.index t 0 * 4096 + q.val = q.val; omega
    · have := hz 1; show win0_1.index t 1 * 1024 + d.val = d.val; omega
  rw [e]
  entry_read
  pointwise []
  rfl

theorem N_eq : cfg0.N = 8 := N_0

/-- What a point writes back. -/
theorem point_val (t : Fin cfg0.N) (p : Fin 8) (hp : p.val = t.val) (n : Fin 704) (d : Fin 1024) :
    out0_2 (F := Ideal) (iblk m c 0 t) (iblk m c 1 t) (ix3 0 n d)
      = grad (m (c, Proc.tc.devRef main_arg0)) (m (c, Proc.tc.devRef main_arg1)) p n d := by
  rw [body_val]
  refine Finset.sum_congr rfl fun q _ => ?_
  rw [load_0 m c t q n p hp, load_1 m c t q d]

/-- The point that owns a chunk. -/
def ptOf (p : Fin 8) : Fin cfg0.N := ⟨p.val, by rw [N_eq]; exact p.isLt⟩

theorem emb_val (p : Fin 8) (n : Fin 704) (d : Fin 1024) :
    ((cfg0.win 2).blk (ptOf p)).view.emb (ix3 (0 : Fin 1) n d) = ix3 p n d := by
  obtain ⟨h0, h1, h2⟩ := (win_facts (ptOf p)).2.2
  refine funext fun a => Fin.ext ?_
  refine (win0_2.rect_emb_val (ptOf p) (ix3 (0 : Fin 1) n d) a).trans ?_
  match a with
  | ⟨0, _⟩ => show win0_2.index (ptOf p) 0 * 1 + 0 = p.val; rw [h0]; show p.val * 1 + 0 = p.val; omega
  | ⟨1, _⟩ => show win0_2.index (ptOf p) 1 * 704 + n.val = n.val; omega
  | ⟨2, _⟩ => show win0_2.index (ptOf p) 2 * 1024 + d.val = d.val; omega

theorem cut_val (t : Fin cfg0.N) (X : Vec Ideal S1x704x1024 .bf16) (n : Fin 704) (d : Fin 1024) :
    (cfg0.win 2).cut (grid0.coords t) X (ix3 (0 : Fin 1) n d) = X (ix3 0 n d) :=
  congrArg X (funext fun a => Fin.ext rfl)

theorem flushed_val (t : Fin cfg0.N) (p : Fin 8) (hp : p.val = t.val) (n : Fin 704) (d : Fin 1024) :
    ((dats m 0 c).flushed 2 t : Vec Ideal S1x704x1024 .bf16) (ix3 (0 : Fin 1) n d)
      = grad (m (c, Proc.tc.devRef main_arg0)) (m (c, Proc.tc.devRef main_arg1)) p n d := by
  rw [Value.flushed2]
  exact (cut_val t (out0_2 (iblk m c 0 t) (iblk m c 1 t)) n d).trans (point_val m c t p hp n d)

theorem kernel_val (p : Fin 8) (n : Fin 704) (d : Fin 1024) :
    ((dats m 0 c).arrAt 2 cfg0.N : FVec Ideal S8x704x1024 .bf16) (ix3 p n d)
      = grad (m (c, Proc.tc.devRef main_arg0)) (m (c, Proc.tc.devRef main_arg1)) p n d := by
  have h := (dats m 0 c).arrAt_emb_eq_flushed 2 Value.disjoint2 (ptOf p) (flush0_2 _) (ix3 (0 : Fin 1) n d)
  rw [emb_val] at h
  exact h.trans (flushed_val m c (ptOf p) p rfl n d)

end Kernel

end Cert.GUp

end
-- ==== Proof.GDown.lean ====
/-
  The gradient of the down projection's weights, chunk by chunk: at place `n` of chunk `p` and place `d` of the row, the sum
  over all tokens of the activation times the incoming gradient. The call adds the tokens in four runs of 1024.
-/
module

public import proofs.«01_k».proof.Proof.Sums
public import proofs.«01_k».proof.Proof.Gen.Kernel6Ideal.Value
public import proofs.«01_k».proof.Proof.Gen.Reference6Ideal.Read
public import Idealize.ShloMosaic.Lib.Claim
public import Idealize.ShloMosaic.Lib.Pointwise

@[expose] public section

noncomputable section

namespace Cert.GDown

open Idealize.ShloMosaic Idealize.ShloMosaic.TcCoe
open Cert.FfnBwd (tok seqOf posOf)

/-- The column of place `n` of chunk `p`. -/
def col (p : Fin 4) (n : Fin 704) : Fin 2816 := ⟨p.val * 704 + n.val, by omega⟩

/-- The gradient at place `n` of chunk `p`, and place `d` of the row. -/
def grad (a : FVec Ideal ⟨3, ![2, 2048, 2816]⟩ .f32) (h : FVec Ideal ⟨3, ![2, 2048, 1024]⟩ .f32)
    (p : Fin 4) (n : Fin 704) (d : Fin 1024) : EReal :=
  ∑ q : Fin 4096, a (ix3 (seqOf q) (posOf q) (col p n)) * h (ix3 (seqOf q) (posOf q) d)

section Reference

open Cert.Reference6Ideal Cert.Reference6Ideal.Gen Cert.Reference6Ideal.Read

theorem reference_val (a : FVec Ideal ⟨3, ![2, 2048, 2816]⟩ .f32) (h : FVec Ideal ⟨3, ![2, 2048, 1024]⟩ .f32)
    (p : Fin 4) (n : Fin 704) (d : Fin 1024) :
    val_main_v5 (F := Ideal) a h (ix3 p n d) = grad a h p n d := by
  unfold grad
  rw [← Cert.FfnBwd.sum_seqs]
  simp only [Cert.FfnBwd.seqOf_tok, Cert.FfnBwd.posOf_tok]
  pointwise [val_main_v5, val_main_v4, val_main_v3, val_main_v2]
  exact Finset.sum_congr rfl fun b _ => Finset.sum_congr rfl fun s _ => mul_comm _ _

end Reference

section Kernel

open Cert.Kernel6Ideal Cert.Kernel6Ideal.Gen
open Idealize.ShloMosaic.Pipeline (Dat)

variable (m : (ℓ : Loc nD τ sig) → Buf (Elt Ideal) ℓ) (c : Dev nD)

theorem pay_val (a0 a1 a2 a3 : Vec Ideal S1x1024x704 .bf16) (b0 b1 b2 b3 : Vec Ideal S1024x1024 .bf16) (z : Fin 1) (n : Fin 704) (d : Fin 1024) :
    k0_pay1 (F := Ideal) a0 b0 a1 b1 a2 b2 a3 b3 (ix3 z n d) = (∑ k : Fin 1024, a0 (ix3 0 k n) * b0 (ix2 k d))
      + (∑ k : Fin 1024, a1 (ix3 0 k n) * b1 (ix2 k d)) + (∑ k : Fin 1024, a2 (ix3 0 k n) * b2 (ix2 k d))
      + (∑ k : Fin 1024, a3 (ix3 0 k n) * b3 (ix2 k d)) := by
  pointwise [k0_pay1]

theorem body_val (x0 : Vec Ideal S1x4096x704 .bf16) (x1 : Vec Ideal S4096x1024 .bf16) (z : Fin 1) (n : Fin 704) (d : Fin 1024) :
    out0_2 (F := Ideal) x0 x1 (ix3 z n d) = ∑ q : Fin 4096, x0 (ix3 0 q n) * x1 (ix2 q d) := by
  unfold out0_2
  rw [View.canon_unit_zero Cert.FfnBwd.hz3, pay_val]
  refine Eq.trans ?_ (Cert.FfnBwd.sum_quarters fun q => x0 (ix3 0 q n) * x1 (ix2 q d))
  refine congrArg₂ (· + ·) (congrArg₂ (· + ·) (congrArg₂ (· + ·)
    (Finset.sum_congr rfl fun k _ => congrArg₂ (· * ·) (Cert.FfnBwd.ld_rows_layer x0 0 _ 0 k n) (Cert.FfnBwd.ld_rows x1 0 _ k d))
    (Finset.sum_congr rfl fun k _ => congrArg₂ (· * ·) (Cert.FfnBwd.ld_rows_layer x0 1024 _ 0 k n) (Cert.FfnBwd.ld_rows x1 1024 _ k d)))
    (Finset.sum_congr rfl fun k _ => congrArg₂ (· * ·) (Cert.FfnBwd.ld_rows_layer x0 2048 _ 0 k n) (Cert.FfnBwd.ld_rows x1 2048 _ k d)))
    (Finset.sum_congr rfl fun k _ => congrArg₂ (· * ·) (Cert.FfnBwd.ld_rows_layer x0 3072 _ 0 k n) (Cert.FfnBwd.ld_rows x1 3072 _ k d))

theorem win_facts : ∀ t : Fin grid0.N, (win0_0.index t 0 = t.val ∧ win0_0.index t 1 = 0 ∧ win0_0.index t 2 = 0) ∧
    (∀ a, win0_1.index t a = 0) ∧ (win0_2.index t 0 = t.val ∧ win0_2.index t 1 = 0 ∧ win0_2.index t 2 = 0) := by
  decide +kernel

theorem load_0 (t : Fin cfg0.N) (q : Fin 4096) (n : Fin 704) (p : Fin 4) (hp : p.val = t.val) :
    (iblk m c 0 t : Vec Ideal S1x4096x704 .bf16) (ix3 0 q n) = m (c, Proc.tc.devRef main_arg0) (ix3 (seqOf q) (posOf q) (col p n)) := by
  have e : (iblk m c 0 t : Vec Ideal S1x4096x704 .bf16) (ix3 0 q n) = (V m c main_v2 : FVec Ideal S4x4096x704 .bf16) (ix3 p q n) := by
    obtain ⟨h0, h1, h2⟩ := (win_facts t).1
    refine congrArg (V m c main_v2 : FVec Ideal S4x4096x704 .bf16) (a₁ := (win0_0.rect t).emb (ix3 0 q n)) (funext fun a => Fin.ext ?_)
    rw [win0_0.rect_emb_val]
    fin_cases a
    · show win0_0.index t 0 * 1 + 0 = p.val; omega
    · show win0_0.index t 1 * 4096 + q.val = q.val; omega
    · show win0_0.index t 2 * 704 + n.val = n.val; omega
  rw [e]
  entry_read
  pointwise []
  rfl

theorem load_1 (t : Fin cfg0.N) (q : Fin 4096) (d : Fin 1024) :
    (iblk m c 1 t : Vec Ideal S4096x1024 .bf16) (ix2 q d) = m (c, Proc.tc.devRef main_arg1) (ix3 (seqOf q) (posOf q) d) := by
  have e : (iblk m c 1 t : Vec Ideal S4096x1024 .bf16) (ix2 q d) = (V m c main_v4 : FVec Ideal S4096x1024 .bf16) (ix2 q d) := by
    have hz := (win_facts t).2.1
    refine congrArg (V m c main_v4 : FVec Ideal S4096x1024 .bf16) (a₁ := (win0_1.rect t).emb (ix2 q d)) (funext fun a => Fin.ext ?_)
    rw [win0_1.rect_emb_val]
    fin_cases a
    · have := hz 0; show win0_1.index t 0 * 4096 + q.val = q.val; omega
    · have := hz 1; show win0_1.index t 1 * 1024 + d.val = d.val; omega
  rw [e]
  entry_read
  pointwise []
  rfl

theorem N_eq : cfg0.N = 4 := N_0

/-- What a point writes back. -/
theorem point_val (t : Fin cfg0.N) (p : Fin 4) (hp : p.val = t.val) (n : Fin 704) (d : Fin 1024) :
    out0_2 (F := Ideal) (iblk m c 0 t) (iblk m c 1 t) (ix3 0 n d)
      = grad (m (c, Proc.tc.devRef main_arg0)) (m (c, Proc.tc.devRef main_arg1)) p n d := by
  rw [body_val]
  refine Finset.sum_congr rfl fun q _ => ?_
  rw [load_0 m c t q n p hp, load_1 m c t q d]

/-- The point that owns a chunk. -/
def ptOf (p : Fin 4) : Fin cfg0.N := ⟨p.val, by rw [N_eq]; exact p.isLt⟩

theorem emb_val (p : Fin 4) (n : Fin 704) (d : Fin 1024) :
    ((cfg0.win 2).blk (ptOf p)).view.emb (ix3 (0 : Fin 1) n d) = ix3 p n d := by
  obtain ⟨h0, h1, h2⟩ := (win_facts (ptOf p)).2.2
  refine funext fun a => Fin.ext ?_
  refine (win0_2.rect_emb_val (ptOf p) (ix3 (0 : Fin 1) n d) a).trans ?_
  match a with
  | ⟨0, _⟩ => show win0_2.index (ptOf p) 0 * 1 + 0 = p.val; rw [h0]; show p.val * 1 + 0 = p.val; omega
  | ⟨1, _⟩ => show win0_2.index (ptOf p) 1 * 704 + n.val = n.val; omega
  | ⟨2, _⟩ => show win0_2.index (ptOf p) 2 * 1024 + d.val = d.val; omega

theorem cut_val (t : Fin cfg0.N) (X : Vec Ideal S1x704x1024 .bf16) (n : Fin 704) (d : Fin 1024) :
    (cfg0.win 2).cut (grid0.coords t) X (ix3 (0 : Fin 1) n d) = X (ix3 0 n d) :=
  congrArg X (funext fun a => Fin.ext rfl)

theorem flushed_val (t : Fin cfg0.N) (p : Fin 4) (hp : p.val = t.val) (n : Fin 704) (d : Fin 1024) :
    ((dats m 0 c).flushed 2 t : Vec Ideal S1x704x1024 .bf16) (ix3 (0 : Fin 1) n d)
      = grad (m (c, Proc.tc.devRef main_arg0)) (m (c, Proc.tc.devRef main_arg1)) p n d := by
  rw [Value.flushed2]
  exact (cut_val t (out0_2 (iblk m c 0 t) (iblk m c 1 t)) n d).trans (point_val m c t p hp n d)

theorem kernel_val (p : Fin 4) (n : Fin 704) (d : Fin 1024) :
    ((dats m 0 c).arrAt 2 cfg0.N : FVec Ideal S4x704x1024 .bf16) (ix3 p n d)
      = grad (m (c, Proc.tc.devRef main_arg0)) (m (c, Proc.tc.devRef main_arg1)) p n d := by
  have h := (dats m 0 c).arrAt_emb_eq_flushed 2 Value.disjoint2 (ptOf p) (flush0_2 _) (ix3 (0 : Fin 1) n d)
  rw [emb_val] at h
  exact h.trans (flushed_val m c (ptOf p) p rfl n d)

end Kernel

end Cert.GDown

end
-- ==== Proof.GOut.lean ====
/-
  The gradient of the output weights: at row `k` and column `d`, the sum over all tokens of the mixed value times the incoming
  gradient. The call takes one sequence of 2048 tokens per point, in two runs of 1024, and keeps the running sum between points.
-/
module

public import proofs.«01_k».proof.Proof.Sums
public import proofs.«01_k».proof.Proof.Gen.Kernel7Ideal.Value
public import proofs.«01_k».proof.Proof.Gen.Reference7Ideal.Read
public import Idealize.ShloMosaic.Lib.Claim
public import Idealize.ShloMosaic.Lib.Pointwise

@[expose] public section

noncomputable section

namespace Cert.GOut

open Idealize.ShloMosaic Idealize.ShloMosaic.TcCoe
open Cert.FfnBwd (tok seqOf posOf)

/-- One sequence's part of the gradient at row `k`, column `d`. -/
def part (a : FVec Ideal ⟨3, ![2, 2048, 1024]⟩ .f32) (ct : FVec Ideal ⟨3, ![2, 2048, 1024]⟩ .f32) (k d : Fin 1024) (b : Fin 2) : EReal :=
  ∑ s : Fin 2048, a (ix3 b s k) * ct (ix3 b s d)

/-- The gradient at row `k`, column `d`. -/
def grad (a : FVec Ideal ⟨3, ![2, 2048, 1024]⟩ .f32) (ct : FVec Ideal ⟨3, ![2, 2048, 1024]⟩ .f32) (k d : Fin 1024) : EReal :=
  ∑ b : Fin 2, part a ct k d b

section Reference

open Cert.Reference7Ideal Cert.Reference7Ideal.Gen Cert.Reference7Ideal.Read

theorem reference_val (a ct : FVec Ideal S2x2048x1024 .f32) (k d : Fin 1024) :
    val_main_v4 (F := Ideal) a ct (ix2 k d) = grad a ct k d := by
  unfold grad part
  pointwise [val_main_v4, val_main_v3, val_main_v2]
  exact Finset.sum_congr rfl fun b _ => Finset.sum_congr rfl fun s _ => mul_comm _ _

end Reference

section Kernel

open Cert.Kernel7Ideal Cert.Kernel7Ideal.Gen
open Idealize.ShloMosaic.Pipeline (Dat)
open Idealize.ShloMosaic.Tactic

section Body

variable {F : FTy → Type} [FloatOps F]

/-- What one point adds. -/
def step (x0 x1 : Vec F S2048x1024 .bf16) : FVec F S1024x1024 .f32 :=
  k0_pay1 (View.ld x0 (Rect.unit (s := S2048x1024) ![0, 0] S1024x1024.size inb_S2048x1024_S1024x1024_0_0))
    (View.ld x1 (Rect.unit (s := S2048x1024) ![0, 0] S1024x1024.size inb_S2048x1024_S1024x1024_0_0))
    (View.ld x0 (Rect.unit (s := S2048x1024) ![1024, 0] S1024x1024.size inb_S2048x1024_S1024x1024_1024_0))
    (View.ld x1 (Rect.unit (s := S2048x1024) ![1024, 0] S1024x1024.size inb_S2048x1024_S1024x1024_1024_0))

theorem kept_first (c : Dev nD) (i : grid0.Coords) (arg3 arg4 arg5 arg6) (h3 h4 h5 h6) (hc0 hc1 hc2) (x0 x1 : Vec F S2048x1024 .bf16) :
    sout0_A_0 (F := F) c i arg3 h3 arg4 h4 arg5 h5 arg6 h6 hc0 hc1 hc2 x0 x1 = step x0 x1 := by
  unfold sout0_A_0
  rw [View.read_writes_eq_canon _ _ _ (scover0_A_0 c i arg3 h3 arg4 h4 arg5 h5 arg6 h6 hc0 hc1 hc2 x0 x1)]
  unfold kernelRun0_A
  dsimp only
  sl_unfold_words
  rw [View.canon_unit_zero Cert.FfnBwd.hz2]
  simp only [View.readAt_eq_ld, h3.read_unread, h4.read_unread]
  unfold k0_pay2
  rw [shapeCast_self]
  rfl

theorem written (c : Dev nD) (i : grid0.Coords) (arg3 arg4 arg5 arg6) (h3 h4 h5 h6) (hc0 hc1 hc2) (x0 x1 : Vec F S2048x1024 .bf16)
    (xs : Vec F S1024x1024 .f32) :
    out0_B_2 (F := F) c i arg3 h3 arg4 h4 arg5 h5 arg6 h6 hc0 hc1 hc2 x0 x1 xs = truncf .bf16 (addf xs (step x0 x1)) bitsLt_bf16_f32 := by
  unfold out0_B_2
  rw [View.read_writes_eq_canon _ _ _ (cover0_B_2 c i arg3 h3 arg4 h4 arg5 h5 arg6 h6 hc0 hc1 hc2 x0 x1 xs)]
  unfold kernelRun0_B
  dsimp only
  sl_unfold_words
  rw [View.canon_unit_zero Cert.FfnBwd.hz2]
  simp only [View.readAt_eq_ld, h3.read_unread, h4.read_unread, h6.read_unread]
  rw [View.readCov_unit_zero _ Cert.FfnBwd.hz2]
  unfold k0_pay4 k0_pay3
  dsimp only
  rw [shapeCast_self, View.ld_unit_zero Cert.FfnBwd.hz2]
  rfl

end Body

variable (m : (ℓ : Loc nD τ sig) → Buf (Elt Ideal) ℓ) (c : Dev nD)

theorem pay_val (a0 b0 a1 b1 : Vec Ideal S1024x1024 .bf16) (k d : Fin 1024) :
    k0_pay1 (F := Ideal) a0 b0 a1 b1 (ix2 k d)
      = (∑ r : Fin 1024, a0 (ix2 r k) * b0 (ix2 r d)) + ∑ r : Fin 1024, a1 (ix2 r k) * b1 (ix2 r d) := by
  pointwise [k0_pay1]

theorem step_val (x0 x1 : Vec Ideal S2048x1024 .bf16) (k d : Fin 1024) :
    step (F := Ideal) x0 x1 (ix2 k d) = ∑ s : Fin 2048, x0 (ix2 s k) * x1 (ix2 s d) := by
  unfold step
  rw [pay_val]
  refine Eq.trans ?_ (Cert.FfnBwd.sum_halves fun s => x0 (ix2 s k) * x1 (ix2 s d))
  exact congrArg₂ (· + ·)
    (Finset.sum_congr rfl fun r _ => congrArg₂ (· * ·) (Cert.FfnBwd.ld_rows x0 0 _ r k) (Cert.FfnBwd.ld_rows x1 0 _ r d))
    (Finset.sum_congr rfl fun r _ => congrArg₂ (· * ·) (Cert.FfnBwd.ld_rows x0 1024 _ r k) (Cert.FfnBwd.ld_rows x1 1024 _ r d))

theorem win_facts : ∀ t : Fin grid0.N, (win0_0.index t 0 = t.val ∧ win0_0.index t 1 = 0) ∧
    (win0_1.index t 0 = t.val ∧ win0_1.index t 1 = 0) ∧ (∀ a, win0_2.index t a = 0) := by
  decide +kernel

theorem load_0 (t : Fin cfg0.N) (s : Fin 2048) (k : Fin 1024) (b : Fin 2) (hb : b.val = t.val) :
    (iblk m c 0 t : Vec Ideal S2048x1024 .bf16) (ix2 s k) = m (c, Proc.tc.devRef main_arg0) (ix3 b s k) := by
  have e : (iblk m c 0 t : Vec Ideal S2048x1024 .bf16) (ix2 s k) = (V m c main_v1 : FVec Ideal S4096x1024 .bf16) (ix2 (tok b s) k) := by
    obtain ⟨h0, h1⟩ := (win_facts t).1
    refine congrArg (V m c main_v1 : FVec Ideal S4096x1024 .bf16) (a₁ := (win0_0.rect t).emb (ix2 s k)) (funext fun a => Fin.ext ?_)
    rw [win0_0.rect_emb_val]
    fin_cases a
    · show win0_0.index t 0 * 2048 + s.val = 2048 * b.val + s.val; omega
    · show win0_0.index t 1 * 1024 + k.val = k.val; omega
  rw [e]
  entry_read
  pointwise []
  exact congrArg₂ (fun b s => m (c, Proc.tc.devRef main_arg0) (ix3 b s k)) (Cert.FfnBwd.seqOf_tok b s) (Cert.FfnBwd.posOf_tok b s)

theorem load_1 (t : Fin cfg0.N) (s : Fin 2048) (k : Fin 1024) (b : Fin 2) (hb : b.val = t.val) :
    (iblk m c 1 t : Vec Ideal S2048x1024 .bf16) (ix2 s k) = m (c, Proc.tc.devRef main_arg1) (ix3 b s k) := by
  have e : (iblk m c 1 t : Vec Ideal S2048x1024 .bf16) (ix2 s k) = (V m c main_v3 : FVec Ideal S4096x1024 .bf16) (ix2 (tok b s) k) := by
    obtain ⟨h0, h1⟩ := (win_facts t).2.1
    refine congrArg (V m c main_v3 : FVec Ideal S4096x1024 .bf16) (a₁ := (win0_1.rect t).emb (ix2 s k)) (funext fun a => Fin.ext ?_)
    rw [win0_1.rect_emb_val]
    fin_cases a
    · show win0_1.index t 0 * 2048 + s.val = 2048 * b.val + s.val; omega
    · show win0_1.index t 1 * 1024 + k.val = k.val; omega
  rw [e]
  entry_read
  pointwise []
  exact congrArg₂ (fun b s => m (c, Proc.tc.devRef main_arg1) (ix3 b s k)) (Cert.FfnBwd.seqOf_tok b s) (Cert.FfnBwd.posOf_tok b s)

theorem N_eq : cfg0.N = 2 := N_0

/-- The first point and the last. -/
def first : Fin cfg0.N := ⟨0, by rw [N_eq]; omega⟩
def last : Fin cfg0.N := ⟨1, by rw [N_eq]; omega⟩

/-- A point's sum over its sequence. -/
theorem point_val (t : Fin cfg0.N) (b : Fin 2) (hb : b.val = t.val) (k d : Fin 1024) :
    step (F := Ideal) (iblk m c 0 t) (iblk m c 1 t) (ix2 k d)
      = part (m (c, Proc.tc.devRef main_arg0)) (m (c, Proc.tc.devRef main_arg1)) k d b := by
  rw [step_val]
  refine Finset.sum_congr rfl fun s _ => ?_
  rw [load_0 m c t s k b hb, load_1 m c t s d b hb]

theorem kept_val (t : Fin cfg0.N) (h : t.val = 0) : (outsAt0 m c t.val t.isLt).2 = step (iblk m c 0 t) (iblk m c 1 t) := by
  rw [outsAt0_A m c t (by omega) (by omega) (by omega), kept_first]

theorem later_val (t : Fin cfg0.N) (h : t.val = 1) : (outsAt0 m c t.val t.isLt).1
    = truncf .bf16 (addf (outsAt0 m c (t.val - 1) (Nat.lt_of_le_of_lt (Nat.sub_le _ _) t.isLt)).2 (step (iblk m c 0 t) (iblk m c 1 t)))
        bitsLt_bf16_f32 := by
  rw [outsAt0_B m c t (by omega) (by omega) (by omega), written]

theorem written_val : (outsAt0 m c last.val last.isLt).1
    = truncf .bf16 (addf (step (iblk m c 0 first) (iblk m c 1 first)) (step (iblk m c 0 last) (iblk m c 1 last))) bitsLt_bf16_f32 := by
  rw [later_val m c last rfl, ← kept_val m c first rfl]
  rfl

theorem cut_val (t : Fin cfg0.N) (X : Vec Ideal S1024x1024 .bf16) (k d : Fin 1024) :
    (cfg0.win 2).cut (grid0.coords t) X (ix2 k d) = X (ix2 k d) :=
  congrArg X (funext fun a => Fin.ext rfl)

theorem flushed_val (k d : Fin 1024) : ((dats m 0 c).flushed 2 last : Vec Ideal S1024x1024 .bf16) (ix2 k d)
    = grad (m (c, Proc.tc.devRef main_arg0)) (m (c, Proc.tc.devRef main_arg1)) k d := by
  rw [Value.flushed2, written_val]
  refine (cut_val last _ k d).trans ?_
  unfold grad
  rw [Fin.sum_univ_two, ← point_val m c first 0 rfl, ← point_val m c last 1 rfl]
  rfl

theorem disjoint : ∀ t t' : Fin cfg0.N, (cfg0.win 2).flush t = true → (cfg0.win 2).flush t' = true → t ≠ t' →
    Disjoint ((cfg0.win 2).blk t).view.set ((cfg0.win 2).blk t').view.set := fun t t' h h' hne =>
  absurd (Fin.ext (by
    have := (flush0_2 t).mp h; have := (flush0_2 t').mp h'; have := t.isLt; have := t'.isLt; have := N_eq; omega)) hne

theorem kernel_val (k d : Fin 1024) : ((dats m 0 c).arrAt 2 cfg0.N : FVec Ideal S1024x1024 .bf16) (ix2 k d)
    = grad (m (c, Proc.tc.devRef main_arg0)) (m (c, Proc.tc.devRef main_arg1)) k d := by
  have h := (dats m 0 c).arrAt_emb_eq_flushed 2 disjoint last ((flush0_2 last).mpr rfl) (ix2 k d)
  have hi : ((cfg0.win 2).blk last).view.emb (ix2 k d) = ix2 k d := by
    have hz := (win_facts last).2.2
    exact funext fun a => Fin.ext (win0_2.rect_emb_val_of_index_zero last a (hz a) (ix2 k d))
  rw [hi] at h
  exact h.trans (flushed_val m c k d)

end Kernel

end Cert.GOut

end
-- ==== Proof.DCat.lean ====
/-
  The gradient of the output projection's argument: both programs hold, at token `q` and place `d`, the product of the
  incoming row with row `d` of the weights.
-/
module

public import proofs.«01_k».proof.Proof.Spec
public import proofs.«01_k».proof.Proof.Gen.Kernel8Ideal.Value
public import proofs.«01_k».proof.Proof.Gen.Reference8Ideal.Read
public import Idealize.ShloMosaic.Lib.Claim
public import Idealize.ShloMosaic.Lib.Pointwise

@[expose] public section

noncomputable section

namespace Cert.DCat

open Idealize.ShloMosaic Idealize.ShloMosaic.TcCoe
open Cert.FfnBwd (seqOf posOf)

/-- The gradient at token `q`, place `d`. -/
def grad (w : FVec Ideal ⟨2, ![1024, 1024]⟩ .f32) (ct : FVec Ideal ⟨3, ![2, 2048, 1024]⟩ .f32) (q : Fin 4096) (d : Fin 1024) : EReal :=
  ∑ k : Fin 1024, ct (ix3 (seqOf q) (posOf q) k) * w (ix2 d k)

section Reference

open Cert.Reference8Ideal Cert.Reference8Ideal.Gen Cert.Reference8Ideal.Read

theorem reference_val (w : FVec Ideal S1024x1024 .f32) (ct : FVec Ideal S2x2048x1024 .f32) (q : Fin 4096) (d : Fin 1024) :
    val_main_v4 (F := Ideal) w ct (ix2 q d) = grad w ct q d := by
  pointwise [val_main_v4, val_main_v3, val_main_v2]
  rfl

end Reference

section Kernel

open Cert.Kernel8Ideal Cert.Kernel8Ideal.Gen
open Idealize.ShloMosaic.Pipeline (Dat)

variable (m : (ℓ : Loc nD τ sig) → Buf (Elt Ideal) ℓ) (c : Dev nD)

theorem hz2 : (![0, 0] : Fin 2 → ℕ) = fun _ => 0 := by decide

theorem body_val (x0 : Vec Ideal S512x1024 .bf16) (x1 : Vec Ideal S1024x1024 .bf16) (r : Fin 512) (d : Fin 1024) :
    out0_2 (F := Ideal) x0 x1 (ix2 r d) = ∑ k : Fin 1024, x0 (ix2 r k) * x1 (ix2 d k) := by
  unfold out0_2
  rw [View.canon_unit_zero hz2, View.ld_unit_zero hz2, View.ld_unit_zero hz2]
  pointwise [k0_pay1]

theorem win_facts : ∀ t : Fin grid0.N, (win0_0.index t 0 = t.val ∧ win0_0.index t 1 = 0) ∧ (∀ a, win0_1.index t a = 0) ∧
    (win0_2.index t 0 = t.val ∧ win0_2.index t 1 = 0) := by
  decide +kernel

theorem load_0 (t : Fin cfg0.N) (r : Fin 512) (k : Fin 1024) (q : Fin 4096) (hq : q.val = 512 * t.val + r.val) :
    (iblk m c 0 t : Vec Ideal S512x1024 .bf16) (ix2 r k) = m (c, Proc.tc.devRef main_arg1) (ix3 (seqOf q) (posOf q) k) := by
  have e : (iblk m c 0 t : Vec Ideal S512x1024 .bf16) (ix2 r k) = (V m c main_v1 : FVec Ideal S4096x1024 .bf16) (ix2 q k) := by
    obtain ⟨h0, h1⟩ := (win_facts t).1
    refine congrArg (V m c main_v1 : FVec Ideal S4096x1024 .bf16) (a₁ := (win0_0.rect t).emb (ix2 r k)) (funext fun a => Fin.ext ?_)
    rw [win0_0.rect_emb_val]
    fin_cases a
    · show win0_0.index t 0 * 512 + r.val = q.val; omega
    · show win0_0.index t 1 * 1024 + k.val = k.val; omega
  rw [e]
  entry_read
  pointwise []
  rfl

theorem load_1 (t : Fin cfg0.N) (d k : Fin 1024) :
    (iblk m c 1 t : Vec Ideal S1024x1024 .bf16) (ix2 d k) = m (c, Proc.tc.devRef main_arg0) (ix2 d k) := by
  have e : (iblk m c 1 t : Vec Ideal S1024x1024 .bf16) (ix2 d k) = (V m c main_v2 : FVec Ideal S1024x1024 .bf16) (ix2 d k) := by
    have hz := (win_facts t).2.1
    refine congrArg (V m c main_v2 : FVec Ideal S1024x1024 .bf16) (a₁ := (win0_1.rect t).emb (ix2 d k)) (funext fun a => Fin.ext ?_)
    rw [win0_1.rect_emb_val]
    fin_cases a
    · have := hz 0; show win0_1.index t 0 * 1024 + d.val = d.val; omega
    · have := hz 1; show win0_1.index t 1 * 1024 + k.val = k.val; omega
  rw [e]
  entry_read
  pointwise []

theorem N_eq : cfg0.N = 8 := N_0

/-- The point that owns a row. -/
def ptOf (q : Fin 4096) : Fin cfg0.N := ⟨q.val / 512, by rw [N_eq]; omega⟩

theorem kernel_val (q : Fin 4096) (d : Fin 1024) :
    ((dats m 0 c).arrAt 2 cfg0.N : FVec Ideal S4096x1024 .bf16) (ix2 q d)
      = grad (m (c, Proc.tc.devRef main_arg0)) (m (c, Proc.tc.devRef main_arg1)) q d := by
  have h := (dats m 0 c).arrAt_emb_eq_flushed 2 Value.disjoint2 (ptOf q) (flush0_2 _) (ix2 (⟨q.val % 512, by omega⟩ : Fin 512) d)
  have hi : ((cfg0.win 2).blk (ptOf q)).view.emb (ix2 (⟨q.val % 512, by omega⟩ : Fin 512) d) = ix2 q d := by
    obtain ⟨h0, h1⟩ := (win_facts (ptOf q)).2.2
    refine funext fun a => Fin.ext ?_
    refine (win0_2.rect_emb_val (ptOf q) (ix2 (⟨q.val % 512, by omega⟩ : Fin 512) d) a).trans ?_
    fin_cases a
    · show win0_2.index (ptOf q) 0 * 512 + q.val % 512 = q.val; rw [h0]; show q.val / 512 * 512 + q.val % 512 = q.val; omega
    · show win0_2.index (ptOf q) 1 * 1024 + d.val = d.val; omega
  rw [hi, Value.flushed2] at h
  refine h.trans ((body_val (iblk m c 0 (ptOf q)) (iblk m c 1 (ptOf q)) ⟨q.val % 512, by omega⟩ d).trans ?_)
  refine Finset.sum_congr rfl fun k _ => congrArg₂ (· * ·) (load_0 m c _ _ k q ?_) (load_1 m c _ d k)
  show q.val = 512 * (q.val / 512) + q.val % 512
  omega

end Kernel

end Cert.DCat

end
-- ==== Proof.MixOut.lean ====
/-
  The product with the output weights, added to the residual stream, and the norm of the sum: two results per token and place.
-/
module

public import proofs.«01_k».proof.Proof.RmsFwd
public import proofs.«01_k».proof.Proof.Gen.Kernel9Ideal.Value
public import proofs.«01_k».proof.Proof.Gen.Reference9Ideal.Read
public import Idealize.ShloMosaic.Lib.Claim
public import Idealize.ShloMosaic.Lib.Pointwise

@[expose] public section

noncomputable section

namespace Cert.MixOut

open Idealize.ShloMosaic Idealize.ShloMosaic.TcCoe
open Cert.FfnBwd (tok seqOf posOf)
open Cert.RmsFwd (rowNorm)

/-- The sum of the product and the residual at token `q`, place `d`. -/
def mid (a : FVec Ideal ⟨3, ![2, 2048, 1024]⟩ .f32) (w : FVec Ideal ⟨2, ![1024, 1024]⟩ .f32) (x : FVec Ideal ⟨3, ![2, 2048, 1024]⟩ .f32)
    (q : Fin 4096) (d : Fin 1024) : EReal :=
  (∑ k : Fin 1024, a (ix3 (seqOf q) (posOf q) k) * w (ix2 k d)) + x (ix3 (seqOf q) (posOf q) d)

section Reference

open Cert.Reference9Ideal Cert.Reference9Ideal.Gen Cert.Reference9Ideal.Read

variable (a : FVec Ideal S2x2048x1024 .f32) (w : FVec Ideal S1024x1024 .f32) (x : FVec Ideal S2x2048x1024 .f32) (g : FVec Ideal S1024 .f32)

theorem v1_val (b : Fin 2) (s : Fin 2048) (d : Fin 1024) : val_main_v1 (F := Ideal) a w x (ix3 b s d)
    = (∑ k : Fin 1024, a (ix3 b s k) * w (ix2 k d)) + x (ix3 b s d) := by
  rw [add_comm]
  pointwise [val_main_v1, val_main_v0]

theorem reference_mid (q : Fin 4096) (d : Fin 1024) : val_main_v2 (F := Ideal) a w x (ix2 q d) = mid a w x q d := by
  refine Eq.trans ?_ (v1_val a w x (seqOf q) (posOf q) d)
  unfold val_main_v2
  generalize val_main_v1 (F := Ideal) a w x = y
  pointwise []
  rfl

theorem reference_norm (q : Fin 4096) (d : Fin 1024) : val_main_v17 (F := Ideal) a w x g (ix2 q d) = rowNorm (mid a w x q) g d := by
  have e : ∀ k, mid a w x q k = val_main_v1 (F := Ideal) a w x (ix3 (seqOf q) (posOf q) k) := fun k => (v1_val a w x (seqOf q) (posOf q) k).symm
  rw [show mid a w x q = fun k => val_main_v1 (F := Ideal) a w x (ix3 (seqOf q) (posOf q) k) from funext e]
  simp only [val_main_v17, val_main_v16, val_main_v15, val_main_v14, val_main_v13, val_main_v12, val_main_v11, val_main_v10, val_main_v9,
    val_main_v8, val_main_cst_1, val_main_v7, val_main_v6, val_main_cst_0, val_main_v5, val_main_v4, val_main_cst, val_main_v3]
  generalize val_main_v1 (F := Ideal) a w x = y
  pointwise []
  rfl

end Reference

section Kernel

open Cert.Kernel9Ideal Cert.Kernel9Ideal.Gen
open Idealize.ShloMosaic.Pipeline (Dat)

variable (m : (ℓ : Loc nD τ sig) → Buf (Elt Ideal) ℓ) (c : Dev nD)

theorem pay1_val (x0 : Vec Ideal S512x1024 .bf16) (x1 : Vec Ideal S1024x1024 .bf16) (x2 : Vec Ideal S512x1024 .f32) (r : Fin 512) (d : Fin 1024) :
    k0_pay1 (F := Ideal) x0 x1 x2 (ix2 r d) = (∑ k : Fin 1024, x0 (ix2 r k) * x1 (ix2 k d)) + x2 (ix2 r d) := by
  pointwise [k0_pay1]

theorem pay2_val (x0 : Vec Ideal S512x1024 .bf16) (x1 : Vec Ideal S1024x1024 .bf16) (x2 : Vec Ideal S512x1024 .f32) (x3 : Vec Ideal S1x1024 .f32)
    (g : FVec Ideal S1024 .f32) (hg : ∀ d : Fin 1024, x3 (ix2 0 d) = g (ix1 d)) (r : Fin 512) (d : Fin 1024) :
    k0_pay2 (F := Ideal) x0 x1 x2 x3 (ix2 r d) = rowNorm (fun k => k0_pay1 (F := Ideal) x0 x1 x2 (ix2 r k)) g d := by
  unfold rowNorm k0_pay2
  rw [← hg]
  generalize k0_pay1 (F := Ideal) x0 x1 x2 = y
  pointwise []

theorem win_facts : ∀ t : Fin grid0.N, (win0_0.index t 0 = t.val ∧ win0_0.index t 1 = 0) ∧ (∀ a, win0_1.index t a = 0) ∧
    (win0_2.index t 0 = t.val ∧ win0_2.index t 1 = 0) ∧ (∀ a, win0_3.index t a = 0) ∧
    (win0_4.index t 0 = t.val ∧ win0_4.index t 1 = 0) ∧ (win0_5.index t 0 = t.val ∧ win0_5.index t 1 = 0) := by
  decide +kernel

theorem load_0 (t : Fin cfg0.N) (r : Fin 512) (k : Fin 1024) (q : Fin 4096) (hq : q.val = 512 * t.val + r.val) :
    (iblk m c 0 t : Vec Ideal S512x1024 .bf16) (ix2 r k) = m (c, Proc.tc.devRef main_arg0) (ix3 (seqOf q) (posOf q) k) := by
  have e : (iblk m c 0 t : Vec Ideal S512x1024 .bf16) (ix2 r k) = (V m c main_v1 : FVec Ideal S4096x1024 .bf16) (ix2 q k) := by
    obtain ⟨h0, h1⟩ := (win_facts t).1
    refine congrArg (V m c main_v1 : FVec Ideal S4096x1024 .bf16) (a₁ := (win0_0.rect t).emb (ix2 r k)) (funext fun a => Fin.ext ?_)
    rw [win0_0.rect_emb_val]
    fin_cases a
    · show win0_0.index t 0 * 512 + r.val = q.val; omega
    · show win0_0.index t 1 * 1024 + k.val = k.val; omega
  rw [e]
  entry_read
  pointwise []
  rfl

theorem load_2 (t : Fin cfg0.N) (r : Fin 512) (k : Fin 1024) (q : Fin 4096) (hq : q.val = 512 * t.val + r.val) :
    (iblk m c 2 t : Vec Ideal S512x1024 .f32) (ix2 r k) = m (c, Proc.tc.devRef main_arg2) (ix3 (seqOf q) (posOf q) k) := by
  have e : (iblk m c 2 t : Vec Ideal S512x1024 .f32) (ix2 r k) = (V m c main_v3 : FVec Ideal S4096x1024 .f32) (ix2 q k) := by
    obtain ⟨h0, h1⟩ := (win_facts t).2.2.1
    refine congrArg (V m c main_v3 : FVec Ideal S4096x1024 .f32) (a₁ := (win0_2.rect t).emb (ix2 r k)) (funext fun a => Fin.ext ?_)
    rw [win0_2.rect_emb_val]
    fin_cases a
    · show win0_2.index t 0 * 512 + r.val = q.val; omega
    · show win0_2.index t 1 * 1024 + k.val = k.val; omega
  rw [e]
  entry_read
  pointwise []
  rfl

theorem load_1 (t : Fin cfg0.N) (k d : Fin 1024) :
    (iblk m c 1 t : Vec Ideal S1024x1024 .bf16) (ix2 k d) = m (c, Proc.tc.devRef main_arg1) (ix2 k d) := by
  have e : (iblk m c 1 t : Vec Ideal S1024x1024 .bf16) (ix2 k d) = (V m c main_v2 : FVec Ideal S1024x1024 .bf16) (ix2 k d) := by
    have hz := (win_facts t).2.1
    refine congrArg (V m c main_v2 : FVec Ideal S1024x1024 .bf16) (a₁ := (win0_1.rect t).emb (ix2 k d)) (funext fun a => Fin.ext ?_)
    rw [win0_1.rect_emb_val]
    fin_cases a
    · have := hz 0; show win0_1.index t 0 * 1024 + k.val = k.val; omega
    · have := hz 1; show win0_1.index t 1 * 1024 + d.val = d.val; omega
  rw [e]
  entry_read
  pointwise []

theorem load_3 (t : Fin cfg0.N) (d : Fin 1024) :
    (iblk m c 3 t : Vec Ideal S1x1024 .f32) (ix2 0 d) = m (c, Proc.tc.devRef main_arg3) (ix1 d) := by
  have e : (iblk m c 3 t : Vec Ideal S1x1024 .f32) (ix2 0 d) = (V m c main_v4 : FVec Ideal S1x1024 .f32) (ix2 0 d) := by
    have hz := (win_facts t).2.2.2.1
    refine congrArg (V m c main_v4 : FVec Ideal S1x1024 .f32) (a₁ := (win0_3.rect t).emb (ix2 0 d)) (funext fun a => Fin.ext ?_)
    rw [win0_3.rect_emb_val]
    fin_cases a
    · have := hz 0; show win0_3.index t 0 * 1 + 0 = 0; omega
    · have := hz 1; show win0_3.index t 1 * 1024 + d.val = d.val; omega
  rw [e]
  entry_read
  pointwise []

/-- The sum over the launched arrays. -/
abbrev midOf (q : Fin 4096) (d : Fin 1024) : EReal :=
  mid (m (c, Proc.tc.devRef main_arg0)) (m (c, Proc.tc.devRef main_arg1)) (m (c, Proc.tc.devRef main_arg2)) q d

theorem pay1_point (t : Fin cfg0.N) (r : Fin 512) (q : Fin 4096) (hq : q.val = 512 * t.val + r.val) (d : Fin 1024) :
    k0_pay1 (F := Ideal) (iblk m c 0 t) (iblk m c 1 t) (iblk m c 2 t) (ix2 r d) = midOf m c q d := by
  rw [pay1_val]
  refine congrArg₂ (· + ·) (Finset.sum_congr rfl fun k _ => ?_) (load_2 m c t r d q hq)
  rw [load_0 m c t r k q hq, load_1 m c t k d]

theorem out4_val (t : Fin cfg0.N) (r : Fin 512) (q : Fin 4096) (hq : q.val = 512 * t.val + r.val) (d : Fin 1024) :
    out0_4 (F := Ideal) (iblk m c 0 t) (iblk m c 1 t) (iblk m c 2 t) (iblk m c 3 t) (ix2 r d) = midOf m c q d := by
  unfold out0_4
  rw [View.canon_unit_zero Cert.FfnBwd.hz2, View.ld_unit_zero Cert.FfnBwd.hz2, View.ld_unit_zero Cert.FfnBwd.hz2, View.ld_unit_zero Cert.FfnBwd.hz2]
  exact pay1_point m c t r q hq d

theorem out5_val (t : Fin cfg0.N) (r : Fin 512) (q : Fin 4096) (hq : q.val = 512 * t.val + r.val) (d : Fin 1024) :
    out0_5 (F := Ideal) (iblk m c 0 t) (iblk m c 1 t) (iblk m c 2 t) (iblk m c 3 t) (ix2 r d)
      = rowNorm (midOf m c q) (m (c, Proc.tc.devRef main_arg3)) d := by
  unfold out0_5
  rw [View.canon_unit_zero Cert.FfnBwd.hz2, View.ld_unit_zero Cert.FfnBwd.hz2, View.ld_unit_zero Cert.FfnBwd.hz2, View.ld_unit_zero Cert.FfnBwd.hz2,
    View.ld_unit_zero Cert.FfnBwd.hz2]
  refine (pay2_val _ _ _ _ (m (c, Proc.tc.devRef main_arg3)) (load_3 m c t) r d).trans ?_
  exact congrArg (fun x => rowNorm x (m (c, Proc.tc.devRef main_arg3)) d) (funext fun k => pay1_point m c t r q hq k)

theorem N_eq : cfg0.N = 8 := N_0

/-- The point that owns a token. -/
def ptOf (q : Fin 4096) : Fin cfg0.N := ⟨q.val / 512, by rw [N_eq]; omega⟩

/-- A token's row in its point's block. -/
def rowOf (q : Fin 4096) : Fin 512 := ⟨q.val % 512, by omega⟩

theorem at_row (q : Fin 4096) : q.val = 512 * (ptOf q).val + (rowOf q).val := by
  show q.val = 512 * (q.val / 512) + q.val % 512; omega

theorem emb4 (q : Fin 4096) (d : Fin 1024) : ((cfg0.win 4).blk (ptOf q)).view.emb (ix2 (rowOf q) d) = ix2 q d := by
  obtain ⟨h0, h1⟩ := (win_facts (ptOf q)).2.2.2.2.1
  have hq := at_row q
  refine funext fun a => Fin.ext ?_
  refine (win0_4.rect_emb_val (ptOf q) (ix2 (rowOf q) d) a).trans ?_
  fin_cases a
  · show win0_4.index (ptOf q) 0 * 512 + (rowOf q).val = q.val; omega
  · show win0_4.index (ptOf q) 1 * 1024 + d.val = d.val; omega

theorem cut4_val (t : Fin cfg0.N) (X : Vec Ideal S512x1024 .f32) (r : Fin 512) (d : Fin 1024) :
    (cfg0.win 4).cut (grid0.coords t) X (ix2 r d) = X (ix2 r d) :=
  congrArg X (funext fun a => Fin.ext rfl)

theorem flushed4_val (t : Fin cfg0.N) (r : Fin 512) (q : Fin 4096) (hq : q.val = 512 * t.val + r.val) (d : Fin 1024) :
    ((dats m 0 c).flushed 4 t : Vec Ideal S512x1024 .f32) (ix2 r d) = midOf m c q d := by
  rw [Value.flushed4]
  exact (cut4_val t (out0_4 (iblk m c 0 t) (iblk m c 1 t) (iblk m c 2 t) (iblk m c 3 t)) r d).trans (out4_val m c t r q hq d)

theorem kernel_4 (q : Fin 4096) (d : Fin 1024) :
    ((dats m 0 c).arrAt 4 cfg0.N : FVec Ideal S4096x1024 .f32) (ix2 q d) = midOf m c q d := by
  have h := (dats m 0 c).arrAt_emb_eq_flushed 4 Value.disjoint4 (ptOf q) (flush0_4 _) (ix2 (rowOf q) d)
  rw [emb4] at h
  exact h.trans (flushed4_val m c (ptOf q) (rowOf q) q (at_row q) d)

theorem emb5 (q : Fin 4096) (d : Fin 1024) : ((cfg0.win 5).blk (ptOf q)).view.emb (ix2 (rowOf q) d) = ix2 q d := by
  obtain ⟨h0, h1⟩ := (win_facts (ptOf q)).2.2.2.2.2
  have hq := at_row q
  refine funext fun a => Fin.ext ?_
  refine (win0_5.rect_emb_val (ptOf q) (ix2 (rowOf q) d) a).trans ?_
  fin_cases a
  · show win0_5.index (ptOf q) 0 * 512 + (rowOf q).val = q.val; omega
  · show win0_5.index (ptOf q) 1 * 1024 + d.val = d.val; omega

theorem cut5_val (t : Fin cfg0.N) (X : Vec Ideal S512x1024 .bf16) (r : Fin 512) (d : Fin 1024) :
    (cfg0.win 5).cut (grid0.coords t) X (ix2 r d) = X (ix2 r d) :=
  congrArg X (funext fun a => Fin.ext rfl)

theorem flushed5_val (t : Fin cfg0.N) (r : Fin 512) (q : Fin 4096) (hq : q.val = 512 * t.val + r.val) (d : Fin 1024) :
    ((dats m 0 c).flushed 5 t : Vec Ideal S512x1024 .bf16) (ix2 r d) = rowNorm (midOf m c q) (m (c, Proc.tc.devRef main_arg3)) d := by
  rw [Value.flushed5]
  exact (cut5_val t (out0_5 (iblk m c 0 t) (iblk m c 1 t) (iblk m c 2 t) (iblk m c 3 t)) r d).trans (out5_val m c t r q hq d)

theorem kernel_5 (q : Fin 4096) (d : Fin 1024) :
    ((dats m 0 c).arrAt 5 cfg0.N : FVec Ideal S4096x1024 .bf16) (ix2 q d) = rowNorm (midOf m c q) (m (c, Proc.tc.devRef main_arg3)) d := by
  have h := (dats m 0 c).arrAt_emb_eq_flushed 5 Value.disjoint5 (ptOf q) (flush0_5 _) (ix2 (rowOf q) d)
  rw [emb5] at h
  exact h.trans (flushed5_val m c (ptOf q) (rowOf q) q (at_row q) d)

end Kernel

end Cert.MixOut

end
-- ==== Proof.Proj.lean ====
/-
  The input projection: each token's row times the weights. The call forms tiles of 2048 tokens by 768 columns.
-/
module

public import proofs.«01_k».proof.Proof.Sums
public import proofs.«01_k».proof.Proof.Gen.Kernel10Ideal.Value
public import proofs.«01_k».proof.Proof.Gen.Reference10Ideal.Read
public import Idealize.ShloMosaic.Lib.Claim
public import Idealize.ShloMosaic.Lib.Pointwise

@[expose] public section

noncomputable section

namespace Cert.Proj

open Idealize.ShloMosaic Idealize.ShloMosaic.TcCoe
open Cert.FfnBwd (tok seqOf posOf)

/-- The product at token `q`, column `j`. -/
def prod (h : FVec Ideal ⟨3, ![2, 2048, 1024]⟩ .f32) (w : FVec Ideal ⟨2, ![1024, 3072]⟩ .f32) (q : Fin 4096) (j : Fin 3072) : EReal :=
  ∑ k : Fin 1024, h (ix3 (seqOf q) (posOf q) k) * w (ix2 k j)

section Reference

open Cert.Reference10Ideal Cert.Reference10Ideal.Gen Cert.Reference10Ideal.Read

theorem reference_val (h : FVec Ideal S2x2048x1024 .f32) (w : FVec Ideal S1024x3072 .f32) (q : Fin 4096) (j : Fin 3072) :
    val_main_v1 (F := Ideal) h w (ix2 q j) = prod h w q j := by
  pointwise [val_main_v1, val_main_v0]
  rfl

end Reference

section Kernel

open Cert.Kernel10Ideal Cert.Kernel10Ideal.Gen
open Idealize.ShloMosaic.Pipeline (Dat)

variable (m : (ℓ : Loc nD τ sig) → Buf (Elt Ideal) ℓ) (c : Dev nD)

theorem body_val (x0 : Vec Ideal S2048x1024 .bf16) (x1 : Vec Ideal S1024x768 .bf16) (r : Fin 2048) (n : Fin 768) :
    out0_2 (F := Ideal) x0 x1 (ix2 r n) = ∑ k : Fin 1024, x0 (ix2 r k) * x1 (ix2 k n) := by
  unfold out0_2
  rw [View.canon_unit_zero Cert.FfnBwd.hz2, View.ld_unit_zero Cert.FfnBwd.hz2, View.ld_unit_zero Cert.FfnBwd.hz2]
  pointwise [k0_pay1]

theorem win_facts : ∀ t : Fin grid0.N, (win0_0.index t 0 = t.val / 4 ∧ win0_0.index t 1 = 0) ∧
    (win0_1.index t 0 = 0 ∧ win0_1.index t 1 = t.val % 4) ∧ (win0_2.index t 0 = t.val / 4 ∧ win0_2.index t 1 = t.val % 4) := by
  decide +kernel

theorem load_0 (t : Fin cfg0.N) (r : Fin 2048) (k : Fin 1024) (q : Fin 4096) (hq : q.val = 2048 * (t.val / 4) + r.val) :
    (iblk m c 0 t : Vec Ideal S2048x1024 .bf16) (ix2 r k) = m (c, Proc.tc.devRef main_arg0) (ix3 (seqOf q) (posOf q) k) := by
  have e : (iblk m c 0 t : Vec Ideal S2048x1024 .bf16) (ix2 r k) = (V m c main_v1 : FVec Ideal S4096x1024 .bf16) (ix2 q k) := by
    obtain ⟨h0, h1⟩ := (win_facts t).1
    refine congrArg (V m c main_v1 : FVec Ideal S4096x1024 .bf16) (a₁ := (win0_0.rect t).emb (ix2 r k)) (funext fun a => Fin.ext ?_)
    rw [win0_0.rect_emb_val]
    fin_cases a
    · show win0_0.index t 0 * 2048 + r.val = q.val; omega
    · show win0_0.index t 1 * 1024 + k.val = k.val; omega
  rw [e]
  entry_read
  pointwise []
  rfl

theorem load_1 (t : Fin cfg0.N) (k : Fin 1024) (n : Fin 768) (j : Fin 3072) (hj : j.val = 768 * (t.val % 4) + n.val) :
    (iblk m c 1 t : Vec Ideal S1024x768 .bf16) (ix2 k n) = m (c, Proc.tc.devRef main_arg1) (ix2 k j) := by
  have e : (iblk m c 1 t : Vec Ideal S1024x768 .bf16) (ix2 k n) = (V m c main_v2 : FVec Ideal S1024x3072 .bf16) (ix2 k j) := by
    obtain ⟨h0, h1⟩ := (win_facts t).2.1
    refine congrArg (V m c main_v2 : FVec Ideal S1024x3072 .bf16) (a₁ := (win0_1.rect t).emb (ix2 k n)) (funext fun a => Fin.ext ?_)
    rw [win0_1.rect_emb_val]
    fin_cases a
    · show win0_1.index t 0 * 1024 + k.val = k.val; omega
    · show win0_1.index t 1 * 768 + n.val = j.val; omega
  rw [e]
  entry_read
  pointwise []

theorem N_eq : cfg0.N = 8 := N_0

/-- The point that owns a token's column. -/
def ptOf (q : Fin 4096) (j : Fin 3072) : Fin cfg0.N := ⟨q.val / 2048 * 4 + j.val / 768, by rw [N_eq]; omega⟩

theorem ptOf_div (q : Fin 4096) (j : Fin 3072) : (ptOf q j).val / 4 = q.val / 2048 := by
  show (q.val / 2048 * 4 + j.val / 768) / 4 = q.val / 2048; omega

theorem ptOf_mod (q : Fin 4096) (j : Fin 3072) : (ptOf q j).val % 4 = j.val / 768 := by
  show (q.val / 2048 * 4 + j.val / 768) % 4 = j.val / 768; omega

theorem kernel_val (q : Fin 4096) (j : Fin 3072) :
    ((dats m 0 c).arrAt 2 cfg0.N : FVec Ideal S4096x3072 .f32) (ix2 q j)
      = prod (m (c, Proc.tc.devRef main_arg0)) (m (c, Proc.tc.devRef main_arg1)) q j := by
  have h := (dats m 0 c).arrAt_emb_eq_flushed 2 Value.disjoint2 (ptOf q j) (flush0_2 _)
    (ix2 (⟨q.val % 2048, by omega⟩ : Fin 2048) (⟨j.val % 768, by omega⟩ : Fin 768))
  have hi : ((cfg0.win 2).blk (ptOf q j)).view.emb (ix2 (⟨q.val % 2048, by omega⟩ : Fin 2048) (⟨j.val % 768, by omega⟩ : Fin 768)) = ix2 q j := by
    obtain ⟨h0, h1⟩ := (win_facts (ptOf q j)).2.2
    refine funext fun a => Fin.ext ?_
    refine (win0_2.rect_emb_val (ptOf q j) (ix2 (⟨q.val % 2048, by omega⟩ : Fin 2048) (⟨j.val % 768, by omega⟩ : Fin 768)) a).trans ?_
    fin_cases a
    · show win0_2.index (ptOf q j) 0 * 2048 + q.val % 2048 = q.val; rw [h0, ptOf_div]; omega
    · show win0_2.index (ptOf q j) 1 * 768 + j.val % 768 = j.val; rw [h1, ptOf_mod]; omega
  rw [hi, Value.flushed2] at h
  refine h.trans ((body_val (iblk m c 0 (ptOf q j)) (iblk m c 1 (ptOf q j)) ⟨q.val % 2048, by omega⟩ ⟨j.val % 768, by omega⟩).trans ?_)
  refine Finset.sum_congr rfl fun k _ => ?_
  rw [load_0 m c _ _ k q (by rw [ptOf_div]; show q.val = 2048 * (q.val / 2048) + q.val % 2048; omega),
    load_1 m c _ k _ j (by rw [ptOf_mod]; show j.val = 768 * (j.val / 768) + j.val % 768; omega)]

end Kernel

end Cert.Proj

end
-- ==== Proof.Finite.lean ====
/-
  The precondition read as what it says: arguments whose elements are all below infinity in absolute value are real arrays.
-/
module

public import proofs.«01_k».proof.Pre_finite
public import proofs.«01_k».proof.Proof.Args
public import Idealize.ShloMosaic.Lib.Pointwise

@[expose] public section

noncomputable section

namespace Cert.FfnBwd

open Idealize.ShloMosaic

theorem preFacts : Cert.Pre_finite.Facts where
  bcast_S_S2x2048x1024 := by decide
  bcast_S_S1024 := by decide
  bcast_S_S1024x5632 := by decide
  bcast_S_S3x5632 := by decide
  bcast_S_S2816x1024 := by decide

theorem inf_f32 : Ideal.ofBits .f32 0x7F800000#32 = ⊤ := by
  simp [Ideal.ofBits, Ideal.ieee]

/-- An extended real below infinity in absolute value is a real. -/
theorem real_of_abs_lt (v : EReal) (h : Ideal.cmp .olt (max v (-v)) (Ideal.ofBits .f32 0x7F800000#32) = 1#1) :
    v = ((v.toReal : ℝ) : EReal) := by
  rw [inf_f32] at h
  have hlt : max v (-v) < ⊤ := by
    by_contra hn
    simp [Ideal.cmp, hn] at h
  induction v using EReal.rec with
  | bot => simp at hlt
  | coe r => rfl
  | top => simp at hlt

/-- One argument's mask says that its elements are reals. -/
theorem real_of_mask {S : Shape} (h : Pre_finite.S_.BroadcastsInDim S (![] : Fin 0 → Fin S.rank)) (x : FVec Ideal S .f32)
    (hm : cmpf .olt (Host.absf x) (broadcastInDim S ![] h (constant Pre_finite.S_ .f32 0x7F800000#32)) = fun _ => 1#1)
    (i : S.Idx) : x i = (((x i).toReal : ℝ) : EReal) :=
  real_of_abs_lt _ (congrFun hm i)

variable [Cert.Pre_finite.Facts]

/-- The real arrays that finite arguments hold. -/
theorem reals_of_finite (x0 : FVec Ideal ⟨3, ![2, 2048, 1024]⟩ .f32) (x1 : FVec Ideal ⟨1, ![1024]⟩ .f32)
    (x2 : FVec Ideal ⟨2, ![1024, 5632]⟩ .f32) (x3 : FVec Ideal ⟨2, ![3, 5632]⟩ .f32) (x4 : FVec Ideal ⟨2, ![2816, 1024]⟩ .f32)
    (x5 : FVec Ideal ⟨3, ![2, 2048, 1024]⟩ .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    ∃ D : Data, Reals x0 x1 x2 x3 x4 x5 D := by
  obtain ⟨h0, h1, h2, h3, h4, h5⟩ := h
  refine ⟨⟨fun q d => (x0 (ix3 (seqOf q) (posOf q) d)).toReal, fun d => (x1 (ix1 d)).toReal, fun d j => (x2 (ix2 d j)).toReal,
    fun k j => (x3 (ix2 k j)).toReal, fun k d => (x4 (ix2 k d)).toReal, fun q d => (x5 (ix3 (seqOf q) (posOf q) d)).toReal⟩, ?_⟩
  constructor
  · intro b s d
    dsimp only
    rw [seqOf_tok, posOf_tok]
    exact real_of_mask _ x0 h0 _
  · exact fun d => real_of_mask _ x1 h1 _
  · exact fun d j => real_of_mask _ x2 h2 _
  · exact fun k j => real_of_mask _ x3 h3 _
  · exact fun k d => real_of_mask _ x4 h4 _
  · intro b s d
    dsimp only
    rw [seqOf_tok, posOf_tok]
    exact real_of_mask _ x5 h5 _

end Cert.FfnBwd

end
-- ==== Proof.ConvMix.lean ====
/-
  The gated convolution mixer, forward: the product of two gates is convolved causally along a sequence, gated again, and
  normalised over groups of 64 channels. Its value as the reference writes it.
-/
module

public import proofs.«01_k».proof.Pre_finite12
public import proofs.«01_k».proof.Proof.Sums
public import proofs.«01_k».proof.Proof.Finite
public import proofs.«01_k».proof.Proof.Gen.Reference12Ideal.Read
public import Idealize.ShloMosaic.Lib.Claim
public import Idealize.ShloMosaic.Lib.Pointwise

@[expose] public section

noncomputable section

namespace Cert.ConvMix

open Idealize.ShloMosaic Idealize.ShloMosaic.TcCoe
open Cert.FfnBwd (tok seqOf posOf)

/-- The convolution's argument in channel `j`, at place `n - 2` of the sequence: nothing precedes the sequence. -/
def arg (X : FVec Ideal ⟨3, ![2, 2048, 3072]⟩ .f32) (b : Fin 2) (j : Fin 512) (n : ℕ) (hn : n < 2050) : EReal :=
  if n < 2 then 0 else X (ix3 b ⟨n - 2, by omega⟩ ⟨2048 + j.val, by omega⟩) * X (ix3 b ⟨n - 2, by omega⟩ ⟨2560 + j.val, by omega⟩)

/-- The convolution, gated. -/
def mixed (X : FVec Ideal ⟨3, ![2, 2048, 3072]⟩ .f32) (w : FVec Ideal ⟨2, ![3, 512]⟩ .f32) (b : Fin 2) (s : Fin 2048) (j : Fin 512) : EReal :=
  X (ix3 b s ⟨1536 + j.val, by omega⟩) * (arg X b j s.val (by omega) * w (ix2 0 j) + arg X b j (s.val + 1) (by omega) * w (ix2 1 j)
    + arg X b j (s.val + 2) (by omega) * w (ix2 2 j))

/-- Channel `k` of the group that channel `j` is in. -/
def mate (j : Fin 512) (k : Fin 64) : Fin 512 := ⟨j.val / 64 * 64 + k.val, by omega⟩

/-- The gated convolution, normalised over its group. -/
def value (X : FVec Ideal ⟨3, ![2, 2048, 3072]⟩ .f32) (w : FVec Ideal ⟨2, ![3, 512]⟩ .f32) (g : FVec Ideal ⟨1, ![512]⟩ .f32)
    (b : Fin 2) (s : Fin 2048) (j : Fin 512) : EReal :=
  mixed X w b s j * Ideal.rsqrt (Ideal.div (∑ k : Fin 64, mixed X w b s (mate j k) * mixed X w b s (mate j k)) (Ideal.ofBits .f32 0x42800000#32)
    + Ideal.ofBits .f32 0x358637BD#32) * g (ix1 j)

/-- The mixer's output: attention's half as it was, the gated convolution in the other. -/
def out (X : FVec Ideal ⟨3, ![2, 2048, 3072]⟩ .f32) (C : FVec Ideal ⟨3, ![2, 2048, 1024]⟩ .f32) (w : FVec Ideal ⟨2, ![3, 512]⟩ .f32)
    (g : FVec Ideal ⟨1, ![512]⟩ .f32) (q : Fin 4096) (d : Fin 1024) : EReal :=
  if h : d.val < 512 then C (ix3 (seqOf q) (posOf q) d) else value X w g (seqOf q) (posOf q) ⟨d.val - 512, by omega⟩

section Reference

open Cert.Reference12Ideal Cert.Reference12Ideal.Gen Cert.Reference12Ideal.Read

theorem ref_arg (X : FVec Ideal S2x2048x3072 .f32) (b : Fin 2) (n : Fin 2050) (j : Fin 512) :
    val_main_v6 (F := Ideal) X (ix3 b n j) = arg X b j n.val n.isLt := by
  pointwise [val_main_v6, val_main_v5, val_main_v4, val_main_v3, val_main_v2, val_main_v0, val_main_cst]
  unfold arg
  split
  · rfl
  · refine congrArg₂ (fun a b : EReal => a * b) (congrArg X ?_) (congrArg X ?_) <;>
      exact congrArg (ix3 b _) (Fin.ext (by dsimp only; omega))

theorem ref_mixed (X : FVec Ideal S2x2048x3072 .f32) (w : FVec Ideal S3x512 .f32) (b : Fin 2) (s : Fin 2048) (j : Fin 512) :
    val_main_v29 (F := Ideal) X w (ix3 b s j) = mixed X w b s j := by
  unfold val_main_v29 val_main_v28 val_main_v21 val_main_v14 val_main_v12 val_main_v20 val_main_v27 val_main_v7 val_main_v15 val_main_v22
  have e := ref_arg X b
  generalize val_main_v6 (F := Ideal) X = y at e ⊢
  pointwise [val_main_v1, val_main_v0, val_main_v13, val_main_cst_0, val_main_v11, val_main_v10, val_main_v9, val_main_v8, val_main_v19, val_main_v18, val_main_v17, val_main_v16,
    val_main_v26, val_main_v25, val_main_v24, val_main_v23]
  simp only [e]
  unfold mixed
  have e1 : arg X b j (1 + s.val) (by omega) = arg X b j (s.val + 1) (by omega) := by simp only [Nat.add_comm]
  have e2 : arg X b j (2 + s.val) (by omega) = arg X b j (s.val + 2) (by omega) := by simp only [Nat.add_comm]
  rw [e1, e2]

theorem ref_out (X : FVec Ideal S2x2048x3072 .f32) (C : FVec Ideal S2x2048x1024 .f32) (w : FVec Ideal S3x512 .f32) (g : FVec Ideal S512 .f32)
    (q : Fin 4096) (d : Fin 1024) : val_main_v49 (F := Ideal) X C w g (ix2 q d) = out X C w g q d := by
  unfold val_main_v49 val_main_v48 val_main_v47 val_main_v45 val_main_v44 val_main_v41 val_main_v40 val_main_v39 val_main_v38 val_main_v36
    val_main_v34 val_main_v33 val_main_v32 val_main_v30
  have e := ref_mixed X w
  generalize val_main_v29 (F := Ideal) X w = y at e ⊢
  pointwise [val_main_v46, val_main_v43, val_main_v42, val_main_v31, val_main_v35, val_main_v37, val_main_cst_1, val_main_cst_2, val_main_cst_3]
  simp only [e]
  unfold out
  split
  · rfl
  · have hd : (d.val - 512) / 64 * 64 + (d.val - 512) % 64 = d.val - 512 := by omega
    simp only [hd]
    unfold value mate seqOf posOf
    dsimp only

end Reference

end Cert.ConvMix

end
-- ==== Proof.ConvMixTile.lean ====
/-
  What one grid point of the mixer's forward call computes, written as functions of the blocks it loads. A grid point owns 128
  channels of one sequence and goes through the sequence in four parts of 512 rows, each with the eight rows before it, so that the
  causal convolution can be read off by rotating rows. Every part is treated by the same functions.
-/
module

public import proofs.«01_k».proof.Proof.ConvMix
public import proofs.«01_k».proof.Proof.Gen.Kernel12Ideal.Frame

@[expose] public section

noncomputable section

namespace Cert.ConvMix

open Idealize.ShloMosaic Cert.Kernel12Ideal Cert.Kernel12Ideal.Gen Idealize.ShloMosaic.TcCoe
open Idealize.ShloMosaic.Tactic

section Parts

variable {F : FTy → Type} [FloatOps F]

/-- One where a part has rows before it, zero in the first part. -/
def edge (c : BitVec 32) : F .f32 := Scalar.sitofp .f32 (show BitVec 32 from Scalar.extui (Scalar.cmpi .sgt c 0#32))

/-- The last eight of the rows before a part (zero before the first), and the part's rows. -/
def window (c : BitVec 32) (p : Vec F S16x128 .f32) (q : Vec F S512x128 .f32) : FVec F S520x128 .f32 :=
  concatenate S520x128 0 [⟨S8x128, mulf (extractStridedSlice S8x128 ![8, 0] (shapeCast S16x128 p shapeCasts_S16x128_S16x128) slices_S16x128_o8_0_S8x128)
      (broadcast S8x128 (edge (F := F) c))⟩,
    ⟨S512x128, shapeCast S512x128 q shapeCasts_S512x128_S512x128⟩] concatenates_S8x128_S512x128_S520x128_d0

/-- Rows moved down by one (the last row comes first). -/
def down (z : FVec F S520x128 .f32) : FVec F S520x128 .f32 := dynamicRotate 0 1#32 none z rotates_S520x128_d0

/-- The convolution on every row. -/
def conv (z : FVec F S520x128 .f32) (w : Vec F S3x128 .f32) : FVec F S520x128 .f32 :=
  addf (addf (mulf (broadcastTo S520x128 (extractStridedSlice S1x128 ![0, 0] w slices_S3x128_o0_0_S1x128) broadcasts_S1x128_S520x128) (down (down z)))
      (mulf (broadcastTo S520x128 (extractStridedSlice S1x128 ![1, 0] w slices_S3x128_o1_0_S1x128) broadcasts_S1x128_S520x128) (down z)))
    (mulf (broadcastTo S520x128 (extractStridedSlice S1x128 ![2, 0] w slices_S3x128_o2_0_S1x128) broadcasts_S1x128_S520x128) z)

/-- The part's rows of the convolution, gated. -/
def gated (b : Vec F S512x128 .f32) (z : FVec F S520x128 .f32) (w : Vec F S3x128 .f32) : FVec F S512x128 .f32 :=
  mulf (shapeCast S512x128 b shapeCasts_S512x128_S512x128) (extractStridedSlice S512x128 ![8, 0] (conv z w) slices_S520x128_o8_0_S512x128)

/-- The product with the matrix of the groups. -/
def grouped (v : FVec F S512x128 .bf16) : FVec F S512x128 .f32 :=
  matmul dot_S512x128_S128x128_S512x128_1_0_0_1_n_n none v k0_pay1 (constant S512x128 .f32 0x00000000#32)

/-- A square in two bf16 parts, summed over the groups. -/
def squares (v : FVec F S512x128 .f32) : FVec F S512x128 .f32 :=
  addf (grouped (truncf .bf16 v bitsLt_bf16_f32)) (grouped (truncf .bf16 (subf v (extf .f32 (truncf .bf16 v bitsLt_bf16_f32) bitsLt_bf16_f32)) bitsLt_bf16_f32))

/-- Rows normalised over the groups. -/
def normed (y : FVec F S512x128 .f32) (g : Vec F S1x128 .f32) : FVec F S512x128 .bf16 :=
  truncf .bf16 (mulf (mulf y (rsqrt (addf (mulf (squares (mulf y y)) (broadcast S512x128 (Scalar.ofBits .f32 0x3C800000#32)))
    (broadcast S512x128 (Scalar.ofBits .f32 0x358637BD#32)))))
    (broadcastTo S512x128 (shapeCast S1x128 g shapeCasts_S1x128_S1x128) broadcasts_S1x128_S512x128)) bitsLt_bf16_f32

/-- Sixteen rows before part `k` (the first sixteen for the first part). -/
def prev (k : Fin 4) (X : Vec F S2048x128 .f32) : Vec F S16x128 .f32 :=
  View.ld X (Rect.unit (s := S2048x128) ![512 * k.val - 16, 0] S16x128.size (by intro a; fin_cases a <;> simp <;> omega))

/-- The rows of part `k`. -/
def cur (k : Fin 4) (X : Vec F S2048x128 .f32) : Vec F S512x128 .f32 :=
  View.ld X (Rect.unit (s := S2048x128) ![512 * k.val, 0] S512x128.size (by intro a; fin_cases a <;> simp <;> omega))

/-- What is stored for part `k`. -/
def part (k : Fin 4) (x0 x1 x2 : Vec F S2048x128 .f32) (x3 : Vec F S3x128 .f32) (x4 : Vec F S1x128 .f32) : FVec F S512x128 .bf16 :=
  normed (gated (cur k x0) (mulf (window (BitVec.ofNat 32 k.val) (prev k x1) (cur k x1)) (window (BitVec.ofNat 32 k.val) (prev k x2) (cur k x2))) x3) x4

/-- The stored block. -/
def block (x0 x1 x2 : Vec F S2048x128 .f32) (x3 : Vec F S3x128 .f32) (x4 : Vec F S1x128 .f32) : Vec F S2048x128 .bf16 := fun y =>
  part ⟨(y 0).val / 512, by have : (y 0).val < 2048 := (y 0).isLt; omega⟩ x0 x1 x2 x3 x4 (ix2 ⟨(y 0).val % 512, by omega⟩ (y 1))

/-- A store of part `k` writes the block's own values. -/
theorem piece (x0 x1 x2 : Vec F S2048x128 .f32) (x3 : Vec F S3x128 .f32) (x4 : Vec F S1x128 .f32) (k : Fin 4) (o : ℕ) (ho : o = 512 * k.val)
    (inb) (P : FVec F S512x128 .bf16) (hP : P = part k x0 x1 x2 x3 x4) (x : S512x128.Idx) :
    P x = block x0 x1 x2 x3 x4 ((Rect.unit (s := S2048x128) ![o, 0] ![512, 128] inb).emb x) := by
  subst hP ho
  have hx : (x 0).val < 512 := (x 0).isLt
  have e : (Rect.unit (s := S2048x128) ![512 * k.val, 0] ![512, 128] inb).emb x = ix2 ⟨512 * k.val + (x 0).val, by omega⟩ (x 1) := by
    funext a
    match a with
    | ⟨0, _⟩ => exact Fin.ext (by show 512 * k.val + 1 * (x 0).val = 512 * k.val + (x 0).val; omega)
    | ⟨1, _⟩ => exact Fin.ext (by show 0 + 1 * (x 1).val = (x 1).val; omega)
  rw [e]
  refine congr (congrArg (fun k => part k x0 x1 x2 x3 x4) (Fin.ext ?_)) ?_
  · show k.val = (512 * k.val + (x 0).val) / 512
    omega
  · refine (eq_ix2 x).trans (congrArg (fun r => ix2 r (x 1)) (Fin.ext ?_))
    show (x 0).val = (512 * k.val + (x 0).val) % 512
    omega

theorem out_5 (c : Dev nD) (i : grid0.Coords) (arg2 arg3 arg4 arg5 arg6 arg8) (h2 h3 h4 h5 h6 h8)
    (x0 x1 x2 : Vec F S2048x128 .f32) (x3 : Vec F S3x128 .f32) (x4 : Vec F S1x128 .f32) :
    out0_A_5 (F := F) c i arg2 h2 arg3 h3 arg4 h4 arg5 h5 arg6 h6 arg8 h8 x0 x1 x2 x3 x4 = block x0 x1 x2 x3 x4 := by
  unfold out0_A_5
  rw [View.read_writes_eq_canon _ _ _ (cover0_A_5 c i arg2 h2 arg3 h3 arg4 h4 arg5 h5 arg6 h6 arg8 h8 x0 x1 x2 x3 x4)]
  funext y
  refine View.canon_apply_of_pieces (block x0 x1 x2 x3 x4) _ ?_ y (cover0_A_5 c i arg2 h2 arg3 h3 arg4 h4 arg5 h5 arg6 h6 arg8 h8 x0 x1 x2 x3 x4 y)
  unfold kernelRun0_A
  dsimp only
  sl_unfold_words
  simp only [View.readAt_eq_ld, h2.read_unread, h3.read_unread, h4.read_unread, h5.read_unread, h6.read_unread]
  simp only [View.ld_unit_zero (S := S3x128) Cert.FfnBwd.hz2, View.ld_unit_zero (S := S1x128) Cert.FfnBwd.hz2]
  simp only [List.forall_mem_cons]
  exact ⟨piece x0 x1 x2 x3 x4 3 _ rfl _ _ rfl, piece x0 x1 x2 x3 x4 2 _ rfl _ _ rfl, piece x0 x1 x2 x3 x4 1 _ rfl _ _ rfl,
    piece x0 x1 x2 x3 x4 0 _ rfl _ _ rfl, fun _ h => absurd h List.not_mem_nil⟩

end Parts

end Cert.ConvMix

end
-- ==== Proof.ConvMixKernel.lean ====
/-
  The mixer's forward call on extended reals: the value one grid point writes, and the whole array after all the points.
-/
module

public import proofs.«01_k».proof.Proof.ConvMixTile
public import proofs.«01_k».proof.Proof.Gen.Kernel12Ideal.Value

@[expose] public section

noncomputable section

namespace Cert.ConvMix

open Idealize.ShloMosaic Cert.Kernel12Ideal Cert.Kernel12Ideal.Gen Idealize.ShloMosaic.TcCoe
open Idealize.ShloMosaic.Tactic
open Cert.FfnBwd (tok seqOf posOf)

/-! ## One grid point's values -/

/-- The convolution's argument within a block of channels, at place `n - 2`. -/
def argB (x1 x2 : Vec Ideal S2048x128 .f32) (j : Fin 128) (n : ℕ) (hn : n < 2050) : EReal :=
  if n < 2 then 0 else x1 (ix2 ⟨n - 2, by omega⟩ j) * x2 (ix2 ⟨n - 2, by omega⟩ j)

theorem edge_zero : edge (F := Ideal) (BitVec.ofNat 32 0) = 0 := by
  show ((((0 : BitVec 32).toInt : ℤ) : ℝ) : EReal) = 0
  simp

theorem edge_later (k : Fin 4) (hk : k ≠ 0) : edge (F := Ideal) (BitVec.ofNat 32 k.val) = 1 := by
  have : edge (F := Ideal) (BitVec.ofNat 32 k.val) = ((((1 : BitVec 32).toInt : ℤ) : ℝ) : EReal) := by
    fin_cases k
    · exact absurd rfl hk
    all_goals rfl
  rw [this]
  simp

theorem window_val (c : BitVec 32) (p : Vec Ideal S16x128 .f32) (q : Vec Ideal S512x128 .f32) (n : Fin 520) (j : Fin 128) :
    window (F := Ideal) c p q (ix2 n j) = if h : n.val < 8 then p (ix2 ⟨8 + n.val, by omega⟩ j) * edge (F := Ideal) c else q (ix2 ⟨n.val - 8, by omega⟩ j) := by
  unfold window
  generalize edge (F := Ideal) c = e
  pointwise []

theorem prev_val (k : Fin 4) (X : Vec Ideal S2048x128 .f32) (r : Fin 16) (j : Fin 128) :
    prev k X (ix2 r j) = X (ix2 ⟨512 * k.val - 16 + r.val, by omega⟩ j) := Cert.FfnBwd.ld_rows X _ _ r j

theorem cur_val (k : Fin 4) (X : Vec Ideal S2048x128 .f32) (r : Fin 512) (j : Fin 128) :
    cur k X (ix2 r j) = X (ix2 ⟨512 * k.val + r.val, by omega⟩ j) := Cert.FfnBwd.ld_rows X _ _ r j

theorem product_val (k : Fin 4) (x1 x2 : Vec Ideal S2048x128 .f32) (n : Fin 520) (hn : 6 ≤ n.val) (j : Fin 128) :
    mulf (F := Ideal) (window (BitVec.ofNat 32 k.val) (prev k x1) (cur k x1)) (window (BitVec.ofNat 32 k.val) (prev k x2) (cur k x2)) (ix2 n j)
      = argB x1 x2 j (512 * k.val + (n.val - 6)) (by omega) := by
  show window (F := Ideal) (BitVec.ofNat 32 k.val) (prev k x1) (cur k x1) (ix2 n j) * window (F := Ideal) (BitVec.ofNat 32 k.val) (prev k x2) (cur k x2) (ix2 n j) = _
  rw [window_val, window_val]
  unfold argB
  by_cases h : n.val < 8
  · rw [dif_pos h, dif_pos h]
    by_cases hk : k = 0
    · subst hk
      rw [if_pos (by show 512 * 0 + (n.val - 6) < 2; omega)]
      rw [show edge (F := Ideal) (BitVec.ofNat 32 (0 : Fin 4).val) = 0 from edge_zero, mul_zero, mul_zero, mul_zero]
    · have : 1 ≤ k.val := Nat.one_le_iff_ne_zero.2 fun h => hk (Fin.ext h)
      rw [edge_later k hk, mul_one, mul_one, prev_val, prev_val, if_neg (by omega)]
      have e : 512 * k.val - 16 + (8 + n.val) = 512 * k.val + (n.val - 6) - 2 := by omega
      simp only [e]
  · rw [dif_neg h, dif_neg h, cur_val, cur_val, if_neg (by omega)]
    have e : 512 * k.val + (n.val - 8) = 512 * k.val + (n.val - 6) - 2 := by omega
    simp only [e]

theorem down_val (z : FVec Ideal S520x128 .f32) (n m : Fin 520) (h : m.val + 1 = n.val) (j : Fin 128) : down (F := Ideal) z (ix2 n j) = z (ix2 m j) := by
  have : down (F := Ideal) z (ix2 n j) = z (ix2 ⟨(n.val + 520 - 1) % 520, by omega⟩ j) := by
    pointwise [down]
  rw [this]
  exact congrArg (fun a => z (ix2 a j)) (Fin.ext (by show (n.val + 520 - 1) % 520 = m.val; omega))

theorem gated_val (b : Vec Ideal S512x128 .f32) (z : FVec Ideal S520x128 .f32) (w : Vec Ideal S3x128 .f32) (r : Fin 512) (j : Fin 128) :
    gated (F := Ideal) b z w (ix2 r j) = b (ix2 r j) * (w (ix2 0 j) * z (ix2 ⟨6 + r.val, by omega⟩ j) + w (ix2 1 j) * z (ix2 ⟨7 + r.val, by omega⟩ j)
      + w (ix2 2 j) * z (ix2 ⟨8 + r.val, by omega⟩ j)) := by
  have e1 := down_val z ⟨8 + r.val, by omega⟩ ⟨7 + r.val, by omega⟩ (by dsimp only; omega) j
  have e2 := down_val (down z) ⟨8 + r.val, by omega⟩ ⟨7 + r.val, by omega⟩ (by dsimp only; omega) j
  have e3 := down_val z ⟨7 + r.val, by omega⟩ ⟨6 + r.val, by omega⟩ (by dsimp only; omega) j
  unfold gated conv
  generalize down (F := Ideal) (down z) = z2 at e2 ⊢
  generalize down (F := Ideal) z = z1 at e1 e2 e3 ⊢
  pointwise []
  rw [e1, e2, e3]

/-- The gated convolution within a block. -/
def mixedB (x0 x1 x2 : Vec Ideal S2048x128 .f32) (x3 : Vec Ideal S3x128 .f32) (s : Fin 2048) (j : Fin 128) : EReal :=
  x0 (ix2 s j) * (argB x1 x2 j s.val (by omega) * x3 (ix2 0 j) + argB x1 x2 j (s.val + 1) (by omega) * x3 (ix2 1 j)
    + argB x1 x2 j (s.val + 2) (by omega) * x3 (ix2 2 j))

theorem gated_part (k : Fin 4) (x0 x1 x2 : Vec Ideal S2048x128 .f32) (x3 : Vec Ideal S3x128 .f32) (r : Fin 512) (j : Fin 128) :
    gated (F := Ideal) (cur k x0) (mulf (window (BitVec.ofNat 32 k.val) (prev k x1) (cur k x1)) (window (BitVec.ofNat 32 k.val) (prev k x2) (cur k x2))) x3 (ix2 r j)
      = mixedB x0 x1 x2 x3 ⟨512 * k.val + r.val, by omega⟩ j := by
  rw [gated_val, product_val k x1 x2 _ (by dsimp only; omega), product_val k x1 x2 _ (by dsimp only; omega), product_val k x1 x2 _ (by dsimp only; omega), cur_val]
  unfold mixedB
  have e0 : 512 * k.val + (6 + r.val - 6) = 512 * k.val + r.val := by omega
  have e1 : 512 * k.val + (7 + r.val - 6) = 512 * k.val + r.val + 1 := by omega
  have e2 : 512 * k.val + (8 + r.val - 6) = 512 * k.val + r.val + 2 := by omega
  simp only [e0, e1, e2, mul_comm (x3 _)]

theorem shifted : ∀ j : Fin 128, IntOp.shrsi ArithUnit.vector (BitVec.ofNat 32 j.val) 6#32 = BitVec.ofNat 32 (j.val / 64) := by decide

/-- The matrix of the groups: one where two channels are in the same group of 64. -/
theorem groups_val (j l : Fin 128) : k0_pay1 (F := Ideal) (ix2 j l) = if j.val / 64 = l.val / 64 then 1 else 0 := by
  pointwise [k0_pay1]
  rw [shifted, shifted]
  have hj : j.val / 64 < 2 := by omega
  have hl : l.val / 64 < 2 := by omega
  generalize j.val / 64 = a at hj ⊢
  generalize l.val / 64 = b at hl ⊢
  have z : (FloatOps.sitofp FTy.f32 (0 : BitVec 32) : Ideal .f32) = (0 : EReal) := by
    show ((((0 : BitVec 32).toInt : ℤ) : ℝ) : EReal) = 0
    simp
  have o : (FloatOps.sitofp FTy.f32 (1 : BitVec 32) : Ideal .f32) = (1 : EReal) := by
    show ((((1 : BitVec 32).toInt : ℤ) : ℝ) : EReal) = 1
    simp
  interval_cases a <;> interval_cases b
  · exact o
  · exact z
  · exact z
  · exact o

/-- A sum over a group of channels, as a sum against the matrix of the groups. -/
theorem sum_group (f : Fin 128 → EReal) (j : Fin 128) :
    ∑ l : Fin 128, f l * (if l.val / 64 = j.val / 64 then 1 else 0) = ∑ k : Fin 64, f ⟨j.val / 64 * 64 + k.val, by omega⟩ := by
  rw [← Cert.FfnBwd.sum_blocks 2 64 (by norm_num) fun l : Fin 128 => f l * (if l.val / 64 = j.val / 64 then 1 else 0)]
  rw [Finset.sum_eq_single (⟨j.val / 64, by omega⟩ : Fin 2)]
  · refine Finset.sum_congr rfl fun k _ => ?_
    dsimp only
    rw [if_pos (by omega), mul_one]
    simp only [Nat.mul_comm 64]
  · intro b _ hb
    refine Finset.sum_eq_zero fun k _ => ?_
    have : b.val ≠ j.val / 64 := fun h => hb (Fin.ext h)
    dsimp only
    rw [if_neg (by omega), mul_zero]
  · exact fun h => absurd (Finset.mem_univ _) h

theorem grouped_val (v : FVec Ideal S512x128 .bf16) (r : Fin 512) (j : Fin 128) :
    grouped (F := Ideal) v (ix2 r j) = ∑ k : Fin 64, v (ix2 r ⟨j.val / 64 * 64 + k.val, by omega⟩) := by
  rw [← sum_group (fun l => v (ix2 r l)) j]
  unfold grouped
  have e := groups_val
  generalize k0_pay1 (F := Ideal) = y at e ⊢
  pointwise []
  simp only [e]

theorem squares_val (v : FVec Ideal S512x128 .f32) (r : Fin 512) (hv : ∀ l : Fin 128, ∃ a : ℝ, v (ix2 r l) = (a : EReal)) (j : Fin 128) :
    squares (F := Ideal) v (ix2 r j) = ∑ k : Fin 64, v (ix2 r ⟨j.val / 64 * 64 + k.val, by omega⟩) := by
  show grouped (F := Ideal) _ (ix2 r j) + grouped (F := Ideal) _ (ix2 r j) = (_ : EReal)
  rw [grouped_val, grouped_val]
  rw [Finset.sum_eq_zero (s := Finset.univ) (f := fun k : Fin 64 => truncf .bf16 (subf v (extf .f32 (truncf .bf16 v bitsLt_bf16_f32) bitsLt_bf16_f32)) bitsLt_bf16_f32 (ix2 r ⟨j.val / 64 * 64 + k.val, by omega⟩)), add_zero]
  · rfl
  · intro k _
    obtain ⟨a, ha⟩ := hv ⟨j.val / 64 * 64 + k.val, by omega⟩
    show v _ - v _ = (0 : EReal)
    rw [ha, ← EReal.coe_sub, sub_self, EReal.coe_zero]

theorem sixtyfour (x : EReal) : x * Ideal.ofBits .f32 0x3C800000#32 = Ideal.div x (Ideal.ofBits .f32 0x42800000#32) := by
  have h : Ideal.ofBits .f32 0x42800000#32 = ((64 : ℝ) : EReal) := by
    simp [Ideal.ofBits, Ideal.ieee, -EReal.coe_mul]
    norm_num
  have h' : Ideal.ofBits .f32 0x3C800000#32 = ((1 / 64 : ℝ) : EReal) := by
    simp [Ideal.ofBits, Ideal.ieee, -EReal.coe_mul]
    norm_num
  rw [h, h', Ideal.div_coe (by norm_num)]

theorem normed_val (y : FVec Ideal S512x128 .f32) (g : Vec Ideal S1x128 .f32) (r : Fin 512) (hy : ∀ l : Fin 128, ∃ a : ℝ, y (ix2 r l) = (a : EReal)) (j : Fin 128) :
    normed (F := Ideal) y g (ix2 r j) = y (ix2 r j) * Ideal.rsqrt (Ideal.div (∑ k : Fin 64, y (ix2 r ⟨j.val / 64 * 64 + k.val, by omega⟩)
      * y (ix2 r ⟨j.val / 64 * 64 + k.val, by omega⟩)) (Ideal.ofBits .f32 0x42800000#32) + Ideal.ofBits .f32 0x358637BD#32) * g (ix2 0 j) := by
  have e := squares_val (mulf y y) r (fun l => by
    obtain ⟨a, ha⟩ := hy l
    exact ⟨a * a, by show y (ix2 r l) * y (ix2 r l) = _; rw [ha, EReal.coe_mul]⟩) j
  unfold normed
  generalize squares (F := Ideal) (mulf y y) = q at e ⊢
  pointwise []
  rw [e, sixtyfour]
  rfl

/-- What a point stores for part `k`. -/
theorem part_val (k : Fin 4) (x0 x1 x2 : Vec Ideal S2048x128 .f32) (x3 : Vec Ideal S3x128 .f32) (x4 : Vec Ideal S1x128 .f32) (r : Fin 512) (s : Fin 2048)
    (hs : 512 * k.val + r.val = s.val) (hy : ∀ l : Fin 128, ∃ a : ℝ, mixedB x0 x1 x2 x3 s l = (a : EReal)) (j : Fin 128) :
    part k x0 x1 x2 x3 x4 (ix2 r j) = mixedB x0 x1 x2 x3 s j * Ideal.rsqrt (Ideal.div (∑ k : Fin 64, mixedB x0 x1 x2 x3 s ⟨j.val / 64 * 64 + k.val, by omega⟩
      * mixedB x0 x1 x2 x3 s ⟨j.val / 64 * 64 + k.val, by omega⟩) (Ideal.ofBits .f32 0x42800000#32) + Ideal.ofBits .f32 0x358637BD#32) * x4 (ix2 0 j) := by
  have e : ∀ l : Fin 128, gated (F := Ideal) (cur k x0) (mulf (window (BitVec.ofNat 32 k.val) (prev k x1) (cur k x1))
      (window (BitVec.ofNat 32 k.val) (prev k x2) (cur k x2))) x3 (ix2 r l) = mixedB x0 x1 x2 x3 s l := fun l => by
    rw [gated_part k x0 x1 x2 x3 r l]
    exact congrArg (fun q => mixedB x0 x1 x2 x3 q l) (Fin.ext hs)
  unfold part
  rw [normed_val _ _ _ (fun l => by
    obtain ⟨a, ha⟩ := hy l
    exact ⟨a, (e l).trans ha⟩)]
  simp only [e]

/-- What a point stores, at row `s` of its sequence. -/
theorem block_val (x0 x1 x2 : Vec Ideal S2048x128 .f32) (x3 : Vec Ideal S3x128 .f32) (x4 : Vec Ideal S1x128 .f32) (s : Fin 2048)
    (hy : ∀ l : Fin 128, ∃ a : ℝ, mixedB x0 x1 x2 x3 s l = (a : EReal)) (j : Fin 128) :
    block x0 x1 x2 x3 x4 (ix2 s j) = mixedB x0 x1 x2 x3 s j * Ideal.rsqrt (Ideal.div (∑ k : Fin 64, mixedB x0 x1 x2 x3 s ⟨j.val / 64 * 64 + k.val, by omega⟩
      * mixedB x0 x1 x2 x3 s ⟨j.val / 64 * 64 + k.val, by omega⟩) (Ideal.ofBits .f32 0x42800000#32) + Ideal.ofBits .f32 0x358637BD#32) * x4 (ix2 0 j) :=
  part_val ⟨s.val / 512, by omega⟩ x0 x1 x2 x3 x4 ⟨s.val % 512, by omega⟩ s (by show 512 * (s.val / 512) + s.val % 512 = s.val; omega) hy j

/-! ## The blocks a point loads, of the arguments in memory -/

section Loads

variable (m : (ℓ : Loc nD τ sig) → Buf (Elt Ideal) ℓ) (c : Dev nD)

theorem N_eq : cfg0.N = 8 := N_0

theorem win_facts : ∀ t : Fin grid0.N, (win0_0.index t 0 = t.val / 4 ∧ win0_0.index t 1 = 12 + t.val % 4) ∧
    (win0_1.index t 0 = t.val / 4 ∧ win0_1.index t 1 = 16 + t.val % 4) ∧ (win0_2.index t 0 = t.val / 4 ∧ win0_2.index t 1 = 20 + t.val % 4) ∧
    (win0_3.index t 0 = 0 ∧ win0_3.index t 1 = t.val % 4) ∧ (win0_4.index t 0 = 0 ∧ win0_4.index t 1 = t.val % 4) ∧
    (win0_5.index t 0 = t.val / 4 ∧ win0_5.index t 1 = 4 + t.val % 4) := by
  decide +kernel

/-- The sequence that point `t` works on. -/
def seqAt (t : Fin cfg0.N) : Fin 2 := ⟨t.val / 4, by have := t.isLt; have := N_eq; omega⟩

/-- Channel `j` of point `t`. -/
def chan (t : Fin cfg0.N) (j : Fin 128) : Fin 512 := ⟨128 * (t.val % 4) + j.val, by omega⟩

theorem proj_entry (b : Fin 2) (r : Fin 2048) (k : Fin 3072) (q : Fin 4096) (hq : q.val = 2048 * b.val + r.val) :
    (V m c main_v0 : FVec Ideal S4096x3072 .f32) (ix2 q k) = m (c, Proc.tc.devRef main_arg0) (ix3 b r k) := by
  have : (V m c main_v0 : FVec Ideal S4096x3072 .f32) (ix2 q k) = m (c, Proc.tc.devRef main_arg0) (ix3 (seqOf q) (posOf q) k) := by
    entry_read
    pointwise []
    rfl
  rw [this]
  refine congrArg₂ (fun b r => m (c, Proc.tc.devRef main_arg0) (ix3 b r k)) (Fin.ext ?_) (Fin.ext ?_)
  · show q.val / 2048 = b.val; omega
  · show q.val % 2048 = r.val; omega

theorem load_0 (t : Fin cfg0.N) (r : Fin 2048) (j : Fin 128) :
    (iblk m c 0 t : Vec Ideal S2048x128 .f32) (ix2 r j) = m (c, Proc.tc.devRef main_arg0) (ix3 (seqAt t) r ⟨1536 + (chan t j).val, by omega⟩) := by
  have ht := t.isLt
  have hN := N_eq
  refine Eq.trans ?_ (proj_entry m c (seqAt t) r ⟨1536 + (chan t j).val, by omega⟩ ⟨2048 * (t.val / 4) + r.val, by omega⟩ rfl)
  obtain ⟨h0, h1⟩ := (win_facts t).1
  refine congrArg (V m c main_v0 : FVec Ideal S4096x3072 .f32) (a₁ := (win0_0.rect t).emb (ix2 r j)) (funext fun a => Fin.ext ?_)
  rw [win0_0.rect_emb_val]
  fin_cases a
  · show win0_0.index t 0 * 2048 + r.val = 2048 * (t.val / 4) + r.val; omega
  · show win0_0.index t 1 * 128 + j.val = 1536 + (128 * (t.val % 4) + j.val); omega

theorem load_1 (t : Fin cfg0.N) (r : Fin 2048) (j : Fin 128) :
    (iblk m c 1 t : Vec Ideal S2048x128 .f32) (ix2 r j) = m (c, Proc.tc.devRef main_arg0) (ix3 (seqAt t) r ⟨2048 + (chan t j).val, by omega⟩) := by
  have ht := t.isLt
  have hN := N_eq
  refine Eq.trans ?_ (proj_entry m c (seqAt t) r ⟨2048 + (chan t j).val, by omega⟩ ⟨2048 * (t.val / 4) + r.val, by omega⟩ rfl)
  obtain ⟨h0, h1⟩ := (win_facts t).2.1
  refine congrArg (V m c main_v0 : FVec Ideal S4096x3072 .f32) (a₁ := (win0_1.rect t).emb (ix2 r j)) (funext fun a => Fin.ext ?_)
  rw [win0_1.rect_emb_val]
  fin_cases a
  · show win0_1.index t 0 * 2048 + r.val = 2048 * (t.val / 4) + r.val; omega
  · show win0_1.index t 1 * 128 + j.val = 2048 + (128 * (t.val % 4) + j.val); omega

theorem load_2 (t : Fin cfg0.N) (r : Fin 2048) (j : Fin 128) :
    (iblk m c 2 t : Vec Ideal S2048x128 .f32) (ix2 r j) = m (c, Proc.tc.devRef main_arg0) (ix3 (seqAt t) r ⟨2560 + (chan t j).val, by omega⟩) := by
  have ht := t.isLt
  have hN := N_eq
  refine Eq.trans ?_ (proj_entry m c (seqAt t) r ⟨2560 + (chan t j).val, by omega⟩ ⟨2048 * (t.val / 4) + r.val, by omega⟩ rfl)
  obtain ⟨h0, h1⟩ := (win_facts t).2.2.1
  refine congrArg (V m c main_v0 : FVec Ideal S4096x3072 .f32) (a₁ := (win0_2.rect t).emb (ix2 r j)) (funext fun a => Fin.ext ?_)
  rw [win0_2.rect_emb_val]
  fin_cases a
  · show win0_2.index t 0 * 2048 + r.val = 2048 * (t.val / 4) + r.val; omega
  · show win0_2.index t 1 * 128 + j.val = 2560 + (128 * (t.val % 4) + j.val); omega

theorem load_3 (t : Fin cfg0.N) (k : Fin 3) (j : Fin 128) :
    (iblk m c 3 t : Vec Ideal S3x128 .f32) (ix2 k j) = m (c, Proc.tc.devRef main_arg2) (ix2 k (chan t j)) := by
  have e : (iblk m c 3 t : Vec Ideal S3x128 .f32) (ix2 k j) = (V m c main_arg2 : FVec Ideal S3x512 .f32) (ix2 k (chan t j)) := by
    obtain ⟨h0, h1⟩ := (win_facts t).2.2.2.1
    refine congrArg (V m c main_arg2 : FVec Ideal S3x512 .f32) (a₁ := (win0_3.rect t).emb (ix2 k j)) (funext fun a => Fin.ext ?_)
    rw [win0_3.rect_emb_val]
    fin_cases a
    · show win0_3.index t 0 * 3 + k.val = k.val; omega
    · show win0_3.index t 1 * 128 + j.val = 128 * (t.val % 4) + j.val; omega
  rw [e]
  entry_read
  rfl

theorem load_4 (t : Fin cfg0.N) (j : Fin 128) :
    (iblk m c 4 t : Vec Ideal S1x128 .f32) (ix2 0 j) = m (c, Proc.tc.devRef main_arg3) (ix1 (chan t j)) := by
  have e : (iblk m c 4 t : Vec Ideal S1x128 .f32) (ix2 0 j) = (V m c main_v3 : FVec Ideal S1x512 .f32) (ix2 0 (chan t j)) := by
    obtain ⟨h0, h1⟩ := (win_facts t).2.2.2.2.1
    refine congrArg (V m c main_v3 : FVec Ideal S1x512 .f32) (a₁ := (win0_4.rect t).emb (ix2 0 j)) (funext fun a => Fin.ext ?_)
    rw [win0_4.rect_emb_val]
    fin_cases a
    · show win0_4.index t 0 * 1 + 0 = 0; omega
    · show win0_4.index t 1 * 128 + j.val = 128 * (t.val % 4) + j.val; omega
  rw [e]
  entry_read
  pointwise []

theorem point_arg (t : Fin cfg0.N) (j : Fin 128) (n : ℕ) (hn : n < 2050) :
    argB (iblk m c 1 t) (iblk m c 2 t) j n hn = arg (m (c, Proc.tc.devRef main_arg0)) (seqAt t) (chan t j) n hn := by
  unfold argB arg
  simp only [load_1 m c t, load_2 m c t]

theorem point_mixed (t : Fin cfg0.N) (s : Fin 2048) (j : Fin 128) :
    mixedB (iblk m c 0 t) (iblk m c 1 t) (iblk m c 2 t) (iblk m c 3 t) s j
      = mixed (m (c, Proc.tc.devRef main_arg0)) (m (c, Proc.tc.devRef main_arg2)) (seqAt t) s (chan t j) := by
  unfold mixedB mixed
  simp only [load_0 m c t, load_3 m c t, point_arg m c t]

/-- The gated convolution of finite arguments is finite. -/
def Finite12 : Prop := ∀ (b : Fin 2) (s : Fin 2048) (j : Fin 512),
  ∃ a : ℝ, mixed (m (c, Proc.tc.devRef main_arg0)) (m (c, Proc.tc.devRef main_arg2)) b s j = (a : EReal)

theorem point_val (hf : Finite12 m c) (t : Fin cfg0.N) (s : Fin 2048) (j : Fin 128) :
    block (F := Ideal) (iblk m c 0 t) (iblk m c 1 t) (iblk m c 2 t) (iblk m c 3 t) (iblk m c 4 t) (ix2 s j)
      = value (m (c, Proc.tc.devRef main_arg0)) (m (c, Proc.tc.devRef main_arg2)) (m (c, Proc.tc.devRef main_arg3)) (seqAt t) s (chan t j) := by
  rw [block_val _ _ _ _ _ s (fun l => by rw [point_mixed m c t]; exact hf _ _ _)]
  have e : ∀ k : Fin 64, chan t ⟨j.val / 64 * 64 + k.val, by omega⟩ = mate (chan t j) k := fun k =>
    Fin.ext (by show 128 * (t.val % 4) + (j.val / 64 * 64 + k.val) = (128 * (t.val % 4) + j.val) / 64 * 64 + k.val; omega)
  simp only [point_mixed m c t, load_4 m c t, e]
  rfl

/-! ## The result array -/

theorem emb5 (t : Fin cfg0.N) (s : Fin 2048) (j : Fin 128) :
    ((cfg0.win 5).blk t).view.emb (ix2 s j) = ix2 (tok (seqAt t) s) ⟨512 + (chan t j).val, by omega⟩ := by
  obtain ⟨h0, h1⟩ := (win_facts t).2.2.2.2.2
  refine funext fun a => Fin.ext ?_
  refine (win0_5.rect_emb_val t (ix2 s j) a).trans ?_
  fin_cases a
  · show win0_5.index t 0 * 2048 + s.val = 2048 * (t.val / 4) + s.val; omega
  · show win0_5.index t 1 * 128 + j.val = 512 + (128 * (t.val % 4) + j.val); omega

theorem cut5_val (t : Fin cfg0.N) (X : Vec Ideal S2048x128 .bf16) (s : Fin 2048) (j : Fin 128) :
    (cfg0.win 5).cut (grid0.coords t) X (ix2 s j) = X (ix2 s j) :=
  congrArg X (funext fun a => Fin.ext rfl)

theorem flushed5_val (hf : Finite12 m c) (t : Fin cfg0.N) (s : Fin 2048) (j : Fin 128) :
    ((dats m 0 c).flushed 5 t : Vec Ideal S2048x128 .bf16) (ix2 s j)
      = value (m (c, Proc.tc.devRef main_arg0)) (m (c, Proc.tc.devRef main_arg2)) (m (c, Proc.tc.devRef main_arg3)) (seqAt t) s (chan t j) := by
  rw [Value.flushed5_A, out_5]
  exact (cut5_val t _ s j).trans (point_val m c hf t s j)

theorem kernel_mixed (hf : Finite12 m c) (t : Fin cfg0.N) (s : Fin 2048) (j : Fin 128) :
    ((dats m 0 c).arrAt 5 cfg0.N : FVec Ideal S4096x1024 .bf16) (ix2 (tok (seqAt t) s) ⟨512 + (chan t j).val, by omega⟩)
      = value (m (c, Proc.tc.devRef main_arg0)) (m (c, Proc.tc.devRef main_arg2)) (m (c, Proc.tc.devRef main_arg3)) (seqAt t) s (chan t j) := by
  have h := (dats m 0 c).arrAt_emb_eq_flushed 5 Value.disjoint5 t (flush0_5 _) (ix2 s j)
  rw [emb5] at h
  exact h.trans (flushed5_val m c hf t s j)

theorem kernel_kept (q : Fin 4096) (d : Fin 1024) (hd : d.val < 512) :
    ((dats m 0 c).arrAt 5 cfg0.N : FVec Ideal S4096x1024 .bf16) (ix2 q d) = m (c, Proc.tc.devRef main_arg1) (ix3 (seqOf q) (posOf q) d) := by
  refine (Value.entry5 m c (ix2 q d) fun t _ hmem => ?_).trans ?_
  · obtain ⟨y, -, hy⟩ := Finset.mem_map.1 hmem
    have hv := (emb5 t ((y : S2048x128.Idx) 0) ((y : S2048x128.Idx) 1)).symm.trans
      ((congrArg ((cfg0.win 5).blk t).view.emb (eq_ix2 (y : S2048x128.Idx)).symm).trans hy)
    have : 512 + (chan t ((y : S2048x128.Idx) 1)).val = d.val := congrArg Fin.val (congrFun hv 1)
    omega
  · show (V m c main_v4 : FVec Ideal S4096x1024 .bf16) (ix2 q d) = _
    entry_read
    pointwise []
    rfl

theorem kernel_5 (hf : Finite12 m c) (q : Fin 4096) (d : Fin 1024) :
    ((dats m 0 c).arrAt 5 cfg0.N : FVec Ideal S4096x1024 .bf16) (ix2 q d)
      = out (m (c, Proc.tc.devRef main_arg0)) (m (c, Proc.tc.devRef main_arg1)) (m (c, Proc.tc.devRef main_arg2)) (m (c, Proc.tc.devRef main_arg3)) q d := by
  unfold out
  split
  case isTrue h => exact kernel_kept m c q d h
  case isFalse h =>
    have hN := N_eq
    have := kernel_mixed m c hf ⟨q.val / 2048 * 4 + (d.val - 512) / 128, by omega⟩ (posOf q) ⟨(d.val - 512) % 128, by omega⟩
    have e1 : seqAt ⟨q.val / 2048 * 4 + (d.val - 512) / 128, by omega⟩ = seqOf q :=
      Fin.ext (by show (q.val / 2048 * 4 + (d.val - 512) / 128) / 4 = q.val / 2048; omega)
    have e2 : chan ⟨q.val / 2048 * 4 + (d.val - 512) / 128, by omega⟩ ⟨(d.val - 512) % 128, by omega⟩ = ⟨d.val - 512, by omega⟩ :=
      Fin.ext (by show 128 * ((q.val / 2048 * 4 + (d.val - 512) / 128) % 4) + (d.val - 512) % 128 = d.val - 512; omega)
    have e3 : tok (seqOf q) (posOf q) = q := Fin.ext (by show 2048 * (q.val / 2048) + q.val % 2048 = q.val; omega)
    have e4 : (⟨512 + (d.val - 512), by omega⟩ : Fin 1024) = d := Fin.ext (by show 512 + (d.val - 512) = d.val; omega)
    simp only [e1, e2, e3, e4] at this
    exact this

end Loads

/-! ## The precondition -/

theorem preFacts12 : Cert.Pre_finite12.Facts where
  bcast_S_S2x2048x3072 := by decide
  bcast_S_S3x512 := by decide

/-- Finite arguments have a finite gated convolution. -/
theorem finite12 [Cert.Pre_finite12.Facts] (X : FVec Ideal S2x2048x3072 .f32) (C : FVec Ideal S2x2048x1024 .f32) (w : FVec Ideal S3x512 .f32) (g : FVec Ideal S512 .f32)
    (h : (Cert.Pre_finite12.fn (F := Ideal) X C w g).1 = (fun _ => 1#1) ∧ (Cert.Pre_finite12.fn (F := Ideal) X C w g).2 = (fun _ => 1#1))
    (b : Fin 2) (s : Fin 2048) (j : Fin 512) : ∃ a : ℝ, mixed X w b s j = (a : EReal) := by
  have hX : ∀ i, X i = (((X i).toReal : ℝ) : EReal) := fun i => Cert.FfnBwd.real_of_abs_lt _ (congrFun h.1 i)
  have hw : ∀ i, w i = (((w i).toReal : ℝ) : EReal) := fun i => Cert.FfnBwd.real_of_abs_lt _ (congrFun h.2 i)
  have ha : ∀ n hn, ∃ a : ℝ, arg X b j n hn = (a : EReal) := fun n hn => by
    unfold arg
    split
    · exact ⟨0, rfl⟩
    · rw [hX, hX (ix3 b _ ⟨2560 + j.val, _⟩), ← EReal.coe_mul]
      exact ⟨_, rfl⟩
  obtain ⟨a0, h0⟩ := ha s.val (by omega)
  obtain ⟨a1, h1⟩ := ha (s.val + 1) (by omega)
  obtain ⟨a2, h2⟩ := ha (s.val + 2) (by omega)
  unfold mixed
  rw [h0, h1, h2, hX, hw (ix2 0 j), hw (ix2 1 j), hw (ix2 2 j), ← EReal.coe_mul, ← EReal.coe_mul, ← EReal.coe_mul, ← EReal.coe_add, ← EReal.coe_add, ← EReal.coe_mul]
  exact ⟨_, rfl⟩

end Cert.ConvMix

end
-- ==== Proof.LossHead.lean ====
/-
  The loss head: half the mean square error of the normalised rows, summed over the tokens, and its gradients. The functions on extended
  reals both programs' results are equal to, the reference read, and the call read point by point: 512 tokens to a point, the loss and the
  gain's gradient added up over the points.
-/
module

public import proofs.«01_k».proof.Proof.InBwd
public import proofs.«01_k».proof.Proof.InBwdKernel
public import proofs.«01_k».proof.Proof.Sums
public import proofs.«01_k».proof.Proof.Gen.Kernel13Ideal.Value
public import proofs.«01_k».proof.Proof.Gen.Reference13Ideal.Run
public import proofs.«01_k».proof.Proof.Gen.Reference13Ideal.Read
public import Idealize.ShloMosaic.Lib.Claim
public import Idealize.ShloMosaic.Lib.Pointwise

@[expose] public section

noncomputable section

namespace Cert.LossHead

open Idealize.ShloMosaic Idealize.ShloMosaic.TcCoe
open Cert.FfnBwd (k1024_f32 tok seqOf posOf seqOf_tok posOf_tok tok_seqOf_posOf reduceAdd_front)
open Cert.InBwd (meanSq root back pull back_eq xRow)

/-! ## Sums with a constant factor -/

theorem sum_mul_const {ι : Type} (s : Finset ι) (f : ι → EReal) (r : ℝ) (hr : 0 ≤ r) : ∑ k ∈ s, f k * (r : EReal) = (∑ k ∈ s, f k) * (r : EReal) := by
  induction s using Finset.cons_induction with
  | empty => simp
  | cons a s ha ih =>
    rw [Finset.sum_cons, Finset.sum_cons, ih, EReal.right_distrib_of_nonneg_of_ne_top (EReal.coe_nonneg.mpr hr) (EReal.coe_ne_top r)]

theorem half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem part1024 : Ideal.ofBits .f32 0x3A800000#32 = ((1 / 1024 : ℝ) : EReal) := by
  simp [Ideal.ofBits, Ideal.ieee, -EReal.coe_mul]
  norm_num

theorem part2048 : Ideal.ofBits .f32 0x3A000000#32 = ((1 / 2048 : ℝ) : EReal) := by
  simp [Ideal.ofBits, Ideal.ieee, -EReal.coe_mul]
  norm_num

/-! ## The results as functions of the arguments -/

section Results

variable (x0 : FVec Ideal ⟨3, ![2, 2048, 1024]⟩ .f32) (x1 : FVec Ideal ⟨1, ![1024]⟩ .f32) (x2 : FVec Ideal ⟨3, ![2, 2048, 1024]⟩ .f32)

/-- The error at a token's entry. -/
def err (q : Fin 4096) (d : Fin 1024) : EReal := xRow x0 q d * root (xRow x0 q) * x1 (ix1 d) - x2 (ix3 (seqOf q) (posOf q) d)

/-- The gradient at the normalised row times the gain. -/
def dy (q : Fin 4096) (d : Fin 1024) : EReal := err x0 x1 x2 q d * ((1 / 1024 : ℝ) : EReal)

/-- The gradient of the normalised row. -/
def gd (q : Fin 4096) (d : Fin 1024) : EReal := dy x0 x1 x2 q d * x1 (ix1 d)

/-- The gradient of the rows. -/
def dx (q : Fin 4096) (d : Fin 1024) : EReal := back (xRow x0 q) (gd x0 x1 x2 q) 0 d

/-- The gradient of the gain. -/
def dGain (d : Fin 1024) : EReal := ∑ q : Fin 4096, dy x0 x1 x2 q d * (xRow x0 q d * root (xRow x0 q))

/-- A token's squared error. -/
def sq (q : Fin 4096) : EReal := ∑ d : Fin 1024, err x0 x1 x2 q d * err x0 x1 x2 q d

/-- The loss. -/
def loss : EReal := (∑ q : Fin 4096, sq x0 x1 x2 q) * ((1 / 2048 : ℝ) : EReal)

end Results

/-! ## The reference -/

section Reference

open Cert.Reference13Ideal Cert.Reference13Ideal.Gen Cert.Reference13Ideal.Read

variable (x0 : FVec Ideal S2x2048x1024 .f32) (x1 : FVec Ideal S1024 .f32) (x2 : FVec Ideal S2x2048x1024 .f32)

theorem ref_ms (b : Fin 2) (s : Fin 2048) (z : Fin 1) : val_main_v6 (F := Ideal) x0 (ix3 b s z) = meanSq fun k => x0 (ix3 b s k) := by
  unfold meanSq
  pointwise [val_main_v6, val_main_v5, val_main_v4, val_main_v3, val_main_v2, val_main_v1, val_main_v0, val_main_cst,
    val_main_cst_0, val_main_cst_1]

theorem ref_r (b : Fin 2) (s : Fin 2048) (z : Fin 1) : val_main_v7 (F := Ideal) x0 (ix3 b s z) = root fun k => x0 (ix3 b s k) := by
  unfold root
  rw [← ref_ms x0 b s z]
  unfold val_main_v7
  generalize val_main_v6 (F := Ideal) x0 = y
  pointwise []

theorem ref_dr (b : Fin 2) (s : Fin 2048) (z : Fin 1) : val_main_v10 (F := Ideal) x0 (ix3 b s z)
    = Ideal.ofBits .f32 0xBF000000#32 * Ideal.div (root fun k => x0 (ix3 b s k)) (meanSq fun k => x0 (ix3 b s k)) := by
  have e : val_main_v10 (F := Ideal) x0 (ix3 b s z) = Ideal.ofBits .f32 0xBF000000#32
      * Ideal.div (val_main_v7 (F := Ideal) x0 (ix3 b s z)) (val_main_v6 (F := Ideal) x0 (ix3 b s z)) := by
    pointwise [val_main_v10, val_main_v9, val_main_v8, val_main_cst_2]
  rw [e, ref_r, ref_ms]

theorem ref_xh (q : Fin 4096) (d : Fin 1024) :
    val_main_v12 (F := Ideal) x0 (ix3 (seqOf q) (posOf q) d) = xRow x0 q d * root (xRow x0 q) := by
  have e : val_main_v12 (F := Ideal) x0 (ix3 (seqOf q) (posOf q) d)
      = x0 (ix3 (seqOf q) (posOf q) d) * val_main_v7 (F := Ideal) x0 (ix3 (seqOf q) (posOf q) 0) := by
    pointwise [val_main_v12, val_main_v11]
  rw [e, ref_r]
  rfl

theorem ref_err (q : Fin 4096) (d : Fin 1024) :
    val_main_v16 (F := Ideal) x0 x1 x2 (ix3 (seqOf q) (posOf q) d) = err x0 x1 x2 q d := by
  unfold err
  rw [← ref_xh]
  unfold val_main_v16 val_main_v15
  generalize val_main_v12 (F := Ideal) x0 = y
  pointwise [val_main_v14, val_main_v13]

theorem ref_dy (q : Fin 4096) (d : Fin 1024) :
    val_main_v30 (F := Ideal) x0 x1 x2 (ix3 (seqOf q) (posOf q) d) = dy x0 x1 x2 q d := by
  unfold dy
  rw [← ref_err]
  unfold val_main_v30 val_main_v19
  generalize val_main_v16 (F := Ideal) x0 x1 x2 = y
  pointwise [val_main_v29, val_main_v28, val_main_v27, val_main_v26, val_main_v25, val_main_v18, val_main_cst_3, val_main_cst_8, val_main_cst_9,
    val_main_cst_10]
  rw [k1024_f32, half, two, Ideal.div_coe (by norm_num), ← mul_assoc, ← EReal.coe_mul, ← EReal.coe_mul, mul_comm]
  refine congrArg (_ * ·) (congrArg _ ?_)
  norm_num

theorem ref_dGain (d : Fin 1024) : val_main_v55 (F := Ideal) x0 x1 x2 (ix2 0 d) = dGain x0 x1 x2 d := by
  have e : val_main_v55 (F := Ideal) x0 x1 x2 (ix2 0 d) = ∑ k : Fin 2 × Fin 2048,
      val_main_v12 (F := Ideal) x0 (ix3 k.1 k.2 d) * val_main_v30 (F := Ideal) x0 x1 x2 (ix3 k.1 k.2 d) := by
    pointwise [val_main_v55, val_main_v36, val_main_v33, val_main_v32, val_main_v31, val_main_cst_11, val_main_cst_12]
    rw [reduceAdd_front, zero_add]
    rw [Fintype.sum_eq_single ((0 : Fin 1), (0 : Fin 1)) (fun x hx => absurd (Subsingleton.elim x _) hx)]
    pointwise []
    rw [reduceAdd_front, zero_add]
    rfl
  rw [e]
  unfold dGain
  rw [← Cert.FfnBwd.sum_tok]
  refine Finset.sum_congr rfl fun k _ => ?_
  have h := ref_xh x0 (tok k.1 k.2) d
  have h' := ref_dy x0 x1 x2 (tok k.1 k.2) d
  rw [seqOf_tok, posOf_tok] at h h'
  rw [h, h', mul_comm]

theorem ref_dx (q : Fin 4096) (d : Fin 1024) :
    val_main_v50 (F := Ideal) x0 x1 x2 (ix3 (seqOf q) (posOf q) d) = dx x0 x1 x2 q d := by
  have e : ∀ (b : Fin 2) (s : Fin 2048), val_main_v50 (F := Ideal) x0 x1 x2 (ix3 b s d)
      = val_main_v30 (F := Ideal) x0 x1 x2 (ix3 b s d) * x1 (ix1 d) * val_main_v7 (F := Ideal) x0 (ix3 b s 0)
        + x0 (ix3 b s d) * (∑ z : Fin 1, Ideal.div ((∑ k : Fin 1024, x0 (ix3 b s k)
            * (val_main_v30 (F := Ideal) x0 x1 x2 (ix3 b s k) * x1 (ix1 k))) * val_main_v10 (F := Ideal) x0 (ix3 b s z))
            (Ideal.ofBits .f32 0x44800000#32))
        + (∑ z : Fin 1, Ideal.div ((∑ k : Fin 1024, x0 (ix3 b s k)
            * (val_main_v30 (F := Ideal) x0 x1 x2 (ix3 b s k) * x1 (ix1 k))) * val_main_v10 (F := Ideal) x0 (ix3 b s z))
            (Ideal.ofBits .f32 0x44800000#32)) * x0 (ix3 b s d) := by
    intro b s
    pointwise [val_main_v50, val_main_v49, val_main_v48, val_main_v47, val_main_v46, val_main_v45, val_main_v44, val_main_v43,
      val_main_v42, val_main_v41, val_main_v40, val_main_v39, val_main_v38, val_main_v37, val_main_v35, val_main_v34,
      val_main_v13, val_main_cst_13, val_main_cst_14, val_main_cst_15]
  unfold dx
  rw [← back_eq, zero_add, e, Fintype.sum_eq_single (0 : Fin 1) (fun x hx => absurd (Subsingleton.elim x _) hx), ref_r, ref_dr]
  simp only [ref_dy]
  rfl

theorem ref_res_dx (q : Fin 4096) (d : Fin 1024) : val_main_v52 (F := Ideal) x0 x1 x2 (ix2 q d) = dx x0 x1 x2 q d := by
  rw [← ref_dx]
  pointwise [val_main_v52]
  rfl

theorem ref_res_dxb (q : Fin 4096) (d : Fin 1024) : val_main_v54 (F := Ideal) x0 x1 x2 (ix2 q d) = dx x0 x1 x2 q d := by
  rw [← ref_dx]
  pointwise [val_main_v54, val_main_v53]
  rfl

theorem ref_loss (l : Fin 128) : val_main_v51 (F := Ideal) x0 x1 x2 (ix2 0 l) = loss x0 x1 x2 := by
  have e : val_main_v51 (F := Ideal) x0 x1 x2 (ix2 0 l) = Ideal.ofBits .f32 0x3F000000#32 * ∑ k : Fin 2 × Fin 2048,
      Ideal.div (∑ d : Fin 1024, val_main_v16 (F := Ideal) x0 x1 x2 (ix3 k.1 k.2 d) * val_main_v16 (F := Ideal) x0 x1 x2 (ix3 k.1 k.2 d))
        (Ideal.ofBits .f32 0x44800000#32) := by
    pointwise [val_main_v51, val_main_v24, val_main_v23, val_main_v22, val_main_v21, val_main_v20, val_main_v17, val_main_cst_4, val_main_cst_5,
      val_main_cst_6, val_main_cst_7]
    rw [Fintype.sum_prod_type]
  rw [e]
  have h : ∀ k : Fin 2 × Fin 2048, ∑ d : Fin 1024, val_main_v16 (F := Ideal) x0 x1 x2 (ix3 k.1 k.2 d) * val_main_v16 (F := Ideal) x0 x1 x2 (ix3 k.1 k.2 d)
      = sq x0 x1 x2 (tok k.1 k.2) := by
    intro k
    refine Finset.sum_congr rfl fun d _ => ?_
    have h := ref_err x0 x1 x2 (tok k.1 k.2) d
    rw [seqOf_tok, posOf_tok] at h
    rw [h]
  simp only [h]
  rw [Cert.FfnBwd.sum_tok (fun q => Ideal.div (sq x0 x1 x2 q) (Ideal.ofBits .f32 0x44800000#32)), k1024_f32, half]
  unfold loss
  simp only [Ideal.div_coe (show (1024 : ℝ) ≠ 0 by norm_num)]
  rw [sum_mul_const _ _ _ (by norm_num), mul_comm, mul_assoc, ← EReal.coe_mul]
  refine congrArg (_ * ·) (congrArg _ ?_)
  norm_num

end Reference

open Cert.Kernel13Ideal Cert.Kernel13Ideal.Gen
open Idealize.ShloMosaic.Pipeline (Dat)

/-! ## What the body writes -/

section Body

open Idealize.ShloMosaic.Tactic

variable {F : FTy → Type} [FloatOps F]

/-- A point's part of the gain's gradient. -/
def gainPart (x0 : Vec F S512x1024 .f32) (x1 : Vec F S1x1024 .f32) (x2 : Vec F S512x1024 .f32) : FVec F S1x1024 .f32 :=
  k0_pay2 (k0_pay7 x0) (k0_pay11 x0 x1 x2)

/-- A point's part of the loss. -/
def lossPart (x0 : Vec F S512x1024 .f32) (x1 : Vec F S1x1024 .f32) (x2 : Vec F S512x1024 .f32) : FVec F S1x128 .f32 := k0_pay10 x0 x1 x2

theorem out_A_3 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) :
    out0_A_3 (F := F) c i arg1 h1 arg2 h2 arg3 h3 arg4 h4 arg5 h5 arg6 h6 arg7 h7 hc0 hc1 x0 x1 x2 = lossPart x0 x1 x2 := by
  unfold out0_A_3
  rw [View.read_writes_eq_canon _ _ _ (cover0_A_3 c i arg1 h1 arg2 h2 arg3 h3 arg4 h4 arg5 h5 arg6 h6 arg7 h7 hc0 hc1 x0 x1 x2)]
  unfold kernelRun0_A
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]
  rfl

theorem out_A_4 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) :
    out0_A_4 (F := F) c i arg1 h1 arg2 h2 arg3 h3 arg4 h4 arg5 h5 arg6 h6 arg7 h7 hc0 hc1 x0 x1 x2 = k0_pay12 x0 x1 x2 := by
  unfold out0_A_4
  rw [View.read_writes_eq_canon _ _ _ (cover0_A_4 c i arg1 h1 arg2 h2 arg3 h3 arg4 h4 arg5 h5 arg6 h6 arg7 h7 hc0 hc1 x0 x1 x2)]
  unfold kernelRun0_A
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]

theorem out_A_5 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) :
    out0_A_5 (F := F) c i arg1 h1 arg2 h2 arg3 h3 arg4 h4 arg5 h5 arg6 h6 arg7 h7 hc0 hc1 x0 x1 x2 = truncf .bf16 (k0_pay12 x0 x1 x2) bitsLt_bf16_f32 := by
  unfold out0_A_5
  rw [View.read_writes_eq_canon _ _ _ (cover0_A_5 c i arg1 h1 arg2 h2 arg3 h3 arg4 h4 arg5 h5 arg6 h6 arg7 h7 hc0 hc1 x0 x1 x2)]
  unfold kernelRun0_A
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]
  rfl

theorem out_A_6 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) :
    out0_A_6 (F := F) c i arg1 h1 arg2 h2 arg3 h3 arg4 h4 arg5 h5 arg6 h6 arg7 h7 hc0 hc1 x0 x1 x2 = gainPart x0 x1 x2 := by
  unfold out0_A_6
  rw [View.read_writes_eq_canon _ _ _ (cover0_A_6 c i arg1 h1 arg2 h2 arg3 h3 arg4 h4 arg5 h5 arg6 h6 arg7 h7 hc0 hc1 x0 x1 x2)]
  unfold kernelRun0_A
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]
  rfl

theorem out_B_3 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) (xo3 : Vec F S1x128 .f32) (xo6 : Vec F S1x1024 .f32) :
    out0_B_3 (F := F) c i arg1 h1 arg2 h2 arg3 h3 arg4 h4 arg5 h5 arg6 h6 arg7 h7 hc0 hc1 x0 x1 x2 xo3 xo6 = addf xo3 (lossPart x0 x1 x2) := by
  unfold out0_B_3
  rw [View.read_writes_eq_canon _ _ _ (cover0_B_3 c i arg1 h1 arg2 h2 arg3 h3 arg4 h4 arg5 h5 arg6 h6 arg7 h7 hc0 hc1 x0 x1 x2 xo3 xo6)]
  unfold kernelRun0_B
  dsimp only
  sl_unfold_words
  rw [View.canon_unit_zero Cert.FfnBwd.hz2]
  simp only [View.readAt_eq_ld, h1.read_unread, h2.read_unread, h3.read_unread, h4.read_unread, h7.read_unread]
  unfold k0_pay4
  dsimp only
  rw [shapeCast_self]
  simp only [View.ld_unit_zero (S := S512x1024) Cert.FfnBwd.hz2, View.ld_unit_zero (S := S1x128) Cert.FfnBwd.hz2,
    View.ld_unit_zero (S := S1x1024) Cert.FfnBwd.hz2]
  rfl

theorem out_B_4 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) (xo3 : Vec F S1x128 .f32) (xo6 : Vec F S1x1024 .f32) :
    out0_B_4 (F := F) c i arg1 h1 arg2 h2 arg3 h3 arg4 h4 arg5 h5 arg6 h6 arg7 h7 hc0 hc1 x0 x1 x2 xo3 xo6 = k0_pay12 x0 x1 x2 := by
  unfold out0_B_4
  rw [View.read_writes_eq_canon _ _ _ (cover0_B_4 c i arg1 h1 arg2 h2 arg3 h3 arg4 h4 arg5 h5 arg6 h6 arg7 h7 hc0 hc1 x0 x1 x2 xo3 xo6)]
  unfold kernelRun0_B
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]

theorem out_B_5 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) (xo3 : Vec F S1x128 .f32) (xo6 : Vec F S1x1024 .f32) :
    out0_B_5 (F := F) c i arg1 h1 arg2 h2 arg3 h3 arg4 h4 arg5 h5 arg6 h6 arg7 h7 hc0 hc1 x0 x1 x2 xo3 xo6 = truncf .bf16 (k0_pay12 x0 x1 x2) bitsLt_bf16_f32 := by
  unfold out0_B_5
  rw [View.read_writes_eq_canon _ _ _ (cover0_B_5 c i arg1 h1 arg2 h2 arg3 h3 arg4 h4 arg5 h5 arg6 h6 arg7 h7 hc0 hc1 x0 x1 x2 xo3 xo6)]
  unfold kernelRun0_B
  dsimp only
  sl_unfold_words
  rw [View.canon_unit_zero Cert.FfnBwd.hz2]
  simp only [View.readAt_eq_ld, h1.read_unread, h2.read_unread, h3.read_unread, h4.read_unread, h7.read_unread]
  simp only [View.ld_unit_zero (S := S512x1024) Cert.FfnBwd.hz2, View.ld_unit_zero (S := S1x128) Cert.FfnBwd.hz2,
    View.ld_unit_zero (S := S1x1024) Cert.FfnBwd.hz2]
  rfl

theorem out_B_6 (c : Dev nD) (i : grid0.Coords) (arg1 arg2 arg3 arg4 arg5 arg6 arg7) (h1 h2 h3 h4 h5 h6 h7) (hc0 hc1)
    (x0 : Vec F S512x1024 .f32) (x1 : Vec F S1x1024 .f32) (x2 : Vec F S512x1024 .f32) (xo3 : Vec F S1x128 .f32) (xo6 : Vec F S1x1024 .f32) :
    out0_B_6 (F := F) c i arg1 h1 arg2 h2 arg3 h3 arg4 h4 arg5 h5 arg6 h6 arg7 h7 hc0 hc1 x0 x1 x2 xo3 xo6 = addf xo6 (gainPart x0 x1 x2) := by
  unfold out0_B_6
  rw [View.read_writes_eq_canon _ _ _ (cover0_B_6 c i arg1 h1 arg2 h2 arg3 h3 arg4 h4 arg5 h5 arg6 h6 arg7 h7 hc0 hc1 x0 x1 x2 xo3 xo6)]
  unfold kernelRun0_B
  dsimp only
  sl_unfold_words
  rw [View.canon_unit_zero Cert.FfnBwd.hz2]
  simp only [View.readAt_eq_ld, h1.read_unread, h2.read_unread, h3.read_unread, h4.read_unread, h7.read_unread]
  unfold k0_pay3
  dsimp only
  rw [shapeCast_self]
  simp only [View.ld_unit_zero (S := S512x1024) Cert.FfnBwd.hz2, View.ld_unit_zero (S := S1x128) Cert.FfnBwd.hz2,
    View.ld_unit_zero (S := S1x1024) Cert.FfnBwd.hz2]
  rfl

end Body

/-! ## What a point leaves -/

section Outs

variable {F : FTy → Type} [FloatOps F] (m : (ℓ : Loc nD τ sig) → Buf (Elt F) ℓ) (c : Dev nD)

theorem N_eq : cfg0.N = 8 := N_0

/-- The rows' gradient at a point. -/
def dxBlock (t : Fin cfg0.N) : FVec F S512x1024 .f32 := k0_pay12 (iblk m c 0 t) (iblk m c 1 t) (iblk m c 2 t)

/-- The gain's gradient over a point's rows. -/
def gainBlock (t : Fin cfg0.N) : FVec F S1x1024 .f32 := gainPart (iblk m c 0 t) (iblk m c 1 t) (iblk m c 2 t)

/-- The loss over a point's rows. -/
def lossBlock (t : Fin cfg0.N) : FVec F S1x128 .f32 := lossPart (iblk m c 0 t) (iblk m c 1 t) (iblk m c 2 t)

theorem outs_first (t : Fin cfg0.N) (h : t.val = 0) :
    outsAt0 m c t.val t.isLt = (lossBlock m c t, dxBlock m c t, truncf .bf16 (dxBlock m c t) bitsLt_bf16_f32, gainBlock m c t) := by
  rw [outsAt0_A m c t (by omega) (by omega), out_A_3, out_A_4, out_A_5, out_A_6]
  rfl

theorem outs_later (t : Fin cfg0.N) (h : 1 ≤ t.val) :
    outsAt0 m c t.val t.isLt = (addf (outsAt0 m c (t.val - 1) (Nat.lt_of_le_of_lt (Nat.sub_le _ _) t.isLt)).1 (lossBlock m c t), dxBlock m c t,
      truncf .bf16 (dxBlock m c t) bitsLt_bf16_f32,
      addf (outsAt0 m c (t.val - 1) (Nat.lt_of_le_of_lt (Nat.sub_le _ _) t.isLt)).2.2.2 (gainBlock m c t)) := by
  have hN := N_eq
  have ht := t.isLt
  rw [outsAt0_B m c t (by omega) h, out_B_3, out_B_4, out_B_5, out_B_6]
  rfl

theorem outs_4 (t : Fin cfg0.N) : (outsAt0 m c t.val t.isLt).2.1 = dxBlock m c t := by
  rcases Nat.eq_zero_or_pos t.val with h | h
  · rw [outs_first m c t h]
  · rw [outs_later m c t h]

theorem outs_5 (t : Fin cfg0.N) : (outsAt0 m c t.val t.isLt).2.2.1 = truncf .bf16 (dxBlock m c t) bitsLt_bf16_f32 := by
  rcases Nat.eq_zero_or_pos t.val with h | h
  · rw [outs_first m c t h]
  · rw [outs_later m c t h]

end Outs

/-- The accumulated loss after point `k`. -/
theorem outs_3 (m : (ℓ : Loc nD τ sig) → Buf (Elt Ideal) ℓ) (c : Dev nD) (j : S1x128.Idx) : ∀ (k : ℕ) (hk : k < cfg0.N),
    ((outsAt0 m c k hk).1 : FVec Ideal S1x128 .f32) j = ∑ t : Fin (k + 1), lossBlock m c ⟨t.val, by omega⟩ j
  | 0, hk => by
    have := outs_first m c ⟨0, hk⟩ rfl
    rw [Fin.sum_univ_one]
    exact congrFun (congrArg (fun o => o.1) this) j
  | k + 1, hk => by
    have := outs_later m c ⟨k + 1, hk⟩ (by show 1 ≤ k + 1; omega)
    rw [Fin.sum_univ_castSucc]
    refine (congrFun (congrArg (fun o => o.1) this) j).trans ?_
    exact congrArg (· + _) (outs_3 m c j k (by omega))

/-- The accumulated gradient of the gain after point `k`. -/
theorem outs_6 (m : (ℓ : Loc nD τ sig) → Buf (Elt Ideal) ℓ) (c : Dev nD) (j : S1x1024.Idx) : ∀ (k : ℕ) (hk : k < cfg0.N),
    ((outsAt0 m c k hk).2.2.2 : FVec Ideal S1x1024 .f32) j = ∑ t : Fin (k + 1), gainBlock m c ⟨t.val, by omega⟩ j
  | 0, hk => by
    have := outs_first m c ⟨0, hk⟩ rfl
    rw [Fin.sum_univ_one]
    exact congrFun (congrArg (fun o => o.2.2.2) this) j
  | k + 1, hk => by
    have := outs_later m c ⟨k + 1, hk⟩ (by show 1 ≤ k + 1; omega)
    rw [Fin.sum_univ_castSucc]
    refine (congrFun (congrArg (fun o => o.2.2.2) this) j).trans ?_
    exact congrArg (· + _) (outs_6 m c j k (by omega))

/-! ## The payloads on extended reals -/

section Payloads

variable (x0 : Vec Ideal S512x1024 .f32) (x1 : Vec Ideal S1x1024 .f32) (x2 : Vec Ideal S512x1024 .f32)

theorem pay6_val (r : Fin 512) : k0_pay6 (F := Ideal) x0 (ix2 r 0) = Ideal.rsqrt (Ideal.div (∑ d : Fin 1024, x0 (ix2 r d) * x0 (ix2 r d)) (Ideal.ofBits .f32 0x44800000#32)
      + Ideal.ofBits .f32 0x358637BD#32) := by
  pointwise [k0_pay6, k0_pay5]

theorem pay7_val (r : Fin 512) (d : Fin 1024) : k0_pay7 (F := Ideal) x0 (ix2 r d) = x0 (ix2 r d) * k0_pay6 (F := Ideal) x0 (ix2 r 0) := by
  unfold k0_pay7 k0_pay5
  generalize k0_pay6 (F := Ideal) x0 = y
  pointwise []

theorem pay9_val (r : Fin 512) (d : Fin 1024) :
    k0_pay9 (F := Ideal) x0 x1 x2 (ix2 r d) = k0_pay7 (F := Ideal) x0 (ix2 r d) * x1 (ix2 0 d) - x2 (ix2 r d) := by
  unfold k0_pay9 k0_pay8
  generalize k0_pay7 (F := Ideal) x0 = y
  pointwise []

theorem pay11_val (r : Fin 512) (d : Fin 1024) :
    k0_pay11 (F := Ideal) x0 x1 x2 (ix2 r d) = k0_pay9 (F := Ideal) x0 x1 x2 (ix2 r d) * ((1 / 1024 : ℝ) : EReal) := by
  rw [← part1024]
  unfold k0_pay11
  generalize k0_pay9 (F := Ideal) x0 x1 x2 = y
  pointwise []

theorem pay12_val (r : Fin 512) (d : Fin 1024) :
    k0_pay12 (F := Ideal) x0 x1 x2 (ix2 r d) = k0_pay6 (F := Ideal) x0 (ix2 r 0)
      * (k0_pay11 (F := Ideal) x0 x1 x2 (ix2 r d) * x1 (ix2 0 d) - k0_pay7 (F := Ideal) x0 (ix2 r d)
        * Ideal.div (∑ k : Fin 1024, k0_pay11 (F := Ideal) x0 x1 x2 (ix2 r k) * x1 (ix2 0 k) * k0_pay7 (F := Ideal) x0 (ix2 r k))
          (Ideal.ofBits .f32 0x44800000#32)) := by
  unfold k0_pay12 k0_pay8
  generalize k0_pay11 (F := Ideal) x0 x1 x2 = y11
  generalize k0_pay7 (F := Ideal) x0 = y7
  generalize k0_pay6 (F := Ideal) x0 = y6
  pointwise []

theorem gainPart_val (d : Fin 1024) :
    gainPart (F := Ideal) x0 x1 x2 (ix2 0 d) = ∑ r : Fin 512, k0_pay11 (F := Ideal) x0 x1 x2 (ix2 r d) * k0_pay7 (F := Ideal) x0 (ix2 r d) := by
  unfold gainPart k0_pay2
  generalize k0_pay11 (F := Ideal) x0 x1 x2 = y11
  generalize k0_pay7 (F := Ideal) x0 = y7
  pointwise []

theorem lossPart_val (l : Fin 128) : lossPart (F := Ideal) x0 x1 x2 (ix2 0 l)
    = (∑ r : Fin 512, ∑ d : Fin 1024, k0_pay9 (F := Ideal) x0 x1 x2 (ix2 r d) * k0_pay9 (F := Ideal) x0 x1 x2 (ix2 r d)) * ((1 / 2048 : ℝ) : EReal) := by
  rw [← part2048, mul_comm]
  unfold lossPart k0_pay10
  generalize k0_pay9 (F := Ideal) x0 x1 x2 = y
  pointwise []

end Payloads

/-! ## The blocks a point loads -/

section Loads

variable (m : (ℓ : Loc nD τ sig) → Buf (Elt Ideal) ℓ) (c : Dev nD)

theorem win_facts : ∀ t : Fin grid0.N, (win0_0.index t 0 = t.val ∧ win0_0.index t 1 = 0) ∧ (∀ a, win0_1.index t a = 0) ∧
    (win0_2.index t 0 = t.val ∧ win0_2.index t 1 = 0) ∧ (∀ a, win0_3.index t a = 0) ∧
    (win0_4.index t 0 = t.val ∧ win0_4.index t 1 = 0) ∧ (win0_5.index t 0 = t.val ∧ win0_5.index t 1 = 0) ∧
    (∀ a, win0_6.index t a = 0) := by
  decide +kernel

/-- Token `r` of the block of point `t`. -/
def row (t : Fin cfg0.N) (r : Fin 512) : Fin 4096 := ⟨512 * t.val + r.val, by have := t.isLt; have := N_eq; omega⟩

theorem load_0 (t : Fin cfg0.N) (r : Fin 512) (k : Fin 1024) :
    (iblk m c 0 t : Vec Ideal S512x1024 .f32) (ix2 r k) = m (c, Proc.tc.devRef main_arg0) (ix3 (seqOf (row t r)) (posOf (row t r)) k) := by
  have e : (iblk m c 0 t : Vec Ideal S512x1024 .f32) (ix2 r k) = (V m c main_v0 : FVec Ideal S4096x1024 .f32) (ix2 (row t r) k) := by
    obtain ⟨h0, h1⟩ := (win_facts t).1
    refine congrArg (V m c main_v0 : FVec Ideal S4096x1024 .f32) (a₁ := (win0_0.rect t).emb (ix2 r k)) (funext fun a => Fin.ext ?_)
    rw [win0_0.rect_emb_val]
    fin_cases a
    · show win0_0.index t 0 * 512 + r.val = 512 * t.val + r.val; omega
    · show win0_0.index t 1 * 1024 + k.val = k.val; omega
  rw [e]
  entry_read
  pointwise []
  rfl

theorem load_1 (t : Fin cfg0.N) (d : Fin 1024) :
    (iblk m c 1 t : Vec Ideal S1x1024 .f32) (ix2 0 d) = m (c, Proc.tc.devRef main_arg1) (ix1 d) := by
  have e : (iblk m c 1 t : Vec Ideal S1x1024 .f32) (ix2 0 d) = (V m c main_v1 : FVec Ideal S1x1024 .f32) (ix2 0 d) := by
    have hz := (win_facts t).2.1
    exact congrArg (V m c main_v1 : FVec Ideal S1x1024 .f32) (a₁ := (win0_1.rect t).emb (ix2 0 d))
      (funext fun a => Fin.ext (win0_1.rect_emb_val_of_index_zero t a (hz a) (ix2 0 d)))
  rw [e]
  entry_read
  pointwise []

theorem load_2 (t : Fin cfg0.N) (r : Fin 512) (k : Fin 1024) :
    (iblk m c 2 t : Vec Ideal S512x1024 .f32) (ix2 r k) = m (c, Proc.tc.devRef main_arg2) (ix3 (seqOf (row t r)) (posOf (row t r)) k) := by
  have e : (iblk m c 2 t : Vec Ideal S512x1024 .f32) (ix2 r k) = (V m c main_v2 : FVec Ideal S4096x1024 .f32) (ix2 (row t r) k) := by
    obtain ⟨h0, h1⟩ := (win_facts t).2.2.1
    refine congrArg (V m c main_v2 : FVec Ideal S4096x1024 .f32) (a₁ := (win0_2.rect t).emb (ix2 r k)) (funext fun a => Fin.ext ?_)
    rw [win0_2.rect_emb_val]
    fin_cases a
    · show win0_2.index t 0 * 512 + r.val = 512 * t.val + r.val; omega
    · show win0_2.index t 1 * 1024 + k.val = k.val; omega
  rw [e]
  entry_read
  pointwise []
  rfl

/-- A token's row, of the arguments in memory. -/
def xOf (q : Fin 4096) (d : Fin 1024) : EReal := xRow (m (c, Proc.tc.devRef main_arg0)) q d

/-- The error, of the arguments in memory. -/
def errOf (q : Fin 4096) (d : Fin 1024) : EReal :=
  err (m (c, Proc.tc.devRef main_arg0)) (m (c, Proc.tc.devRef main_arg1)) (m (c, Proc.tc.devRef main_arg2)) q d

/-- The gradient of the rows, of the arguments in memory. -/
def dxOf (q : Fin 4096) (d : Fin 1024) : EReal :=
  dx (m (c, Proc.tc.devRef main_arg0)) (m (c, Proc.tc.devRef main_arg1)) (m (c, Proc.tc.devRef main_arg2)) q d

theorem point_x (t : Fin cfg0.N) (r : Fin 512) (d : Fin 1024) :
    (iblk m c 0 t : Vec Ideal S512x1024 .f32) (ix2 r d) = xOf m c (row t r) d := load_0 m c t r d

theorem point_r (t : Fin cfg0.N) (r : Fin 512) : k0_pay6 (F := Ideal) (iblk m c 0 t) (ix2 r 0) = root (xOf m c (row t r)) := by
  rw [pay6_val]
  simp only [point_x m c t]
  rfl

theorem point_xh (t : Fin cfg0.N) (r : Fin 512) (d : Fin 1024) :
    k0_pay7 (F := Ideal) (iblk m c 0 t) (ix2 r d) = xOf m c (row t r) d * root (xOf m c (row t r)) := by
  rw [pay7_val, point_x m c t, point_r m c t]

theorem point_err (t : Fin cfg0.N) (r : Fin 512) (d : Fin 1024) :
    k0_pay9 (F := Ideal) (iblk m c 0 t) (iblk m c 1 t) (iblk m c 2 t) (ix2 r d) = errOf m c (row t r) d := by
  rw [pay9_val, point_xh m c t, load_1 m c t, load_2 m c t]
  rfl

theorem point_dy (t : Fin cfg0.N) (r : Fin 512) (d : Fin 1024) :
    k0_pay11 (F := Ideal) (iblk m c 0 t) (iblk m c 1 t) (iblk m c 2 t) (ix2 r d) = errOf m c (row t r) d * ((1 / 1024 : ℝ) : EReal) := by
  rw [pay11_val, point_err m c t]

theorem point_dx (t : Fin cfg0.N) (r : Fin 512) (d : Fin 1024) : dxBlock m c t (ix2 r d) = dxOf m c (row t r) d := by
  unfold dxBlock
  rw [pay12_val]
  simp only [point_dy m c t, point_r m c t, point_xh m c t, load_1 m c t]
  unfold dxOf dx back
  rw [add_zero]
  rfl

theorem point_gain (t : Fin cfg0.N) (d : Fin 1024) :
    gainBlock m c t (ix2 0 d) = ∑ r : Fin 512, errOf m c (row t r) d * ((1 / 1024 : ℝ) : EReal) * (xOf m c (row t r) d * root (xOf m c (row t r))) := by
  unfold gainBlock
  rw [gainPart_val]
  simp only [point_dy m c t, point_xh m c t]

theorem point_loss (t : Fin cfg0.N) (l : Fin 128) :
    lossBlock m c t (ix2 0 l) = (∑ r : Fin 512, ∑ d : Fin 1024, errOf m c (row t r) d * errOf m c (row t r) d) * ((1 / 2048 : ℝ) : EReal) := by
  unfold lossBlock
  rw [lossPart_val]
  simp only [point_err m c t]

/-! ## The result arrays -/

/-- The point that owns a token. -/
def ptOf (q : Fin 4096) : Fin cfg0.N := ⟨q.val / 512, by rw [N_eq]; omega⟩

/-- A token's row in its point's block. -/
def rowOf (q : Fin 4096) : Fin 512 := ⟨q.val % 512, by omega⟩

theorem row_ptOf (q : Fin 4096) : row (ptOf q) (rowOf q) = q := by
  apply Fin.ext
  simp only [row, ptOf, rowOf]
  omega

theorem emb4 (t : Fin cfg0.N) (r : Fin 512) (d : Fin 1024) : ((cfg0.win 4).blk t).view.emb (ix2 r d) = ix2 (row t r) d := by
  obtain ⟨h0, h1⟩ := (win_facts t).2.2.2.2.1
  refine funext fun a => Fin.ext ?_
  refine (win0_4.rect_emb_val t (ix2 r d) a).trans ?_
  fin_cases a
  · show win0_4.index t 0 * 512 + r.val = 512 * t.val + r.val; omega
  · show win0_4.index t 1 * 1024 + d.val = d.val; omega

theorem emb5 (t : Fin cfg0.N) (r : Fin 512) (d : Fin 1024) : ((cfg0.win 5).blk t).view.emb (ix2 r d) = ix2 (row t r) d := by
  obtain ⟨h0, h1⟩ := (win_facts t).2.2.2.2.2.1
  refine funext fun a => Fin.ext ?_
  refine (win0_5.rect_emb_val t (ix2 r d) a).trans ?_
  fin_cases a
  · show win0_5.index t 0 * 512 + r.val = 512 * t.val + r.val; omega
  · show win0_5.index t 1 * 1024 + d.val = d.val; omega

theorem cut4_val (t : Fin cfg0.N) (X : Vec Ideal S512x1024 .f32) (r : Fin 512) (d : Fin 1024) :
    (cfg0.win 4).cut (grid0.coords t) X (ix2 r d) = X (ix2 r d) :=
  congrArg X (funext fun a => Fin.ext rfl)

theorem cut5_val (t : Fin cfg0.N) (X : Vec Ideal S512x1024 .bf16) (r : Fin 512) (d : Fin 1024) :
    (cfg0.win 5).cut (grid0.coords t) X (ix2 r d) = X (ix2 r d) :=
  congrArg X (funext fun a => Fin.ext rfl)

theorem flushed4_val (t : Fin cfg0.N) (r : Fin 512) (d : Fin 1024) :
    ((dats m 0 c).flushed 4 t : Vec Ideal S512x1024 .f32) (ix2 r d) = dxOf m c (row t r) d := by
  rw [Value.flushed4, outs_4]
  exact (cut4_val t (dxBlock m c t) r d).trans (point_dx m c t r d)

theorem flushed5_val (t : Fin cfg0.N) (r : Fin 512) (d : Fin 1024) :
    ((dats m 0 c).flushed 5 t : Vec Ideal S512x1024 .bf16) (ix2 r d) = dxOf m c (row t r) d := by
  rw [Value.flushed5, outs_5]
  exact (cut5_val t (truncf .bf16 (dxBlock m c t) bitsLt_bf16_f32) r d).trans (point_dx m c t r d)

theorem kernel_4 (q : Fin 4096) (d : Fin 1024) : ((dats m 0 c).arrAt 4 cfg0.N : FVec Ideal S4096x1024 .f32) (ix2 q d) = dxOf m c q d := by
  have h := (dats m 0 c).arrAt_emb_eq_flushed 4 Value.disjoint4 (ptOf q) (flush0_4 _) (ix2 (rowOf q) d)
  rw [emb4, row_ptOf] at h
  refine h.trans ((flushed4_val m c (ptOf q) (rowOf q) d).trans ?_)
  rw [row_ptOf]

theorem kernel_5 (q : Fin 4096) (d : Fin 1024) : ((dats m 0 c).arrAt 5 cfg0.N : FVec Ideal S4096x1024 .bf16) (ix2 q d) = dxOf m c q d := by
  have h := (dats m 0 c).arrAt_emb_eq_flushed 5 Value.disjoint5 (ptOf q) (flush0_5 _) (ix2 (rowOf q) d)
  rw [emb5, row_ptOf] at h
  refine h.trans ((flushed5_val m c (ptOf q) (rowOf q) d).trans ?_)
  rw [row_ptOf]

/-- The last point. -/
def last : Fin cfg0.N := ⟨7, by rw [N_eq]; omega⟩

theorem disjoint3 : ∀ t t' : Fin cfg0.N, (cfg0.win 3).flush t = true → (cfg0.win 3).flush t' = true → t ≠ t' →
    Disjoint ((cfg0.win 3).blk t).view.set ((cfg0.win 3).blk t').view.set := fun t t' h h' hne =>
  absurd (Fin.ext (by
    have := (flush0_3 t).mp h; have := (flush0_3 t').mp h'; have := t.isLt; have := t'.isLt; have := N_eq; omega)) hne

theorem disjoint6 : ∀ t t' : Fin cfg0.N, (cfg0.win 6).flush t = true → (cfg0.win 6).flush t' = true → t ≠ t' →
    Disjoint ((cfg0.win 6).blk t).view.set ((cfg0.win 6).blk t').view.set := fun t t' h h' hne =>
  absurd (Fin.ext (by
    have := (flush0_6 t).mp h; have := (flush0_6 t').mp h'; have := t.isLt; have := t'.isLt; have := N_eq; omega)) hne

theorem kernel_3 (l : Fin 128) : ((dats m 0 c).arrAt 3 cfg0.N : FVec Ideal S1x128 .f32) (ix2 0 l)
    = loss (m (c, Proc.tc.devRef main_arg0)) (m (c, Proc.tc.devRef main_arg1)) (m (c, Proc.tc.devRef main_arg2)) := by
  have h := (dats m 0 c).arrAt_emb_eq_flushed 3 disjoint3 last ((flush0_3 last).mpr rfl) (ix2 0 l)
  have hi : ((cfg0.win 3).blk last).view.emb (ix2 0 l) = ix2 0 l := by
    have hz := (win_facts last).2.2.2.1
    exact funext fun a => Fin.ext (win0_3.rect_emb_val_of_index_zero last a (hz a) (ix2 0 l))
  rw [hi, Value.flushed3] at h
  refine h.trans ?_
  refine (outs_3 m c (ix2 0 l) 7 last.isLt).trans ?_
  unfold loss
  rw [← Cert.InBwd.sum_rows, ← sum_mul_const _ _ _ (by norm_num)]
  exact Finset.sum_congr rfl fun t _ => point_loss m c _ l

theorem kernel_6 (d : Fin 1024) : ((dats m 0 c).arrAt 6 cfg0.N : FVec Ideal S1x1024 .f32) (ix2 0 d)
    = dGain (m (c, Proc.tc.devRef main_arg0)) (m (c, Proc.tc.devRef main_arg1)) (m (c, Proc.tc.devRef main_arg2)) d := by
  have h := (dats m 0 c).arrAt_emb_eq_flushed 6 disjoint6 last ((flush0_6 last).mpr rfl) (ix2 0 d)
  have hi : ((cfg0.win 6).blk last).view.emb (ix2 0 d) = ix2 0 d := by
    have hz := (win_facts last).2.2.2.2.2.2
    exact funext fun a => Fin.ext (win0_6.rect_emb_val_of_index_zero last a (hz a) (ix2 0 d))
  rw [hi, Value.flushed6] at h
  refine h.trans ?_
  refine (outs_6 m c (ix2 0 d) 7 last.isLt).trans ?_
  unfold dGain
  rw [← Cert.InBwd.sum_rows]
  exact Finset.sum_congr rfl fun t _ => point_gain m c _ d

end Loads

end Cert.LossHead

end
-- ==== Proof.AdamW.lean ====
/-
  AdamW on the output projection's weights: each grid point sums the parts of one layer's gradient and steps its moments.
-/
module

public import proofs.«01_k».proof.Proof.Sums
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.Pointwise

@[expose] public section

noncomputable section

namespace Cert.AdamW

open Idealize.ShloMosaic Cert.Kernel14Ideal Cert.Kernel14Ideal.Gen Idealize.ShloMosaic.TcCoe
open Idealize.ShloMosaic.Tactic

section Body

variable {F : FTy → Type} [FloatOps F]

/-- The parts of one layer's gradient, summed. -/
def grad (x : Vec F S8x128x1024 .bf16) : FVec F S1x128x1024 .f32 :=
  k0_pay4 (k0_pay2 (View.ld x (Rect.unit (s := S8x128x1024) ![0, 0, 0] S1x128x1024.size inb_S8x128x1024_S1x128x1024_0_0_0))
    (View.ld x (Rect.unit (s := S8x128x1024) ![1, 0, 0] S1x128x1024.size inb_S8x128x1024_S1x128x1024_1_0_0))
    (View.ld x (Rect.unit (s := S8x128x1024) ![2, 0, 0] S1x128x1024.size inb_S8x128x1024_S1x128x1024_2_0_0))
    (View.ld x (Rect.unit (s := S8x128x1024) ![3, 0, 0] S1x128x1024.size inb_S8x128x1024_S1x128x1024_3_0_0))
    (View.ld x (Rect.unit (s := S8x128x1024) ![4, 0, 0] S1x128x1024.size inb_S8x128x1024_S1x128x1024_4_0_0))
    (View.ld x (Rect.unit (s := S8x128x1024) ![5, 0, 0] S1x128x1024.size inb_S8x128x1024_S1x128x1024_5_0_0))
    (View.ld x (Rect.unit (s := S8x128x1024) ![6, 0, 0] S1x128x1024.size inb_S8x128x1024_S1x128x1024_6_0_0))
    (View.ld x (Rect.unit (s := S8x128x1024) ![7, 0, 0] S1x128x1024.size inb_S8x128x1024_S1x128x1024_7_0_0)))

/-- The step of the weights. -/
def delta (g x2 x3 x4 : Vec F S1x128x1024 .f32) : FVec F S1x128x1024 .f32 := k0_pay1 (k0_pay7 g x3) (k0_pay8 g x4) k0_pay11 x2

theorem out_A_5 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_A_5 (F := F) c i a2 h2 a3 h3 a4 h4 a5 h5 a6 h6 a7 h7 a8 h8 a9 h9 a10 h10 hc0 hc1 x0 x1 x2 x3 x4 = grad x0 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  rfl

theorem out_A_6 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_A_6 (F := F) c i a2 h2 a3 h3 a4 h4 a5 h5 a6 h6 a7 h7 a8 h8 a9 h9 a10 h10 hc0 hc1 x0 x1 x2 x3 x4 = delta (grad x0) x2 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

theorem out_A_7 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_A_7 (F := F) c i a2 h2 a3 h3 a4 h4 a5 h5 a6 h6 a7 h7 a8 h8 a9 h9 a10 h10 hc0 hc1 x0 x1 x2 x3 x4 = k0_pay9 (grad x0) x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

theorem out_A_8 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_A_8 (F := F) c i a2 h2 a3 h3 a4 h4 a5 h5 a6 h6 a7 h7 a8 h8 a9 h9 a10 h10 hc0 hc1 x0 x1 x2 x3 x4 = k0_pay10 (grad x0) x4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

theorem out_B_5 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_B_5 (F := F) c i a2 h2 a3 h3 a4 h4 a5 h5 a6 h6 a7 h7 a8 h8 a9 h9 a10 h10 hc0 hc1 x0 x1 x2 x3 x4 = grad x1 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  rfl

theorem out_B_6 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_B_6 (F := F) c i a2 h2 a3 h3 a4 h4 a5 h5 a6 h6 a7 h7 a8 h8 a9 h9 a10 h10 hc0 hc1 x0 x1 x2 x3 x4 = delta (grad x1) x2 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

theorem out_B_7 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_B_7 (F := F) c i a2 h2 a3 h3 a4 h4 a5 h5 a6 h6 a7 h7 a8 h8 a9 h9 a10 h10 hc0 hc1 x0 x1 x2 x3 x4 = k0_pay9 (grad x1) x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

theorem out_B_8 (c : Dev nD) (i : grid0.Coords) (a2 a3 a4 a5 a6 a7 a8 a9 a10) (h2 h3 h4 h5 h6 h7 h8 h9 h10) (hc0 hc1)
    (x0 x1 : Vec F S8x128x1024 .bf16) (x2 x3 x4 : Vec F S1x128x1024 .f32) :
    out0_B_8 (F := F) c i a2 h2 a3 h3 a4 h4 a5 h5 a6 h6 a7 h7 a8 h8 a9 h9 a10 h10 hc0 hc1 x0 x1 x2 x3 x4 = k0_pay10 (grad x1) x4 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x128x1024) _ Cert.FfnBwd.hz3, View.ld_unit_zero (S := S1x128x1024) Cert.FfnBwd.hz3]
  rfl

end Body

/-! ## The step, on extended reals -/

/-- The first moment after the step. -/
def m1 (g m : EReal) : EReal := Ideal.ofBits .f32 0x3F666666#32 * m + Ideal.ofBits .f32 0x3DCCCCCD#32 * g

/-- The second moment after the step. -/
def v1 (g v : EReal) : EReal := Ideal.ofBits .f32 0x3F7FBE77#32 * v + Ideal.ofBits .f32 0x3A83126F#32 * (g * g)

/-- The change of a weight. -/
def step (g w m v : EReal) : EReal :=
  Ideal.ofBits .f32 0xBA83126F#32 * (Ideal.div (Ideal.div (m1 g m) (Ideal.ofBits .f32 0x3F26BD02#32))
    (Ideal.sqrt (Ideal.div (v1 g v) (Ideal.ofBits .f32 0x3C231ACC#32)) + Ideal.ofBits .f32 0x322BCC77#32) + Ideal.ofBits .f32 0x3C23D70A#32 * w)

/-- The gradient: the parts of each layer summed. -/
def total (P0 P1 : FVec Ideal ⟨3, ![8, 128, 1024]⟩ .f32) (l : Fin 2) (r : Fin 128) (d : Fin 1024) : EReal :=
  if l.val < 1 then ∑ k : Fin 8, P0 (ix3 k r d) else ∑ k : Fin 8, P1 (ix3 k r d)

section Reference

open Cert.Reference14Ideal Cert.Reference14Ideal.Gen Cert.Reference14Ideal.Read

theorem ref_g (P0 P1 : FVec Ideal ⟨3, ![8, 128, 1024]⟩ .f32) (l : Fin 2) (r : Fin 128) (d : Fin 1024) :
    val_main_v4 (F := Ideal) P0 P1 (ix3 l r d) = total P0 P1 l r d := by
  pointwise [val_main_v4, val_main_v3, val_main_v2, val_main_v1, val_main_v0, val_main_cst, val_main_cst_0]
  rfl

theorem ref_m (P0 P1 : FVec Ideal ⟨3, ![8, 128, 1024]⟩ .f32) (M : FVec Ideal ⟨3, ![2, 128, 1024]⟩ .f32) (l : Fin 2) (r : Fin 128) (d : Fin 1024) :
    val_main_v9 (F := Ideal) P0 P1 M (ix3 l r d) = m1 (total P0 P1 l r d) (M (ix3 l r d)) := by
  have e := ref_g P0 P1 l r d
  unfold val_main_v9 val_main_v8
  generalize val_main_v4 (F := Ideal) P0 P1 = y at e ⊢
  pointwise [val_main_v7, val_main_v6, val_main_v5, val_main_cst_1, val_main_cst_2]
  rw [e]
  rfl

theorem ref_v (P0 P1 : FVec Ideal ⟨3, ![8, 128, 1024]⟩ .f32) (V : FVec Ideal ⟨3, ![2, 128, 1024]⟩ .f32) (l : Fin 2) (r : Fin 128) (d : Fin 1024) :
    val_main_v15 (F := Ideal) P0 P1 V (ix3 l r d) = v1 (total P0 P1 l r d) (V (ix3 l r d)) := by
  have e := ref_g P0 P1 l r d
  unfold val_main_v15 val_main_v14 val_main_v12
  generalize val_main_v4 (F := Ideal) P0 P1 = y at e ⊢
  pointwise [val_main_v13, val_main_v11, val_main_v10, val_main_cst_3, val_main_cst_4]
  rw [e]
  rfl

theorem ref_d (P0 P1 : FVec Ideal ⟨3, ![8, 128, 1024]⟩ .f32) (W M V : FVec Ideal ⟨3, ![2, 128, 1024]⟩ .f32) (l : Fin 2) (r : Fin 128) (d : Fin 1024) :
    val_main_v28 (F := Ideal) P0 P1 W M V (ix3 l r d) = step (total P0 P1 l r d) (W (ix3 l r d)) (M (ix3 l r d)) (V (ix3 l r d)) := by
  have e := ref_m P0 P1 M l r d
  have e' := ref_v P0 P1 V l r d
  unfold val_main_v28 val_main_v26 val_main_v23 val_main_v17 val_main_v22 val_main_v20 val_main_v19
  generalize val_main_v9 (F := Ideal) P0 P1 M = y at e ⊢
  generalize val_main_v15 (F := Ideal) P0 P1 V = y' at e' ⊢
  pointwise [val_main_v27, val_main_v25, val_main_v24, val_main_v21, val_main_v18, val_main_v16, val_main_cst_5, val_main_cst_6, val_main_cst_7, val_main_cst_8, val_main_cst_9]
  rw [e, e']
  rfl

end Reference

/-! ## One grid point's values -/

theorem ld_part (x : Vec Ideal S8x128x1024 .bf16) (o : ℕ) (ho : o < 8)
    (inb : ∀ a, (![o, 0, 0] : Fin 3 → ℕ) a + (![1, 128, 1024] : Fin 3 → ℕ) a ≤ (![8, 128, 1024] : Fin 3 → ℕ) a) (r : Fin 128) (d : Fin 1024) :
    View.ld x (Rect.unit (s := S8x128x1024) ![o, 0, 0] ![1, 128, 1024] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x128x1024 .bf16) (r : Fin 128) (d : Fin 1024) :
    k0_pay4 (F := Ideal) (k0_pay2 y0 y1 y2 y3 y4 y5 y6 y7) (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay4, k0_pay2]

theorem grad_val (x : Vec Ideal S8x128x1024 .bf16) (r : Fin 128) (d : Fin 1024) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x128x1024 .f32) (r : Fin 128) (d : Fin 1024) :
    k0_pay9 (F := Ideal) g y (ix3 0 r d) = m1 (g (ix3 0 r d)) (y (ix3 0 r d)) := by
  pointwise [k0_pay9, k0_pay7, k0_pay6]
  rfl

theorem second_val (g y : Vec Ideal S1x128x1024 .f32) (r : Fin 128) (d : Fin 1024) :
    k0_pay10 (F := Ideal) g y (ix3 0 r d) = v1 (g (ix3 0 r d)) (y (ix3 0 r d)) := by
  pointwise [k0_pay10, k0_pay8, k0_pay6]
  rfl

theorem delta_val (g x2 x3 x4 : Vec Ideal S1x128x1024 .f32) (r : Fin 128) (d : Fin 1024) :
    delta (F := Ideal) g x2 x3 x4 (ix3 0 r d) = step (g (ix3 0 r d)) (x2 (ix3 0 r d)) (x3 (ix3 0 r d)) (x4 (ix3 0 r d)) := by
  pointwise [delta, k0_pay1, k0_pay11, k0_pay7, k0_pay8, k0_pay6]
  rfl

/-! ## The blocks a point loads -/

section Loads

variable (m : (ℓ : Loc nD τ sig) → Buf (Elt Ideal) ℓ) (c : Dev nD)

theorem N_eq : cfg0.N = 2 := N_0

theorem win_facts : ∀ t : Fin grid0.N, (∀ a, win0_0.index t a = 0) ∧ (∀ a, win0_1.index t a = 0) ∧
    (win0_2.index t 0 = t.val ∧ win0_2.index t 1 = 0 ∧ win0_2.index t 2 = 0) ∧ (win0_3.index t 0 = t.val ∧ win0_3.index t 1 = 0 ∧ win0_3.index t 2 = 0) ∧
    (win0_4.index t 0 = t.val ∧ win0_4.index t 1 = 0 ∧ win0_4.index t 2 = 0) ∧ (win0_5.index t 0 = t.val ∧ win0_5.index t 1 = 0 ∧ win0_5.index t 2 = 0) ∧
    (win0_6.index t 0 = t.val ∧ win0_6.index t 1 = 0 ∧ win0_6.index t 2 = 0) ∧ (win0_7.index t 0 = t.val ∧ win0_7.index t 1 = 0 ∧ win0_7.index t 2 = 0) ∧
    (win0_8.index t 0 = t.val ∧ win0_8.index t 1 = 0 ∧ win0_8.index t 2 = 0) := by
  decide +kernel

/-- The layer of a point. -/
def layer (t : Fin cfg0.N) : Fin 2 := ⟨t.val, by have := t.isLt; have := N_eq; omega⟩

theorem load_0 (t : Fin cfg0.N) (k : Fin 8) (r : Fin 128) (d : Fin 1024) :
    (iblk m c 0 t : Vec Ideal S8x128x1024 .bf16) (ix3 k r d) = m (c, Proc.tc.devRef main_arg0) (ix3 k r d) := by
  have e : (iblk m c 0 t : Vec Ideal S8x128x1024 .bf16) (ix3 k r d) = (V m c main_v0 : FVec Ideal S8x128x1024 .bf16) (ix3 k r d) := by
    have hz := (win_facts t).1
    exact congrArg (V m c main_v0 : FVec Ideal S8x128x1024 .bf16) (a₁ := (win0_0.rect t).emb (ix3 k r d))
      (funext fun a => Fin.ext (win0_0.rect_emb_val_of_index_zero t a (hz a) (ix3 k r d)))
  rw [e]
  entry_read
  pointwise []

theorem load_1 (t : Fin cfg0.N) (k : Fin 8) (r : Fin 128) (d : Fin 1024) :
    (iblk m c 1 t : Vec Ideal S8x128x1024 .bf16) (ix3 k r d) = m (c, Proc.tc.devRef main_arg1) (ix3 k r d) := by
  have e : (iblk m c 1 t : Vec Ideal S8x128x1024 .bf16) (ix3 k r d) = (V m c main_v1 : FVec Ideal S8x128x1024 .bf16) (ix3 k r d) := by
    have hz := (win_facts t).2.1
    exact congrArg (V m c main_v1 : FVec Ideal S8x128x1024 .bf16) (a₁ := (win0_1.rect t).emb (ix3 k r d))
      (funext fun a => Fin.ext (win0_1.rect_emb_val_of_index_zero t a (hz a) (ix3 k r d)))
  rw [e]
  entry_read
  pointwise []

theorem load_2 (t : Fin cfg0.N) (r : Fin 128) (d : Fin 1024) :
    (iblk m c 2 t : Vec Ideal S1x128x1024 .f32) (ix3 0 r d) = m (c, Proc.tc.devRef main_arg2) (ix3 (layer t) r d) := by
  have e : (iblk m c 2 t : Vec Ideal S1x128x1024 .f32) (ix3 0 r d) = (V m c main_arg2 : FVec Ideal S2x128x1024 .f32) (ix3 (layer t) r d) := by
    obtain ⟨h0, h1, h2⟩ := (win_facts t).2.2.1
    refine congrArg (V m c main_arg2 : FVec Ideal S2x128x1024 .f32) (a₁ := (win0_2.rect t).emb (ix3 0 r d)) (funext fun a => Fin.ext ?_)
    rw [win0_2.rect_emb_val]
    fin_cases a
    · show win0_2.index t 0 * 1 + 0 = t.val; omega
    · show win0_2.index t 1 * 128 + r.val = r.val; omega
    · show win0_2.index t 2 * 1024 + d.val = d.val; omega
  rw [e]
  entry_read
  rfl

theorem load_3 (t : Fin cfg0.N) (r : Fin 128) (d : Fin 1024) :
    (iblk m c 3 t : Vec Ideal S1x128x1024 .f32) (ix3 0 r d) = m (c, Proc.tc.devRef main_arg3) (ix3 (layer t) r d) := by
  have e : (iblk m c 3 t : Vec Ideal S1x128x1024 .f32) (ix3 0 r d) = (V m c main_arg3 : FVec Ideal S2x128x1024 .f32) (ix3 (layer t) r d) := by
    obtain ⟨h0, h1, h2⟩ := (win_facts t).2.2.2.1
    refine congrArg (V m c main_arg3 : FVec Ideal S2x128x1024 .f32) (a₁ := (win0_3.rect t).emb (ix3 0 r d)) (funext fun a => Fin.ext ?_)
    rw [win0_3.rect_emb_val]
    fin_cases a
    · show win0_3.index t 0 * 1 + 0 = t.val; omega
    · show win0_3.index t 1 * 128 + r.val = r.val; omega
    · show win0_3.index t 2 * 1024 + d.val = d.val; omega
  rw [e]
  entry_read
  rfl

theorem load_4 (t : Fin cfg0.N) (r : Fin 128) (d : Fin 1024) :
    (iblk m c 4 t : Vec Ideal S1x128x1024 .f32) (ix3 0 r d) = m (c, Proc.tc.devRef main_arg4) (ix3 (layer t) r d) := by
  have e : (iblk m c 4 t : Vec Ideal S1x128x1024 .f32) (ix3 0 r d) = (V m c main_arg4 : FVec Ideal S2x128x1024 .f32) (ix3 (layer t) r d) := by
    obtain ⟨h0, h1, h2⟩ := (win_facts t).2.2.2.2.1
    refine congrArg (V m c main_arg4 : FVec Ideal S2x128x1024 .f32) (a₁ := (win0_4.rect t).emb (ix3 0 r d)) (funext fun a => Fin.ext ?_)
    rw [win0_4.rect_emb_val]
    fin_cases a
    · show win0_4.index t 0 * 1 + 0 = t.val; omega
    · show win0_4.index t 1 * 128 + r.val = r.val; omega
    · show win0_4.index t 2 * 1024 + d.val = d.val; omega
  rw [e]
  entry_read
  rfl

/-- The gradient, of the arguments in memory. -/
def gOf (l : Fin 2) (r : Fin 128) (d : Fin 1024) : EReal := total (m (c, Proc.tc.devRef main_arg0)) (m (c, Proc.tc.devRef main_arg1)) l r d

theorem point_first (t : Fin cfg0.N) (h : t.val = 0) (r : Fin 128) (d : Fin 1024) : grad (F := Ideal) (iblk m c 0 t) (ix3 0 r d) = gOf m c (layer t) r d := by
  rw [grad_val]
  unfold gOf total
  rw [if_pos (by show t.val < 1; omega)]
  exact Finset.sum_congr rfl fun k _ => load_0 m c t k r d

theorem point_second (t : Fin cfg0.N) (h : t.val = 1) (r : Fin 128) (d : Fin 1024) : grad (F := Ideal) (iblk m c 1 t) (ix3 0 r d) = gOf m c (layer t) r d := by
  rw [grad_val]
  unfold gOf total
  rw [if_neg (by show ¬t.val < 1; omega)]
  exact Finset.sum_congr rfl fun k _ => load_1 m c t k r d

/-! ## The result arrays -/

theorem emb5 (t : Fin cfg0.N) (r : Fin 128) (d : Fin 1024) : ((cfg0.win 5).blk t).view.emb (ix3 0 r d) = ix3 (layer t) r d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = t.val; omega
  · show win0_5.index t 1 * 128 + r.val = r.val; omega
  · show win0_5.index t 2 * 1024 + d.val = d.val; omega

theorem cut5_val (t : Fin cfg0.N) (X : Vec Ideal S1x128x1024 .f32) (r : Fin 128) (d : Fin 1024) :
    (cfg0.win 5).cut (grid0.coords t) X (ix3 0 r d) = X (ix3 0 r d) :=
  congrArg X (funext fun a => Fin.ext rfl)

theorem flushed5_val (t : Fin cfg0.N) (r : Fin 128) (d : Fin 1024) :
    ((dats m 0 c).flushed 5 t : Vec Ideal S1x128x1024 .f32) (ix3 0 r d) = gOf m c (layer t) r d := by
  have hN := N_eq
  have ht := t.isLt
  rcases Nat.eq_zero_or_pos t.val with h | h
  · rw [Value.flushed5_A m c t (by omega) (by omega), out_A_5]
    refine (cut5_val t _ r d).trans ?_
    exact point_first m c t h r d
  · rw [Value.flushed5_B m c t (by omega) (by omega), out_B_5]
    refine (cut5_val t _ r d).trans ?_
    exact point_second m c t (by omega) r d

theorem kernel_5 (l : Fin 2) (r : Fin 128) (d : Fin 1024) :
    ((dats m 0 c).arrAt 5 cfg0.N : FVec Ideal S2x128x1024 .f32) (ix3 l r d) = gOf m c l r d := by
  have h := (dats m 0 c).arrAt_emb_eq_flushed 5 Value.disjoint5 ⟨l.val, by rw [N_eq]; exact l.isLt⟩ (flush0_5 _) (ix3 0 r d)
  rw [emb5] at h
  exact h.trans (flushed5_val m c _ r d)

theorem emb6 (t : Fin cfg0.N) (r : Fin 128) (d : Fin 1024) : ((cfg0.win 6).blk t).view.emb (ix3 0 r d) = ix3 (layer t) r d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = t.val; omega
  · show win0_6.index t 1 * 128 + r.val = r.val; omega
  · show win0_6.index t 2 * 1024 + d.val = d.val; omega

theorem cut6_val (t : Fin cfg0.N) (X : Vec Ideal S1x128x1024 .f32) (r : Fin 128) (d : Fin 1024) :
    (cfg0.win 6).cut (grid0.coords t) X (ix3 0 r d) = X (ix3 0 r d) :=
  congrArg X (funext fun a => Fin.ext rfl)

theorem flushed6_val (t : Fin cfg0.N) (r : Fin 128) (d : Fin 1024) :
    ((dats m 0 c).flushed 6 t : Vec Ideal S1x128x1024 .f32) (ix3 0 r d) = step (gOf m c (layer t) r d) (m (c, Proc.tc.devRef main_arg2) (ix3 (layer t) r d)) (m (c, Proc.tc.devRef main_arg3) (ix3 (layer t) r d)) (m (c, Proc.tc.devRef main_arg4) (ix3 (layer t) r d)) := by
  have hN := N_eq
  have ht := t.isLt
  rcases Nat.eq_zero_or_pos t.val with h | h
  · rw [Value.flushed6_A m c t (by omega) (by omega), out_A_6]
    refine (cut6_val t _ r d).trans ?_
    rw [delta_val, point_first m c t h, load_2 m c t, load_3 m c t, load_4 m c t]
  · rw [Value.flushed6_B m c t (by omega) (by omega), out_B_6]
    refine (cut6_val t _ r d).trans ?_
    rw [delta_val, point_second m c t (by omega), load_2 m c t, load_3 m c t, load_4 m c t]

theorem kernel_6 (l : Fin 2) (r : Fin 128) (d : Fin 1024) :
    ((dats m 0 c).arrAt 6 cfg0.N : FVec Ideal S2x128x1024 .f32) (ix3 l r d) = step (gOf m c l r d) (m (c, Proc.tc.devRef main_arg2) (ix3 l r d)) (m (c, Proc.tc.devRef main_arg3) (ix3 l r d)) (m (c, Proc.tc.devRef main_arg4) (ix3 l r d)) := by
  have h := (dats m 0 c).arrAt_emb_eq_flushed 6 Value.disjoint6 ⟨l.val, by rw [N_eq]; exact l.isLt⟩ (flush0_6 _) (ix3 0 r d)
  rw [emb6] at h
  exact h.trans (flushed6_val m c _ r d)

theorem emb7 (t : Fin cfg0.N) (r : Fin 128) (d : Fin 1024) : ((cfg0.win 7).blk t).view.emb (ix3 0 r d) = ix3 (layer t) r d := by
  obtain ⟨h0, h1, h2⟩ := (win_facts t).2.2.2.2.2.2.2.1
  refine funext fun a => Fin.ext ?_
  refine (win0_7.rect_emb_val t (ix3 0 r d) a).trans ?_
  fin_cases a
  · show win0_7.index t 0 * 1 + 0 = t.val; omega
  · show win0_7.index t 1 * 128 + r.val = r.val; omega
  · show win0_7.index t 2 * 1024 + d.val = d.val; omega

theorem cut7_val (t : Fin cfg0.N) (X : Vec Ideal S1x128x1024 .f32) (r : Fin 128) (d : Fin 1024) :
    (cfg0.win 7).cut (grid0.coords t) X (ix3 0 r d) = X (ix3 0 r d) :=
  congrArg X (funext fun a => Fin.ext rfl)

theorem flushed7_val (t : Fin cfg0.N) (r : Fin 128) (d : Fin 1024) :
    ((dats m 0 c).flushed 7 t : Vec Ideal S1x128x1024 .f32) (ix3 0 r d) = m1 (gOf m c (layer t) r d) (m (c, Proc.tc.devRef main_arg3) (ix3 (layer t) r d)) := by
  have hN := N_eq
  have ht := t.isLt
  rcases Nat.eq_zero_or_pos t.val with h | h
  · rw [Value.flushed7_A m c t (by omega) (by omega), out_A_7]
    refine (cut7_val t _ r d).trans ?_
    rw [moment_val, point_first m c t h, load_3 m c t]
  · rw [Value.flushed7_B m c t (by omega) (by omega), out_B_7]
    refine (cut7_val t _ r d).trans ?_
    rw [moment_val, point_second m c t (by omega), load_3 m c t]

theorem kernel_7 (l : Fin 2) (r : Fin 128) (d : Fin 1024) :
    ((dats m 0 c).arrAt 7 cfg0.N : FVec Ideal S2x128x1024 .f32) (ix3 l r d) = m1 (gOf m c l r d) (m (c, Proc.tc.devRef main_arg3) (ix3 l r d)) := by
  have h := (dats m 0 c).arrAt_emb_eq_flushed 7 Value.disjoint7 ⟨l.val, by rw [N_eq]; exact l.isLt⟩ (flush0_7 _) (ix3 0 r d)
  rw [emb7] at h
  exact h.trans (flushed7_val m c _ r d)

theorem emb8 (t : Fin cfg0.N) (r : Fin 128) (d : Fin 1024) : ((cfg0.win 8).blk t).view.emb (ix3 0 r d) = ix3 (layer t) r d := by
  obtain ⟨h0, h1, h2⟩ := (win_facts t).2.2.2.2.2.2.2.2
  refine funext fun a => Fin.ext ?_
  refine (win0_8.rect_emb_val t (ix3 0 r d) a).trans ?_
  fin_cases a
  · show win0_8.index t 0 * 1 + 0 = t.val; omega
  · show win0_8.index t 1 * 128 + r.val = r.val; omega
  · show win0_8.index t 2 * 1024 + d.val = d.val; omega

theorem cut8_val (t : Fin cfg0.N) (X : Vec Ideal S1x128x1024 .f32) (r : Fin 128) (d : Fin 1024) :
    (cfg0.win 8).cut (grid0.coords t) X (ix3 0 r d) = X (ix3 0 r d) :=
  congrArg X (funext fun a => Fin.ext rfl)

theorem flushed8_val (t : Fin cfg0.N) (r : Fin 128) (d : Fin 1024) :
    ((dats m 0 c).flushed 8 t : Vec Ideal S1x128x1024 .f32) (ix3 0 r d) = v1 (gOf m c (layer t) r d) (m (c, Proc.tc.devRef main_arg4) (ix3 (layer t) r d)) := by
  have hN := N_eq
  have ht := t.isLt
  rcases Nat.eq_zero_or_pos t.val with h | h
  · rw [Value.flushed8_A m c t (by omega) (by omega), out_A_8]
    refine (cut8_val t _ r d).trans ?_
    rw [second_val, point_first m c t h, load_4 m c t]
  · rw [Value.flushed8_B m c t (by omega) (by omega), out_B_8]
    refine (cut8_val t _ r d).trans ?_
    rw [second_val, point_second m c t (by omega), load_4 m c t]

theorem kernel_8 (l : Fin 2) (r : Fin 128) (d : Fin 1024) :
    ((dats m 0 c).arrAt 8 cfg0.N : FVec Ideal S2x128x1024 .f32) (ix3 l r d) = v1 (gOf m c l r d) (m (c, Proc.tc.devRef main_arg4) (ix3 l r d)) := by
  have h := (dats m 0 c).arrAt_emb_eq_flushed 8 Value.disjoint8 ⟨l.val, by rw [N_eq]; exact l.isLt⟩ (flush0_8 _) (ix3 0 r d)
  rw [emb8] at h
  exact h.trans (flushed8_val m c _ r d)

end Loads

end Cert.AdamW

end
-- ==== Proof.AdamWDown.lean ====
/-
  AdamW on the feed-forward layer's lower weights: each grid point sums the parts of one layer's gradient and steps its moments.
-/
module

public import proofs.«01_k».proof.Proof.AdamW
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim
public import Idealize.ShloMosaic.Lib.Pointwise

@[expose] public section

noncomputable section

namespace Cert.AdamWDown

open Idealize.ShloMosaic Cert.Kernel15Ideal Cert.Kernel15Ideal.Gen Idealize.ShloMosaic.TcCoe
open Idealize.ShloMosaic.Tactic
open Cert.AdamW (m1 v1 step)

section Body

variable {F : FTy → Type} [FloatOps F]

/-- The parts of one layer's gradient, summed. -/
def grad (x : Vec F S8x352x1024 .bf16) : FVec F S1x352x1024 .f32 :=
  k0_pay4 (k0_pay2 (View.ld x (Rect.unit (s := S8x352x1024) ![0, 0, 0] S1x352x1024.size inb_S8x352x1024_S1x352x1024_0_0_0))
    (View.ld x (Rect.unit (s := S8x352x1024) ![1, 0, 0] S1x352x1024.size inb_S8x352x1024_S1x352x1024_1_0_0))
    (View.ld x (Rect.unit (s := S8x352x1024) ![2, 0, 0] S1x352x1024.size inb_S8x352x1024_S1x352x1024_2_0_0))
    (View.ld x (Rect.unit (s := S8x352x1024) ![3, 0, 0] S1x352x1024.size inb_S8x352x1024_S1x352x1024_3_0_0))
    (View.ld x (Rect.unit (s := S8x352x1024) ![4, 0, 0] S1x352x1024.size inb_S8x352x1024_S1x352x1024_4_0_0))
    (View.ld x (Rect.unit (s := S8x352x1024) ![5, 0, 0] S1x352x1024.size inb_S8x352x1024_S1x352x1024_5_0_0))
    (View.ld x (Rect.unit (s := S8x352x1024) ![6, 0, 0] S1x352x1024.size inb_S8x352x1024_S1x352x1024_6_0_0))
    (View.ld x (Rect.unit (s := S8x352x1024) ![7, 0, 0] S1x352x1024.size inb_S8x352x1024_S1x352x1024_7_0_0)))

/-- The step of the weights. -/
def delta (g x2 x3 x4 : Vec F S1x352x1024 .f32) : FVec F S1x352x1024 .f32 := k0_pay1 (k0_pay7 g x3) (k0_pay8 g x4) k0_pay11 x2

theorem out_A_5 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_A_5 (F := F) c i a2 h2 a3 h3 a4 h4 a5 h5 a6 h6 a7 h7 a8 h8 a9 h9 a10 h10 hc0 hc1 x0 x1 x2 x3 x4 = grad x0 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  rfl

theorem out_A_6 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_A_6 (F := F) c i a2 h2 a3 h3 a4 h4 a5 h5 a6 h6 a7 h7 a8 h8 a9 h9 a10 h10 hc0 hc1 x0 x1 x2 x3 x4 = delta (grad x0) x2 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

theorem out_A_7 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_A_7 (F := F) c i a2 h2 a3 h3 a4 h4 a5 h5 a6 h6 a7 h7 a8 h8 a9 h9 a10 h10 hc0 hc1 x0 x1 x2 x3 x4 = k0_pay9 (grad x0) x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

theorem out_A_8 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_A_8 (F := F) c i a2 h2 a3 h3 a4 h4 a5 h5 a6 h6 a7 h7 a8 h8 a9 h9 a10 h10 hc0 hc1 x0 x1 x2 x3 x4 = k0_pay10 (grad x0) x4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

theorem out_B_5 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_B_5 (F := F) c i a2 h2 a3 h3 a4 h4 a5 h5 a6 h6 a7 h7 a8 h8 a9 h9 a10 h10 hc0 hc1 x0 x1 x2 x3 x4 = grad x1 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  rfl

theorem out_B_6 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_B_6 (F := F) c i a2 h2 a3 h3 a4 h4 a5 h5 a6 h6 a7 h7 a8 h8 a9 h9 a10 h10 hc0 hc1 x0 x1 x2 x3 x4 = delta (grad x1) x2 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

theorem out_B_7 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_B_7 (F := F) c i a2 h2 a3 h3 a4 h4 a5 h5 a6 h6 a7 h7 a8 h8 a9 h9 a10 h10 hc0 hc1 x0 x1 x2 x3 x4 = k0_pay9 (grad x1) x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

theorem out_B_8 (c : Dev nD) (i : grid0.Coords) (a2 a3 a4 a5 a6 a7 a8 a9 a10) (h2 h3 h4 h5 h6 h7 h8 h9 h10) (hc0 hc1)
    (x0 x1 : Vec F S8x352x1024 .bf16) (x2 x3 x4 : Vec F S1x352x1024 .f32) :
    out0_B_8 (F := F) c i a2 h2 a3 h3 a4 h4 a5 h5 a6 h6 a7 h7 a8 h8 a9 h9 a10 h10 hc0 hc1 x0 x1 x2 x3 x4 = k0_pay10 (grad x1) x4 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x352x1024) _ Cert.FfnBwd.hz3, View.ld_unit_zero (S := S1x352x1024) Cert.FfnBwd.hz3]
  rfl

end Body

/-- The gradient: the parts of each layer summed. -/
def total (P0 P1 : FVec Ideal ⟨3, ![8, 352, 1024]⟩ .f32) (l : Fin 2) (r : Fin 352) (d : Fin 1024) : EReal :=
  if l.val < 1 then ∑ k : Fin 8, P0 (ix3 k r d) else ∑ k : Fin 8, P1 (ix3 k r d)

section Reference

open Cert.Reference15Ideal Cert.Reference15Ideal.Gen Cert.Reference15Ideal.Read

theorem ref_g (P0 P1 : FVec Ideal ⟨3, ![8, 352, 1024]⟩ .f32) (l : Fin 2) (r : Fin 352) (d : Fin 1024) :
    val_main_v4 (F := Ideal) P0 P1 (ix3 l r d) = total P0 P1 l r d := by
  pointwise [val_main_v4, val_main_v3, val_main_v2, val_main_v1, val_main_v0, val_main_cst, val_main_cst_0]
  rfl

theorem ref_m (P0 P1 : FVec Ideal ⟨3, ![8, 352, 1024]⟩ .f32) (M : FVec Ideal ⟨3, ![2, 352, 1024]⟩ .f32) (l : Fin 2) (r : Fin 352) (d : Fin 1024) :
    val_main_v9 (F := Ideal) P0 P1 M (ix3 l r d) = m1 (total P0 P1 l r d) (M (ix3 l r d)) := by
  have e := ref_g P0 P1 l r d
  unfold val_main_v9 val_main_v8
  generalize val_main_v4 (F := Ideal) P0 P1 = y at e ⊢
  pointwise [val_main_v7, val_main_v6, val_main_v5, val_main_cst_1, val_main_cst_2]
  rw [e]
  rfl

theorem ref_v (P0 P1 : FVec Ideal ⟨3, ![8, 352, 1024]⟩ .f32) (V : FVec Ideal ⟨3, ![2, 352, 1024]⟩ .f32) (l : Fin 2) (r : Fin 352) (d : Fin 1024) :
    val_main_v15 (F := Ideal) P0 P1 V (ix3 l r d) = v1 (total P0 P1 l r d) (V (ix3 l r d)) := by
  have e := ref_g P0 P1 l r d
  unfold val_main_v15 val_main_v14 val_main_v12
  generalize val_main_v4 (F := Ideal) P0 P1 = y at e ⊢
  pointwise [val_main_v13, val_main_v11, val_main_v10, val_main_cst_3, val_main_cst_4]
  rw [e]
  rfl

theorem ref_d (P0 P1 : FVec Ideal ⟨3, ![8, 352, 1024]⟩ .f32) (W M V : FVec Ideal ⟨3, ![2, 352, 1024]⟩ .f32) (l : Fin 2) (r : Fin 352) (d : Fin 1024) :
    val_main_v28 (F := Ideal) P0 P1 W M V (ix3 l r d) = step (total P0 P1 l r d) (W (ix3 l r d)) (M (ix3 l r d)) (V (ix3 l r d)) := by
  have e := ref_m P0 P1 M l r d
  have e' := ref_v P0 P1 V l r d
  unfold val_main_v28 val_main_v26 val_main_v23 val_main_v17 val_main_v22 val_main_v20 val_main_v19
  generalize val_main_v9 (F := Ideal) P0 P1 M = y at e ⊢
  generalize val_main_v15 (F := Ideal) P0 P1 V = y' at e' ⊢
  pointwise [val_main_v27, val_main_v25, val_main_v24, val_main_v21, val_main_v18, val_main_v16, val_main_cst_5, val_main_cst_6, val_main_cst_7, val_main_cst_8, val_main_cst_9]
  rw [e, e']
  rfl

end Reference

/-! ## One grid point's values -/

theorem ld_part (x : Vec Ideal S8x352x1024 .bf16) (o : ℕ) (ho : o < 8)
    (inb : ∀ a, (![o, 0, 0] : Fin 3 → ℕ) a + (![1, 352, 1024] : Fin 3 → ℕ) a ≤ (![8, 352, 1024] : Fin 3 → ℕ) a) (r : Fin 352) (d : Fin 1024) :
    View.ld x (Rect.unit (s := S8x352x1024) ![o, 0, 0] ![1, 352, 1024] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x352x1024 .bf16) (r : Fin 352) (d : Fin 1024) :
    k0_pay4 (F := Ideal) (k0_pay2 y0 y1 y2 y3 y4 y5 y6 y7) (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay4, k0_pay2]

theorem grad_val (x : Vec Ideal S8x352x1024 .bf16) (r : Fin 352) (d : Fin 1024) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x352x1024 .f32) (r : Fin 352) (d : Fin 1024) :
    k0_pay9 (F := Ideal) g y (ix3 0 r d) = m1 (g (ix3 0 r d)) (y (ix3 0 r d)) := by
  pointwise [k0_pay9, k0_pay7, k0_pay6]
  rfl

theorem second_val (g y : Vec Ideal S1x352x1024 .f32) (r : Fin 352) (d : Fin 1024) :
    k0_pay10 (F := Ideal) g y (ix3 0 r d) = v1 (g (ix3 0 r d)) (y (ix3 0 r d)) := by
  pointwise [k0_pay10, k0_pay8, k0_pay6]
  rfl

theorem delta_val (g x2 x3 x4 : Vec Ideal S1x352x1024 .f32) (r : Fin 352) (d : Fin 1024) :
    delta (F := Ideal) g x2 x3 x4 (ix3 0 r d) = step (g (ix3 0 r d)) (x2 (ix3 0 r d)) (x3 (ix3 0 r d)) (x4 (ix3 0 r d)) := by
  pointwise [delta, k0_pay1, k0_pay11, k0_pay7, k0_pay8, k0_pay6]
  rfl

/-! ## The blocks a point loads -/

section Loads

variable (m : (ℓ : Loc nD τ sig) → Buf (Elt Ideal) ℓ) (c : Dev nD)

theorem N_eq : cfg0.N = 2 := N_0

theorem win_facts : ∀ t : Fin grid0.N, (win0_0.index t 0 = 0 ∧ (t.val < 1 → win0_0.index t 1 = t.val % 1) ∧ win0_0.index t 2 = 0) ∧
    (win0_1.index t 0 = 0 ∧ (1 ≤ t.val → win0_1.index t 1 = t.val % 1) ∧ win0_1.index t 2 = 0) ∧
    (win0_2.index t 0 = t.val / 1 ∧ win0_2.index t 1 = t.val % 1 ∧ win0_2.index t 2 = 0) ∧
    (win0_3.index t 0 = t.val / 1 ∧ win0_3.index t 1 = t.val % 1 ∧ win0_3.index t 2 = 0) ∧
    (win0_4.index t 0 = t.val / 1 ∧ win0_4.index t 1 = t.val % 1 ∧ win0_4.index t 2 = 0) ∧
    (win0_5.index t 0 = t.val / 1 ∧ win0_5.index t 1 = t.val % 1 ∧ win0_5.index t 2 = 0) ∧
    (win0_6.index t 0 = t.val / 1 ∧ win0_6.index t 1 = t.val % 1 ∧ win0_6.index t 2 = 0) ∧
    (win0_7.index t 0 = t.val / 1 ∧ win0_7.index t 1 = t.val % 1 ∧ win0_7.index t 2 = 0) ∧
    (win0_8.index t 0 = t.val / 1 ∧ win0_8.index t 1 = t.val % 1 ∧ win0_8.index t 2 = 0) := by
  decide +kernel

/-- The layer of a point. -/
def layer (t : Fin cfg0.N) : Fin 2 := ⟨t.val / 1, by have := t.isLt; have := N_eq; omega⟩

/-- Row `r` of the block of a point. -/
def row (t : Fin cfg0.N) (r : Fin 352) : Fin 352 := ⟨352 * (t.val % 1) + r.val, by have := r.isLt; omega⟩

theorem load_0 (t : Fin cfg0.N) (h : t.val < 1) (k : Fin 8) (r : Fin 352) (d : Fin 1024) :
    (iblk m c 0 t : Vec Ideal S8x352x1024 .bf16) (ix3 k r d) = m (c, Proc.tc.devRef main_arg0) (ix3 k (row t r) d) := by
  have e : (iblk m c 0 t : Vec Ideal S8x352x1024 .bf16) (ix3 k r d) = (V m c main_v0 : FVec Ideal S8x352x1024 .bf16) (ix3 k (row t r) d) := by
    obtain ⟨h0, h1, h2⟩ := (win_facts t).1
    have h1 := h1 h
    refine congrArg (V m c main_v0 : FVec Ideal S8x352x1024 .bf16) (a₁ := (win0_0.rect t).emb (ix3 k r d)) (funext fun a => Fin.ext ?_)
    rw [win0_0.rect_emb_val]
    fin_cases a
    · show win0_0.index t 0 * 8 + k.val = k.val; omega
    · show win0_0.index t 1 * 352 + r.val = 352 * (t.val % 1) + r.val; omega
    · show win0_0.index t 2 * 1024 + d.val = d.val; omega
  rw [e]
  entry_read
  pointwise []

theorem load_1 (t : Fin cfg0.N) (h : 1 ≤ t.val) (k : Fin 8) (r : Fin 352) (d : Fin 1024) :
    (iblk m c 1 t : Vec Ideal S8x352x1024 .bf16) (ix3 k r d) = m (c, Proc.tc.devRef main_arg1) (ix3 k (row t r) d) := by
  have e : (iblk m c 1 t : Vec Ideal S8x352x1024 .bf16) (ix3 k r d) = (V m c main_v1 : FVec Ideal S8x352x1024 .bf16) (ix3 k (row t r) d) := by
    obtain ⟨h0, h1, h2⟩ := (win_facts t).2.1
    have h1 := h1 h
    refine congrArg (V m c main_v1 : FVec Ideal S8x352x1024 .bf16) (a₁ := (win0_1.rect t).emb (ix3 k r d)) (funext fun a => Fin.ext ?_)
    rw [win0_1.rect_emb_val]
    fin_cases a
    · show win0_1.index t 0 * 8 + k.val = k.val; omega
    · show win0_1.index t 1 * 352 + r.val = 352 * (t.val % 1) + r.val; omega
    · show win0_1.index t 2 * 1024 + d.val = d.val; omega
  rw [e]
  entry_read
  pointwise []

theorem load_2 (t : Fin cfg0.N) (r : Fin 352) (d : Fin 1024) :
    (iblk m c 2 t : Vec Ideal S1x352x1024 .f32) (ix3 0 r d) = m (c, Proc.tc.devRef main_arg2) (ix3 (layer t) (row t r) d) := by
  have e : (iblk m c 2 t : Vec Ideal S1x352x1024 .f32) (ix3 0 r d) = (V m c main_arg2 : FVec Ideal S2x352x1024 .f32) (ix3 (layer t) (row t r) d) := by
    obtain ⟨h0, h1, h2⟩ := (win_facts t).2.2.1
    refine congrArg (V m c main_arg2 : FVec Ideal S2x352x1024 .f32) (a₁ := (win0_2.rect t).emb (ix3 0 r d)) (funext fun a => Fin.ext ?_)
    rw [win0_2.rect_emb_val]
    fin_cases a
    · show win0_2.index t 0 * 1 + 0 = t.val / 1; omega
    · show win0_2.index t 1 * 352 + r.val = 352 * (t.val % 1) + r.val; omega
    · show win0_2.index t 2 * 1024 + d.val = d.val; omega
  rw [e]
  entry_read
  rfl

theorem load_3 (t : Fin cfg0.N) (r : Fin 352) (d : Fin 1024) :
    (iblk m c 3 t : Vec Ideal S1x352x1024 .f32) (ix3 0 r d) = m (c, Proc.tc.devRef main_arg3) (ix3 (layer t) (row t r) d) := by
  have e : (iblk m c 3 t : Vec Ideal S1x352x1024 .f32) (ix3 0 r d) = (V m c main_arg3 : FVec Ideal S2x352x1024 .f32) (ix3 (layer t) (row t r) d) := by
    obtain ⟨h0, h1, h2⟩ := (win_facts t).2.2.2.1
    refine congrArg (V m c main_arg3 : FVec Ideal S2x352x1024 .f32) (a₁ := (win0_3.rect t).emb (ix3 0 r d)) (funext fun a => Fin.ext ?_)
    rw [win0_3.rect_emb_val]
    fin_cases a
    · show win0_3.index t 0 * 1 + 0 = t.val / 1; omega
    · show win0_3.index t 1 * 352 + r.val = 352 * (t.val % 1) + r.val; omega
    · show win0_3.index t 2 * 1024 + d.val = d.val; omega
  rw [e]
  entry_read
  rfl

theorem load_4 (t : Fin cfg0.N) (r : Fin 352) (d : Fin 1024) :
    (iblk m c 4 t : Vec Ideal S1x352x1024 .f32) (ix3 0 r d) = m (c, Proc.tc.devRef main_arg4) (ix3 (layer t) (row t r) d) := by
  have e : (iblk m c 4 t : Vec Ideal S1x352x1024 .f32) (ix3 0 r d) = (V m c main_arg4 : FVec Ideal S2x352x1024 .f32) (ix3 (layer t) (row t r) d) := by
    obtain ⟨h0, h1, h2⟩ := (win_facts t).2.2.2.2.1
    refine congrArg (V m c main_arg4 : FVec Ideal S2x352x1024 .f32) (a₁ := (win0_4.rect t).emb (ix3 0 r d)) (funext fun a => Fin.ext ?_)
    rw [win0_4.rect_emb_val]
    fin_cases a
    · show win0_4.index t 0 * 1 + 0 = t.val / 1; omega
    · show win0_4.index t 1 * 352 + r.val = 352 * (t.val % 1) + r.val; omega
    · show win0_4.index t 2 * 1024 + d.val = d.val; omega
  rw [e]
  entry_read
  rfl

/-- The gradient, of the arguments in memory. -/
def gOf (l : Fin 2) (q : Fin 352) (d : Fin 1024) : EReal := total (m (c, Proc.tc.devRef main_arg0)) (m (c, Proc.tc.devRef main_arg1)) l q d

theorem point_first (t : Fin cfg0.N) (h : t.val < 1) (r : Fin 352) (d : Fin 1024) :
    grad (F := Ideal) (iblk m c 0 t) (ix3 0 r d) = gOf m c (layer t) (row t r) d := by
  rw [grad_val]
  unfold gOf total
  rw [if_pos (by show t.val / 1 < 1; omega)]
  exact Finset.sum_congr rfl fun k _ => load_0 m c t h k r d

theorem point_second (t : Fin cfg0.N) (h : 1 ≤ t.val) (r : Fin 352) (d : Fin 1024) :
    grad (F := Ideal) (iblk m c 1 t) (ix3 0 r d) = gOf m c (layer t) (row t r) d := by
  rw [grad_val]
  unfold gOf total
  rw [if_neg (by show ¬t.val / 1 < 1; omega)]
  exact Finset.sum_congr rfl fun k _ => load_1 m c t h k r d

/-! ## The result arrays -/

/-- The point that owns a row of a layer. -/
def ptOf (l : Fin 2) (q : Fin 352) : Fin cfg0.N := ⟨1 * l.val + q.val / 352, by have := N_eq; have := l.isLt; have := q.isLt; omega⟩

/-- A row's place in its point's block. -/
def rowOf (q : Fin 352) : Fin 352 := ⟨q.val % 352, by omega⟩

theorem layer_ptOf (l : Fin 2) (q : Fin 352) : layer (ptOf l q) = l := by
  apply Fin.ext
  simp only [layer, ptOf]
  omega

theorem row_ptOf (l : Fin 2) (q : Fin 352) : row (ptOf l q) (rowOf q) = q := by
  apply Fin.ext
  simp only [row, ptOf, rowOf]
  omega

theorem emb5 (t : Fin cfg0.N) (r : Fin 352) (d : Fin 1024) : ((cfg0.win 5).blk t).view.emb (ix3 0 r d) = ix3 (layer t) (row t r) d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = t.val / 1; omega
  · show win0_5.index t 1 * 352 + r.val = 352 * (t.val % 1) + r.val; omega
  · show win0_5.index t 2 * 1024 + d.val = d.val; omega

theorem cut5_val (t : Fin cfg0.N) (X : Vec Ideal S1x352x1024 .f32) (r : Fin 352) (d : Fin 1024) :
    (cfg0.win 5).cut (grid0.coords t) X (ix3 0 r d) = X (ix3 0 r d) :=
  congrArg X (funext fun a => Fin.ext rfl)

theorem flushed5_val (t : Fin cfg0.N) (r : Fin 352) (d : Fin 1024) : ((dats m 0 c).flushed 5 t : Vec Ideal S1x352x1024 .f32) (ix3 0 r d)
    = gOf m c (layer t) (row t r) d := by
  have hN := N_eq
  have ht := t.isLt
  rcases Nat.lt_or_ge t.val 1 with h | h
  · rw [Value.flushed5_A m c t (by omega) (by omega), out_A_5]
    refine (cut5_val t _ r d).trans ?_
    exact point_first m c t h r d
  · rw [Value.flushed5_B m c t (by omega) (by omega), out_B_5]
    refine (cut5_val t _ r d).trans ?_
    exact point_second m c t h r d

theorem kernel_5 (l : Fin 2) (q : Fin 352) (d : Fin 1024) : ((dats m 0 c).arrAt 5 cfg0.N : FVec Ideal S2x352x1024 .f32) (ix3 l q d)
    = gOf m c l q d := by
  have h := (dats m 0 c).arrAt_emb_eq_flushed 5 Value.disjoint5 (ptOf l q) (flush0_5 _) (ix3 0 (rowOf q) d)
  rw [emb5, row_ptOf, layer_ptOf] at h
  refine h.trans ((flushed5_val m c _ _ d).trans ?_)
  rw [row_ptOf, layer_ptOf]

theorem emb6 (t : Fin cfg0.N) (r : Fin 352) (d : Fin 1024) : ((cfg0.win 6).blk t).view.emb (ix3 0 r d) = ix3 (layer t) (row t r) d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = t.val / 1; omega
  · show win0_6.index t 1 * 352 + r.val = 352 * (t.val % 1) + r.val; omega
  · show win0_6.index t 2 * 1024 + d.val = d.val; omega

theorem cut6_val (t : Fin cfg0.N) (X : Vec Ideal S1x352x1024 .f32) (r : Fin 352) (d : Fin 1024) :
    (cfg0.win 6).cut (grid0.coords t) X (ix3 0 r d) = X (ix3 0 r d) :=
  congrArg X (funext fun a => Fin.ext rfl)

theorem flushed6_val (t : Fin cfg0.N) (r : Fin 352) (d : Fin 1024) : ((dats m 0 c).flushed 6 t : Vec Ideal S1x352x1024 .f32) (ix3 0 r d)
    = step (gOf m c (layer t) (row t r) d) (m (c, Proc.tc.devRef main_arg2) (ix3 (layer t) (row t r) d)) (m (c, Proc.tc.devRef main_arg3) (ix3 (layer t) (row t r) d)) (m (c, Proc.tc.devRef main_arg4) (ix3 (layer t) (row t r) d)) := by
  have hN := N_eq
  have ht := t.isLt
  rcases Nat.lt_or_ge t.val 1 with h | h
  · rw [Value.flushed6_A m c t (by omega) (by omega), out_A_6]
    refine (cut6_val t _ r d).trans ?_
    rw [delta_val, point_first m c t h, load_2 m c t, load_3 m c t, load_4 m c t]
  · rw [Value.flushed6_B m c t (by omega) (by omega), out_B_6]
    refine (cut6_val t _ r d).trans ?_
    rw [delta_val, point_second m c t h, load_2 m c t, load_3 m c t, load_4 m c t]

theorem kernel_6 (l : Fin 2) (q : Fin 352) (d : Fin 1024) : ((dats m 0 c).arrAt 6 cfg0.N : FVec Ideal S2x352x1024 .f32) (ix3 l q d)
    = step (gOf m c l q d) (m (c, Proc.tc.devRef main_arg2) (ix3 l q d)) (m (c, Proc.tc.devRef main_arg3) (ix3 l q d)) (m (c, Proc.tc.devRef main_arg4) (ix3 l q d)) := by
  have h := (dats m 0 c).arrAt_emb_eq_flushed 6 Value.disjoint6 (ptOf l q) (flush0_6 _) (ix3 0 (rowOf q) d)
  rw [emb6, row_ptOf, layer_ptOf] at h
  refine h.trans ((flushed6_val m c _ _ d).trans ?_)
  rw [row_ptOf, layer_ptOf]

theorem emb7 (t : Fin cfg0.N) (r : Fin 352) (d : Fin 1024) : ((cfg0.win 7).blk t).view.emb (ix3 0 r d) = ix3 (layer t) (row t r) d := by
  obtain ⟨h0, h1, h2⟩ := (win_facts t).2.2.2.2.2.2.2.1
  refine funext fun a => Fin.ext ?_
  refine (win0_7.rect_emb_val t (ix3 0 r d) a).trans ?_
  fin_cases a
  · show win0_7.index t 0 * 1 + 0 = t.val / 1; omega
  · show win0_7.index t 1 * 352 + r.val = 352 * (t.val % 1) + r.val; omega
  · show win0_7.index t 2 * 1024 + d.val = d.val; omega

theorem cut7_val (t : Fin cfg0.N) (X : Vec Ideal S1x352x1024 .f32) (r : Fin 352) (d : Fin 1024) :
    (cfg0.win 7).cut (grid0.coords t) X (ix3 0 r d) = X (ix3 0 r d) :=
  congrArg X (funext fun a => Fin.ext rfl)

theorem flushed7_val (t : Fin cfg0.N) (r : Fin 352) (d : Fin 1024) : ((dats m 0 c).flushed 7 t : Vec Ideal S1x352x1024 .f32) (ix3 0 r d)
    = m1 (gOf m c (layer t) (row t r) d) (m (c, Proc.tc.devRef main_arg3) (ix3 (layer t) (row t r) d)) := by
  have hN := N_eq
  have ht := t.isLt
  rcases Nat.lt_or_ge t.val 1 with h | h
  · rw [Value.flushed7_A m c t (by omega) (by omega), out_A_7]
    refine (cut7_val t _ r d).trans ?_
    rw [moment_val, point_first m c t h, load_3 m c t]
  · rw [Value.flushed7_B m c t (by omega) (by omega), out_B_7]
    refine (cut7_val t _ r d).trans ?_
    rw [moment_val, point_second m c t h, load_3 m c t]

theorem kernel_7 (l : Fin 2) (q : Fin 352) (d : Fin 1024) : ((dats m 0 c).arrAt 7 cfg0.N : FVec Ideal S2x352x1024 .f32) (ix3 l q d)
    = m1 (gOf m c l q d) (m (c, Proc.tc.devRef main_arg3) (ix3 l q d)) := by
  have h := (dats m 0 c).arrAt_emb_eq_flushed 7 Value.disjoint7 (ptOf l q) (flush0_7 _) (ix3 0 (rowOf q) d)
  rw [emb7, row_ptOf, layer_ptOf] at h
  refine h.trans ((flushed7_val m c _ _ d).trans ?_)
  rw [row_ptOf, layer_ptOf]

theorem emb8 (t : Fin cfg0.N) (r : Fin 352) (d : Fin 1024) : ((cfg0.win 8).blk t).view.emb (ix3 0 r d) = ix3 (layer t) (row t r) d := by
  obtain ⟨h0, h1, h2⟩ := (win_facts t).2.2.2.2.2.2.2.2
  refine funext fun a => Fin.ext ?_
  refine (win0_8.rect_emb_val t (ix3 0 r d) a).trans ?_
  fin_cases a
  · show win0_8.index t 0 * 1 + 0 = t.val / 1; omega
  · show win0_8.index t 1 * 352 + r.val = 352 * (t.val % 1) + r.val; omega
  · show win0_8.index t 2 * 1024 + d.val = d.val; omega

theorem cut8_val (t : Fin cfg0.N) (X : Vec Ideal S1x352x1024 .f32) (r : Fin 352) (d : Fin 1024) :
    (cfg0.win 8).cut (grid0.coords t) X (ix3 0 r d) = X (ix3 0 r d) :=
  congrArg X (funext fun a => Fin.ext rfl)

theorem flushed8_val (t : Fin cfg0.N) (r : Fin 352) (d : Fin 1024) : ((dats m 0 c).flushed 8 t : Vec Ideal S1x352x1024 .f32) (ix3 0 r d)
    = v1 (gOf m c (layer t) (row t r) d) (m (c, Proc.tc.devRef main_arg4) (ix3 (layer t) (row t r) d)) := by
  have hN := N_eq
  have ht := t.isLt
  rcases Nat.lt_or_ge t.val 1 with h | h
  · rw [Value.flushed8_A m c t (by omega) (by omega), out_A_8]
    refine (cut8_val t _ r d).trans ?_
    rw [second_val, point_first m c t h, load_4 m c t]
  · rw [Value.flushed8_B m c t (by omega) (by omega), out_B_8]
    refine (cut8_val t _ r d).trans ?_
    rw [second_val, point_second m c t h, load_4 m c t]

theorem kernel_8 (l : Fin 2) (q : Fin 352) (d : Fin 1024) : ((dats m 0 c).arrAt 8 cfg0.N : FVec Ideal S2x352x1024 .f32) (ix3 l q d)
    = v1 (gOf m c l q d) (m (c, Proc.tc.devRef main_arg4) (ix3 l q d)) := by
  have h := (dats m 0 c).arrAt_emb_eq_flushed 8 Value.disjoint8 (ptOf l q) (flush0_8 _) (ix3 0 (rowOf q) d)
  rw [emb8, row_ptOf, layer_ptOf] at h
  refine h.trans ((flushed8_val m c _ _ d).trans ?_)
  rw [row_ptOf, layer_ptOf]

end Loads

end Cert.AdamWDown

end
-- ==== Proof.AdamWIn.lean ====
/-
  AdamW on the input projection's weights: each grid point sums the parts of a block of rows of one layer's gradient and steps its moments.
-/
module

public import proofs.«01_k».proof.Proof.AdamW
public import proofs.«01_k».proof.Proof.Gen.Kernel16Ideal.Value
public import proofs.«01_k».proof.Proof.Gen.Reference16Ideal.Run
public import proofs.«01_k».proof.Proof.Gen.Reference16Ideal.Read
public import Idealize.ShloMosaic.Lib.Claim
public import Idealize.ShloMosaic.Lib.Pointwise

@[expose] public section

noncomputable section

namespace Cert.AdamWIn

open Idealize.ShloMosaic Cert.Kernel16Ideal Cert.Kernel16Ideal.Gen Idealize.ShloMosaic.TcCoe
open Idealize.ShloMosaic.Tactic
open Cert.AdamW (m1 v1 step)

section Body

variable {F : FTy → Type} [FloatOps F]

/-- The parts of one layer's gradient, summed. -/
def grad (x : Vec F S8x256x384 .bf16) : FVec F S1x256x384 .f32 :=
  k0_pay4 (k0_pay2 (View.ld x (Rect.unit (s := S8x256x384) ![0, 0, 0] S1x256x384.size inb_S8x256x384_S1x256x384_0_0_0))
    (View.ld x (Rect.unit (s := S8x256x384) ![1, 0, 0] S1x256x384.size inb_S8x256x384_S1x256x384_1_0_0))
    (View.ld x (Rect.unit (s := S8x256x384) ![2, 0, 0] S1x256x384.size inb_S8x256x384_S1x256x384_2_0_0))
    (View.ld x (Rect.unit (s := S8x256x384) ![3, 0, 0] S1x256x384.size inb_S8x256x384_S1x256x384_3_0_0))
    (View.ld x (Rect.unit (s := S8x256x384) ![4, 0, 0] S1x256x384.size inb_S8x256x384_S1x256x384_4_0_0))
    (View.ld x (Rect.unit (s := S8x256x384) ![5, 0, 0] S1x256x384.size inb_S8x256x384_S1x256x384_5_0_0))
    (View.ld x (Rect.unit (s := S8x256x384) ![6, 0, 0] S1x256x384.size inb_S8x256x384_S1x256x384_6_0_0))
    (View.ld x (Rect.unit (s := S8x256x384) ![7, 0, 0] S1x256x384.size inb_S8x256x384_S1x256x384_7_0_0)))

/-- The step of the weights. -/
def delta (g x2 x3 x4 : Vec F S1x256x384 .f32) : FVec F S1x256x384 .f32 := k0_pay1 (k0_pay7 g x3) (k0_pay8 g x4) k0_pay11 x2

theorem out_A_5 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_A_5 (F := F) c i a2 h2 a3 h3 a4 h4 a5 h5 a6 h6 a7 h7 a8 h8 a9 h9 a10 h10 hc0 hc1 x0 x1 x2 x3 x4 = grad x0 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  rfl

theorem out_A_6 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_A_6 (F := F) c i a2 h2 a3 h3 a4 h4 a5 h5 a6 h6 a7 h7 a8 h8 a9 h9 a10 h10 hc0 hc1 x0 x1 x2 x3 x4 = delta (grad x0) x2 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

theorem out_A_7 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_A_7 (F := F) c i a2 h2 a3 h3 a4 h4 a5 h5 a6 h6 a7 h7 a8 h8 a9 h9 a10 h10 hc0 hc1 x0 x1 x2 x3 x4 = k0_pay9 (grad x0) x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

theorem out_A_8 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_A_8 (F := F) c i a2 h2 a3 h3 a4 h4 a5 h5 a6 h6 a7 h7 a8 h8 a9 h9 a10 h10 hc0 hc1 x0 x1 x2 x3 x4 = k0_pay10 (grad x0) x4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

theorem out_B_5 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_B_5 (F := F) c i a2 h2 a3 h3 a4 h4 a5 h5 a6 h6 a7 h7 a8 h8 a9 h9 a10 h10 hc0 hc1 x0 x1 x2 x3 x4 = grad x1 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  rfl

theorem out_B_6 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_B_6 (F := F) c i a2 h2 a3 h3 a4 h4 a5 h5 a6 h6 a7 h7 a8 h8 a9 h9 a10 h10 hc0 hc1 x0 x1 x2 x3 x4 = delta (grad x1) x2 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

theorem out_B_7 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_B_7 (F := F) c i a2 h2 a3 h3 a4 h4 a5 h5 a6 h6 a7 h7 a8 h8 a9 h9 a10 h10 hc0 hc1 x0 x1 x2 x3 x4 = k0_pay9 (grad x1) x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

theorem out_B_8 (c : Dev nD) (i : grid0.Coords) (a2 a3 a4 a5 a6 a7 a8 a9 a10) (h2 h3 h4 h5 h6 h7 h8 h9 h10) (hc0 hc1)
    (x0 x1 : Vec F S8x256x384 .bf16) (x2 x3 x4 : Vec F S1x256x384 .f32) :
    out0_B_8 (F := F) c i a2 h2 a3 h3 a4 h4 a5 h5 a6 h6 a7 h7 a8 h8 a9 h9 a10 h10 hc0 hc1 x0 x1 x2 x3 x4 = k0_pay10 (grad x1) x4 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x256x384) _ Cert.FfnBwd.hz3, View.ld_unit_zero (S := S1x256x384) Cert.FfnBwd.hz3]
  rfl

end Body

/-- The gradient: the parts of each layer summed. -/
def total (P0 P1 : FVec Ideal ⟨3, ![8, 1024, 384]⟩ .f32) (l : Fin 2) (r : Fin 1024) (d : Fin 384) : EReal :=
  if l.val < 1 then ∑ k : Fin 8, P0 (ix3 k r d) else ∑ k : Fin 8, P1 (ix3 k r d)

section Reference

open Cert.Reference16Ideal Cert.Reference16Ideal.Gen Cert.Reference16Ideal.Read

theorem ref_g (P0 P1 : FVec Ideal ⟨3, ![8, 1024, 384]⟩ .f32) (l : Fin 2) (r : Fin 1024) (d : Fin 384) :
    val_main_v4 (F := Ideal) P0 P1 (ix3 l r d) = total P0 P1 l r d := by
  pointwise [val_main_v4, val_main_v3, val_main_v2, val_main_v1, val_main_v0, val_main_cst, val_main_cst_0]
  rfl

theorem ref_m (P0 P1 : FVec Ideal ⟨3, ![8, 1024, 384]⟩ .f32) (M : FVec Ideal ⟨3, ![2, 1024, 384]⟩ .f32) (l : Fin 2) (r : Fin 1024) (d : Fin 384) :
    val_main_v9 (F := Ideal) P0 P1 M (ix3 l r d) = m1 (total P0 P1 l r d) (M (ix3 l r d)) := by
  have e := ref_g P0 P1 l r d
  unfold val_main_v9 val_main_v8
  generalize val_main_v4 (F := Ideal) P0 P1 = y at e ⊢
  pointwise [val_main_v7, val_main_v6, val_main_v5, val_main_cst_1, val_main_cst_2]
  rw [e]
  rfl

theorem ref_v (P0 P1 : FVec Ideal ⟨3, ![8, 1024, 384]⟩ .f32) (V : FVec Ideal ⟨3, ![2, 1024, 384]⟩ .f32) (l : Fin 2) (r : Fin 1024) (d : Fin 384) :
    val_main_v15 (F := Ideal) P0 P1 V (ix3 l r d) = v1 (total P0 P1 l r d) (V (ix3 l r d)) := by
  have e := ref_g P0 P1 l r d
  unfold val_main_v15 val_main_v14 val_main_v12
  generalize val_main_v4 (F := Ideal) P0 P1 = y at e ⊢
  pointwise [val_main_v13, val_main_v11, val_main_v10, val_main_cst_3, val_main_cst_4]
  rw [e]
  rfl

theorem ref_d (P0 P1 : FVec Ideal ⟨3, ![8, 1024, 384]⟩ .f32) (W M V : FVec Ideal ⟨3, ![2, 1024, 384]⟩ .f32) (l : Fin 2) (r : Fin 1024) (d : Fin 384) :
    val_main_v28 (F := Ideal) P0 P1 W M V (ix3 l r d) = step (total P0 P1 l r d) (W (ix3 l r d)) (M (ix3 l r d)) (V (ix3 l r d)) := by
  have e := ref_m P0 P1 M l r d
  have e' := ref_v P0 P1 V l r d
  unfold val_main_v28 val_main_v26 val_main_v23 val_main_v17 val_main_v22 val_main_v20 val_main_v19
  generalize val_main_v9 (F := Ideal) P0 P1 M = y at e ⊢
  generalize val_main_v15 (F := Ideal) P0 P1 V = y' at e' ⊢
  pointwise [val_main_v27, val_main_v25, val_main_v24, val_main_v21, val_main_v18, val_main_v16, val_main_cst_5, val_main_cst_6, val_main_cst_7, val_main_cst_8, val_main_cst_9]
  rw [e, e']
  rfl

end Reference

/-! ## One grid point's values -/

theorem ld_part (x : Vec Ideal S8x256x384 .bf16) (o : ℕ) (ho : o < 8)
    (inb : ∀ a, (![o, 0, 0] : Fin 3 → ℕ) a + (![1, 256, 384] : Fin 3 → ℕ) a ≤ (![8, 256, 384] : Fin 3 → ℕ) a) (r : Fin 256) (d : Fin 384) :
    View.ld x (Rect.unit (s := S8x256x384) ![o, 0, 0] ![1, 256, 384] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x256x384 .bf16) (r : Fin 256) (d : Fin 384) :
    k0_pay4 (F := Ideal) (k0_pay2 y0 y1 y2 y3 y4 y5 y6 y7) (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay4, k0_pay2]

theorem grad_val (x : Vec Ideal S8x256x384 .bf16) (r : Fin 256) (d : Fin 384) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x256x384 .f32) (r : Fin 256) (d : Fin 384) :
    k0_pay9 (F := Ideal) g y (ix3 0 r d) = m1 (g (ix3 0 r d)) (y (ix3 0 r d)) := by
  pointwise [k0_pay9, k0_pay7, k0_pay6]
  rfl

theorem second_val (g y : Vec Ideal S1x256x384 .f32) (r : Fin 256) (d : Fin 384) :
    k0_pay10 (F := Ideal) g y (ix3 0 r d) = v1 (g (ix3 0 r d)) (y (ix3 0 r d)) := by
  pointwise [k0_pay10, k0_pay8, k0_pay6]
  rfl

theorem delta_val (g x2 x3 x4 : Vec Ideal S1x256x384 .f32) (r : Fin 256) (d : Fin 384) :
    delta (F := Ideal) g x2 x3 x4 (ix3 0 r d) = step (g (ix3 0 r d)) (x2 (ix3 0 r d)) (x3 (ix3 0 r d)) (x4 (ix3 0 r d)) := by
  pointwise [delta, k0_pay1, k0_pay11, k0_pay7, k0_pay8, k0_pay6]
  rfl

/-! ## The blocks a point loads -/

section Loads

variable (m : (ℓ : Loc nD τ sig) → Buf (Elt Ideal) ℓ) (c : Dev nD)

theorem N_eq : cfg0.N = 8 := N_0

theorem win_facts : ∀ t : Fin grid0.N, (win0_0.index t 0 = 0 ∧ (t.val < 4 → win0_0.index t 1 = t.val % 4) ∧ win0_0.index t 2 = 0) ∧
    (win0_1.index t 0 = 0 ∧ (4 ≤ t.val → win0_1.index t 1 = t.val % 4) ∧ win0_1.index t 2 = 0) ∧
    (win0_2.index t 0 = t.val / 4 ∧ win0_2.index t 1 = t.val % 4 ∧ win0_2.index t 2 = 0) ∧
    (win0_3.index t 0 = t.val / 4 ∧ win0_3.index t 1 = t.val % 4 ∧ win0_3.index t 2 = 0) ∧
    (win0_4.index t 0 = t.val / 4 ∧ win0_4.index t 1 = t.val % 4 ∧ win0_4.index t 2 = 0) ∧
    (win0_5.index t 0 = t.val / 4 ∧ win0_5.index t 1 = t.val % 4 ∧ win0_5.index t 2 = 0) ∧
    (win0_6.index t 0 = t.val / 4 ∧ win0_6.index t 1 = t.val % 4 ∧ win0_6.index t 2 = 0) ∧
    (win0_7.index t 0 = t.val / 4 ∧ win0_7.index t 1 = t.val % 4 ∧ win0_7.index t 2 = 0) ∧
    (win0_8.index t 0 = t.val / 4 ∧ win0_8.index t 1 = t.val % 4 ∧ win0_8.index t 2 = 0) := by
  decide +kernel

/-- The layer of a point. -/
def layer (t : Fin cfg0.N) : Fin 2 := ⟨t.val / 4, by have := t.isLt; have := N_eq; omega⟩

/-- Row `r` of the block of a point. -/
def row (t : Fin cfg0.N) (r : Fin 256) : Fin 1024 := ⟨256 * (t.val % 4) + r.val, by have := r.isLt; omega⟩

theorem load_0 (t : Fin cfg0.N) (h : t.val < 4) (k : Fin 8) (r : Fin 256) (d : Fin 384) :
    (iblk m c 0 t : Vec Ideal S8x256x384 .bf16) (ix3 k r d) = m (c, Proc.tc.devRef main_arg0) (ix3 k (row t r) d) := by
  have e : (iblk m c 0 t : Vec Ideal S8x256x384 .bf16) (ix3 k r d) = (V m c main_v0 : FVec Ideal S8x1024x384 .bf16) (ix3 k (row t r) d) := by
    obtain ⟨h0, h1, h2⟩ := (win_facts t).1
    have h1 := h1 h
    refine congrArg (V m c main_v0 : FVec Ideal S8x1024x384 .bf16) (a₁ := (win0_0.rect t).emb (ix3 k r d)) (funext fun a => Fin.ext ?_)
    rw [win0_0.rect_emb_val]
    fin_cases a
    · show win0_0.index t 0 * 8 + k.val = k.val; omega
    · show win0_0.index t 1 * 256 + r.val = 256 * (t.val % 4) + r.val; omega
    · show win0_0.index t 2 * 384 + d.val = d.val; omega
  rw [e]
  entry_read
  pointwise []

theorem load_1 (t : Fin cfg0.N) (h : 4 ≤ t.val) (k : Fin 8) (r : Fin 256) (d : Fin 384) :
    (iblk m c 1 t : Vec Ideal S8x256x384 .bf16) (ix3 k r d) = m (c, Proc.tc.devRef main_arg1) (ix3 k (row t r) d) := by
  have e : (iblk m c 1 t : Vec Ideal S8x256x384 .bf16) (ix3 k r d) = (V m c main_v1 : FVec Ideal S8x1024x384 .bf16) (ix3 k (row t r) d) := by
    obtain ⟨h0, h1, h2⟩ := (win_facts t).2.1
    have h1 := h1 h
    refine congrArg (V m c main_v1 : FVec Ideal S8x1024x384 .bf16) (a₁ := (win0_1.rect t).emb (ix3 k r d)) (funext fun a => Fin.ext ?_)
    rw [win0_1.rect_emb_val]
    fin_cases a
    · show win0_1.index t 0 * 8 + k.val = k.val; omega
    · show win0_1.index t 1 * 256 + r.val = 256 * (t.val % 4) + r.val; omega
    · show win0_1.index t 2 * 384 + d.val = d.val; omega
  rw [e]
  entry_read
  pointwise []

theorem load_2 (t : Fin cfg0.N) (r : Fin 256) (d : Fin 384) :
    (iblk m c 2 t : Vec Ideal S1x256x384 .f32) (ix3 0 r d) = m (c, Proc.tc.devRef main_arg2) (ix3 (layer t) (row t r) d) := by
  have e : (iblk m c 2 t : Vec Ideal S1x256x384 .f32) (ix3 0 r d) = (V m c main_arg2 : FVec Ideal S2x1024x384 .f32) (ix3 (layer t) (row t r) d) := by
    obtain ⟨h0, h1, h2⟩ := (win_facts t).2.2.1
    refine congrArg (V m c main_arg2 : FVec Ideal S2x1024x384 .f32) (a₁ := (win0_2.rect t).emb (ix3 0 r d)) (funext fun a => Fin.ext ?_)
    rw [win0_2.rect_emb_val]
    fin_cases a
    · show win0_2.index t 0 * 1 + 0 = t.val / 4; omega
    · show win0_2.index t 1 * 256 + r.val = 256 * (t.val % 4) + r.val; omega
    · show win0_2.index t 2 * 384 + d.val = d.val; omega
  rw [e]
  entry_read
  rfl

theorem load_3 (t : Fin cfg0.N) (r : Fin 256) (d : Fin 384) :
    (iblk m c 3 t : Vec Ideal S1x256x384 .f32) (ix3 0 r d) = m (c, Proc.tc.devRef main_arg3) (ix3 (layer t) (row t r) d) := by
  have e : (iblk m c 3 t : Vec Ideal S1x256x384 .f32) (ix3 0 r d) = (V m c main_arg3 : FVec Ideal S2x1024x384 .f32) (ix3 (layer t) (row t r) d) := by
    obtain ⟨h0, h1, h2⟩ := (win_facts t).2.2.2.1
    refine congrArg (V m c main_arg3 : FVec Ideal S2x1024x384 .f32) (a₁ := (win0_3.rect t).emb (ix3 0 r d)) (funext fun a => Fin.ext ?_)
    rw [win0_3.rect_emb_val]
    fin_cases a
    · show win0_3.index t 0 * 1 + 0 = t.val / 4; omega
    · show win0_3.index t 1 * 256 + r.val = 256 * (t.val % 4) + r.val; omega
    · show win0_3.index t 2 * 384 + d.val = d.val; omega
  rw [e]
  entry_read
  rfl

theorem load_4 (t : Fin cfg0.N) (r : Fin 256) (d : Fin 384) :
    (iblk m c 4 t : Vec Ideal S1x256x384 .f32) (ix3 0 r d) = m (c, Proc.tc.devRef main_arg4) (ix3 (layer t) (row t r) d) := by
  have e : (iblk m c 4 t : Vec Ideal S1x256x384 .f32) (ix3 0 r d) = (V m c main_arg4 : FVec Ideal S2x1024x384 .f32) (ix3 (layer t) (row t r) d) := by
    obtain ⟨h0, h1, h2⟩ := (win_facts t).2.2.2.2.1
    refine congrArg (V m c main_arg4 : FVec Ideal S2x1024x384 .f32) (a₁ := (win0_4.rect t).emb (ix3 0 r d)) (funext fun a => Fin.ext ?_)
    rw [win0_4.rect_emb_val]
    fin_cases a
    · show win0_4.index t 0 * 1 + 0 = t.val / 4; omega
    · show win0_4.index t 1 * 256 + r.val = 256 * (t.val % 4) + r.val; omega
    · show win0_4.index t 2 * 384 + d.val = d.val; omega
  rw [e]
  entry_read
  rfl

/-- The gradient, of the arguments in memory. -/
def gOf (l : Fin 2) (q : Fin 1024) (d : Fin 384) : EReal := total (m (c, Proc.tc.devRef main_arg0)) (m (c, Proc.tc.devRef main_arg1)) l q d

theorem point_first (t : Fin cfg0.N) (h : t.val < 4) (r : Fin 256) (d : Fin 384) :
    grad (F := Ideal) (iblk m c 0 t) (ix3 0 r d) = gOf m c (layer t) (row t r) d := by
  rw [grad_val]
  unfold gOf total
  rw [if_pos (by show t.val / 4 < 1; omega)]
  exact Finset.sum_congr rfl fun k _ => load_0 m c t h k r d

theorem point_second (t : Fin cfg0.N) (h : 4 ≤ t.val) (r : Fin 256) (d : Fin 384) :
    grad (F := Ideal) (iblk m c 1 t) (ix3 0 r d) = gOf m c (layer t) (row t r) d := by
  rw [grad_val]
  unfold gOf total
  rw [if_neg (by show ¬t.val / 4 < 1; omega)]
  exact Finset.sum_congr rfl fun k _ => load_1 m c t h k r d

/-! ## The result arrays -/

/-- The point that owns a row of a layer. -/
def ptOf (l : Fin 2) (q : Fin 1024) : Fin cfg0.N := ⟨4 * l.val + q.val / 256, by have := N_eq; have := l.isLt; have := q.isLt; omega⟩

/-- A row's place in its point's block. -/
def rowOf (q : Fin 1024) : Fin 256 := ⟨q.val % 256, by omega⟩

theorem layer_ptOf (l : Fin 2) (q : Fin 1024) : layer (ptOf l q) = l := by
  apply Fin.ext
  simp only [layer, ptOf]
  omega

theorem row_ptOf (l : Fin 2) (q : Fin 1024) : row (ptOf l q) (rowOf q) = q := by
  apply Fin.ext
  simp only [row, ptOf, rowOf]
  omega

theorem emb5 (t : Fin cfg0.N) (r : Fin 256) (d : Fin 384) : ((cfg0.win 5).blk t).view.emb (ix3 0 r d) = ix3 (layer t) (row t r) d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = t.val / 4; omega
  · show win0_5.index t 1 * 256 + r.val = 256 * (t.val % 4) + r.val; omega
  · show win0_5.index t 2 * 384 + d.val = d.val; omega

theorem cut5_val (t : Fin cfg0.N) (X : Vec Ideal S1x256x384 .f32) (r : Fin 256) (d : Fin 384) :
    (cfg0.win 5).cut (grid0.coords t) X (ix3 0 r d) = X (ix3 0 r d) :=
  congrArg X (funext fun a => Fin.ext rfl)

theorem flushed5_val (t : Fin cfg0.N) (r : Fin 256) (d : Fin 384) : ((dats m 0 c).flushed 5 t : Vec Ideal S1x256x384 .f32) (ix3 0 r d)
    = gOf m c (layer t) (row t r) d := by
  have hN := N_eq
  have ht := t.isLt
  rcases Nat.lt_or_ge t.val 4 with h | h
  · rw [Value.flushed5_A m c t (by omega) (by omega), out_A_5]
    refine (cut5_val t _ r d).trans ?_
    exact point_first m c t h r d
  · rw [Value.flushed5_B m c t (by omega) (by omega), out_B_5]
    refine (cut5_val t _ r d).trans ?_
    exact point_second m c t h r d

theorem kernel_5 (l : Fin 2) (q : Fin 1024) (d : Fin 384) : ((dats m 0 c).arrAt 5 cfg0.N : FVec Ideal S2x1024x384 .f32) (ix3 l q d)
    = gOf m c l q d := by
  have h := (dats m 0 c).arrAt_emb_eq_flushed 5 Value.disjoint5 (ptOf l q) (flush0_5 _) (ix3 0 (rowOf q) d)
  rw [emb5, row_ptOf, layer_ptOf] at h
  refine h.trans ((flushed5_val m c _ _ d).trans ?_)
  rw [row_ptOf, layer_ptOf]

theorem emb6 (t : Fin cfg0.N) (r : Fin 256) (d : Fin 384) : ((cfg0.win 6).blk t).view.emb (ix3 0 r d) = ix3 (layer t) (row t r) d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = t.val / 4; omega
  · show win0_6.index t 1 * 256 + r.val = 256 * (t.val % 4) + r.val; omega
  · show win0_6.index t 2 * 384 + d.val = d.val; omega

theorem cut6_val (t : Fin cfg0.N) (X : Vec Ideal S1x256x384 .f32) (r : Fin 256) (d : Fin 384) :
    (cfg0.win 6).cut (grid0.coords t) X (ix3 0 r d) = X (ix3 0 r d) :=
  congrArg X (funext fun a => Fin.ext rfl)

theorem flushed6_val (t : Fin cfg0.N) (r : Fin 256) (d : Fin 384) : ((dats m 0 c).flushed 6 t : Vec Ideal S1x256x384 .f32) (ix3 0 r d)
    = step (gOf m c (layer t) (row t r) d) (m (c, Proc.tc.devRef main_arg2) (ix3 (layer t) (row t r) d)) (m (c, Proc.tc.devRef main_arg3) (ix3 (layer t) (row t r) d)) (m (c, Proc.tc.devRef main_arg4) (ix3 (layer t) (row t r) d)) := by
  have hN := N_eq
  have ht := t.isLt
  rcases Nat.lt_or_ge t.val 4 with h | h
  · rw [Value.flushed6_A m c t (by omega) (by omega), out_A_6]
    refine (cut6_val t _ r d).trans ?_
    rw [delta_val, point_first m c t h, load_2 m c t, load_3 m c t, load_4 m c t]
  · rw [Value.flushed6_B m c t (by omega) (by omega), out_B_6]
    refine (cut6_val t _ r d).trans ?_
    rw [delta_val, point_second m c t h, load_2 m c t, load_3 m c t, load_4 m c t]

theorem kernel_6 (l : Fin 2) (q : Fin 1024) (d : Fin 384) : ((dats m 0 c).arrAt 6 cfg0.N : FVec Ideal S2x1024x384 .f32) (ix3 l q d)
    = step (gOf m c l q d) (m (c, Proc.tc.devRef main_arg2) (ix3 l q d)) (m (c, Proc.tc.devRef main_arg3) (ix3 l q d)) (m (c, Proc.tc.devRef main_arg4) (ix3 l q d)) := by
  have h := (dats m 0 c).arrAt_emb_eq_flushed 6 Value.disjoint6 (ptOf l q) (flush0_6 _) (ix3 0 (rowOf q) d)
  rw [emb6, row_ptOf, layer_ptOf] at h
  refine h.trans ((flushed6_val m c _ _ d).trans ?_)
  rw [row_ptOf, layer_ptOf]

theorem emb7 (t : Fin cfg0.N) (r : Fin 256) (d : Fin 384) : ((cfg0.win 7).blk t).view.emb (ix3 0 r d) = ix3 (layer t) (row t r) d := by
  obtain ⟨h0, h1, h2⟩ := (win_facts t).2.2.2.2.2.2.2.1
  refine funext fun a => Fin.ext ?_
  refine (win0_7.rect_emb_val t (ix3 0 r d) a).trans ?_
  fin_cases a
  · show win0_7.index t 0 * 1 + 0 = t.val / 4; omega
  · show win0_7.index t 1 * 256 + r.val = 256 * (t.val % 4) + r.val; omega
  · show win0_7.index t 2 * 384 + d.val = d.val; omega

theorem cut7_val (t : Fin cfg0.N) (X : Vec Ideal S1x256x384 .f32) (r : Fin 256) (d : Fin 384) :
    (cfg0.win 7).cut (grid0.coords t) X (ix3 0 r d) = X (ix3 0 r d) :=
  congrArg X (funext fun a => Fin.ext rfl)

theorem flushed7_val (t : Fin cfg0.N) (r : Fin 256) (d : Fin 384) : ((dats m 0 c).flushed 7 t : Vec Ideal S1x256x384 .f32) (ix3 0 r d)
    = m1 (gOf m c (layer t) (row t r) d) (m (c, Proc.tc.devRef main_arg3) (ix3 (layer t) (row t r) d)) := by
  have hN := N_eq
  have ht := t.isLt
  rcases Nat.lt_or_ge t.val 4 with h | h
  · rw [Value.flushed7_A m c t (by omega) (by omega), out_A_7]
    refine (cut7_val t _ r d).trans ?_
    rw [moment_val, point_first m c t h, load_3 m c t]
  · rw [Value.flushed7_B m c t (by omega) (by omega), out_B_7]
    refine (cut7_val t _ r d).trans ?_
    rw [moment_val, point_second m c t h, load_3 m c t]

theorem kernel_7 (l : Fin 2) (q : Fin 1024) (d : Fin 384) : ((dats m 0 c).arrAt 7 cfg0.N : FVec Ideal S2x1024x384 .f32) (ix3 l q d)
    = m1 (gOf m c l q d) (m (c, Proc.tc.devRef main_arg3) (ix3 l q d)) := by
  have h := (dats m 0 c).arrAt_emb_eq_flushed 7 Value.disjoint7 (ptOf l q) (flush0_7 _) (ix3 0 (rowOf q) d)
  rw [emb7, row_ptOf, layer_ptOf] at h
  refine h.trans ((flushed7_val m c _ _ d).trans ?_)
  rw [row_ptOf, layer_ptOf]

theorem emb8 (t : Fin cfg0.N) (r : Fin 256) (d : Fin 384) : ((cfg0.win 8).blk t).view.emb (ix3 0 r d) = ix3 (layer t) (row t r) d := by
  obtain ⟨h0, h1, h2⟩ := (win_facts t).2.2.2.2.2.2.2.2
  refine funext fun a => Fin.ext ?_
  refine (win0_8.rect_emb_val t (ix3 0 r d) a).trans ?_
  fin_cases a
  · show win0_8.index t 0 * 1 + 0 = t.val / 4; omega
  · show win0_8.index t 1 * 256 + r.val = 256 * (t.val % 4) + r.val; omega
  · show win0_8.index t 2 * 384 + d.val = d.val; omega

theorem cut8_val (t : Fin cfg0.N) (X : Vec Ideal S1x256x384 .f32) (r : Fin 256) (d : Fin 384) :
    (cfg0.win 8).cut (grid0.coords t) X (ix3 0 r d) = X (ix3 0 r d) :=
  congrArg X (funext fun a => Fin.ext rfl)

theorem flushed8_val (t : Fin cfg0.N) (r : Fin 256) (d : Fin 384) : ((dats m 0 c).flushed 8 t : Vec Ideal S1x256x384 .f32) (ix3 0 r d)
    = v1 (gOf m c (layer t) (row t r) d) (m (c, Proc.tc.devRef main_arg4) (ix3 (layer t) (row t r) d)) := by
  have hN := N_eq
  have ht := t.isLt
  rcases Nat.lt_or_ge t.val 4 with h | h
  · rw [Value.flushed8_A m c t (by omega) (by omega), out_A_8]
    refine (cut8_val t _ r d).trans ?_
    rw [second_val, point_first m c t h, load_4 m c t]
  · rw [Value.flushed8_B m c t (by omega) (by omega), out_B_8]
    refine (cut8_val t _ r d).trans ?_
    rw [second_val, point_second m c t h, load_4 m c t]

theorem kernel_8 (l : Fin 2) (q : Fin 1024) (d : Fin 384) : ((dats m 0 c).arrAt 8 cfg0.N : FVec Ideal S2x1024x384 .f32) (ix3 l q d)
    = v1 (gOf m c l q d) (m (c, Proc.tc.devRef main_arg4) (ix3 l q d)) := by
  have h := (dats m 0 c).arrAt_emb_eq_flushed 8 Value.disjoint8 (ptOf l q) (flush0_8 _) (ix3 0 (rowOf q) d)
  rw [emb8, row_ptOf, layer_ptOf] at h
  refine h.trans ((flushed8_val m c _ _ d).trans ?_)
  rw [row_ptOf, layer_ptOf]

end Loads

end Cert.AdamWIn

end
-- ==== Proof.AdamWUp.lean ====
/-
  AdamW on the feed-forward layer's upper weights, which the call takes transposed: each grid point sums the parts of a block of rows of one layer's gradient and steps its moments.
-/
module

public import proofs.«01_k».proof.Proof.AdamW
public import proofs.«01_k».proof.Proof.Gen.Kernel17Ideal.Value
public import proofs.«01_k».proof.Proof.Gen.Reference17Ideal.Run
public import proofs.«01_k».proof.Proof.Gen.Reference17Ideal.Read
public import Idealize.ShloMosaic.Lib.Claim
public import Idealize.ShloMosaic.Lib.Pointwise

@[expose] public section

noncomputable section

namespace Cert.AdamWUp

open Idealize.ShloMosaic Cert.Kernel17Ideal Cert.Kernel17Ideal.Gen Idealize.ShloMosaic.TcCoe
open Idealize.ShloMosaic.Tactic
open Cert.AdamW (m1 v1 step)

section Body

variable {F : FTy → Type} [FloatOps F]

/-- The parts of one layer's gradient, summed. -/
def grad (x : Vec F S8x176x1024 .bf16) : FVec F S1x176x1024 .f32 :=
  k0_pay4 (k0_pay2 (View.ld x (Rect.unit (s := S8x176x1024) ![0, 0, 0] S1x176x1024.size inb_S8x176x1024_S1x176x1024_0_0_0))
    (View.ld x (Rect.unit (s := S8x176x1024) ![1, 0, 0] S1x176x1024.size inb_S8x176x1024_S1x176x1024_1_0_0))
    (View.ld x (Rect.unit (s := S8x176x1024) ![2, 0, 0] S1x176x1024.size inb_S8x176x1024_S1x176x1024_2_0_0))
    (View.ld x (Rect.unit (s := S8x176x1024) ![3, 0, 0] S1x176x1024.size inb_S8x176x1024_S1x176x1024_3_0_0))
    (View.ld x (Rect.unit (s := S8x176x1024) ![4, 0, 0] S1x176x1024.size inb_S8x176x1024_S1x176x1024_4_0_0))
    (View.ld x (Rect.unit (s := S8x176x1024) ![5, 0, 0] S1x176x1024.size inb_S8x176x1024_S1x176x1024_5_0_0))
    (View.ld x (Rect.unit (s := S8x176x1024) ![6, 0, 0] S1x176x1024.size inb_S8x176x1024_S1x176x1024_6_0_0))
    (View.ld x (Rect.unit (s := S8x176x1024) ![7, 0, 0] S1x176x1024.size inb_S8x176x1024_S1x176x1024_7_0_0)))

/-- The step of the weights. -/
def delta (g x2 x3 x4 : Vec F S1x176x1024 .f32) : FVec F S1x176x1024 .f32 := k0_pay1 (k0_pay7 g x3) (k0_pay8 g x4) k0_pay11 x2

theorem out_A_5 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_A_5 (F := F) c i a2 h2 a3 h3 a4 h4 a5 h5 a6 h6 a7 h7 a8 h8 a9 h9 a10 h10 hc0 hc1 x0 x1 x2 x3 x4 = grad x0 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  rfl

theorem out_A_6 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_A_6 (F := F) c i a2 h2 a3 h3 a4 h4 a5 h5 a6 h6 a7 h7 a8 h8 a9 h9 a10 h10 hc0 hc1 x0 x1 x2 x3 x4 = delta (grad x0) x2 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

theorem out_A_7 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_A_7 (F := F) c i a2 h2 a3 h3 a4 h4 a5 h5 a6 h6 a7 h7 a8 h8 a9 h9 a10 h10 hc0 hc1 x0 x1 x2 x3 x4 = k0_pay9 (grad x0) x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

theorem out_A_8 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_A_8 (F := F) c i a2 h2 a3 h3 a4 h4 a5 h5 a6 h6 a7 h7 a8 h8 a9 h9 a10 h10 hc0 hc1 x0 x1 x2 x3 x4 = k0_pay10 (grad x0) x4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

theorem out_B_5 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_B_5 (F := F) c i a2 h2 a3 h3 a4 h4 a5 h5 a6 h6 a7 h7 a8 h8 a9 h9 a10 h10 hc0 hc1 x0 x1 x2 x3 x4 = grad x1 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  rfl

theorem out_B_6 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_B_6 (F := F) c i a2 h2 a3 h3 a4 h4 a5 h5 a6 h6 a7 h7 a8 h8 a9 h9 a10 h10 hc0 hc1 x0 x1 x2 x3 x4 = delta (grad x1) x2 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

theorem out_B_7 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_B_7 (F := F) c i a2 h2 a3 h3 a4 h4 a5 h5 a6 h6 a7 h7 a8 h8 a9 h9 a10 h10 hc0 hc1 x0 x1 x2 x3 x4 = k0_pay9 (grad x1) x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

theorem out_B_8 (c : Dev nD) (i : grid0.Coords) (a2 a3 a4 a5 a6 a7 a8 a9 a10) (h2 h3 h4 h5 h6 h7 h8 h9 h10) (hc0 hc1)
    (x0 x1 : Vec F S8x176x1024 .bf16) (x2 x3 x4 : Vec F S1x176x1024 .f32) :
    out0_B_8 (F := F) c i a2 h2 a3 h3 a4 h4 a5 h5 a6 h6 a7 h7 a8 h8 a9 h9 a10 h10 hc0 hc1 x0 x1 x2 x3 x4 = k0_pay10 (grad x1) x4 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x176x1024) _ Cert.FfnBwd.hz3, View.ld_unit_zero (S := S1x176x1024) Cert.FfnBwd.hz3]
  rfl

end Body

/-- The gradient: the parts of each layer summed. -/
def total (P0 P1 : FVec Ideal ⟨3, ![8, 704, 1024]⟩ .f32) (l : Fin 2) (q : Fin 704) (d : Fin 1024) : EReal :=
  if l.val < 1 then ∑ k : Fin 8, P0 (ix3 k q d) else ∑ k : Fin 8, P1 (ix3 k q d)

section Reference

open Cert.Reference17Ideal Cert.Reference17Ideal.Gen Cert.Reference17Ideal.Read

variable (P0 P1 : FVec Ideal ⟨3, ![8, 704, 1024]⟩ .f32) (W M V : FVec Ideal ⟨3, ![2, 1024, 704]⟩ .f32) (l : Fin 2) (q : Fin 704) (d : Fin 1024)

theorem ref_sum : val_main_v5 (F := Ideal) P0 P1 (ix3 l d q) = total P0 P1 l q d := by
  pointwise [val_main_v5, val_main_v4, val_main_v3, val_main_v2, val_main_v1, val_main_v0, val_main_cst, val_main_cst_0]
  rfl

theorem ref_first : val_main_v10 (F := Ideal) P0 P1 M (ix3 l d q) = m1 (total P0 P1 l q d) (M (ix3 l d q)) := by
  have e := ref_sum P0 P1 l q d
  unfold val_main_v10 val_main_v9
  generalize val_main_v5 (F := Ideal) P0 P1 = y at e ⊢
  pointwise [val_main_v8, val_main_v7, val_main_v6, val_main_cst_1, val_main_cst_2]
  rw [e]
  rfl

theorem ref_second : val_main_v16 (F := Ideal) P0 P1 V (ix3 l d q) = v1 (total P0 P1 l q d) (V (ix3 l d q)) := by
  have e := ref_sum P0 P1 l q d
  unfold val_main_v16 val_main_v15 val_main_v13
  generalize val_main_v5 (F := Ideal) P0 P1 = y at e ⊢
  pointwise [val_main_v14, val_main_v12, val_main_v11, val_main_cst_3, val_main_cst_4]
  rw [e]
  rfl

theorem ref_change : val_main_v29 (F := Ideal) P0 P1 W M V (ix3 l d q)
    = step (total P0 P1 l q d) (W (ix3 l d q)) (M (ix3 l d q)) (V (ix3 l d q)) := by
  have e := ref_first P0 P1 M l q d
  have e' := ref_second P0 P1 V l q d
  unfold val_main_v29 val_main_v27 val_main_v24 val_main_v18 val_main_v23 val_main_v21 val_main_v20
  generalize val_main_v10 (F := Ideal) P0 P1 M = y at e ⊢
  generalize val_main_v16 (F := Ideal) P0 P1 V = y' at e' ⊢
  pointwise [val_main_v28, val_main_v26, val_main_v25, val_main_v22, val_main_v19, val_main_v17, val_main_cst_5, val_main_cst_6, val_main_cst_7, val_main_cst_8, val_main_cst_9]
  rw [e, e']
  rfl

theorem ref_g : val_main_v30 (F := Ideal) P0 P1 (ix3 l q d) = total P0 P1 l q d := by
  rw [← ref_sum]
  unfold val_main_v30
  generalize val_main_v5 (F := Ideal) P0 P1 = y
  pointwise []

theorem ref_d : val_main_v31 (F := Ideal) P0 P1 W M V (ix3 l q d) = step (total P0 P1 l q d) (W (ix3 l d q)) (M (ix3 l d q)) (V (ix3 l d q)) := by
  rw [← ref_change]
  unfold val_main_v31
  generalize val_main_v29 (F := Ideal) P0 P1 W M V = y
  pointwise []

theorem ref_m : val_main_v32 (F := Ideal) P0 P1 M (ix3 l q d) = m1 (total P0 P1 l q d) (M (ix3 l d q)) := by
  rw [← ref_first]
  unfold val_main_v32
  generalize val_main_v10 (F := Ideal) P0 P1 M = y
  pointwise []

theorem ref_v : val_main_v33 (F := Ideal) P0 P1 V (ix3 l q d) = v1 (total P0 P1 l q d) (V (ix3 l d q)) := by
  rw [← ref_second]
  unfold val_main_v33
  generalize val_main_v16 (F := Ideal) P0 P1 V = y
  pointwise []

end Reference

/-! ## One grid point's values -/

theorem ld_part (x : Vec Ideal S8x176x1024 .bf16) (o : ℕ) (ho : o < 8)
    (inb : ∀ a, (![o, 0, 0] : Fin 3 → ℕ) a + (![1, 176, 1024] : Fin 3 → ℕ) a ≤ (![8, 176, 1024] : Fin 3 → ℕ) a) (r : Fin 176) (d : Fin 1024) :
    View.ld x (Rect.unit (s := S8x176x1024) ![o, 0, 0] ![1, 176, 1024] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x176x1024 .bf16) (r : Fin 176) (d : Fin 1024) :
    k0_pay4 (F := Ideal) (k0_pay2 y0 y1 y2 y3 y4 y5 y6 y7) (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay4, k0_pay2]

theorem grad_val (x : Vec Ideal S8x176x1024 .bf16) (r : Fin 176) (d : Fin 1024) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x176x1024 .f32) (r : Fin 176) (d : Fin 1024) :
    k0_pay9 (F := Ideal) g y (ix3 0 r d) = m1 (g (ix3 0 r d)) (y (ix3 0 r d)) := by
  pointwise [k0_pay9, k0_pay7, k0_pay6]
  rfl

theorem second_val (g y : Vec Ideal S1x176x1024 .f32) (r : Fin 176) (d : Fin 1024) :
    k0_pay10 (F := Ideal) g y (ix3 0 r d) = v1 (g (ix3 0 r d)) (y (ix3 0 r d)) := by
  pointwise [k0_pay10, k0_pay8, k0_pay6]
  rfl

theorem delta_val (g x2 x3 x4 : Vec Ideal S1x176x1024 .f32) (r : Fin 176) (d : Fin 1024) :
    delta (F := Ideal) g x2 x3 x4 (ix3 0 r d) = step (g (ix3 0 r d)) (x2 (ix3 0 r d)) (x3 (ix3 0 r d)) (x4 (ix3 0 r d)) := by
  pointwise [delta, k0_pay1, k0_pay11, k0_pay7, k0_pay8, k0_pay6]
  rfl

/-! ## The blocks a point loads -/

section Loads

variable (m : (ℓ : Loc nD τ sig) → Buf (Elt Ideal) ℓ) (c : Dev nD)

theorem N_eq : cfg0.N = 8 := N_0

theorem win_facts : ∀ t : Fin grid0.N, (win0_0.index t 0 = 0 ∧ (t.val < 4 → win0_0.index t 1 = t.val % 4) ∧ win0_0.index t 2 = 0) ∧
    (win0_1.index t 0 = 0 ∧ (4 ≤ t.val → win0_1.index t 1 = t.val % 4) ∧ win0_1.index t 2 = 0) ∧
    (win0_2.index t 0 = t.val / 4 ∧ win0_2.index t 1 = t.val % 4 ∧ win0_2.index t 2 = 0) ∧
    (win0_3.index t 0 = t.val / 4 ∧ win0_3.index t 1 = t.val % 4 ∧ win0_3.index t 2 = 0) ∧
    (win0_4.index t 0 = t.val / 4 ∧ win0_4.index t 1 = t.val % 4 ∧ win0_4.index t 2 = 0) ∧
    (win0_5.index t 0 = t.val / 4 ∧ win0_5.index t 1 = t.val % 4 ∧ win0_5.index t 2 = 0) ∧
    (win0_6.index t 0 = t.val / 4 ∧ win0_6.index t 1 = t.val % 4 ∧ win0_6.index t 2 = 0) ∧
    (win0_7.index t 0 = t.val / 4 ∧ win0_7.index t 1 = t.val % 4 ∧ win0_7.index t 2 = 0) ∧
    (win0_8.index t 0 = t.val / 4 ∧ win0_8.index t 1 = t.val % 4 ∧ win0_8.index t 2 = 0) := by
  decide +kernel

/-- The layer of a point. -/
def layer (t : Fin cfg0.N) : Fin 2 := ⟨t.val / 4, by have := t.isLt; have := N_eq; omega⟩

/-- Row `r` of the block of a point. -/
def row (t : Fin cfg0.N) (r : Fin 176) : Fin 704 := ⟨176 * (t.val % 4) + r.val, by have := r.isLt; omega⟩

theorem load_0 (t : Fin cfg0.N) (h : t.val < 4) (k : Fin 8) (r : Fin 176) (d : Fin 1024) :
    (iblk m c 0 t : Vec Ideal S8x176x1024 .bf16) (ix3 k r d) = m (c, Proc.tc.devRef main_arg0) (ix3 k (row t r) d) := by
  have e : (iblk m c 0 t : Vec Ideal S8x176x1024 .bf16) (ix3 k r d) = (V m c main_v3 : FVec Ideal S8x704x1024 .bf16) (ix3 k (row t r) d) := by
    obtain ⟨h0, h1, h2⟩ := (win_facts t).1
    have h1 := h1 h
    refine congrArg (V m c main_v3 : FVec Ideal S8x704x1024 .bf16) (a₁ := (win0_0.rect t).emb (ix3 k r d)) (funext fun a => Fin.ext ?_)
    rw [win0_0.rect_emb_val]
    fin_cases a
    · show win0_0.index t 0 * 8 + k.val = k.val; omega
    · show win0_0.index t 1 * 176 + r.val = 176 * (t.val % 4) + r.val; omega
    · show win0_0.index t 2 * 1024 + d.val = d.val; omega
  rw [e]
  entry_read
  pointwise []

theorem load_1 (t : Fin cfg0.N) (h : 4 ≤ t.val) (k : Fin 8) (r : Fin 176) (d : Fin 1024) :
    (iblk m c 1 t : Vec Ideal S8x176x1024 .bf16) (ix3 k r d) = m (c, Proc.tc.devRef main_arg1) (ix3 k (row t r) d) := by
  have e : (iblk m c 1 t : Vec Ideal S8x176x1024 .bf16) (ix3 k r d) = (V m c main_v4 : FVec Ideal S8x704x1024 .bf16) (ix3 k (row t r) d) := by
    obtain ⟨h0, h1, h2⟩ := (win_facts t).2.1
    have h1 := h1 h
    refine congrArg (V m c main_v4 : FVec Ideal S8x704x1024 .bf16) (a₁ := (win0_1.rect t).emb (ix3 k r d)) (funext fun a => Fin.ext ?_)
    rw [win0_1.rect_emb_val]
    fin_cases a
    · show win0_1.index t 0 * 8 + k.val = k.val; omega
    · show win0_1.index t 1 * 176 + r.val = 176 * (t.val % 4) + r.val; omega
    · show win0_1.index t 2 * 1024 + d.val = d.val; omega
  rw [e]
  entry_read
  pointwise []

theorem load_2 (t : Fin cfg0.N) (r : Fin 176) (d : Fin 1024) :
    (iblk m c 2 t : Vec Ideal S1x176x1024 .f32) (ix3 0 r d) = m (c, Proc.tc.devRef main_arg2) (ix3 (layer t) d (row t r)) := by
  have e : (iblk m c 2 t : Vec Ideal S1x176x1024 .f32) (ix3 0 r d) = (V m c main_v0 : FVec Ideal S2x704x1024 .f32) (ix3 (layer t) (row t r) d) := by
    obtain ⟨h0, h1, h2⟩ := (win_facts t).2.2.1
    refine congrArg (V m c main_v0 : FVec Ideal S2x704x1024 .f32) (a₁ := (win0_2.rect t).emb (ix3 0 r d)) (funext fun a => Fin.ext ?_)
    rw [win0_2.rect_emb_val]
    fin_cases a
    · show win0_2.index t 0 * 1 + 0 = t.val / 4; omega
    · show win0_2.index t 1 * 176 + r.val = 176 * (t.val % 4) + r.val; omega
    · show win0_2.index t 2 * 1024 + d.val = d.val; omega
  rw [e]
  entry_read
  pointwise []

theorem load_3 (t : Fin cfg0.N) (r : Fin 176) (d : Fin 1024) :
    (iblk m c 3 t : Vec Ideal S1x176x1024 .f32) (ix3 0 r d) = m (c, Proc.tc.devRef main_arg3) (ix3 (layer t) d (row t r)) := by
  have e : (iblk m c 3 t : Vec Ideal S1x176x1024 .f32) (ix3 0 r d) = (V m c main_v1 : FVec Ideal S2x704x1024 .f32) (ix3 (layer t) (row t r) d) := by
    obtain ⟨h0, h1, h2⟩ := (win_facts t).2.2.2.1
    refine congrArg (V m c main_v1 : FVec Ideal S2x704x1024 .f32) (a₁ := (win0_3.rect t).emb (ix3 0 r d)) (funext fun a => Fin.ext ?_)
    rw [win0_3.rect_emb_val]
    fin_cases a
    · show win0_3.index t 0 * 1 + 0 = t.val / 4; omega
    · show win0_3.index t 1 * 176 + r.val = 176 * (t.val % 4) + r.val; omega
    · show win0_3.index t 2 * 1024 + d.val = d.val; omega
  rw [e]
  entry_read
  pointwise []

theorem load_4 (t : Fin cfg0.N) (r : Fin 176) (d : Fin 1024) :
    (iblk m c 4 t : Vec Ideal S1x176x1024 .f32) (ix3 0 r d) = m (c, Proc.tc.devRef main_arg4) (ix3 (layer t) d (row t r)) := by
  have e : (iblk m c 4 t : Vec Ideal S1x176x1024 .f32) (ix3 0 r d) = (V m c main_v2 : FVec Ideal S2x704x1024 .f32) (ix3 (layer t) (row t r) d) := by
    obtain ⟨h0, h1, h2⟩ := (win_facts t).2.2.2.2.1
    refine congrArg (V m c main_v2 : FVec Ideal S2x704x1024 .f32) (a₁ := (win0_4.rect t).emb (ix3 0 r d)) (funext fun a => Fin.ext ?_)
    rw [win0_4.rect_emb_val]
    fin_cases a
    · show win0_4.index t 0 * 1 + 0 = t.val / 4; omega
    · show win0_4.index t 1 * 176 + r.val = 176 * (t.val % 4) + r.val; omega
    · show win0_4.index t 2 * 1024 + d.val = d.val; omega
  rw [e]
  entry_read
  pointwise []

/-- The gradient, of the arguments in memory. -/
def gOf (l : Fin 2) (q : Fin 704) (d : Fin 1024) : EReal := total (m (c, Proc.tc.devRef main_arg0)) (m (c, Proc.tc.devRef main_arg1)) l q d

theorem point_first (t : Fin cfg0.N) (h : t.val < 4) (r : Fin 176) (d : Fin 1024) :
    grad (F := Ideal) (iblk m c 0 t) (ix3 0 r d) = gOf m c (layer t) (row t r) d := by
  rw [grad_val]
  unfold gOf total
  rw [if_pos (by show t.val / 4 < 1; omega)]
  exact Finset.sum_congr rfl fun k _ => load_0 m c t h k r d

theorem point_second (t : Fin cfg0.N) (h : 4 ≤ t.val) (r : Fin 176) (d : Fin 1024) :
    grad (F := Ideal) (iblk m c 1 t) (ix3 0 r d) = gOf m c (layer t) (row t r) d := by
  rw [grad_val]
  unfold gOf total
  rw [if_neg (by show ¬t.val / 4 < 1; omega)]
  exact Finset.sum_congr rfl fun k _ => load_1 m c t h k r d

/-! ## The result arrays -/

/-- The point that owns a row of a layer. -/
def ptOf (l : Fin 2) (q : Fin 704) : Fin cfg0.N := ⟨4 * l.val + q.val / 176, by have := N_eq; have := l.isLt; have := q.isLt; omega⟩

/-- A row's place in its point's block. -/
def rowOf (q : Fin 704) : Fin 176 := ⟨q.val % 176, by omega⟩

theorem layer_ptOf (l : Fin 2) (q : Fin 704) : layer (ptOf l q) = l := by
  apply Fin.ext
  simp only [layer, ptOf]
  omega

theorem row_ptOf (l : Fin 2) (q : Fin 704) : row (ptOf l q) (rowOf q) = q := by
  apply Fin.ext
  simp only [row, ptOf, rowOf]
  omega

theorem emb5 (t : Fin cfg0.N) (r : Fin 176) (d : Fin 1024) : ((cfg0.win 5).blk t).view.emb (ix3 0 r d) = ix3 (layer t) (row t r) d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = t.val / 4; omega
  · show win0_5.index t 1 * 176 + r.val = 176 * (t.val % 4) + r.val; omega
  · show win0_5.index t 2 * 1024 + d.val = d.val; omega

theorem cut5_val (t : Fin cfg0.N) (X : Vec Ideal S1x176x1024 .f32) (r : Fin 176) (d : Fin 1024) :
    (cfg0.win 5).cut (grid0.coords t) X (ix3 0 r d) = X (ix3 0 r d) :=
  congrArg X (funext fun a => Fin.ext rfl)

theorem flushed5_val (t : Fin cfg0.N) (r : Fin 176) (d : Fin 1024) : ((dats m 0 c).flushed 5 t : Vec Ideal S1x176x1024 .f32) (ix3 0 r d)
    = gOf m c (layer t) (row t r) d := by
  have hN := N_eq
  have ht := t.isLt
  rcases Nat.lt_or_ge t.val 4 with h | h
  · rw [Value.flushed5_A m c t (by omega) (by omega), out_A_5]
    refine (cut5_val t _ r d).trans ?_
    exact point_first m c t h r d
  · rw [Value.flushed5_B m c t (by omega) (by omega), out_B_5]
    refine (cut5_val t _ r d).trans ?_
    exact point_second m c t h r d

theorem kernel_5 (l : Fin 2) (q : Fin 704) (d : Fin 1024) : ((dats m 0 c).arrAt 5 cfg0.N : FVec Ideal S2x704x1024 .f32) (ix3 l q d)
    = gOf m c l q d := by
  have h := (dats m 0 c).arrAt_emb_eq_flushed 5 Value.disjoint5 (ptOf l q) (flush0_5 _) (ix3 0 (rowOf q) d)
  rw [emb5, row_ptOf, layer_ptOf] at h
  refine h.trans ((flushed5_val m c _ _ d).trans ?_)
  rw [row_ptOf, layer_ptOf]

theorem emb6 (t : Fin cfg0.N) (r : Fin 176) (d : Fin 1024) : ((cfg0.win 6).blk t).view.emb (ix3 0 r d) = ix3 (layer t) (row t r) d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = t.val / 4; omega
  · show win0_6.index t 1 * 176 + r.val = 176 * (t.val % 4) + r.val; omega
  · show win0_6.index t 2 * 1024 + d.val = d.val; omega

theorem cut6_val (t : Fin cfg0.N) (X : Vec Ideal S1x176x1024 .f32) (r : Fin 176) (d : Fin 1024) :
    (cfg0.win 6).cut (grid0.coords t) X (ix3 0 r d) = X (ix3 0 r d) :=
  congrArg X (funext fun a => Fin.ext rfl)

theorem flushed6_val (t : Fin cfg0.N) (r : Fin 176) (d : Fin 1024) : ((dats m 0 c).flushed 6 t : Vec Ideal S1x176x1024 .f32) (ix3 0 r d)
    = step (gOf m c (layer t) (row t r) d) (m (c, Proc.tc.devRef main_arg2) (ix3 (layer t) d (row t r))) (m (c, Proc.tc.devRef main_arg3) (ix3 (layer t) d (row t r))) (m (c, Proc.tc.devRef main_arg4) (ix3 (layer t) d (row t r))) := by
  have hN := N_eq
  have ht := t.isLt
  rcases Nat.lt_or_ge t.val 4 with h | h
  · rw [Value.flushed6_A m c t (by omega) (by omega), out_A_6]
    refine (cut6_val t _ r d).trans ?_
    rw [delta_val, point_first m c t h, load_2 m c t, load_3 m c t, load_4 m c t]
  · rw [Value.flushed6_B m c t (by omega) (by omega), out_B_6]
    refine (cut6_val t _ r d).trans ?_
    rw [delta_val, point_second m c t h, load_2 m c t, load_3 m c t, load_4 m c t]

theorem kernel_6 (l : Fin 2) (q : Fin 704) (d : Fin 1024) : ((dats m 0 c).arrAt 6 cfg0.N : FVec Ideal S2x704x1024 .f32) (ix3 l q d)
    = step (gOf m c l q d) (m (c, Proc.tc.devRef main_arg2) (ix3 l d q)) (m (c, Proc.tc.devRef main_arg3) (ix3 l d q)) (m (c, Proc.tc.devRef main_arg4) (ix3 l d q)) := by
  have h := (dats m 0 c).arrAt_emb_eq_flushed 6 Value.disjoint6 (ptOf l q) (flush0_6 _) (ix3 0 (rowOf q) d)
  rw [emb6, row_ptOf, layer_ptOf] at h
  refine h.trans ((flushed6_val m c _ _ d).trans ?_)
  rw [row_ptOf, layer_ptOf]

theorem emb7 (t : Fin cfg0.N) (r : Fin 176) (d : Fin 1024) : ((cfg0.win 7).blk t).view.emb (ix3 0 r d) = ix3 (layer t) (row t r) d := by
  obtain ⟨h0, h1, h2⟩ := (win_facts t).2.2.2.2.2.2.2.1
  refine funext fun a => Fin.ext ?_
  refine (win0_7.rect_emb_val t (ix3 0 r d) a).trans ?_
  fin_cases a
  · show win0_7.index t 0 * 1 + 0 = t.val / 4; omega
  · show win0_7.index t 1 * 176 + r.val = 176 * (t.val % 4) + r.val; omega
  · show win0_7.index t 2 * 1024 + d.val = d.val; omega

theorem cut7_val (t : Fin cfg0.N) (X : Vec Ideal S1x176x1024 .f32) (r : Fin 176) (d : Fin 1024) :
    (cfg0.win 7).cut (grid0.coords t) X (ix3 0 r d) = X (ix3 0 r d) :=
  congrArg X (funext fun a => Fin.ext rfl)

theorem flushed7_val (t : Fin cfg0.N) (r : Fin 176) (d : Fin 1024) : ((dats m 0 c).flushed 7 t : Vec Ideal S1x176x1024 .f32) (ix3 0 r d)
    = m1 (gOf m c (layer t) (row t r) d) (m (c, Proc.tc.devRef main_arg3) (ix3 (layer t) d (row t r))) := by
  have hN := N_eq
  have ht := t.isLt
  rcases Nat.lt_or_ge t.val 4 with h | h
  · rw [Value.flushed7_A m c t (by omega) (by omega), out_A_7]
    refine (cut7_val t _ r d).trans ?_
    rw [moment_val, point_first m c t h, load_3 m c t]
  · rw [Value.flushed7_B m c t (by omega) (by omega), out_B_7]
    refine (cut7_val t _ r d).trans ?_
    rw [moment_val, point_second m c t h, load_3 m c t]

theorem kernel_7 (l : Fin 2) (q : Fin 704) (d : Fin 1024) : ((dats m 0 c).arrAt 7 cfg0.N : FVec Ideal S2x704x1024 .f32) (ix3 l q d)
    = m1 (gOf m c l q d) (m (c, Proc.tc.devRef main_arg3) (ix3 l d q)) := by
  have h := (dats m 0 c).arrAt_emb_eq_flushed 7 Value.disjoint7 (ptOf l q) (flush0_7 _) (ix3 0 (rowOf q) d)
  rw [emb7, row_ptOf, layer_ptOf] at h
  refine h.trans ((flushed7_val m c _ _ d).trans ?_)
  rw [row_ptOf, layer_ptOf]

theorem emb8 (t : Fin cfg0.N) (r : Fin 176) (d : Fin 1024) : ((cfg0.win 8).blk t).view.emb (ix3 0 r d) = ix3 (layer t) (row t r) d := by
  obtain ⟨h0, h1, h2⟩ := (win_facts t).2.2.2.2.2.2.2.2
  refine funext fun a => Fin.ext ?_
  refine (win0_8.rect_emb_val t (ix3 0 r d) a).trans ?_
  fin_cases a
  · show win0_8.index t 0 * 1 + 0 = t.val / 4; omega
  · show win0_8.index t 1 * 176 + r.val = 176 * (t.val % 4) + r.val; omega
  · show win0_8.index t 2 * 1024 + d.val = d.val; omega

theorem cut8_val (t : Fin cfg0.N) (X : Vec Ideal S1x176x1024 .f32) (r : Fin 176) (d : Fin 1024) :
    (cfg0.win 8).cut (grid0.coords t) X (ix3 0 r d) = X (ix3 0 r d) :=
  congrArg X (funext fun a => Fin.ext rfl)

theorem flushed8_val (t : Fin cfg0.N) (r : Fin 176) (d : Fin 1024) : ((dats m 0 c).flushed 8 t : Vec Ideal S1x176x1024 .f32) (ix3 0 r d)
    = v1 (gOf m c (layer t) (row t r) d) (m (c, Proc.tc.devRef main_arg4) (ix3 (layer t) d (row t r))) := by
  have hN := N_eq
  have ht := t.isLt
  rcases Nat.lt_or_ge t.val 4 with h | h
  · rw [Value.flushed8_A m c t (by omega) (by omega), out_A_8]
    refine (cut8_val t _ r d).trans ?_
    rw [second_val, point_first m c t h, load_4 m c t]
  · rw [Value.flushed8_B m c t (by omega) (by omega), out_B_8]
    refine (cut8_val t _ r d).trans ?_
    rw [second_val, point_second m c t h, load_4 m c t]

theorem kernel_8 (l : Fin 2) (q : Fin 704) (d : Fin 1024) : ((dats m 0 c).arrAt 8 cfg0.N : FVec Ideal S2x704x1024 .f32) (ix3 l q d)
    = v1 (gOf m c l q d) (m (c, Proc.tc.devRef main_arg4) (ix3 l d q)) := by
  have h := (dats m 0 c).arrAt_emb_eq_flushed 8 Value.disjoint8 (ptOf l q) (flush0_8 _) (ix3 0 (rowOf q) d)
  rw [emb8, row_ptOf, layer_ptOf] at h
  refine h.trans ((flushed8_val m c _ _ d).trans ?_)
  rw [row_ptOf, layer_ptOf]

end Loads

end Cert.AdamWUp

end
-- ==== Proof.AdamWConv.lean ====
/-
  AdamW on the weights of the two convolutions, which the call takes side by side: each grid point sums the parts of one layer's gradient and steps its moments.
-/
module

public import proofs.«01_k».proof.Proof.AdamW
public import proofs.«01_k».proof.Proof.Gen.Kernel18Ideal.Value
public import proofs.«01_k».proof.Proof.Gen.Reference18Ideal.Run
public import proofs.«01_k».proof.Proof.Gen.Reference18Ideal.Read
public import Idealize.ShloMosaic.Lib.Claim
public import Idealize.ShloMosaic.Lib.Pointwise

@[expose] public section

noncomputable section

namespace Cert.AdamWConv

open Idealize.ShloMosaic Cert.Kernel18Ideal Cert.Kernel18Ideal.Gen Idealize.ShloMosaic.TcCoe
open Idealize.ShloMosaic.Tactic
open Cert.AdamW (m1 v1 step)

section Body

variable {F : FTy → Type} [FloatOps F]

/-- The parts of one layer's gradient, summed. -/
def grad (x : Vec F S8x3x768 .f32) : FVec F S1x3x768 .f32 :=
  (k0_pay2 (View.ld x (Rect.unit (s := S8x3x768) ![0, 0, 0] S1x3x768.size inb_S8x3x768_S1x3x768_0_0_0))
    (View.ld x (Rect.unit (s := S8x3x768) ![1, 0, 0] S1x3x768.size inb_S8x3x768_S1x3x768_1_0_0))
    (View.ld x (Rect.unit (s := S8x3x768) ![2, 0, 0] S1x3x768.size inb_S8x3x768_S1x3x768_2_0_0))
    (View.ld x (Rect.unit (s := S8x3x768) ![3, 0, 0] S1x3x768.size inb_S8x3x768_S1x3x768_3_0_0))
    (View.ld x (Rect.unit (s := S8x3x768) ![4, 0, 0] S1x3x768.size inb_S8x3x768_S1x3x768_4_0_0))
    (View.ld x (Rect.unit (s := S8x3x768) ![5, 0, 0] S1x3x768.size inb_S8x3x768_S1x3x768_5_0_0))
    (View.ld x (Rect.unit (s := S8x3x768) ![6, 0, 0] S1x3x768.size inb_S8x3x768_S1x3x768_6_0_0))
    (View.ld x (Rect.unit (s := S8x3x768) ![7, 0, 0] S1x3x768.size inb_S8x3x768_S1x3x768_7_0_0)))

/-- The step of the weights. -/
def delta (g x2 x3 x4 : Vec F S1x3x768 .f32) : FVec F S1x3x768 .f32 := k0_pay1 (k0_pay5 g x3) (k0_pay6 g x4) k0_pay9 x2

theorem out_A_5 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_A_5 (F := F) c i a2 h2 a3 h3 a4 h4 a5 h5 a6 h6 a7 h7 a8 h8 a9 h9 a10 h10 hc0 hc1 x0 x1 x2 x3 x4 = grad x0 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  rfl

theorem out_A_6 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_A_6 (F := F) c i a2 h2 a3 h3 a4 h4 a5 h5 a6 h6 a7 h7 a8 h8 a9 h9 a10 h10 hc0 hc1 x0 x1 x2 x3 x4 = delta (grad x0) x2 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

theorem out_A_7 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_A_7 (F := F) c i a2 h2 a3 h3 a4 h4 a5 h5 a6 h6 a7 h7 a8 h8 a9 h9 a10 h10 hc0 hc1 x0 x1 x2 x3 x4 = k0_pay7 (grad x0) x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

theorem out_A_8 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_A_8 (F := F) c i a2 h2 a3 h3 a4 h4 a5 h5 a6 h6 a7 h7 a8 h8 a9 h9 a10 h10 hc0 hc1 x0 x1 x2 x3 x4 = k0_pay8 (grad x0) x4 := by
  unfold out0_A_8
  rw [View.read_writes_eq_canon _ _ _ (cover0_A_8 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

theorem out_B_5 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_B_5 (F := F) c i a2 h2 a3 h3 a4 h4 a5 h5 a6 h6 a7 h7 a8 h8 a9 h9 a10 h10 hc0 hc1 x0 x1 x2 x3 x4 = grad x1 := by
  unfold out0_B_5
  rw [View.read_writes_eq_canon _ _ _ (cover0_B_5 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  rfl

theorem out_B_6 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_B_6 (F := F) c i a2 h2 a3 h3 a4 h4 a5 h5 a6 h6 a7 h7 a8 h8 a9 h9 a10 h10 hc0 hc1 x0 x1 x2 x3 x4 = delta (grad x1) x2 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

theorem out_B_7 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_B_7 (F := F) c i a2 h2 a3 h3 a4 h4 a5 h5 a6 h6 a7 h7 a8 h8 a9 h9 a10 h10 hc0 hc1 x0 x1 x2 x3 x4 = k0_pay7 (grad x1) x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

theorem out_B_8 (c : Dev nD) (i : grid0.Coords) (a2 a3 a4 a5 a6 a7 a8 a9 a10) (h2 h3 h4 h5 h6 h7 h8 h9 h10) (hc0 hc1)
    (x0 x1 : Vec F S8x3x768 .f32) (x2 x3 x4 : Vec F S1x3x768 .f32) :
    out0_B_8 (F := F) c i a2 h2 a3 h3 a4 h4 a5 h5 a6 h6 a7 h7 a8 h8 a9 h9 a10 h10 hc0 hc1 x0 x1 x2 x3 x4 = k0_pay8 (grad x1) x4 := by
  unfold out0_B_8
  rw [View.read_writes_eq_canon _ _ _ (cover0_B_8 c i a2 h2 a3 h3 a4 h4 a5 h5 a6 h6 a7 h7 a8 h8 a9 h9 a10 h10 hc0 hc1 x0 x1 x2 x3 x4)]
  unfold kernelRun0_B
  dsimp only
  sl_unfold_words
  rw [View.canon_unit_zero Cert.FfnBwd.hz3]
  simp only [View.readAt_eq_ld, h2.read_unread, h3.read_unread, h4.read_unread, h5.read_unread, h6.read_unread]
  simp only [View.readCov_unit_zero (S := S1x3x768) _ Cert.FfnBwd.hz3, View.ld_unit_zero (S := S1x3x768) Cert.FfnBwd.hz3]
  rfl

end Body

/-- The gradient: the parts of each layer summed. -/
def total (P0 P1 : FVec Ideal ⟨3, ![8, 3, 768]⟩ .f32) (l : Fin 2) (q : Fin 3) (d : Fin 768) : EReal :=
  if l.val < 1 then ∑ k : Fin 8, P0 (ix3 k q d) else ∑ k : Fin 8, P1 (ix3 k q d)

/-- The weights of the two convolutions side by side: 704 columns of the feed-forward block's, then 64 of the mixer's. -/
def join (A : FVec Ideal ⟨3, ![2, 3, 704]⟩ .f32) (B : FVec Ideal ⟨3, ![2, 3, 64]⟩ .f32) (l : Fin 2) (q : Fin 3) (d : Fin 768) : EReal :=
  if h : d.val < 704 then A (ix3 l q ⟨d.val, h⟩) else B (ix3 l q ⟨d.val - 704, by have := d.isLt; omega⟩)

section Reference

open Cert.Reference18Ideal Cert.Reference18Ideal.Gen Cert.Reference18Ideal.Read

variable (P0 P1 : FVec Ideal ⟨3, ![8, 3, 768]⟩ .f32) (W M V : FVec Ideal ⟨3, ![2, 3, 704]⟩ .f32)
  (W' M' V' : FVec Ideal ⟨3, ![2, 3, 64]⟩ .f32) (l : Fin 2) (q : Fin 3)

theorem ref_g (d : Fin 768) : val_main_v4 (F := Ideal) P0 P1 (ix3 l q d) = total P0 P1 l q d := by
  pointwise [val_main_v4, val_main_v3, val_main_v2, val_main_v1, val_main_v0, val_main_cst, val_main_cst_0]
  rfl

/-! ### The feed-forward block's columns -/

theorem left_g (d : Fin 704) : val_main_v5 (F := Ideal) P0 P1 (ix3 l q d) = total P0 P1 l q ⟨d.val, by have := d.isLt; omega⟩ := by
  rw [← ref_g]
  unfold val_main_v5
  generalize val_main_v4 (F := Ideal) P0 P1 = y
  pointwise []

theorem left_m (d : Fin 704) : val_main_v10 (F := Ideal) P0 P1 M (ix3 l q d) = m1 (total P0 P1 l q ⟨d.val, by have := d.isLt; omega⟩) (M (ix3 l q d)) := by
  have e := left_g P0 P1 l q d
  unfold val_main_v10 val_main_v9
  generalize val_main_v5 (F := Ideal) P0 P1 = y at e ⊢
  pointwise [val_main_v8, val_main_v7, val_main_v6, val_main_cst_1, val_main_cst_2]
  rw [e]
  rfl

theorem left_v (d : Fin 704) : val_main_v16 (F := Ideal) P0 P1 V (ix3 l q d) = v1 (total P0 P1 l q ⟨d.val, by have := d.isLt; omega⟩) (V (ix3 l q d)) := by
  have e := left_g P0 P1 l q d
  unfold val_main_v16 val_main_v15 val_main_v13
  generalize val_main_v5 (F := Ideal) P0 P1 = y at e ⊢
  pointwise [val_main_v14, val_main_v12, val_main_v11, val_main_cst_3, val_main_cst_4]
  rw [e]
  rfl

theorem left_d (d : Fin 704) : val_main_v29 (F := Ideal) P0 P1 W M V (ix3 l q d)
    = step (total P0 P1 l q ⟨d.val, by have := d.isLt; omega⟩) (W (ix3 l q d)) (M (ix3 l q d)) (V (ix3 l q d)) := by
  have e := left_m P0 P1 M l q d
  have e' := left_v P0 P1 V l q d
  unfold val_main_v29 val_main_v27 val_main_v24 val_main_v18 val_main_v23 val_main_v21 val_main_v20
  generalize val_main_v10 (F := Ideal) P0 P1 M = y at e ⊢
  generalize val_main_v16 (F := Ideal) P0 P1 V = y' at e' ⊢
  pointwise [val_main_v28, val_main_v26, val_main_v25, val_main_v22, val_main_v19, val_main_v17, val_main_cst_5, val_main_cst_6, val_main_cst_7, val_main_cst_8, val_main_cst_9]
  rw [e, e']
  rfl

/-! ### The mixer's columns -/

theorem right_g (d : Fin 64) : val_main_v30 (F := Ideal) P0 P1 (ix3 l q d) = total P0 P1 l q ⟨704 + d.val, by have := d.isLt; omega⟩ := by
  rw [← ref_g]
  unfold val_main_v30
  generalize val_main_v4 (F := Ideal) P0 P1 = y
  pointwise []

theorem right_m (d : Fin 64) : val_main_v35 (F := Ideal) P0 P1 M' (ix3 l q d) = m1 (total P0 P1 l q ⟨704 + d.val, by have := d.isLt; omega⟩) (M' (ix3 l q d)) := by
  have e := right_g P0 P1 l q d
  unfold val_main_v35 val_main_v34
  generalize val_main_v30 (F := Ideal) P0 P1 = y at e ⊢
  pointwise [val_main_v33, val_main_v32, val_main_v31, val_main_cst_10, val_main_cst_11]
  rw [e]
  rfl

theorem right_v (d : Fin 64) : val_main_v41 (F := Ideal) P0 P1 V' (ix3 l q d) = v1 (total P0 P1 l q ⟨704 + d.val, by have := d.isLt; omega⟩) (V' (ix3 l q d)) := by
  have e := right_g P0 P1 l q d
  unfold val_main_v41 val_main_v40 val_main_v38
  generalize val_main_v30 (F := Ideal) P0 P1 = y at e ⊢
  pointwise [val_main_v39, val_main_v37, val_main_v36, val_main_cst_12, val_main_cst_13]
  rw [e]
  rfl

theorem right_d (d : Fin 64) : val_main_v54 (F := Ideal) P0 P1 W' M' V' (ix3 l q d)
    = step (total P0 P1 l q ⟨704 + d.val, by have := d.isLt; omega⟩) (W' (ix3 l q d)) (M' (ix3 l q d)) (V' (ix3 l q d)) := by
  have e := right_m P0 P1 M' l q d
  have e' := right_v P0 P1 V' l q d
  unfold val_main_v54 val_main_v52 val_main_v49 val_main_v43 val_main_v48 val_main_v46 val_main_v45
  generalize val_main_v35 (F := Ideal) P0 P1 M' = y at e ⊢
  generalize val_main_v41 (F := Ideal) P0 P1 V' = y' at e' ⊢
  pointwise [val_main_v53, val_main_v51, val_main_v50, val_main_v47, val_main_v44, val_main_v42, val_main_cst_14, val_main_cst_15, val_main_cst_16, val_main_cst_17, val_main_cst_18]
  rw [e, e']
  rfl

/-! ### Both side by side -/

theorem place (d : Fin 768) (h : ¬d.val < 704) (b : 704 + (d.val - 704) < 768) : (⟨704 + (d.val - 704), b⟩ : Fin 768) = d :=
  Fin.ext (by show 704 + (d.val - 704) = d.val; omega)

theorem ref_d (d : Fin 768) : val_main_v55 (F := Ideal) P0 P1 W W' M M' V V' (ix3 l q d)
    = step (total P0 P1 l q d) (join W W' l q d) (join M M' l q d) (join V V' l q d) := by
  have e := left_d P0 P1 W M V l q
  have e' := right_d P0 P1 W' M' V' l q
  unfold val_main_v55 join
  generalize val_main_v29 (F := Ideal) P0 P1 W M V = y at e ⊢
  generalize val_main_v54 (F := Ideal) P0 P1 W' M' V' = y' at e' ⊢
  pointwise []
  by_cases h : d.val < 704
  · simp only [h, ↓reduceDIte, ↓reduceIte, e]
  · simp only [h, ↓reduceDIte, ↓reduceIte, e', place d h]

theorem ref_m (d : Fin 768) : val_main_v56 (F := Ideal) P0 P1 M M' (ix3 l q d) = m1 (total P0 P1 l q d) (join M M' l q d) := by
  have e := left_m P0 P1 M l q
  have e' := right_m P0 P1 M' l q
  unfold val_main_v56 join
  generalize val_main_v10 (F := Ideal) P0 P1 M = y at e ⊢
  generalize val_main_v35 (F := Ideal) P0 P1 M' = y' at e' ⊢
  pointwise []
  by_cases h : d.val < 704
  · simp only [h, ↓reduceDIte, ↓reduceIte, e]
  · simp only [h, ↓reduceDIte, ↓reduceIte, e', place d h]

theorem ref_v (d : Fin 768) : val_main_v57 (F := Ideal) P0 P1 V V' (ix3 l q d) = v1 (total P0 P1 l q d) (join V V' l q d) := by
  have e := left_v P0 P1 V l q
  have e' := right_v P0 P1 V' l q
  unfold val_main_v57 join
  generalize val_main_v16 (F := Ideal) P0 P1 V = y at e ⊢
  generalize val_main_v41 (F := Ideal) P0 P1 V' = y' at e' ⊢
  pointwise []
  by_cases h : d.val < 704
  · simp only [h, ↓reduceDIte, ↓reduceIte, e]
  · simp only [h, ↓reduceDIte, ↓reduceIte, e', place d h]

end Reference

/-! ## One grid point's values -/

theorem ld_part (x : Vec Ideal S8x3x768 .f32) (o : ℕ) (ho : o < 8)
    (inb : ∀ a, (![o, 0, 0] : Fin 3 → ℕ) a + (![1, 3, 768] : Fin 3 → ℕ) a ≤ (![8, 3, 768] : Fin 3 → ℕ) a) (r : Fin 3) (d : Fin 768) :
    View.ld x (Rect.unit (s := S8x3x768) ![o, 0, 0] ![1, 3, 768] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x3x768 .f32) (r : Fin 3) (d : Fin 768) :
    k0_pay2 (F := Ideal) y0 y1 y2 y3 y4 y5 y6 y7 (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay2]

theorem grad_val (x : Vec Ideal S8x3x768 .f32) (r : Fin 3) (d : Fin 768) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x3x768 .f32) (r : Fin 3) (d : Fin 768) :
    k0_pay7 (F := Ideal) g y (ix3 0 r d) = m1 (g (ix3 0 r d)) (y (ix3 0 r d)) := by
  pointwise [k0_pay7, k0_pay5, k0_pay4]
  rfl

theorem second_val (g y : Vec Ideal S1x3x768 .f32) (r : Fin 3) (d : Fin 768) :
    k0_pay8 (F := Ideal) g y (ix3 0 r d) = v1 (g (ix3 0 r d)) (y (ix3 0 r d)) := by
  pointwise [k0_pay8, k0_pay6, k0_pay4]
  rfl

theorem delta_val (g x2 x3 x4 : Vec Ideal S1x3x768 .f32) (r : Fin 3) (d : Fin 768) :
    delta (F := Ideal) g x2 x3 x4 (ix3 0 r d) = step (g (ix3 0 r d)) (x2 (ix3 0 r d)) (x3 (ix3 0 r d)) (x4 (ix3 0 r d)) := by
  pointwise [delta, k0_pay1, k0_pay9, k0_pay5, k0_pay6, k0_pay4]
  rfl

/-! ## The blocks a point loads -/

section Loads

variable (m : (ℓ : Loc nD τ sig) → Buf (Elt Ideal) ℓ) (c : Dev nD)

theorem N_eq : cfg0.N = 2 := N_0

theorem win_facts : ∀ t : Fin grid0.N, (win0_0.index t 0 = 0 ∧ (t.val < 1 → win0_0.index t 1 = t.val % 1) ∧ win0_0.index t 2 = 0) ∧
    (win0_1.index t 0 = 0 ∧ (1 ≤ t.val → win0_1.index t 1 = t.val % 1) ∧ win0_1.index t 2 = 0) ∧
    (win0_2.index t 0 = t.val / 1 ∧ win0_2.index t 1 = t.val % 1 ∧ win0_2.index t 2 = 0) ∧
    (win0_3.index t 0 = t.val / 1 ∧ win0_3.index t 1 = t.val % 1 ∧ win0_3.index t 2 = 0) ∧
    (win0_4.index t 0 = t.val / 1 ∧ win0_4.index t 1 = t.val % 1 ∧ win0_4.index t 2 = 0) ∧
    (win0_5.index t 0 = t.val / 1 ∧ win0_5.index t 1 = t.val % 1 ∧ win0_5.index t 2 = 0) ∧
    (win0_6.index t 0 = t.val / 1 ∧ win0_6.index t 1 = t.val % 1 ∧ win0_6.index t 2 = 0) ∧
    (win0_7.index t 0 = t.val / 1 ∧ win0_7.index t 1 = t.val % 1 ∧ win0_7.index t 2 = 0) ∧
    (win0_8.index t 0 = t.val / 1 ∧ win0_8.index t 1 = t.val % 1 ∧ win0_8.index t 2 = 0) := by
  decide +kernel

/-- The layer of a point. -/
def layer (t : Fin cfg0.N) : Fin 2 := ⟨t.val / 1, by have := t.isLt; have := N_eq; omega⟩

/-- Row `r` of the block of a point. -/
def row (t : Fin cfg0.N) (r : Fin 3) : Fin 3 := ⟨3 * (t.val % 1) + r.val, by have := r.isLt; omega⟩

theorem load_0 (t : Fin cfg0.N) (h : t.val < 1) (k : Fin 8) (r : Fin 3) (d : Fin 768) :
    (iblk m c 0 t : Vec Ideal S8x3x768 .f32) (ix3 k r d) = m (c, Proc.tc.devRef main_arg0) (ix3 k (row t r) d) := by
  have e : (iblk m c 0 t : Vec Ideal S8x3x768 .f32) (ix3 k r d) = (V m c main_arg0 : FVec Ideal S8x3x768 .f32) (ix3 k (row t r) d) := by
    obtain ⟨h0, h1, h2⟩ := (win_facts t).1
    have h1 := h1 h
    refine congrArg (V m c main_arg0 : FVec Ideal S8x3x768 .f32) (a₁ := (win0_0.rect t).emb (ix3 k r d)) (funext fun a => Fin.ext ?_)
    rw [win0_0.rect_emb_val]
    fin_cases a
    · show win0_0.index t 0 * 8 + k.val = k.val; omega
    · show win0_0.index t 1 * 3 + r.val = 3 * (t.val % 1) + r.val; omega
    · show win0_0.index t 2 * 768 + d.val = d.val; omega
  rw [e]
  entry_read
  rfl

theorem load_1 (t : Fin cfg0.N) (h : 1 ≤ t.val) (k : Fin 8) (r : Fin 3) (d : Fin 768) :
    (iblk m c 1 t : Vec Ideal S8x3x768 .f32) (ix3 k r d) = m (c, Proc.tc.devRef main_arg1) (ix3 k (row t r) d) := by
  have e : (iblk m c 1 t : Vec Ideal S8x3x768 .f32) (ix3 k r d) = (V m c main_arg1 : FVec Ideal S8x3x768 .f32) (ix3 k (row t r) d) := by
    obtain ⟨h0, h1, h2⟩ := (win_facts t).2.1
    have h1 := h1 h
    refine congrArg (V m c main_arg1 : FVec Ideal S8x3x768 .f32) (a₁ := (win0_1.rect t).emb (ix3 k r d)) (funext fun a => Fin.ext ?_)
    rw [win0_1.rect_emb_val]
    fin_cases a
    · show win0_1.index t 0 * 8 + k.val = k.val; omega
    · show win0_1.index t 1 * 3 + r.val = 3 * (t.val % 1) + r.val; omega
    · show win0_1.index t 2 * 768 + d.val = d.val; omega
  rw [e]
  entry_read
  rfl

theorem load_2 (t : Fin cfg0.N) (r : Fin 3) (d : Fin 768) :
    (iblk m c 2 t : Vec Ideal S1x3x768 .f32) (ix3 0 r d) = join (m (c, Proc.tc.devRef main_arg2)) (m (c, Proc.tc.devRef main_arg3)) (layer t) (row t r) d := by
  have e : (iblk m c 2 t : Vec Ideal S1x3x768 .f32) (ix3 0 r d) = (V m c main_v0 : FVec Ideal S2x3x768 .f32) (ix3 (layer t) (row t r) d) := by
    obtain ⟨h0, h1, h2⟩ := (win_facts t).2.2.1
    refine congrArg (V m c main_v0 : FVec Ideal S2x3x768 .f32) (a₁ := (win0_2.rect t).emb (ix3 0 r d)) (funext fun a => Fin.ext ?_)
    rw [win0_2.rect_emb_val]
    fin_cases a
    · show win0_2.index t 0 * 1 + 0 = t.val / 1; omega
    · show win0_2.index t 1 * 3 + r.val = 3 * (t.val % 1) + r.val; omega
    · show win0_2.index t 2 * 768 + d.val = d.val; omega
  rw [e]
  entry_read
  unfold join
  pointwise []

theorem load_3 (t : Fin cfg0.N) (r : Fin 3) (d : Fin 768) :
    (iblk m c 3 t : Vec Ideal S1x3x768 .f32) (ix3 0 r d) = join (m (c, Proc.tc.devRef main_arg4)) (m (c, Proc.tc.devRef main_arg5)) (layer t) (row t r) d := by
  have e : (iblk m c 3 t : Vec Ideal S1x3x768 .f32) (ix3 0 r d) = (V m c main_v1 : FVec Ideal S2x3x768 .f32) (ix3 (layer t) (row t r) d) := by
    obtain ⟨h0, h1, h2⟩ := (win_facts t).2.2.2.1
    refine congrArg (V m c main_v1 : FVec Ideal S2x3x768 .f32) (a₁ := (win0_3.rect t).emb (ix3 0 r d)) (funext fun a => Fin.ext ?_)
    rw [win0_3.rect_emb_val]
    fin_cases a
    · show win0_3.index t 0 * 1 + 0 = t.val / 1; omega
    · show win0_3.index t 1 * 3 + r.val = 3 * (t.val % 1) + r.val; omega
    · show win0_3.index t 2 * 768 + d.val = d.val; omega
  rw [e]
  entry_read
  unfold join
  pointwise []

theorem load_4 (t : Fin cfg0.N) (r : Fin 3) (d : Fin 768) :
    (iblk m c 4 t : Vec Ideal S1x3x768 .f32) (ix3 0 r d) = join (m (c, Proc.tc.devRef main_arg6)) (m (c, Proc.tc.devRef main_arg7)) (layer t) (row t r) d := by
  have e : (iblk m c 4 t : Vec Ideal S1x3x768 .f32) (ix3 0 r d) = (V m c main_v2 : FVec Ideal S2x3x768 .f32) (ix3 (layer t) (row t r) d) := by
    obtain ⟨h0, h1, h2⟩ := (win_facts t).2.2.2.2.1
    refine congrArg (V m c main_v2 : FVec Ideal S2x3x768 .f32) (a₁ := (win0_4.rect t).emb (ix3 0 r d)) (funext fun a => Fin.ext ?_)
    rw [win0_4.rect_emb_val]
    fin_cases a
    · show win0_4.index t 0 * 1 + 0 = t.val / 1; omega
    · show win0_4.index t 1 * 3 + r.val = 3 * (t.val % 1) + r.val; omega
    · show win0_4.index t 2 * 768 + d.val = d.val; omega
  rw [e]
  entry_read
  unfold join
  pointwise []

/-- The gradient, of the arguments in memory. -/
def gOf (l : Fin 2) (q : Fin 3) (d : Fin 768) : EReal := total (m (c, Proc.tc.devRef main_arg0)) (m (c, Proc.tc.devRef main_arg1)) l q d

theorem point_first (t : Fin cfg0.N) (h : t.val < 1) (r : Fin 3) (d : Fin 768) :
    grad (F := Ideal) (iblk m c 0 t) (ix3 0 r d) = gOf m c (layer t) (row t r) d := by
  rw [grad_val]
  unfold gOf total
  rw [if_pos (by show t.val / 1 < 1; omega)]
  exact Finset.sum_congr rfl fun k _ => load_0 m c t h k r d

theorem point_second (t : Fin cfg0.N) (h : 1 ≤ t.val) (r : Fin 3) (d : Fin 768) :
    grad (F := Ideal) (iblk m c 1 t) (ix3 0 r d) = gOf m c (layer t) (row t r) d := by
  rw [grad_val]
  unfold gOf total
  rw [if_neg (by show ¬t.val / 1 < 1; omega)]
  exact Finset.sum_congr rfl fun k _ => load_1 m c t h k r d

/-! ## The result arrays -/

/-- The point that owns a row of a layer. -/
def ptOf (l : Fin 2) (q : Fin 3) : Fin cfg0.N := ⟨1 * l.val + q.val / 3, by have := N_eq; have := l.isLt; have := q.isLt; omega⟩

/-- A row's place in its point's block. -/
def rowOf (q : Fin 3) : Fin 3 := ⟨q.val % 3, by omega⟩

theorem layer_ptOf (l : Fin 2) (q : Fin 3) : layer (ptOf l q) = l := by
  apply Fin.ext
  simp only [layer, ptOf]
  omega

theorem row_ptOf (l : Fin 2) (q : Fin 3) : row (ptOf l q) (rowOf q) = q := by
  apply Fin.ext
  simp only [row, ptOf, rowOf]
  omega

theorem emb5 (t : Fin cfg0.N) (r : Fin 3) (d : Fin 768) : ((cfg0.win 5).blk t).view.emb (ix3 0 r d) = ix3 (layer t) (row t r) d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = t.val / 1; omega
  · show win0_5.index t 1 * 3 + r.val = 3 * (t.val % 1) + r.val; omega
  · show win0_5.index t 2 * 768 + d.val = d.val; omega

theorem cut5_val (t : Fin cfg0.N) (X : Vec Ideal S1x3x768 .f32) (r : Fin 3) (d : Fin 768) :
    (cfg0.win 5).cut (grid0.coords t) X (ix3 0 r d) = X (ix3 0 r d) :=
  congrArg X (funext fun a => Fin.ext rfl)

theorem flushed5_val (t : Fin cfg0.N) (r : Fin 3) (d : Fin 768) : ((dats m 0 c).flushed 5 t : Vec Ideal S1x3x768 .f32) (ix3 0 r d)
    = gOf m c (layer t) (row t r) d := by
  have hN := N_eq
  have ht := t.isLt
  rcases Nat.lt_or_ge t.val 1 with h | h
  · rw [Value.flushed5_A m c t (by omega) (by omega), out_A_5]
    refine (cut5_val t _ r d).trans ?_
    exact point_first m c t h r d
  · rw [Value.flushed5_B m c t (by omega) (by omega), out_B_5]
    refine (cut5_val t _ r d).trans ?_
    exact point_second m c t h r d

theorem kernel_5 (l : Fin 2) (q : Fin 3) (d : Fin 768) : ((dats m 0 c).arrAt 5 cfg0.N : FVec Ideal S2x3x768 .f32) (ix3 l q d)
    = gOf m c l q d := by
  have h := (dats m 0 c).arrAt_emb_eq_flushed 5 Value.disjoint5 (ptOf l q) (flush0_5 _) (ix3 0 (rowOf q) d)
  rw [emb5, row_ptOf, layer_ptOf] at h
  refine h.trans ((flushed5_val m c _ _ d).trans ?_)
  rw [row_ptOf, layer_ptOf]

theorem emb6 (t : Fin cfg0.N) (r : Fin 3) (d : Fin 768) : ((cfg0.win 6).blk t).view.emb (ix3 0 r d) = ix3 (layer t) (row t r) d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = t.val / 1; omega
  · show win0_6.index t 1 * 3 + r.val = 3 * (t.val % 1) + r.val; omega
  · show win0_6.index t 2 * 768 + d.val = d.val; omega

theorem cut6_val (t : Fin cfg0.N) (X : Vec Ideal S1x3x768 .f32) (r : Fin 3) (d : Fin 768) :
    (cfg0.win 6).cut (grid0.coords t) X (ix3 0 r d) = X (ix3 0 r d) :=
  congrArg X (funext fun a => Fin.ext rfl)

theorem flushed6_val (t : Fin cfg0.N) (r : Fin 3) (d : Fin 768) : ((dats m 0 c).flushed 6 t : Vec Ideal S1x3x768 .f32) (ix3 0 r d)
    = step (gOf m c (layer t) (row t r) d) (join (m (c, Proc.tc.devRef main_arg2)) (m (c, Proc.tc.devRef main_arg3)) (layer t) (row t r) d) (join (m (c, Proc.tc.devRef main_arg4)) (m (c, Proc.tc.devRef main_arg5)) (layer t) (row t r) d) (join (m (c, Proc.tc.devRef main_arg6)) (m (c, Proc.tc.devRef main_arg7)) (layer t) (row t r) d) := by
  have hN := N_eq
  have ht := t.isLt
  rcases Nat.lt_or_ge t.val 1 with h | h
  · rw [Value.flushed6_A m c t (by omega) (by omega), out_A_6]
    refine (cut6_val t _ r d).trans ?_
    rw [delta_val, point_first m c t h, load_2 m c t, load_3 m c t, load_4 m c t]
  · rw [Value.flushed6_B m c t (by omega) (by omega), out_B_6]
    refine (cut6_val t _ r d).trans ?_
    rw [delta_val, point_second m c t h, load_2 m c t, load_3 m c t, load_4 m c t]

theorem kernel_6 (l : Fin 2) (q : Fin 3) (d : Fin 768) : ((dats m 0 c).arrAt 6 cfg0.N : FVec Ideal S2x3x768 .f32) (ix3 l q d)
    = step (gOf m c l q d) (join (m (c, Proc.tc.devRef main_arg2)) (m (c, Proc.tc.devRef main_arg3)) l q d) (join (m (c, Proc.tc.devRef main_arg4)) (m (c, Proc.tc.devRef main_arg5)) l q d) (join (m (c, Proc.tc.devRef main_arg6)) (m (c, Proc.tc.devRef main_arg7)) l q d) := by
  have h := (dats m 0 c).arrAt_emb_eq_flushed 6 Value.disjoint6 (ptOf l q) (flush0_6 _) (ix3 0 (rowOf q) d)
  rw [emb6, row_ptOf, layer_ptOf] at h
  refine h.trans ((flushed6_val m c _ _ d).trans ?_)
  rw [row_ptOf, layer_ptOf]

theorem emb7 (t : Fin cfg0.N) (r : Fin 3) (d : Fin 768) : ((cfg0.win 7).blk t).view.emb (ix3 0 r d) = ix3 (layer t) (row t r) d := by
  obtain ⟨h0, h1, h2⟩ := (win_facts t).2.2.2.2.2.2.2.1
  refine funext fun a => Fin.ext ?_
  refine (win0_7.rect_emb_val t (ix3 0 r d) a).trans ?_
  fin_cases a
  · show win0_7.index t 0 * 1 + 0 = t.val / 1; omega
  · show win0_7.index t 1 * 3 + r.val = 3 * (t.val % 1) + r.val; omega
  · show win0_7.index t 2 * 768 + d.val = d.val; omega

theorem cut7_val (t : Fin cfg0.N) (X : Vec Ideal S1x3x768 .f32) (r : Fin 3) (d : Fin 768) :
    (cfg0.win 7).cut (grid0.coords t) X (ix3 0 r d) = X (ix3 0 r d) :=
  congrArg X (funext fun a => Fin.ext rfl)

theorem flushed7_val (t : Fin cfg0.N) (r : Fin 3) (d : Fin 768) : ((dats m 0 c).flushed 7 t : Vec Ideal S1x3x768 .f32) (ix3 0 r d)
    = m1 (gOf m c (layer t) (row t r) d) (join (m (c, Proc.tc.devRef main_arg4)) (m (c, Proc.tc.devRef main_arg5)) (layer t) (row t r) d) := by
  have hN := N_eq
  have ht := t.isLt
  rcases Nat.lt_or_ge t.val 1 with h | h
  · rw [Value.flushed7_A m c t (by omega) (by omega), out_A_7]
    refine (cut7_val t _ r d).trans ?_
    rw [moment_val, point_first m c t h, load_3 m c t]
  · rw [Value.flushed7_B m c t (by omega) (by omega), out_B_7]
    refine (cut7_val t _ r d).trans ?_
    rw [moment_val, point_second m c t h, load_3 m c t]

theorem kernel_7 (l : Fin 2) (q : Fin 3) (d : Fin 768) : ((dats m 0 c).arrAt 7 cfg0.N : FVec Ideal S2x3x768 .f32) (ix3 l q d)
    = m1 (gOf m c l q d) (join (m (c, Proc.tc.devRef main_arg4)) (m (c, Proc.tc.devRef main_arg5)) l q d) := by
  have h := (dats m 0 c).arrAt_emb_eq_flushed 7 Value.disjoint7 (ptOf l q) (flush0_7 _) (ix3 0 (rowOf q) d)
  rw [emb7, row_ptOf, layer_ptOf] at h
  refine h.trans ((flushed7_val m c _ _ d).trans ?_)
  rw [row_ptOf, layer_ptOf]

theorem emb8 (t : Fin cfg0.N) (r : Fin 3) (d : Fin 768) : ((cfg0.win 8).blk t).view.emb (ix3 0 r d) = ix3 (layer t) (row t r) d := by
  obtain ⟨h0, h1, h2⟩ := (win_facts t).2.2.2.2.2.2.2.2
  refine funext fun a => Fin.ext ?_
  refine (win0_8.rect_emb_val t (ix3 0 r d) a).trans ?_
  fin_cases a
  · show win0_8.index t 0 * 1 + 0 = t.val / 1; omega
  · show win0_8.index t 1 * 3 + r.val = 3 * (t.val % 1) + r.val; omega
  · show win0_8.index t 2 * 768 + d.val = d.val; omega

theorem cut8_val (t : Fin cfg0.N) (X : Vec Ideal S1x3x768 .f32) (r : Fin 3) (d : Fin 768) :
    (cfg0.win 8).cut (grid0.coords t) X (ix3 0 r d) = X (ix3 0 r d) :=
  congrArg X (funext fun a => Fin.ext rfl)

theorem flushed8_val (t : Fin cfg0.N) (r : Fin 3) (d : Fin 768) : ((dats m 0 c).flushed 8 t : Vec Ideal S1x3x768 .f32) (ix3 0 r d)
    = v1 (gOf m c (layer t) (row t r) d) (join (m (c, Proc.tc.devRef main_arg6)) (m (c, Proc.tc.devRef main_arg7)) (layer t) (row t r) d) := by
  have hN := N_eq
  have ht := t.isLt
  rcases Nat.lt_or_ge t.val 1 with h | h
  · rw [Value.flushed8_A m c t (by omega) (by omega), out_A_8]
    refine (cut8_val t _ r d).trans ?_
    rw [second_val, point_first m c t h, load_4 m c t]
  · rw [Value.flushed8_B m c t (by omega) (by omega), out_B_8]
    refine (cut8_val t _ r d).trans ?_
    rw [second_val, point_second m c t h, load_4 m c t]

theorem kernel_8 (l : Fin 2) (q : Fin 3) (d : Fin 768) : ((dats m 0 c).arrAt 8 cfg0.N : FVec Ideal S2x3x768 .f32) (ix3 l q d)
    = v1 (gOf m c l q d) (join (m (c, Proc.tc.devRef main_arg6)) (m (c, Proc.tc.devRef main_arg7)) l q d) := by
  have h := (dats m 0 c).arrAt_emb_eq_flushed 8 Value.disjoint8 (ptOf l q) (flush0_8 _) (ix3 0 (rowOf q) d)
  rw [emb8, row_ptOf, layer_ptOf] at h
  refine h.trans ((flushed8_val m c _ _ d).trans ?_)
  rw [row_ptOf, layer_ptOf]

end Loads

end Cert.AdamWConv

end
-- ==== Proof.AdamWGains.lean ====
/-
  AdamW on the gains of the norms, which the call takes in one array of eight rows: one grid point sums the parts of the
  gradient and steps the moments.
-/
module

public import proofs.«01_k».proof.Proof.AdamW
public import proofs.«01_k».proof.Proof.Gen.Kernel19Ideal.Value
public import proofs.«01_k».proof.Proof.Gen.Reference19Ideal.Run
public import proofs.«01_k».proof.Proof.Gen.Reference19Ideal.Read
public import Idealize.ShloMosaic.Lib.Claim
public import Idealize.ShloMosaic.Lib.Pointwise
public import Idealize.ShloMosaic.Lib.StableHlo.RunRead

@[expose] public section

noncomputable section

namespace Cert.AdamWGains

open Idealize.ShloMosaic Cert.Kernel19Ideal Cert.Kernel19Ideal.Gen Idealize.ShloMosaic.TcCoe
open Idealize.ShloMosaic.Tactic
open Cert.AdamW (m1 v1 step)

section Body

variable {F : FTy → Type} [FloatOps F]

/-- The parts of the gradient, summed. -/
def grad (x : Vec F S8x8x1024 .f32) : FVec F S1x8x1024 .f32 :=
  k0_pay2 (View.ld x (Rect.unit (s := S8x8x1024) ![0, 0, 0] S1x8x1024.size inb_S8x8x1024_S1x8x1024_0_0_0))
    (View.ld x (Rect.unit (s := S8x8x1024) ![1, 0, 0] S1x8x1024.size inb_S8x8x1024_S1x8x1024_1_0_0))
    (View.ld x (Rect.unit (s := S8x8x1024) ![2, 0, 0] S1x8x1024.size inb_S8x8x1024_S1x8x1024_2_0_0))
    (View.ld x (Rect.unit (s := S8x8x1024) ![3, 0, 0] S1x8x1024.size inb_S8x8x1024_S1x8x1024_3_0_0))
    (View.ld x (Rect.unit (s := S8x8x1024) ![4, 0, 0] S1x8x1024.size inb_S8x8x1024_S1x8x1024_4_0_0))
    (View.ld x (Rect.unit (s := S8x8x1024) ![5, 0, 0] S1x8x1024.size inb_S8x8x1024_S1x8x1024_5_0_0))
    (View.ld x (Rect.unit (s := S8x8x1024) ![6, 0, 0] S1x8x1024.size inb_S8x8x1024_S1x8x1024_6_0_0))
    (View.ld x (Rect.unit (s := S8x8x1024) ![7, 0, 0] S1x8x1024.size inb_S8x8x1024_S1x8x1024_7_0_0))

/-- The step of the weights. -/
def delta (g x1 x2 x3 : Vec F S1x8x1024 .f32) : FVec F S1x8x1024 .f32 :=
  k0_pay1 (k0_pay8 g x2) (k0_pay9 g x3) (Scalar.ofBits .f32 0x322BCC77#32) x1

theorem out_A_4 (c : Dev nD) (i : grid0.Coords) (a2 a3 a4 a5 a6 a7 a8 a9) (h2 h3 h4 h5 h6 h7 h8 h9) (hc0)
    (x0 : Vec F S8x8x1024 .f32) (x1 x2 x3 : Vec F S1x8x1024 .f32) :
    out0_A_4 (F := F) c i a2 h2 a3 h3 a4 h4 a5 h5 a6 h6 a7 h7 a8 h8 a9 h9 hc0 x0 x1 x2 x3 = grad x0 := by
  unfold out0_A_4
  rw [View.read_writes_eq_canon _ _ _ (cover0_A_4 c i a2 h2 a3 h3 a4 h4 a5 h5 a6 h6 a7 h7 a8 h8 a9 h9 hc0 x0 x1 x2 x3)]
  unfold kernelRun0_A
  dsimp only
  sl_unfold_words
  rw [View.canon_unit_zero Cert.FfnBwd.hz3]
  simp only [View.readAt_eq_ld, h2.read_unread, h3.read_unread, h4.read_unread, h5.read_unread]
  rfl

theorem out_A_5 (c : Dev nD) (i : grid0.Coords) (a2 a3 a4 a5 a6 a7 a8 a9) (h2 h3 h4 h5 h6 h7 h8 h9) (hc0)
    (x0 : Vec F S8x8x1024 .f32) (x1 x2 x3 : Vec F S1x8x1024 .f32) :
    out0_A_5 (F := F) c i a2 h2 a3 h3 a4 h4 a5 h5 a6 h6 a7 h7 a8 h8 a9 h9 hc0 x0 x1 x2 x3 = delta (grad x0) x1 x2 x3 := by
  unfold out0_A_5
  rw [View.read_writes_eq_canon _ _ _ (cover0_A_5 c i a2 h2 a3 h3 a4 h4 a5 h5 a6 h6 a7 h7 a8 h8 a9 h9 hc0 x0 x1 x2 x3)]
  unfold kernelRun0_A
  dsimp only
  sl_unfold_words
  rw [View.canon_unit_zero Cert.FfnBwd.hz3]
  simp only [View.readAt_eq_ld, h2.read_unread, h3.read_unread, h4.read_unread, h5.read_unread]
  simp only [View.readCov_unit_zero (S := S1x8x1024) _ Cert.FfnBwd.hz3, View.ld_unit_zero (S := S1x8x1024) Cert.FfnBwd.hz3]
  rfl

theorem out_A_6 (c : Dev nD) (i : grid0.Coords) (a2 a3 a4 a5 a6 a7 a8 a9) (h2 h3 h4 h5 h6 h7 h8 h9) (hc0)
    (x0 : Vec F S8x8x1024 .f32) (x1 x2 x3 : Vec F S1x8x1024 .f32) :
    out0_A_6 (F := F) c i a2 h2 a3 h3 a4 h4 a5 h5 a6 h6 a7 h7 a8 h8 a9 h9 hc0 x0 x1 x2 x3 = k0_pay6 (grad x0) x2 := by
  unfold out0_A_6
  rw [View.read_writes_eq_canon _ _ _ (cover0_A_6 c i a2 h2 a3 h3 a4 h4 a5 h5 a6 h6 a7 h7 a8 h8 a9 h9 hc0 x0 x1 x2 x3)]
  unfold kernelRun0_A
  dsimp only
  sl_unfold_words
  rw [View.canon_unit_zero Cert.FfnBwd.hz3]
  simp only [View.readAt_eq_ld, h2.read_unread, h3.read_unread, h4.read_unread, h5.read_unread]
  simp only [View.readCov_unit_zero (S := S1x8x1024) _ Cert.FfnBwd.hz3, View.ld_unit_zero (S := S1x8x1024) Cert.FfnBwd.hz3]
  rfl

theorem out_A_7 (c : Dev nD) (i : grid0.Coords) (a2 a3 a4 a5 a6 a7 a8 a9) (h2 h3 h4 h5 h6 h7 h8 h9) (hc0)
    (x0 : Vec F S8x8x1024 .f32) (x1 x2 x3 : Vec F S1x8x1024 .f32) :
    out0_A_7 (F := F) c i a2 h2 a3 h3 a4 h4 a5 h5 a6 h6 a7 h7 a8 h8 a9 h9 hc0 x0 x1 x2 x3 = k0_pay7 (grad x0) x3 := by
  unfold out0_A_7
  rw [View.read_writes_eq_canon _ _ _ (cover0_A_7 c i a2 h2 a3 h3 a4 h4 a5 h5 a6 h6 a7 h7 a8 h8 a9 h9 hc0 x0 x1 x2 x3)]
  unfold kernelRun0_A
  dsimp only
  sl_unfold_words
  rw [View.canon_unit_zero Cert.FfnBwd.hz3]
  simp only [View.readAt_eq_ld, h2.read_unread, h3.read_unread, h4.read_unread, h5.read_unread]
  simp only [View.readCov_unit_zero (S := S1x8x1024) _ Cert.FfnBwd.hz3, View.ld_unit_zero (S := S1x8x1024) Cert.FfnBwd.hz3]
  rfl

end Body

/-! ## The reference -/

/-- The gradient: the parts summed. -/
def total (P : FVec Ideal ⟨3, ![8, 8, 1024]⟩ .f32) (q : Fin 8) (d : Fin 1024) : EReal := ∑ k : Fin 8, P (ix3 k q d)

/-- The array of eight rows: two rows of the first norm, two of the second, one of the last norm, two of the mixers'
    norms side by side, and one of zeros. Each piece counts its rows from where the piece before it ends. -/
def pack (n : FVec Ideal ⟨2, ![2, 1024]⟩ .f32) (a b : FVec Ideal ⟨2, ![2, 512]⟩ .f32) (n' : FVec Ideal ⟨2, ![2, 1024]⟩ .f32)
    (f : FVec Ideal ⟨1, ![1024]⟩ .f32) (q : Fin 8) (d : Fin 1024) : EReal :=
  if h : q.val < 2 then n (ix2 ⟨q.val, h⟩ d)
  else if h' : q.val - 2 < 2 then n' (ix2 ⟨q.val - 2, h'⟩ d)
  else if _h'' : q.val - 2 - 2 < 1 then f (ix1 d)
  else if h'' : q.val - 2 - 2 - 1 < 2 then
    if g : d.val < 512 then a (ix2 ⟨q.val - 2 - 2 - 1, h''⟩ ⟨d.val, g⟩)
    else b (ix2 ⟨q.val - 2 - 2 - 1, h''⟩ ⟨d.val - 512, by have := d.isLt; omega⟩)
  else 0

section Reference

open Cert.Reference19Ideal Cert.Reference19Ideal.Gen Cert.Reference19Ideal.Read

variable (P : FVec Ideal ⟨3, ![8, 8, 1024]⟩ .f32) (W1 W4 M6 M9 V11 V14 : FVec Ideal ⟨2, ![2, 1024]⟩ .f32)
  (W2 W3 M7 M8 V12 V13 : FVec Ideal ⟨2, ![2, 512]⟩ .f32) (W5 M10 V15 : FVec Ideal ⟨1, ![1024]⟩ .f32)

theorem sum_val (q : Fin 8) (d : Fin 1024) : val_main_v0 (F := Ideal) P (ix2 q d) = total P q d := by
  pointwise [val_main_v0, val_main_cst]
  rfl

theorem ref_g (q : Fin 8) (d : Fin 1024) : val_main_v155 (F := Ideal) P (ix3 0 q d) = total P q d := by
  rw [← sum_val]
  unfold val_main_v155
  generalize val_main_v0 (F := Ideal) P = y
  pointwise []

/-! ### The rows of the first norm -/

theorem one_g (r : Fin 2) (d : Fin 1024) : val_main_v2 (F := Ideal) P (ix2 r d) = total P ⟨r.val, by have := r.isLt; omega⟩ d := by
  rw [← sum_val]
  unfold val_main_v2
  generalize val_main_v0 (F := Ideal) P = y
  pointwise []

theorem one_m (r : Fin 2) (d : Fin 1024) : val_main_v7 (F := Ideal) P M6 (ix2 r d) = m1 (total P ⟨r.val, by have := r.isLt; omega⟩ d) (M6 (ix2 r d)) := by
  have e := one_g P r d
  unfold val_main_v7 val_main_v6
  generalize val_main_v2 (F := Ideal) P = y at e ⊢
  pointwise [val_main_v5, val_main_v4, val_main_v3, val_main_cst_1, val_main_cst_2]
  rw [e]
  rfl

theorem one_v (r : Fin 2) (d : Fin 1024) : val_main_v13 (F := Ideal) P V11 (ix2 r d) = v1 (total P ⟨r.val, by have := r.isLt; omega⟩ d) (V11 (ix2 r d)) := by
  have e := one_g P r d
  unfold val_main_v13 val_main_v12 val_main_v10
  generalize val_main_v2 (F := Ideal) P = y at e ⊢
  pointwise [val_main_v11, val_main_v9, val_main_v8, val_main_cst_3, val_main_cst_4]
  rw [e]
  rfl

theorem one_d (r : Fin 2) (d : Fin 1024) : val_main_v26 (F := Ideal) P W1 M6 V11 (ix2 r d)
    = step (total P ⟨r.val, by have := r.isLt; omega⟩ d) (W1 (ix2 r d)) (M6 (ix2 r d)) (V11 (ix2 r d)) := by
  have e := one_m P M6 r d
  have e' := one_v P V11 r d
  unfold val_main_v26 val_main_v24 val_main_v21 val_main_v15 val_main_v20 val_main_v18 val_main_v17
  generalize val_main_v7 (F := Ideal) P M6 = y at e ⊢
  generalize val_main_v13 (F := Ideal) P V11 = y' at e' ⊢
  pointwise [val_main_v25, val_main_v23, val_main_v22, val_main_v19, val_main_v16, val_main_v14, val_main_cst_5, val_main_cst_6, val_main_cst_7, val_main_cst_8, val_main_cst_9]
  rw [e, e']
  rfl

/-! ### The rows of the second norm -/

theorem two_g (r : Fin 2) (d : Fin 1024) : val_main_v27 (F := Ideal) P (ix2 r d) = total P ⟨2 + r.val, by have := r.isLt; omega⟩ d := by
  rw [← sum_val]
  unfold val_main_v27
  generalize val_main_v0 (F := Ideal) P = y
  pointwise []

theorem two_m (r : Fin 2) (d : Fin 1024) : val_main_v32 (F := Ideal) P M9 (ix2 r d) = m1 (total P ⟨2 + r.val, by have := r.isLt; omega⟩ d) (M9 (ix2 r d)) := by
  have e := two_g P r d
  unfold val_main_v32 val_main_v31
  generalize val_main_v27 (F := Ideal) P = y at e ⊢
  pointwise [val_main_v30, val_main_v29, val_main_v28, val_main_cst_10, val_main_cst_11]
  rw [e]
  rfl

theorem two_v (r : Fin 2) (d : Fin 1024) : val_main_v38 (F := Ideal) P V14 (ix2 r d) = v1 (total P ⟨2 + r.val, by have := r.isLt; omega⟩ d) (V14 (ix2 r d)) := by
  have e := two_g P r d
  unfold val_main_v38 val_main_v37 val_main_v35
  generalize val_main_v27 (F := Ideal) P = y at e ⊢
  pointwise [val_main_v36, val_main_v34, val_main_v33, val_main_cst_12, val_main_cst_13]
  rw [e]
  rfl

theorem two_d (r : Fin 2) (d : Fin 1024) : val_main_v51 (F := Ideal) P W4 M9 V14 (ix2 r d)
    = step (total P ⟨2 + r.val, by have := r.isLt; omega⟩ d) (W4 (ix2 r d)) (M9 (ix2 r d)) (V14 (ix2 r d)) := by
  have e := two_m P M9 r d
  have e' := two_v P V14 r d
  unfold val_main_v51 val_main_v49 val_main_v46 val_main_v40 val_main_v45 val_main_v43 val_main_v42
  generalize val_main_v32 (F := Ideal) P M9 = y at e ⊢
  generalize val_main_v38 (F := Ideal) P V14 = y' at e' ⊢
  pointwise [val_main_v50, val_main_v48, val_main_v47, val_main_v44, val_main_v41, val_main_v39, val_main_cst_14, val_main_cst_15, val_main_cst_16, val_main_cst_17, val_main_cst_18]
  rw [e, e']
  rfl

/-! ### The rows of the last norm -/

theorem last_g (r : Fin 1) (d : Fin 1024) : val_main_v53 (F := Ideal) P (ix2 r d) = total P ⟨4 + r.val, by have := r.isLt; omega⟩ d := by
  obtain rfl : r = 0 := Subsingleton.elim r 0
  rw [← sum_val]
  unfold val_main_v53
  generalize val_main_v0 (F := Ideal) P = y
  pointwise []

theorem last_m (r : Fin 1) (d : Fin 1024) : val_main_v60 (F := Ideal) P M10 (ix2 r d) = m1 (total P ⟨4 + r.val, by have := r.isLt; omega⟩ d) (M10 (ix1 d)) := by
  have e := last_g P r d
  obtain rfl : r = 0 := Subsingleton.elim r 0
  unfold val_main_v60 val_main_v59
  generalize val_main_v53 (F := Ideal) P = y at e ⊢
  pointwise [val_main_v58, val_main_v57, val_main_v56, val_main_cst_19, val_main_cst_20, val_main_v54]
  rw [e]
  rfl

theorem last_v (r : Fin 1) (d : Fin 1024) : val_main_v66 (F := Ideal) P V15 (ix2 r d) = v1 (total P ⟨4 + r.val, by have := r.isLt; omega⟩ d) (V15 (ix1 d)) := by
  have e := last_g P r d
  obtain rfl : r = 0 := Subsingleton.elim r 0
  unfold val_main_v66 val_main_v65 val_main_v63
  generalize val_main_v53 (F := Ideal) P = y at e ⊢
  pointwise [val_main_v64, val_main_v62, val_main_v61, val_main_cst_21, val_main_cst_22, val_main_v55]
  rw [e]
  rfl

theorem last_d (r : Fin 1) (d : Fin 1024) : val_main_v79 (F := Ideal) P W5 M10 V15 (ix2 r d)
    = step (total P ⟨4 + r.val, by have := r.isLt; omega⟩ d) (W5 (ix1 d)) (M10 (ix1 d)) (V15 (ix1 d)) := by
  have e := last_m P M10 r d
  have e' := last_v P V15 r d
  obtain rfl : r = 0 := Subsingleton.elim r 0
  unfold val_main_v79 val_main_v77 val_main_v74 val_main_v68 val_main_v73 val_main_v71 val_main_v70
  generalize val_main_v60 (F := Ideal) P M10 = y at e ⊢
  generalize val_main_v66 (F := Ideal) P V15 = y' at e' ⊢
  pointwise [val_main_v78, val_main_v76, val_main_v75, val_main_v72, val_main_v69, val_main_v67, val_main_cst_23, val_main_cst_24, val_main_cst_25, val_main_cst_26, val_main_cst_27, val_main_v52]
  rw [e, e']
  rfl

/-! ### The rows of attention's norm -/

theorem attn_g (r : Fin 2) (d : Fin 512) : val_main_v80 (F := Ideal) P (ix2 r d) = total P ⟨5 + r.val, by have := r.isLt; omega⟩ ⟨d.val, by have := d.isLt; omega⟩ := by
  rw [← sum_val]
  unfold val_main_v80
  generalize val_main_v0 (F := Ideal) P = y
  pointwise []

theorem attn_m (r : Fin 2) (d : Fin 512) : val_main_v85 (F := Ideal) P M7 (ix2 r d) = m1 (total P ⟨5 + r.val, by have := r.isLt; omega⟩ ⟨d.val, by have := d.isLt; omega⟩) (M7 (ix2 r d)) := by
  have e := attn_g P r d
  unfold val_main_v85 val_main_v84
  generalize val_main_v80 (F := Ideal) P = y at e ⊢
  pointwise [val_main_v83, val_main_v82, val_main_v81, val_main_cst_28, val_main_cst_29]
  rw [e]
  rfl

theorem attn_v (r : Fin 2) (d : Fin 512) : val_main_v91 (F := Ideal) P V12 (ix2 r d) = v1 (total P ⟨5 + r.val, by have := r.isLt; omega⟩ ⟨d.val, by have := d.isLt; omega⟩) (V12 (ix2 r d)) := by
  have e := attn_g P r d
  unfold val_main_v91 val_main_v90 val_main_v88
  generalize val_main_v80 (F := Ideal) P = y at e ⊢
  pointwise [val_main_v89, val_main_v87, val_main_v86, val_main_cst_30, val_main_cst_31]
  rw [e]
  rfl

theorem attn_d (r : Fin 2) (d : Fin 512) : val_main_v104 (F := Ideal) P W2 M7 V12 (ix2 r d)
    = step (total P ⟨5 + r.val, by have := r.isLt; omega⟩ ⟨d.val, by have := d.isLt; omega⟩) (W2 (ix2 r d)) (M7 (ix2 r d)) (V12 (ix2 r d)) := by
  have e := attn_m P M7 r d
  have e' := attn_v P V12 r d
  unfold val_main_v104 val_main_v102 val_main_v99 val_main_v93 val_main_v98 val_main_v96 val_main_v95
  generalize val_main_v85 (F := Ideal) P M7 = y at e ⊢
  generalize val_main_v91 (F := Ideal) P V12 = y' at e' ⊢
  pointwise [val_main_v103, val_main_v101, val_main_v100, val_main_v97, val_main_v94, val_main_v92, val_main_cst_32, val_main_cst_33, val_main_cst_34, val_main_cst_35, val_main_cst_36]
  rw [e, e']
  rfl

/-! ### The rows of the convolution mixer's norm -/

theorem conv_g (r : Fin 2) (d : Fin 512) : val_main_v105 (F := Ideal) P (ix2 r d) = total P ⟨5 + r.val, by have := r.isLt; omega⟩ ⟨512 + d.val, by have := d.isLt; omega⟩ := by
  rw [← sum_val]
  unfold val_main_v105
  generalize val_main_v0 (F := Ideal) P = y
  pointwise []

theorem conv_m (r : Fin 2) (d : Fin 512) : val_main_v110 (F := Ideal) P M8 (ix2 r d) = m1 (total P ⟨5 + r.val, by have := r.isLt; omega⟩ ⟨512 + d.val, by have := d.isLt; omega⟩) (M8 (ix2 r d)) := by
  have e := conv_g P r d
  unfold val_main_v110 val_main_v109
  generalize val_main_v105 (F := Ideal) P = y at e ⊢
  pointwise [val_main_v108, val_main_v107, val_main_v106, val_main_cst_37, val_main_cst_38]
  rw [e]
  rfl

theorem conv_v (r : Fin 2) (d : Fin 512) : val_main_v116 (F := Ideal) P V13 (ix2 r d) = v1 (total P ⟨5 + r.val, by have := r.isLt; omega⟩ ⟨512 + d.val, by have := d.isLt; omega⟩) (V13 (ix2 r d)) := by
  have e := conv_g P r d
  unfold val_main_v116 val_main_v115 val_main_v113
  generalize val_main_v105 (F := Ideal) P = y at e ⊢
  pointwise [val_main_v114, val_main_v112, val_main_v111, val_main_cst_39, val_main_cst_40]
  rw [e]
  rfl

theorem conv_d (r : Fin 2) (d : Fin 512) : val_main_v129 (F := Ideal) P W3 M8 V13 (ix2 r d)
    = step (total P ⟨5 + r.val, by have := r.isLt; omega⟩ ⟨512 + d.val, by have := d.isLt; omega⟩) (W3 (ix2 r d)) (M8 (ix2 r d)) (V13 (ix2 r d)) := by
  have e := conv_m P M8 r d
  have e' := conv_v P V13 r d
  unfold val_main_v129 val_main_v127 val_main_v124 val_main_v118 val_main_v123 val_main_v121 val_main_v120
  generalize val_main_v110 (F := Ideal) P M8 = y at e ⊢
  generalize val_main_v116 (F := Ideal) P V13 = y' at e' ⊢
  pointwise [val_main_v128, val_main_v126, val_main_v125, val_main_v122, val_main_v119, val_main_v117, val_main_cst_41, val_main_cst_42, val_main_cst_43, val_main_cst_44, val_main_cst_45]
  rw [e, e']
  rfl

/-! ### The rows of the row of zeros -/

theorem rest_g (r : Fin 1) (d : Fin 1024) : val_main_v130 (F := Ideal) P (ix2 r d) = total P ⟨7 + r.val, by have := r.isLt; omega⟩ d := by
  obtain rfl : r = 0 := Subsingleton.elim r 0
  rw [← sum_val]
  unfold val_main_v130
  generalize val_main_v0 (F := Ideal) P = y
  pointwise []

theorem rest_m (r : Fin 1) (d : Fin 1024) : val_main_v135 (F := Ideal) P (ix2 r d) = m1 (total P ⟨7 + r.val, by have := r.isLt; omega⟩ d) (0 : EReal) := by
  have e := rest_g P r d
  obtain rfl : r = 0 := Subsingleton.elim r 0
  unfold val_main_v135 val_main_v134
  generalize val_main_v130 (F := Ideal) P = y at e ⊢
  pointwise [val_main_v133, val_main_v132, val_main_v131, val_main_cst_46, val_main_cst_47, val_main_v1, val_main_cst_0]
  rw [e]
  rfl

theorem rest_v (r : Fin 1) (d : Fin 1024) : val_main_v141 (F := Ideal) P (ix2 r d) = v1 (total P ⟨7 + r.val, by have := r.isLt; omega⟩ d) (0 : EReal) := by
  have e := rest_g P r d
  obtain rfl : r = 0 := Subsingleton.elim r 0
  unfold val_main_v141 val_main_v140 val_main_v138
  generalize val_main_v130 (F := Ideal) P = y at e ⊢
  pointwise [val_main_v139, val_main_v137, val_main_v136, val_main_cst_48, val_main_cst_49, val_main_v1, val_main_cst_0]
  rw [e]
  rfl

theorem rest_d (r : Fin 1) (d : Fin 1024) : val_main_v154 (F := Ideal) P (ix2 r d)
    = step (total P ⟨7 + r.val, by have := r.isLt; omega⟩ d) (0 : EReal) (0 : EReal) (0 : EReal) := by
  have e := rest_m P r d
  have e' := rest_v P r d
  obtain rfl : r = 0 := Subsingleton.elim r 0
  unfold val_main_v154 val_main_v152 val_main_v149 val_main_v143 val_main_v148 val_main_v146 val_main_v145
  generalize val_main_v135 (F := Ideal) P = y at e ⊢
  generalize val_main_v141 (F := Ideal) P = y' at e' ⊢
  pointwise [val_main_v153, val_main_v151, val_main_v150, val_main_v147, val_main_v144, val_main_v142, val_main_cst_50, val_main_cst_51, val_main_cst_52, val_main_cst_53, val_main_cst_54, val_main_v1, val_main_cst_0]
  rw [e, e']
  rfl

/-! ### The eight rows -/

theorem place {N : ℕ} (n k : ℕ) (q : Fin N) (h : n + k = q.val) (b : n + k < N) : (⟨n + k, b⟩ : Fin N) = q := Fin.ext h

theorem ref_d (q : Fin 8) (d : Fin 1024) : val_main_v158 (F := Ideal) P W1 W2 W3 W4 W5 M6 M7 M8 M9 M10 V11 V12 V13 V14 V15 (ix3 0 q d)
    = step (total P q d) (pack W1 W2 W3 W4 W5 q d) (pack M6 M7 M8 M9 M10 q d) (pack V11 V12 V13 V14 V15 q d) := by
  have e0 := one_d P W1 M6 V11
  have e1 := two_d P W4 M9 V14
  have e2 := last_d P W5 M10 V15
  have e3 := attn_d P W2 M7 V12
  have e4 := conv_d P W3 M8 V13
  have e5 := rest_d P
  unfold val_main_v158 val_main_v157 val_main_v156 pack
  generalize val_main_v26 (F := Ideal) P W1 M6 V11 = y0 at e0 ⊢
  generalize val_main_v51 (F := Ideal) P W4 M9 V14 = y1 at e1 ⊢
  generalize val_main_v79 (F := Ideal) P W5 M10 V15 = y2 at e2 ⊢
  generalize val_main_v104 (F := Ideal) P W2 M7 V12 = y3 at e3 ⊢
  generalize val_main_v129 (F := Ideal) P W3 M8 V13 = y4 at e4 ⊢
  generalize val_main_v154 (F := Ideal) P = y5 at e5 ⊢
  pointwise []
  by_cases h0 : q.val < 2
  · simp only [h0, ↓reduceDIte, ↓reduceIte, e0]
  by_cases h1 : q.val - 2 < 2
  · simp only [h0, h1, ↓reduceDIte, ↓reduceIte, e1, place 2 (q.val - 2) q (by omega)]
  by_cases h2 : q.val - 2 - 2 < 1
  · simp only [h0, h1, h2, ↓reduceDIte, ↓reduceIte, e2, place 4 (q.val - 2 - 2) q (by omega)]
  by_cases h3 : q.val - 2 - 2 - 1 < 2
  · have p := place 5 (q.val - 2 - 2 - 1) q (by omega)
    by_cases g : d.val < 512
    · simp only [h0, h1, h2, h3, g, ↓reduceDIte, ↓reduceIte, e3, p]
    · simp only [h0, h1, h2, h3, g, ↓reduceDIte, ↓reduceIte, e4, p, place 512 (d.val - 512) d (by omega)]
  · have := q.isLt
    simp only [h0, h1, h2, h3, ↓reduceDIte, ↓reduceIte, e5, place 7 (q.val - 2 - 2 - 1 - 2) q (by omega)]

theorem ref_m (q : Fin 8) (d : Fin 1024) : val_main_v161 (F := Ideal) P M6 M7 M8 M9 M10 (ix3 0 q d)
    = m1 (total P q d) (pack M6 M7 M8 M9 M10 q d) := by
  have e0 := one_m P M6
  have e1 := two_m P M9
  have e2 := last_m P M10
  have e3 := attn_m P M7
  have e4 := conv_m P M8
  have e5 := rest_m P
  unfold val_main_v161 val_main_v160 val_main_v159 pack
  generalize val_main_v7 (F := Ideal) P M6 = y0 at e0 ⊢
  generalize val_main_v32 (F := Ideal) P M9 = y1 at e1 ⊢
  generalize val_main_v60 (F := Ideal) P M10 = y2 at e2 ⊢
  generalize val_main_v85 (F := Ideal) P M7 = y3 at e3 ⊢
  generalize val_main_v110 (F := Ideal) P M8 = y4 at e4 ⊢
  generalize val_main_v135 (F := Ideal) P = y5 at e5 ⊢
  pointwise []
  by_cases h0 : q.val < 2
  · simp only [h0, ↓reduceDIte, ↓reduceIte, e0]
  by_cases h1 : q.val - 2 < 2
  · simp only [h0, h1, ↓reduceDIte, ↓reduceIte, e1, place 2 (q.val - 2) q (by omega)]
  by_cases h2 : q.val - 2 - 2 < 1
  · simp only [h0, h1, h2, ↓reduceDIte, ↓reduceIte, e2, place 4 (q.val - 2 - 2) q (by omega)]
  by_cases h3 : q.val - 2 - 2 - 1 < 2
  · have p := place 5 (q.val - 2 - 2 - 1) q (by omega)
    by_cases g : d.val < 512
    · simp only [h0, h1, h2, h3, g, ↓reduceDIte, ↓reduceIte, e3, p]
    · simp only [h0, h1, h2, h3, g, ↓reduceDIte, ↓reduceIte, e4, p, place 512 (d.val - 512) d (by omega)]
  · have := q.isLt
    simp only [h0, h1, h2, h3, ↓reduceDIte, ↓reduceIte, e5, place 7 (q.val - 2 - 2 - 1 - 2) q (by omega)]

theorem ref_v (q : Fin 8) (d : Fin 1024) : val_main_v164 (F := Ideal) P V11 V12 V13 V14 V15 (ix3 0 q d)
    = v1 (total P q d) (pack V11 V12 V13 V14 V15 q d) := by
  have e0 := one_v P V11
  have e1 := two_v P V14
  have e2 := last_v P V15
  have e3 := attn_v P V12
  have e4 := conv_v P V13
  have e5 := rest_v P
  unfold val_main_v164 val_main_v163 val_main_v162 pack
  generalize val_main_v13 (F := Ideal) P V11 = y0 at e0 ⊢
  generalize val_main_v38 (F := Ideal) P V14 = y1 at e1 ⊢
  generalize val_main_v66 (F := Ideal) P V15 = y2 at e2 ⊢
  generalize val_main_v91 (F := Ideal) P V12 = y3 at e3 ⊢
  generalize val_main_v116 (F := Ideal) P V13 = y4 at e4 ⊢
  generalize val_main_v141 (F := Ideal) P = y5 at e5 ⊢
  pointwise []
  by_cases h0 : q.val < 2
  · simp only [h0, ↓reduceDIte, ↓reduceIte, e0]
  by_cases h1 : q.val - 2 < 2
  · simp only [h0, h1, ↓reduceDIte, ↓reduceIte, e1, place 2 (q.val - 2) q (by omega)]
  by_cases h2 : q.val - 2 - 2 < 1
  · simp only [h0, h1, h2, ↓reduceDIte, ↓reduceIte, e2, place 4 (q.val - 2 - 2) q (by omega)]
  by_cases h3 : q.val - 2 - 2 - 1 < 2
  · have p := place 5 (q.val - 2 - 2 - 1) q (by omega)
    by_cases g : d.val < 512
    · simp only [h0, h1, h2, h3, g, ↓reduceDIte, ↓reduceIte, e3, p]
    · simp only [h0, h1, h2, h3, g, ↓reduceDIte, ↓reduceIte, e4, p, place 512 (d.val - 512) d (by omega)]
  · have := q.isLt
    simp only [h0, h1, h2, h3, ↓reduceDIte, ↓reduceIte, e5, place 7 (q.val - 2 - 2 - 1 - 2) q (by omega)]

end Reference

/-! ## One grid point's values -/

theorem ld_part (x : Vec Ideal S8x8x1024 .f32) (o : ℕ) (ho : o < 8)
    (inb : ∀ a, (![o, 0, 0] : Fin 3 → ℕ) a + (![1, 8, 1024] : Fin 3 → ℕ) a ≤ (![8, 8, 1024] : Fin 3 → ℕ) a) (r : Fin 8) (d : Fin 1024) :
    View.ld x (Rect.unit (s := S8x8x1024) ![o, 0, 0] ![1, 8, 1024] inb) (ix3 0 r d) = x (ix3 ⟨o, ho⟩ r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem chain_val (y0 y1 y2 y3 y4 y5 y6 y7 : Vec Ideal S1x8x1024 .f32) (r : Fin 8) (d : Fin 1024) :
    k0_pay2 (F := Ideal) y0 y1 y2 y3 y4 y5 y6 y7 (ix3 0 r d) = (y0 (ix3 0 r d) + y1 (ix3 0 r d) + y2 (ix3 0 r d) + y3 (ix3 0 r d)
      + y4 (ix3 0 r d) + y5 (ix3 0 r d) + y6 (ix3 0 r d) + y7 (ix3 0 r d) : EReal) := by
  pointwise [k0_pay2]

theorem grad_val (x : Vec Ideal S8x8x1024 .f32) (r : Fin 8) (d : Fin 1024) :
    grad (F := Ideal) x (ix3 0 r d) = ∑ k : Fin 8, (x (ix3 k r d) : EReal) := by
  unfold grad
  rw [chain_val]
  rw [ld_part x 0 (by omega), ld_part x 1 (by omega), ld_part x 2 (by omega), ld_part x 3 (by omega), ld_part x 4 (by omega), ld_part x 5 (by omega), ld_part x 6 (by omega), ld_part x 7 (by omega)]
  exact (Fin.sum_univ_eight (fun k : Fin 8 => (x (ix3 k r d) : EReal))).symm

theorem moment_val (g y : Vec Ideal S1x8x1024 .f32) (r : Fin 8) (d : Fin 1024) :
    k0_pay6 (F := Ideal) g y (ix3 0 r d) = m1 (g (ix3 0 r d)) (y (ix3 0 r d)) := by
  pointwise [k0_pay6, k0_pay4, k0_pay3]
  rfl

theorem second_val (g y : Vec Ideal S1x8x1024 .f32) (r : Fin 8) (d : Fin 1024) :
    k0_pay7 (F := Ideal) g y (ix3 0 r d) = v1 (g (ix3 0 r d)) (y (ix3 0 r d)) := by
  pointwise [k0_pay7, k0_pay5, k0_pay3]
  rfl

theorem delta_val (g x1 x2 x3 : Vec Ideal S1x8x1024 .f32) (r : Fin 8) (d : Fin 1024) :
    delta (F := Ideal) g x1 x2 x3 (ix3 0 r d) = step (g (ix3 0 r d)) (x1 (ix3 0 r d)) (x2 (ix3 0 r d)) (x3 (ix3 0 r d)) := by
  pointwise [delta, k0_pay1, k0_pay8, k0_pay9, k0_pay4, k0_pay5, k0_pay3]
  rfl

/-! ## The blocks the point loads: the whole arrays -/

section Loads

variable (m : (ℓ : Loc nD τ sig) → Buf (Elt Ideal) ℓ) (c : Dev nD)

theorem N_eq : cfg0.N = 1 := N_0

theorem win_facts : ∀ t : Fin grid0.N, (win0_0.index t 0 = 0 ∧ win0_0.index t 1 = 0 ∧ win0_0.index t 2 = 0) ∧
    (win0_1.index t 0 = 0 ∧ win0_1.index t 1 = 0 ∧ win0_1.index t 2 = 0) ∧
    (win0_2.index t 0 = 0 ∧ win0_2.index t 1 = 0 ∧ win0_2.index t 2 = 0) ∧
    (win0_3.index t 0 = 0 ∧ win0_3.index t 1 = 0 ∧ win0_3.index t 2 = 0) ∧
    (win0_4.index t 0 = 0 ∧ win0_4.index t 1 = 0 ∧ win0_4.index t 2 = 0) ∧
    (win0_5.index t 0 = 0 ∧ win0_5.index t 1 = 0 ∧ win0_5.index t 2 = 0) ∧
    (win0_6.index t 0 = 0 ∧ win0_6.index t 1 = 0 ∧ win0_6.index t 2 = 0) ∧
    (win0_7.index t 0 = 0 ∧ win0_7.index t 1 = 0 ∧ win0_7.index t 2 = 0) := by
  decide +kernel

/-- The host's packing of five arrays, as rows of one array with a leading axis. -/
def rows8 (y0 y1 : FVec Ideal S2x1024 .f32) (y2 : FVec Ideal S1x1024 .f32) (y3 : FVec Ideal S2x1024 .f32) (y4 : FVec Ideal S1x1024 .f32) :
    FVec Ideal S1x8x1024 .f32 :=
  broadcastInDim S1x8x1024 ![1, 2] bcast_S8x1024_S1x8x1024_1_2
    (concatenate S8x1024 0 [⟨S2x1024, y0⟩, ⟨S2x1024, y1⟩, ⟨S1x1024, y2⟩, ⟨S2x1024, y3⟩, ⟨S1x1024, y4⟩]
      concatenates_S2x1024_S2x1024_S1x1024_S2x1024_S1x1024_S8x1024_d0)

/-- The gain of the last norm as a row. -/
def asRow (f : FVec Ideal S1024 .f32) : FVec Ideal S1x1024 .f32 := broadcastInDim S1x1024 ![1] bcast_S1024_S1x1024_1 f

/-- The two mixers' gains side by side. -/
def beside (a b : FVec Ideal S2x512 .f32) : FVec Ideal S2x1024 .f32 :=
  concatenate S2x1024 1 [⟨S2x512, a⟩, ⟨S2x512, b⟩] concatenates_S2x512_S2x512_S2x1024_d1

/-- The row of zeros. -/
def zeros : FVec Ideal S1x1024 .f32 := broadcastInDim S1x1024 ![] bcast_S_S1x1024 (constant (F := Ideal) S_ .f32 0x00000000#32)

theorem rows8_val (n n' : FVec Ideal S2x1024 .f32) (f : FVec Ideal S1024 .f32) (a b : FVec Ideal S2x512 .f32) (q : Fin 8) (d : Fin 1024) :
    rows8 n n' (asRow f) (beside a b) zeros (ix3 0 q d) = pack n a b n' f q d := by
  unfold pack
  pointwise [rows8, asRow, beside, zeros]

theorem entry_4 : (V m c main_v4 : FVec Ideal S1x8x1024 .f32)
    = rows8 (m (c, Proc.devRef .tc main_arg1)) (m (c, Proc.devRef .tc main_arg4)) (asRow (m (c, Proc.devRef .tc main_arg5))) (beside (m (c, Proc.devRef .tc main_arg2)) (m (c, Proc.devRef .tc main_arg3))) zeros := by
  have r0 : StableHlo.upto (hostOps0 (F := Ideal)) (fun b => m (c, b)) 4 (Proc.devRef .tc main_arg1) = (m (c, Proc.devRef .tc main_arg1)) := by after_reads_simp
  have r1 : StableHlo.upto (hostOps0 (F := Ideal)) (fun b => m (c, b)) 4 (Proc.devRef .tc main_arg4) = (m (c, Proc.devRef .tc main_arg4)) := by after_reads_simp
  have r2 : StableHlo.upto (hostOps0 (F := Ideal)) (fun b => m (c, b)) 4 (Proc.devRef .tc main_v0) = asRow (m (c, Proc.devRef .tc main_arg5)) := by after_reads_simp; rfl
  have r3 : StableHlo.upto (hostOps0 (F := Ideal)) (fun b => m (c, b)) 4 (Proc.devRef .tc main_v1) = beside (m (c, Proc.devRef .tc main_arg2)) (m (c, Proc.devRef .tc main_arg3)) := by after_reads_simp; rfl
  have r4 : StableHlo.upto (hostOps0 (F := Ideal)) (fun b => m (c, b)) 4 (Proc.devRef .tc main_v2) = zeros := by after_reads_simp; rfl
  show StableHlo.after hostOps0 (fun b => m (c, b)) (Proc.devRef .tc main_v4) = _
  after_reads_simp
  show rows8 (StableHlo.upto (hostOps0 (F := Ideal)) (fun b => m (c, b)) 4 (Proc.devRef .tc main_arg1)) (StableHlo.upto (hostOps0 (F := Ideal)) (fun b => m (c, b)) 4 (Proc.devRef .tc main_arg4)) (StableHlo.upto (hostOps0 (F := Ideal)) (fun b => m (c, b)) 4 (Proc.devRef .tc main_v0)) (StableHlo.upto (hostOps0 (F := Ideal)) (fun b => m (c, b)) 4 (Proc.devRef .tc main_v1)) (StableHlo.upto (hostOps0 (F := Ideal)) (fun b => m (c, b)) 4 (Proc.devRef .tc main_v2)) = _
  rw [r0, r1, r2, r3, r4]

theorem entry_9 : (V m c main_v9 : FVec Ideal S1x8x1024 .f32)
    = rows8 (m (c, Proc.devRef .tc main_arg6)) (m (c, Proc.devRef .tc main_arg9)) (asRow (m (c, Proc.devRef .tc main_arg10))) (beside (m (c, Proc.devRef .tc main_arg7)) (m (c, Proc.devRef .tc main_arg8))) zeros := by
  have r0 : StableHlo.upto (hostOps0 (F := Ideal)) (fun b => m (c, b)) 10 (Proc.devRef .tc main_arg6) = (m (c, Proc.devRef .tc main_arg6)) := by after_reads_simp
  have r1 : StableHlo.upto (hostOps0 (F := Ideal)) (fun b => m (c, b)) 10 (Proc.devRef .tc main_arg9) = (m (c, Proc.devRef .tc main_arg9)) := by after_reads_simp
  have r2 : StableHlo.upto (hostOps0 (F := Ideal)) (fun b => m (c, b)) 10 (Proc.devRef .tc main_v5) = asRow (m (c, Proc.devRef .tc main_arg10)) := by after_reads_simp; rfl
  have r3 : StableHlo.upto (hostOps0 (F := Ideal)) (fun b => m (c, b)) 10 (Proc.devRef .tc main_v6) = beside (m (c, Proc.devRef .tc main_arg7)) (m (c, Proc.devRef .tc main_arg8)) := by after_reads_simp; rfl
  have r4 : StableHlo.upto (hostOps0 (F := Ideal)) (fun b => m (c, b)) 10 (Proc.devRef .tc main_v7) = zeros := by after_reads_simp; rfl
  show StableHlo.after hostOps0 (fun b => m (c, b)) (Proc.devRef .tc main_v9) = _
  after_reads_simp
  show rows8 (StableHlo.upto (hostOps0 (F := Ideal)) (fun b => m (c, b)) 10 (Proc.devRef .tc main_arg6)) (StableHlo.upto (hostOps0 (F := Ideal)) (fun b => m (c, b)) 10 (Proc.devRef .tc main_arg9)) (StableHlo.upto (hostOps0 (F := Ideal)) (fun b => m (c, b)) 10 (Proc.devRef .tc main_v5)) (StableHlo.upto (hostOps0 (F := Ideal)) (fun b => m (c, b)) 10 (Proc.devRef .tc main_v6)) (StableHlo.upto (hostOps0 (F := Ideal)) (fun b => m (c, b)) 10 (Proc.devRef .tc main_v7)) = _
  rw [r0, r1, r2, r3, r4]

theorem entry_14 : (V m c main_v14 : FVec Ideal S1x8x1024 .f32)
    = rows8 (m (c, Proc.devRef .tc main_arg11)) (m (c, Proc.devRef .tc main_arg14)) (asRow (m (c, Proc.devRef .tc main_arg15))) (beside (m (c, Proc.devRef .tc main_arg12)) (m (c, Proc.devRef .tc main_arg13))) zeros := by
  have r0 : StableHlo.upto (hostOps0 (F := Ideal)) (fun b => m (c, b)) 16 (Proc.devRef .tc main_arg11) = (m (c, Proc.devRef .tc main_arg11)) := by after_reads_simp
  have r1 : StableHlo.upto (hostOps0 (F := Ideal)) (fun b => m (c, b)) 16 (Proc.devRef .tc main_arg14) = (m (c, Proc.devRef .tc main_arg14)) := by after_reads_simp
  have r2 : StableHlo.upto (hostOps0 (F := Ideal)) (fun b => m (c, b)) 16 (Proc.devRef .tc main_v10) = asRow (m (c, Proc.devRef .tc main_arg15)) := by after_reads_simp; rfl
  have r3 : StableHlo.upto (hostOps0 (F := Ideal)) (fun b => m (c, b)) 16 (Proc.devRef .tc main_v11) = beside (m (c, Proc.devRef .tc main_arg12)) (m (c, Proc.devRef .tc main_arg13)) := by after_reads_simp; rfl
  have r4 : StableHlo.upto (hostOps0 (F := Ideal)) (fun b => m (c, b)) 16 (Proc.devRef .tc main_v12) = zeros := by after_reads_simp; rfl
  show StableHlo.after hostOps0 (fun b => m (c, b)) (Proc.devRef .tc main_v14) = _
  after_reads_simp
  show rows8 (StableHlo.upto (hostOps0 (F := Ideal)) (fun b => m (c, b)) 16 (Proc.devRef .tc main_arg11)) (StableHlo.upto (hostOps0 (F := Ideal)) (fun b => m (c, b)) 16 (Proc.devRef .tc main_arg14)) (StableHlo.upto (hostOps0 (F := Ideal)) (fun b => m (c, b)) 16 (Proc.devRef .tc main_v10)) (StableHlo.upto (hostOps0 (F := Ideal)) (fun b => m (c, b)) 16 (Proc.devRef .tc main_v11)) (StableHlo.upto (hostOps0 (F := Ideal)) (fun b => m (c, b)) 16 (Proc.devRef .tc main_v12)) = _
  rw [r0, r1, r2, r3, r4]

theorem load_0 (t : Fin cfg0.N) (k : Fin 8) (r : Fin 8) (d : Fin 1024) :
    (iblk m c 0 t : Vec Ideal S8x8x1024 .f32) (ix3 k r d) = m (c, Proc.tc.devRef main_arg0) (ix3 k r d) := by
  have e : (iblk m c 0 t : Vec Ideal S8x8x1024 .f32) (ix3 k r d) = (V m c main_arg0 : FVec Ideal S8x8x1024 .f32) (ix3 k r d) := by
    obtain ⟨h0, h1, h2⟩ := (win_facts t).1
    refine congrArg (V m c main_arg0 : FVec Ideal S8x8x1024 .f32) (a₁ := (win0_0.rect t).emb (ix3 k r d)) (funext fun a => Fin.ext ?_)
    rw [win0_0.rect_emb_val]
    fin_cases a
    · show win0_0.index t 0 * 8 + k.val = k.val; omega
    · show win0_0.index t 1 * 8 + r.val = r.val; omega
    · show win0_0.index t 2 * 1024 + d.val = d.val; omega
  rw [e]
  entry_read
  rfl

theorem load_1 (t : Fin cfg0.N) (r : Fin 8) (d : Fin 1024) :
    (iblk m c 1 t : Vec Ideal S1x8x1024 .f32) (ix3 0 r d) = pack (m (c, Proc.tc.devRef main_arg1)) (m (c, Proc.tc.devRef main_arg2)) (m (c, Proc.tc.devRef main_arg3)) (m (c, Proc.tc.devRef main_arg4)) (m (c, Proc.tc.devRef main_arg5)) r d := by
  have e : (iblk m c 1 t : Vec Ideal S1x8x1024 .f32) (ix3 0 r d) = (V m c main_v4 : FVec Ideal S1x8x1024 .f32) (ix3 0 r d) := by
    obtain ⟨h0, h1, h2⟩ := (win_facts t).2.1
    refine congrArg (V m c main_v4 : FVec Ideal S1x8x1024 .f32) (a₁ := (win0_1.rect t).emb (ix3 0 r d)) (funext fun a => Fin.ext ?_)
    rw [win0_1.rect_emb_val]
    fin_cases a
    · show win0_1.index t 0 * 1 + 0 = 0; omega
    · show win0_1.index t 1 * 8 + r.val = r.val; omega
    · show win0_1.index t 2 * 1024 + d.val = d.val; omega
  rw [e, entry_4]
  exact rows8_val _ _ _ _ _ r d

theorem load_2 (t : Fin cfg0.N) (r : Fin 8) (d : Fin 1024) :
    (iblk m c 2 t : Vec Ideal S1x8x1024 .f32) (ix3 0 r d) = pack (m (c, Proc.tc.devRef main_arg6)) (m (c, Proc.tc.devRef main_arg7)) (m (c, Proc.tc.devRef main_arg8)) (m (c, Proc.tc.devRef main_arg9)) (m (c, Proc.tc.devRef main_arg10)) r d := by
  have e : (iblk m c 2 t : Vec Ideal S1x8x1024 .f32) (ix3 0 r d) = (V m c main_v9 : FVec Ideal S1x8x1024 .f32) (ix3 0 r d) := by
    obtain ⟨h0, h1, h2⟩ := (win_facts t).2.2.1
    refine congrArg (V m c main_v9 : FVec Ideal S1x8x1024 .f32) (a₁ := (win0_2.rect t).emb (ix3 0 r d)) (funext fun a => Fin.ext ?_)
    rw [win0_2.rect_emb_val]
    fin_cases a
    · show win0_2.index t 0 * 1 + 0 = 0; omega
    · show win0_2.index t 1 * 8 + r.val = r.val; omega
    · show win0_2.index t 2 * 1024 + d.val = d.val; omega
  rw [e, entry_9]
  exact rows8_val _ _ _ _ _ r d

theorem load_3 (t : Fin cfg0.N) (r : Fin 8) (d : Fin 1024) :
    (iblk m c 3 t : Vec Ideal S1x8x1024 .f32) (ix3 0 r d) = pack (m (c, Proc.tc.devRef main_arg11)) (m (c, Proc.tc.devRef main_arg12)) (m (c, Proc.tc.devRef main_arg13)) (m (c, Proc.tc.devRef main_arg14)) (m (c, Proc.tc.devRef main_arg15)) r d := by
  have e : (iblk m c 3 t : Vec Ideal S1x8x1024 .f32) (ix3 0 r d) = (V m c main_v14 : FVec Ideal S1x8x1024 .f32) (ix3 0 r d) := by
    obtain ⟨h0, h1, h2⟩ := (win_facts t).2.2.2.1
    refine congrArg (V m c main_v14 : FVec Ideal S1x8x1024 .f32) (a₁ := (win0_3.rect t).emb (ix3 0 r d)) (funext fun a => Fin.ext ?_)
    rw [win0_3.rect_emb_val]
    fin_cases a
    · show win0_3.index t 0 * 1 + 0 = 0; omega
    · show win0_3.index t 1 * 8 + r.val = r.val; omega
    · show win0_3.index t 2 * 1024 + d.val = d.val; omega
  rw [e, entry_14]
  exact rows8_val _ _ _ _ _ r d

/-- The gradient, of the parts in memory. -/
def gOf (q : Fin 8) (d : Fin 1024) : EReal := total (m (c, Proc.tc.devRef main_arg0)) q d

theorem point_val (t : Fin cfg0.N) (r : Fin 8) (d : Fin 1024) : grad (F := Ideal) (iblk m c 0 t) (ix3 0 r d) = gOf m c r d := by
  rw [grad_val]
  unfold gOf total
  exact Finset.sum_congr rfl fun k _ => load_0 m c t k r d

/-! ## The result arrays -/

/-- The only point. -/
def pt : Fin cfg0.N := ⟨0, by have := N_eq; omega⟩

theorem emb4 (t : Fin cfg0.N) (r : Fin 8) (d : Fin 1024) : ((cfg0.win 4).blk t).view.emb (ix3 0 r d) = ix3 0 r d := by
  obtain ⟨h0, h1, h2⟩ := (win_facts t).2.2.2.2.1
  refine funext fun a => Fin.ext ?_
  refine (win0_4.rect_emb_val t (ix3 0 r d) a).trans ?_
  fin_cases a
  · show win0_4.index t 0 * 1 + 0 = 0; omega
  · show win0_4.index t 1 * 8 + r.val = r.val; omega
  · show win0_4.index t 2 * 1024 + d.val = d.val; omega

theorem cut4_val (t : Fin cfg0.N) (X : Vec Ideal S1x8x1024 .f32) (r : Fin 8) (d : Fin 1024) :
    (cfg0.win 4).cut (grid0.coords t) X (ix3 0 r d) = X (ix3 0 r d) :=
  congrArg X (funext fun a => Fin.ext rfl)

theorem flushed4_val (t : Fin cfg0.N) (r : Fin 8) (d : Fin 1024) : ((dats m 0 c).flushed 4 t : Vec Ideal S1x8x1024 .f32) (ix3 0 r d)
    = gOf m c r d := by
  rw [Value.flushed4_A m c t, out_A_4]
  refine (cut4_val t _ r d).trans ?_
  exact point_val m c t r d

theorem kernel_4 (q : Fin 8) (d : Fin 1024) : ((dats m 0 c).arrAt 4 cfg0.N : FVec Ideal S1x8x1024 .f32) (ix3 0 q d)
    = gOf m c q d := by
  have h := (dats m 0 c).arrAt_emb_eq_flushed 4 Value.disjoint4 pt (flush0_4 _) (ix3 0 q d)
  rw [emb4] at h
  exact h.trans (flushed4_val m c _ _ d)

theorem emb5 (t : Fin cfg0.N) (r : Fin 8) (d : Fin 1024) : ((cfg0.win 5).blk t).view.emb (ix3 0 r d) = ix3 0 r d := by
  obtain ⟨h0, h1, h2⟩ := (win_facts t).2.2.2.2.2.1
  refine funext fun a => Fin.ext ?_
  refine (win0_5.rect_emb_val t (ix3 0 r d) a).trans ?_
  fin_cases a
  · show win0_5.index t 0 * 1 + 0 = 0; omega
  · show win0_5.index t 1 * 8 + r.val = r.val; omega
  · show win0_5.index t 2 * 1024 + d.val = d.val; omega

theorem cut5_val (t : Fin cfg0.N) (X : Vec Ideal S1x8x1024 .f32) (r : Fin 8) (d : Fin 1024) :
    (cfg0.win 5).cut (grid0.coords t) X (ix3 0 r d) = X (ix3 0 r d) :=
  congrArg X (funext fun a => Fin.ext rfl)

theorem flushed5_val (t : Fin cfg0.N) (r : Fin 8) (d : Fin 1024) : ((dats m 0 c).flushed 5 t : Vec Ideal S1x8x1024 .f32) (ix3 0 r d)
    = step (gOf m c r d) (pack (m (c, Proc.tc.devRef main_arg1)) (m (c, Proc.tc.devRef main_arg2)) (m (c, Proc.tc.devRef main_arg3)) (m (c, Proc.tc.devRef main_arg4)) (m (c, Proc.tc.devRef main_arg5)) r d) (pack (m (c, Proc.tc.devRef main_arg6)) (m (c, Proc.tc.devRef main_arg7)) (m (c, Proc.tc.devRef main_arg8)) (m (c, Proc.tc.devRef main_arg9)) (m (c, Proc.tc.devRef main_arg10)) r d) (pack (m (c, Proc.tc.devRef main_arg11)) (m (c, Proc.tc.devRef main_arg12)) (m (c, Proc.tc.devRef main_arg13)) (m (c, Proc.tc.devRef main_arg14)) (m (c, Proc.tc.devRef main_arg15)) r d) := by
  rw [Value.flushed5_A m c t, out_A_5]
  refine (cut5_val t _ r d).trans ?_
  rw [delta_val, point_val m c t, load_1 m c t, load_2 m c t, load_3 m c t]

theorem kernel_5 (q : Fin 8) (d : Fin 1024) : ((dats m 0 c).arrAt 5 cfg0.N : FVec Ideal S1x8x1024 .f32) (ix3 0 q d)
    = step (gOf m c q d) (pack (m (c, Proc.tc.devRef main_arg1)) (m (c, Proc.tc.devRef main_arg2)) (m (c, Proc.tc.devRef main_arg3)) (m (c, Proc.tc.devRef main_arg4)) (m (c, Proc.tc.devRef main_arg5)) q d) (pack (m (c, Proc.tc.devRef main_arg6)) (m (c, Proc.tc.devRef main_arg7)) (m (c, Proc.tc.devRef main_arg8)) (m (c, Proc.tc.devRef main_arg9)) (m (c, Proc.tc.devRef main_arg10)) q d) (pack (m (c, Proc.tc.devRef main_arg11)) (m (c, Proc.tc.devRef main_arg12)) (m (c, Proc.tc.devRef main_arg13)) (m (c, Proc.tc.devRef main_arg14)) (m (c, Proc.tc.devRef main_arg15)) q d) := by
  have h := (dats m 0 c).arrAt_emb_eq_flushed 5 Value.disjoint5 pt (flush0_5 _) (ix3 0 q d)
  rw [emb5] at h
  exact h.trans (flushed5_val m c _ _ d)

theorem emb6 (t : Fin cfg0.N) (r : Fin 8) (d : Fin 1024) : ((cfg0.win 6).blk t).view.emb (ix3 0 r d) = ix3 0 r d := by
  obtain ⟨h0, h1, h2⟩ := (win_facts t).2.2.2.2.2.2.1
  refine funext fun a => Fin.ext ?_
  refine (win0_6.rect_emb_val t (ix3 0 r d) a).trans ?_
  fin_cases a
  · show win0_6.index t 0 * 1 + 0 = 0; omega
  · show win0_6.index t 1 * 8 + r.val = r.val; omega
  · show win0_6.index t 2 * 1024 + d.val = d.val; omega

theorem cut6_val (t : Fin cfg0.N) (X : Vec Ideal S1x8x1024 .f32) (r : Fin 8) (d : Fin 1024) :
    (cfg0.win 6).cut (grid0.coords t) X (ix3 0 r d) = X (ix3 0 r d) :=
  congrArg X (funext fun a => Fin.ext rfl)

theorem flushed6_val (t : Fin cfg0.N) (r : Fin 8) (d : Fin 1024) : ((dats m 0 c).flushed 6 t : Vec Ideal S1x8x1024 .f32) (ix3 0 r d)
    = m1 (gOf m c r d) (pack (m (c, Proc.tc.devRef main_arg6)) (m (c, Proc.tc.devRef main_arg7)) (m (c, Proc.tc.devRef main_arg8)) (m (c, Proc.tc.devRef main_arg9)) (m (c, Proc.tc.devRef main_arg10)) r d) := by
  rw [Value.flushed6_A m c t, out_A_6]
  refine (cut6_val t _ r d).trans ?_
  rw [moment_val, point_val m c t, load_2 m c t]

theorem kernel_6 (q : Fin 8) (d : Fin 1024) : ((dats m 0 c).arrAt 6 cfg0.N : FVec Ideal S1x8x1024 .f32) (ix3 0 q d)
    = m1 (gOf m c q d) (pack (m (c, Proc.tc.devRef main_arg6)) (m (c, Proc.tc.devRef main_arg7)) (m (c, Proc.tc.devRef main_arg8)) (m (c, Proc.tc.devRef main_arg9)) (m (c, Proc.tc.devRef main_arg10)) q d) := by
  have h := (dats m 0 c).arrAt_emb_eq_flushed 6 Value.disjoint6 pt (flush0_6 _) (ix3 0 q d)
  rw [emb6] at h
  exact h.trans (flushed6_val m c _ _ d)

theorem emb7 (t : Fin cfg0.N) (r : Fin 8) (d : Fin 1024) : ((cfg0.win 7).blk t).view.emb (ix3 0 r d) = ix3 0 r d := by
  obtain ⟨h0, h1, h2⟩ := (win_facts t).2.2.2.2.2.2.2
  refine funext fun a => Fin.ext ?_
  refine (win0_7.rect_emb_val t (ix3 0 r d) a).trans ?_
  fin_cases a
  · show win0_7.index t 0 * 1 + 0 = 0; omega
  · show win0_7.index t 1 * 8 + r.val = r.val; omega
  · show win0_7.index t 2 * 1024 + d.val = d.val; omega

theorem cut7_val (t : Fin cfg0.N) (X : Vec Ideal S1x8x1024 .f32) (r : Fin 8) (d : Fin 1024) :
    (cfg0.win 7).cut (grid0.coords t) X (ix3 0 r d) = X (ix3 0 r d) :=
  congrArg X (funext fun a => Fin.ext rfl)

theorem flushed7_val (t : Fin cfg0.N) (r : Fin 8) (d : Fin 1024) : ((dats m 0 c).flushed 7 t : Vec Ideal S1x8x1024 .f32) (ix3 0 r d)
    = v1 (gOf m c r d) (pack (m (c, Proc.tc.devRef main_arg11)) (m (c, Proc.tc.devRef main_arg12)) (m (c, Proc.tc.devRef main_arg13)) (m (c, Proc.tc.devRef main_arg14)) (m (c, Proc.tc.devRef main_arg15)) r d) := by
  rw [Value.flushed7_A m c t, out_A_7]
  refine (cut7_val t _ r d).trans ?_
  rw [second_val, point_val m c t, load_3 m c t]

theorem kernel_7 (q : Fin 8) (d : Fin 1024) : ((dats m 0 c).arrAt 7 cfg0.N : FVec Ideal S1x8x1024 .f32) (ix3 0 q d)
    = v1 (gOf m c q d) (pack (m (c, Proc.tc.devRef main_arg11)) (m (c, Proc.tc.devRef main_arg12)) (m (c, Proc.tc.devRef main_arg13)) (m (c, Proc.tc.devRef main_arg14)) (m (c, Proc.tc.devRef main_arg15)) q d) := by
  have h := (dats m 0 c).arrAt_emb_eq_flushed 7 Value.disjoint7 pt (flush0_7 _) (ix3 0 q d)
  rw [emb7] at h
  exact h.trans (flushed7_val m c _ _ d)

end Loads

theorem at_ix (i : (⟨3, ![1, 8, 1024]⟩ : Shape).Idx) :
    ∃ (q : Fin 8) (d : Fin 1024), i = ix3 0 q d :=
  ⟨i 1, i 2, (eq_ix3 i).trans (congrArg (fun z : Fin 1 => ix3 z (i 1) (i 2)) (Subsingleton.elim (α := Fin 1) (i 0) 0))⟩

end Cert.AdamWGains

end
-- ==== Proof.FfnLast.lean ====
/-
  The last layer's feed-forward call: the same block as `FfnFwd.lean` describes, with no norm behind it. The reference's results are the
  same functions of the arguments, a tile's functions are those of `FfnFwdTile.lean`, and only the loads, the stores and the places of
  the three results are read here. The gain of a next norm, which this call does not have, is set to zero.
-/
module

public import proofs.«01_k».proof.Proof.FfnFwdKernel
public import proofs.«01_k».proof.Proof.Gen.Kernel20Ideal.Value
public import proofs.«01_k».proof.Proof.Gen.Reference20Ideal.Read

@[expose] public section

noncomputable section

namespace Cert.FfnLast

open Idealize.ShloMosaic Idealize.ShloMosaic.TcCoe
open Cert.FfnBwd (tok seqOf posOf chan sub slab layer ld_slab ld_layer row rowB prevWord prevWord_val)
open Cert.FfnFwd (Args Tile Holds own act_val out_val own_val piece_act piece_pre)

/-! ## The reference -/

section Reference

variable (A : Args)

theorem ref_out (q : Fin 4096) (d : Fin 1024) :
    Cert.Reference20Ideal.Read.val_main_v31 (F := Ideal) A.h A.up A.taps A.down A.x (ix2 q d) = A.out q d :=
  Cert.FfnFwd.ref_out A q d

theorem ref_act_block (p : Fin 4) (q : Fin 4096) (n : Fin 704) :
    Cert.Reference20Ideal.Read.val_main_v34 (F := Ideal) A.h A.up A.taps (ix3 p q n) = A.act (sub p n) q :=
  Cert.FfnFwd.ref_act_block A p q n

theorem ref_pre_block (g : Fin 2) (p : Fin 4) (q : Fin 4096) (n : Fin 704) :
    Cert.Reference20Ideal.Read.val_main_v37 (F := Ideal) A.h A.up (ix4 g p q n) = A.pre (chan g (sub p n)) q :=
  Cert.FfnFwd.ref_pre_block A g p q n

end Reference

open Cert.Kernel20Ideal Cert.Kernel20Ideal.Gen

variable {F : FTy → Type} [FloatOps F]

/-! ## The loads of one chunk -/

theorem ld_up0 (X : Vec F S8x704x1024 .bf16) : View.ld X r0_2 = layer X 0 := ld_layer X 0 _

theorem ld_up1 (X : Vec F S8x704x1024 .bf16) : View.ld X r0_10 = layer X 1 := ld_layer X 1 _

theorem ld_up2 (X : Vec F S8x704x1024 .bf16) : View.ld X r0_18 = layer X 2 := ld_layer X 2 _

theorem ld_up3 (X : Vec F S8x704x1024 .bf16) : View.ld X r0_26 = layer X 3 := ld_layer X 3 _

theorem ld_up4 (X : Vec F S8x704x1024 .bf16) : View.ld X r0_5 = layer X 4 := ld_layer X 4 _

theorem ld_up5 (X : Vec F S8x704x1024 .bf16) : View.ld X r0_13 = layer X 5 := ld_layer X 5 _

theorem ld_up6 (X : Vec F S8x704x1024 .bf16) : View.ld X r0_21 = layer X 6 := ld_layer X 6 _

theorem ld_up7 (X : Vec F S8x704x1024 .bf16) : View.ld X r0_29 = layer X 7 := ld_layer X 7 _

theorem ld_taps0 (X : Vec F S2x4x3x704 .f32) : View.ld X r0_4 = slab X 0 0 := ld_slab X 0 0 _

theorem ld_taps1 (X : Vec F S2x4x3x704 .f32) : View.ld X r0_12 = slab X 0 1 := ld_slab X 0 1 _

theorem ld_taps2 (X : Vec F S2x4x3x704 .f32) : View.ld X r0_20 = slab X 0 2 := ld_slab X 0 2 _

theorem ld_taps3 (X : Vec F S2x4x3x704 .f32) : View.ld X r0_28 = slab X 0 3 := ld_slab X 0 3 _

theorem ld_taps4 (X : Vec F S2x4x3x704 .f32) : View.ld X r0_7 = slab X 1 0 := ld_slab X 1 0 _

theorem ld_taps5 (X : Vec F S2x4x3x704 .f32) : View.ld X r0_15 = slab X 1 1 := ld_slab X 1 1 _

theorem ld_taps6 (X : Vec F S2x4x3x704 .f32) : View.ld X r0_23 = slab X 1 2 := ld_slab X 1 2 _

theorem ld_taps7 (X : Vec F S2x4x3x704 .f32) : View.ld X r0_31 = slab X 1 3 := ld_slab X 1 3 _

theorem ld_down0 (X : Vec F S4x704x1024 .bf16) : View.ld X r0_9 = layer X 0 := ld_layer X 0 _

theorem ld_down1 (X : Vec F S4x704x1024 .bf16) : View.ld X r0_17 = layer X 1 := ld_layer X 1 _

theorem ld_down2 (X : Vec F S4x704x1024 .bf16) : View.ld X r0_25 = layer X 2 := ld_layer X 2 _

theorem ld_down3 (X : Vec F S4x704x1024 .bf16) : View.ld X r0_33 = layer X 3 := ld_layer X 3 _

/-! ## The stored blocks -/

section Stores

variable (i : grid0.Coords) (x0 : Vec F S256x1024 .bf16) (x1 : Vec F S16x1024 .bf16) (x2 : Vec F S8x704x1024 .bf16)
  (x3 : Vec F S2x4x3x704 .f32) (x4 : Vec F S4x704x1024 .bf16) (x5 : Vec F S256x1024 .f32) (z : Vec F Cert.Kernel4Ideal.S1x1024 .f32)

theorem out_6 : out0_6 i x0 x1 x2 x3 x4 x5 = (Tile.mk i x0 x1 x2 x3 x4 x5 z).out := by
  unfold_out out0_6
  rw [View.canon_unit_zero Cert.FfnBwd.hz2]
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2]
  rfl

theorem out_7 : out0_7 i x0 x1 x2 x3 x4 x5 = (Tile.mk i x0 x1 x2 x3 x4 x5 z).actBlock := by
  unfold_out out0_7
  funext y
  refine View.canon_apply_of_pieces ((Tile.mk i x0 x1 x2 x3 x4 x5 z).actBlock) _ ?_ y (cover0_7 _ _ _ _ y)
  clear y
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2, List.forall_mem_cons]
  exact ⟨piece_act _ 3 _ (by omega) _ shapeCasts_S256x704_S1x256x704 rfl, piece_act _ 2 _ (by omega) _ shapeCasts_S256x704_S1x256x704 rfl,
    piece_act _ 1 _ (by omega) _ shapeCasts_S256x704_S1x256x704 rfl, piece_act _ 0 _ (by omega) _ shapeCasts_S256x704_S1x256x704 rfl,
    fun _ h => absurd h List.not_mem_nil⟩

theorem out_8 : out0_8 i x0 x1 x2 x3 x4 x5 = (Tile.mk i x0 x1 x2 x3 x4 x5 z).preBlock := by
  unfold_out out0_8
  funext y
  refine View.canon_apply_of_pieces ((Tile.mk i x0 x1 x2 x3 x4 x5 z).preBlock) _ ?_ y (cover0_8 _ _ _ _ _ _ _ _ y)
  clear y
  simp only [ld_up0, ld_up1, ld_up2, ld_up3, ld_up4, ld_up5, ld_up6, ld_up7, ld_taps0, ld_taps1,
    ld_taps2, ld_taps3, ld_taps4, ld_taps5, ld_taps6, ld_taps7, ld_down0, ld_down1, ld_down2, ld_down3, View.ld_unit_zero (S := S16x1024) Cert.FfnBwd.hz2, View.ld_unit_zero (S := S256x1024) Cert.FfnBwd.hz2, List.forall_mem_cons]
  exact ⟨piece_pre _ 1 3 _ (by omega) (by omega) _ shapeCasts_S256x704_S1x1x256x704 rfl,
    piece_pre _ 0 3 _ (by omega) (by omega) _ shapeCasts_S256x704_S1x1x256x704 rfl,
    piece_pre _ 1 2 _ (by omega) (by omega) _ shapeCasts_S256x704_S1x1x256x704 rfl,
    piece_pre _ 0 2 _ (by omega) (by omega) _ shapeCasts_S256x704_S1x1x256x704 rfl,
    piece_pre _ 1 1 _ (by omega) (by omega) _ shapeCasts_S256x704_S1x1x256x704 rfl,
    piece_pre _ 0 1 _ (by omega) (by omega) _ shapeCasts_S256x704_S1x1x256x704 rfl,
    piece_pre _ 1 0 _ (by omega) (by omega) _ shapeCasts_S256x704_S1x1x256x704 rfl,
    piece_pre _ 0 0 _ (by omega) (by omega) _ shapeCasts_S256x704_S1x1x256x704 rfl,
    fun _ h => absurd h List.not_mem_nil⟩

end Stores

/-! ## The launch -/

section Launch

open Idealize.ShloMosaic.Pipeline (Dat)

variable (m : (ℓ : Loc nD τ sig) → Buf (Elt Ideal) ℓ) (c : Dev nD)

/-- The launched arguments. -/
abbrev argsOf : Args :=
  ⟨m (c, Proc.tc.devRef main_arg0), m (c, Proc.tc.devRef main_arg1), m (c, Proc.tc.devRef main_arg2), m (c, Proc.tc.devRef main_arg3),
    m (c, Proc.tc.devRef main_arg4), fun _ => 0⟩

theorem N_eq : cfg0.N = 16 := N_0

/-- A grid point's tile. -/
def num (t : Fin cfg0.N) : Fin 16 := ⟨t.val, lt_of_lt_of_eq t.isLt N_eq⟩

theorem win_rows : ∀ t : Fin grid0.N, (win0_0.index t 0 = t.val ∧ win0_0.index t 1 = 0) ∧
    (win0_1.index t 0 = 16 * t.val - 1 ∧ win0_1.index t 1 = 0) ∧ (win0_5.index t 0 = t.val ∧ win0_5.index t 1 = 0) := by
  decide +kernel

theorem win_whole : ∀ t : Fin grid0.N, (∀ a, win0_2.index t a = 0) ∧ (∀ a, win0_3.index t a = 0) ∧ (∀ a, win0_4.index t a = 0) := by
  decide +kernel

theorem win_out : ∀ t : Fin grid0.N, (win0_6.index t 0 = t.val ∧ win0_6.index t 1 = 0) ∧
    (win0_7.index t 0 = 0 ∧ win0_7.index t 1 = t.val ∧ win0_7.index t 2 = 0) ∧
    (win0_8.index t 0 = 0 ∧ win0_8.index t 1 = 0 ∧ win0_8.index t 2 = t.val ∧ win0_8.index t 3 = 0) := by
  decide +kernel

theorem load_0 (t : Fin cfg0.N) (r : Fin 256) (d : Fin 1024) : (iblk m c 0 t : Vec Ideal S256x1024 .bf16) (ix2 r d)
    = m (c, Proc.tc.devRef main_arg0) (ix3 (seqOf (row (num t) r)) (posOf (row (num t) r)) d) := by
  have e : (iblk m c 0 t : Vec Ideal S256x1024 .bf16) (ix2 r d) = (V m c main_v9 : FVec Ideal S4096x1024 .bf16) (ix2 (row (num t) r) d) := by
    obtain ⟨h0, h1⟩ := (win_rows t).1
    refine congrArg (V m c main_v9 : FVec Ideal S4096x1024 .bf16) (a₁ := (win0_0.rect t).emb (ix2 r d)) (funext fun a => Fin.ext ?_)
    rw [win0_0.rect_emb_val]
    fin_cases a
    · show win0_0.index t 0 * 256 + r.val = 256 * t.val + r.val; omega
    · show win0_0.index t 1 * 1024 + d.val = d.val; omega
  rw [e]
  generalize row (num t) r = q
  entry_read
  pointwise []
  rfl

theorem load_1 (t : Fin cfg0.N) (r : Fin 16) (d : Fin 1024) : (iblk m c 1 t : Vec Ideal S16x1024 .bf16) (ix2 r d)
    = m (c, Proc.tc.devRef main_arg0) (ix3 (seqOf (rowB (num t) r)) (posOf (rowB (num t) r)) d) := by
  have e : (iblk m c 1 t : Vec Ideal S16x1024 .bf16) (ix2 r d) = (V m c main_v9 : FVec Ideal S4096x1024 .bf16) (ix2 (rowB (num t) r) d) := by
    obtain ⟨h0, h1⟩ := (win_rows t).2.1
    refine congrArg (V m c main_v9 : FVec Ideal S4096x1024 .bf16) (a₁ := (win0_1.rect t).emb (ix2 r d)) (funext fun a => Fin.ext ?_)
    rw [win0_1.rect_emb_val]
    fin_cases a
    · show win0_1.index t 0 * 16 + r.val = 16 * (16 * t.val - 1) + r.val; omega
    · show win0_1.index t 1 * 1024 + d.val = d.val; omega
  rw [e]
  generalize rowB (num t) r = q
  entry_read
  pointwise []
  rfl

theorem load_2 (t : Fin cfg0.N) (g : Fin 2) (p : Fin 4) (n : Fin 704) (d : Fin 1024) :
    (iblk m c 2 t : Vec Ideal S8x704x1024 .bf16) (ix3 ⟨4 * g.val + p.val, by omega⟩ n d) = m (c, Proc.tc.devRef main_arg1) (ix2 d (chan g (sub p n))) := by
  have e : (iblk m c 2 t : Vec Ideal S8x704x1024 .bf16) (ix3 ⟨4 * g.val + p.val, by omega⟩ n d)
      = (V m c main_v2 : FVec Ideal S8x704x1024 .bf16) (ix3 ⟨4 * g.val + p.val, by omega⟩ n d) := by
    have hz := (win_whole t).1
    refine congrArg (V m c main_v2 : FVec Ideal S8x704x1024 .bf16) (a₁ := (win0_2.rect t).emb (ix3 ⟨4 * g.val + p.val, by omega⟩ n d))
      (funext fun a => Fin.ext ?_)
    rw [win0_2.rect_emb_val]
    fin_cases a
    · have := hz 0; show win0_2.index t 0 * 8 + (4 * g.val + p.val) = 4 * g.val + p.val; omega
    · have := hz 1; show win0_2.index t 1 * 704 + n.val = n.val; omega
    · have := hz 2; show win0_2.index t 2 * 1024 + d.val = d.val; omega
  rw [e]
  entry_read
  pointwise []
  exact congrArg (fun j => m (c, Proc.tc.devRef main_arg1) (ix2 d j)) (Fin.ext (by simp only [chan, sub]; omega))

theorem load_3 (t : Fin cfg0.N) (g : Fin 2) (p : Fin 4) (k : Fin 3) (n : Fin 704) :
    (iblk m c 3 t : Vec Ideal S2x4x3x704 .f32) (ix4 g p k n) = m (c, Proc.tc.devRef main_arg2) (ix2 k (chan g (sub p n))) := by
  have e : (iblk m c 3 t : Vec Ideal S2x4x3x704 .f32) (ix4 g p k n) = (V m c main_v7 : FVec Ideal S2x4x3x704 .f32) (ix4 g p k n) := by
    have hz := (win_whole t).2.1
    refine congrArg (V m c main_v7 : FVec Ideal S2x4x3x704 .f32) (a₁ := (win0_3.rect t).emb (ix4 g p k n)) (funext fun a => Fin.ext ?_)
    rw [win0_3.rect_emb_val]
    fin_cases a
    · have := hz 0; show win0_3.index t 0 * 2 + g.val = g.val; omega
    · have := hz 1; show win0_3.index t 1 * 4 + p.val = p.val; omega
    · have := hz 2; show win0_3.index t 2 * 3 + k.val = k.val; omega
    · have := hz 3; show win0_3.index t 3 * 704 + n.val = n.val; omega
  rw [e]
  entry_read
  pointwise []
  exact congrArg (fun j => m (c, Proc.tc.devRef main_arg2) (ix2 k j)) (Fin.ext (by simp only [chan, sub]; omega))

theorem load_4 (t : Fin cfg0.N) (p : Fin 4) (n : Fin 704) (d : Fin 1024) :
    (iblk m c 4 t : Vec Ideal S4x704x1024 .bf16) (ix3 p n d) = m (c, Proc.tc.devRef main_arg3) (ix2 (sub p n) d) := by
  have e : (iblk m c 4 t : Vec Ideal S4x704x1024 .bf16) (ix3 p n d) = (V m c main_v4 : FVec Ideal S4x704x1024 .bf16) (ix3 p n d) := by
    have hz := (win_whole t).2.2
    refine congrArg (V m c main_v4 : FVec Ideal S4x704x1024 .bf16) (a₁ := (win0_4.rect t).emb (ix3 p n d)) (funext fun a => Fin.ext ?_)
    rw [win0_4.rect_emb_val]
    fin_cases a
    · have := hz 0; show win0_4.index t 0 * 4 + p.val = p.val; omega
    · have := hz 1; show win0_4.index t 1 * 704 + n.val = n.val; omega
    · have := hz 2; show win0_4.index t 2 * 1024 + d.val = d.val; omega
  rw [e]
  entry_read
  pointwise []
  rfl

theorem load_5 (t : Fin cfg0.N) (r : Fin 256) (d : Fin 1024) : (iblk m c 5 t : Vec Ideal S256x1024 .f32) (ix2 r d)
    = m (c, Proc.tc.devRef main_arg4) (ix3 (seqOf (row (num t) r)) (posOf (row (num t) r)) d) := by
  have e : (iblk m c 5 t : Vec Ideal S256x1024 .f32) (ix2 r d) = (V m c main_v10 : FVec Ideal S4096x1024 .f32) (ix2 (row (num t) r) d) := by
    obtain ⟨h0, h1⟩ := (win_rows t).2.2
    refine congrArg (V m c main_v10 : FVec Ideal S4096x1024 .f32) (a₁ := (win0_5.rect t).emb (ix2 r d)) (funext fun a => Fin.ext ?_)
    rw [win0_5.rect_emb_val]
    fin_cases a
    · show win0_5.index t 0 * 256 + r.val = 256 * t.val + r.val; omega
    · show win0_5.index t 1 * 1024 + d.val = d.val; omega
  rw [e]
  generalize row (num t) r = q
  entry_read
  pointwise []
  rfl

/-- The edge column, the same as that of the call with a norm. -/
theorem edge_val (t : Fin cfg0.N) (r : Fin 264) :
    Cert.Kernel4Ideal.Gen.k0_pay5 (F := Ideal) (grid0.coords t) (ix2 r 0) = if r.val < 8 ∧ (num t).val % 8 = 0 then 0 else 1 :=
  Cert.FfnFwd.edge_val t r

/-- A grid point's tile of the launch. -/
abbrev tile (t : Fin cfg0.N) : Tile Ideal :=
  ⟨grid0.coords t, iblk m c 0 t, iblk m c 1 t, iblk m c 2 t, iblk m c 3 t, iblk m c 4 t, iblk m c 5 t, fun _ => 0⟩

theorem holds (t : Fin cfg0.N) : Holds (tile m c t) (argsOf m c) (num t) :=
  ⟨edge_val t, load_0 m c t, load_1 m c t, load_2 m c t, load_3 m c t, load_4 m c t, load_5 m c t, fun _ => rfl⟩

/-- The point that owns a token. -/
def ptOf (q : Fin 4096) : Fin cfg0.N := ⟨q.val / 256, by rw [N_eq]; omega⟩

/-- A token's row in its point's block. -/
def rowOf (q : Fin 4096) : Fin 256 := ⟨q.val % 256, by omega⟩

theorem row_at (q : Fin 4096) : row (num (ptOf q)) (rowOf q) = q :=
  Fin.ext (by show 256 * (q.val / 256) + q.val % 256 = q.val; omega)

theorem at_row (q : Fin 4096) : 256 * (ptOf q).val + (rowOf q).val = q.val := by
  show 256 * (q.val / 256) + q.val % 256 = q.val; omega

theorem emb6 (q : Fin 4096) (d : Fin 1024) : ((cfg0.win 6).blk (ptOf q)).view.emb (ix2 (rowOf q) d) = ix2 q d := by
  obtain ⟨h0, h1⟩ := (win_out (ptOf q)).1
  have hq := at_row q
  refine funext fun a => Fin.ext ?_
  refine (win0_6.rect_emb_val (ptOf q) (ix2 (rowOf q) d) a).trans ?_
  fin_cases a
  · show win0_6.index (ptOf q) 0 * 256 + (rowOf q).val = q.val; omega
  · show win0_6.index (ptOf q) 1 * 1024 + d.val = d.val; omega

theorem cut6 (t : Fin cfg0.N) (X : Vec Ideal S256x1024 .f32) (r : Fin 256) (d : Fin 1024) :
    (cfg0.win 6).cut (grid0.coords t) X (ix2 r d) = X (ix2 r d) :=
  congrArg X (funext fun a => Fin.ext rfl)

theorem flushed6_val (t : Fin cfg0.N) (r : Fin 256) (d : Fin 1024) :
    ((dats m 0 c).flushed 6 t : Vec Ideal S256x1024 .f32) (ix2 r d) = (argsOf m c).out (row (num t) r) d := by
  rw [Value.flushed6, out_6]
  exact (cut6 t (tile m c t).out r d).trans (out_val (holds m c t) r d)

theorem kernel_6 (q : Fin 4096) (d : Fin 1024) :
    ((dats m 0 c).arrAt 6 cfg0.N : FVec Ideal S4096x1024 .f32) (ix2 q d) = (argsOf m c).out q d := by
  have h := (dats m 0 c).arrAt_emb_eq_flushed 6 Value.disjoint6 (ptOf q) (flush0_6 _) (ix2 (rowOf q) d)
  rw [emb6] at h
  refine h.trans ((flushed6_val m c (ptOf q) (rowOf q) d).trans ?_)
  rw [row_at]

theorem emb7 (p : Fin 4) (q : Fin 4096) (n : Fin 704) : ((cfg0.win 7).blk (ptOf q)).view.emb (ix3 p (rowOf q) n) = ix3 p q n := by
  obtain ⟨h0, h1, h2⟩ := (win_out (ptOf q)).2.1
  have hq := at_row q
  refine funext fun a => Fin.ext ?_
  refine (win0_7.rect_emb_val (ptOf q) (ix3 p (rowOf q) n) a).trans ?_
  fin_cases a
  · show win0_7.index (ptOf q) 0 * 4 + p.val = p.val; omega
  · show win0_7.index (ptOf q) 1 * 256 + (rowOf q).val = q.val; omega
  · show win0_7.index (ptOf q) 2 * 704 + n.val = n.val; omega

theorem cut7 (t : Fin cfg0.N) (X : Vec Ideal S4x256x704 .bf16) (p : Fin 4) (r : Fin 256) (n : Fin 704) :
    (cfg0.win 7).cut (grid0.coords t) X (ix3 p r n) = X (ix3 p r n) :=
  congrArg X (funext fun a => Fin.ext rfl)

theorem flushed7_val (t : Fin cfg0.N) (p : Fin 4) (r : Fin 256) (n : Fin 704) :
    ((dats m 0 c).flushed 7 t : Vec Ideal S4x256x704 .bf16) (ix3 p r n) = (argsOf m c).act (sub p n) (row (num t) r) := by
  rw [Value.flushed7, out_7]
  exact (cut7 t (tile m c t).actBlock p r n).trans (act_val (holds m c t) p r n)

theorem kernel_7 (p : Fin 4) (q : Fin 4096) (n : Fin 704) :
    ((dats m 0 c).arrAt 7 cfg0.N : FVec Ideal S4x4096x704 .bf16) (ix3 p q n) = (argsOf m c).act (sub p n) q := by
  have h := (dats m 0 c).arrAt_emb_eq_flushed 7 Value.disjoint7 (ptOf q) (flush0_7 _) (ix3 p (rowOf q) n)
  rw [emb7] at h
  refine h.trans ((flushed7_val m c (ptOf q) p (rowOf q) n).trans ?_)
  rw [row_at]

theorem emb8 (g : Fin 2) (p : Fin 4) (q : Fin 4096) (n : Fin 704) :
    ((cfg0.win 8).blk (ptOf q)).view.emb (ix4 g p (rowOf q) n) = ix4 g p q n := by
  obtain ⟨h0, h1, h2, h3⟩ := (win_out (ptOf q)).2.2
  have hq := at_row q
  refine funext fun a => Fin.ext ?_
  refine (win0_8.rect_emb_val (ptOf q) (ix4 g p (rowOf q) n) a).trans ?_
  fin_cases a
  · show win0_8.index (ptOf q) 0 * 2 + g.val = g.val; omega
  · show win0_8.index (ptOf q) 1 * 4 + p.val = p.val; omega
  · show win0_8.index (ptOf q) 2 * 256 + (rowOf q).val = q.val; omega
  · show win0_8.index (ptOf q) 3 * 704 + n.val = n.val; omega

theorem cut8 (t : Fin cfg0.N) (X : Vec Ideal S2x4x256x704 .bf16) (g : Fin 2) (p : Fin 4) (r : Fin 256) (n : Fin 704) :
    (cfg0.win 8).cut (grid0.coords t) X (ix4 g p r n) = X (ix4 g p r n) :=
  congrArg X (funext fun a => Fin.ext rfl)

theorem flushed8_val (t : Fin cfg0.N) (g : Fin 2) (p : Fin 4) (r : Fin 256) (n : Fin 704) :
    ((dats m 0 c).flushed 8 t : Vec Ideal S2x4x256x704 .bf16) (ix4 g p r n) = (argsOf m c).pre (chan g (sub p n)) (row (num t) r) := by
  rw [Value.flushed8, out_8]
  exact (cut8 t (tile m c t).preBlock g p r n).trans (own_val (holds m c t) g p r n)

theorem kernel_8 (g : Fin 2) (p : Fin 4) (q : Fin 4096) (n : Fin 704) :
    ((dats m 0 c).arrAt 8 cfg0.N : FVec Ideal S2x4x4096x704 .bf16) (ix4 g p q n) = (argsOf m c).pre (chan g (sub p n)) q := by
  have h := (dats m 0 c).arrAt_emb_eq_flushed 8 Value.disjoint8 (ptOf q) (flush0_8 _) (ix4 g p (rowOf q) n)
  rw [emb8] at h
  refine h.trans ((flushed8_val m c (ptOf q) g p (rowOf q) n).trans ?_)
  rw [row_at]

end Launch

end Cert.FfnLast

end
-- ==== Proof.lean ====
/-
  The proof of `Cert.Claim`. Each kernel program runs, changes none of its arguments and leaves every semaphore counter at
  zero (the generated frames); its reference, a list of host operations, does the same; and the results of the two are
  equal on the extended reals, index by index (the modules imported by name: one for each program).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.InBwdKernel
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.GIn
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.FfnFwdKernel
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.GUp
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.GDown
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.GOut
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.DCat
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.MixOut
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Proj
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.RmsFwd
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.ConvMixKernel
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.LossHead
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.AdamW
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.AdamWDown
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamWIn
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamWUp
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamWConv
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamWGains
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.FfnLast
public import proofs.«01_k».proof.Proof.Points
public import proofs.«01_k».proof.Proof.RefValue
public import proofs.«01_k».proof.Proof.Finite
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference's run: its arguments are unchanged, and it has no semaphore, so every counter is zero at the end. -/
theorem reference_frame : Cert.quiescent_ReferenceIdeal (hReferenceIdeal := Cert.ReferenceIdeal.Gen.facts) := fun m g _ =>
  (θ_run _ _ _).mono (fun r h => ⟨fun c => (h c).2.2.2.2.2, sem_eq_zero_of_no_sems rfl r.2⟩)
    (Cert.ReferenceIdeal.Value.run m g)

/-! ## The two programs' results are equal -/

theorem value (hfinite : Cert.Pre_finite.Facts) :
    Cert.algebraic_KernelIdeal_ReferenceIdeal_pre_finite (hKernelIdeal := Cert.KernelIdeal.Gen.facts)
      (hReferenceIdeal := Cert.ReferenceIdeal.Gen.facts) (hPre_finite := hfinite) := fun m g m' g' hp hm => by
  have hR : ∀ c : Dev Cert.KernelIdeal.nD, ∃ D : Cert.FfnBwd.Data, Cert.FfnBwd.Reals
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) D :=
    fun c => Cert.FfnBwd.reals_of_finite
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (hp c)
  refine ⟨_, _, _, _, _, Cert.KernelIdeal.Value.run_blocks m g, ?_⟩
  refine (θ_run _ _ _).mono (fun r h c => ?_) (Cert.ReferenceIdeal.Value.run m' g')
  obtain ⟨D, R⟩ := hR c
  obtain ⟨e0, e1, e2, e3, e4, e5⟩ := hm c
  have R' := R
  rw [← e0, ← e1, ← e2, ← e3, ← e4, ← e5] at R'
  obtain ⟨h0, h1, h2, h3, h4, hargs⟩ := h c
  refine ⟨h0.trans ?_, h1.trans ?_, h2.trans ?_, h3.trans ?_, h4.trans ?_, hargs⟩
  · refine (Cert.ReferenceIdeal.Read.val_main_v108_eq _).trans (funext fun i => ?_)
    rw [eq_ix4 i]
    exact (Cert.FfnBwd.ref_res_dPre R' _ _ _ _).trans (Cert.FfnBwd.arr_dPre R _ _ _ _).symm
  · refine (Cert.ReferenceIdeal.Read.val_main_v110_eq _).trans (funext fun i => ?_)
    rw [eq_ix4 i]
    exact (Cert.FfnBwd.ref_res_dTaps R' _ _ _ _).trans (Cert.FfnBwd.arr_dTaps R _ _ _ _).symm
  · refine (Cert.ReferenceIdeal.Read.val_main_v112_eq _).trans (funext fun i => ?_)
    rw [eq_ix2 i]
    exact (Cert.FfnBwd.ref_res_dx R' _ _).trans (Cert.FfnBwd.arr_dx R _ _).symm
  · refine (Cert.ReferenceIdeal.Read.val_main_v115_eq _).trans (funext fun i => ?_)
    rw [eq_ix2 i]
    exact (Cert.FfnBwd.ref_res_dxb R' _ _).trans (Cert.FfnBwd.arr_dxb R _ _).symm
  · refine (Cert.ReferenceIdeal.Read.val_main_v116_eq _).trans (funext fun i => ?_)
    have hz : ∀ z : Fin 1, z = 0 := fun z => Subsingleton.elim z 0
    rw [eq_ix2 i, hz (i 0)]
    exact (Cert.FfnBwd.ref_dGain R' _).trans (Cert.FfnBwd.arr_dGain R _).symm

/-! ## Program 2: the norm's gradient behind the product with the input projection -/

/-- The reference of program 2 changes no argument, and it has no semaphore. -/
theorem reference_frame2 : Cert.quiescent_Reference2Ideal (hReference2Ideal := Cert.Reference2Ideal.Gen.facts) := fun m g _ =>
  (θ_run _ _ _).mono (fun r h => ⟨fun c => (h c).2.2.2, sem_eq_zero_of_no_sems rfl r.2⟩) (Cert.Reference2Ideal.Value.run m g)

theorem value2 : Cert.algebraic_Kernel2Ideal_Reference2Ideal (hKernel2Ideal := Cert.Kernel2Ideal.Gen.facts)
    (hReference2Ideal := Cert.Reference2Ideal.Gen.facts) := fun m g m' g' _ hm => by
  refine ⟨_, _, _, Cert.Kernel2Ideal.Value.run_blocks m g, ?_⟩
  refine (θ_run _ _ _).mono (fun r h c => ?_) (Cert.Reference2Ideal.Value.run m' g')
  obtain ⟨e0, e1, e2, e3, e4⟩ := hm c
  obtain ⟨h0, h1, h2, hargs⟩ := h c
  refine ⟨h0.trans ?_, h1.trans ?_, h2.trans ?_, hargs⟩
  · refine (Cert.Reference2Ideal.Read.val_main_v39_eq _ _).trans (funext fun i => ?_)
    rw [eq_ix2 i]
    refine (Cert.InBwd.ref_res_dx _ _ _ _ _ _ _).trans (Eq.trans ?_ (Cert.InBwd.kernel_5 m c _ _).symm)
    rw [e0, e1, e2, e3, e4]
    rfl
  · refine (Cert.Reference2Ideal.Read.val_main_v42_eq _ _).trans (funext fun i => ?_)
    rw [eq_ix2 i]
    refine (Cert.InBwd.ref_res_dxb _ _ _ _ _ _ _).trans (Eq.trans ?_ (Cert.InBwd.kernel_6 m c _ _).symm)
    rw [e0, e1, e2, e3, e4]
    rfl
  · refine (Cert.Reference2Ideal.Read.val_main_v43_eq _ _ _).trans (funext fun i => ?_)
    have hz : ∀ z : Fin 1, z = 0 := fun z => Subsingleton.elim z 0
    rw [eq_ix2 i, hz (i 0)]
    refine (Cert.InBwd.ref_dGain _ _ _ _).trans (Eq.trans ?_ (Cert.InBwd.kernel_7 m c _).symm)
    rw [e0, e2, e3]

/-! ## Program 3: the gradient of the input projection -/

/-- The reference of program 3 changes no argument, and it has no semaphore. -/
theorem reference_frame3 : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

theorem value3 : Cert.algebraic_Kernel3Ideal_Reference3Ideal (hKernel3Ideal := Cert.Kernel3Ideal.Gen.facts)
    (hReference3Ideal := Cert.Reference3Ideal.Gen.facts) := fun m g m' g' _ hm => by
  refine ⟨_, Cert.Kernel3Ideal.Value.run_blocks m g, ?_⟩
  refine (θ_run _ _ _).mono (fun r h c => ?_) (Cert.Reference3Ideal.Value.run m' g')
  obtain ⟨e0, e1⟩ := hm c
  obtain ⟨h0, hargs⟩ := h c
  refine ⟨h0.trans ?_, hargs⟩
  · refine (Cert.Reference3Ideal.Read.val_main_v4_eq _ _).trans (funext fun i => ?_)
    rw [eq_ix2 i]
    refine (Cert.GIn.reference_val _ _ _ _).trans (Eq.trans ?_ (Cert.GIn.kernel_val m c _ _).symm)
    rw [e0, e1]

/-! ## Program 4: the feed-forward block -/

/-- The reference of program 4 changes no argument, and it has no semaphore. -/
theorem reference_frame4 : Cert.quiescent_Reference4Ideal (hReference4Ideal := Cert.Reference4Ideal.Gen.facts) := fun m g _ =>
  (θ_run _ _ _).mono (fun r h => ⟨fun c => (h c).2.2.2.2, sem_eq_zero_of_no_sems rfl r.2⟩) (Cert.Reference4Ideal.Value.run m g)

/-- The reference's arguments. -/
abbrev args4 (m' : (ℓ : Loc Cert.Reference4Ideal.nD Cert.Reference4Ideal.τ Cert.Reference4Ideal.sig) → Buf (Elt Ideal) ℓ) (c : Dev Cert.Reference4Ideal.nD) : Cert.FfnFwd.Args :=
  ⟨m' (c, Proc.tc.devRef Cert.Reference4Ideal.main_arg0), m' (c, Proc.tc.devRef Cert.Reference4Ideal.main_arg1),
    m' (c, Proc.tc.devRef Cert.Reference4Ideal.main_arg2), m' (c, Proc.tc.devRef Cert.Reference4Ideal.main_arg3),
    m' (c, Proc.tc.devRef Cert.Reference4Ideal.main_arg4), m' (c, Proc.tc.devRef Cert.Reference4Ideal.main_arg5)⟩

theorem value4 : Cert.algebraic_Kernel4Ideal_Reference4Ideal (hKernel4Ideal := Cert.Kernel4Ideal.Gen.facts)
    (hReference4Ideal := Cert.Reference4Ideal.Gen.facts) := fun m g m' g' _ hm => by
  refine ⟨_, _, _, _, Cert.Kernel4Ideal.Value.run_blocks m g, ?_⟩
  refine (θ_run _ _ _).mono (fun r h c => ?_) (Cert.Reference4Ideal.Value.run m' g')
  obtain ⟨e0, e1, e2, e3, e4, e5⟩ := hm c
  obtain ⟨h0, h1, h2, h3, hargs⟩ := h c
  have e : args4 m' c = Cert.FfnFwd.argsOf m c := by
    unfold args4
    rw [e0, e1, e2, e3, e4, e5]
  refine ⟨h0.trans ?_, h1.trans ?_, h2.trans ?_, h3.trans ?_, hargs⟩
  · refine (Cert.Reference4Ideal.Read.val_main_v31_eq m' c).trans (funext fun i => ?_)
    rw [eq_ix2 i]
    refine (Cert.FfnFwd.ref_out (args4 m' c) _ _).trans (Eq.trans ?_ (Cert.FfnFwd.kernel_7 m c _ _).symm)
    rw [e]
  · refine (Cert.Reference4Ideal.Read.val_main_v46_eq m' c).trans (funext fun i => ?_)
    rw [eq_ix2 i]
    refine (Cert.FfnFwd.ref_norm (args4 m' c) _ _).trans (Eq.trans ?_ (Cert.FfnFwd.kernel_8 m c _ _).symm)
    rw [e]
  · refine (Cert.Reference4Ideal.Read.val_main_v49_eq m' c).trans (funext fun i => ?_)
    rw [eq_ix3 i]
    refine (Cert.FfnFwd.ref_act_block (args4 m' c) _ _ _).trans (Eq.trans ?_ (Cert.FfnFwd.kernel_9 m c _ _ _).symm)
    rw [e]
  · refine (Cert.Reference4Ideal.Read.val_main_v52_eq _ _).trans (funext fun i => ?_)
    rw [eq_ix4 i]
    refine (Cert.FfnFwd.ref_pre_block (args4 m' c) _ _ _ _).trans (Eq.trans ?_ (Cert.FfnFwd.kernel_10 m c _ _ _ _).symm)
    rw [e]

/-! ## Program 5: the gradient of the feed-forward layer's upper weights -/

/-- The reference of program 5 changes no argument, and it has no semaphore. -/
theorem reference_frame5 : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

theorem value5 : Cert.algebraic_Kernel5Ideal_Reference5Ideal (hKernel5Ideal := Cert.Kernel5Ideal.Gen.facts)
    (hReference5Ideal := Cert.Reference5Ideal.Gen.facts) := fun m g m' g' _ hm => by
  refine ⟨_, Cert.Kernel5Ideal.Value.run_blocks m g, ?_⟩
  refine (θ_run _ _ _).mono (fun r h c => ?_) (Cert.Reference5Ideal.Value.run m' g')
  obtain ⟨e0, e1⟩ := hm c
  obtain ⟨h0, hargs⟩ := h c
  refine ⟨h0.trans ?_, hargs⟩
  · refine (Cert.Reference5Ideal.Read.val_main_v6_eq _ _).trans (funext fun i => ?_)
    rw [eq_ix3 i]
    refine (Cert.GUp.reference_val _ _ _ _ _).trans (Eq.trans ?_ (Cert.GUp.kernel_val m c _ _ _).symm)
    rw [e0, e1]

/-! ## Program 6: the gradient of the feed-forward layer's lower weights -/

/-- The reference of program 6 changes no argument, and it has no semaphore. -/
theorem reference_frame6 : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

theorem value6 : Cert.algebraic_Kernel6Ideal_Reference6Ideal (hKernel6Ideal := Cert.Kernel6Ideal.Gen.facts)
    (hReference6Ideal := Cert.Reference6Ideal.Gen.facts) := fun m g m' g' _ hm => by
  refine ⟨_, Cert.Kernel6Ideal.Value.run_blocks m g, ?_⟩
  refine (θ_run _ _ _).mono (fun r h c => ?_) (Cert.Reference6Ideal.Value.run m' g')
  obtain ⟨e0, e1⟩ := hm c
  obtain ⟨h0, hargs⟩ := h c
  refine ⟨h0.trans ?_, hargs⟩
  · refine (Cert.Reference6Ideal.Read.val_main_v5_eq _ _).trans (funext fun i => ?_)
    rw [eq_ix3 i]
    refine (Cert.GDown.reference_val _ _ _ _ _).trans (Eq.trans ?_ (Cert.GDown.kernel_val m c _ _ _).symm)
    rw [e0, e1]

/-! ## Program 7: the gradient of the output projection -/

/-- The reference of program 7 changes no argument, and it has no semaphore. -/
theorem reference_frame7 : Cert.quiescent_Reference7Ideal (hReference7Ideal := Cert.Reference7Ideal.Gen.facts) := fun m g _ =>
  (θ_run _ _ _).mono (fun r h => ⟨fun c => (h c).2, sem_eq_zero_of_no_sems rfl r.2⟩) (Cert.Reference7Ideal.Value.run m g)

theorem value7 : Cert.algebraic_Kernel7Ideal_Reference7Ideal (hKernel7Ideal := Cert.Kernel7Ideal.Gen.facts)
    (hReference7Ideal := Cert.Reference7Ideal.Gen.facts) := fun m g m' g' _ hm => by
  refine ⟨_, Cert.Kernel7Ideal.Value.run_blocks m g, ?_⟩
  refine (θ_run _ _ _).mono (fun r h c => ?_) (Cert.Reference7Ideal.Value.run m' g')
  obtain ⟨e0, e1⟩ := hm c
  obtain ⟨h0, hargs⟩ := h c
  refine ⟨h0.trans ?_, hargs⟩
  · refine (Cert.Reference7Ideal.Read.val_main_v4_eq _ _).trans (funext fun i => ?_)
    rw [eq_ix2 i]
    refine (Cert.GOut.reference_val _ _ _ _).trans (Eq.trans ?_ (Cert.GOut.kernel_val m c _ _).symm)
    rw [e0, e1]

/-! ## Program 8: the gradient that the output projection hands back -/

/-- The reference of program 8 changes no argument, and it has no semaphore. -/
theorem reference_frame8 : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run m g)

theorem value8 : Cert.algebraic_Kernel8Ideal_Reference8Ideal (hKernel8Ideal := Cert.Kernel8Ideal.Gen.facts)
    (hReference8Ideal := Cert.Reference8Ideal.Gen.facts) := fun m g m' g' _ hm => by
  refine ⟨_, Cert.Kernel8Ideal.Value.run_blocks m g, ?_⟩
  refine (θ_run _ _ _).mono (fun r h c => ?_) (Cert.Reference8Ideal.Value.run m' g')
  obtain ⟨e0, e1⟩ := hm c
  obtain ⟨h0, hargs⟩ := h c
  refine ⟨h0.trans ?_, hargs⟩
  · refine (Cert.Reference8Ideal.Read.val_main_v4_eq _ _).trans (funext fun i => ?_)
    rw [eq_ix2 i]
    refine (Cert.DCat.reference_val _ _ _ _).trans (Eq.trans ?_ (Cert.DCat.kernel_val m c _ _).symm)
    rw [e0, e1]

/-! ## Program 9: the output projection, the residual and the norm -/

/-- The reference of program 9 changes no argument, and it has no semaphore. -/
theorem reference_frame9 : Cert.quiescent_Reference9Ideal (hReference9Ideal := Cert.Reference9Ideal.Gen.facts) := fun m g _ =>
  (θ_run _ _ _).mono (fun r h => ⟨fun c => (h c).2.2, sem_eq_zero_of_no_sems rfl r.2⟩) (Cert.Reference9Ideal.Value.run m g)

theorem value9 : Cert.algebraic_Kernel9Ideal_Reference9Ideal (hKernel9Ideal := Cert.Kernel9Ideal.Gen.facts)
    (hReference9Ideal := Cert.Reference9Ideal.Gen.facts) := fun m g m' g' _ hm => by
  refine ⟨_, _, Cert.Kernel9Ideal.Value.run_blocks m g, ?_⟩
  refine (θ_run _ _ _).mono (fun r h c => ?_) (Cert.Reference9Ideal.Value.run m' g')
  obtain ⟨e0, e1, e2, e3⟩ := hm c
  obtain ⟨h0, h1, hargs⟩ := h c
  refine ⟨h0.trans ?_, h1.trans ?_, hargs⟩
  · refine (Cert.Reference9Ideal.Read.val_main_v2_eq _ _ _).trans (funext fun i => ?_)
    rw [eq_ix2 i]
    refine (Cert.MixOut.reference_mid _ _ _ _ _).trans (Eq.trans ?_ (Cert.MixOut.kernel_4 m c _ _).symm)
    rw [e0, e1, e2]
  · refine (Cert.Reference9Ideal.Read.val_main_v17_eq _ _ _ _).trans (funext fun i => ?_)
    rw [eq_ix2 i]
    refine (Cert.MixOut.reference_norm _ _ _ _ _ _).trans (Eq.trans ?_ (Cert.MixOut.kernel_5 m c _ _).symm)
    rw [e0, e1, e2, e3]

/-! ## Program 10: the input projection -/

/-- The reference of program 10 changes no argument, and it has no semaphore. -/
theorem reference_frame10 : Cert.quiescent_Reference10Ideal (hReference10Ideal := Cert.Reference10Ideal.Gen.facts) := fun m g _ =>
  (θ_run _ _ _).mono (fun r h => ⟨fun c => (h c).2, sem_eq_zero_of_no_sems rfl r.2⟩) (Cert.Reference10Ideal.Value.run m g)

theorem value10 : Cert.algebraic_Kernel10Ideal_Reference10Ideal (hKernel10Ideal := Cert.Kernel10Ideal.Gen.facts)
    (hReference10Ideal := Cert.Reference10Ideal.Gen.facts) := fun m g m' g' _ hm => by
  refine ⟨_, Cert.Kernel10Ideal.Value.run_blocks m g, ?_⟩
  refine (θ_run _ _ _).mono (fun r h c => ?_) (Cert.Reference10Ideal.Value.run m' g')
  obtain ⟨e0, e1⟩ := hm c
  obtain ⟨h0, hargs⟩ := h c
  refine ⟨h0.trans ?_, hargs⟩
  · refine (Cert.Reference10Ideal.Read.val_main_v1_eq _ _).trans (funext fun i => ?_)
    rw [eq_ix2 i]
    refine (Cert.Proj.reference_val _ _ _ _).trans (Eq.trans ?_ (Cert.Proj.kernel_val m c _ _).symm)
    rw [e0, e1]

/-! ## Program 11: the norm of the rows -/

/-- The reference of program 11 changes no argument, and it has no semaphore. -/
theorem reference_frame11 : Cert.quiescent_Reference11Ideal (hReference11Ideal := Cert.Reference11Ideal.Gen.facts) := fun m g _ =>
  (θ_run _ _ _).mono (fun r h => ⟨fun c => (h c).2, sem_eq_zero_of_no_sems rfl r.2⟩) (Cert.Reference11Ideal.Value.run m g)

theorem value11 : Cert.algebraic_Kernel11Ideal_Reference11Ideal (hKernel11Ideal := Cert.Kernel11Ideal.Gen.facts)
    (hReference11Ideal := Cert.Reference11Ideal.Gen.facts) := fun m g m' g' _ hm => by
  refine ⟨_, Cert.Kernel11Ideal.Value.run_blocks m g, ?_⟩
  refine (θ_run _ _ _).mono (fun r h c => ?_) (Cert.Reference11Ideal.Value.run m' g')
  obtain ⟨e0, e1⟩ := hm c
  obtain ⟨h0, hargs⟩ := h c
  refine ⟨h0.trans ?_, hargs⟩
  · refine (Cert.Reference11Ideal.Read.val_main_v14_eq _ _).trans (funext fun i => ?_)
    rw [eq_ix2 i]
    refine (Cert.RmsFwd.reference_val _ _ _ _).trans (Eq.trans ?_ (Cert.RmsFwd.kernel_val m c _ _).symm)
    rw [e0, e1]

/-! ## Program 12: the gated convolution mixer -/

/-- The reference of program 12 changes no argument, and it has no semaphore. -/
theorem reference_frame12 : Cert.quiescent_Reference12Ideal (hReference12Ideal := Cert.Reference12Ideal.Gen.facts) := fun m g _ =>
  (θ_run _ _ _).mono (fun r h => ⟨fun c => (h c).2, sem_eq_zero_of_no_sems rfl r.2⟩) (Cert.Reference12Ideal.Value.run m g)

theorem value12 (hfinite : Cert.Pre_finite12.Facts) :
    Cert.algebraic_Kernel12Ideal_Reference12Ideal_pre_finite12 (hKernel12Ideal := Cert.Kernel12Ideal.Gen.facts)
      (hReference12Ideal := Cert.Reference12Ideal.Gen.facts) (hPre_finite12 := hfinite) := fun m g m' g' hp hm => by
  have hR : ∀ c : Dev Cert.Kernel12Ideal.nD, Cert.ConvMix.Finite12 m c := fun c => Cert.ConvMix.finite12
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2))
    (m ((c.tc : Thread Cert.Kernel12Ideal.nD Cert.Kernel12Ideal.τ).loc Cert.Kernel12Ideal.main_arg3)) (hp c)
  refine ⟨_, Cert.Kernel12Ideal.Value.run_blocks m g, ?_⟩
  refine (θ_run _ _ _).mono (fun r h c => ?_) (Cert.Reference12Ideal.Value.run m' g')
  obtain ⟨e0, e1, e2, e3⟩ := hm c
  obtain ⟨h0, hargs⟩ := h c
  refine ⟨h0.trans ?_, hargs⟩
  refine (Cert.Reference12Ideal.Read.val_main_v49_eq _ _).trans (funext fun i => ?_)
  rw [eq_ix2 i]
  refine (Cert.ConvMix.ref_out _ _ _ _ _ _).trans (Eq.trans ?_ (Cert.ConvMix.kernel_5 m c (hR c) _ _).symm)
  rw [e0, e1, e2, e3]

/-! ## Program 13: the loss and the gradient at the last norm -/

/-- The reference of program 13 changes no argument, and it has no semaphore. -/
theorem reference_frame13 : Cert.quiescent_Reference13Ideal (hReference13Ideal := Cert.Reference13Ideal.Gen.facts) := fun m g _ =>
  (θ_run _ _ _).mono (fun r h => ⟨fun c => (h c).2.2.2.2, sem_eq_zero_of_no_sems rfl r.2⟩) (Cert.Reference13Ideal.Value.run m g)

theorem value13 : Cert.algebraic_Kernel13Ideal_Reference13Ideal (hKernel13Ideal := Cert.Kernel13Ideal.Gen.facts)
    (hReference13Ideal := Cert.Reference13Ideal.Gen.facts) := fun m g m' g' _ hm => by
  refine ⟨_, _, _, _, Cert.Kernel13Ideal.Value.run_blocks m g, ?_⟩
  refine (θ_run _ _ _).mono (fun r h c => ?_) (Cert.Reference13Ideal.Value.run m' g')
  obtain ⟨e0, e1, e2⟩ := hm c
  obtain ⟨h0, h1, h2, h3, hargs⟩ := h c
  have hz : ∀ z : Fin 1, z = 0 := fun z => Subsingleton.elim z 0
  refine ⟨h0.trans ?_, h1.trans ?_, h2.trans ?_, h3.trans ?_, hargs⟩
  · refine (Cert.Reference13Ideal.Read.val_main_v51_eq _ _ _).trans (funext fun i => ?_)
    rw [eq_ix2 i, hz (i 0)]
    refine (Cert.LossHead.ref_loss _ _ _ _).trans (Eq.trans ?_ (Cert.LossHead.kernel_3 m c _).symm)
    rw [e0, e1, e2] <;> rfl
  · refine (Cert.Reference13Ideal.Read.val_main_v52_eq _ _).trans (funext fun i => ?_)
    rw [eq_ix2 i]
    refine (Cert.LossHead.ref_res_dx _ _ _ _ _).trans (Eq.trans ?_ (Cert.LossHead.kernel_4 m c _ _).symm)
    rw [e0, e1, e2] <;> rfl
  · refine (Cert.Reference13Ideal.Read.val_main_v54_eq _ _).trans (funext fun i => ?_)
    rw [eq_ix2 i]
    refine (Cert.LossHead.ref_res_dxb _ _ _ _ _).trans (Eq.trans ?_ (Cert.LossHead.kernel_5 m c _ _).symm)
    rw [e0, e1, e2] <;> rfl
  · refine (Cert.Reference13Ideal.Read.val_main_v55_eq _ _ _).trans (funext fun i => ?_)
    rw [eq_ix2 i, hz (i 0)]
    refine (Cert.LossHead.ref_dGain _ _ _ _).trans (Eq.trans ?_ (Cert.LossHead.kernel_6 m c _).symm)
    rw [e0, e1, e2] <;> rfl

/-! ## Program 14: AdamW on the output projection's weights -/

/-- The reference of program 14 changes no argument, and it has no semaphore. -/
theorem reference_frame14 : Cert.quiescent_Reference14Ideal (hReference14Ideal := Cert.Reference14Ideal.Gen.facts) := fun m g _ =>
  (θ_run _ _ _).mono (fun r h => ⟨fun c => (h c).2.2.2.2, sem_eq_zero_of_no_sems rfl r.2⟩) (Cert.Reference14Ideal.Value.run m g)

theorem value14 : Cert.algebraic_Kernel14Ideal_Reference14Ideal (hKernel14Ideal := Cert.Kernel14Ideal.Gen.facts)
    (hReference14Ideal := Cert.Reference14Ideal.Gen.facts) := fun m g m' g' _ hm => by
  refine ⟨_, _, _, _, Cert.Kernel14Ideal.Value.run_blocks m g, ?_⟩
  refine (θ_run _ _ _).mono (fun r h c => ?_) (Cert.Reference14Ideal.Value.run m' g')
  obtain ⟨e0, e1, e2, e3, e4⟩ := hm c
  obtain ⟨h0, h1, h2, h3, hargs⟩ := h c
  refine ⟨h0.trans ?_, h1.trans ?_, h2.trans ?_, h3.trans ?_, hargs⟩
  · refine (Cert.Reference14Ideal.Read.val_main_v4_eq _ _).trans (funext fun i => ?_)
    rw [eq_ix3 i]
    refine (Cert.AdamW.ref_g _ _ _ _ _).trans (Eq.trans ?_ (Cert.AdamW.kernel_5 m c _ _ _).symm)
    rw [e0, e1] <;> rfl
  · refine (Cert.Reference14Ideal.Read.val_main_v28_eq _ _ _ _ _).trans (funext fun i => ?_)
    rw [eq_ix3 i]
    refine (Cert.AdamW.ref_d _ _ _ _ _ _ _ _).trans (Eq.trans ?_ (Cert.AdamW.kernel_6 m c _ _ _).symm)
    rw [e0, e1, e2, e3, e4] <;> rfl
  · refine (Cert.Reference14Ideal.Read.val_main_v9_eq _ _ _).trans (funext fun i => ?_)
    rw [eq_ix3 i]
    refine (Cert.AdamW.ref_m _ _ _ _ _ _).trans (Eq.trans ?_ (Cert.AdamW.kernel_7 m c _ _ _).symm)
    rw [e0, e1, e3] <;> rfl
  · refine (Cert.Reference14Ideal.Read.val_main_v15_eq _ _ _).trans (funext fun i => ?_)
    rw [eq_ix3 i]
    refine (Cert.AdamW.ref_v _ _ _ _ _ _).trans (Eq.trans ?_ (Cert.AdamW.kernel_8 m c _ _ _).symm)
    rw [e0, e1, e4] <;> rfl

/-! ## Program 15: AdamW on the feed-forward layer's lower weights -/

/-- The reference of program 15 changes no argument, and it has no semaphore. -/
theorem reference_frame15 : Cert.quiescent_Reference15Ideal (hReference15Ideal := Cert.Reference15Ideal.Gen.facts) := fun m g _ =>
  (θ_run _ _ _).mono (fun r h => ⟨fun c => (h c).2.2.2.2, sem_eq_zero_of_no_sems rfl r.2⟩) (Cert.Reference15Ideal.Value.run m g)

theorem value15 : Cert.algebraic_Kernel15Ideal_Reference15Ideal (hKernel15Ideal := Cert.Kernel15Ideal.Gen.facts)
    (hReference15Ideal := Cert.Reference15Ideal.Gen.facts) := fun m g m' g' _ hm => by
  refine ⟨_, _, _, _, Cert.Kernel15Ideal.Value.run_blocks m g, ?_⟩
  refine (θ_run _ _ _).mono (fun r h c => ?_) (Cert.Reference15Ideal.Value.run m' g')
  obtain ⟨e0, e1, e2, e3, e4⟩ := hm c
  obtain ⟨h0, h1, h2, h3, hargs⟩ := h c
  refine ⟨h0.trans ?_, h1.trans ?_, h2.trans ?_, h3.trans ?_, hargs⟩
  · refine (Cert.Reference15Ideal.Read.val_main_v4_eq _ _).trans (funext fun i => ?_)
    rw [eq_ix3 i]
    refine (Cert.AdamWDown.ref_g _ _ _ _ _).trans (Eq.trans ?_ (Cert.AdamWDown.kernel_5 m c _ _ _).symm)
    rw [e0, e1] <;> rfl
  · refine (Cert.Reference15Ideal.Read.val_main_v28_eq _ _ _ _ _).trans (funext fun i => ?_)
    rw [eq_ix3 i]
    refine (Cert.AdamWDown.ref_d _ _ _ _ _ _ _ _).trans (Eq.trans ?_ (Cert.AdamWDown.kernel_6 m c _ _ _).symm)
    rw [e0, e1, e2, e3, e4] <;> rfl
  · refine (Cert.Reference15Ideal.Read.val_main_v9_eq _ _ _).trans (funext fun i => ?_)
    rw [eq_ix3 i]
    refine (Cert.AdamWDown.ref_m _ _ _ _ _ _).trans (Eq.trans ?_ (Cert.AdamWDown.kernel_7 m c _ _ _).symm)
    rw [e0, e1, e3] <;> rfl
  · refine (Cert.Reference15Ideal.Read.val_main_v15_eq _ _ _).trans (funext fun i => ?_)
    rw [eq_ix3 i]
    refine (Cert.AdamWDown.ref_v _ _ _ _ _ _).trans (Eq.trans ?_ (Cert.AdamWDown.kernel_8 m c _ _ _).symm)
    rw [e0, e1, e4] <;> rfl

/-! ## Program 16: AdamW on the input projection -/

/-- The reference of program 16 changes no argument, and it has no semaphore. -/
theorem reference_frame16 : Cert.quiescent_Reference16Ideal (hReference16Ideal := Cert.Reference16Ideal.Gen.facts) := fun m g _ =>
  (θ_run _ _ _).mono (fun r h => ⟨fun c => (h c).2.2.2.2, sem_eq_zero_of_no_sems rfl r.2⟩) (Cert.Reference16Ideal.Value.run m g)

theorem value16 : Cert.algebraic_Kernel16Ideal_Reference16Ideal (hKernel16Ideal := Cert.Kernel16Ideal.Gen.facts)
    (hReference16Ideal := Cert.Reference16Ideal.Gen.facts) := fun m g m' g' _ hm => by
  refine ⟨_, _, _, _, Cert.Kernel16Ideal.Value.run_blocks m g, ?_⟩
  refine (θ_run _ _ _).mono (fun r h c => ?_) (Cert.Reference16Ideal.Value.run m' g')
  obtain ⟨e0, e1, e2, e3, e4⟩ := hm c
  obtain ⟨h0, h1, h2, h3, hargs⟩ := h c
  refine ⟨h0.trans ?_, h1.trans ?_, h2.trans ?_, h3.trans ?_, hargs⟩
  · refine (Cert.Reference16Ideal.Read.val_main_v4_eq _ _).trans (funext fun i => ?_)
    rw [eq_ix3 i]
    refine (Cert.AdamWIn.ref_g _ _ _ _ _).trans (Eq.trans ?_ (Cert.AdamWIn.kernel_5 m c _ _ _).symm)
    rw [e0, e1] <;> rfl
  · refine (Cert.Reference16Ideal.Read.val_main_v28_eq _ _ _ _ _).trans (funext fun i => ?_)
    rw [eq_ix3 i]
    refine (Cert.AdamWIn.ref_d _ _ _ _ _ _ _ _).trans (Eq.trans ?_ (Cert.AdamWIn.kernel_6 m c _ _ _).symm)
    rw [e0, e1, e2, e3, e4] <;> rfl
  · refine (Cert.Reference16Ideal.Read.val_main_v9_eq _ _ _).trans (funext fun i => ?_)
    rw [eq_ix3 i]
    refine (Cert.AdamWIn.ref_m _ _ _ _ _ _).trans (Eq.trans ?_ (Cert.AdamWIn.kernel_7 m c _ _ _).symm)
    rw [e0, e1, e3] <;> rfl
  · refine (Cert.Reference16Ideal.Read.val_main_v15_eq _ _ _).trans (funext fun i => ?_)
    rw [eq_ix3 i]
    refine (Cert.AdamWIn.ref_v _ _ _ _ _ _).trans (Eq.trans ?_ (Cert.AdamWIn.kernel_8 m c _ _ _).symm)
    rw [e0, e1, e4] <;> rfl

/-! ## Program 17: AdamW on the feed-forward layer's upper weights -/

/-- The reference of program 17 changes no argument, and it has no semaphore. -/
theorem reference_frame17 : Cert.quiescent_Reference17Ideal (hReference17Ideal := Cert.Reference17Ideal.Gen.facts) := fun m g _ =>
  (θ_run _ _ _).mono (fun r h => ⟨fun c => (h c).2.2.2.2, sem_eq_zero_of_no_sems rfl r.2⟩) (Cert.Reference17Ideal.Value.run m g)

theorem value17 : Cert.algebraic_Kernel17Ideal_Reference17Ideal (hKernel17Ideal := Cert.Kernel17Ideal.Gen.facts)
    (hReference17Ideal := Cert.Reference17Ideal.Gen.facts) := fun m g m' g' _ hm => by
  refine ⟨_, _, _, _, Cert.Kernel17Ideal.Value.run_blocks m g, ?_⟩
  refine (θ_run _ _ _).mono (fun r h c => ?_) (Cert.Reference17Ideal.Value.run m' g')
  obtain ⟨e0, e1, e2, e3, e4⟩ := hm c
  obtain ⟨h0, h1, h2, h3, hargs⟩ := h c
  refine ⟨h0.trans ?_, h1.trans ?_, h2.trans ?_, h3.trans ?_, hargs⟩
  · refine (Cert.Reference17Ideal.Read.val_main_v30_eq _ _).trans (funext fun i => ?_)
    rw [eq_ix3 i]
    refine (Cert.AdamWUp.ref_g _ _ _ _ _).trans (Eq.trans ?_ (Cert.AdamWUp.kernel_5 m c _ _ _).symm)
    rw [e0, e1] <;> rfl
  · refine (Cert.Reference17Ideal.Read.val_main_v31_eq _ _ _ _ _).trans (funext fun i => ?_)
    rw [eq_ix3 i]
    refine (Cert.AdamWUp.ref_d _ _ _ _ _ _ _ _).trans (Eq.trans ?_ (Cert.AdamWUp.kernel_6 m c _ _ _).symm)
    rw [e0, e1, e2, e3, e4] <;> rfl
  · refine (Cert.Reference17Ideal.Read.val_main_v32_eq _ _ _).trans (funext fun i => ?_)
    rw [eq_ix3 i]
    refine (Cert.AdamWUp.ref_m _ _ _ _ _ _).trans (Eq.trans ?_ (Cert.AdamWUp.kernel_7 m c _ _ _).symm)
    rw [e0, e1, e3] <;> rfl
  · refine (Cert.Reference17Ideal.Read.val_main_v33_eq _ _ _).trans (funext fun i => ?_)
    rw [eq_ix3 i]
    refine (Cert.AdamWUp.ref_v _ _ _ _ _ _).trans (Eq.trans ?_ (Cert.AdamWUp.kernel_8 m c _ _ _).symm)
    rw [e0, e1, e4] <;> rfl

/-! ## Program 18: AdamW on the convolutions' weights -/

/-- The reference of program 18 changes no argument, and it has no semaphore. -/
theorem reference_frame18 : Cert.quiescent_Reference18Ideal (hReference18Ideal := Cert.Reference18Ideal.Gen.facts) := fun m g _ =>
  (θ_run _ _ _).mono (fun r h => ⟨fun c => (h c).2.2.2.2, sem_eq_zero_of_no_sems rfl r.2⟩) (Cert.Reference18Ideal.Value.run m g)

theorem value18 : Cert.algebraic_Kernel18Ideal_Reference18Ideal (hKernel18Ideal := Cert.Kernel18Ideal.Gen.facts)
    (hReference18Ideal := Cert.Reference18Ideal.Gen.facts) := fun m g m' g' _ hm => by
  refine ⟨_, _, _, _, Cert.Kernel18Ideal.Value.run_blocks m g, ?_⟩
  refine (θ_run _ _ _).mono (fun r h c => ?_) (Cert.Reference18Ideal.Value.run m' g')
  obtain ⟨e0, e1, e2, e3, e4, e5, e6, e7⟩ := hm c
  obtain ⟨h0, h1, h2, h3, hargs⟩ := h c
  refine ⟨h0.trans ?_, h1.trans ?_, h2.trans ?_, h3.trans ?_, hargs⟩
  · refine (Cert.Reference18Ideal.Read.val_main_v4_eq _ _).trans (funext fun i => ?_)
    rw [eq_ix3 i]
    refine (Cert.AdamWConv.ref_g _ _ _ _ _).trans (Eq.trans ?_ (Cert.AdamWConv.kernel_5 m c _ _ _).symm)
    rw [e0, e1] <;> rfl
  · refine (Cert.Reference18Ideal.Read.val_main_v55_eq _ _).trans (funext fun i => ?_)
    rw [eq_ix3 i]
    refine (Cert.AdamWConv.ref_d _ _ _ _ _ _ _ _ _ _ _).trans (Eq.trans ?_ (Cert.AdamWConv.kernel_6 m c _ _ _).symm)
    rw [e0, e1, e2, e3, e4, e5, e6, e7] <;> rfl
  · refine (Cert.Reference18Ideal.Read.val_main_v56_eq _ _ _ _).trans (funext fun i => ?_)
    rw [eq_ix3 i]
    refine (Cert.AdamWConv.ref_m _ _ _ _ _ _ _).trans (Eq.trans ?_ (Cert.AdamWConv.kernel_7 m c _ _ _).symm)
    rw [e0, e1, e4, e5] <;> rfl
  · refine (Cert.Reference18Ideal.Read.val_main_v57_eq _ _ _ _).trans (funext fun i => ?_)
    rw [eq_ix3 i]
    refine (Cert.AdamWConv.ref_v _ _ _ _ _ _ _).trans (Eq.trans ?_ (Cert.AdamWConv.kernel_8 m c _ _ _).symm)
    rw [e0, e1, e6, e7] <;> rfl

/-! ## Program 19: AdamW on the gains -/

/-- The reference of program 19 changes no argument, and it has no semaphore. -/
theorem reference_frame19 : Cert.quiescent_Reference19Ideal (hReference19Ideal := Cert.Reference19Ideal.Gen.facts) := fun m g _ =>
  (θ_run _ _ _).mono (fun r h => ⟨fun c => (h c).2.2.2.2, sem_eq_zero_of_no_sems rfl r.2⟩) (Cert.Reference19Ideal.Value.run m g)

theorem value19 : Cert.algebraic_Kernel19Ideal_Reference19Ideal (hKernel19Ideal := Cert.Kernel19Ideal.Gen.facts)
    (hReference19Ideal := Cert.Reference19Ideal.Gen.facts) := fun m g m' g' _ hm => by
  refine ⟨_, _, _, _, Cert.Kernel19Ideal.Value.run_blocks m g, ?_⟩
  refine (θ_run _ _ _).mono (fun r h c => ?_) (Cert.Reference19Ideal.Value.run m' g')
  obtain ⟨e0, e1, e2, e3, e4, e5, e6, e7, e8, e9, e10, e11, e12, e13, e14, e15⟩ := hm c
  obtain ⟨h0, h1, h2, h3, hargs⟩ := h c
  refine ⟨h0.trans ?_, h1.trans ?_, h2.trans ?_, h3.trans ?_, hargs⟩
  · refine (Cert.Reference19Ideal.Read.val_main_v155_eq _).trans (funext fun i => ?_)
    obtain ⟨q, d, rfl⟩ := Cert.AdamWGains.at_ix i
    refine (Cert.AdamWGains.ref_g (m' (c, Proc.tc.devRef Cert.Reference19Ideal.main_arg0)) q d).trans (Eq.trans ?_ (Cert.AdamWGains.kernel_4 m c q d).symm)
    rw [e0] <;> rfl
  · refine (Cert.Reference19Ideal.Read.val_main_v158_eq _).trans (funext fun i => ?_)
    obtain ⟨q, d, rfl⟩ := Cert.AdamWGains.at_ix i
    refine (Cert.AdamWGains.ref_d (m' (c, Proc.tc.devRef Cert.Reference19Ideal.main_arg0)) (m' (c, Proc.tc.devRef Cert.Reference19Ideal.main_arg1)) (m' (c, Proc.tc.devRef Cert.Reference19Ideal.main_arg4)) (m' (c, Proc.tc.devRef Cert.Reference19Ideal.main_arg6)) (m' (c, Proc.tc.devRef Cert.Reference19Ideal.main_arg9)) (m' (c, Proc.tc.devRef Cert.Reference19Ideal.main_arg11)) (m' (c, Proc.tc.devRef Cert.Reference19Ideal.main_arg14)) (m' (c, Proc.tc.devRef Cert.Reference19Ideal.main_arg2)) (m' (c, Proc.tc.devRef Cert.Reference19Ideal.main_arg3)) (m' (c, Proc.tc.devRef Cert.Reference19Ideal.main_arg7)) (m' (c, Proc.tc.devRef Cert.Reference19Ideal.main_arg8)) (m' (c, Proc.tc.devRef Cert.Reference19Ideal.main_arg12)) (m' (c, Proc.tc.devRef Cert.Reference19Ideal.main_arg13)) (m' (c, Proc.tc.devRef Cert.Reference19Ideal.main_arg5)) (m' (c, Proc.tc.devRef Cert.Reference19Ideal.main_arg10)) (m' (c, Proc.tc.devRef Cert.Reference19Ideal.main_arg15)) q d).trans (Eq.trans ?_ (Cert.AdamWGains.kernel_5 m c q d).symm)
    rw [e0, e1, e2, e3, e4, e5, e6, e7, e8, e9, e10, e11, e12, e13, e14, e15] <;> rfl
  · refine (Cert.Reference19Ideal.Read.val_main_v161_eq _).trans (funext fun i => ?_)
    obtain ⟨q, d, rfl⟩ := Cert.AdamWGains.at_ix i
    refine (Cert.AdamWGains.ref_m (m' (c, Proc.tc.devRef Cert.Reference19Ideal.main_arg0)) (m' (c, Proc.tc.devRef Cert.Reference19Ideal.main_arg6)) (m' (c, Proc.tc.devRef Cert.Reference19Ideal.main_arg9)) (m' (c, Proc.tc.devRef Cert.Reference19Ideal.main_arg7)) (m' (c, Proc.tc.devRef Cert.Reference19Ideal.main_arg8)) (m' (c, Proc.tc.devRef Cert.Reference19Ideal.main_arg10)) q d).trans (Eq.trans ?_ (Cert.AdamWGains.kernel_6 m c q d).symm)
    rw [e0, e6, e7, e8, e9, e10] <;> rfl
  · refine (Cert.Reference19Ideal.Read.val_main_v164_eq _).trans (funext fun i => ?_)
    obtain ⟨q, d, rfl⟩ := Cert.AdamWGains.at_ix i
    refine (Cert.AdamWGains.ref_v (m' (c, Proc.tc.devRef Cert.Reference19Ideal.main_arg0)) (m' (c, Proc.tc.devRef Cert.Reference19Ideal.main_arg11)) (m' (c, Proc.tc.devRef Cert.Reference19Ideal.main_arg14)) (m' (c, Proc.tc.devRef Cert.Reference19Ideal.main_arg12)) (m' (c, Proc.tc.devRef Cert.Reference19Ideal.main_arg13)) (m' (c, Proc.tc.devRef Cert.Reference19Ideal.main_arg15)) q d).trans (Eq.trans ?_ (Cert.AdamWGains.kernel_7 m c q d).symm)
    rw [e0, e11, e12, e13, e14, e15] <;> rfl

/-! ## Program 20: the last layer's feed-forward block -/

/-- The reference of program 20 changes no argument, and it has no semaphore. -/
theorem reference_frame20 : Cert.quiescent_Reference20Ideal (hReference20Ideal := Cert.Reference20Ideal.Gen.facts) := fun m g _ =>
  (θ_run _ _ _).mono (fun r h => ⟨fun c => (h c).2.2.2, sem_eq_zero_of_no_sems rfl r.2⟩) (Cert.Reference20Ideal.Value.run m g)

/-- The reference's arguments. -/
abbrev args20 (m' : (ℓ : Loc Cert.Reference20Ideal.nD Cert.Reference20Ideal.τ Cert.Reference20Ideal.sig) → Buf (Elt Ideal) ℓ)
    (c : Dev Cert.Reference20Ideal.nD) : Cert.FfnFwd.Args :=
  ⟨m' (c, Proc.tc.devRef Cert.Reference20Ideal.main_arg0), m' (c, Proc.tc.devRef Cert.Reference20Ideal.main_arg1),
    m' (c, Proc.tc.devRef Cert.Reference20Ideal.main_arg2), m' (c, Proc.tc.devRef Cert.Reference20Ideal.main_arg3),
    m' (c, Proc.tc.devRef Cert.Reference20Ideal.main_arg4), fun _ => 0⟩

theorem value20 : Cert.algebraic_Kernel20Ideal_Reference20Ideal (hKernel20Ideal := Cert.Kernel20Ideal.Gen.facts)
    (hReference20Ideal := Cert.Reference20Ideal.Gen.facts) := fun m g m' g' _ hm => by
  refine ⟨_, _, _, Cert.Kernel20Ideal.Value.run_blocks m g, ?_⟩
  refine (θ_run _ _ _).mono (fun r h c => ?_) (Cert.Reference20Ideal.Value.run m' g')
  obtain ⟨e0, e1, e2, e3, e4⟩ := hm c
  obtain ⟨h0, h1, h2, hargs⟩ := h c
  have e : args20 m' c = Cert.FfnLast.argsOf m c := by
    unfold args20
    rw [e0, e1, e2, e3, e4]
  refine ⟨h0.trans ?_, h1.trans ?_, h2.trans ?_, hargs⟩
  · refine (Cert.Reference20Ideal.Read.val_main_v31_eq m' c).trans (funext fun i => ?_)
    rw [eq_ix2 i]
    refine (Cert.FfnLast.ref_out (args20 m' c) _ _).trans (Eq.trans ?_ (Cert.FfnLast.kernel_6 m c _ _).symm)
    rw [e]
  · refine (Cert.Reference20Ideal.Read.val_main_v34_eq m' c).trans (funext fun i => ?_)
    rw [eq_ix3 i]
    refine (Cert.FfnLast.ref_act_block (args20 m' c) _ _ _).trans (Eq.trans ?_ (Cert.FfnLast.kernel_7 m c _ _ _).symm)
    rw [e]
  · refine (Cert.Reference20Ideal.Read.val_main_v37_eq _ _).trans (funext fun i => ?_)
    rw [eq_ix4 i]
    refine (Cert.FfnLast.ref_pre_block (args20 m' c) _ _ _ _).trans (Eq.trans ?_ (Cert.FfnLast.kernel_8 m c _ _ _ _).symm)
    rw [e]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.FfnBwd.preFacts, Cert.ConvMix.preFacts12,
    fun m ρ _ => Cert.Kernel.Gen.frame m ρ, fun m ρ _ => Cert.KernelIdeal.Gen.frame m ρ, fun m ρ _ => Cert.KernelIdeal.Gen.frame m ρ, reference_frame, fun m g _ => reference_frame m g trivial,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ, reference_frame6,
    fun m ρ _ => Cert.Kernel7.Gen.frame m ρ, fun m ρ _ => Cert.Kernel7Ideal.Gen.frame m ρ, reference_frame7,
    fun m ρ _ => Cert.Kernel8.Gen.frame m ρ, fun m ρ _ => Cert.Kernel8Ideal.Gen.frame m ρ, reference_frame8,
    fun m ρ _ => Cert.Kernel9.Gen.frame m ρ, fun m ρ _ => Cert.Kernel9Ideal.Gen.frame m ρ, reference_frame9,
    fun m ρ _ => Cert.Kernel10.Gen.frame m ρ, fun m ρ _ => Cert.Kernel10Ideal.Gen.frame m ρ, reference_frame10,
    fun m ρ _ => Cert.Kernel11.Gen.frame m ρ, fun m ρ _ => Cert.Kernel11Ideal.Gen.frame m ρ, reference_frame11,
    fun m ρ _ => Cert.Kernel12.Gen.frame m ρ, fun m ρ _ => Cert.Kernel12Ideal.Gen.frame m ρ, fun m ρ _ => Cert.Kernel12Ideal.Gen.frame m ρ, reference_frame12, fun m g _ => reference_frame12 m g trivial,
    fun m ρ _ => Cert.Kernel13.Gen.frame m ρ, fun m ρ _ => Cert.Kernel13Ideal.Gen.frame m ρ, reference_frame13,
    fun m ρ _ => Cert.Kernel14.Gen.frame m ρ, fun m ρ _ => Cert.Kernel14Ideal.Gen.frame m ρ, reference_frame14,
    fun m ρ _ => Cert.Kernel15.Gen.frame m ρ, fun m ρ _ => Cert.Kernel15Ideal.Gen.frame m ρ, reference_frame15,
    fun m ρ _ => Cert.Kernel16.Gen.frame m ρ, fun m ρ _ => Cert.Kernel16Ideal.Gen.frame m ρ, reference_frame16,
    fun m ρ _ => Cert.Kernel17.Gen.frame m ρ, fun m ρ _ => Cert.Kernel17Ideal.Gen.frame m ρ, reference_frame17,
    fun m ρ _ => Cert.Kernel18.Gen.frame m ρ, fun m ρ _ => Cert.Kernel18Ideal.Gen.frame m ρ, reference_frame18,
    fun m ρ _ => Cert.Kernel19.Gen.frame m ρ, fun m ρ _ => Cert.Kernel19Ideal.Gen.frame m ρ, reference_frame19,
    fun m ρ _ => Cert.Kernel20.Gen.frame m ρ, fun m ρ _ => Cert.Kernel20Ideal.Gen.frame m ρ, reference_frame20,
    trivial, value Cert.FfnBwd.preFacts, trivial, value2, trivial, value3, trivial, value4, trivial, value5, trivial, value6, trivial, value7, trivial, value8, trivial, value9, trivial, value10, trivial, value11, trivial, value12 Cert.ConvMix.preFacts12, trivial, value13, trivial, value14, trivial, value15, trivial, value16, trivial, value17, trivial, value18, trivial, value19, trivial, value20⟩

end Cert.Proof

end
